-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_flash_finite [hPre_flash_finite : Cert.Pre_flash_finite.Facts] (m : (ℓ : Loc Cert.FlashIdeal.nD Cert.FlashIdeal.τ Cert.FlashIdeal.sig) → Buf (Elt Ideal) ℓ) : Prop :=
  ∀ c : Dev Cert.FlashIdeal.nD,
    (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_flash_finite [hPre_flash_finite : Cert.Pre_flash_finite.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inproj_finite [hPre_inproj_finite : Cert.Pre_inproj_finite.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_finite [hPre_inproj_finite : Cert.Pre_inproj_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_finite [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_flash_finite [hFlashIdeal : Cert.FlashIdeal.Facts] [hPre_flash_finite : Cert.Pre_flash_finite.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_flash_finite m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_flash_finite [hFlashRefIdeal : Cert.FlashRefIdeal.Facts] [hPre_flash_finite : Cert.Pre_flash_finite.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_flash_finite m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_inproj_finite [hInprojIdeal : Cert.InprojIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inproj_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojRefIdeal_pre_inproj_finite [hInprojRefIdeal : Cert.InprojRefIdeal.Facts] [hPre_inproj_finite : Cert.Pre_inproj_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def quiescent_PrepIdeal_pre_prep_finite [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6)
      ∧ r.2.mem ((c.tc : Thread Cert.FrontRefIdeal.nD Cert.FrontRefIdeal.τ).loc Cert.FrontRefIdeal.main_arg7) = m ((c.tc : Thread Cert.FrontRefIdeal.nD Cert.FrontRefIdeal.τ).loc Cert.FrontRefIdeal.main_arg7))
      ∧ r.2.sem = fun _ => 0)

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v52) = v1 c
          ∧ r.2.mem ((c.tc : Thread Cert.LossRefIdeal.nD Cert.LossRefIdeal.τ).loc Cert.LossRefIdeal.main_v53) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Flash_FlashIdeal : Prop :=
  IdealRules.named_const.Statement Cert.FlashIdeal.κ "ln2" .f32 0x3F317218#32 ((Real.log 2 : ℝ) : EReal)

def algebraic_FlashIdeal_FlashRefIdeal_pre_flash_finite [hFlashIdeal : Cert.FlashIdeal.Facts] [hFlashRefIdeal : Cert.FlashRefIdeal.Facts] [hPre_flash_finite : Cert.Pre_flash_finite.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_flash_finite m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v56_0)) (v1 : (c : Dev Cert.FlashIdeal.nD) → Buf (Elt Ideal) ((c.tc : Thread Cert.FlashIdeal.nD Cert.FlashIdeal.τ).loc Cert.FlashIdeal.main_v56_1)) (v2 : (c : Dev Cert.FlashIdeal.nD) → Buf (Elt Ideal) ((c.tc : Thread Cert.FlashIdeal.nD Cert.FlashIdeal.τ).loc Cert.FlashIdeal.main_v56_2)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v56_0) = v0 c
          ∧ r.2.mem ((c.tc : Thread Cert.FlashIdeal.nD Cert.FlashIdeal.τ).loc Cert.FlashIdeal.main_v56_1) = v1 c
          ∧ r.2.mem ((c.tc : Thread Cert.FlashIdeal.nD Cert.FlashIdeal.τ).loc Cert.FlashIdeal.main_v56_2) = v2 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v64) = v0 c
          ∧ r.2.mem ((c.tc : Thread Cert.FlashRefIdeal.nD Cert.FlashRefIdeal.τ).loc Cert.FlashRefIdeal.main_v67) = v1 c
          ∧ r.2.mem ((c.tc : Thread Cert.FlashRefIdeal.nD Cert.FlashRefIdeal.τ).loc Cert.FlashRefIdeal.main_v69) = v2 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_Gate_GateIdeal : Prop :=
  IdealRules.named_const.Statement Cert.GateIdeal.κ "gelu" .f32 0x3D372713#32 ((8943 / 200000 : ℝ) : EReal)
  ∧ IdealRules.named_const.Statement Cert.GateIdeal.κ "gelu3" .f32 0x3E095D4F#32 ((26829 / 200000 : ℝ) : EReal)

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v1_0)) (v1 : (c : Dev Cert.GateIdeal.nD) → Buf (Elt Ideal) ((c.tc : Thread Cert.GateIdeal.nD Cert.GateIdeal.τ).loc Cert.GateIdeal.main_v3_0)) (v2 : (c : Dev Cert.GateIdeal.nD) → Buf (Elt Ideal) ((c.tc : Thread Cert.GateIdeal.nD Cert.GateIdeal.τ).loc Cert.GateIdeal.main_v3_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0 c
          ∧ r.2.mem ((c.tc : Thread Cert.GateIdeal.nD Cert.GateIdeal.τ).loc Cert.GateIdeal.main_v3_0) = v1 c
          ∧ r.2.mem ((c.tc : Thread Cert.GateIdeal.nD Cert.GateIdeal.τ).loc Cert.GateIdeal.main_v3_1) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v36) = v0 c
          ∧ r.2.mem ((c.tc : Thread Cert.GateRefIdeal.nD Cert.GateRefIdeal.τ).loc Cert.GateRefIdeal.main_v57) = v1 c
          ∧ r.2.mem ((c.tc : Thread Cert.GateRefIdeal.nD Cert.GateRefIdeal.τ).loc Cert.GateRefIdeal.main_v42) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v2)) (v1 : (c : Dev Cert.ProjIdeal.nD) → Buf (Elt Ideal) ((c.tc : Thread Cert.ProjIdeal.nD Cert.ProjIdeal.τ).loc Cert.ProjIdeal.main_v4_0)) (v2 : (c : Dev Cert.ProjIdeal.nD) → Buf (Elt Ideal) ((c.tc : Thread Cert.ProjIdeal.nD Cert.ProjIdeal.τ).loc Cert.ProjIdeal.main_v4_1)) (v3 : (c : Dev Cert.ProjIdeal.nD) → Buf (Elt Ideal) ((c.tc : Thread Cert.ProjIdeal.nD Cert.ProjIdeal.τ).loc Cert.ProjIdeal.main_v4_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_v4_0) = v1 c
          ∧ r.2.mem ((c.tc : Thread Cert.ProjIdeal.nD Cert.ProjIdeal.τ).loc Cert.ProjIdeal.main_v4_1) = v2 c
          ∧ r.2.mem ((c.tc : Thread Cert.ProjIdeal.nD Cert.ProjIdeal.τ).loc Cert.ProjIdeal.main_v4_2) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_v9) = v1 c
          ∧ r.2.mem ((c.tc : Thread Cert.ProjRefIdeal.nD Cert.ProjRefIdeal.τ).loc Cert.ProjRefIdeal.main_v11) = v2 c
          ∧ r.2.mem ((c.tc : Thread Cert.ProjRefIdeal.nD Cert.ProjRefIdeal.τ).loc Cert.ProjRefIdeal.main_v3) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Attn_AttnIdeal : Prop :=
  IdealRules.named_const.Statement Cert.AttnIdeal.κ "log2e" .f32 0x3FB8AA3B#32 (((Real.log 2)⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v14_0)) (v1 : (c : Dev Cert.AttnIdeal.nD) → Buf (Elt Ideal) ((c.tc : Thread Cert.AttnIdeal.nD Cert.AttnIdeal.τ).loc Cert.AttnIdeal.main_v14_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v14_0) = v0 c
          ∧ r.2.mem ((c.tc : Thread Cert.AttnIdeal.nD Cert.AttnIdeal.τ).loc Cert.AttnIdeal.main_v14_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v47) = v0 c
          ∧ r.2.mem ((c.tc : Thread Cert.AttnRefIdeal.nD Cert.AttnRefIdeal.τ).loc Cert.AttnRefIdeal.main_v56) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Inproj_InprojIdeal : Prop :=
  True

def algebraic_InprojIdeal_InprojRefIdeal_pre_inproj_finite [hInprojIdeal : Cert.InprojIdeal.Facts] [hInprojRefIdeal : Cert.InprojRefIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_inproj_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v2)) (v1 : (c : Dev Cert.InprojIdeal.nD) → Buf (Elt Ideal) ((c.tc : Thread Cert.InprojIdeal.nD Cert.InprojIdeal.τ).loc Cert.InprojIdeal.main_v4_0)) (v2 : (c : Dev Cert.InprojIdeal.nD) → Buf (Elt Ideal) ((c.tc : Thread Cert.InprojIdeal.nD Cert.InprojIdeal.τ).loc Cert.InprojIdeal.main_v4_1)) (v3 : (c : Dev Cert.InprojIdeal.nD) → Buf (Elt Ideal) ((c.tc : Thread Cert.InprojIdeal.nD Cert.InprojIdeal.τ).loc Cert.InprojIdeal.main_v4_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2) = v0 c
          ∧ r.2.mem ((c.tc : Thread Cert.InprojIdeal.nD Cert.InprojIdeal.τ).loc Cert.InprojIdeal.main_v4_0) = v1 c
          ∧ r.2.mem ((c.tc : Thread Cert.InprojIdeal.nD Cert.InprojIdeal.τ).loc Cert.InprojIdeal.main_v4_1) = v2 c
          ∧ r.2.mem ((c.tc : Thread Cert.InprojIdeal.nD Cert.InprojIdeal.τ).loc Cert.InprojIdeal.main_v4_2) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v16) = v0 c
          ∧ r.2.mem ((c.tc : Thread Cert.InprojRefIdeal.nD Cert.InprojRefIdeal.τ).loc Cert.InprojRefIdeal.main_v40) = v1 c
          ∧ r.2.mem ((c.tc : Thread Cert.InprojRefIdeal.nD Cert.InprojRefIdeal.τ).loc Cert.InprojRefIdeal.main_v18) = v2 c
          ∧ r.2.mem ((c.tc : Thread Cert.InprojRefIdeal.nD Cert.InprojRefIdeal.τ).loc Cert.InprojRefIdeal.main_v41) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Prep_PrepIdeal : Prop :=
  True

def algebraic_PrepIdeal_PrepRefIdeal_pre_prep_finite [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)) →
    ∃ (v0 : (c : Dev Cert.PrepIdeal.nD) → Buf (Elt Ideal) ((c.tc : Thread Cert.PrepIdeal.nD Cert.PrepIdeal.τ).loc Cert.PrepIdeal.main_v89)) (v1 : (c : Dev Cert.PrepIdeal.nD) → Buf (Elt Ideal) ((c.tc : Thread Cert.PrepIdeal.nD Cert.PrepIdeal.τ).loc Cert.PrepIdeal.main_v90)) (v2 : (c : Dev Cert.PrepIdeal.nD) → Buf (Elt Ideal) ((c.tc : Thread Cert.PrepIdeal.nD Cert.PrepIdeal.τ).loc Cert.PrepIdeal.main_v92)) (v3 : (c : Dev Cert.PrepIdeal.nD) → Buf (Elt Ideal) ((c.tc : Thread Cert.PrepIdeal.nD Cert.PrepIdeal.τ).loc Cert.PrepIdeal.main_v106)) (v4 : (c : Dev Cert.PrepIdeal.nD) → Buf (Elt Ideal) ((c.tc : Thread Cert.PrepIdeal.nD Cert.PrepIdeal.τ).loc Cert.PrepIdeal.main_v120)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v89) = v0 c
          ∧ r.2.mem ((c.tc : Thread Cert.PrepIdeal.nD Cert.PrepIdeal.τ).loc Cert.PrepIdeal.main_v90) = v1 c
          ∧ r.2.mem ((c.tc : Thread Cert.PrepIdeal.nD Cert.PrepIdeal.τ).loc Cert.PrepIdeal.main_v92) = v2 c
          ∧ r.2.mem ((c.tc : Thread Cert.PrepIdeal.nD Cert.PrepIdeal.τ).loc Cert.PrepIdeal.main_v106) = v3 c
          ∧ r.2.mem ((c.tc : Thread Cert.PrepIdeal.nD Cert.PrepIdeal.τ).loc Cert.PrepIdeal.main_v120) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v145) = v0 c
          ∧ r.2.mem ((c.tc : Thread Cert.PrepRefIdeal.nD Cert.PrepRefIdeal.τ).loc Cert.PrepRefIdeal.main_v137) = v1 c
          ∧ r.2.mem ((c.tc : Thread Cert.PrepRefIdeal.nD Cert.PrepRefIdeal.τ).loc Cert.PrepRefIdeal.main_v147) = v2 c
          ∧ r.2.mem ((c.tc : Thread Cert.PrepRefIdeal.nD Cert.PrepRefIdeal.τ).loc Cert.PrepRefIdeal.main_v79) = v3 c
          ∧ r.2.mem ((c.tc : Thread Cert.PrepRefIdeal.nD Cert.PrepRefIdeal.τ).loc Cert.PrepRefIdeal.main_v71) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v7_0)) (v2 : (c : Dev Cert.FfnIdeal.nD) → Buf (Elt Ideal) ((c.tc : Thread Cert.FfnIdeal.nD Cert.FfnIdeal.τ).loc Cert.FfnIdeal.main_v7_1)) (v3 : (c : Dev Cert.FfnIdeal.nD) → Buf (Elt Ideal) ((c.tc : Thread Cert.FfnIdeal.nD Cert.FfnIdeal.τ).loc Cert.FfnIdeal.main_v7_2)) (v4 : (c : Dev Cert.FfnIdeal.nD) → Buf (Elt Ideal) ((c.tc : Thread Cert.FfnIdeal.nD Cert.FfnIdeal.τ).loc Cert.FfnIdeal.main_v10)) (v5 : (c : Dev Cert.FfnIdeal.nD) → Buf (Elt Ideal) ((c.tc : Thread Cert.FfnIdeal.nD Cert.FfnIdeal.τ).loc Cert.FfnIdeal.main_v12)) (v6 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v7_0) = v1 c
          ∧ r.2.mem ((c.tc : Thread Cert.FfnIdeal.nD Cert.FfnIdeal.τ).loc Cert.FfnIdeal.main_v7_1) = v2 c
          ∧ r.2.mem ((c.tc : Thread Cert.FfnIdeal.nD Cert.FfnIdeal.τ).loc Cert.FfnIdeal.main_v7_2) = v3 c
          ∧ r.2.mem ((c.tc : Thread Cert.FfnIdeal.nD Cert.FfnIdeal.τ).loc Cert.FfnIdeal.main_v10) = v4 c
          ∧ r.2.mem ((c.tc : Thread Cert.FfnIdeal.nD Cert.FfnIdeal.τ).loc Cert.FfnIdeal.main_v12) = v5 c
          ∧ r.2.mem ((c.tc : Thread Cert.FfnIdeal.nD Cert.FfnIdeal.τ).loc Cert.FfnIdeal.main_v13) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v110) = v0 c
          ∧ r.2.mem ((c.tc : Thread Cert.FfnRefIdeal.nD Cert.FfnRefIdeal.τ).loc Cert.FfnRefIdeal.main_v111) = v1 c
          ∧ r.2.mem ((c.tc : Thread Cert.FfnRefIdeal.nD Cert.FfnRefIdeal.τ).loc Cert.FfnRefIdeal.main_v113) = v2 c
          ∧ r.2.mem ((c.tc : Thread Cert.FfnRefIdeal.nD Cert.FfnRefIdeal.τ).loc Cert.FfnRefIdeal.main_v115) = v3 c
          ∧ r.2.mem ((c.tc : Thread Cert.FfnRefIdeal.nD Cert.FfnRefIdeal.τ).loc Cert.FfnRefIdeal.main_v86) = v4 c
          ∧ r.2.mem ((c.tc : Thread Cert.FfnRefIdeal.nD Cert.FfnRefIdeal.τ).loc Cert.FfnRefIdeal.main_v55) = v5 c
          ∧ r.2.mem ((c.tc : Thread Cert.FfnRefIdeal.nD Cert.FfnRefIdeal.τ).loc Cert.FfnRefIdeal.main_v95) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Front_FrontIdeal : Prop :=
  IdealRules.named_const.Statement Cert.FrontIdeal.κ "prescale" .f32 0x3DD53B95#32 (((Real.sqrt 192)⁻¹ * (Real.log 2)⁻¹ : ℝ) : EReal)

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
      ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)
      ∧ m' ((c.tc : Thread Cert.FrontRefIdeal.nD Cert.FrontRefIdeal.τ).loc Cert.FrontRefIdeal.main_arg7) = m ((c.tc : Thread Cert.FrontIdeal.nD Cert.FrontIdeal.τ).loc Cert.FrontIdeal.main_arg7)) →
    ∃ (v0 : (c : Dev Cert.FrontIdeal.nD) → Buf (Elt Ideal) ((c.tc : Thread Cert.FrontIdeal.nD Cert.FrontIdeal.τ).loc Cert.FrontIdeal.main_v26_0)) (v1 : (c : Dev Cert.FrontIdeal.nD) → Buf (Elt Ideal) ((c.tc : Thread Cert.FrontIdeal.nD Cert.FrontIdeal.τ).loc Cert.FrontIdeal.main_v26_1)) (v2 : (c : Dev Cert.FrontIdeal.nD) → Buf (Elt Ideal) ((c.tc : Thread Cert.FrontIdeal.nD Cert.FrontIdeal.τ).loc Cert.FrontIdeal.main_v26_2)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v26_0) = v0 c
          ∧ r.2.mem ((c.tc : Thread Cert.FrontIdeal.nD Cert.FrontIdeal.τ).loc Cert.FrontIdeal.main_v26_1) = v1 c
          ∧ r.2.mem ((c.tc : Thread Cert.FrontIdeal.nD Cert.FrontIdeal.τ).loc Cert.FrontIdeal.main_v26_2) = v2 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v107) = v0 c
          ∧ r.2.mem ((c.tc : Thread Cert.FrontRefIdeal.nD Cert.FrontRefIdeal.τ).loc Cert.FrontRefIdeal.main_v110) = v1 c
          ∧ r.2.mem ((c.tc : Thread Cert.FrontRefIdeal.nD Cert.FrontRefIdeal.τ).loc Cert.FrontRefIdeal.main_v113) = v2 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5)
          ∧ r.2.mem ((c.tc : Thread Cert.FrontRefIdeal.nD Cert.FrontRefIdeal.τ).loc Cert.FrontRefIdeal.main_arg6) = m' ((c.tc : Thread Cert.FrontRefIdeal.nD Cert.FrontRefIdeal.τ).loc Cert.FrontRefIdeal.main_arg6)
          ∧ r.2.mem ((c.tc : Thread Cert.FrontRefIdeal.nD Cert.FrontRefIdeal.τ).loc Cert.FrontRefIdeal.main_arg7) = m' ((c.tc : Thread Cert.FrontRefIdeal.nD Cert.FrontRefIdeal.τ).loc Cert.FrontRefIdeal.main_arg7))

def Claim : Prop :=
  ∃ (hLoss : Cert.Loss.Facts) (hLossIdeal : Cert.LossIdeal.Facts) (hLossRefIdeal : Cert.LossRefIdeal.Facts) (hFlash : Cert.Flash.Facts) (hFlashIdeal : Cert.FlashIdeal.Facts) (hFlashRefIdeal : Cert.FlashRefIdeal.Facts) (hGate : Cert.Gate.Facts) (hGateIdeal : Cert.GateIdeal.Facts) (hGateRefIdeal : Cert.GateRefIdeal.Facts) (hProj : Cert.Proj.Facts) (hProjIdeal : Cert.ProjIdeal.Facts) (hProjRefIdeal : Cert.ProjRefIdeal.Facts) (hAttn : Cert.Attn.Facts) (hAttnIdeal : Cert.AttnIdeal.Facts) (hAttnRefIdeal : Cert.AttnRefIdeal.Facts) (hInproj : Cert.Inproj.Facts) (hInprojIdeal : Cert.InprojIdeal.Facts) (hInprojRefIdeal : Cert.InprojRefIdeal.Facts) (hPrep : Cert.Prep.Facts) (hPrepIdeal : Cert.PrepIdeal.Facts) (hPrepRefIdeal : Cert.PrepRefIdeal.Facts) (hFfn : Cert.Ffn.Facts) (hFfnIdeal : Cert.FfnIdeal.Facts) (hFfnRefIdeal : Cert.FfnRefIdeal.Facts) (hFront : Cert.Front.Facts) (hFrontIdeal : Cert.FrontIdeal.Facts) (hFrontRefIdeal : Cert.FrontRefIdeal.Facts) (hPre_loss_finite : Cert.Pre_loss_finite.Facts) (hPre_flash_finite : Cert.Pre_flash_finite.Facts) (hPre_gate_finite : Cert.Pre_gate_finite.Facts) (hPre_attn_finite : Cert.Pre_attn_finite.Facts) (hPre_inproj_finite : Cert.Pre_inproj_finite.Facts) (hPre_prep_finite : Cert.Pre_prep_finite.Facts) (hPre_ffn_finite : Cert.Pre_ffn_finite.Facts),
    quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Flash (hFlash := hFlash)
    ∧ quiescent_FlashIdeal (hFlashIdeal := hFlashIdeal)
    ∧ quiescent_FlashIdeal_pre_flash_finite (hFlashIdeal := hFlashIdeal) (hPre_flash_finite := hPre_flash_finite)
    ∧ quiescent_FlashRefIdeal (hFlashRefIdeal := hFlashRefIdeal)
    ∧ quiescent_FlashRefIdeal_pre_flash_finite (hFlashRefIdeal := hFlashRefIdeal) (hPre_flash_finite := hPre_flash_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Proj (hProj := hProj)
    ∧ quiescent_ProjIdeal (hProjIdeal := hProjIdeal)
    ∧ quiescent_ProjRefIdeal (hProjRefIdeal := hProjRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Inproj (hInproj := hInproj)
    ∧ quiescent_InprojIdeal (hInprojIdeal := hInprojIdeal)
    ∧ quiescent_InprojIdeal_pre_inproj_finite (hInprojIdeal := hInprojIdeal) (hPre_inproj_finite := hPre_inproj_finite)
    ∧ quiescent_InprojRefIdeal (hInprojRefIdeal := hInprojRefIdeal)
    ∧ quiescent_InprojRefIdeal_pre_inproj_finite (hInprojRefIdeal := hInprojRefIdeal) (hPre_inproj_finite := hPre_inproj_finite)
    ∧ quiescent_Prep (hPrep := hPrep)
    ∧ quiescent_PrepIdeal (hPrepIdeal := hPrepIdeal)
    ∧ quiescent_PrepIdeal_pre_prep_finite (hPrepIdeal := hPrepIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Front (hFront := hFront)
    ∧ quiescent_FrontIdeal (hFrontIdeal := hFrontIdeal)
    ∧ quiescent_FrontRefIdeal (hFrontRefIdeal := hFrontRefIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Flash_FlashIdeal
    ∧ algebraic_FlashIdeal_FlashRefIdeal_pre_flash_finite (hFlashIdeal := hFlashIdeal) (hFlashRefIdeal := hFlashRefIdeal) (hPre_flash_finite := hPre_flash_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Proj_ProjIdeal
    ∧ algebraic_ProjIdeal_ProjRefIdeal (hProjIdeal := hProjIdeal) (hProjRefIdeal := hProjRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Inproj_InprojIdeal
    ∧ algebraic_InprojIdeal_InprojRefIdeal_pre_inproj_finite (hInprojIdeal := hInprojIdeal) (hInprojRefIdeal := hInprojRefIdeal) (hPre_inproj_finite := hPre_inproj_finite)
    ∧ preserves_Prep_PrepIdeal
    ∧ algebraic_PrepIdeal_PrepRefIdeal_pre_prep_finite (hPrepIdeal := hPrepIdeal) (hPrepRefIdeal := hPrepRefIdeal) (hPre_prep_finite := hPre_prep_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Front_FrontIdeal
    ∧ algebraic_FrontIdeal_FrontRefIdeal (hFrontIdeal := hFrontIdeal) (hFrontRefIdeal := hFrontRefIdeal)
-- ==== Pre_attn_finite.lean ====
abbrev S16384x8x192 : Shape := ⟨3, ![16384, 8, 192]⟩
abbrev S16384x8x128 : Shape := ⟨3, ![16384, 8, 128]⟩
abbrev S_ : Shape := ⟨0, ![]⟩

class Facts : Prop where
  bcast_S_S16384x8x192 : S_.BroadcastsInDim S16384x8x192 (![] : Fin 0 → Fin S16384x8x192.rank)
  reducesTo_S16384x8x192_S_d0_1_2 : S16384x8x192.ReducesTo [0, 1, 2] S_
  h_S_ : 0 < S_.numel
  bcast_S_S16384x8x128 : S_.BroadcastsInDim S16384x8x128 (![] : Fin 0 → Fin S16384x8x128.rank)
  reducesTo_S16384x8x128_S_d0_1_2 : S16384x8x128.ReducesTo [0, 1, 2] S_

variable [Facts]

def fn {F : FTy → Type} [FloatOps F] (main_arg0 : FVec F S16384x8x192 .f32) (main_arg1 : FVec F S16384x8x192 .f32) (main_arg2 : FVec F S16384x8x128 .f32) : IVec S_ 1 :=
  let main_v0 : FVec F S16384x8x192 .f32 := Host.absf main_arg0
  let main_cst : FVec F S_ .f32 := constant S_ .f32 0x7F800000#32
  let main_v1 : FVec F S16384x8x192 .f32 := broadcastInDim S16384x8x192 ![] bcast_S_S16384x8x192 main_cst
  let main_v2 : IVec S16384x8x192 1 := cmpf .olt main_v0 main_v1
  let main_c : IVec S_ 1 := constantI S_ 1 1#1
  let main_v3 : IVec S_ 1 := (fun x v => Host.reduce IntOp.andi x v reducesTo_S16384x8x192_S_d0_1_2 h_S_) main_v2 main_c
  let main_v4 : FVec F S16384x8x192 .f32 := Host.absf main_arg1
  let main_cst_0 : FVec F S_ .f32 := constant S_ .f32 0x7F800000#32
  let main_v5 : FVec F S16384x8x192 .f32 := broadcastInDim S16384x8x192 ![] bcast_S_S16384x8x192 main_cst_0
  let main_v6 : IVec S16384x8x192 1 := cmpf .olt main_v4 main_v5
  let main_c_1 : IVec S_ 1 := constantI S_ 1 1#1
  let main_v7 : IVec S_ 1 := (fun x v => Host.reduce IntOp.andi x v reducesTo_S16384x8x192_S_d0_1_2 h_S_) main_v6 main_c_1
  let main_v8 : IVec S_ 1 := andi main_v3 main_v7
  let main_v9 : FVec F S16384x8x128 .f32 := Host.absf main_arg2
  let main_cst_2 : FVec F S_ .f32 := constant S_ .f32 0x7F800000#32
  let main_v10 : FVec F S16384x8x128 .f32 := broadcastInDim S16384x8x128 ![] bcast_S_S16384x8x128 main_cst_2
  let main_v11 : IVec S16384x8x128 1 := cmpf .olt main_v9 main_v10
  let main_c_3 : IVec S_ 1 := constantI S_ 1 1#1
  let main_v12 : IVec S_ 1 := (fun x v => Host.reduce IntOp.andi x v reducesTo_S16384x8x128_S_d0_1_2 h_S_) main_v11 main_c_3
  let main_v13 : IVec S_ 1 := andi main_v8 main_v12
  main_v13
-- ==== Pre_ffn_finite.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S5632 .f32) (main_arg5 : FVec F S2816x1024 .f32) (main_arg6 : FVec F S16384x1024 .f32) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  let main_v19 : FVec F S5632 .f32 := Host.absf main_arg4
  let main_cst_6 : FVec F S_ .f32 := constant S_ .f32 0x7F800000#32
  let main_v20 : FVec F S5632 .f32 := broadcastInDim S5632 ![] bcast_S_S5632 main_cst_6
  let main_v21 : IVec S5632 1 := cmpf .olt main_v19 main_v20
  let main_c_7 : IVec S_ 1 := constantI S_ 1 1#1
  let main_v22 : IVec S_ 1 := (fun x v => Host.reduce IntOp.andi x v reducesTo_S5632_S_d0 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S16384x1024 .f32 := Host.absf main_arg6
  let main_cst_10 : FVec F S_ .f32 := constant S_ .f32 0x7F800000#32
  let main_v30 : FVec F S16384x1024 .f32 := broadcastInDim S16384x1024 ![] bcast_S_S16384x1024 main_cst_10
  let main_v31 : IVec S16384x1024 1 := cmpf .olt main_v29 main_v30
  let main_c_11 : IVec S_ 1 := constantI S_ 1 1#1
  let main_v32 : IVec S_ 1 := (fun x v => Host.reduce IntOp.andi x v reducesTo_S16384x1024_S_d0_1 h_S_) main_v31 main_c_11
  let main_v33 : IVec S_ 1 := andi main_v28 main_v32
  main_v33

def fn {F : FTy → Type} [FloatOps F] (main_arg0 : FVec F S16384x1024 .f32) (main_arg1 : FVec F S1024 .f32) (main_arg2 : FVec F S1024x5632 .f32) (main_arg3 : FVec F S3x5632 .f32) (main_arg4 : FVec F S5632 .f32) (main_arg5 : FVec F S2816x1024 .f32) (main_arg6 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg4 main_arg5 main_arg6 main_v13 main_v16
-- ==== Pre_flash_finite.lean ====
abbrev S16384x8x192 : Shape := ⟨3, ![16384, 8, 192]⟩
abbrev S16384x8x128 : Shape := ⟨3, ![16384, 8, 128]⟩
abbrev S_ : Shape := ⟨0, ![]⟩

class Facts : Prop where
  bcast_S_S16384x8x192 : S_.BroadcastsInDim S16384x8x192 (![] : Fin 0 → Fin S16384x8x192.rank)
  reducesTo_S16384x8x192_S_d0_1_2 : S16384x8x192.ReducesTo [0, 1, 2] S_
  h_S_ : 0 < S_.numel
  bcast_S_S16384x8x128 : S_.BroadcastsInDim S16384x8x128 (![] : Fin 0 → Fin S16384x8x128.rank)
  reducesTo_S16384x8x128_S_d0_1_2 : S16384x8x128.ReducesTo [0, 1, 2] S_

variable [Facts]

def fn_part1 {F : FTy → Type} [FloatOps F] (main_v13 : IVec S_ 1) (main_v16 : IVec S16384x8x128 1) : IVec S_ 1 :=
  let main_c_5 : IVec S_ 1 := constantI S_ 1 1#1
  let main_v17 : IVec S_ 1 := (fun x v => Host.reduce IntOp.andi x v reducesTo_S16384x8x128_S_d0_1_2 h_S_) main_v16 main_c_5
  let main_v18 : IVec S_ 1 := andi main_v13 main_v17
  main_v18

def fn {F : FTy → Type} [FloatOps F] (main_arg0 : FVec F S16384x8x192 .f32) (main_arg1 : FVec F S16384x8x192 .f32) (main_arg2 : FVec F S16384x8x128 .f32) (main_arg3 : FVec F S16384x8x128 .f32) : IVec S_ 1 :=
  let main_v0 : FVec F S16384x8x192 .f32 := Host.absf main_arg0
  let main_cst : FVec F S_ .f32 := constant S_ .f32 0x7F800000#32
  let main_v1 : FVec F S16384x8x192 .f32 := broadcastInDim S16384x8x192 ![] bcast_S_S16384x8x192 main_cst
  let main_v2 : IVec S16384x8x192 1 := cmpf .olt main_v0 main_v1
  let main_c : IVec S_ 1 := constantI S_ 1 1#1
  let main_v3 : IVec S_ 1 := (fun x v => Host.reduce IntOp.andi x v reducesTo_S16384x8x192_S_d0_1_2 h_S_) main_v2 main_c
  let main_v4 : FVec F S16384x8x192 .f32 := Host.absf main_arg1
  let main_cst_0 : FVec F S_ .f32 := constant S_ .f32 0x7F800000#32
  let main_v5 : FVec F S16384x8x192 .f32 := broadcastInDim S16384x8x192 ![] bcast_S_S16384x8x192 main_cst_0
  let main_v6 : IVec S16384x8x192 1 := cmpf .olt main_v4 main_v5
  let main_c_1 : IVec S_ 1 := constantI S_ 1 1#1
  let main_v7 : IVec S_ 1 := (fun x v => Host.reduce IntOp.andi x v reducesTo_S16384x8x192_S_d0_1_2 h_S_) main_v6 main_c_1
  let main_v8 : IVec S_ 1 := andi main_v3 main_v7
  let main_v9 : FVec F S16384x8x128 .f32 := Host.absf main_arg2
  let main_cst_2 : FVec F S_ .f32 := constant S_ .f32 0x7F800000#32
  let main_v10 : FVec F S16384x8x128 .f32 := broadcastInDim S16384x8x128 ![] bcast_S_S16384x8x128 main_cst_2
  let main_v11 : IVec S16384x8x128 1 := cmpf .olt main_v9 main_v10
  let main_c_3 : IVec S_ 1 := constantI S_ 1 1#1
  let main_v12 : IVec S_ 1 := (fun x v => Host.reduce IntOp.andi x v reducesTo_S16384x8x128_S_d0_1_2 h_S_) main_v11 main_c_3
  let main_v13 : IVec S_ 1 := andi main_v8 main_v12
  let main_v14 : FVec F S16384x8x128 .f32 := Host.absf main_arg3
  let main_cst_4 : FVec F S_ .f32 := constant S_ .f32 0x7F800000#32
  let main_v15 : FVec F S16384x8x128 .f32 := broadcastInDim S16384x8x128 ![] bcast_S_S16384x8x128 main_cst_4
  let main_v16 : IVec S16384x8x128 1 := cmpf .olt main_v14 main_v15
  fn_part1 (F := F) main_v13 main_v16
-- ==== Pre_gate_finite.lean ====
abbrev S16384x1024 : Shape := ⟨2, ![16384, 1024]⟩
abbrev S1024x2048 : Shape := ⟨2, ![1024, 2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S16384x1024 .f32) (main_arg1 : FVec F S16384x1024 .f32) (main_arg2 : FVec F S1024x2048 .f32) (main_arg3 : FVec F S16384x1024 .f32) : IVec S_ 1 :=
  let main_v0 : FVec F S16384x1024 .f32 := Host.absf main_arg1
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x2048 .f32 := Host.absf main_arg2
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Pre_inproj_finite.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  main_v18

def fn {F : FTy → Type} [FloatOps F] (main_arg0 : FVec F S16384x1024 .f32) (main_arg1 : FVec F S1024 .f32) (main_arg2 : FVec F S1024x1024 .f32) (main_arg3 : FVec F S16384x1024 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_v13 main_v16
-- ==== Pre_loss_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S16384x1024 .f32) (main_arg2 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_prep_finite.lean ====
abbrev S64x64 : Shape := ⟨2, ![64, 64]⟩
abbrev S64 : Shape := ⟨1, ![64]⟩
abbrev S64x64x16 : Shape := ⟨3, ![64, 64, 16]⟩
abbrev S8x8x1024 : Shape := ⟨3, ![8, 8, 1024]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S64 : S_.BroadcastsInDim S64 (![] : Fin 0 → Fin S64.rank)
  reducesTo_S64_S_d0 : S64.ReducesTo [0] S_
  bcast_S_S64x64x16 : S_.BroadcastsInDim S64x64x16 (![] : Fin 0 → Fin S64x64x16.rank)
  reducesTo_S64x64x16_S_d0_1_2 : S64x64x16.ReducesTo [0, 1, 2] S_
  bcast_S_S8x8x1024 : S_.BroadcastsInDim S8x8x1024 (![] : Fin 0 → Fin S8x8x1024.rank)
  reducesTo_S8x8x1024_S_d0_1_2 : S8x8x1024.ReducesTo [0, 1, 2] S_

variable [Facts]

def fn_part2 {F : FTy → Type} [FloatOps F] (main_arg0 : FVec F S64x64 .f32) (main_arg1 : FVec F S64x64 .f32) (main_arg7 : FVec F S8x8x1024 .f32) (main_v33 : IVec S_ 1) : IVec S_ 1 :=
  let main_v34 : FVec F S8x8x1024 .f32 := Host.absf main_arg7
  let main_cst_12 : FVec F S_ .f32 := constant S_ .f32 0x7F800000#32
  let main_v35 : FVec F S8x8x1024 .f32 := broadcastInDim S8x8x1024 ![] bcast_S_S8x8x1024 main_cst_12
  let main_v36 : IVec S8x8x1024 1 := cmpf .olt main_v34 main_v35
  let main_c_13 : IVec S_ 1 := constantI S_ 1 1#1
  let main_v37 : IVec S_ 1 := (fun x v => Host.reduce IntOp.andi x v reducesTo_S8x8x1024_S_d0_1_2 h_S_) main_v36 main_c_13
  let main_v38 : IVec S_ 1 := andi main_v33 main_v37
  let main_v39 : FVec F S64x64 .f32 := mulf main_arg0 main_arg0
  let main_v40 : FVec F S64x64 .f32 := mulf main_arg1 main_arg1
  let main_v41 : FVec F S64x64 .f32 := addf main_v39 main_v40
  let main_cst_14 : FVec F S_ .f32 := constant S_ .f32 0x00000000#32
  let main_v42 : FVec F S64x64 .f32 := broadcastInDim S64x64 ![] bcast_S_S64x64 main_cst_14
  let main_v43 : IVec S64x64 1 := cmpf .ogt main_v41 main_v42
  let main_c_15 : IVec S_ 1 := constantI S_ 1 1#1
  let main_v44 : IVec S_ 1 := (fun x v => Host.reduce IntOp.andi x v reducesTo_S64x64_S_d0_1 h_S_) main_v43 main_c_15
  let main_v45 : IVec S_ 1 := andi main_v38 main_v44
  main_v45

def fn_part1 {F : FTy → Type} [FloatOps F] (main_arg0 : FVec F S64x64 .f32) (main_arg1 : FVec F S64x64 .f32) (main_arg4 : FVec F S64x64x16 .f32) (main_arg5 : FVec F S64x64x16 .f32) (main_arg6 : FVec F S64x64x16 .f32) (main_arg7 : FVec F S8x8x1024 .f32) (main_v13 : IVec S_ 1) (main_v16 : IVec S64x64x16 1) : IVec S_ 1 :=
  let main_c_5 : IVec S_ 1 := constantI S_ 1 1#1
  let main_v17 : IVec S_ 1 := (fun x v => Host.reduce IntOp.andi x v reducesTo_S64x64x16_S_d0_1_2 h_S_) main_v16 main_c_5
  let main_v18 : IVec S_ 1 := andi main_v13 main_v17
  let main_v19 : FVec F S64x64x16 .f32 := Host.absf main_arg4
  let main_cst_6 : FVec F S_ .f32 := constant S_ .f32 0x7F800000#32
  let main_v20 : FVec F S64x64x16 .f32 := broadcastInDim S64x64x16 ![] bcast_S_S64x64x16 main_cst_6
  let main_v21 : IVec S64x64x16 1 := cmpf .olt main_v19 main_v20
  let main_c_7 : IVec S_ 1 := constantI S_ 1 1#1
  let main_v22 : IVec S_ 1 := (fun x v => Host.reduce IntOp.andi x v reducesTo_S64x64x16_S_d0_1_2 h_S_) main_v21 main_c_7
  let main_v23 : IVec S_ 1 := andi main_v18 main_v22
  let main_v24 : FVec F S64x64x16 .f32 := Host.absf main_arg5
  let main_cst_8 : FVec F S_ .f32 := constant S_ .f32 0x7F800000#32
  let main_v25 : FVec F S64x64x16 .f32 := broadcastInDim S64x64x16 ![] bcast_S_S64x64x16 main_cst_8
  let main_v26 : IVec S64x64x16 1 := cmpf .olt main_v24 main_v25
  let main_c_9 : IVec S_ 1 := constantI S_ 1 1#1
  let main_v27 : IVec S_ 1 := (fun x v => Host.reduce IntOp.andi x v reducesTo_S64x64x16_S_d0_1_2 h_S_) main_v26 main_c_9
  let main_v28 : IVec S_ 1 := andi main_v23 main_v27
  let main_v29 : FVec F S64x64x16 .f32 := Host.absf main_arg6
  let main_cst_10 : FVec F S_ .f32 := constant S_ .f32 0x7F800000#32
  let main_v30 : FVec F S64x64x16 .f32 := broadcastInDim S64x64x16 ![] bcast_S_S64x64x16 main_cst_10
  let main_v31 : IVec S64x64x16 1 := cmpf .olt main_v29 main_v30
  let main_c_11 : IVec S_ 1 := constantI S_ 1 1#1
  let main_v32 : IVec S_ 1 := (fun x v => Host.reduce IntOp.andi x v reducesTo_S64x64x16_S_d0_1_2 h_S_) main_v31 main_c_11
  let main_v33 : IVec S_ 1 := andi main_v28 main_v32
  fn_part2 (F := F) main_arg0 main_arg1 main_arg7 main_v33

def fn {F : FTy → Type} [FloatOps F] (main_arg0 : FVec F S64x64 .f32) (main_arg1 : FVec F S64x64 .f32) (main_arg2 : FVec F S64 .f32) (main_arg3 : FVec F S64x64x16 .f32) (main_arg4 : FVec F S64x64x16 .f32) (main_arg5 : FVec F S64x64x16 .f32) (main_arg6 : FVec F S64x64x16 .f32) (main_arg7 : FVec F S8x8x1024 .f32) : IVec S_ 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64x16 .f32 := Host.absf main_arg3
  let main_cst_4 : FVec F S_ .f32 := constant S_ .f32 0x7F800000#32
  let main_v15 : FVec F S64x64x16 .f32 := broadcastInDim S64x64x16 ![] bcast_S_S64x64x16 main_cst_4
  let main_v16 : IVec S64x64x16 1 := cmpf .olt main_v14 main_v15
  fn_part1 (F := F) main_arg0 main_arg1 main_arg4 main_arg5 main_arg6 main_arg7 main_v13 main_v16
-- ==== Loss.lean ====
abbrev S16384x1024 : Shape := ⟨2, ![16384, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1x1024, .f32⟩
  | .hbm, ⟨4, _⟩ => ⟨S16384x1024, .f32⟩
  | .hbm, ⟨5, _⟩ => ⟨S1x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_16 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Flash.lean ====
abbrev S16384x8x192 : Shape := ⟨3, ![16384, 8, 192]⟩
abbrev S16384x8x128 : Shape := ⟨3, ![16384, 8, 128]⟩
abbrev S72 : Shape := ⟨1, ![72]⟩
abbrev S_ : Shape := ⟨0, ![]⟩
abbrev S16384 : Shape := ⟨1, ![16384]⟩
abbrev S8x16384x16384 : Shape := ⟨3, ![8, 16384, 16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S16384x8 : Shape := ⟨2, ![16384, 8]⟩
abbrev S16384x8x256 : Shape := ⟨3, ![16384, 8, 256]⟩
abbrev S16384x2048 : Shape := ⟨2, ![16384, 2048]⟩
abbrev S16384x1024 : Shape := ⟨2, ![16384, 1024]⟩
abbrev S16384x8x1 : Shape := ⟨3, ![16384, 8, 1]⟩
abbrev S1024x256 : Shape := ⟨2, ![1024, 256]⟩
abbrev S1 : Shape := ⟨1, ![1]⟩
abbrev S2048x256 : Shape := ⟨2, ![2048, 256]⟩
abbrev S2048x128 : Shape := ⟨2, ![2048, 128]⟩
abbrev S1024x128 : Shape := ⟨2, ![1024, 128]⟩
abbrev S16384x256 : Shape := ⟨2, ![16384, 256]⟩
abbrev S1024x2048 : Shape := ⟨2, ![1024, 2048]⟩
abbrev S1024x1 : Shape := ⟨2, ![1024, 1]⟩
abbrev S1024x1024 : Shape := ⟨2, ![1024, 1024]⟩

abbrev nBuf : Space → Nat
  | .hbm => 95
  | .vmem => 19
  | .smem => 2
  | _ => 0

abbrev bufTy : (tb : Table) → Fin (tcTables nBuf tb) → BufTy
  | .hbm, ⟨0, _⟩ => ⟨S16384x8x192, .f32⟩
  | .hbm, ⟨1, _⟩ => ⟨S16384x8x192, .f32⟩
  | .hbm, ⟨2, _⟩ => ⟨S16384x8x128, .f32⟩
  | .hbm, ⟨3, _⟩ => ⟨S16384x8x128, .f32⟩
  | .hbm, ⟨4, _⟩ => ⟨S_, .f32⟩
  | .hbm, ⟨5, _⟩ => ⟨S16384x8x192, .f32⟩
  | .hbm, ⟨6, _⟩ => ⟨S16384x8x192, .f32⟩
  | .hbm, ⟨7, _⟩ => ⟨S16384, .i32⟩
  | .hbm, ⟨8, _⟩ => ⟨S_, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S8x16384x16384, .f32⟩
  | .hbm, ⟨27, _⟩ => ⟨S1x16384, .i32⟩
  | .hbm, ⟨28, _⟩ => ⟨S16384x1, .i32⟩
  | .hbm, ⟨29, _⟩ => ⟨S16384x16384, .i32⟩
  | .hbm, ⟨30, _⟩ => ⟨S16384x16384, .i32⟩
  | .hbm, ⟨31, _⟩ => ⟨S16384x16384, .i1⟩
  | .hbm, ⟨32, _⟩ => ⟨S1x16384x16384, .i1⟩
  | .hbm, ⟨33, _⟩ => ⟨S_, .f32⟩
  | .hbm, ⟨34, _⟩ => ⟨S_, .f32⟩
  | .hbm, ⟨35, _⟩ => ⟨S8x16384x16384, .i1⟩
  | .hbm, ⟨36, _⟩ => ⟨S8x16384x16384, .f32⟩
  | .hbm, ⟨37, _⟩ => ⟨S8x16384x16384, .f32⟩
  | .hbm, ⟨38, _⟩ => ⟨S_, .f32⟩
  | .hbm, ⟨39, _⟩ => ⟨S8x16384, .f32⟩
  | .hbm, ⟨40, _⟩ => ⟨S8x16384x1, .f32⟩
  | .hbm, ⟨41, _⟩ => ⟨S8x16384x16384, .f32⟩
  | .hbm, ⟨42, _⟩ => ⟨S8x16384x16384, .f32⟩
  | .hbm, ⟨43, _⟩ => ⟨S8x16384x16384, .f32⟩
  | .hbm, ⟨44, _⟩ => ⟨S_, .f32⟩
  | .hbm, ⟨45, _⟩ => ⟨S8x16384, .f32⟩
  | .hbm, ⟨46, _⟩ => ⟨S8x16384x1, .f32⟩
  | .hbm, ⟨47, _⟩ => ⟨S8x16384x1, .f32⟩
  | .hbm, ⟨48, _⟩ => ⟨S8x16384x1, .f32⟩
  | .hbm, ⟨49, _⟩ => ⟨S8x16384x16384, .f32⟩
  | .hbm, ⟨50, _⟩ => ⟨S8x16384x16384, .f32⟩
  | .hbm, ⟨51, _⟩ => ⟨S8x16384x16384, .f32⟩
  | .hbm, ⟨52, _⟩ => ⟨S8x128x16384, .f32⟩
  | .hbm, ⟨53, _⟩ => ⟨S16384x8x128, .f32⟩
  | .hbm, ⟨54, _⟩ => ⟨S16384x8x128, .f32⟩
  | .hbm, ⟨55, _⟩ => ⟨S_, .f32⟩
  | .hbm, ⟨56, _⟩ => ⟨S16384x8, .f32⟩
  | .hbm, ⟨57, _⟩ => ⟨S_, .f32⟩
  | .hbm, ⟨58, _⟩ => ⟨S16384x8x192, .f32⟩
  | .hbm, ⟨59, _⟩ => ⟨S16384x8x192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S16384x8x192, .f32⟩
  | .hbm, ⟨64, _⟩ => ⟨S16384x8x192, .f32⟩
  | .hbm, ⟨65, _⟩ => ⟨S_, .i32⟩
  | .hbm, ⟨66, _⟩ => ⟨S_, .f32⟩
  | .hbm, ⟨67, _⟩ => ⟨S16384x8x256, .f32⟩
  | .hbm, ⟨68, _⟩ => ⟨S16384x2048, .f32⟩
  | .hbm, ⟨69, _⟩ => ⟨S16384x2048, .bf16⟩
  | .hbm, ⟨70, _⟩ => ⟨S_, .i32⟩
  | .hbm, ⟨71, _⟩ => ⟨S_, .f32⟩
  | .hbm, ⟨72, _⟩ => ⟨S16384x8x256, .f32⟩
  | .hbm, ⟨73, _⟩ => ⟨S16384x2048, .f32⟩
  | .hbm, ⟨74, _⟩ => ⟨S16384x2048, .bf16⟩
  | .hbm, ⟨75, _⟩ => ⟨S16384x1024, .f32⟩
  | .hbm, ⟨76, _⟩ => ⟨S16384x1024, .bf16⟩
  | .hbm, ⟨77, _⟩ => ⟨S16384x1024, .f32⟩
  | .hbm, ⟨78, _⟩ => ⟨S16384x1024, .bf16⟩
  | .hbm, ⟨79, _⟩ => ⟨S8x16384, .f32⟩
  | .hbm, ⟨80, _⟩ => ⟨S16384x8, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S16384x8, .f32⟩
  | .hbm, ⟨85, _⟩ => ⟨S16384x8, .f32⟩
  | .hbm, ⟨86, _⟩ => ⟨S16384x8x1, .f32⟩
  | .hbm, ⟨87, _⟩ => ⟨S16384x8x128, .f32⟩
  | .hbm, ⟨88, _⟩ => ⟨S16384x1024, .f32⟩
  | .hbm, ⟨89, _⟩ => ⟨S16384x8x1, .f32⟩
  | .hbm, ⟨90, _⟩ => ⟨S16384x8x128, .f32⟩
  | .hbm, ⟨91, _⟩ => ⟨S16384x1024, .f32⟩
  | .hbm, ⟨92, _⟩ => ⟨S16384x2048, .f32⟩
  | .hbm, ⟨93, _⟩ => ⟨S16384x2048, .bf16⟩
  | .hbm, ⟨94, _⟩ => ⟨S16384x1024, .bf16⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S16384x256, .f32⟩
  | .local _ .vmem, ⟨13, _⟩ => ⟨S2048x256, .bf16⟩
  | .local _ .vmem, ⟨14, _⟩ => ⟨S2048x256, .bf16⟩
  | .local _ .vmem, ⟨15, _⟩ => ⟨S2048x128, .bf16⟩
  | .local _ .vmem, ⟨16, _⟩ => ⟨S2048x128, .bf16⟩
  | .local _ .vmem, ⟨17, _⟩ => ⟨S2048x256, .f32⟩
  | .local _ .vmem, ⟨18, _⟩ => ⟨S2048x128, .f32⟩
  | .local _ .smem, ⟨0, _⟩ => ⟨S72, .i32⟩
  | .local _ .smem, ⟨1, _⟩ => ⟨S72, .i32⟩
  | _, _ => ⟨S16384x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v11 : Ref sig .tc := ⟨.hbm, 37, rfl⟩
abbrev main_cst_3 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_4 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_cst_6 : Ref sig .tc := ⟨.hbm, 57, rfl⟩
abbrev main_v28 : Ref sig .tc := ⟨.hbm, 58, rfl⟩
abbrev main_v29 : Ref sig .tc := ⟨.hbm, 59, rfl⟩
abbrev main_cst_7 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_8 : Ref sig .tc := ⟨.hbm, 65, rfl⟩
abbrev main_call2_v0 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_9 : Ref sig .tc := ⟨.hbm, 70, rfl⟩
abbrev main_call3_v0 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_10 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56_0 : Ref sig .tc := ⟨.hbm, 92, rfl⟩
abbrev main_v56_1 : Ref sig .tc := ⟨.hbm, 93, rfl⟩
abbrev main_v56_2 : Ref sig .tc := ⟨.hbm, 94, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 72], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v4 : BitVec 32 := Scalar.muli v1 c1024_i32
  v4

def k0_chk1 (v1 : BitVec 32) : Prop :=
  (1024 ∣ (k0_mult1 v1).toNat)
theorem k0_mult1_dvd : ∀ (v1 : BitVec 32) (k0_hw1 : k0_chk1 v1), 1024 ∣ (k0_mult1 v1).toNat := fun v1 k0_hw1 => k0_hw1

def k0_off2 (v1 : BitVec 32) : Fin 2 → Nat :=
  let c1024_i32 : BitVec 32 := 1024#32
  let v4 : BitVec 32 := Scalar.muli v1 c1024_i32
  let v5 : BitVec 32 := v4
  let v46 : Index := Scalar.indexCast v5
  let c0 : Index := 0#32
  ![v46.toNat, 0]
def k0_cond2 (v3 : BitVec 32) : BitVec 1 :=
  let c0_i32_6 : BitVec 32 := 0#32
  let v27 : BitVec 1 := Scalar.cmpi .eq v3 c0_i32_6
  let v28 : BitVec 32 := Scalar.extui v27
  let c0_i32_7 : BitVec 32 := 0#32
  let v29 : BitVec 1 := Scalar.cmpi .ne v28 c0_i32_7
  v29

def k0_off3 (v1 : BitVec 32) : Fin 2 → Nat :=
  let c1024_i32 : BitVec 32 := 1024#32
  let v4 : BitVec 32 := Scalar.muli v1 c1024_i32
  let v5 : BitVec 32 := v4
  let v81 : Index := Scalar.indexCast v5
  let c0_38 : Index := 0#32
  ![v81.toNat, 0]
def k0_cond3 (v1 : BitVec 32) (v3 : BitVec 32) : BitVec 1 :=
  let c1_i32_8 : BitVec 32 := 1#32
  let v30 : BitVec 32 := Scalar.addi v1 c1_i32_8
  let c2_i32 : BitVec 32 := 2#32
  let v31 : BitVec 32 := Scalar.muli v3 c2_i32
  let v32 : BitVec 32 := Scalar.subi v30 v31
  let c2_i32_9 : BitVec 32 := 2#32
  let v33 : BitVec 1 := Scalar.cmpi .sgt v32 c2_i32_9
  let v34 : BitVec 32 := Scalar.extui v33
  let c0_i32_10 : BitVec 32 := 0#32
  let v35 : BitVec 1 := Scalar.cmpi .ne v34 c0_i32_10
  v35

def k0_off4 (v1 : BitVec 32) : Fin 2 → Nat :=
  let c1024_i32 : BitVec 32 := 1024#32
  let v4 : BitVec 32 := Scalar.muli v1 c1024_i32
  let v5 : BitVec 32 := v4
  let v140 : Index := Scalar.indexCast v5
  let c0_52 : Index := 0#32
  ![v140.toNat, 0]
def k0_cond4 (v1 : BitVec 32) (v3 : BitVec 32) : BitVec 1 :=
  let c1_i32_8 : BitVec 32 := 1#32
  let v30 : BitVec 32 := Scalar.addi v1 c1_i32_8
  let c2_i32 : BitVec 32 := 2#32
  let v31 : BitVec 32 := Scalar.muli v3 c2_i32
  let v32 : BitVec 32 := Scalar.subi v30 v31
  let c1_i32_11 : BitVec 32 := 1#32
  let v36 : BitVec 1 := Scalar.cmpi .eq v32 c1_i32_11
  let v37 : BitVec 32 := Scalar.extui v36
  let c0_i32_12 : BitVec 32 := 0#32
  let v38 : BitVec 1 := Scalar.cmpi .ne v37 c0_i32_12
  v38

def k0_off5 (v1 : BitVec 32) : Fin 2 → Nat :=
  let c1024_i32 : BitVec 32 := 1024#32
  let v4 : BitVec 32 := Scalar.muli v1 c1024_i32
  let v5 : BitVec 32 := v4
  let v140 : Index := Scalar.indexCast v5
  let c0_52 : Index := 0#32
  ![v140.toNat, 0]
def k0_cond5 (v1 : BitVec 32) (v3 : BitVec 32) : BitVec 1 :=
  let c1_i32_8 : BitVec 32 := 1#32
  let v30 : BitVec 32 := Scalar.addi v1 c1_i32_8
  let c2_i32 : BitVec 32 := 2#32
  let v31 : BitVec 32 := Scalar.muli v3 c2_i32
  let v32 : BitVec 32 := Scalar.subi v30 v31
  let c2_i32_13 : BitVec 32 := 2#32
  let v39 : BitVec 1 := Scalar.cmpi .eq v32 c2_i32_13
  let v40 : BitVec 32 := Scalar.extui v39
  let c0_i32_14 : BitVec 32 := 0#32
  let v41 : BitVec 1 := Scalar.cmpi .ne v40 c0_i32_14
  v41

def k0_chk2 (v1 : BitVec 32) (v3 : BitVec 32) : Prop :=
  (∀ (k0_h2 : k0_cond2 v3 = 1#1), ∀ a, (k0_off2 v1) a + S1024x256.size a ≤ S16384x256.size a) ∧
  (∀ (k0_h3 : k0_cond3 v1 v3 = 1#1), ∀ a, (k0_off3 v1) a + S1024x256.size a ≤ S16384x256.size a) ∧
  (∀ (k0_h4 : k0_cond4 v1 v3 = 1#1), ∀ a, (k0_off4 v1) a + S1024x256.size a ≤ S16384x256.size a) ∧
  (∀ (k0_h5 : k0_cond5 v1 v3 = 1#1), ∀ a, (k0_off5 v1) a + S1024x256.size a ≤ S16384x256.size a)
theorem k0_off2_inb : ∀ (v1 : BitVec 32) (v3 : BitVec 32) (k0_hw2 : k0_chk2 v1 v3), ∀ (k0_h2 : k0_cond2 v3 = 1#1), ∀ a, (k0_off2 v1) a + S1024x256.size a ≤ S16384x256.size a := fun v1 v3 k0_hw2 k0_h2 => k0_hw2.1 k0_h2
theorem k0_off3_inb : ∀ (v1 : BitVec 32) (v3 : BitVec 32) (k0_hw2 : k0_chk2 v1 v3), ∀ (k0_h3 : k0_cond3 v1 v3 = 1#1), ∀ a, (k0_off3 v1) a + S1024x256.size a ≤ S16384x256.size a := fun v1 v3 k0_hw2 k0_h3 => k0_hw2.2.1 k0_h3
theorem k0_off4_inb : ∀ (v1 : BitVec 32) (v3 : BitVec 32) (k0_hw2 : k0_chk2 v1 v3), ∀ (k0_h4 : k0_cond4 v1 v3 = 1#1), ∀ a, (k0_off4 v1) a + S1024x256.size a ≤ S16384x256.size a := fun v1 v3 k0_hw2 k0_h4 => k0_hw2.2.2.1 k0_h4
theorem k0_off5_inb : ∀ (v1 : BitVec 32) (v3 : BitVec 32) (k0_hw2 : k0_chk2 v1 v3), ∀ (k0_h5 : k0_cond5 v1 v3 = 1#1), ∀ a, (k0_off5 v1) a + S1024x256.size a ≤ S16384x256.size a := fun v1 v3 k0_hw2 k0_h5 => k0_hw2.2.2.2 k0_h5

def k0_cond6 (v1 : BitVec 32) : BitVec 1 :=
  let c15_i32 : BitVec 32 := 15#32
  let v42 : BitVec 1 := Scalar.cmpi .eq v1 c15_i32
  let v43 : BitVec 32 := Scalar.extui v42
  let c0_i32_15 : BitVec 32 := 0#32
  let v44 : BitVec 1 := Scalar.cmpi .ne v43 c0_i32_15
  v44

def cc0_transform_0 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  ![v1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16384x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FlashIdeal.lean ====
variable {F : FTy → Type} [FloatOps F] [Named F]
def κ : String → Option EReal := fun
  | "ln2" => some ((Real.log 2 : ℝ) : EReal)
  | _ => none
-- ==== FlashRefIdeal.lean ====
abbrev S16384x8x192 : Shape := ⟨3, ![16384, 8, 192]⟩
abbrev S16384x8x128 : Shape := ⟨3, ![16384, 8, 128]⟩
abbrev S_ : Shape := ⟨0, ![]⟩
abbrev S16384 : Shape := ⟨1, ![16384]⟩
abbrev S8x16384x16384 : Shape := ⟨3, ![8, 16384, 16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S8x16384x192 : Shape := ⟨3, ![8, 16384, 192]⟩
abbrev S16384x8x256 : Shape := ⟨3, ![16384, 8, 256]⟩
abbrev S16384x2048 : Shape := ⟨2, ![16384, 2048]⟩
abbrev S16384x1024 : Shape := ⟨2, ![16384, 1024]⟩

abbrev nBuf : Space → Nat
  | .hbm => 116
  | .vmem => 0
  | .smem => 0
  | _ => 0

abbrev bufTy : (tb : Table) → Fin (tcTables nBuf tb) → BufTy
  | .hbm, ⟨0, _⟩ => ⟨S16384x8x192, .f32⟩
  | .hbm, ⟨1, _⟩ => ⟨S16384x8x192, .f32⟩
  | .hbm, ⟨2, _⟩ => ⟨S16384x8x128, .f32⟩
  | .hbm, ⟨3, _⟩ => ⟨S16384x8x128, .f32⟩
  | .hbm, ⟨4, _⟩ => ⟨S_, .f32⟩
  | .hbm, ⟨5, _⟩ => ⟨S16384x8x192, .f32⟩
  | .hbm, ⟨6, _⟩ => ⟨S16384x8x192, .f32⟩
  | .hbm, ⟨7, _⟩ => ⟨S16384, .i32⟩
  | .hbm, ⟨8, _⟩ => ⟨S_, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S8x16384x16384, .f32⟩
  | .hbm, ⟨27, _⟩ => ⟨S1x16384, .i32⟩
  | .hbm, ⟨28, _⟩ => ⟨S16384x1, .i32⟩
  | .hbm, ⟨29, _⟩ => ⟨S16384x16384, .i32⟩
  | .hbm, ⟨30, _⟩ => ⟨S16384x16384, .i32⟩
  | .hbm, ⟨31, _⟩ => ⟨S16384x16384, .i1⟩
  | .hbm, ⟨32, _⟩ => ⟨S1x16384x16384, .i1⟩
  | .hbm, ⟨33, _⟩ => ⟨S_, .f32⟩
  | .hbm, ⟨34, _⟩ => ⟨S_, .f32⟩
  | .hbm, ⟨35, _⟩ => ⟨S8x16384x16384, .i1⟩
  | .hbm, ⟨36, _⟩ => ⟨S8x16384x16384, .f32⟩
  | .hbm, ⟨37, _⟩ => ⟨S8x16384x16384, .f32⟩
  | .hbm, ⟨38, _⟩ => ⟨S_, .f32⟩
  | .hbm, ⟨39, _⟩ => ⟨S8x16384x16384, .f32⟩
  | .hbm, ⟨40, _⟩ => ⟨S_, .f32⟩
  | .hbm, ⟨41, _⟩ => ⟨S8x16384, .f32⟩
  | .hbm, ⟨42, _⟩ => ⟨S8x16384x1, .f32⟩
  | .hbm, ⟨43, _⟩ => ⟨S8x16384x16384, .f32⟩
  | .hbm, ⟨44, _⟩ => ⟨S8x16384x16384, .i1⟩
  | .hbm, ⟨45, _⟩ => ⟨S8x16384x16384, .f32⟩
  | .hbm, ⟨46, _⟩ => ⟨S_, .f32⟩
  | .hbm, ⟨47, _⟩ => ⟨S8x16384, .f32⟩
  | .hbm, ⟨48, _⟩ => ⟨S_, .f32⟩
  | .hbm, ⟨49, _⟩ => ⟨S8x16384, .f32⟩
  | .hbm, ⟨50, _⟩ => ⟨S8x16384, .f32⟩
  | .hbm, ⟨51, _⟩ => ⟨S_, .f32⟩
  | .hbm, ⟨52, _⟩ => ⟨S8x16384, .f32⟩
  | .hbm, ⟨53, _⟩ => ⟨S8x16384, .i1⟩
  | .hbm, ⟨54, _⟩ => ⟨S_, .f32⟩
  | .hbm, ⟨55, _⟩ => ⟨S8x16384, .f32⟩
  | .hbm, ⟨56, _⟩ => ⟨S8x16384, .i1⟩
  | .hbm, ⟨57, _⟩ => ⟨S_, .f32⟩
  | .hbm, ⟨58, _⟩ => ⟨S8x16384, .f32⟩
  | .hbm, ⟨59, _⟩ => ⟨S_, .f32⟩
  | .hbm, ⟨60, _⟩ => ⟨S8x16384, .f32⟩
  | .hbm, ⟨61, _⟩ => ⟨S_, .f32⟩
  | .hbm, ⟨62, _⟩ => ⟨S8x16384, .f32⟩
  | .hbm, ⟨63, _⟩ => ⟨S8x16384, .f32⟩
  | .hbm, ⟨64, _⟩ => ⟨S8x16384, .f32⟩
  | .hbm, ⟨65, _⟩ => ⟨S8x16384x1, .f32⟩
  | .hbm, ⟨66, _⟩ => ⟨S8x16384x16384, .f32⟩
  | .hbm, ⟨67, _⟩ => ⟨S8x16384x16384, .f32⟩
  | .hbm, ⟨68, _⟩ => ⟨S8x16384x16384, .f32⟩
  | .hbm, ⟨69, _⟩ => ⟨S_, .f32⟩
  | .hbm, ⟨70, _⟩ => ⟨S8x16384, .f32⟩
  | .hbm, ⟨71, _⟩ => ⟨S8x16384x1, .f32⟩
  | .hbm, ⟨72, _⟩ => ⟨S8x16384x16384, .f32⟩
  | .hbm, ⟨73, _⟩ => ⟨S8x16384x16384, .f32⟩
  | .hbm, ⟨74, _⟩ => ⟨S8x16384x1, .f32⟩
  | .hbm, ⟨75, _⟩ => ⟨S_, .f32⟩
  | .hbm, ⟨76, _⟩ => ⟨S8x16384x1, .f32⟩
  | .hbm, ⟨77, _⟩ => ⟨S8x16384x1, .f32⟩
  | .hbm, ⟨78, _⟩ => ⟨S8x128x16384, .f32⟩
  | .hbm, ⟨79, _⟩ => ⟨S16384x8x128, .f32⟩
  | .hbm, ⟨80, _⟩ => ⟨S8x128x16384, .f32⟩
  | .hbm, ⟨81, _⟩ => ⟨S8x16384x16384, .f32⟩
  | .hbm, ⟨82, _⟩ => ⟨S8x128x16384, .f32⟩
  | .hbm, ⟨83, _⟩ => ⟨S16384x8x128, .f32⟩
  | .hbm, ⟨84, _⟩ => ⟨S8x16384x16384, .f32⟩
  | .hbm, ⟨85, _⟩ => ⟨S8x16384x16384, .f32⟩
  | .hbm, ⟨86, _⟩ => ⟨S8x16384x16384, .f32⟩
  | .hbm, ⟨87, _⟩ => ⟨S_, .f32⟩
  | .hbm, ⟨88, _⟩ => ⟨S8x16384, .f32⟩
  | .hbm, ⟨89, _⟩ => ⟨S8x16384x1, .f32⟩
  | .hbm, ⟨90, _⟩ => ⟨S8x16384x1, .f32⟩
  | .hbm, ⟨91, _⟩ => ⟨S8x16384x16384, .f32⟩
  | .hbm, ⟨92, _⟩ => ⟨S8x16384x16384, .f32⟩
  | .hbm, ⟨93, _⟩ => ⟨S_, .f32⟩
  | .hbm, ⟨94, _⟩ => ⟨S8x16384, .f32⟩
  | .hbm, ⟨95, _⟩ => ⟨S8x16384x16384, .f32⟩
  | .hbm, ⟨96, _⟩ => ⟨S8x16384x16384, .f32⟩
  | .hbm, ⟨97, _⟩ => ⟨S8x16384x16384, .f32⟩
  | .hbm, ⟨98, _⟩ => ⟨S_, .f32⟩
  | .hbm, ⟨99, _⟩ => ⟨S8x16384x16384, .f32⟩
  | .hbm, ⟨100, _⟩ => ⟨S8x16384x16384, .f32⟩
  | .hbm, ⟨101, _⟩ => ⟨S8x16384x192, .f32⟩
  | .hbm, ⟨102, _⟩ => ⟨S16384x8x192, .f32⟩
  | .hbm, ⟨103, _⟩ => ⟨S8x16384x192, .f32⟩
  | .hbm, ⟨104, _⟩ => ⟨S16384x8x192, .f32⟩
  | .hbm, ⟨105, _⟩ => ⟨S_, .i32⟩
  | .hbm, ⟨106, _⟩ => ⟨S_, .f32⟩
  | .hbm, ⟨107, _⟩ => ⟨S16384x8x256, .f32⟩
  | .hbm, ⟨108, _⟩ => ⟨S16384x2048, .f32⟩
  | .hbm, ⟨109, _⟩ => ⟨S_, .i32⟩
  | .hbm, ⟨110, _⟩ => ⟨S_, .f32⟩
  | .hbm, ⟨111, _⟩ => ⟨S16384x8x256, .f32⟩
  | .hbm, ⟨112, _⟩ => ⟨S16384x2048, .f32⟩
  | .hbm, ⟨113, _⟩ => ⟨S16384x2048, .bf16⟩
  | .hbm, ⟨114, _⟩ => ⟨S16384x1024, .f32⟩
  | .hbm, ⟨115, _⟩ => ⟨S16384x1024, .bf16⟩
  | _, _ => ⟨S16384x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_0 : Ref sig .tc := ⟨.hbm, 33, rfl⟩
abbrev main_call1_v0 : Ref sig .tc := ⟨.hbm, 34, rfl⟩
abbrev main_v11_1 : Ref sig .tc := ⟨.hbm, 35, rfl⟩
abbrev main_call1_v2 : Ref sig .tc := ⟨.hbm, 36, rfl⟩
abbrev main_v11_0 : Ref sig .tc := ⟨.hbm, 37, rfl⟩
abbrev main_call1_cst : Ref sig .tc := ⟨.hbm, 38, rfl⟩
abbrev main_v11_2 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_cst_5 : Ref sig .tc := ⟨.hbm, 54, rfl⟩
abbrev main_v22 : Ref sig .tc := ⟨.hbm, 55, rfl⟩
abbrev main_v23 : Ref sig .tc := ⟨.hbm, 56, rfl⟩
abbrev main_cst_6 : Ref sig .tc := ⟨.hbm, 57, rfl⟩
abbrev main_v24 : Ref sig .tc := ⟨.hbm, 58, rfl⟩
abbrev main_cst_7 : Ref sig .tc := ⟨.hbm, 59, rfl⟩
abbrev main_v25 : Ref sig .tc := ⟨.hbm, 60, rfl⟩
abbrev main_cst_8 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_10 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_11 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_12 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_call2_cst : Ref sig .tc := ⟨.hbm, 98, rfl⟩
abbrev main_call2_v0 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_13 : Ref sig .tc := ⟨.hbm, 105, rfl⟩
abbrev main_call3_v0 : Ref sig .tc := ⟨.hbm, 106, rfl⟩
abbrev main_v63 : Ref sig .tc := ⟨.hbm, 107, rfl⟩
abbrev main_v64 : Ref sig .tc := ⟨.hbm, 108, rfl⟩
abbrev main_c_14 : Ref sig .tc := ⟨.hbm, 109, rfl⟩
abbrev main_call4_v0 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩

abbrev nD : Nat := 1
abbrev τ : Topo := Topo.v7x

variable {F : FTy → Type} [FloatOps F]
-- ==== Gate.lean ====
abbrev S16384x1024 : Shape := ⟨2, ![16384, 1024]⟩
abbrev S1024x2048 : Shape := ⟨2, ![1024, 2048]⟩
abbrev S16384x2048 : Shape := ⟨2, ![16384, 2048]⟩
abbrev S512x1024 : Shape := ⟨2, ![512, 1024]⟩
abbrev S512x2048 : Shape := ⟨2, ![512, 2048]⟩
abbrev S2048x1024 : Shape := ⟨2, ![2048, 1024]⟩

abbrev nBuf : Space → Nat
  | .hbm => 10
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2048, .f32⟩
  | .hbm, ⟨3, _⟩ => ⟨S16384x1024, .f32⟩
  | .hbm, ⟨4, _⟩ => ⟨S1024x2048, .bf16⟩
  | .hbm, ⟨5, _⟩ => ⟨S16384x1024, .f32⟩
  | .hbm, ⟨6, _⟩ => ⟨S16384x2048, .bf16⟩
  | .hbm, ⟨7, _⟩ => ⟨S2048x1024, .bf16⟩
  | .hbm, ⟨8, _⟩ => ⟨S16384x1024, .f32⟩
  | .hbm, ⟨9, _⟩ => ⟨S1024x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | .local _ .vmem, ⟨8, _⟩ => ⟨S512x2048, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x2048, .bf16⟩
  | .local _ .vmem, ⟨14, _⟩ => ⟨S512x2048, .bf16⟩
  | .local _ .vmem, ⟨15, _⟩ => ⟨S2048x1024, .bf16⟩
  | .local _ .vmem, ⟨16, _⟩ => ⟨S512x1024, .f32⟩
  | .local _ .vmem, ⟨17, _⟩ => ⟨S512x1024, .f32⟩
  | .local _ .vmem, ⟨18, _⟩ => ⟨S1024x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2048x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== GateIdeal.lean ====
variable {F : FTy → Type} [FloatOps F] [Named F]
def κ : String → Option EReal := fun
  | "gelu" => some ((8943 / 200000 : ℝ) : EReal)
  | "gelu3" => some ((26829 / 200000 : ℝ) : EReal)
  | _ => none
-- ==== GateRefIdeal.lean ====
abbrev S16384x1024 : Shape := ⟨2, ![16384, 1024]⟩
abbrev S1024x2048 : Shape := ⟨2, ![1024, 2048]⟩
abbrev S_ : Shape := ⟨0, ![]⟩
abbrev S16384x2048 : Shape := ⟨2, ![16384, 2048]⟩
abbrev S2048x1024 : Shape := ⟨2, ![2048, 1024]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2048, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x2048, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x2048, .f32⟩
  | .hbm, ⟨56, _⟩ => ⟨S2048x1024, .f32⟩
  | .hbm, ⟨57, _⟩ => ⟨S1024x2048, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Proj.lean ====
abbrev S16384x1024 : Shape := ⟨2, ![16384, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 11
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S16384x1024, .f32⟩
  | .hbm, ⟨4, _⟩ => ⟨S16384x1024, .bf16⟩
  | .hbm, ⟨5, _⟩ => ⟨S1024x1024, .bf16⟩
  | .hbm, ⟨6, _⟩ => ⟨S16384x1024, .f32⟩
  | .hbm, ⟨7, _⟩ => ⟨S1024x1024, .bf16⟩
  | .hbm, ⟨8, _⟩ => ⟨S16384x1024, .bf16⟩
  | .hbm, ⟨9, _⟩ => ⟨S16384x1024, .f32⟩
  | .hbm, ⟨10, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ProjRefIdeal.lean ====
abbrev S16384x1024 : Shape := ⟨2, ![16384, 1024]⟩
abbrev S1024x1024 : Shape := ⟨2, ![1024, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S16384x1024, .f32⟩
  | .hbm, ⟨9, _⟩ => ⟨S16384x1024, .f32⟩
  | .hbm, ⟨10, _⟩ => ⟨S16384x8x128, .f32⟩
  | .hbm, ⟨11, _⟩ => ⟨S_, .f32⟩
  | .hbm, ⟨12, _⟩ => ⟨S16384x8, .f32⟩
  | .hbm, ⟨13, _⟩ => ⟨S16384x8x1, .f32⟩
  | .hbm, ⟨14, _⟩ => ⟨S16384x1024, .bf16⟩
  | .hbm, ⟨15, _⟩ => ⟨S16384x8x128, .f32⟩
  | .hbm, ⟨16, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Attn.lean ====
abbrev S16384x8x192 : Shape := ⟨3, ![16384, 8, 192]⟩
abbrev S16384x8x128 : Shape := ⟨3, ![16384, 8, 128]⟩
abbrev S40 : Shape := ⟨1, ![40]⟩
abbrev S_ : Shape := ⟨0, ![]⟩
abbrev S16384x8x256 : Shape := ⟨3, ![16384, 8, 256]⟩
abbrev S16384x2048 : Shape := ⟨2, ![16384, 2048]⟩
abbrev S16384x1024 : Shape := ⟨2, ![16384, 1024]⟩
abbrev S1024x256 : Shape := ⟨2, ![1024, 256]⟩
abbrev S1 : Shape := ⟨1, ![1]⟩
abbrev S4096x256 : Shape := ⟨2, ![4096, 256]⟩
abbrev S4096x128 : Shape := ⟨2, ![4096, 128]⟩
abbrev S1024x128 : Shape := ⟨2, ![1024, 128]⟩
abbrev S1024x1 : Shape := ⟨2, ![1024, 1]⟩
abbrev S1024x4096 : Shape := ⟨2, ![1024, 4096]⟩
abbrev S1024 : Shape := ⟨1, ![1024]⟩
abbrev S1024x1024 : Shape := ⟨2, ![1024, 1024]⟩
abbrev S2048x256 : Shape := ⟨2, ![2048, 256]⟩
abbrev S1024x2048 : Shape := ⟨2, ![1024, 2048]⟩
abbrev S2048x128 : Shape := ⟨2, ![2048, 128]⟩
abbrev S3072x256 : Shape := ⟨2, ![3072, 256]⟩
abbrev S1024x3072 : Shape := ⟨2, ![1024, 3072]⟩
abbrev S3072x128 : Shape := ⟨2, ![3072, 128]⟩

abbrev nBuf : Space → Nat
  | .hbm => 25
  | .vmem => 13
  | .smem => 2
  | _ => 0

abbrev bufTy : (tb : Table) → Fin (tcTables nBuf tb) → BufTy
  | .hbm, ⟨0, _⟩ => ⟨S16384x8x192, .f32⟩
  | .hbm, ⟨1, _⟩ => ⟨S16384x8x192, .f32⟩
  | .hbm, ⟨2, _⟩ => ⟨S16384x8x128, .f32⟩
  | .hbm, ⟨3, _⟩ => ⟨S_, .f32⟩
  | .hbm, ⟨4, _⟩ => ⟨S16384x8x192, .f32⟩
  | .hbm, ⟨5, _⟩ => ⟨S16384x8x192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x8x192, .f32⟩
  | .hbm, ⟨10, _⟩ => ⟨S16384x8x192, .f32⟩
  | .hbm, ⟨11, _⟩ => ⟨S_, .i32⟩
  | .hbm, ⟨12, _⟩ => ⟨S_, .f32⟩
  | .hbm, ⟨13, _⟩ => ⟨S16384x8x256, .f32⟩
  | .hbm, ⟨14, _⟩ => ⟨S16384x2048, .f32⟩
  | .hbm, ⟨15, _⟩ => ⟨S16384x2048, .bf16⟩
  | .hbm, ⟨16, _⟩ => ⟨S_, .i32⟩
  | .hbm, ⟨17, _⟩ => ⟨S_, .f32⟩
  | .hbm, ⟨18, _⟩ => ⟨S16384x8x256, .f32⟩
  | .hbm, ⟨19, _⟩ => ⟨S16384x2048, .f32⟩
  | .hbm, ⟨20, _⟩ => ⟨S16384x2048, .bf16⟩
  | .hbm, ⟨21, _⟩ => ⟨S16384x1024, .f32⟩
  | .hbm, ⟨22, _⟩ => ⟨S16384x1024, .bf16⟩
  | .hbm, ⟨23, _⟩ => ⟨S16384x1024, .bf16⟩
  | .hbm, ⟨24, _⟩ => ⟨S16384x1024, .f32⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | .local _ .smem, ⟨0, _⟩ => ⟨S40, .i32⟩
  | .local _ .smem, ⟨1, _⟩ => ⟨S40, .i32⟩
  | _, _ => ⟨S16384x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_2 : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 40], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond7 (v1 : BitVec 32) (v3 : BitVec 32) : BitVec 1 :=
  let c1_i32_9 : BitVec 32 := 1#32
  let v25 : BitVec 32 := Scalar.addi v1 c1_i32_9
  let c1024_i32 : BitVec 32 := 1024#32
  let v26 : BitVec 32 := Scalar.muli v25 c1024_i32
  let c1_i32_10 : BitVec 32 := 1#32
  let v27 : BitVec 32 := Scalar.subi v26 c1_i32_10
  let c0_i32_11 : BitVec 32 := 0#32
  let v29 : BitVec 1 := Scalar.cmpi .sgt v27 c0_i32_11
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c4096_i32 : BitVec 32 := 4096#32
  let c0_i32_13 : BitVec 32 := 0#32
  let v34 : BitVec 1 := Scalar.cmpi .sgt c4096_i32 c0_i32_13
  let v35 : BitVec 32 := Scalar.extui v34
  let c0_i32_14 : BitVec 32 := 0#32
  let v36 : BitVec 1 := Scalar.cmpi .slt c4096_i32 c0_i32_14
  let v37 : BitVec 32 := Scalar.extui v36
  let v38 : BitVec 32 := Scalar.subi v35 v37
  let v39 : BitVec 1 := Scalar.cmpi .ne v33 v38
  let v40 : BitVec 32 := Scalar.remsi v27 c4096_i32
  let c0_i32_15 : BitVec 32 := 0#32
  let v41 : BitVec 1 := Scalar.cmpi .ne v40 c0_i32_15
  let v42 : BitVec 1 := Scalar.andi v39 v41
  let v28 : BitVec 32 := Scalar.divsi v27 c4096_i32
  let c1_i32_16 : BitVec 32 := 1#32
  let v43 : BitVec 32 := Scalar.subi v28 c1_i32_16
  let v44 : BitVec 32 := Scalar.select v42 v43 v28
  let v45 : BitVec 1 := Scalar.cmpi .eq v3 v44
  let v46 : BitVec 32 := Scalar.extui v45
  let c0_i32_17 : BitVec 32 := 0#32
  let v47 : BitVec 1 := Scalar.cmpi .ne v46 c0_i32_17
  v47

def cc0_transform_0 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S40) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S40) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  ![v1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnIdeal.lean ====
variable {F : FTy → Type} [FloatOps F] [Named F]
def κ : String → Option EReal := fun
  | "log2e" => some (((Real.log 2)⁻¹ : ℝ) : EReal)
  | _ => none
-- ==== AttnRefIdeal.lean ====
abbrev S16384x8x192 : Shape := ⟨3, ![16384, 8, 192]⟩
abbrev S16384x8x128 : Shape := ⟨3, ![16384, 8, 128]⟩
abbrev S_ : Shape := ⟨0, ![]⟩
abbrev S16384 : Shape := ⟨1, ![16384]⟩
abbrev S8x16384x16384 : Shape := ⟨3, ![8, 16384, 16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S16384x1024 : Shape := ⟨2, ![16384, 1024]⟩
abbrev S16384x8 : Shape := ⟨2, ![16384, 8]⟩
abbrev S16384x8x1 : Shape := ⟨3, ![16384, 8, 1]⟩

abbrev nBuf : Space → Nat
  | .hbm => 110
  | .vmem => 0
  | .smem => 0
  | _ => 0

abbrev bufTy : (tb : Table) → Fin (tcTables nBuf tb) → BufTy
  | .hbm, ⟨0, _⟩ => ⟨S16384x8x192, .f32⟩
  | .hbm, ⟨1, _⟩ => ⟨S16384x8x192, .f32⟩
  | .hbm, ⟨2, _⟩ => ⟨S16384x8x128, .f32⟩
  | .hbm, ⟨3, _⟩ => ⟨S_, .f32⟩
  | .hbm, ⟨4, _⟩ => ⟨S16384x8x192, .f32⟩
  | .hbm, ⟨5, _⟩ => ⟨S16384x8x192, .f32⟩
  | .hbm, ⟨6, _⟩ => ⟨S16384, .i32⟩
  | .hbm, ⟨7, _⟩ => ⟨S_, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S16384, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S8x16384x16384, .f32⟩
  | .hbm, ⟨26, _⟩ => ⟨S1x16384, .i32⟩
  | .hbm, ⟨27, _⟩ => ⟨S16384x1, .i32⟩
  | .hbm, ⟨28, _⟩ => ⟨S16384x16384, .i32⟩
  | .hbm, ⟨29, _⟩ => ⟨S16384x16384, .i32⟩
  | .hbm, ⟨30, _⟩ => ⟨S16384x16384, .i1⟩
  | .hbm, ⟨31, _⟩ => ⟨S1x16384x16384, .i1⟩
  | .hbm, ⟨32, _⟩ => ⟨S_, .f32⟩
  | .hbm, ⟨33, _⟩ => ⟨S_, .f32⟩
  | .hbm, ⟨34, _⟩ => ⟨S8x16384x16384, .i1⟩
  | .hbm, ⟨35, _⟩ => ⟨S8x16384x16384, .f32⟩
  | .hbm, ⟨36, _⟩ => ⟨S8x16384x16384, .f32⟩
  | .hbm, ⟨37, _⟩ => ⟨S_, .f32⟩
  | .hbm, ⟨38, _⟩ => ⟨S8x16384, .f32⟩
  | .hbm, ⟨39, _⟩ => ⟨S8x16384x1, .f32⟩
  | .hbm, ⟨40, _⟩ => ⟨S8x16384x16384, .f32⟩
  | .hbm, ⟨41, _⟩ => ⟨S8x16384x16384, .f32⟩
  | .hbm, ⟨42, _⟩ => ⟨S8x16384x16384, .f32⟩
  | .hbm, ⟨43, _⟩ => ⟨S_, .f32⟩
  | .hbm, ⟨44, _⟩ => ⟨S8x16384, .f32⟩
  | .hbm, ⟨45, _⟩ => ⟨S8x16384x1, .f32⟩
  | .hbm, ⟨46, _⟩ => ⟨S8x16384x1, .f32⟩
  | .hbm, ⟨47, _⟩ => ⟨S8x16384x1, .f32⟩
  | .hbm, ⟨48, _⟩ => ⟨S_, .f32⟩
  | .hbm, ⟨49, _⟩ => ⟨S16384x8x192, .f32⟩
  | .hbm, ⟨50, _⟩ => ⟨S16384x8x192, .f32⟩
  | .hbm, ⟨51, _⟩ => ⟨S16384, .i32⟩
  | .hbm, ⟨52, _⟩ => ⟨S_, .i32⟩
  | .hbm, ⟨53, _⟩ => ⟨S_, .i32⟩
  | .hbm, ⟨54, _⟩ => ⟨S16384, .i32⟩
  | .hbm, ⟨55, _⟩ => ⟨S16384, .i32⟩
  | .hbm, ⟨56, _⟩ => ⟨S16384, .i32⟩
  | .hbm, ⟨57, _⟩ => ⟨S_, .i32⟩
  | .hbm, ⟨58, _⟩ => ⟨S16384, .i32⟩
  | .hbm, ⟨59, _⟩ => ⟨S16384, .i1⟩
  | .hbm, ⟨60, _⟩ => ⟨S16384, .i32⟩
  | .hbm, ⟨61, _⟩ => ⟨S16384, .i32⟩
  | .hbm, ⟨62, _⟩ => ⟨S_, .i32⟩
  | .hbm, ⟨63, _⟩ => ⟨S16384, .i32⟩
  | .hbm, ⟨64, _⟩ => ⟨S16384, .i1⟩
  | .hbm, ⟨65, _⟩ => ⟨S16384, .i1⟩
  | .hbm, ⟨66, _⟩ => ⟨S_, .i32⟩
  | .hbm, ⟨67, _⟩ => ⟨S16384, .i32⟩
  | .hbm, ⟨68, _⟩ => ⟨S16384, .i32⟩
  | .hbm, ⟨69, _⟩ => ⟨S16384, .i32⟩
  | .hbm, ⟨70, _⟩ => ⟨S8x16384x16384, .f32⟩
  | .hbm, ⟨71, _⟩ => ⟨S1x16384, .i32⟩
  | .hbm, ⟨72, _⟩ => ⟨S16384x1, .i32⟩
  | .hbm, ⟨73, _⟩ => ⟨S16384x16384, .i32⟩
  | .hbm, ⟨74, _⟩ => ⟨S16384x16384, .i32⟩
  | .hbm, ⟨75, _⟩ => ⟨S16384x16384, .i1⟩
  | .hbm, ⟨76, _⟩ => ⟨S1x16384x16384, .i1⟩
  | .hbm, ⟨77, _⟩ => ⟨S_, .f32⟩
  | .hbm, ⟨78, _⟩ => ⟨S_, .f32⟩
  | .hbm, ⟨79, _⟩ => ⟨S8x16384x16384, .i1⟩
  | .hbm, ⟨80, _⟩ => ⟨S8x16384x16384, .f32⟩
  | .hbm, ⟨81, _⟩ => ⟨S8x16384x16384, .f32⟩
  | .hbm, ⟨82, _⟩ => ⟨S_, .f32⟩
  | .hbm, ⟨83, _⟩ => ⟨S8x16384, .f32⟩
  | .hbm, ⟨84, _⟩ => ⟨S_, .f32⟩
  | .hbm, ⟨85, _⟩ => ⟨S8x16384, .f32⟩
  | .hbm, ⟨86, _⟩ => ⟨S8x16384, .f32⟩
  | .hbm, ⟨87, _⟩ => ⟨S8x16384x1, .f32⟩
  | .hbm, ⟨88, _⟩ => ⟨S8x16384x16384, .f32⟩
  | .hbm, ⟨89, _⟩ => ⟨S8x16384x16384, .f32⟩
  | .hbm, ⟨90, _⟩ => ⟨S8x16384x16384, .f32⟩
  | .hbm, ⟨91, _⟩ => ⟨S_, .f32⟩
  | .hbm, ⟨92, _⟩ => ⟨S8x16384, .f32⟩
  | .hbm, ⟨93, _⟩ => ⟨S8x16384x1, .f32⟩
  | .hbm, ⟨94, _⟩ => ⟨S8x16384x16384, .f32⟩
  | .hbm, ⟨95, _⟩ => ⟨S8x16384x16384, .f32⟩
  | .hbm, ⟨96, _⟩ => ⟨S8x128x16384, .f32⟩
  | .hbm, ⟨97, _⟩ => ⟨S16384x8x128, .f32⟩
  | .hbm, ⟨98, _⟩ => ⟨S16384x1024, .f32⟩
  | .hbm, ⟨99, _⟩ => ⟨S16384x1024, .bf16⟩
  | .hbm, ⟨100, _⟩ => ⟨S8x16384, .f32⟩
  | .hbm, ⟨101, _⟩ => ⟨S16384x8, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S16384x8, .f32⟩
  | .hbm, ⟨106, _⟩ => ⟨S16384x8, .f32⟩
  | .hbm, ⟨107, _⟩ => ⟨S16384x8x1, .f32⟩
  | .hbm, ⟨108, _⟩ => ⟨S16384x8x128, .f32⟩
  | .hbm, ⟨109, _⟩ => ⟨S16384x1024, .f32⟩
  | _, _ => ⟨S16384x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_4 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v32 : Ref sig .tc := ⟨.hbm, 81, rfl⟩
abbrev main_cst_6 : Ref sig .tc := ⟨.hbm, 82, rfl⟩
abbrev main_v33 : Ref sig .tc := ⟨.hbm, 83, rfl⟩
abbrev main_cst_7 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_8 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_cst_9 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩

abbrev nD : Nat := 1
abbrev τ : Topo := Topo.v7x

variable {F : FTy → Type} [FloatOps F]
-- ==== Inproj.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 12
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S1024x1024, .bf16⟩
  | .hbm, ⟨7, _⟩ => ⟨S16384x1024, .f32⟩
  | .hbm, ⟨8, _⟩ => ⟨S1024x1024, .bf16⟩
  | .hbm, ⟨9, _⟩ => ⟨S16384x1024, .f32⟩
  | .hbm, ⟨10, _⟩ => ⟨S1024x1024, .f32⟩
  | .hbm, ⟨11, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem7_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1024x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== InprojRefIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1024x1024, .f32⟩
  | .hbm, ⟨27, _⟩ => ⟨S1024x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Prep.lean ====
abbrev S64x64 : Shape := ⟨2, ![64, 64]⟩
abbrev S64 : Shape := ⟨1, ![64]⟩
abbrev S64x64x16 : Shape := ⟨3, ![64, 64, 16]⟩
abbrev S8x8x1024 : Shape := ⟨3, ![8, 8, 1024]⟩
abbrev S8x1x512 : Shape := ⟨3, ![8, 1, 512]⟩
abbrev S64x1 : Shape := ⟨2, ![64, 1]⟩
abbrev S_ : Shape := ⟨0, ![]⟩
abbrev S64x16x64 : Shape := ⟨3, ![64, 16, 64]⟩
abbrev S8x8 : Shape := ⟨2, ![8, 8]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1024x128 : Shape := ⟨3, ![8, 1024, 128]⟩
abbrev S1x1x512 : Shape := ⟨3, ![1, 1, 512]⟩
abbrev S1x128x1024 : Shape := ⟨3, ![1, 128, 1024]⟩
abbrev S1x8x1024 : Shape := ⟨3, ![1, 8, 1024]⟩
abbrev S1x512 : Shape := ⟨2, ![1, 512]⟩
abbrev S1x128x512 : Shape := ⟨3, ![1, 128, 512]⟩
abbrev S128x512 : Shape := ⟨2, ![128, 512]⟩
abbrev S512 : Shape := ⟨1, ![512]⟩
abbrev S1x8x512 : Shape := ⟨3, ![1, 8, 512]⟩
abbrev S8x512 : Shape := ⟨2, ![8, 512]⟩

abbrev nBuf : Space → Nat
  | .hbm => 140
  | .vmem => 20
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64x16, .f32⟩
  | 6 => ⟨S64x64x16, .f32⟩
  | 7 => ⟨S8x8x1024, .f32⟩
  | 8 => ⟨S8x1x512, .f32⟩
  | 9 => ⟨S8x1x512, .f32⟩
  | 10 => ⟨S64x1, .f32⟩
  | 11 => ⟨S64x64, .f32⟩
  | 12 => ⟨S8x1x512, .f32⟩
  | 13 => ⟨S_, .f32⟩
  | 14 => ⟨S64x16x64, .f32⟩
  | 15 => ⟨S8x8, .i32⟩
  | 16 => ⟨S8x8, .i32⟩
  | 17 => ⟨S_, .i32⟩
  | 18 => ⟨S8x8, .i32⟩
  | 19 => ⟨S8x8, .i32⟩
  | 20 => ⟨S8x8, .i1⟩
  | 21 => ⟨S8x8, .f32⟩
  | 22 => ⟨S8x8x64x16, .f32⟩
  | 23 => ⟨S8x8x16x64, .f32⟩
  | 24 => ⟨S8x8x16x1x64, .f32⟩
  | 25 => ⟨S1x8x1x8x1, .f32⟩
  | 26 => ⟨S8x8x16x8x64, .f32⟩
  | 27 => ⟨S8x8x16x8x64, .f32⟩
  | 28 => ⟨S8x8x16x8x64, .f32⟩
  | 29 => ⟨S8x128x512, .f32⟩
  | 30 => ⟨S8x8x64x16, .f32⟩
  | 31 => ⟨S8x8x16x64, .f32⟩
  | 32 => ⟨S8x8x16x1x64, .f32⟩
  | 33 => ⟨S1x8x1x8x1, .f32⟩
  | 34 => ⟨S8x8x16x8x64, .f32⟩
  | 35 => ⟨S8x8x16x8x64, .f32⟩
  | 36 => ⟨S8x8x16x8x64, .f32⟩
  | 37 => ⟨S8x128x512, .f32⟩
  | 38 => ⟨S8x128x1024, .f32⟩
  | 39 => ⟨S8x8x16x64, .f32⟩
  | 40 => ⟨S8x8x64x16, .f32⟩
  | 41 => ⟨S8x8x64x1x16, .f32⟩
  | 42 => ⟨S1x8x1x8x1, .f32⟩
  | 43 => ⟨S8x8x64x8x16, .f32⟩
  | 44 => ⟨S8x8x64x8x16, .f32⟩
  | 45 => ⟨S8x8x64x8x16, .f32⟩
  | 46 => ⟨S8x512x128, .f32⟩
  | 47 => ⟨S8x8x16x64, .f32⟩
  | 48 => ⟨S8x8x64x16, .f32⟩
  | 49 => ⟨S8x8x64x1x16, .f32⟩
  | 50 => ⟨S1x8x1x8x1, .f32⟩
  | 51 => ⟨S8x8x64x8x16, .f32⟩
  | 52 => ⟨S8x8x64x8x16, .f32⟩
  | 53 => ⟨S8x8x64x8x16, .f32⟩
  | 54 => ⟨S8x512x128, .f32⟩
  | 55 => ⟨S8x512x128, .f32⟩
  | 56 => ⟨S8x1024x128, .f32⟩
  | 57 => ⟨S8x8, .i32⟩
  | 58 => ⟨S8x8, .i32⟩
  | 59 => ⟨S_, .i32⟩
  | 60 => ⟨S8x8, .i32⟩
  | 61 => ⟨S8x8, .i32⟩
  | 62 => ⟨S8x8, .i1⟩
  | 63 => ⟨S8x8, .f32⟩
  | 64 => ⟨S8x8x64x16, .f32⟩
  | 65 => ⟨S8x8x16x64, .f32⟩
  | 66 => ⟨S8x8x16x1x64, .f32⟩
  | 67 => ⟨S1x8x1x8x1, .f32⟩
  | 68 => ⟨S8x8x16x8x64, .f32⟩
  | 69 => ⟨S8x8x16x8x64, .f32⟩
  | 70 => ⟨S8x8x16x8x64, .f32⟩
  | 71 => ⟨S8x128x512, .f32⟩
  | 72 => ⟨S8x8x64x16, .f32⟩
  | 73 => ⟨S8x8x16x64, .f32⟩
  | 74 => ⟨S8x8x16x1x64, .f32⟩
  | 75 => ⟨S1x8x1x8x1, .f32⟩
  | 76 => ⟨S8x8x16x8x64, .f32⟩
  | 77 => ⟨S8x8x16x8x64, .f32⟩
  | 78 => ⟨S8x8x16x8x64, .f32⟩
  | 79 => ⟨S8x128x512, .f32⟩
  | 80 => ⟨S8x128x1024, .f32⟩
  | 81 => ⟨S8x8x16x64, .f32⟩
  | 82 => ⟨S8x8x64x16, .f32⟩
  | 83 => ⟨S8x8x64x1x16, .f32⟩
  | 84 => ⟨S1x8x1x8x1, .f32⟩
  | 85 => ⟨S8x8x64x8x16, .f32⟩
  | 86 => ⟨S8x8x64x8x16, .f32⟩
  | 87 => ⟨S8x8x64x8x16, .f32⟩
  | 88 => ⟨S8x512x128, .f32⟩
  | 89 => ⟨S8x8x16x64, .f32⟩
  | 90 => ⟨S8x8x64x16, .f32⟩
  | 91 => ⟨S8x8x64x1x16, .f32⟩
  | 92 => ⟨S1x8x1x8x1, .f32⟩
  | 93 => ⟨S8x8x64x8x16, .f32⟩
  | 94 => ⟨S8x8x64x8x16, .f32⟩
  | 95 => ⟨S8x8x64x8x16, .f32⟩
  | 96 => ⟨S8x512x128, .f32⟩
  | 97 => ⟨S8x512x128, .f32⟩
  | 98 => ⟨S8x1024x128, .f32⟩
  | 99 => ⟨S8x128x1024, .f32⟩
  | 100 => ⟨S8x1x512, .f32⟩
  | 101 => ⟨S8x1x512, .f32⟩
  | 102 => ⟨S8x1x512, .f32⟩
  | 103 => ⟨S64x64, .f32⟩
  | 104 => ⟨S64x64, .f32⟩
  | 105 => ⟨S64x64, .f32⟩
  | 106 => ⟨S_, .f32⟩
  | 107 => ⟨S64, .f32⟩
  | 108 => ⟨S8x128x512, .f32⟩
  | 109 => ⟨S8x8, .i32⟩
  | 110 => ⟨S8x8, .i32⟩
  | 111 => ⟨S_, .i32⟩
  | 112 => ⟨S8x8, .i32⟩
  | 113 => ⟨S8x8, .i32⟩
  | 114 => ⟨S8x8, .i1⟩
  | 115 => ⟨S8x8, .f32⟩
  | 116 => ⟨S8x8x16x8x64, .f32⟩
  | 117 => ⟨S1x8x1x8x1, .f32⟩
  | 118 => ⟨S8x8x16x8x64, .f32⟩
  | 119 => ⟨S8x8x16x8x64, .f32⟩
  | 120 => ⟨S_, .f32⟩
  | 121 => ⟨S8x8x16x64, .f32⟩
  | 122 => ⟨S8x8x64x16, .f32⟩
  | 123 => ⟨S64x64x16, .f32⟩
  | 124 => ⟨S8x128x512, .f32⟩
  | 125 => ⟨S8x8, .i32⟩
  | 126 => ⟨S8x8, .i32⟩
  | 127 => ⟨S_, .i32⟩
  | _ => ⟨S64x64, .f32⟩

abbrev hbmTy0_1 (i : Nat) : BufTy := match i % 128 with
  | 0 => ⟨S8x8, .i32⟩
  | 1 => ⟨S8x8, .i32⟩
  | 2 => ⟨S8x8, .i1⟩
  | 3 => ⟨S8x8, .f32⟩
  | 4 => ⟨S8x8x16x8x64, .f32⟩
  | 5 => ⟨S1x8x1x8x1, .f32⟩
  | 6 => ⟨S8x8x16x8x64, .f32⟩
  | 7 => ⟨S8x8x16x8x64, .f32⟩
  | 8 => ⟨S_, .f32⟩
  | 9 => ⟨S8x8x16x64, .f32⟩
  | 10 => ⟨S8x8x64x16, .f32⟩
  | 11 => ⟨S64x64x16, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_0 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88_0 : Ref sig .tc := ⟨.hbm, 99, rfl⟩
abbrev main_v88_1 : Ref sig .tc := ⟨.hbm, 100, rfl⟩
abbrev main_v88_2 : Ref sig .tc := ⟨.hbm, 101, rfl⟩
abbrev main_v88_3 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_cst_1 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_c_2 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_3 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_c_4 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_5 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PrepRefIdeal.lean ====
abbrev S64x64 : Shape := ⟨2, ![64, 64]⟩
abbrev S64 : Shape := ⟨1, ![64]⟩
abbrev S64x64x16 : Shape := ⟨3, ![64, 64, 16]⟩
abbrev S8x8x1024 : Shape := ⟨3, ![8, 8, 1024]⟩
abbrev S64x1 : Shape := ⟨2, ![64, 1]⟩
abbrev S_ : Shape := ⟨0, ![]⟩
abbrev S64x64x1 : Shape := ⟨3, ![64, 64, 1]⟩
abbrev S8x1024 : Shape := ⟨2, ![8, 1024]⟩
abbrev S8x512 : Shape := ⟨2, ![8, 512]⟩

abbrev nBuf : Space → Nat
  | .hbm => 172
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64x16, .f32⟩
  | 6 => ⟨S64x64x16, .f32⟩
  | 7 => ⟨S8x8x1024, .f32⟩
  | 8 => ⟨S64, .f32⟩
  | 9 => ⟨S64x1, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S_, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S_, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S_, .f32⟩
  | 43 => ⟨S64x64, .f32⟩
  | 44 => ⟨S64x64, .f32⟩
  | 45 => ⟨S64x64x1, .f32⟩
  | 46 => ⟨S64x64x16, .f32⟩
  | 47 => ⟨S64x64x16, .f32⟩
  | 48 => ⟨S64x64x1, .f32⟩
  | 49 => ⟨S64x64x16, .f32⟩
  | 50 => ⟨S64x64x16, .f32⟩
  | 51 => ⟨S64x64x16, .f32⟩
  | 52 => ⟨S64x64x1, .f32⟩
  | 53 => ⟨S64x64x16, .f32⟩
  | 54 => ⟨S64x64x16, .f32⟩
  | 55 => ⟨S64x64x1, .f32⟩
  | 56 => ⟨S64x64x16, .f32⟩
  | 57 => ⟨S64x64x16, .f32⟩
  | 58 => ⟨S64x64x16, .f32⟩
  | 59 => ⟨S_, .f32⟩
  | 60 => ⟨S8x1024, .f32⟩
  | 61 => ⟨S8x512, .f32⟩
  | 62 => ⟨S64x64, .f32⟩
  | 63 => ⟨S8x512, .f32⟩
  | 64 => ⟨S64x64, .f32⟩
  | 65 => ⟨S64x64x16, .f32⟩
  | 66 => ⟨S64x64x16, .f32⟩
  | 67 => ⟨S64x64x16, .f32⟩
  | 68 => ⟨S64x64x16, .f32⟩
  | 69 => ⟨S64x64x16, .f32⟩
  | 70 => ⟨S_, .f32⟩
  | 71 => ⟨S64x64, .f32⟩
  | 72 => ⟨S64x64x1, .f32⟩
  | 73 => ⟨S_, .f32⟩
  | 74 => ⟨S64x64, .f32⟩
  | 75 => ⟨S64x64x16, .f32⟩
  | 76 => ⟨S64x64x16, .f32⟩
  | 77 => ⟨S64x64x16, .f32⟩
  | 78 => ⟨S_, .f32⟩
  | 79 => ⟨S64x64, .f32⟩
  | 80 => ⟨S64x64x1, .f32⟩
  | 81 => ⟨S_, .f32⟩
  | 82 => ⟨S64x64, .f32⟩
  | 83 => ⟨S64x64x16, .f32⟩
  | 84 => ⟨S64x64x16, .f32⟩
  | 85 => ⟨S64x64x16, .f32⟩
  | 86 => ⟨S64x64x16, .f32⟩
  | 87 => ⟨S64x64x16, .f32⟩
  | 88 => ⟨S64x64x16, .f32⟩
  | 89 => ⟨S_, .f32⟩
  | 90 => ⟨S64x64, .f32⟩
  | 91 => ⟨S64x64x1, .f32⟩
  | 92 => ⟨S_, .f32⟩
  | 93 => ⟨S64x64, .f32⟩
  | 94 => ⟨S64x64, .f32⟩
  | 95 => ⟨S64x64x16, .f32⟩
  | 96 => ⟨S64x64x16, .f32⟩
  | 97 => ⟨S64x64x16, .f32⟩
  | 98 => ⟨S64x64x16, .f32⟩
  | 99 => ⟨S_, .f32⟩
  | 100 => ⟨S64x64, .f32⟩
  | 101 => ⟨S64x64x1, .f32⟩
  | 102 => ⟨S_, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S_, .f32⟩
  | 14 => ⟨S64, .f32⟩
  | 15 => ⟨S64x1, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S_, .f32⟩
  | 26 => ⟨S64, .f32⟩
  | 27 => ⟨S64x1, .f32⟩
  | 28 => ⟨S64x1, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S_, .f32⟩
  | 35 => ⟨S64, .f32⟩
  | 36 => ⟨S64x1, .f32⟩
  | 37 => ⟨S64x1, .f32⟩
  | 38 => ⟨S64x64, .f32⟩
  | 39 => ⟨S64x64, .f32⟩
  | 40 => ⟨S64x64, .f32⟩
  | 41 => ⟨S_, .f32⟩
  | 42 => ⟨S64, .f32⟩
  | 43 => ⟨S64, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_2 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_3 : Ref sig .tc := ⟨.hbm, 70, rfl⟩
abbrev main_v58 : Ref sig .tc := ⟨.hbm, 71, rfl⟩
abbrev main_v59 : Ref sig .tc := ⟨.hbm, 72, rfl⟩
abbrev main_cst_4 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_5 : Ref sig .tc := ⟨.hbm, 78, rfl⟩
abbrev main_v64 : Ref sig .tc := ⟨.hbm, 79, rfl⟩
abbrev main_v65 : Ref sig .tc := ⟨.hbm, 80, rfl⟩
abbrev main_cst_6 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_7 : Ref sig .tc := ⟨.hbm, 89, rfl⟩
abbrev main_v73 : Ref sig .tc := ⟨.hbm, 90, rfl⟩
abbrev main_v74 : Ref sig .tc := ⟨.hbm, 91, rfl⟩
abbrev main_cst_8 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_9 : Ref sig .tc := ⟨.hbm, 99, rfl⟩
abbrev main_v81 : Ref sig .tc := ⟨.hbm, 100, rfl⟩
abbrev main_v82 : Ref sig .tc := ⟨.hbm, 101, rfl⟩
abbrev main_cst_10 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_cst_11 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_cst_12 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_cst_13 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_cst_14 : Ref sig .tc := ⟨.hbm, 169, rfl⟩
abbrev main_v146 : Ref sig .tc := ⟨.hbm, 170, rfl⟩
abbrev main_v147 : Ref sig .tc := ⟨.hbm, 171, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S16384x2816 : Shape := ⟨2, ![16384, 2816]⟩
abbrev S256x1024 : Shape := ⟨2, ![256, 1024]⟩
abbrev S16x1024 : Shape := ⟨2, ![16, 1024]⟩
abbrev S1024x2816 : Shape := ⟨2, ![1024, 2816]⟩
abbrev S3x2816 : Shape := ⟨2, ![3, 2816]⟩
abbrev S1x2816 : Shape := ⟨2, ![1, 2816]⟩
abbrev S256x2816 : Shape := ⟨2, ![256, 2816]⟩
abbrev S272x1024 : Shape := ⟨2, ![272, 1024]⟩
abbrev S16 : Shape := ⟨1, ![16]⟩
abbrev S16x1 : Shape := ⟨2, ![16, 1]⟩
abbrev S256 : Shape := ⟨1, ![256]⟩
abbrev S256x1 : Shape := ⟨2, ![256, 1]⟩
abbrev S272x2816 : Shape := ⟨2, ![272, 2816]⟩
abbrev S5632x1024 : Shape := ⟨2, ![5632, 1024]⟩
abbrev S2x8x2816 : Shape := ⟨3, ![2, 8, 2816]⟩
abbrev S16x2816 : Shape := ⟨2, ![16, 2816]⟩
abbrev S8x256 : Shape := ⟨2, ![8, 256]⟩
abbrev S1x8x2816 : Shape := ⟨3, ![1, 8, 2816]⟩
abbrev S8x2816 : Shape := ⟨2, ![8, 2816]⟩
abbrev S8x2x2816 : Shape := ⟨3, ![8, 2, 2816]⟩
abbrev S8x5632 : Shape := ⟨2, ![8, 5632]⟩

abbrev nBuf : Space → Nat
  | .hbm => 31
  | .vmem => 60
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S16384x1024, .f32⟩
  | .hbm, ⟨7, _⟩ => ⟨S1x1024, .f32⟩
  | .hbm, ⟨8, _⟩ => ⟨S1x5632, .f32⟩
  | .hbm, ⟨9, _⟩ => ⟨S1024x5632, .bf16⟩
  | .hbm, ⟨10, _⟩ => ⟨S2816x1024, .bf16⟩
  | .hbm, ⟨11, _⟩ => ⟨S16384x1024, .f32⟩
  | .hbm, ⟨12, _⟩ => ⟨S16384x2816, .bf16⟩
  | .hbm, ⟨13, _⟩ => ⟨S16384x2816, .bf16⟩
  | .hbm, ⟨14, _⟩ => ⟨S16384x2816, .bf16⟩
  | .hbm, ⟨15, _⟩ => ⟨S16384x2816, .bf16⟩
  | .hbm, ⟨16, _⟩ => ⟨S16384x2816, .bf16⟩
  | .hbm, ⟨17, _⟩ => ⟨S1024x2816, .bf16⟩
  | .hbm, ⟨18, _⟩ => ⟨S5632x1024, .bf16⟩
  | .hbm, ⟨19, _⟩ => ⟨S16384x1024, .f32⟩
  | .hbm, ⟨20, _⟩ => ⟨S16384x2816, .bf16⟩
  | .hbm, ⟨21, _⟩ => ⟨S16384x2816, .bf16⟩
  | .hbm, ⟨22, _⟩ => ⟨S16384x1024, .bf16⟩
  | .hbm, ⟨23, _⟩ => ⟨S2x8x2816, .f32⟩
  | .hbm, ⟨24, _⟩ => ⟨S1x1024, .f32⟩
  | .hbm, ⟨25, _⟩ => ⟨S8x2x2816, .f32⟩
  | .hbm, ⟨26, _⟩ => ⟨S8x5632, .f32⟩
  | .hbm, ⟨27, _⟩ => ⟨S3x5632, .f32⟩
  | .hbm, ⟨28, _⟩ => ⟨S1x5632, .f32⟩
  | .hbm, ⟨29, _⟩ => ⟨S5632, .f32⟩
  | .hbm, ⟨30, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S3x2816, .f32⟩
  | .local _ .vmem, ⟨8, _⟩ => ⟨S3x2816, .f32⟩
  | .local _ .vmem, ⟨9, _⟩ => ⟨S1x2816, .f32⟩
  | .local _ .vmem, ⟨10, _⟩ => ⟨S1x2816, .f32⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S272x1024, .bf16⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S16x1024, .f32⟩
  | .local _ .vmem, ⟨31, _⟩ => ⟨S16x1024, .f32⟩
  | .local _ .vmem, ⟨32, _⟩ => ⟨S256x2816, .bf16⟩
  | .local _ .vmem, ⟨33, _⟩ => ⟨S256x2816, .bf16⟩
  | .local _ .vmem, ⟨34, _⟩ => ⟨S256x2816, .bf16⟩
  | .local _ .vmem, ⟨35, _⟩ => ⟨S256x2816, .bf16⟩
  | .local _ .vmem, ⟨36, _⟩ => ⟨S256x2816, .bf16⟩
  | .local _ .vmem, ⟨37, _⟩ => ⟨S256x2816, .bf16⟩
  | .local _ .vmem, ⟨38, _⟩ => ⟨S16x2816, .bf16⟩
  | .local _ .vmem, ⟨39, _⟩ => ⟨S16x2816, .bf16⟩
  | .local _ .vmem, ⟨40, _⟩ => ⟨S256x2816, .bf16⟩
  | .local _ .vmem, ⟨41, _⟩ => ⟨S256x2816, .bf16⟩
  | .local _ .vmem, ⟨42, _⟩ => ⟨S16x2816, .bf16⟩
  | .local _ .vmem, ⟨43, _⟩ => ⟨S16x2816, .bf16⟩
  | .local _ .vmem, ⟨44, _⟩ => ⟨S1x1024, .f32⟩
  | .local _ .vmem, ⟨45, _⟩ => ⟨S3x2816, .f32⟩
  | .local _ .vmem, ⟨46, _⟩ => ⟨S3x2816, .f32⟩
  | .local _ .vmem, ⟨47, _⟩ => ⟨S1024x2816, .bf16⟩
  | .local _ .vmem, ⟨48, _⟩ => ⟨S2816x1024, .bf16⟩
  | .local _ .vmem, ⟨49, _⟩ => ⟨S2816x1024, .bf16⟩
  | .local _ .vmem, ⟨50, _⟩ => ⟨S256x1024, .f32⟩
  | .local _ .vmem, ⟨51, _⟩ => ⟨S256x1024, .f32⟩
  | .local _ .vmem, ⟨52, _⟩ => ⟨S256x2816, .bf16⟩
  | .local _ .vmem, ⟨53, _⟩ => ⟨S256x2816, .bf16⟩
  | .local _ .vmem, ⟨54, _⟩ => ⟨S256x2816, .bf16⟩
  | .local _ .vmem, ⟨55, _⟩ => ⟨S256x2816, .bf16⟩
  | .local _ .vmem, ⟨56, _⟩ => ⟨S256x1024, .bf16⟩
  | .local _ .vmem, ⟨57, _⟩ => ⟨S256x1024, .bf16⟩
  | .local _ .vmem, ⟨58, _⟩ => ⟨S2x8x2816, .f32⟩
  | .local _ .vmem, ⟨59, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg6_1 : Ref sig .tc := ⟨.vmem, 39, rfl⟩
abbrev cc1_stg7_0 : Ref sig .tc := ⟨.vmem, 40, rfl⟩
abbrev cc1_stg7_1 : Ref sig .tc := ⟨.vmem, 41, rfl⟩
abbrev cc1_stg8_0 : Ref sig .tc := ⟨.vmem, 42, rfl⟩
abbrev cc1_stg8_1 : Ref sig .tc := ⟨.vmem, 43, rfl⟩
abbrev cc1_stg9_0 : Ref sig .tc := ⟨.vmem, 44, rfl⟩
abbrev cc1_stg10_0 : Ref sig .tc := ⟨.vmem, 45, rfl⟩
abbrev cc1_stg11_0 : Ref sig .tc := ⟨.vmem, 46, rfl⟩
abbrev cc1_stg12_0 : Ref sig .tc := ⟨.vmem, 47, rfl⟩
abbrev cc1_stg13_0 : Ref sig .tc := ⟨.vmem, 48, rfl⟩
abbrev cc1_stg14_0 : Ref sig .tc := ⟨.vmem, 49, rfl⟩
abbrev cc1_stg15_0 : Ref sig .tc := ⟨.vmem, 50, rfl⟩
abbrev cc1_stg15_1 : Ref sig .tc := ⟨.vmem, 51, rfl⟩
abbrev cc1_stg16_0 : Ref sig .tc := ⟨.vmem, 52, rfl⟩
abbrev cc1_stg16_1 : Ref sig .tc := ⟨.vmem, 53, rfl⟩
abbrev cc1_stg17_0 : Ref sig .tc := ⟨.vmem, 54, rfl⟩
abbrev cc1_stg17_1 : Ref sig .tc := ⟨.vmem, 55, rfl⟩
abbrev cc1_stg18_0 : Ref sig .tc := ⟨.vmem, 56, rfl⟩
abbrev cc1_stg18_1 : Ref sig .tc := ⟨.vmem, 57, rfl⟩
abbrev cc1_stg19_0 : Ref sig .tc := ⟨.vmem, 58, rfl⟩
abbrev cc1_stg20_0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem6_1 : DmaSem sig := 37
abbrev cc1_sem7_0 : DmaSem sig := 38
abbrev cc1_sem7_1 : DmaSem sig := 39
abbrev cc1_sem8_0 : DmaSem sig := 40
abbrev cc1_sem8_1 : DmaSem sig := 41
abbrev cc1_sem9_0 : DmaSem sig := 42
abbrev cc1_sem10_0 : DmaSem sig := 43
abbrev cc1_sem11_0 : DmaSem sig := 44
abbrev cc1_sem12_0 : DmaSem sig := 45
abbrev cc1_sem13_0 : DmaSem sig := 46
abbrev cc1_sem14_0 : DmaSem sig := 47
abbrev cc1_sem15_0 : DmaSem sig := 48
abbrev cc1_sem15_1 : DmaSem sig := 49
abbrev cc1_sem16_0 : DmaSem sig := 50
abbrev cc1_sem16_1 : DmaSem sig := 51
abbrev cc1_sem17_0 : DmaSem sig := 52
abbrev cc1_sem17_1 : DmaSem sig := 53
abbrev cc1_sem18_0 : DmaSem sig := 54
abbrev cc1_sem18_1 : DmaSem sig := 55
abbrev cc1_sem19_0 : DmaSem sig := 56
abbrev cc1_sem20_0 : DmaSem sig := 57

abbrev nD : Nat := 1
abbrev τ : Topo := Topo.v7x

variable {F : FTy → Type} [FloatOps F]

abbrev grid0 : Pipeline.Grid := ⟨2, ![64, 1], ![false, false]⟩

def k0_cond2 (i : grid0.Coords) : BitVec 1 :=
  let arg1 : BitVec 32 := BitVec.ofNat 32 (i 1).val
  let c0_i32_34 : BitVec 32 := 0#32
  let v72 : BitVec 1 := Scalar.cmpi .eq arg1 c0_i32_34
  let v73 : BitVec 32 := Scalar.extui v72
  let c0_i32_35 : BitVec 32 := 0#32
  let v74 : BitVec 1 := Scalar.cmpi .ne v73 c0_i32_35
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_19 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x2816 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2816 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S16x2816 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S3x2816 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S3x2816 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1024x2816 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S2816x1024 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S2816x1024 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S256x1024 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S256x2816 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S256x2816 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S256x1024 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 1 → Memref sig .tc .vmem S2x8x2816 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x1024 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S2x5632 : Shape := ⟨2, ![2, 5632]⟩
abbrev S16386x5632 : Shape := ⟨2, ![16386, 5632]⟩
abbrev S1x5632 : Shape := ⟨2, ![1, 5632]⟩
abbrev S16384x2816 : Shape := ⟨2, ![16384, 2816]⟩

abbrev nBuf : Space → Nat
  | .hbm => 163
  | .vmem => 0
  | .smem => 0
  | _ => 0

abbrev hbmTy0_0 (i : Nat) : BufTy := match i % 128 with
  | 0 => ⟨S16384x1024, .f32⟩
  | 1 => ⟨S1024, .f32⟩
  | 2 => ⟨S1024x5632, .f32⟩
  | 3 => ⟨S3x5632, .f32⟩
  | 4 => ⟨S5632, .f32⟩
  | 5 => ⟨S2816x1024, .f32⟩
  | 6 => ⟨S16384x1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S16384x5632, .f32⟩
  | 28 => ⟨S_, .f32⟩
  | 29 => ⟨S2x5632, .f32⟩
  | 30 => ⟨S16386x5632, .f32⟩
  | 31 => ⟨S_, .f32⟩
  | 32 => ⟨S2x5632, .f32⟩
  | 33 => ⟨S1x5632, .f32⟩
  | 34 => ⟨S5632, .f32⟩
  | 35 => ⟨S16384x5632, .f32⟩
  | 36 => ⟨S1x5632, .f32⟩
  | 37 => ⟨S16384x5632, .f32⟩
  | 38 => ⟨S16384x5632, .f32⟩
  | 39 => ⟨S1x5632, .f32⟩
  | 40 => ⟨S5632, .f32⟩
  | 41 => ⟨S16384x5632, .f32⟩
  | 42 => ⟨S1x5632, .f32⟩
  | 43 => ⟨S16384x5632, .f32⟩
  | 44 => ⟨S16384x5632, .f32⟩
  | 45 => ⟨S16384x5632, .f32⟩
  | 46 => ⟨S1x5632, .f32⟩
  | 47 => ⟨S5632, .f32⟩
  | 48 => ⟨S16384x5632, .f32⟩
  | 49 => ⟨S1x5632, .f32⟩
  | 50 => ⟨S16384x5632, .f32⟩
  | 51 => ⟨S16384x5632, .f32⟩
  | 52 => ⟨S16384x5632, .f32⟩
  | 53 => ⟨S1x5632, .f32⟩
  | 54 => ⟨S16384x5632, .f32⟩
  | 55 => ⟨S16384x5632, .f32⟩
  | 56 => ⟨S16384x2816, .f32⟩
  | 57 => ⟨S16384x2816, .f32⟩
  | 58 => ⟨S16384x2816, .f32⟩
  | 59 => ⟨S16384x2816, .f32⟩
  | 60 => ⟨S_, .f32⟩
  | 61 => ⟨S16384x2816, .f32⟩
  | 62 => ⟨S16384x2816, .f32⟩
  | 63 => ⟨S_, .f32⟩
  | 64 => ⟨S16384x2816, .f32⟩
  | 65 => ⟨S16384x2816, .f32⟩
  | 66 => ⟨S_, .f32⟩
  | 67 => ⟨S16384x2816, .f32⟩
  | 68 => ⟨S16384x2816, .f32⟩
  | 69 => ⟨S16384x2816, .f32⟩
  | 70 => ⟨S16384x2816, .f32⟩
  | 71 => ⟨S16384x2816, .f32⟩
  | 72 => ⟨S16384x1024, .f32⟩
  | 73 => ⟨S16384x2816, .f32⟩
  | 74 => ⟨S16384x2816, .f32⟩
  | 75 => ⟨S16384x2816, .f32⟩
  | 76 => ⟨S16384x2816, .f32⟩
  | 77 => ⟨S16384x2816, .f32⟩
  | 78 => ⟨S16384x2816, .f32⟩
  | 79 => ⟨S16384x2816, .f32⟩
  | 80 => ⟨S16384x5632, .f32⟩
  | 81 => ⟨S_, .f32⟩
  | 82 => ⟨S5632, .f32⟩
  | 83 => ⟨S1x5632, .f32⟩
  | 84 => ⟨S_, .f32⟩
  | 85 => ⟨S5632, .f32⟩
  | 86 => ⟨S16384x5632, .f32⟩
  | 87 => ⟨S16384x5632, .f32⟩
  | 88 => ⟨S16384x5632, .f32⟩
  | 89 => ⟨S_, .f32⟩
  | 90 => ⟨S5632, .f32⟩
  | 91 => ⟨S1x5632, .f32⟩
  | 92 => ⟨S_, .f32⟩
  | 93 => ⟨S5632, .f32⟩
  | 94 => ⟨S_, .f32⟩
  | 95 => ⟨S16386x5632, .f32⟩
  | 96 => ⟨S1x5632, .f32⟩
  | 97 => ⟨S_, .f32⟩
  | 98 => ⟨S3x5632, .f32⟩
  | 99 => ⟨S16384x5632, .f32⟩
  | 100 => ⟨S16384x5632, .f32⟩
  | 101 => ⟨S16384x5632, .f32⟩
  | 102 => ⟨S_, .f32⟩
  | 103 => ⟨S5632, .f32⟩
  | 104 => ⟨S1x5632, .f32⟩
  | 105 => ⟨S_, .f32⟩
  | 106 => ⟨S5632, .f32⟩
  | 107 => ⟨S_, .f32⟩
  | 108 => ⟨S16386x5632, .f32⟩
  | 109 => ⟨S16386x5632, .f32⟩
  | 110 => ⟨S1x5632, .f32⟩
  | 111 => ⟨S_, .f32⟩
  | 112 => ⟨S3x5632, .f32⟩
  | 113 => ⟨S3x5632, .f32⟩
  | 114 => ⟨S16384x5632, .f32⟩
  | 115 => ⟨S16384x5632, .f32⟩
  | 116 => ⟨S16384x5632, .f32⟩
  | 117 => ⟨S_, .f32⟩
  | 118 => ⟨S5632, .f32⟩
  | 119 => ⟨S1x5632, .f32⟩
  | 120 => ⟨S_, .f32⟩
  | 121 => ⟨S5632, .f32⟩
  | 122 => ⟨S_, .f32⟩
  | 123 => ⟨S16386x5632, .f32⟩
  | 124 => ⟨S16386x5632, .f32⟩
  | 125 => ⟨S1x5632, .f32⟩
  | 126 => ⟨S_, .f32⟩
  | 127 => ⟨S3x5632, .f32⟩
  | _ => ⟨S16384x1024, .f32⟩

abbrev hbmTy0_1 (i : Nat) : BufTy := match i % 128 with
  | 0 => ⟨S3x5632, .f32⟩
  | 1 => ⟨S2x5632, .f32⟩
  | 2 => ⟨S16384x5632, .f32⟩
  | 3 => ⟨S16384x1024, .f32⟩
  | 4 => ⟨S16384x1024, .f32⟩
  | 5 => ⟨S_, .f32⟩
  | 6 => ⟨S1024, .f32⟩
  | 7 => ⟨S1x1024, .f32⟩
  | 8 => ⟨S16384x1024, .f32⟩
  | 9 => ⟨S16384x1024, .f32⟩
  | 10 => ⟨S_, .f32⟩
  | 11 => ⟨S1024, .f32⟩
  | 12 => ⟨S16384x1024, .f32⟩
  | 13 => ⟨S_, .f32⟩
  | 14 => ⟨S16384, .f32⟩
  | 15 => ⟨S16384x1, .f32⟩
  | 16 => ⟨S16384x1024, .f32⟩
  | 17 => ⟨S16384x1024, .f32⟩
  | 18 => ⟨S16384x1, .f32⟩
  | 19 => ⟨S_, .f32⟩
  | 20 => ⟨S16384x1, .f32⟩
  | 21 => ⟨S16384x1, .f32⟩
  | 22 => ⟨S_, .f32⟩
  | 23 => ⟨S16384, .f32⟩
  | 24 => ⟨S16384x1024, .f32⟩
  | 25 => ⟨S16384x1024, .f32⟩
  | 26 => ⟨S16384x1024, .f32⟩
  | 27 => ⟨S16384x1024, .f32⟩
  | 28 => ⟨S16384x1024, .f32⟩
  | 29 => ⟨S16384x1024, .f32⟩
  | 30 => ⟨S16384x1024, .f32⟩
  | 31 => ⟨S16384x2816, .f32⟩
  | 32 => ⟨S16384x2816, .bf16⟩
  | 33 => ⟨S16384x2816, .f32⟩
  | 34 => ⟨S16384x2816, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v45_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v45_1 : Ref sig .tc := ⟨.hbm, 69, rfl⟩
abbrev main_v45_0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v51 : Ref sig .tc := ⟨.hbm, 79, rfl⟩
abbrev main_v52 : Ref sig .tc := ⟨.hbm, 80, rfl⟩
abbrev main_cst_5 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_7 : Ref sig .tc := ⟨.hbm, 89, rfl⟩
abbrev main_v59 : Ref sig .tc := ⟨.hbm, 90, rfl⟩
abbrev main_v60 : Ref sig .tc := ⟨.hbm, 91, rfl⟩
abbrev main_cst_8 : Ref sig .tc := ⟨.hbm, 92, rfl⟩
abbrev main_v61 : Ref sig .tc := ⟨.hbm, 93, rfl⟩
abbrev main_cst_9 : Ref sig .tc := ⟨.hbm, 94, rfl⟩
abbrev main_v62 : Ref sig .tc := ⟨.hbm, 95, rfl⟩
abbrev main_v63 : Ref sig .tc := ⟨.hbm, 96, rfl⟩
abbrev main_cst_10 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_11 : Ref sig .tc := ⟨.hbm, 102, rfl⟩
abbrev main_v68 : Ref sig .tc := ⟨.hbm, 103, rfl⟩
abbrev main_v69 : Ref sig .tc := ⟨.hbm, 104, rfl⟩
abbrev main_cst_12 : Ref sig .tc := ⟨.hbm, 105, rfl⟩
abbrev main_v70 : Ref sig .tc := ⟨.hbm, 106, rfl⟩
abbrev main_cst_13 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_v80 : Ref sig .tc := ⟨.hbm, 119, rfl⟩
abbrev main_cst_16 : Ref sig .tc := ⟨.hbm, 120, rfl⟩
abbrev main_v81 : Ref sig .tc := ⟨.hbm, 121, rfl⟩
abbrev main_cst_17 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_18 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_19 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_20 : Ref sig .tc := ⟨.hbm, 138, rfl⟩
abbrev main_v95 : Ref sig .tc := ⟨.hbm, 139, rfl⟩
abbrev main_v96 : Ref sig .tc := ⟨.hbm, 140, rfl⟩
abbrev main_cst_21 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_22 : Ref sig .tc := ⟨.hbm, 147, rfl⟩
abbrev main_v102 : Ref sig .tc := ⟨.hbm, 148, rfl⟩
abbrev main_v103 : Ref sig .tc := ⟨.hbm, 149, rfl⟩
abbrev main_cst_23 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩

abbrev nD : Nat := 1
abbrev τ : Topo := Topo.v7x

variable {F : FTy → Type} [FloatOps F]
-- ==== Front.lean ====
abbrev S16384x1024 : Shape := ⟨2, ![16384, 1024]⟩
abbrev S16384 : Shape := ⟨1, ![16384]⟩
abbrev S1024 : Shape := ⟨1, ![1024]⟩
abbrev S1024x704 : Shape := ⟨2, ![1024, 704]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S_ : Shape := ⟨0, ![]⟩
abbrev S1024x768 : Shape := ⟨2, ![1024, 768]⟩
abbrev S384x8x192 : Shape := ⟨3, ![384, 8, 192]⟩
abbrev S384x8x256 : Shape := ⟨3, ![384, 8, 256]⟩
abbrev S384x2048 : Shape := ⟨2, ![384, 2048]⟩
abbrev S32 : Shape := ⟨1, ![32]⟩
abbrev S64 : Shape := ⟨1, ![64]⟩
abbrev S128 : Shape := ⟨1, ![128]⟩
abbrev S1x128 : Shape := ⟨2, ![1, 128]⟩
abbrev S16384x1 : Shape := ⟨2, ![16384, 1]⟩
abbrev S1x1024 : Shape := ⟨2, ![1, 1024]⟩
abbrev S1x384 : Shape := ⟨2, ![1, 384]⟩
abbrev S1x256 : Shape := ⟨2, ![1, 256]⟩
abbrev S16384x2048 : Shape := ⟨2, ![16384, 2048]⟩
abbrev S512x1024 : Shape := ⟨2, ![512, 1024]⟩
abbrev S512x1 : Shape := ⟨2, ![512, 1]⟩
abbrev S512x2048 : Shape := ⟨2, ![512, 2048]⟩
abbrev S512 : Shape := ⟨1, ![512]⟩
abbrev S512x768 : Shape := ⟨2, ![512, 768]⟩
abbrev S512x384 : Shape := ⟨2, ![512, 384]⟩
abbrev S512x256 : Shape := ⟨2, ![512, 256]⟩
abbrev S512x128 : Shape := ⟨2, ![512, 128]⟩

abbrev nBuf : Space → Nat
  | .hbm => 47
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1024, .f32⟩
  | .hbm, ⟨3, _⟩ => ⟨S1024x704, .f32⟩
  | .hbm, ⟨4, _⟩ => ⟨S384, .f32⟩
  | .hbm, ⟨5, _⟩ => ⟨S256, .f32⟩
  | .hbm, ⟨6, _⟩ => ⟨S384x1536, .f32⟩
  | .hbm, ⟨7, _⟩ => ⟨S256x2048, .f32⟩
  | .hbm, ⟨8, _⟩ => ⟨S_, .i32⟩
  | .hbm, ⟨9, _⟩ => ⟨S_, .f32⟩
  | .hbm, ⟨10, _⟩ => ⟨S1024x768, .f32⟩
  | .hbm, ⟨11, _⟩ => ⟨S1024x768, .bf16⟩
  | .hbm, ⟨12, _⟩ => ⟨S384x8x192, .f32⟩
  | .hbm, ⟨13, _⟩ => ⟨S_, .i32⟩
  | .hbm, ⟨14, _⟩ => ⟨S_, .f32⟩
  | .hbm, ⟨15, _⟩ => ⟨S384x8x256, .f32⟩
  | .hbm, ⟨16, _⟩ => ⟨S384x2048, .f32⟩
  | .hbm, ⟨17, _⟩ => ⟨S384x2048, .bf16⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S64, .f32⟩
  | .hbm, ⟨36, _⟩ => ⟨S128, .f32⟩
  | .hbm, ⟨37, _⟩ => ⟨S1x128, .f32⟩
  | .hbm, ⟨38, _⟩ => ⟨S16384, .f32⟩
  | .hbm, ⟨39, _⟩ => ⟨S16384x1, .f32⟩
  | .hbm, ⟨40, _⟩ => ⟨S1x1024, .f32⟩
  | .hbm, ⟨41, _⟩ => ⟨S1x384, .f32⟩
  | .hbm, ⟨42, _⟩ => ⟨S1x256, .f32⟩
  | .hbm, ⟨43, _⟩ => ⟨S256x2048, .bf16⟩
  | .hbm, ⟨44, _⟩ => ⟨S16384x2048, .bf16⟩
  | .hbm, ⟨45, _⟩ => ⟨S16384x2048, .bf16⟩
  | .hbm, ⟨46, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1, .f32⟩
  | .local _ .vmem, ⟨3, _⟩ => ⟨S512x1, .f32⟩
  | .local _ .vmem, ⟨4, _⟩ => ⟨S1x1024, .f32⟩
  | .local _ .vmem, ⟨5, _⟩ => ⟨S1024x768, .bf16⟩
  | .local _ .vmem, ⟨6, _⟩ => ⟨S1x384, .f32⟩
  | .local _ .vmem, ⟨7, _⟩ => ⟨S1x256, .f32⟩
  | .local _ .vmem, ⟨8, _⟩ => ⟨S384x2048, .bf16⟩
  | .local _ .vmem, ⟨9, _⟩ => ⟨S256x2048, .bf16⟩
  | .local _ .vmem, ⟨10, _⟩ => ⟨S1x128, .f32⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x1024, .bf16⟩
  | .local _ .vmem, ⟨16, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_v26_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FrontIdeal.lean ====
variable {F : FTy → Type} [FloatOps F] [Named F]
def κ : String → Option EReal := fun
  | "prescale" => some (((Real.sqrt 192)⁻¹ * (Real.log 2)⁻¹ : ℝ) : EReal)
  | _ => none
-- ==== FrontRefIdeal.lean ====
abbrev S16384x1024 : Shape := ⟨2, ![16384, 1024]⟩
abbrev S16384 : Shape := ⟨1, ![16384]⟩
abbrev S1024 : Shape := ⟨1, ![1024]⟩
abbrev S1024x704 : Shape := ⟨2, ![1024, 704]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S1x1024 : Shape := ⟨2, ![1, 1024]⟩
abbrev S16384x704 : Shape := ⟨2, ![16384, 704]⟩
abbrev S16384x384 : Shape := ⟨2, ![16384, 384]⟩
abbrev S16384x256 : Shape := ⟨2, ![16384, 256]⟩
abbrev S16384x64 : Shape := ⟨2, ![16384, 64]⟩
abbrev S1x384 : Shape := ⟨2, ![1, 384]⟩
abbrev S16384x1536 : Shape := ⟨2, ![16384, 1536]⟩
abbrev S16384x8x192 : Shape := ⟨3, ![16384, 8, 192]⟩
abbrev S1x256 : Shape := ⟨2, ![1, 256]⟩
abbrev S16384x2048 : Shape := ⟨2, ![16384, 2048]⟩
abbrev S16384x8x256 : Shape := ⟨3, ![16384, 8, 256]⟩
abbrev S16384x8x128 : Shape := ⟨3, ![16384, 8, 128]⟩
abbrev S16384x8x64 : Shape := ⟨3, ![16384, 8, 64]⟩
abbrev S16384x1x32 : Shape := ⟨3, ![16384, 1, 32]⟩
abbrev S16384x8x32 : Shape := ⟨3, ![16384, 8, 32]⟩
abbrev S16384x1x64 : Shape := ⟨3, ![16384, 1, 64]⟩

abbrev nBuf : Space → Nat
  | .hbm => 142
  | .vmem => 0
  | .smem => 0
  | _ => 0

abbrev hbmTy0_0 (i : Nat) : BufTy := match i % 128 with
  | 0 => ⟨S16384x1024, .f32⟩
  | 1 => ⟨S16384, .i32⟩
  | 2 => ⟨S1024, .f32⟩
  | 3 => ⟨S1024x704, .f32⟩
  | 4 => ⟨S384, .f32⟩
  | 5 => ⟨S256, .f32⟩
  | 6 => ⟨S384x1536, .f32⟩
  | 7 => ⟨S256x2048, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S16384, .f32⟩
  | 25 => ⟨S16384x1, .f32⟩
  | 26 => ⟨S1x32, .f32⟩
  | 27 => ⟨S16384x32, .f32⟩
  | 28 => ⟨S16384x32, .f32⟩
  | 29 => ⟨S16384x32, .f32⟩
  | 30 => ⟨S16384x32, .f32⟩
  | 31 => ⟨S16384x32, .f32⟩
  | 32 => ⟨S16384x1024, .f32⟩
  | 33 => ⟨S_, .f32⟩
  | 34 => ⟨S16384, .f32⟩
  | 35 => ⟨S16384x1, .f32⟩
  | 36 => ⟨S_, .f32⟩
  | 37 => ⟨S16384x1, .f32⟩
  | 38 => ⟨S16384x1, .f32⟩
  | 39 => ⟨S_, .f32⟩
  | 40 => ⟨S16384x1, .f32⟩
  | 41 => ⟨S16384x1, .f32⟩
  | 42 => ⟨S16384x1, .f32⟩
  | 43 => ⟨S16384x1024, .f32⟩
  | 44 => ⟨S16384x1024, .f32⟩
  | 45 => ⟨S1x1024, .f32⟩
  | 46 => ⟨S16384x1024, .f32⟩
  | 47 => ⟨S16384x1024, .f32⟩
  | 48 => ⟨S16384x704, .f32⟩
  | 49 => ⟨S16384x384, .f32⟩
  | 50 => ⟨S16384x256, .f32⟩
  | 51 => ⟨S16384x64, .f32⟩
  | 52 => ⟨S16384x384, .f32⟩
  | 53 => ⟨S_, .f32⟩
  | 54 => ⟨S16384, .f32⟩
  | 55 => ⟨S16384x1, .f32⟩
  | 56 => ⟨S_, .f32⟩
  | 57 => ⟨S16384x1, .f32⟩
  | 58 => ⟨S16384x1, .f32⟩
  | 59 => ⟨S_, .f32⟩
  | 60 => ⟨S16384x1, .f32⟩
  | 61 => ⟨S16384x1, .f32⟩
  | 62 => ⟨S16384x1, .f32⟩
  | 63 => ⟨S16384x384, .f32⟩
  | 64 => ⟨S16384x384, .f32⟩
  | 65 => ⟨S1x384, .f32⟩
  | 66 => ⟨S16384x384, .f32⟩
  | 67 => ⟨S16384x384, .f32⟩
  | 68 => ⟨S16384x1536, .f32⟩
  | 69 => ⟨S16384x8x192, .f32⟩
  | 70 => ⟨S16384x256, .f32⟩
  | 71 => ⟨S_, .f32⟩
  | 72 => ⟨S16384, .f32⟩
  | 73 => ⟨S16384x1, .f32⟩
  | 74 => ⟨S_, .f32⟩
  | 75 => ⟨S16384x1, .f32⟩
  | 76 => ⟨S16384x1, .f32⟩
  | 77 => ⟨S_, .f32⟩
  | 78 => ⟨S16384x1, .f32⟩
  | 79 => ⟨S16384x1, .f32⟩
  | 80 => ⟨S16384x1, .f32⟩
  | 81 => ⟨S16384x256, .f32⟩
  | 82 => ⟨S16384x256, .f32⟩
  | 83 => ⟨S1x256, .f32⟩
  | 84 => ⟨S16384x256, .f32⟩
  | 85 => ⟨S16384x256, .f32⟩
  | 86 => ⟨S16384x2048, .f32⟩
  | 87 => ⟨S16384x8x256, .f32⟩
  | 88 => ⟨S16384x8x128, .f32⟩
  | 89 => ⟨S16384x8x64, .f32⟩
  | 90 => ⟨S16384x1x32, .f32⟩
  | 91 => ⟨S16384x1x32, .f32⟩
  | 92 => ⟨S16384x8x32, .f32⟩
  | 93 => ⟨S16384x8x32, .f32⟩
  | 94 => ⟨S16384x8x32, .f32⟩
  | 95 => ⟨S16384x8x32, .f32⟩
  | 96 => ⟨S16384x8x32, .f32⟩
  | 97 => ⟨S16384x8x32, .f32⟩
  | 98 => ⟨S16384x8x32, .f32⟩
  | 99 => ⟨S16384x8x32, .f32⟩
  | 100 => ⟨S16384x8x32, .f32⟩
  | 101 => ⟨S16384x8x32, .f32⟩
  | 102 => ⟨S16384x8x32, .f32⟩
  | 103 => ⟨S16384x8x32, .f32⟩
  | 104 => ⟨S16384x8x64, .f32⟩
  | 105 => ⟨S16384x8x192, .f32⟩
  | 106 => ⟨S16384x32, .f32⟩
  | 107 => ⟨S16384x32, .f32⟩
  | 108 => ⟨S16384x32, .f32⟩
  | 109 => ⟨S16384x32, .f32⟩
  | 110 => ⟨S16384x32, .f32⟩
  | 111 => ⟨S16384x32, .f32⟩
  | 112 => ⟨S16384x32, .f32⟩
  | 113 => ⟨S16384x32, .f32⟩
  | 114 => ⟨S16384x64, .f32⟩
  | 115 => ⟨S16384x1x64, .f32⟩
  | 116 => ⟨S16384x8x64, .f32⟩
  | 117 => ⟨S16384x8x128, .f32⟩
  | 118 => ⟨S16384x8x192, .f32⟩
  | 119 => ⟨S_, .f32⟩
  | 120 => ⟨S_, .f32⟩
  | 121 => ⟨S_, .f32⟩
  | 122 => ⟨S16384x8x192, .f32⟩
  | 123 => ⟨S16384x8x192, .f32⟩
  | 124 => ⟨S_, .f32⟩
  | 125 => ⟨S_, .f32⟩
  | 126 => ⟨S_, .f32⟩
  | 127 => ⟨S16384x8x192, .f32⟩
  | _ => ⟨S16384x1024, .f32⟩

abbrev hbmTy0_1 (i : Nat) : BufTy := match i % 128 with
  | 0 => ⟨S16384x8x192, .f32⟩
  | 1 => ⟨S_, .i32⟩
  | 2 => ⟨S_, .f32⟩
  | 3 => ⟨S16384x8x256, .f32⟩
  | 4 => ⟨S16384x2048, .f32⟩
  | 5 => ⟨S16384x2048, .bf16⟩
  | 6 => ⟨S_, .i32⟩
  | 7 => ⟨S_, .f32⟩
  | 8 => ⟨S16384x8x256, .f32⟩
  | 9 => ⟨S16384x2048, .f32⟩
  | 10 => ⟨S16384x2048, .bf16⟩
  | 11 => ⟨S16384x8x128, .f32⟩
  | 12 => ⟨S16384x1024, .f32⟩
  | 13 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_13 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_14 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_c : Ref sig .tc := ⟨.hbm, 129, rfl⟩
abbrev main_call0_v0 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_c_15 : Ref sig .tc := ⟨.hbm, 134, rfl⟩
abbrev main_call1_v0 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩

abbrev nD : Nat := 1
abbrev τ : Topo := Topo.v7x

variable {F : FTy → Type} [FloatOps F]
-- ==== Proof.Ereal.lean ====
/- Finite extended reals: sums, quotients and the constants of the programs, as real numbers. -/
module

public import Idealize.ShloMosaic.Lib.Pointwise
public import Idealize.ShloMosaic.Lib.ReduceAll
public import Idealize.ShloMosaic.PureOps.Ideal.Laws

@[expose] public section

noncomputable section

open Idealize.ShloMosaic

namespace Cert.Ereal

/-- An index of two coordinates. -/
theorem two {n l : ℕ} (y : (⟨2, ![n, l]⟩ : Shape).Idx) : ∃ (a : Fin n) (j : Fin l), y = ValueIdx.ix2 a j :=
  ⟨y 0, y 1, by funext i; match i with | ⟨0, _⟩ => rfl | ⟨1, _⟩ => rfl⟩

/-- A finite sum of real numbers is the same in the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient by a real number other than zero. -/
theorem div_coe' {y : ℝ} (h : y ≠ 0) (x : ℝ) : Ideal.div (x : EReal) (y : EReal) = ((x / y : ℝ) : EReal) := by
  rw [Ideal.div_coe h, ← EReal.coe_mul]; congr 1; field_simp

/-- The reciprocal square root of a positive real number. -/
theorem rsqrt_pos {x : ℝ} (h : 0 < x) : Ideal.rsqrt (x : EReal) = (((Real.sqrt x)⁻¹ : ℝ) : EReal) := by
  rw [Ideal.rsqrt_coe, if_neg (not_lt.2 h.le), if_neg h.ne']

/-- The word of 1024. -/
theorem lit_1024 : Ideal.ofBits .f32 0x44800000#32 = ((1024 : ℝ) : EReal) := by
  simp [Ideal.ofBits, Ideal.ieee]; rw [← EReal.coe_mul]; norm_num
/-- The word of 1/1024. -/
theorem lit_inv1024 : Ideal.ofBits .f32 0x3A800000#32 = ((1 / 1024 : ℝ) : EReal) := by
  simp [Ideal.ofBits, Ideal.ieee]; rw [← EReal.coe_mul]; norm_num
/-- The word of 1. -/
theorem lit_one : Ideal.ofBits .f32 0x3F800000#32 = ((1 : ℝ) : EReal) := by
  rw [Ideal.ofBits_one_f32]; rfl
/-- The word of 2. -/
theorem lit_two : Ideal.ofBits .f32 0x40000000#32 = ((2 : ℝ) : EReal) := by
  simp [Ideal.ofBits, Ideal.ieee]; rw [← EReal.coe_mul]; norm_num
/-- The word of 1/2. -/
theorem lit_half : Ideal.ofBits .f32 0x3F000000#32 = ((1 / 2 : ℝ) : EReal) := by
  simp [Ideal.ofBits, Ideal.ieee]; rw [← EReal.coe_mul]; norm_num
/-- The word of -1/2. -/
theorem lit_neg_half : Ideal.ofBits .f32 0xBF000000#32 = ((-(1 / 2) : ℝ) : EReal) := by
  simp [Ideal.ofBits, Ideal.ieee]; rw [← EReal.coe_mul]; norm_num

/-- The norm's small constant, the number its 32-bit word is. -/
def eps : ℝ := 8796093 * (2 : ℝ) ^ (-43 : ℤ)
theorem eps_pos : 0 < eps := by unfold eps; positivity
/-- The word of the norm's small constant. -/
theorem lit_eps : Ideal.ofBits .f32 0x358637BD#32 = ((eps : ℝ) : EReal) := by
  simp [Ideal.ofBits, Ideal.ieee, eps]

/-- The word of +∞. -/
theorem lit_inf : Ideal.ofBits .f32 0x7F800000#32 = (⊤ : EReal) := by
  simp [Ideal.ofBits, Ideal.ieee]

/-- An extended real whose absolute value is below +∞ is a real number. -/
theorem finite_of_cmp (a : EReal) (h : Ideal.cmp .olt (max a (-a)) (Ideal.ofBits .f32 0x7F800000#32) = 1#1) :
    ∃ r : ℝ, a = (r : EReal) := by
  rw [lit_inf] at h
  have h' : max a (-a) < ⊤ := by
    by_contra hc
    simp [Ideal.cmp, hc] at h
  induction a with
  | bot => simp at h'
  | top => simp at h'
  | coe r => exact ⟨r, rfl⟩

/-- An array whose `jnp.all(jnp.abs(x) < inf)` is 1 is an array of real numbers. -/
theorem real_of_all {s t u : Shape} [Subsingleton t.Idx] {axes : List (Fin s.rank)} (x : s.Idx → EReal) (b : s.Idx → EReal)
    (hb : ∀ i, b i = Ideal.ofBits .f32 0x7F800000#32) (v : u.Idx → BitVec 1) (h : s.ReducesTo axes t) (hu : 0 < u.numel) (j : t.Idx)
    (e : Host.reduce IntOp.andi (cmpf (F := Ideal) (φ := .f32) .olt (Host.absf x) b) v h hu j = 1#1) :
    ∃ X : s.Idx → ℝ, x = fun i => (X i : EReal) := by
  have key : ∀ i, ∃ r : ℝ, x i = (r : EReal) := fun i => by
    have := Host.reduce_andi_all _ v h hu j e i
    refine finite_of_cmp (x i) ?_
    rw [← hb i]; exact this
  exact ⟨fun i => (key i).choose, funext fun i => (key i).choose_spec⟩

end Cert.Ereal

end
-- ==== Proof.Norm.lean ====
/- The root-mean-square norm of one row of real numbers, and the gradient of a squared error behind it. -/
module

public import proofs.«01_k».proof.Proof.Ereal

@[expose] public section

noncomputable section

namespace Cert.Norm

open Ereal Idealize.ShloMosaic

/-- The mean square of a row, plus the norm's small constant. -/
def ms (x : Fin 1024 → ℝ) : ℝ := (∑ k, x k * x k) / 1024 + eps
/-- The factor the norm multiplies a row by. -/
def rr (x : Fin 1024 → ℝ) : ℝ := (Real.sqrt (ms x))⁻¹

theorem ms_pos (x : Fin 1024 → ℝ) : 0 < ms x :=
  add_pos_of_nonneg_of_pos (div_nonneg (Finset.sum_nonneg fun k _ => mul_self_nonneg _) (by norm_num)) eps_pos

/-- The factor over the mean square is the cube of the factor. -/
theorem rr_div (x : Fin 1024 → ℝ) : rr x / ms x = rr x * rr x * rr x := by
  have h := ms_pos x
  have hs : Real.sqrt (ms x) * Real.sqrt (ms x) = ms x := Real.mul_self_sqrt h.le
  have hp : 0 < Real.sqrt (ms x) := Real.sqrt_pos.2 h
  have hr : rr x * rr x * ms x = 1 := by
    conv_lhs => rw [← hs]
    unfold rr
    field_simp
  rw [div_eq_iff h.ne']
  linear_combination (-rr x) * hr

/-- The mean square as the programs write it. -/
theorem ms_at (v : Fin 1024 → EReal) (x : Fin 1024 → ℝ) (hx : ∀ k, v k = (x k : EReal)) :
    Ideal.div (∑ k, v k * v k) (Ideal.ofBits .f32 0x44800000#32) + Ideal.ofBits .f32 0x358637BD#32 = ((ms x : ℝ) : EReal) := by
  simp only [hx, lit_1024, lit_eps, ← EReal.coe_mul, sum_coe, div_coe' (show (1024 : ℝ) ≠ 0 by norm_num), ← EReal.coe_add, ms]

/-- The factor as the programs write it. -/
theorem rr_at (v : Fin 1024 → EReal) (x : Fin 1024 → ℝ) (hx : ∀ k, v k = (x k : EReal)) :
    Ideal.rsqrt (Ideal.div (∑ k, v k * v k) (Ideal.ofBits .f32 0x44800000#32) + Ideal.ofBits .f32 0x358637BD#32) = ((rr x : ℝ) : EReal) := by
  rw [ms_at v x hx, rsqrt_pos (ms_pos x), rr]

/-- The norm's backward pass on one row: `d` is the gradient of the normed row before the scale. -/
def back (x d : Fin 1024 → ℝ) (c : Fin 1024) : ℝ :=
  rr x * (d c - x c * rr x * ((∑ k, d k * (x k * rr x)) / 1024))

/-- The error of one row after the norm. -/
def er (x t g : Fin 1024 → ℝ) (c : Fin 1024) : ℝ := x c * rr x * g c - t c

end Cert.Norm

end
-- ==== Proof.LossKernel.lean ====
/- What the loss kernel's body computes of one block, as real numbers. -/
module

public import proofs.«01_k».proof.Proof.Gen.LossIdeal.Frame
public import proofs.«01_k».proof.Proof.Norm
public import Idealize.ShloMosaic.Lib.Pipeline.ValueKit

@[expose] public section

set_option maxRecDepth 16384

noncomputable section

namespace Cert.LossIdeal.Row

open LossIdeal LossIdeal.Gen Ereal Norm Idealize.ShloMosaic

variable (v0 v1 : FVec Ideal S1024x1024 .f32) (v2 : FVec Ideal S1x1024 .f32)
variable (x t : Fin 1024 → Fin 1024 → ℝ) (g : Fin 1024 → ℝ)
variable (hx : ∀ r k, v0 (ix2 r k) = (x r k : EReal)) (ht : ∀ r k, v1 (ix2 r k) = (t r k : EReal)) (hg : ∀ k, v2 (ix2 0 k) = (g k : EReal))
include hx

/-- The norm's factor of a row. -/
theorem pay4_at (r : Fin 1024) : k0_pay4 (F := Ideal) v0 (ix2 r 0) = ((rr (x r) : ℝ) : EReal) := by
  pointwise [k0_pay4]
  exact rr_at (fun k => v0 (ix2 r k)) (x r) (hx r)

/-- The normed row. -/
theorem pay5_at (r c : Fin 1024) : k0_pay5 (F := Ideal) v0 (ix2 r c) = ((x r c * rr (x r) : ℝ) : EReal) := by
  pointwise [k0_pay5]
  simp only [pay4_at v0 x hx, hx, ← EReal.coe_mul]

include ht hg

/-- The error of a row. -/
theorem pay6_at (r c : Fin 1024) : k0_pay6 (F := Ideal) v0 v1 v2 (ix2 r c) = ((er (x r) (t r) g c : ℝ) : EReal) := by
  pointwise [k0_pay6, k0_pay3]
  simp only [pay5_at v0 x hx, ht, hg, ← EReal.coe_mul, ← EReal.coe_sub, er]

/-- The gradient of the row before the scale. -/
theorem pay7_at (r c : Fin 1024) : k0_pay7 (F := Ideal) v0 v1 v2 (ix2 r c) = ((er (x r) (t r) g c * (1 / 1024) : ℝ) : EReal) := by
  pointwise [k0_pay7]
  simp only [pay6_at v0 v1 v2 x t g hx ht hg, lit_inv1024, ← EReal.coe_mul]

/-- The gradient of the row before the norm. -/
theorem pay8_at (r c : Fin 1024) :
    k0_pay8 (F := Ideal) v0 v1 v2 (ix2 r c) = ((back (x r) (fun k => er (x r) (t r) g k * (1 / 1024) * g k) c : ℝ) : EReal) := by
  pointwise [k0_pay8, k0_pay3]
  simp only [pay4_at v0 x hx, pay5_at v0 x hx, pay7_at v0 v1 v2 x t g hx ht hg, hg, lit_1024, ← EReal.coe_mul, sum_coe,
    div_coe' (show (1024 : ℝ) ≠ 0 by norm_num), ← EReal.coe_sub, back]

/-- The block's column sums for the scale's gradient. -/
theorem pay9_at (c : Fin 1024) :
    k0_pay9 (F := Ideal) v0 v1 v2 (ix2 0 c) = ∑ r, ((er (x r) (t r) g c * (1 / 1024) * (x r c * rr (x r)) : ℝ) : EReal) := by
  pointwise [k0_pay9]
  simp only [pay5_at v0 x hx, pay7_at v0 v1 v2 x t g hx ht hg, ← EReal.coe_mul]

/-- The block's column sums of the squared error. -/
theorem pay10_at (c : Fin 1024) :
    k0_pay10 (F := Ideal) v0 v1 v2 (ix2 0 c) = ∑ r, ((er (x r) (t r) g c * er (x r) (t r) g c : ℝ) : EReal) := by
  pointwise [k0_pay10]
  simp only [pay6_at v0 v1 v2 x t g hx ht hg, ← EReal.coe_mul]

end Cert.LossIdeal.Row

end
-- ==== Proof.LossRef.lean ====
/- What the loss reference computes of one row, as real numbers. -/
module

public import proofs.«01_k».proof.Proof.Gen.LossRefIdeal.Read
public import proofs.«01_k».proof.Proof.Norm
public import Idealize.ShloMosaic.Lib.Pipeline.ValueKit

@[expose] public section

set_option maxRecDepth 16384

noncomputable section

namespace Cert.LossRefIdeal.Row

open LossRefIdeal LossRefIdeal.Gen LossRefIdeal.Read Ereal Norm Idealize.ShloMosaic

variable (x0 x1 : FVec Ideal S16384x1024 .f32) (x2 : FVec Ideal S1024 .f32)
variable (x t : Fin 16384 → Fin 1024 → ℝ) (g : Fin 1024 → ℝ)
variable (hx : ∀ r k, x0 (ix2 r k) = (x r k : EReal)) (ht : ∀ r k, x1 (ix2 r k) = (t r k : EReal)) (hg : ∀ k, x2 (ix1 k) = (g k : EReal))
include hx

theorem v6_at (r : Fin 16384) : val_main_v6 (F := Ideal) x0 (ix2 r 0) = ((ms (x r) : ℝ) : EReal) := by
  pointwise [val_main_v6, val_main_v5, val_main_v4, val_main_v3, val_main_v2, val_main_v1, val_main_v0, val_main_cst, val_main_cst_0, val_main_cst_1]
  exact ms_at (fun k => x0 (ix2 r k)) (x r) (hx r)

theorem v7_at (r : Fin 16384) : val_main_v7 (F := Ideal) x0 (ix2 r 0) = ((rr (x r) : ℝ) : EReal) := by
  pointwise [val_main_v7]
  rw [v6_at x0 x hx r, rsqrt_pos (ms_pos _), rr]

theorem v12_at (r : Fin 16384) (c : Fin 1024) : val_main_v12 (F := Ideal) x0 (ix2 r c) = ((x r c * rr (x r) : ℝ) : EReal) := by
  pointwise [val_main_v12, val_main_v11]
  simp only [v7_at x0 x hx, hx, ← EReal.coe_mul]

include ht hg

/-- The error of a row. -/
theorem v16_at (r : Fin 16384) (c : Fin 1024) : val_main_v16 (F := Ideal) x0 x1 x2 (ix2 r c) = ((er (x r) (t r) g c : ℝ) : EReal) := by
  pointwise [val_main_v16, val_main_v15, val_main_v14, val_main_v13]
  simp only [v12_at x0 x hx, ht, hg, ← EReal.coe_mul, ← EReal.coe_sub, er]

/-- The gradient of the scaled row. -/
theorem v30_at (r : Fin 16384) (c : Fin 1024) :
    val_main_v30 (F := Ideal) x0 x1 x2 (ix2 r c) = ((er (x r) (t r) g c * (1 / 1024) : ℝ) : EReal) := by
  pointwise [val_main_v30, val_main_v29, val_main_v28, val_main_v27, val_main_v26, val_main_v25, val_main_v19, val_main_v18, val_main_cst_3, val_main_cst_8, val_main_cst_9, val_main_cst_10]
  simp only [v16_at x0 x1 x2 x t g hx ht hg, lit_1024, lit_half, lit_one, lit_two, ← EReal.coe_mul, div_coe' (show (1024 : ℝ) ≠ 0 by norm_num)]
  congr 1; ring

/-- The gradient of the row before the norm. -/
theorem v50_at (r : Fin 16384) (c : Fin 1024) :
    val_main_v50 (F := Ideal) x0 x1 x2 (ix2 r c) = ((back (x r) (fun k => er (x r) (t r) g k * (1 / 1024) * g k) c : ℝ) : EReal) := by
  pointwise [val_main_v50, val_main_v49, val_main_v48, val_main_v47, val_main_v46, val_main_v45, val_main_v44, val_main_v43, val_main_v42, val_main_v41, val_main_v40, val_main_v39, val_main_v38, val_main_v37, val_main_v35, val_main_v34, val_main_v13, val_main_v10, val_main_v9, val_main_v8, val_main_cst_2, val_main_cst_13, val_main_cst_14, val_main_cst_15]
  simp only [Fin.sum_univ_one]
  simp only [v6_at x0 x hx, v7_at x0 x hx, v30_at x0 x1 x2 x t g hx ht hg, hx, hg, lit_1024, lit_neg_half, ← EReal.coe_mul, sum_coe,
    div_coe' (show (1024 : ℝ) ≠ 0 by norm_num), div_coe' (ms_pos _).ne', ← EReal.coe_add, rr_div, back]
  congr 1
  have h : ∑ k, er (x r) (t r) g k * (1 / 1024) * g k * (x r k * rr (x r)) = rr (x r) * ∑ k, x r k * (er (x r) (t r) g k * (1 / 1024) * g k) := by
    rw [Finset.mul_sum]; exact Finset.sum_congr rfl fun k _ => by ring
  rw [h]; ring

/-- The scale's gradient. -/
theorem v53_at (c : Fin 1024) :
    val_main_v53 (F := Ideal) x0 x1 x2 (ix2 0 c) = ∑ r, ((er (x r) (t r) g c * (1 / 1024) * (x r c * rr (x r)) : ℝ) : EReal) := by
  pointwise [val_main_v53, val_main_v36, val_main_v33, val_main_v32, val_main_v31, val_main_cst_12, val_main_cst_11]
  simp only [Fin.sum_univ_one, v12_at x0 x hx, v30_at x0 x1 x2 x t g hx ht hg, ← EReal.coe_mul, mul_comm]

/-- The sum of the squared error over the rows. -/
theorem v52_at (c : Fin 1024) :
    val_main_v52 (F := Ideal) x0 x1 x2 (ix2 0 c) = ∑ r, ((er (x r) (t r) g c * er (x r) (t r) g c : ℝ) : EReal) := by
  pointwise [val_main_v52, val_main_v51, val_main_v17, val_main_cst_16]
  simp only [v16_at x0 x1 x2 x t g hx ht hg, ← EReal.coe_mul]

end Cert.LossRefIdeal.Row

end
-- ==== Proof.LossFinal.lean ====
/- The loss kernel's three result arrays are the reference's, for finite arguments. -/
module

public import proofs.«01_k».proof.Proof.LossKernel
public import proofs.«01_k».proof.Proof.LossRef
public import proofs.«01_k».proof.Proof.Gen.Pre_loss_finite

@[expose] public section

set_option maxRecDepth 16384

noncomputable section

namespace Cert.LossIdeal.Final

open LossIdeal LossIdeal.Gen LossIdeal.Row Ereal Norm Idealize.ShloMosaic TcCoe Idealize.SL.Sem
open Idealize.ShloMosaic.Pipeline (Dat)

variable (m : (ℓ : Loc nD τ sig) → Buf (Elt Ideal) ℓ) (c : Dev nD)
variable (x t : Fin 16384 → Fin 1024 → ℝ) (g : Fin 1024 → ℝ)

theorem idx : ∀ p : Fin cfg0.N, win0_0.index p = ![p.val, 0] ∧ win0_1.index p = ![p.val, 0] ∧ win0_2.index p = ![0, 0] ∧ win0_3.index p = ![p.val, 0]
    ∧ win0_4.index p = ![0, 0] ∧ win0_5.index p = ![0, 0] :=
  (by decide +kernel : ∀ p : Fin grid0.N, _)

/-- The row of the arrays that row `r` of point `p`'s blocks is. -/
def row (p : Fin cfg0.N) (r : Fin 1024) : Fin 16384 := ⟨p.val * 1024 + r.val, by have := p.isLt; have h : cfg0.N = 16 := N_0; omega⟩

/-- Summing over the points and a block's rows is summing over the rows. -/
theorem sum_rows (f : Fin 16384 → EReal) : ∑ p : Fin cfg0.N, ∑ r : Fin 1024, f (row p r) = ∑ r, f r := by
  refine Fin.sum_mul_add_congr fun p r hl => ?_
  rfl

section
variable (hx : ∀ r k, (m (c.tc.loc main_arg0) : FVec Ideal S16384x1024 .f32) (ix2 r k) = (x r k : EReal))
  (ht : ∀ r k, (m (c.tc.loc main_arg1) : FVec Ideal S16384x1024 .f32) (ix2 r k) = (t r k : EReal))
  (hg : ∀ k, (m (c.tc.loc main_arg2) : FVec Ideal S1024 .f32) (ix1 k) = (g k : EReal))

include hx in
theorem blk0 (p : Fin cfg0.N) (r k : Fin 1024) : (iblk m c 0 p : FVec Ideal S1024x1024 .f32) (ix2 r k) = (x (row p r) k : EReal) := by
  rw [← hx]
  blk_ext [iblk, V, idx p, row]

include ht in
theorem blk1 (p : Fin cfg0.N) (r k : Fin 1024) : (iblk m c 1 p : FVec Ideal S1024x1024 .f32) (ix2 r k) = (t (row p r) k : EReal) := by
  rw [← ht]
  blk_ext [iblk, V, idx p, row]

include hg in
theorem blk2 (p : Fin cfg0.N) (k : Fin 1024) : (iblk m c 2 p : FVec Ideal S1x1024 .f32) (ix2 0 k) = (g k : EReal) := by
  rw [← hg]
  blk_point [iblk, idx p]

include hx ht hg

/-- The gradient of the stream entering the norm. -/
theorem final3 (y : S16384x1024.Idx) : (dats m 0 c).arrAt 3 (cfgs 0).N y
    = LossRefIdeal.Read.val_main_v50 (F := Ideal) (m (c.tc.loc main_arg0)) (m (c.tc.loc main_arg1)) (m (c.tc.loc main_arg2)) y := by
  refine congrFun ((dats m 0 c).arrAt_eq_of_covers 3 _ (by decide +kernel) fun p _ y => ?_) y
  blk_simp
  rw [after0_3]
  have key : (outsAt0 m c p.val p.isLt).1 = k0_pay8 (F := Ideal) (iblk m c 0 p) (iblk m c 1 p) (iblk m c 2 p) := by
    rcases Nat.eq_zero_or_pos (p.val % 16) with h | h
    · rw [outsAt0_A m c p h]; frame_out
    · rw [outsAt0_B m c p h.ne']; frame_out
  rw [key]
  obtain ⟨r, k, rfl⟩ := two y
  refine (pay8_at _ _ _ (fun r => x (row p r)) (fun r => t (row p r)) g (blk0 m c x hx p) (blk1 m c t ht p) (blk2 m c g hg p) r k).trans ?_
  rw [← LossRefIdeal.Row.v50_at _ _ _ x t g hx ht hg]
  blk_ext [idx p, row]

/-- The column sums of the squared error. -/
theorem final4 (y : S1x1024.Idx) : (dats m 0 c).arrAt 4 (cfgs 0).N y
    = LossRefIdeal.Read.val_main_v52 (F := Ideal) (m (c.tc.loc main_arg0)) (m (c.tc.loc main_arg1)) (m (c.tc.loc main_arg2)) y := by
  refine congrFun ((dats m 0 c).arrAt_eq_of_after_last 4 t0_15 (by decide +kernel) _ fun y => ?_) y
  blk_simp
  rw [after0_4, Pipeline.eq_sum_fin_of_reset_step_apply_last (fun n h => (outsAt0 m c n h).2.1) 16 (fun _ => 0)
    (fun p j => k0_pay10 (F := Ideal) (iblk m c 0 p) (iblk m c 1 p) (iblk m c 2 p) j)
    (fun t h j => by rw [outsAt0_A m c t h]; frame_out; pointwise [k0_pay1, k0_pay11])
    (fun t h j => by rw [outsAt0_B m c t h]; frame_out; pointwise [k0_pay1]) (le_of_eq N_0) t0_15 rfl _, zero_add]
  obtain ⟨k, rfl⟩ : ∃ (k : Fin 1024), y = ix2 0 k := ⟨y 1, by funext a; match a with | ⟨0, _⟩ => exact Subsingleton.elim (α := Fin 1) _ _ | ⟨1, _⟩ => rfl⟩
  rw [LossRefIdeal.Row.v52_at _ _ _ x t g hx ht hg]
  refine Eq.trans (Fin.sum_fin_congr fun p => pay10_at _ _ _ (fun r => x (row p r)) (fun r => t (row p r)) g (blk0 m c x hx p) (blk1 m c t ht p) (blk2 m c g hg p) k) ?_
  exact sum_rows fun r => ((er (x r) (t r) g k * er (x r) (t r) g k : ℝ) : EReal)

/-- The scale's gradient. -/
theorem final5 (y : S1x1024.Idx) : (dats m 0 c).arrAt 5 (cfgs 0).N y
    = LossRefIdeal.Read.val_main_v53 (F := Ideal) (m (c.tc.loc main_arg0)) (m (c.tc.loc main_arg1)) (m (c.tc.loc main_arg2)) y := by
  refine congrFun ((dats m 0 c).arrAt_eq_of_after_last 5 t0_15 (by decide +kernel) _ fun y => ?_) y
  blk_simp
  rw [after0_5, Pipeline.eq_sum_fin_of_reset_step_apply_last (fun n h => (outsAt0 m c n h).2.2) 16 (fun _ => 0)
    (fun p j => k0_pay9 (F := Ideal) (iblk m c 0 p) (iblk m c 1 p) (iblk m c 2 p) j)
    (fun t h j => by rw [outsAt0_A m c t h]; frame_out; pointwise [k0_pay2, k0_pay12])
    (fun t h j => by rw [outsAt0_B m c t h]; frame_out; pointwise [k0_pay2]) (le_of_eq N_0) t0_15 rfl _, zero_add]
  obtain ⟨k, rfl⟩ : ∃ (k : Fin 1024), y = ix2 0 k := ⟨y 1, by funext a; match a with | ⟨0, _⟩ => exact Subsingleton.elim (α := Fin 1) _ _ | ⟨1, _⟩ => rfl⟩
  rw [LossRefIdeal.Row.v53_at _ _ _ x t g hx ht hg]
  refine Eq.trans (Fin.sum_fin_congr fun p => pay9_at _ _ _ (fun r => x (row p r)) (fun r => t (row p r)) g (blk0 m c x hx p) (blk1 m c t ht p) (blk2 m c g hg p) k) ?_
  exact sum_rows fun r => ((er (x r) (t r) g k * (1 / 1024) * (x r k * rr (x r)) : ℝ) : EReal)
end

/-- Finite arguments, as the precondition says it, are arrays of real numbers. -/
theorem real_args (x0 x1 : FVec Ideal S16384x1024 .f32) (x2 : FVec Ideal S1024 .f32)
    (h : @Pre_loss_finite.fn Pre_loss_finite.Gen.facts Ideal _ x0 x1 x2 = fun _ => 1#1) :
    ∃ (x t : Fin 16384 → Fin 1024 → ℝ) (g : Fin 1024 → ℝ), (∀ r k, x0 (ix2 r k) = (x r k : EReal)) ∧ (∀ r k, x1 (ix2 r k) = (t r k : EReal))
      ∧ (∀ k, x2 (ix1 k) = (g k : EReal)) := by
  have h0 := congrFun h ix0
  simp only [Pre_loss_finite.fn, andi, IntOp.andi_eq_one] at h0
  obtain ⟨⟨a, b⟩, d⟩ := h0
  obtain ⟨X, rfl⟩ := real_of_all x0 _ (fun i => by pointwise) _ _ _ _ a
  obtain ⟨T, rfl⟩ := real_of_all x1 _ (fun i => by pointwise) _ _ _ _ b
  obtain ⟨G, rfl⟩ := real_of_all x2 _ (fun i => by pointwise) _ _ _ _ d
  exact ⟨fun r k => X (ix2 r k), fun r k => T (ix2 r k), fun k => G (ix1 k), fun _ _ => rfl, fun _ _ => rfl, fun _ => rfl⟩

end Cert.LossIdeal.Final

end
-- ==== Proof.LossClaim.lean ====
/- The claims about the loss and its norm. -/
module

public import proofs.«01_k».proof.Defs
public import proofs.«01_k».proof.Proof.Gen.LossIdeal.Frame
public import proofs.«01_k».proof.Proof.Gen.LossRefIdeal.Run
public import proofs.«01_k».proof.Proof.Gen.LossRefIdeal.Read
public import proofs.«01_k».proof.Proof.LossFinal
public import Idealize.ShloMosaic.Lib.Claim

@[expose] public section

set_option maxRecDepth 16384

noncomputable section

namespace Cert.Proof

open Idealize.ShloMosaic Idealize.SL.Sem

/-- The loss reference's frame. -/
theorem loss_ref : Cert.quiescent_LossRefIdeal (hLossRefIdeal := LossRefIdeal.Gen.facts) := by
  intro m g _
  exact (θ_run LossRefIdeal.defs _ _).mono (fun r h => ⟨fun c => (h c).2.2.2, sem_eq_zero_of_no_sems (by decide) r.2⟩) (LossRefIdeal.Value.run m g)

/-- The loss kernel computes the reference's three results on finite arguments. -/
theorem loss_value : Cert.algebraic_LossIdeal_LossRefIdeal_pre_loss_finite (hLossIdeal := LossIdeal.Gen.facts) (hLossRefIdeal := LossRefIdeal.Gen.facts)
    (hPre_loss_finite := Pre_loss_finite.Gen.facts) := by
  pair_intro
  · run_from LossIdeal.Gen.run_main m g
  · refine (θ_run LossRefIdeal.defs _ _).mono (fun r h c => ?_) (LossRefIdeal.Value.run m' g')
    obtain ⟨h50, h52, h53, h0⟩ := h c
    replace h50 := h50.trans (LossRefIdeal.Read.val_main_v50_eq m' c)
    replace h52 := h52.trans (LossRefIdeal.Read.val_main_v52_eq _ _ _)
    replace h53 := h53.trans (LossRefIdeal.Read.val_main_v53_eq _ _ _)
    obtain ⟨x, t, g, hx, ht, hg⟩ := LossIdeal.Final.real_args _ _ _ (hpre c)
    rw [(hagree c).1, (hagree c).2.1, (hagree c).2.2] at h50 h52 h53
    exact ⟨h50.trans (funext fun y => (LossIdeal.Final.final3 m c x t g hx ht hg y).symm),
      h52.trans (funext fun y => (LossIdeal.Final.final4 m c x t g hx ht hg y).symm),
      h53.trans (funext fun y => (LossIdeal.Final.final5 m c x t g hx ht hg y).symm), h0⟩

end Cert.Proof

end
-- ==== Proof.FlashRun.lean ====
module

public import proofs.«01_k».proof.Proof.Gen.FlashIdeal.Launch
public import proofs.«01_k».proof.Proof.Gen.FlashIdeal.Skeleton
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Pipeline.FrameBody

@[expose] public section

set_option maxRecDepth 16384

noncomputable section

namespace Cert.FlashIdeal.Body

open Idealize.ShloMosaic TcCoe Tactic
open Idealize.SL RA BI
open scoped Idealize.SL.BI
open Idealize.SL.BI.BIBase Idealize.SL.BI.Laws Idealize.SL.ProofMode Idealize.SL.Sem
open Idealize.ShloMosaic.Rounds
open FlashIdeal.Gen

variable {F : FTy → Type} [FloatOps F] [Named F]

local notation "𝕄" => MT nD τ sig Unit (Elt F) ℕ (UR sig nD τ) ℕ

/-- The word of a table that the point `i` loads. -/
abbrev word (i : grid0.Coords) (T : Vec F S72 .i32) : BitVec 32 :=
  T ((Rect.unit (s := S72) (k0_off1 i) S1.size (k0_off1_inb i)).toLoadRect.idx (Shape.Idx.first (s := S1) (numel1_S1.symm ▸ Nat.one_pos)))

/-- The printed test of the first `scf.if`: the query tile is the first one that sees the key tile. -/
abbrev cond1 (v1 v3 : BitVec 32) : BitVec 1 :=
  Scalar.cmpi .ne (Scalar.extui (Scalar.cmpi .eq v1 (Scalar.select (Scalar.andi (Scalar.cmpi .ne (Scalar.subi (Scalar.extui (Scalar.cmpi .sgt (Scalar.muli v3 2048#32) 0#32)) (Scalar.extui (Scalar.cmpi .slt (Scalar.muli v3 2048#32) 0#32)) : BitVec 32) (Scalar.subi (Scalar.extui (Scalar.cmpi .sgt 1024#32 0#32)) (Scalar.extui (Scalar.cmpi .slt 1024#32 0#32)))) (Scalar.cmpi .ne (Scalar.remsi (Scalar.muli v3 2048#32) 1024#32) 0#32)) (Scalar.subi (Scalar.divsi (Scalar.muli v3 2048#32) 1024#32) 1#32) (Scalar.divsi (Scalar.muli v3 2048#32) 1024#32))) : BitVec 32) 0#32

/-- The blocks a point reads: queries, keys, values, cotangents, log-sums and row sums. -/
structure Blk (F : FTy → Type) [FloatOps F] where
  q : Vec F S1024x256 .bf16
  k : Vec F S2048x256 .bf16
  v : Vec F S2048x128 .bf16
  ct : Vec F S1024x128 .bf16
  lse : Vec F S1024x128 .f32
  delta : Vec F S1024x128 .f32

/-- The key block's first half, and the value block's. -/
abbrev Blk.k₀ (b : Blk F) : Vec F S1024x256 .bf16 := VecWindow.window b.k ![0, 0] S1024x256.size inb_S2048x256_S1024x256_0_0
abbrev Blk.v₀ (b : Blk F) : Vec F S1024x128 .bf16 := VecWindow.window b.v ![0, 0] S1024x128.size inb_S2048x128_S1024x128_0_0

/-- The query gradient's array with a new row block under a first key tile: zeroed there. -/
def dqZ (v1 v3 : BitVec 32) (x : Vec F S16384x256 .f32) : Vec F S16384x256 .f32 :=
  if k0_cond2 v3 = 1#1 then VecWindow.put x (k0_off2 v1) S1024x256.size (k0_pay40 (F := F)) else x

/-- The weights' gradient of a half tile on the diagonal, of a tile half past it, of a tile well past it. -/
abbrev dsA (v1 v3 : BitVec 32) (b : Blk F) : FVec F S1024x1024 .bf16 :=
  k0_pay25 v3 (k0_pay18 b.ct) (k0_pay19 b.v₀) (k0_pay20 b.delta) (k0_pay21 b.q b.k₀ b.lse) (Scalar.muli v1 16#32) k0_pay22 k0_pay23
abbrev dsB (v1 v3 : BitVec 32) (b : Blk F) : FVec F S1024x2048 .bf16 :=
  k0_pay36 v3 (k0_pay29 b.ct) (k0_pay30 b.v) (k0_pay31 b.delta) (k0_pay32 b.q b.k b.lse) (Scalar.muli v1 16#32) k0_pay33 k0_pay34

/-- What the point leaves in the key gradient's accumulator. -/
def s13A (v1 v3 : BitVec 32) (b : Blk F) : Vec F S2048x256 .f32 :=
  VecWindow.put (k0_pay38 (F := F)) ![0, 0] S1024x256.size (k0_pay2 (k0_pay16 b.q) (dsA v1 v3 b) (VecWindow.window (k0_pay38 (F := F)) ![0, 0] S1024x256.size inb_S2048x256_S1024x256_0_0))
def s13B (v1 v3 : BitVec 32) (b : Blk F) (x : Vec F S2048x256 .f32) : Vec F S2048x256 .f32 := k0_pay5 (k0_pay27 b.q) (dsB v1 v3 b) x
def s13C (b : Blk F) (x : Vec F S2048x256 .f32) : Vec F S2048x256 .f32 := k0_pay41 (k0_pay15 b.q b.k b.ct b.v b.lse b.delta x)

/-- What the point leaves in the value gradient's accumulator. -/
def s14A (v1 v3 : BitVec 32) (b : Blk F) : Vec F S2048x128 .f32 :=
  VecWindow.put (k0_pay39 (F := F)) ![0, 0] S1024x128.size (k0_pay1 (k0_pay26 v3 (k0_pay18 b.ct) (k0_pay21 b.q b.k₀ b.lse) (Scalar.muli v1 16#32) k0_pay22 k0_pay23 (VecWindow.window (k0_pay39 (F := F)) ![0, 0] S1024x128.size inb_S2048x128_S1024x128_0_0)))
def s14B (v1 v3 : BitVec 32) (b : Blk F) (x : Vec F S2048x128 .f32) : Vec F S2048x128 .f32 :=
  k0_pay4 (k0_pay37 v3 (k0_pay29 b.ct) (k0_pay32 b.q b.k b.lse) (Scalar.muli v1 16#32) k0_pay33 k0_pay34 x)
def s14C (b : Blk F) (x : Vec F S2048x128 .f32) : Vec F S2048x128 .f32 := k0_pay14 b.q b.k b.ct b.lse x

/-- What the point leaves in the query gradient's array: its row block, with the point's contribution added. -/
def dqPut (v1 v3 : BitVec 32) (inb : ∀ a, k0_off2 v1 a + S1024x256.size a ≤ S16384x256.size a) (g : Vec F S1024x256 .f32 → Vec F S1024x256 .f32) (x : Vec F S16384x256 .f32) : Vec F S16384x256 .f32 :=
  VecWindow.put (dqZ v1 v3 x) (k0_off2 v1) S1024x256.size (g (VecWindow.window (dqZ v1 v3 x) (k0_off2 v1) S1024x256.size inb))
abbrev dqA (v1 v3 : BitVec 32) (b : Blk F) (x : Vec F S1024x256 .f32) : Vec F S1024x256 .f32 := k0_pay3 (k0_pay17 b.k₀) (dsA v1 v3 b) x
abbrev dqB (v1 v3 : BitVec 32) (b : Blk F) (x : Vec F S1024x256 .f32) : Vec F S1024x256 .f32 := k0_pay6 (k0_pay28 b.k) (dsB v1 v3 b) x
abbrev dqC (b : Blk F) (x : Vec F S1024x256 .f32) : Vec F S1024x256 .f32 := k0_pay42 (k0_pay10 b.k) (k0_pay13 b.q b.k b.ct b.v b.lse b.delta) x

set_option maxHeartbeats 4000000 in
/-- A point whose query tile starts where its key tile does: the accumulators start from zero, and the first half of the key tile is read, under the mask. -/
theorem runA (c : Dev nD) (i : grid0.Coords) (arg2 : Memref sig .tc .smem S72 .i32) (harg2 : arg2.IsWhole) (arg3 : Memref sig .tc .smem S72 .i32) (harg3 : arg3.IsWhole) (arg4 : Memref sig .tc .vmem S1024x256 .bf16) (harg4 : arg4.IsWhole) (arg5 : Memref sig .tc .vmem S2048x256 .bf16) (harg5 : arg5.IsWhole) (arg6 : Memref sig .tc .vmem S2048x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S16384x256 .f32) (harg10 : arg10.IsWhole) (arg11 : Memref sig .tc .vmem S2048x256 .bf16) (harg11 : arg11.IsWhole) (arg12 : Memref sig .tc .vmem S2048x128 .bf16) (harg12 : arg12.IsWhole) (arg13 : Memref sig .tc .vmem S2048x256 .f32) (harg13 : arg13.IsWhole) (arg14 : Memref sig .tc .vmem S2048x128 .f32) (harg14 : arg14.IsWhole)
    (x2 x3 : Vec F S72 .i32) (q : PosShare TreeShare) (hk1 : k0_chk1 (word i x2)) (hk2 : k0_chk2 (word i x2) (word i x3))
    (inb : ∀ a, k0_off2 (word i x2) a + S1024x256.size a ≤ S16384x256.size a)
    (hc1 : cond1 (word i x2) (word i x3) = 1#1) (hc3 : ¬ k0_cond3 (word i x2) (word i x3) = 1#1) (hc4 : k0_cond4 (word i x2) (word i x3) = 1#1) (hc5 : ¬ k0_cond5 (word i x2) (word i x3) = 1#1)
    (b : Blk F) (x10 : Vec F S16384x256 .f32) (x11 : Vec F S2048x256 .bf16) (x12 : Vec F S2048x128 .bf16) (x13 : Vec F S2048x256 .f32) (x14 : Vec F S2048x128 .f32)
    (E : Set ℕ) (K : PUnit → sProp 𝕄) :
    iprop(owns c.tc arg2 q x2 ∗ owns c.tc arg3 q x3 ∗ owns c.tc arg4 fullShare b.q ∗ owns c.tc arg5 fullShare b.k ∗ owns c.tc arg6 fullShare b.v ∗ owns c.tc arg7 fullShare b.ct ∗ owns c.tc arg8 fullShare b.lse ∗ owns c.tc arg9 fullShare b.delta
        ∗ owns c.tc arg10 fullShare x10 ∗ owns c.tc arg11 fullShare x11 ∗ owns c.tc arg12 fullShare x12 ∗ owns c.tc arg13 fullShare x13 ∗ owns c.tc arg14 fullShare x14
        ∗ (iprop(owns c.tc arg2 q x2 ∗ owns c.tc arg3 q x3 ∗ owns c.tc arg4 fullShare b.q ∗ owns c.tc arg5 fullShare b.k ∗ owns c.tc arg6 fullShare b.v ∗ owns c.tc arg7 fullShare b.ct ∗ owns c.tc arg8 fullShare b.lse ∗ owns c.tc arg9 fullShare b.delta
            ∗ owns c.tc arg10 fullShare (dqPut (word i x2) (word i x3) inb (dqA (word i x2) (word i x3) b) x10) ∗ owns c.tc arg11 fullShare (if k0_cond6 (word i x2) = 1#1 then k0_pay7 (s13A (word i x2) (word i x3) b) else x11) ∗ owns c.tc arg12 fullShare (if k0_cond6 (word i x2) = 1#1 then k0_pay8 (s14A (word i x2) (word i x3) b) else x12)
            ∗ owns c.tc arg13 fullShare (s13A (word i x2) (word i x3) b) ∗ owns c.tc arg14 fullShare (s14A (word i x2) (word i x3) b)) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14) K := by
  obtain ⟨b4, b5, b6, b7, b8, b9⟩ := b
  simp only [cc0_flash_bwd_eq_skeleton]; unfold cc0_flash_bwd_skel
  simp only [k0_part6_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2 hf3
  sl_exec (disch := first | sl_exact hk1 | sl_exact hk2 | sl_exact hc1 | sl_exact hc3 | sl_exact hc4 | sl_exact hc5)
  have r4 : ∀ h, arg4.view.readAt (Elt F) (Rect.unit (s := S1024x256) ![0, 0] ![1024, 256] h).toLoadRect f4 = b4 := fun h => (View.readAt_full arg4.view f4 h).trans hf4
  have r5 : ∀ h, arg5.view.readAt (Elt F) (Rect.unit (s := S2048x256) ![0, 0] ![1024, 256] h).toLoadRect f5 = VecWindow.window (s := S2048x256) (α := Elt F .bf16) b5 ![0, 0] ![1024, 256] h := fun h =>
    (View.readAt_unit arg5.view f5 h rfl h).trans (congrArg (fun x => VecWindow.window (s := S2048x256) (α := Elt F .bf16) x ![0, 0] ![1024, 256] h) hf5)
  have r6 : ∀ h, arg6.view.readAt (Elt F) (Rect.unit (s := S2048x128) ![0, 0] ![1024, 128] h).toLoadRect f6 = VecWindow.window (s := S2048x128) (α := Elt F .bf16) b6 ![0, 0] ![1024, 128] h := fun h =>
    (View.readAt_unit arg6.view f6 h rfl h).trans (congrArg (fun x => VecWindow.window (s := S2048x128) (α := Elt F .bf16) x ![0, 0] ![1024, 128] h) hf6)
  have r7 : ∀ h, arg7.view.readAt (Elt F) (Rect.unit (s := S1024x128) ![0, 0] ![1024, 128] h).toLoadRect f7 = b7 := fun h => (View.readAt_full arg7.view f7 h).trans hf7
  have r8 : ∀ h, arg8.view.readAt (Elt F) (Rect.unit (s := S1024x128) ![0, 0] ![1024, 128] h).toLoadRect f8 = b8 := fun h => (View.readAt_full arg8.view f8 h).trans hf8
  have r9 : ∀ h, arg9.view.readAt (Elt F) (Rect.unit (s := S1024x128) ![0, 0] ![1024, 128] h).toLoadRect f9 = b9 := fun h => (View.readAt_full arg9.view f9 h).trans hf9
  have u13 : ∀ f h h' (w : (Rect.unit (s := S2048x256) ![0, 0] ![1024, 256] h).shape.Idx → Elt F .f32) (z : (Rect.unit (s := S2048x256) ![0, 0] ![2048, 256] h').shape.Idx → Elt F .f32), arg13.view.read (Elt F) (arg13.view.writes (Elt F) f [⟨Rect.unit (s := S2048x256) ![0, 0] ![1024, 256] h, w⟩, ⟨Rect.unit (s := S2048x256) ![0, 0] ![2048, 256] h', z⟩]) = VecWindow.put (s := S2048x256) (α := Elt F .f32) z ![0, 0] ![1024, 256] w := fun f h h' w z =>
    (View.read_writes_cons_put arg13.view f h w _ rfl).trans (congrArg (fun x => VecWindow.put (s := S2048x256) (α := Elt F .f32) x ![0, 0] ![1024, 256] w) (View.read_writes_full arg13.view f h' z []))
  have u14 : ∀ f h h' (w : (Rect.unit (s := S2048x128) ![0, 0] ![1024, 128] h).shape.Idx → Elt F .f32) (z : (Rect.unit (s := S2048x128) ![0, 0] ![2048, 128] h').shape.Idx → Elt F .f32), arg14.view.read (Elt F) (arg14.view.writes (Elt F) f [⟨Rect.unit (s := S2048x128) ![0, 0] ![1024, 128] h, w⟩, ⟨Rect.unit (s := S2048x128) ![0, 0] ![2048, 128] h', z⟩]) = VecWindow.put (s := S2048x128) (α := Elt F .f32) z ![0, 0] ![1024, 128] w := fun f h h' w z =>
    (View.read_writes_cons_put arg14.view f h w _ rfl).trans (congrArg (fun x => VecWindow.put (s := S2048x128) (α := Elt F .f32) x ![0, 0] ![1024, 128] w) (View.read_writes_full arg14.view f h' z []))
  have w13 : ∀ f h (z : (Rect.unit (s := S2048x256) ![0, 0] ![2048, 256] h).shape.Idx → Elt F .f32) h', arg13.view.readAt (Elt F) (Rect.unit (s := S2048x256) ![0, 0] ![1024, 256] h').toLoadRect (arg13.view.writes (Elt F) f [⟨Rect.unit (s := S2048x256) ![0, 0] ![2048, 256] h, z⟩]) = VecWindow.window (s := S2048x256) (α := Elt F .f32) z ![0, 0] ![1024, 256] h' := fun f h z h' =>
    (View.readAt_unit arg13.view _ h' rfl h').trans (congrArg (fun x => VecWindow.window (s := S2048x256) (α := Elt F .f32) x ![0, 0] ![1024, 256] h') (View.read_writes_full arg13.view f h z []))
  have w14 : ∀ f h (z : (Rect.unit (s := S2048x128) ![0, 0] ![2048, 128] h).shape.Idx → Elt F .f32) h', arg14.view.readAt (Elt F) (Rect.unit (s := S2048x128) ![0, 0] ![1024, 128] h').toLoadRect (arg14.view.writes (Elt F) f [⟨Rect.unit (s := S2048x128) ![0, 0] ![2048, 128] h, z⟩]) = VecWindow.window (s := S2048x128) (α := Elt F .f32) z ![0, 0] ![1024, 128] h' := fun f h z h' =>
    (View.readAt_unit arg14.view _ h' rfl h').trans (congrArg (fun x => VecWindow.window (s := S2048x128) (α := Elt F .f32) x ![0, 0] ![1024, 128] h') (View.read_writes_full arg14.view f h z []))
  have c13 : ∀ h (z : (Rect.unit (s := S2048x256) ![0, 0] ![2048, 256] h).shape.Idx → Elt F .f32) h', arg13.view.readCov (Val := Elt F) [⟨Rect.unit (s := S2048x256) ![0, 0] ![2048, 256] h, z⟩] (Rect.unit (s := S2048x256) ![0, 0] ![1024, 256] h').toLoadRect = VecWindow.window (s := S2048x256) (α := Elt F .f32) z ![0, 0] ![1024, 256] h' := fun h z h' => w13 _ h z h'
  have d13 : ∀ h h' (w : (Rect.unit (s := S2048x256) ![0, 0] ![1024, 256] h).shape.Idx → Elt F .f32) (z : (Rect.unit (s := S2048x256) ![0, 0] ![2048, 256] h').shape.Idx → Elt F .f32) h'', arg13.view.readCov (Val := Elt F) [⟨Rect.unit (s := S2048x256) ![0, 0] ![1024, 256] h, w⟩, ⟨Rect.unit (s := S2048x256) ![0, 0] ![2048, 256] h', z⟩] (Rect.unit (s := S2048x256) ![0, 0] ![2048, 256] h'').toLoadRect = VecWindow.put (s := S2048x256) (α := Elt F .f32) z ![0, 0] ![1024, 256] w := fun h h' w z h'' =>
    (View.readAt_full arg13.view _ h'').trans (u13 _ h h' w z)
  have c14 : ∀ h (z : (Rect.unit (s := S2048x128) ![0, 0] ![2048, 128] h).shape.Idx → Elt F .f32) h', arg14.view.readCov (Val := Elt F) [⟨Rect.unit (s := S2048x128) ![0, 0] ![2048, 128] h, z⟩] (Rect.unit (s := S2048x128) ![0, 0] ![1024, 128] h').toLoadRect = VecWindow.window (s := S2048x128) (α := Elt F .f32) z ![0, 0] ![1024, 128] h' := fun h z h' => w14 _ h z h'
  have d14 : ∀ h h' (w : (Rect.unit (s := S2048x128) ![0, 0] ![1024, 128] h).shape.Idx → Elt F .f32) (z : (Rect.unit (s := S2048x128) ![0, 0] ![2048, 128] h').shape.Idx → Elt F .f32) h'', arg14.view.readCov (Val := Elt F) [⟨Rect.unit (s := S2048x128) ![0, 0] ![1024, 128] h, w⟩, ⟨Rect.unit (s := S2048x128) ![0, 0] ![2048, 128] h', z⟩] (Rect.unit (s := S2048x128) ![0, 0] ![2048, 128] h'').toLoadRect = VecWindow.put (s := S2048x128) (α := Elt F .f32) z ![0, 0] ![1024, 128] w := fun h h' w z h'' =>
    (View.readAt_full arg14.view _ h'').trans (u14 _ h h' w z)
  have z10 : ∀ f, f = (if hc : k0_cond2 (word i (arg3.view.read (Elt F) f3)) = 1#1 then arg10.view.writes (Elt F) f10 [⟨Rect.unit (s := S16384x256) (k0_off2 (word i (arg2.view.read (Elt F) f2))) ![1024, 256] inb, k0_pay40 (F := F)⟩] else f10) → arg10.view.read (Elt F) f = dqZ (word i (arg2.view.read (Elt F) f2)) (word i (arg3.view.read (Elt F) f3)) x10 := by
    rintro f rfl
    unfold dqZ
    by_cases h : k0_cond2 (word i (arg3.view.read (Elt F) f3)) = 1#1
    · simp only [dif_pos h, if_pos h]
      rw [View.read_writes_cons_put arg10.view f10 inb _ [] rfl, View.writes_nil, hf10]
    · simp only [dif_neg h, if_neg h]
      exact hf10
  sl_step
  iapply Hk
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; exact hf4
  isplitl [H5]; · iexists _; isplitr; swap; · iexact H5
                  ipureintro; exact hf5
  isplitl [H6]; · iexists _; isplitr; swap; · iexact H6
                  ipureintro; exact hf6
  isplitl [H7]; · iexists _; isplitr; swap; · iexact H7
                  ipureintro; exact hf7
  isplitl [H8]; · iexists _; isplitr; swap; · iexact H8
                  ipureintro; exact hf8
  isplitl [H9]; · iexists _; isplitr; swap; · iexact H9
                  ipureintro; exact hf9
  isplitl [H10]
  · iexists _; isplitr; swap; · iexact H10
    ipureintro; sl_unfold_run_names
    refine (View.read_writes_cons_put arg10.view _ inb _ [] rfl).trans ?_
    refine (congrArg (fun x => VecWindow.put x _ _ _) (z10 _ rfl)).trans ?_
    refine congrArg (VecWindow.put _ _ _) ?_
    refine (congrArg (k0_pay3 _ _) ((View.readAt_unit arg10.view _ inb rfl inb).trans (congrArg (fun x => VecWindow.window x _ _ inb) (z10 _ rfl)))).trans ?_
    simp only [r4, r5, r6, r7, r8, r9, w13, w14, c13, c14, d13, d14]
    rfl
  isplitl [H11]
  · iexists _; isplitr; swap; · iexact H11
    ipureintro; sl_unfold_run_names
    refine (apply_dite (arg11.view.read (Elt F)) _ _ _).trans ?_
    rw [← dite_eq_ite]
    refine dite_congr rfl (fun h => ?_) fun h => hf11
    refine (View.read_writes_full arg11.view f11 _ _ []).trans ?_
    simp only [r4, r5, r6, r7, r8, r9, w13, w14, c13, c14, d13, d14]
    rfl
  isplitl [H12]
  · iexists _; isplitr; swap; · iexact H12
    ipureintro; sl_unfold_run_names
    refine (apply_dite (arg12.view.read (Elt F)) _ _ _).trans ?_
    rw [← dite_eq_ite]
    refine dite_congr rfl (fun h => ?_) fun h => hf12
    refine (View.read_writes_full arg12.view f12 _ _ []).trans ?_
    simp only [r4, r5, r6, r7, r8, r9, w13, w14, c13, c14, d13, d14]
    rfl
  isplitl [H13]
  · iexists _; isplitr; swap; · iexact H13
    ipureintro; sl_unfold_run_names
    refine (u13 f13 _ _ _ _).trans ?_
    simp only [r4, r5, r6, r7, r8, r9, w13, w14, c13, c14, d13, d14]
    rfl
  iexists _; isplitr; swap; · iexact H14
  ipureintro; sl_unfold_run_names
  refine (u14 f14 _ _ _ _).trans ?_
  simp only [r4, r5, r6, r7, r8, r9, w13, w14, c13, c14, d13, d14]
  rfl

set_option maxHeartbeats 4000000 in
/-- A point whose query tile ends where its key tile does: everything is read, under the mask. -/
theorem runB (c : Dev nD) (i : grid0.Coords) (arg2 : Memref sig .tc .smem S72 .i32) (harg2 : arg2.IsWhole) (arg3 : Memref sig .tc .smem S72 .i32) (harg3 : arg3.IsWhole) (arg4 : Memref sig .tc .vmem S1024x256 .bf16) (harg4 : arg4.IsWhole) (arg5 : Memref sig .tc .vmem S2048x256 .bf16) (harg5 : arg5.IsWhole) (arg6 : Memref sig .tc .vmem S2048x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S16384x256 .f32) (harg10 : arg10.IsWhole) (arg11 : Memref sig .tc .vmem S2048x256 .bf16) (harg11 : arg11.IsWhole) (arg12 : Memref sig .tc .vmem S2048x128 .bf16) (harg12 : arg12.IsWhole) (arg13 : Memref sig .tc .vmem S2048x256 .f32) (harg13 : arg13.IsWhole) (arg14 : Memref sig .tc .vmem S2048x128 .f32) (harg14 : arg14.IsWhole)
    (x2 x3 : Vec F S72 .i32) (q : PosShare TreeShare) (hk1 : k0_chk1 (word i x2)) (hk2 : k0_chk2 (word i x2) (word i x3))
    (inb : ∀ a, k0_off2 (word i x2) a + S1024x256.size a ≤ S16384x256.size a)
    (hc1 : ¬ cond1 (word i x2) (word i x3) = 1#1) (hc3 : ¬ k0_cond3 (word i x2) (word i x3) = 1#1) (hc4 : ¬ k0_cond4 (word i x2) (word i x3) = 1#1) (hc5 : k0_cond5 (word i x2) (word i x3) = 1#1)
    (b : Blk F) (x10 : Vec F S16384x256 .f32) (x11 : Vec F S2048x256 .bf16) (x12 : Vec F S2048x128 .bf16) (x13 : Vec F S2048x256 .f32) (x14 : Vec F S2048x128 .f32)
    (E : Set ℕ) (K : PUnit → sProp 𝕄) :
    iprop(owns c.tc arg2 q x2 ∗ owns c.tc arg3 q x3 ∗ owns c.tc arg4 fullShare b.q ∗ owns c.tc arg5 fullShare b.k ∗ owns c.tc arg6 fullShare b.v ∗ owns c.tc arg7 fullShare b.ct ∗ owns c.tc arg8 fullShare b.lse ∗ owns c.tc arg9 fullShare b.delta
        ∗ owns c.tc arg10 fullShare x10 ∗ owns c.tc arg11 fullShare x11 ∗ owns c.tc arg12 fullShare x12 ∗ owns c.tc arg13 fullShare x13 ∗ owns c.tc arg14 fullShare x14
        ∗ (iprop(owns c.tc arg2 q x2 ∗ owns c.tc arg3 q x3 ∗ owns c.tc arg4 fullShare b.q ∗ owns c.tc arg5 fullShare b.k ∗ owns c.tc arg6 fullShare b.v ∗ owns c.tc arg7 fullShare b.ct ∗ owns c.tc arg8 fullShare b.lse ∗ owns c.tc arg9 fullShare b.delta
            ∗ owns c.tc arg10 fullShare (dqPut (word i x2) (word i x3) inb (dqB (word i x2) (word i x3) b) x10) ∗ owns c.tc arg11 fullShare (if k0_cond6 (word i x2) = 1#1 then k0_pay7 (s13B (word i x2) (word i x3) b x13) else x11) ∗ owns c.tc arg12 fullShare (if k0_cond6 (word i x2) = 1#1 then k0_pay8 (s14B (word i x2) (word i x3) b x14) else x12)
            ∗ owns c.tc arg13 fullShare (s13B (word i x2) (word i x3) b x13) ∗ owns c.tc arg14 fullShare (s14B (word i x2) (word i x3) b x14)) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14) K := by
  obtain ⟨b4, b5, b6, b7, b8, b9⟩ := b
  simp only [cc0_flash_bwd_eq_skeleton]; unfold cc0_flash_bwd_skel
  simp only [k0_part6_eq_skeleton, k0_part4_eq_skeleton, k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2 hf3
  sl_exec (disch := first | sl_exact hk1 | sl_exact hk2 | sl_exact hc1 | sl_exact hc3 | sl_exact hc4 | sl_exact hc5)
  have r4 : ∀ h, arg4.view.readAt (Elt F) (Rect.unit (s := S1024x256) ![0, 0] ![1024, 256] h).toLoadRect f4 = b4 := fun h => (View.readAt_full arg4.view f4 h).trans hf4
  have r5 : ∀ h, arg5.view.readAt (Elt F) (Rect.unit (s := S2048x256) ![0, 0] ![2048, 256] h).toLoadRect f5 = b5 := fun h => (View.readAt_full arg5.view f5 h).trans hf5
  have r6 : ∀ h, arg6.view.readAt (Elt F) (Rect.unit (s := S2048x128) ![0, 0] ![2048, 128] h).toLoadRect f6 = b6 := fun h => (View.readAt_full arg6.view f6 h).trans hf6
  have r7 : ∀ h, arg7.view.readAt (Elt F) (Rect.unit (s := S1024x128) ![0, 0] ![1024, 128] h).toLoadRect f7 = b7 := fun h => (View.readAt_full arg7.view f7 h).trans hf7
  have r8 : ∀ h, arg8.view.readAt (Elt F) (Rect.unit (s := S1024x128) ![0, 0] ![1024, 128] h).toLoadRect f8 = b8 := fun h => (View.readAt_full arg8.view f8 h).trans hf8
  have r9 : ∀ h, arg9.view.readAt (Elt F) (Rect.unit (s := S1024x128) ![0, 0] ![1024, 128] h).toLoadRect f9 = b9 := fun h => (View.readAt_full arg9.view f9 h).trans hf9
  have r13 : ∀ h, arg13.view.readAt (Elt F) (Rect.unit (s := S2048x256) ![0, 0] ![2048, 256] h).toLoadRect f13 = x13 := fun h => (View.readAt_full arg13.view f13 h).trans hf13
  have r14 : ∀ h, arg14.view.readAt (Elt F) (Rect.unit (s := S2048x128) ![0, 0] ![2048, 128] h).toLoadRect f14 = x14 := fun h => (View.readAt_full arg14.view f14 h).trans hf14
  have w13 : ∀ f h w L h', arg13.view.readAt (Elt F) (Rect.unit (s := S2048x256) ![0, 0] ![2048, 256] h').toLoadRect (arg13.view.writes (Elt F) f (⟨Rect.unit (s := S2048x256) ![0, 0] ![2048, 256] h, w⟩ :: L)) = w := fun f h w L h' => View.readAt_writes_full arg13.view f h' h w L
  have w14 : ∀ f h w L h', arg14.view.readAt (Elt F) (Rect.unit (s := S2048x128) ![0, 0] ![2048, 128] h').toLoadRect (arg14.view.writes (Elt F) f (⟨Rect.unit (s := S2048x128) ![0, 0] ![2048, 128] h, w⟩ :: L)) = w := fun f h w L h' => View.readAt_writes_full arg14.view f h' h w L
  have c13 : ∀ h w h', arg13.view.readCov (Val := Elt F) [⟨Rect.unit (s := S2048x256) ![0, 0] ![2048, 256] h, w⟩] (Rect.unit (s := S2048x256) ![0, 0] ![2048, 256] h').toLoadRect = w := fun h w h' => View.readCov_full arg13.view h' h w []
  have c14 : ∀ h w h', arg14.view.readCov (Val := Elt F) [⟨Rect.unit (s := S2048x128) ![0, 0] ![2048, 128] h, w⟩] (Rect.unit (s := S2048x128) ![0, 0] ![2048, 128] h').toLoadRect = w := fun h w h' => View.readCov_full arg14.view h' h w []
  have z10 : ∀ f, f = (if hc : k0_cond2 (word i (arg3.view.read (Elt F) f3)) = 1#1 then arg10.view.writes (Elt F) f10 [⟨Rect.unit (s := S16384x256) (k0_off2 (word i (arg2.view.read (Elt F) f2))) ![1024, 256] inb, k0_pay40 (F := F)⟩] else f10) → arg10.view.read (Elt F) f = dqZ (word i (arg2.view.read (Elt F) f2)) (word i (arg3.view.read (Elt F) f3)) x10 := by
    rintro f rfl
    unfold dqZ
    by_cases h : k0_cond2 (word i (arg3.view.read (Elt F) f3)) = 1#1
    · simp only [dif_pos h, if_pos h]
      rw [View.read_writes_cons_put arg10.view f10 inb _ [] rfl, View.writes_nil, hf10]
    · simp only [dif_neg h, if_neg h]
      exact hf10
  sl_step
  iapply Hk
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; exact hf4
  isplitl [H5]; · iexists _; isplitr; swap; · iexact H5
                  ipureintro; exact hf5
  isplitl [H6]; · iexists _; isplitr; swap; · iexact H6
                  ipureintro; exact hf6
  isplitl [H7]; · iexists _; isplitr; swap; · iexact H7
                  ipureintro; exact hf7
  isplitl [H8]; · iexists _; isplitr; swap; · iexact H8
                  ipureintro; exact hf8
  isplitl [H9]; · iexists _; isplitr; swap; · iexact H9
                  ipureintro; exact hf9
  isplitl [H10]
  · iexists _; isplitr; swap; · iexact H10
    ipureintro; sl_unfold_run_names
    refine (View.read_writes_cons_put arg10.view _ inb _ [] rfl).trans ?_
    refine (congrArg (fun x => VecWindow.put x _ _ _) (z10 _ rfl)).trans ?_
    refine congrArg (VecWindow.put _ _ _) ?_
    refine (congrArg (k0_pay6 _ _) ((View.readAt_unit arg10.view _ inb rfl inb).trans (congrArg (fun x => VecWindow.window x _ _ inb) (z10 _ rfl)))).trans ?_
    simp only [r4, r5, r6, r7, r8, r9, r13, r14, w13, w14, c13, c14]
    rfl
  isplitl [H11]
  · iexists _; isplitr; swap; · iexact H11
    ipureintro; sl_unfold_run_names
    refine (apply_dite (arg11.view.read (Elt F)) _ _ _).trans ?_
    rw [← dite_eq_ite]
    refine dite_congr rfl (fun h => ?_) fun h => hf11
    refine (View.read_writes_full arg11.view f11 _ _ []).trans ?_
    simp only [r4, r5, r6, r7, r8, r9, r13, r14, w13, w14, c13, c14]
    rfl
  isplitl [H12]
  · iexists _; isplitr; swap; · iexact H12
    ipureintro; sl_unfold_run_names
    refine (apply_dite (arg12.view.read (Elt F)) _ _ _).trans ?_
    rw [← dite_eq_ite]
    refine dite_congr rfl (fun h => ?_) fun h => hf12
    refine (View.read_writes_full arg12.view f12 _ _ []).trans ?_
    simp only [r4, r5, r6, r7, r8, r9, r13, r14, w13, w14, c13, c14]
    rfl
  isplitl [H13]
  · iexists _; isplitr; swap; · iexact H13
    ipureintro; sl_unfold_run_names
    refine (View.read_writes_full arg13.view f13 _ _ _).trans ?_
    simp only [r4, r5, r6, r7, r8, r9, r13, r14, w13, w14, c13, c14]
    rfl
  iexists _; isplitr; swap; · iexact H14
  ipureintro; sl_unfold_run_names
  refine (View.read_writes_full arg14.view f14 _ _ _).trans ?_
  simp only [r4, r5, r6, r7, r8, r9, r13, r14, w13, w14, c13, c14]
  rfl

set_option maxHeartbeats 4000000 in
/-- A point whose key tile lies wholly before its query tile: everything is read, nothing masked. -/
theorem runC (c : Dev nD) (i : grid0.Coords) (arg2 : Memref sig .tc .smem S72 .i32) (harg2 : arg2.IsWhole) (arg3 : Memref sig .tc .smem S72 .i32) (harg3 : arg3.IsWhole) (arg4 : Memref sig .tc .vmem S1024x256 .bf16) (harg4 : arg4.IsWhole) (arg5 : Memref sig .tc .vmem S2048x256 .bf16) (harg5 : arg5.IsWhole) (arg6 : Memref sig .tc .vmem S2048x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S16384x256 .f32) (harg10 : arg10.IsWhole) (arg11 : Memref sig .tc .vmem S2048x256 .bf16) (harg11 : arg11.IsWhole) (arg12 : Memref sig .tc .vmem S2048x128 .bf16) (harg12 : arg12.IsWhole) (arg13 : Memref sig .tc .vmem S2048x256 .f32) (harg13 : arg13.IsWhole) (arg14 : Memref sig .tc .vmem S2048x128 .f32) (harg14 : arg14.IsWhole)
    (x2 x3 : Vec F S72 .i32) (q : PosShare TreeShare) (hk1 : k0_chk1 (word i x2)) (hk2 : k0_chk2 (word i x2) (word i x3))
    (inb : ∀ a, k0_off2 (word i x2) a + S1024x256.size a ≤ S16384x256.size a)
    (hc1 : ¬ cond1 (word i x2) (word i x3) = 1#1) (hc3 : k0_cond3 (word i x2) (word i x3) = 1#1) (hc4 : ¬ k0_cond4 (word i x2) (word i x3) = 1#1) (hc5 : ¬ k0_cond5 (word i x2) (word i x3) = 1#1)
    (b : Blk F) (x10 : Vec F S16384x256 .f32) (x11 : Vec F S2048x256 .bf16) (x12 : Vec F S2048x128 .bf16) (x13 : Vec F S2048x256 .f32) (x14 : Vec F S2048x128 .f32)
    (E : Set ℕ) (K : PUnit → sProp 𝕄) :
    iprop(owns c.tc arg2 q x2 ∗ owns c.tc arg3 q x3 ∗ owns c.tc arg4 fullShare b.q ∗ owns c.tc arg5 fullShare b.k ∗ owns c.tc arg6 fullShare b.v ∗ owns c.tc arg7 fullShare b.ct ∗ owns c.tc arg8 fullShare b.lse ∗ owns c.tc arg9 fullShare b.delta
        ∗ owns c.tc arg10 fullShare x10 ∗ owns c.tc arg11 fullShare x11 ∗ owns c.tc arg12 fullShare x12 ∗ owns c.tc arg13 fullShare x13 ∗ owns c.tc arg14 fullShare x14
        ∗ (iprop(owns c.tc arg2 q x2 ∗ owns c.tc arg3 q x3 ∗ owns c.tc arg4 fullShare b.q ∗ owns c.tc arg5 fullShare b.k ∗ owns c.tc arg6 fullShare b.v ∗ owns c.tc arg7 fullShare b.ct ∗ owns c.tc arg8 fullShare b.lse ∗ owns c.tc arg9 fullShare b.delta
            ∗ owns c.tc arg10 fullShare (dqPut (word i x2) (word i x3) inb (dqC b) x10) ∗ owns c.tc arg11 fullShare (if k0_cond6 (word i x2) = 1#1 then k0_pay7 (s13C b x13) else x11) ∗ owns c.tc arg12 fullShare (if k0_cond6 (word i x2) = 1#1 then k0_pay8 (s14C b x14) else x12)
            ∗ owns c.tc arg13 fullShare (s13C b x13) ∗ owns c.tc arg14 fullShare (s14C b x14)) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14) K := by
  obtain ⟨b4, b5, b6, b7, b8, b9⟩ := b
  simp only [cc0_flash_bwd_eq_skeleton]; unfold cc0_flash_bwd_skel
  simp only [k0_part6_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2 hf3
  sl_exec (disch := first | sl_exact hk1 | sl_exact hk2 | sl_exact hc1 | sl_exact hc3 | sl_exact hc4 | sl_exact hc5)
  have r4 : ∀ h, arg4.view.readAt (Elt F) (Rect.unit (s := S1024x256) ![0, 0] ![1024, 256] h).toLoadRect f4 = b4 := fun h => (View.readAt_full arg4.view f4 h).trans hf4
  have r5 : ∀ h, arg5.view.readAt (Elt F) (Rect.unit (s := S2048x256) ![0, 0] ![2048, 256] h).toLoadRect f5 = b5 := fun h => (View.readAt_full arg5.view f5 h).trans hf5
  have r6 : ∀ h, arg6.view.readAt (Elt F) (Rect.unit (s := S2048x128) ![0, 0] ![2048, 128] h).toLoadRect f6 = b6 := fun h => (View.readAt_full arg6.view f6 h).trans hf6
  have r7 : ∀ h, arg7.view.readAt (Elt F) (Rect.unit (s := S1024x128) ![0, 0] ![1024, 128] h).toLoadRect f7 = b7 := fun h => (View.readAt_full arg7.view f7 h).trans hf7
  have r8 : ∀ h, arg8.view.readAt (Elt F) (Rect.unit (s := S1024x128) ![0, 0] ![1024, 128] h).toLoadRect f8 = b8 := fun h => (View.readAt_full arg8.view f8 h).trans hf8
  have r9 : ∀ h, arg9.view.readAt (Elt F) (Rect.unit (s := S1024x128) ![0, 0] ![1024, 128] h).toLoadRect f9 = b9 := fun h => (View.readAt_full arg9.view f9 h).trans hf9
  have r13 : ∀ h, arg13.view.readAt (Elt F) (Rect.unit (s := S2048x256) ![0, 0] ![2048, 256] h).toLoadRect f13 = x13 := fun h => (View.readAt_full arg13.view f13 h).trans hf13
  have r14 : ∀ h, arg14.view.readAt (Elt F) (Rect.unit (s := S2048x128) ![0, 0] ![2048, 128] h).toLoadRect f14 = x14 := fun h => (View.readAt_full arg14.view f14 h).trans hf14
  have w13 : ∀ f h w L h', arg13.view.readAt (Elt F) (Rect.unit (s := S2048x256) ![0, 0] ![2048, 256] h').toLoadRect (arg13.view.writes (Elt F) f (⟨Rect.unit (s := S2048x256) ![0, 0] ![2048, 256] h, w⟩ :: L)) = w := fun f h w L h' => View.readAt_writes_full arg13.view f h' h w L
  have w14 : ∀ f h w L h', arg14.view.readAt (Elt F) (Rect.unit (s := S2048x128) ![0, 0] ![2048, 128] h').toLoadRect (arg14.view.writes (Elt F) f (⟨Rect.unit (s := S2048x128) ![0, 0] ![2048, 128] h, w⟩ :: L)) = w := fun f h w L h' => View.readAt_writes_full arg14.view f h' h w L
  have c13 : ∀ h w h', arg13.view.readCov (Val := Elt F) [⟨Rect.unit (s := S2048x256) ![0, 0] ![2048, 256] h, w⟩] (Rect.unit (s := S2048x256) ![0, 0] ![2048, 256] h').toLoadRect = w := fun h w h' => View.readCov_full arg13.view h' h w []
  have c14 : ∀ h w h', arg14.view.readCov (Val := Elt F) [⟨Rect.unit (s := S2048x128) ![0, 0] ![2048, 128] h, w⟩] (Rect.unit (s := S2048x128) ![0, 0] ![2048, 128] h').toLoadRect = w := fun h w h' => View.readCov_full arg14.view h' h w []
  have z10 : ∀ f, f = (if hc : k0_cond2 (word i (arg3.view.read (Elt F) f3)) = 1#1 then arg10.view.writes (Elt F) f10 [⟨Rect.unit (s := S16384x256) (k0_off2 (word i (arg2.view.read (Elt F) f2))) ![1024, 256] inb, k0_pay40 (F := F)⟩] else f10) → arg10.view.read (Elt F) f = dqZ (word i (arg2.view.read (Elt F) f2)) (word i (arg3.view.read (Elt F) f3)) x10 := by
    rintro f rfl
    unfold dqZ
    by_cases h : k0_cond2 (word i (arg3.view.read (Elt F) f3)) = 1#1
    · simp only [dif_pos h, if_pos h]
      rw [View.read_writes_cons_put arg10.view f10 inb _ [] rfl, View.writes_nil, hf10]
    · simp only [dif_neg h, if_neg h]
      exact hf10
  sl_step
  iapply Hk
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; exact hf4
  isplitl [H5]; · iexists _; isplitr; swap; · iexact H5
                  ipureintro; exact hf5
  isplitl [H6]; · iexists _; isplitr; swap; · iexact H6
                  ipureintro; exact hf6
  isplitl [H7]; · iexists _; isplitr; swap; · iexact H7
                  ipureintro; exact hf7
  isplitl [H8]; · iexists _; isplitr; swap; · iexact H8
                  ipureintro; exact hf8
  isplitl [H9]; · iexists _; isplitr; swap; · iexact H9
                  ipureintro; exact hf9
  isplitl [H10]
  · iexists _; isplitr; swap; · iexact H10
    ipureintro; sl_unfold_run_names
    refine (View.read_writes_cons_put arg10.view _ inb _ [] rfl).trans ?_
    refine (congrArg (fun x => VecWindow.put x _ _ _) (z10 _ rfl)).trans ?_
    refine congrArg (VecWindow.put _ _ _) ?_
    refine (congrArg (k0_pay42 _ _) ((View.readAt_unit arg10.view _ inb rfl inb).trans (congrArg (fun x => VecWindow.window x _ _ inb) (z10 _ rfl)))).trans ?_
    simp only [r4, r5, r6, r7, r8, r9, r13, r14, w13, w14, c13, c14]
    rfl
  isplitl [H11]
  · iexists _; isplitr; swap; · iexact H11
    ipureintro; sl_unfold_run_names
    refine (apply_dite (arg11.view.read (Elt F)) _ _ _).trans ?_
    rw [← dite_eq_ite]
    refine dite_congr rfl (fun h => ?_) fun h => hf11
    refine (View.read_writes_full arg11.view f11 _ _ []).trans ?_
    simp only [r4, r5, r6, r7, r8, r9, r13, r14, w13, w14, c13, c14]
    rfl
  isplitl [H12]
  · iexists _; isplitr; swap; · iexact H12
    ipureintro; sl_unfold_run_names
    refine (apply_dite (arg12.view.read (Elt F)) _ _ _).trans ?_
    rw [← dite_eq_ite]
    refine dite_congr rfl (fun h => ?_) fun h => hf12
    refine (View.read_writes_full arg12.view f12 _ _ []).trans ?_
    simp only [r4, r5, r6, r7, r8, r9, r13, r14, w13, w14, c13, c14]
    rfl
  isplitl [H13]
  · iexists _; isplitr; swap; · iexact H13
    ipureintro; sl_unfold_run_names
    refine (View.read_writes_full arg13.view f13 _ _ _).trans ?_
    simp only [r4, r5, r6, r7, r8, r9, r13, r14, w13, w14, c13, c14]
    rfl
  iexists _; isplitr; swap; · iexact H14
  ipureintro; sl_unfold_run_names
  refine (View.read_writes_full arg14.view f14 _ _ _).trans ?_
  simp only [r4, r5, r6, r7, r8, r9, r13, r14, w13, w14, c13, c14]
  rfl

end Cert.FlashIdeal.Body
-- ==== Proof.FlashData.lean ====
module

public import proofs.«01_k».proof.Proof.FlashRun
public import proofs.«01_k».proof.Proof.Gen.FlashIdeal.Launch
public import proofs.«01_k».proof.Proof.Gen.FlashIdeal.Skeleton
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Pipeline.FrameBody

@[expose] public section

set_option maxRecDepth 16384

noncomputable section

namespace Cert.FlashIdeal.Launch

open Idealize.ShloMosaic TcCoe Tactic
open Idealize.SL RA BI
open scoped Idealize.SL.BI
open Idealize.SL.BI.BIBase Idealize.SL.BI.Laws Idealize.SL.ProofMode Idealize.SL.Sem
open Idealize.ShloMosaic.Rounds
open FlashIdeal.Gen

variable {F : FTy → Type} [FloatOps F] [Named F]

local notation "𝕄" => MT nD τ sig Unit (Elt F) ℕ (UR sig nD τ) ℕ

/-- The tables' contents: the tile of queries and the tile of keys of each point of a head. -/
def tabs : pre0.Contents (Elt F) := fun
  | 0 => fun i => lit0 (S72.rowMajor i)
  | 1 => fun i => lit1 (S72.rowMajor i)
  | ⟨_ + 2, h⟩ => absurd h (Nat.not_lt.2 (Nat.le_add_left _ _))

set_option maxHeartbeats 4000000 in
/-- The tables' contents are admissible (the words do not depend on the reading of floats). -/
theorem tabs_ok_ideal : ok0 (F := Ideal) (tabs (F := Ideal)) := by decide +kernel
/-- The tables' contents are admissible. -/
theorem tabs_ok : ok0 (F := F) (tabs (F := F)) := tabs_ok_ideal

/-- The pipeline's tables. -/
abbrev adm : (p : Fin 1) → (pcfgs (F := F) p).Adm := fun _ => ⟨tabs, tabs_ok⟩
/-- The pipeline at its tables. -/
abbrev cfgT : Pipeline.Cfg sig Λ₀ := cfg0 (adm (F := F) 0)

/-- The table index that a point reads. -/
abbrev wordAt (i : grid0.Coords) : S72.Idx :=
  (Rect.unit (s := S72) (k0_off1 i) S1.size (k0_off1_inb i)).toLoadRect.idx (Shape.Idx.first (s := S1) (numel1_S1.symm ▸ Nat.one_pos))
/-- The tile of queries of a point. -/
def qw (i : grid0.Coords) : BitVec 32 := lit0 (S72.rowMajor (wordAt i))
/-- The tile of keys of a point. -/
def kw (i : grid0.Coords) : BitVec 32 := lit1 (S72.rowMajor (wordAt i))

/-- The first query tile that sees a key tile; the second; a later one. -/
def IsA (i : grid0.Coords) : Prop := Body.cond1 (qw i) (kw i) = 1#1
def IsB (i : grid0.Coords) : Prop := k0_cond5 (qw i) (kw i) = 1#1
instance (i) : Decidable (IsA i) := by unfold IsA; infer_instance
instance (i) : Decidable (IsB i) := by unfold IsB; infer_instance

set_option maxHeartbeats 4000000 in
theorem chk (i : grid0.Coords) : k0_chk1 (qw i) ∧ k0_chk2 (qw i) (kw i) ∧ ∀ a, k0_off2 (qw i) a + S1024x256.size a ≤ S16384x256.size a := by
  revert i; decide +kernel
set_option maxHeartbeats 4000000 in
theorem pathA (i : grid0.Coords) (h : IsA i) : ¬ k0_cond3 (qw i) (kw i) = 1#1 ∧ k0_cond4 (qw i) (kw i) = 1#1 ∧ ¬ k0_cond5 (qw i) (kw i) = 1#1 := by
  revert i; decide +kernel
set_option maxHeartbeats 4000000 in
theorem pathB (i : grid0.Coords) (h : ¬ IsA i) (h' : IsB i) : ¬ k0_cond3 (qw i) (kw i) = 1#1 ∧ ¬ k0_cond4 (qw i) (kw i) = 1#1 := by
  revert i; decide +kernel
set_option maxHeartbeats 4000000 in
theorem pathC (i : grid0.Coords) (h : ¬ IsA i) (h' : ¬ IsB i) : k0_cond3 (qw i) (kw i) = 1#1 ∧ ¬ k0_cond4 (qw i) (kw i) = 1#1 := by
  revert i; decide +kernel
theorem zeroA : IsA (grid0.coords ⟨0, by decide⟩) := by decide +kernel

variable (m : (ℓ : Loc nD τ sig) → Buf (Elt F) ℓ)

/-- The host operations before the region. -/
abbrev hostOps : List (List (HloOp τ sig (Elt F))) :=
  [hostOps0, hostOps0_1, hostOps0_2, hostOps0_3, hostOps0_4, hostOps0_5, hostOps0_6, hostOps0_7, hostOps0_8]
/-- What the buffers hold when the region is entered. -/
def V (c : Dev nD) (b : Ref sig .tc) : Buf (Elt F) ((c.tc : Thread nD τ).loc b) :=
  StableHlo.after hostOps.flatten (fun b => m (c, b)) b

/-- The blocks a point reads. -/
def blk (c : Dev nD) (t : Fin (cfgT (F := F)).N) : Body.Blk F where
  q := ((cfgT.win 0).blk t).view.read (Elt F) (V m c main_v36)
  k := ((cfgT.win 1).blk t).view.read (Elt F) (V m c main_v39)
  v := ((cfgT.win 2).blk t).view.read (Elt F) (V m c main_v41)
  ct := ((cfgT.win 3).blk t).view.read (Elt F) (V m c main_v43)
  lse := ((cfgT.win 4).blk t).view.read (Elt F) (V m c main_v52)
  delta := ((cfgT.win 5).blk t).view.read (Elt F) (V m c main_v55)

/-- What a point leaves of the key gradient's sum. -/
def step13 (i : grid0.Coords) (b : Body.Blk F) (x : Vec F S2048x256 .f32) : Vec F S2048x256 .f32 :=
  if IsA i then Body.s13A (qw i) (kw i) b else if IsB i then Body.s13B (qw i) (kw i) b x else Body.s13C b x
/-- What a point leaves of the value gradient's sum. -/
def step14 (i : grid0.Coords) (b : Body.Blk F) (x : Vec F S2048x128 .f32) : Vec F S2048x128 .f32 :=
  if IsA i then Body.s14A (qw i) (kw i) b else if IsB i then Body.s14B (qw i) (kw i) b x else Body.s14C b x
/-- What a point leaves of the query gradient's rows. -/
def dqRow (i : grid0.Coords) (b : Body.Blk F) (x : Vec F S1024x256 .f32) : Vec F S1024x256 .f32 :=
  if IsA i then Body.dqA (qw i) (kw i) b x else if IsB i then Body.dqB (qw i) (kw i) b x else Body.dqC b x
/-- What a point leaves of the query gradient. -/
def dqStep (i : grid0.Coords) (b : Body.Blk F) (x : Vec F S16384x256 .f32) : Vec F S16384x256 .f32 :=
  Body.dqPut (qw i) (kw i) (chk i).2.2 (dqRow i b) x

/-- The two sums before point `n`. -/
def sums (c : Dev nD) : ℕ → Vec F S2048x256 .f32 × Vec F S2048x128 .f32
  | 0 => (k0_pay38 (F := F), k0_pay39 (F := F))
  | n + 1 => if h : n < (cfgT (F := F)).N then
      (step13 (grid0.coords ⟨n, h⟩) (blk m c ⟨n, h⟩) (sums c n).1, step14 (grid0.coords ⟨n, h⟩) (blk m c ⟨n, h⟩) (sums c n).2)
    else sums c n

theorem sums_succ (c : Dev nD) (t : Fin (cfgT (F := F)).N) : sums m c (t.val + 1) =
    (step13 (grid0.coords t) (blk m c t) (sums m c t.val).1, step14 (grid0.coords t) (blk m c t) (sums m c t.val).2) := by
  unfold sums; rw [dif_pos t.isLt]; cases t; rename_i n h; cases n <;> rfl

/-- What a point may leave in a window's staging buffer. -/
def after (c : Dev nD) : (w : Fin (cfgT (F := F)).W) → Fin (cfgT (F := F)).N → (Y X : ((cfgT (F := F)).win w).block.Idx → Elt F ((cfgT (F := F)).win w).elt) → Prop := fun
  | 6 => fun t Y X => X = dqStep (grid0.coords t) (blk m c t) Y
  | 7 => fun t Y X => X = if k0_cond6 (qw (grid0.coords t)) = 1#1 then k0_pay7 (sums m c (t.val + 1)).1 else Y
  | 8 => fun t Y X => X = if k0_cond6 (qw (grid0.coords t)) = 1#1 then k0_pay8 (sums m c (t.val + 1)).2 else Y
  | _ => fun _ Y X => X = Y

/-- What the body carries between points: the two sums in the scratch buffers, the random state, the tables. -/
def Φ (c : Dev nD) (t : Fin ((cfgT (F := F)).N + 1)) : sProp 𝕄 :=
  iprop((∃ x13 : Vec F S2048x256 .f32, ∃ x14 : Vec F S2048x128 .f32, ⌜t.val ≠ 0 → x13 = (sums m c t.val).1 ∧ x14 = (sums m c t.val).2⌝
    ∗ owns c (Memref.whole cc0_scratch0) fullShare x13 ∗ owns c (Memref.whole cc0_scratch1) fullShare x14)
    ∗ (∃ r, prngReg c r) ∗ owns c (Memref.whole main_c) fullShare.right (tabs (F := F) 0) ∗ owns c (Memref.whole main_c_0) fullShare.right (tabs (F := F) 1))

/-- The pipeline's proof data. -/
def rdat (c : Dev nD) : Pipeline.RDat τ (Elt F) Unit ℕ (UR sig nD τ) ℕ (cfgT (F := F)) c where
  A w := V m c (Pipeline.arrRef spec0 w)
  after := after m c
  Φ := Φ m c
  q _ := fullShare
  owed _ := 0

/-- The body at a point, at the tables: whichever branch it takes, it leaves the step functions' contents. -/
theorem run (c : Dev nD) (i : grid0.Coords) (arg2 : Memref sig .tc .smem S72 .i32) (harg2 : arg2.IsWhole) (arg3 : Memref sig .tc .smem S72 .i32) (harg3 : arg3.IsWhole) (arg4 : Memref sig .tc .vmem S1024x256 .bf16) (harg4 : arg4.IsWhole) (arg5 : Memref sig .tc .vmem S2048x256 .bf16) (harg5 : arg5.IsWhole) (arg6 : Memref sig .tc .vmem S2048x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S16384x256 .f32) (harg10 : arg10.IsWhole) (arg11 : Memref sig .tc .vmem S2048x256 .bf16) (harg11 : arg11.IsWhole) (arg12 : Memref sig .tc .vmem S2048x128 .bf16) (harg12 : arg12.IsWhole) (arg13 : Memref sig .tc .vmem S2048x256 .f32) (harg13 : arg13.IsWhole) (arg14 : Memref sig .tc .vmem S2048x128 .f32) (harg14 : arg14.IsWhole)
    (q : PosShare TreeShare) (b : Body.Blk F) (x10 : Vec F S16384x256 .f32) (x11 : Vec F S2048x256 .bf16) (x12 : Vec F S2048x128 .bf16) (x13 : Vec F S2048x256 .f32) (x14 : Vec F S2048x128 .f32)
    (E : Set ℕ) (K : PUnit → sProp 𝕄) :
    iprop(owns c.tc arg2 q (tabs (F := F) 0) ∗ owns c.tc arg3 q (tabs (F := F) 1) ∗ owns c.tc arg4 fullShare b.q ∗ owns c.tc arg5 fullShare b.k ∗ owns c.tc arg6 fullShare b.v ∗ owns c.tc arg7 fullShare b.ct ∗ owns c.tc arg8 fullShare b.lse ∗ owns c.tc arg9 fullShare b.delta
        ∗ owns c.tc arg10 fullShare x10 ∗ owns c.tc arg11 fullShare x11 ∗ owns c.tc arg12 fullShare x12 ∗ owns c.tc arg13 fullShare x13 ∗ owns c.tc arg14 fullShare x14
        ∗ (iprop(owns c.tc arg2 q (tabs (F := F) 0) ∗ owns c.tc arg3 q (tabs (F := F) 1) ∗ owns c.tc arg4 fullShare b.q ∗ owns c.tc arg5 fullShare b.k ∗ owns c.tc arg6 fullShare b.v ∗ owns c.tc arg7 fullShare b.ct ∗ owns c.tc arg8 fullShare b.lse ∗ owns c.tc arg9 fullShare b.delta
            ∗ owns c.tc arg10 fullShare (dqStep i b x10) ∗ owns c.tc arg11 fullShare (if k0_cond6 (qw i) = 1#1 then k0_pay7 (step13 i b x13) else x11) ∗ owns c.tc arg12 fullShare (if k0_cond6 (qw i) = 1#1 then k0_pay8 (step14 i b x14) else x12)
            ∗ owns c.tc arg13 fullShare (step13 i b x13) ∗ owns c.tc arg14 fullShare (step14 i b x14)) -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14) K := by
  have hc := chk i
  by_cases hA : IsA i
  · have hp := pathA i hA
    have e10 : dqStep i b x10 = Body.dqPut (qw i) (kw i) hc.2.2 (Body.dqA (qw i) (kw i) b) x10 := congrArg (fun g => Body.dqPut (qw i) (kw i) hc.2.2 g x10) (funext fun x => if_pos hA)
    have e13 : step13 i b x13 = Body.s13A (qw i) (kw i) b := if_pos hA
    have e14 : step14 i b x14 = Body.s14A (qw i) (kw i) b := if_pos hA
    rw [e10, e13, e14]
    exact Body.runA c i arg2 harg2 arg3 harg3 arg4 harg4 arg5 harg5 arg6 harg6 arg7 harg7 arg8 harg8 arg9 harg9 arg10 harg10 arg11 harg11 arg12 harg12 arg13 harg13 arg14 harg14 (tabs (F := F) 0) (tabs (F := F) 1) q hc.1 hc.2.1 hc.2.2 hA hp.1 hp.2.1 hp.2.2 b x10 x11 x12 x13 x14 E K
  · by_cases hB : IsB i
    · have hp := pathB i hA hB
      have e10 : dqStep i b x10 = Body.dqPut (qw i) (kw i) hc.2.2 (Body.dqB (qw i) (kw i) b) x10 := congrArg (fun g => Body.dqPut (qw i) (kw i) hc.2.2 g x10) (funext fun x => (if_neg hA).trans (if_pos hB))
      have e13 : step13 i b x13 = Body.s13B (qw i) (kw i) b x13 := (if_neg hA).trans (if_pos hB)
      have e14 : step14 i b x14 = Body.s14B (qw i) (kw i) b x14 := (if_neg hA).trans (if_pos hB)
      rw [e10, e13, e14]
      exact Body.runB c i arg2 harg2 arg3 harg3 arg4 harg4 arg5 harg5 arg6 harg6 arg7 harg7 arg8 harg8 arg9 harg9 arg10 harg10 arg11 harg11 arg12 harg12 arg13 harg13 arg14 harg14 (tabs (F := F) 0) (tabs (F := F) 1) q hc.1 hc.2.1 hc.2.2 hA hp.1 hp.2 hB b x10 x11 x12 x13 x14 E K
    · have hp := pathC i hA hB
      have e10 : dqStep i b x10 = Body.dqPut (qw i) (kw i) hc.2.2 (Body.dqC b) x10 := congrArg (fun g => Body.dqPut (qw i) (kw i) hc.2.2 g x10) (funext fun x => (if_neg hA).trans (if_neg hB))
      have e13 : step13 i b x13 = Body.s13C b x13 := (if_neg hA).trans (if_neg hB)
      have e14 : step14 i b x14 = Body.s14C b x14 := (if_neg hA).trans (if_neg hB)
      rw [e10, e13, e14]
      exact Body.runC c i arg2 harg2 arg3 harg3 arg4 harg4 arg5 harg5 arg6 harg6 arg7 harg7 arg8 harg8 arg9 harg9 arg10 harg10 arg11 harg11 arg12 harg12 arg13 harg13 arg14 harg14 (tabs (F := F) 0) (tabs (F := F) 1) q hc.1 hc.2.1 hc.2.2 hA hp.1 hp.2 hB b x10 x11 x12 x13 x14 E K

/-- What an uncut input window's staging buffer holds at a point: the block of the array there. -/
theorem finds_in (c : Dev nD) (w : Fin (cfgT (F := F)).W) (hw : ((cfgT (F := F)).win w).isOut = false)
    (hclip : ∀ i a, ((cfgT (F := F)).win w).clip i a = none) (hkeep : ∀ t Y X, after m c w t Y X → X = Y)
    (t : Fin (cfgT (F := F)).N) (Y B : (cfgT.win w).block.Idx → Elt F (cfgT.win w).elt)
    (hB : (rdat m c).blockOf w t = (cfgT.win w).cut ((cfgT (F := F)).grid.coords t) B)
    (h : (rdat m c).Finds w t Y) : Y = B := by
  obtain ⟨d, rfl⟩ := (rdat m c).finds_in_eq_fetched w hw (fun t t' _ => funext fun a => (hclip _ a).trans (hclip _ a).symm) hkeep t Y h
  unfold Pipeline.RDat.fetched
  rw [hB]
  exact (Pipeline.fill_of_clip_none w _ (hclip _) d B _).trans ((cfgT.win w).fill_cut _ B)

theorem finds0 (c : Dev nD) (t) (Y) (h : (rdat m c).Finds 0 t Y) : Y = (blk m c t).q :=
  finds_in m c 0 rfl (fun _ _ => rfl) (fun _ _ _ h => h) t Y (blk m c t).q rfl h
theorem finds1 (c : Dev nD) (t) (Y) (h : (rdat m c).Finds 1 t Y) : Y = (blk m c t).k :=
  finds_in m c 1 rfl (fun _ _ => rfl) (fun _ _ _ h => h) t Y (blk m c t).k rfl h
theorem finds2 (c : Dev nD) (t) (Y) (h : (rdat m c).Finds 2 t Y) : Y = (blk m c t).v :=
  finds_in m c 2 rfl (fun _ _ => rfl) (fun _ _ _ h => h) t Y (blk m c t).v rfl h
theorem finds3 (c : Dev nD) (t) (Y) (h : (rdat m c).Finds 3 t Y) : Y = (blk m c t).ct :=
  finds_in m c 3 rfl (fun _ _ => rfl) (fun _ _ _ h => h) t Y (blk m c t).ct rfl h
theorem finds4 (c : Dev nD) (t) (Y) (h : (rdat m c).Finds 4 t Y) : Y = (blk m c t).lse :=
  finds_in m c 4 rfl (fun _ _ => rfl) (fun _ _ _ h => h) t Y (blk m c t).lse rfl h
theorem finds5 (c : Dev nD) (t) (Y) (h : (rdat m c).Finds 5 t Y) : Y = (blk m c t).delta :=
  finds_in m c 5 rfl (fun _ _ => rfl) (fun _ _ _ h => h) t Y (blk m c t).delta rfl h

end Cert.FlashIdeal.Launch
-- ==== Proof.FlashBody.lean ====
module

public import proofs.«01_k».proof.Proof.FlashData
public import proofs.«01_k».proof.Proof.Gen.FlashIdeal.Launch
public import proofs.«01_k».proof.Proof.Gen.FlashIdeal.Skeleton
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Pipeline.FrameBody

@[expose] public section

set_option maxRecDepth 16384

noncomputable section

namespace Cert.FlashIdeal.Launch

open Idealize.ShloMosaic TcCoe Tactic
open Idealize.SL RA BI
open scoped Idealize.SL.BI
open Idealize.SL.BI.BIBase Idealize.SL.BI.Laws Idealize.SL.ProofMode Idealize.SL.Sem
open Idealize.ShloMosaic.Rounds
open FlashIdeal.Gen

variable {F : FTy → Type} [FloatOps F] [Named F]
variable (m : (ℓ : Loc nD τ sig) → Buf (Elt F) ℓ)

local notation "𝕄" => MT nD τ sig Unit (Elt F) ℕ (UR sig nD τ) ℕ

/-- At the first point the sum is reset, so what the scratch held before does not matter. -/
theorem step13_eq (c : Dev nD) (t : Fin (cfgT (F := F)).N) (x : Vec F S2048x256 .f32) (hx : t.val ≠ 0 → x = (sums m c t.val).1) :
    step13 (grid0.coords t) (blk m c t) x = step13 (grid0.coords t) (blk m c t) (sums m c t.val).1 := by
  by_cases h : t.val = 0
  · have hA : IsA (grid0.coords t) := by
      have : t = ⟨0, (by decide : 0 < grid0.N)⟩ := Fin.ext h
      rw [this]; exact zeroA
    exact (if_pos hA).trans (if_pos hA).symm
  · rw [hx h]
theorem step14_eq (c : Dev nD) (t : Fin (cfgT (F := F)).N) (x : Vec F S2048x128 .f32) (hx : t.val ≠ 0 → x = (sums m c t.val).2) :
    step14 (grid0.coords t) (blk m c t) x = step14 (grid0.coords t) (blk m c t) (sums m c t.val).2 := by
  by_cases h : t.val = 0
  · have hA : IsA (grid0.coords t) := by
      have : t = ⟨0, (by decide : 0 < grid0.N)⟩ := Fin.ext h
      rw [this]; exact zeroA
    exact (if_pos hA).trans (if_pos hA).symm
  · rw [hx h]

attribute [local irreducible] sums step13 step14 dqStep blk

/-- The body as the pipeline calls it at a point. -/
abbrev bodyAt (t : Fin (cfgT (F := F)).N) : Prog (TpuEff nD τ sig (Elt F) Λ₀ .tc) PUnit :=
  cc0_flash_bwd (grid0.coords t) (Memref.whole main_c) (Memref.isWhole_whole _) (Memref.whole main_c_0) (Memref.isWhole_whole _) (spec0_0.stage (cfgT.slots t 0)) (hstage0_0 ((cfgT.slots t 0).cast nbuf0_0)) (spec0_1.stage (cfgT.slots t 1)) (hstage0_1 ((cfgT.slots t 1).cast nbuf0_1)) (spec0_2.stage (cfgT.slots t 2)) (hstage0_2 ((cfgT.slots t 2).cast nbuf0_2)) (spec0_3.stage (cfgT.slots t 3)) (hstage0_3 ((cfgT.slots t 3).cast nbuf0_3)) (spec0_4.stage (cfgT.slots t 4)) (hstage0_4 ((cfgT.slots t 4).cast nbuf0_4)) (spec0_5.stage (cfgT.slots t 5)) (hstage0_5 ((cfgT.slots t 5).cast nbuf0_5)) (spec0_6.stage (cfgT.slots t 6)) (hstage0_6 ((cfgT.slots t 6).cast nbuf0_6)) (spec0_7.stage (cfgT.slots t 7)) (hstage0_7 ((cfgT.slots t 7).cast nbuf0_7)) (spec0_8.stage (cfgT.slots t 8)) (hstage0_8 ((cfgT.slots t 8).cast nbuf0_8)) (Memref.whole cc0_scratch0) (Memref.isWhole_whole _) (Memref.whole cc0_scratch1) (Memref.isWhole_whole _)
set_option maxHeartbeats 1600000 in
/-- The body's triple at a point, the windows one by one. -/
theorem sound (c : Dev nD) (t : Fin (cfgT (F := F)).N) (y6 : Vec F S16384x256 .f32) (y7 : Vec F S2048x256 .bf16) (y8 : Vec F S2048x128 .bf16) :
    iprop((rdat m c).Φ t.castSucc ∗ (rdat m c).owesAt () t.castSucc ∗ owns c.tc (spec0_0.stage (cfgT.slots t 0)) fullShare (blk m c t).q ∗ owns c.tc (spec0_1.stage (cfgT.slots t 1)) fullShare (blk m c t).k ∗ owns c.tc (spec0_2.stage (cfgT.slots t 2)) fullShare (blk m c t).v ∗ owns c.tc (spec0_3.stage (cfgT.slots t 3)) fullShare (blk m c t).ct ∗ owns c.tc (spec0_4.stage (cfgT.slots t 4)) fullShare (blk m c t).lse ∗ owns c.tc (spec0_5.stage (cfgT.slots t 5)) fullShare (blk m c t).delta ∗ owns c.tc (spec0_6.stage (cfgT.slots t 6)) fullShare y6 ∗ owns c.tc (spec0_7.stage (cfgT.slots t 7)) fullShare y7 ∗ owns c.tc (spec0_8.stage (cfgT.slots t 8)) fullShare y8)
      ⊢ wp frame (wpE (defs₀ (F := F)) Variants.none c none) Set.univ (bodyAt t) (fun _ => iprop((rdat m c).Φ t.succ ∗ (rdat m c).owesAt () t.succ ∗ (∃ X, ⌜after m c 0 t (blk m c t).q X⌝ ∗ owns c.tc (spec0_0.stage (cfgT.slots t 0)) fullShare X) ∗ (∃ X, ⌜after m c 1 t (blk m c t).k X⌝ ∗ owns c.tc (spec0_1.stage (cfgT.slots t 1)) fullShare X) ∗ (∃ X, ⌜after m c 2 t (blk m c t).v X⌝ ∗ owns c.tc (spec0_2.stage (cfgT.slots t 2)) fullShare X) ∗ (∃ X, ⌜after m c 3 t (blk m c t).ct X⌝ ∗ owns c.tc (spec0_3.stage (cfgT.slots t 3)) fullShare X) ∗ (∃ X, ⌜after m c 4 t (blk m c t).lse X⌝ ∗ owns c.tc (spec0_4.stage (cfgT.slots t 4)) fullShare X) ∗ (∃ X, ⌜after m c 5 t (blk m c t).delta X⌝ ∗ owns c.tc (spec0_5.stage (cfgT.slots t 5)) fullShare X) ∗ (∃ X, ⌜after m c 6 t y6 X⌝ ∗ owns c.tc (spec0_6.stage (cfgT.slots t 6)) fullShare X) ∗ (∃ X, ⌜after m c 7 t y7 X⌝ ∗ owns c.tc (spec0_7.stage (cfgT.slots t 7)) fullShare X) ∗ (∃ X, ⌜after m c 8 t y8 X⌝ ∗ owns c.tc (spec0_8.stage (cfgT.slots t 8)) fullShare X))) := by
  rw [show (rdat m c).Φ t.succ = Φ m c t.succ from rfl, show (rdat m c).Φ t.castSucc = Φ m c t.castSucc from rfl,
    show (rdat m c).owesAt () t.succ = (rdat m c).owesAt () t.castSucc from rfl]
  unfold Φ
  iintro ⟨⟨⟨%x13, %x14, %hx, H13, H14⟩, Hr, H2, H3⟩, Ho, H4, H5, H6, H7, H8, H9, H10, H11, H12⟩
  simp only [Fin.val_castSucc] at hx
  have e13 : step13 (grid0.coords t) (blk m c t) x13 = (sums m c (t.val + 1)).1 := by
    rw [sums_succ]; rw [step13_eq m c t x13 (fun h => (hx h).1)]
  have e14 : step14 (grid0.coords t) (blk m c t) x14 = (sums m c (t.val + 1)).2 := by
    rw [sums_succ]; rw [step14_eq m c t x14 (fun h => (hx h).2)]
  have R := run c (grid0.coords t) (Memref.whole main_c) (Memref.isWhole_whole _) (Memref.whole main_c_0) (Memref.isWhole_whole _) (spec0_0.stage (cfgT.slots t 0)) (hstage0_0 ((cfgT.slots t 0).cast nbuf0_0)) (spec0_1.stage (cfgT.slots t 1)) (hstage0_1 ((cfgT.slots t 1).cast nbuf0_1)) (spec0_2.stage (cfgT.slots t 2)) (hstage0_2 ((cfgT.slots t 2).cast nbuf0_2)) (spec0_3.stage (cfgT.slots t 3)) (hstage0_3 ((cfgT.slots t 3).cast nbuf0_3)) (spec0_4.stage (cfgT.slots t 4)) (hstage0_4 ((cfgT.slots t 4).cast nbuf0_4)) (spec0_5.stage (cfgT.slots t 5)) (hstage0_5 ((cfgT.slots t 5).cast nbuf0_5)) (spec0_6.stage (cfgT.slots t 6)) (hstage0_6 ((cfgT.slots t 6).cast nbuf0_6)) (spec0_7.stage (cfgT.slots t 7)) (hstage0_7 ((cfgT.slots t 7).cast nbuf0_7)) (spec0_8.stage (cfgT.slots t 8)) (hstage0_8 ((cfgT.slots t 8).cast nbuf0_8)) (Memref.whole cc0_scratch0) (Memref.isWhole_whole _) (Memref.whole cc0_scratch1) (Memref.isWhole_whole _)
    fullShare.right (blk m c t) y6 y7 y8 x13 x14 Set.univ
  rw [e13, e14] at R
  iapply (R _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, H11, H12, H13, H14⟩
  isplitl [H13 H14 Hr H2 H3]
  · isplitl [H13 H14]
    · iexists _, _; isplitr
      swap
      · isplitl [H13]
        · iexact H13
        · iexact H14
      · ipureintro; intro _; exact ⟨rfl, rfl⟩
    isplitl [Hr]; · iexact Hr
    isplitl [H2]; · iexact H2
    iexact H3
  isplitl [Ho]; · iexact Ho
  isplitl [H4]
  · iexists _; isplitr
    swap; · iexact H4
    ipureintro; exact rfl
  isplitl [H5]
  · iexists _; isplitr
    swap; · iexact H5
    ipureintro; exact rfl
  isplitl [H6]
  · iexists _; isplitr
    swap; · iexact H6
    ipureintro; exact rfl
  isplitl [H7]
  · iexists _; isplitr
    swap; · iexact H7
    ipureintro; exact rfl
  isplitl [H8]
  · iexists _; isplitr
    swap; · iexact H8
    ipureintro; exact rfl
  isplitl [H9]
  · iexists _; isplitr
    swap; · iexact H9
    ipureintro; exact rfl
  isplitl [H10]
  · iexists _; isplitr
    swap; · iexact H10
    ipureintro; exact rfl
  isplitl [H11]
  · iexists _; isplitr
    swap; · iexact H11
    ipureintro; exact rfl
  iexists _; isplitr
  swap; · iexact H12
  ipureintro; exact rfl

/-- The body table's row at a point is the body as spelt above. -/
theorem defs₀_row (t : Fin (cfgT (F := F)).N) :
    defs₀ (F := F) .tc cfgT.body (cfgT.bodyArgs t (cfgT.slots t)) = bodyAt t := by
  unfold defs₀; rw [Defs.onTc_tc]

/-- The body obligation. -/
theorem body_obligation (c : Dev nD) : (rdat m c).BodyObligation (defs₀ (F := F)) Variants.none () Set.univ := fun t Y hY => by
  rw [bigSep_W0, bigSep_W0, defs₀_row]
  rw [finds0 m c t _ (hY 0), finds1 m c t _ (hY 1), finds2 m c t _ (hY 2), finds3 m c t _ (hY 3), finds4 m c t _ (hY 4), finds5 m c t _ (hY 5)]
  exact triple_restated (sound m c t (Y 6) (Y 7) (Y 8)) rfl .rfl fun _ => .rfl

end Cert.FlashIdeal.Launch
-- ==== Proof.FlashLaunch.lean ====
module

public import proofs.«01_k».proof.Proof.FlashBody
public import proofs.«01_k».proof.Proof.Gen.FlashIdeal.Launch
public import proofs.«01_k».proof.Proof.Gen.FlashIdeal.Skeleton
public import Idealize.ShloMosaic.Lib.StableHlo.RunRead
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Pipeline.FrameBody

@[expose] public section

set_option maxRecDepth 16384

noncomputable section

namespace Cert.FlashIdeal.Launch

open Idealize.ShloMosaic TcCoe Tactic
open Idealize.SL RA BI
open scoped Idealize.SL.BI
open Idealize.SL.BI.BIBase Idealize.SL.BI.Laws Idealize.SL.ProofMode Idealize.SL.Sem
open Idealize.ShloMosaic.Rounds
open FlashIdeal.Gen

variable {F : FTy → Type} [FloatOps F] [Named F]
variable (m : (ℓ : Loc nD τ sig) → Buf (Elt F) ℓ)

local notation "𝕄" => MT nD τ sig Unit (Elt F) ℕ (UR sig nD τ) ℕ

theorem hostOps_fresh : (hostOps (F := F)).Forall fun ops => ops.Forall fun op => op.fresh = ∅ := by
  repeat' constructor

/-- @main up to the region. -/
theorem hmain : Pipeline.HMainP (Ix := Unit) (Name := ℕ) (U := UR sig nD τ) (Lvl := ℕ) (pcfgs (F := F)) 0 (defs₀ (F := F)) Variants.none m (main (F := F)) (V m) :=
  Pipeline.hmainP_prefixes _ 0 _ _ m main hostOps
    ⟨hostOps0_sub, hostOps0_1_sub, hostOps0_2_sub, hostOps0_3_sub, hostOps0_4_sub, hostOps0_5_sub, hostOps0_6_sub, hostOps0_7_sub, hostOps0_8_sub⟩
    hostOps_fresh fun c => main_chain c

theorem V_tab0 (c : Dev nD) : V m c main_c = tabs (F := F) 0 := by
  unfold V hostOps; simp only [List.flatten_cons, List.flatten_nil]; after_reads_simp; rfl
theorem V_tab1 (c : Dev nD) : V m c main_c_0 = tabs (F := F) 1 := by
  unfold V hostOps; simp only [List.flatten_cons, List.flatten_nil]; after_reads_simp; rfl
theorem V_arg0 (c : Dev nD) : V m c main_arg0 = m (c.tc.loc main_arg0) := by
  unfold V hostOps; simp only [List.flatten_cons, List.flatten_nil]; after_reads_simp
theorem V_arg1 (c : Dev nD) : V m c main_arg1 = m (c.tc.loc main_arg1) := by
  unfold V hostOps; simp only [List.flatten_cons, List.flatten_nil]; after_reads_simp
theorem V_arg2 (c : Dev nD) : V m c main_arg2 = m (c.tc.loc main_arg2) := by
  unfold V hostOps; simp only [List.flatten_cons, List.flatten_nil]; after_reads_simp
theorem V_arg3 (c : Dev nD) : V m c main_arg3 = m (c.tc.loc main_arg3) := by
  unfold V hostOps; simp only [List.flatten_cons, List.flatten_nil]; after_reads_simp

attribute [local irreducible] sums step13 step14 dqStep blk

theorem share_rdat (c : Dev nD) (w) : (rdat m c).share w = fullShare := by
  unfold Pipeline.RDat.share; split <;> rfl

theorem whole_in (c : Dev nD) (b : Ref sig .tc) (q : PosShare TreeShare) (f : b.ty.Contents (Elt F)) :
    ((c.tc.loc b) ↦{q} f : sProp 𝕄) ⊢ owns c.tc (Memref.whole b) q f := by rw [owns_whole]
theorem whole_out (c : Dev nD) (b : Ref sig .tc) (q : PosShare TreeShare) (f : b.ty.Contents (Elt F)) :
    owns c.tc (Memref.whole b) q f ⊢ ((c.tc.loc b) ↦{q} f : sProp 𝕄) := by rw [owns_whole]

theorem tabs_held (c : Dev nD) : (Pipeline.ΦT (U := UR sig nD τ) pre0 (tabs (F := F)) c : sProp 𝕄)
    ⊢ iprop(owns c (Memref.whole main_c) fullShare.right (tabs (F := F) 0) ∗ owns c (Memref.whole main_c_0) fullShare.right (tabs (F := F) 1)) := by
  unfold Pipeline.ΦT Pipeline.prefHeld
  rw [bigSep_univ_eq_bigSepL [(0 : Fin 2), (1 : Fin 2)] (by decide) (by decide)]
  rw [show ∀ Ψ : Fin 2 → sProp 𝕄, bigSepL [(0 : Fin 2), (1 : Fin 2)] Ψ = iprop(Ψ 0 ∗ Ψ 1) from fun _ => rfl]
  iintro ⟨H0, H1⟩
  isplitl [H0]
  · iapply (whole_in c main_c fullShare.right (tabs (F := F) 0)); iexact H0
  iapply (whole_in c main_c_0 fullShare.right (tabs (F := F) 1)); iexact H1

theorem inv_in (c : Dev nD) : iprop(Pipeline.ΦA (U := UR sig nD τ) (Val := Elt F) spec0 c ∗ Pipeline.ΦT (U := UR sig nD τ) pre0 (tabs (F := F)) c) ⊢ Φ m c 0 := by
  unfold Pipeline.ΦA Φ
  rw [scopedRest0_eq]
  iintro ⟨⟨⟨⟨%f0, H0⟩, ⟨%f1, H1⟩⟩, Hr⟩, HT⟩
  isplitl [H0 H1]
  · iexists _, _; isplitr
    swap
    · isplitl [H0]
      · iapply (whole_in c cc0_scratch0 fullShare f0); iexact H0
      iapply (whole_in c cc0_scratch1 fullShare f1); iexact H1
    ipureintro; exact fun h => absurd rfl h
  isplitl [Hr]; · iexact Hr
  iapply (tabs_held c); iexact HT

theorem inv_out (c : Dev nD) : Φ m c (Fin.last _) ⊢ (Pipeline.ΦA (U := UR sig nD τ) (Val := Elt F) spec0 c : sProp 𝕄) := by
  unfold Pipeline.ΦA Φ
  rw [scopedRest0_eq]
  iintro ⟨⟨%x, %y, -, H0, H1⟩, Hr, -⟩
  isplitl [H0 H1]
  · isplitl [H0]
    · iexists x; iapply (whole_out c cc0_scratch0 fullShare x); iexact H0
    · iexists y; iapply (whole_out c cc0_scratch1 fullShare y); iexact H1
  iexact Hr

variable (g : Dev nD → PrngReg)

set_option backward.isDefEq.respectTransparency.types false in
/-- The run: every execution ends, with the counters at zero and the arrays as the proof data say. -/
theorem run_main : θ_run defs (onTc (τ := τ) (main (F := F))) (s₀ m g)
    (fun r => Pipeline.RDat.FramePost cfgT (rdat m) (V m) r ∧ r.2.sem = fun _ => 0) :=
  Pipeline.RDat.θ_run_frameP_track (Q' := _) pcfgs adm (0 : Fin 1) launch0 defs₀ Variants.none (rdat m) m g main
    (hbody := body_obligation m) (hshare := share_rdat m) (howed := fun _ _ => rfl) (V := V m) (hmain := hmain m)
    (hA := fun _ _ => rfl) (hpf := fun c k => by
      match k with
      | 0 => exact V_tab0 m c
      | 1 => exact V_tab1 m c)
    (hin := inv_in m) (hout := inv_out m)

/-- The frame: the arguments end unchanged and the counters at zero. -/
theorem frame : θ_run defs (onTc (τ := τ) (main (F := F))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  (θ_run defs _ _).mono (fun r h => ⟨fun c => ⟨((h.1 c).2 main_arg0 (by decide : main_arg0 ∈ Pipeline.restRefs sig spec0)).trans (V_arg0 m c), ((h.1 c).2 main_arg1 (by decide : main_arg1 ∈ Pipeline.restRefs sig spec0)).trans (V_arg1 m c),
    ((h.1 c).2 main_arg2 (by decide : main_arg2 ∈ Pipeline.restRefs sig spec0)).trans (V_arg2 m c), ((h.1 c).2 main_arg3 (by decide : main_arg3 ∈ Pipeline.restRefs sig spec0)).trans (V_arg3 m c)⟩, h.2⟩) (run_main m g)

end Cert.FlashIdeal.Launch
-- ==== Proof.FlashFrame.lean ====
module

public import proofs.«01_k».proof.Proof.FlashLaunch
public import proofs.«01_k».proof.Proof.Gen.Flash.Launch
public import proofs.«01_k».proof.Defs

@[expose] public section

set_option maxRecDepth 16384

noncomputable section

namespace Cert.FlashIdeal.Launch

open Idealize.ShloMosaic TcCoe Tactic
open Idealize.SL Idealize.SL.Sem

/-- On words a named constant is the literal it was printed for. -/
@[reducible] def wordNamed : Named Bits := ⟨fun _ _ _ bits => FloatOps.ofBits (F := Bits) _ bits⟩

attribute [local instance] wordNamed

set_option maxHeartbeats 4000000 in
/-- The frame of the program on words: its text is the idealized one's, the constant unnamed. -/
theorem frame_words : Cert.quiescent_Flash (hFlash := Flash.Gen.facts) := fun m g _ =>
  Eq.mp (by sl_kernel_rfl) (frame (F := Bits) m g)

end Cert.FlashIdeal.Launch
-- ==== Proof.FlashMath.lean ====
/- Chunk-causal softmax attention on real arrays, and its gradients. -/
module

public import proofs.«01_k».proof.Proof.Ereal
public import Mathlib.Analysis.SpecialFunctions.Log.Basic
public import Mathlib.Analysis.SpecialFunctions.Pow.Real
public import Mathlib.Algebra.BigOperators.Field
public import Idealize.ShloMosaic.Lib.StableHlo.Predicate

@[expose] public section

noncomputable section

namespace Cert.Attn

/-- The scale of the scores, as its float word reads. -/
def sc : ℝ := 9686330 / 134217728

/-- Key `b` is visible to query `a`: its chunk of 64 is not later. -/
def seen (a b : Fin 16384) : Prop := b.val / 64 ≤ a.val / 64

instance (a b : Fin 16384) : Decidable (seen a b) := by unfold seen; infer_instance

variable (q k : Fin 16384 → Fin 8 → Fin 192 → ℝ) (v ct : Fin 16384 → Fin 8 → Fin 128 → ℝ)

/-- The score of query `a` and key `b` in head `h`. -/
def score (h : Fin 8) (a b : Fin 16384) : ℝ := ∑ d : Fin 192, q a h d * sc * k b h d

/-- The exponential of a score less `M`, zero where the key is hidden. -/
def wt (M : ℝ) (h : Fin 8) (a b : Fin 16384) : ℝ := if seen a b then Real.exp (score q k h a b - M) else 0

/-- The sum of a row's exponentials. -/
def tot (M : ℝ) (h : Fin 8) (a : Fin 16384) : ℝ := ∑ b, wt q k M h a b

/-- The softmax. -/
def pr (h : Fin 8) (a b : Fin 16384) : ℝ := wt q k 0 h a b / tot q k 0 h a

/-- The cotangent of the softmax. -/
def dpr (h : Fin 8) (a b : Fin 16384) : ℝ := ∑ e : Fin 128, ct a h e * v b h e

/-- A row's sum of softmax times its cotangent. -/
def del (h : Fin 8) (a : Fin 16384) : ℝ := ∑ b, pr q k h a b * dpr v ct h a b

/-- The cotangent of the scores. -/
def dsc (h : Fin 8) (a b : Fin 16384) : ℝ := pr q k h a b * (dpr v ct h a b - del q k v ct h a)

/-- The gradient of the scaled queries. -/
def gq (h : Fin 8) (a : Fin 16384) (d : Fin 192) : ℝ := ∑ b, dsc q k v ct h a b * k b h d

/-- The gradient of the keys. -/
def gk (h : Fin 8) (b : Fin 16384) (d : Fin 192) : ℝ := ∑ a, dsc q k v ct h a b * (q a h d * sc)

/-- The gradient of the values. -/
def gv (h : Fin 8) (b : Fin 16384) (e : Fin 128) : ℝ := ∑ a, pr q k h a b * ct a h e

theorem wt_nonneg (M : ℝ) (h : Fin 8) (a b : Fin 16384) : 0 ≤ wt q k M h a b := by
  unfold wt; split
  · exact (Real.exp_pos _).le
  · exact le_rfl

theorem tot_pos (M : ℝ) (h : Fin 8) (a : Fin 16384) : 0 < tot q k M h a := by
  refine Finset.sum_pos' (fun b _ => wt_nonneg q k M h a b) ⟨a, Finset.mem_univ _, ?_⟩
  unfold wt
  rw [if_pos (show seen a a from le_rfl)]
  exact Real.exp_pos _

theorem wt_shift (M : ℝ) (h : Fin 8) (a b : Fin 16384) : wt q k M h a b = wt q k 0 h a b * Real.exp (-M) := by
  unfold wt; split
  · rw [← Real.exp_add]; congr 1; ring
  · rw [zero_mul]

theorem tot_shift (M : ℝ) (h : Fin 8) (a : Fin 16384) : tot q k M h a = tot q k 0 h a * Real.exp (-M) := by
  unfold tot; rw [Finset.sum_mul]; exact Finset.sum_congr rfl fun b _ => wt_shift q k M h a b

/-- The softmax does not depend on the number taken off the scores. -/
theorem pr_shift (M : ℝ) (h : Fin 8) (a b : Fin 16384) : wt q k M h a b / tot q k M h a = pr q k h a b := by
  rw [wt_shift, tot_shift, pr, mul_div_mul_right _ _ (Real.exp_pos _).ne']

/-- The logarithm of a row's sum of exponentials, however it was shifted. -/
theorem log_shift (M : ℝ) (h : Fin 8) (a : Fin 16384) : M + Real.log (tot q k M h a) = Real.log (tot q k 0 h a) := by
  rw [tot_shift, Real.log_mul (tot_pos q k 0 h a).ne' (Real.exp_pos _).ne', Real.log_exp]; ring

/-- The softmax as the exponential of a score less the row's logarithm. -/
theorem pr_exp (h : Fin 8) (a b : Fin 16384) (hs : seen a b) :
    Real.exp (score q k h a b - Real.log (tot q k 0 h a)) = pr q k h a b := by
  rw [Real.exp_sub, Real.exp_log (tot_pos q k 0 h a), pr, wt, if_pos hs, sub_zero]

theorem pr_hidden (h : Fin 8) (a b : Fin 16384) (hs : ¬seen a b) : pr q k h a b = 0 := by
  rw [pr, wt, if_neg hs, zero_div]

theorem dsc_hidden (h : Fin 8) (a b : Fin 16384) (hs : ¬seen a b) : dsc q k v ct h a b = 0 := by
  rw [dsc, pr_hidden q k h a b hs, zero_mul]

/-- The cotangent of the scores as the quotient rule writes it. -/
theorem dsc_quot (M : ℝ) (h : Fin 8) (a b : Fin 16384) :
    (dpr v ct h a b / tot q k M h a + -∑ b', dpr v ct h a b' * (1 / (tot q k M h a * tot q k M h a)) * wt q k M h a b') * wt q k M h a b
      = dsc q k v ct h a b := by
  have ht := (tot_pos q k M h a).ne'
  have e : ∑ b', dpr v ct h a b' * (1 / (tot q k M h a * tot q k M h a)) * wt q k M h a b' = del q k v ct h a / tot q k M h a := by
    unfold del
    rw [Finset.sum_div]
    refine Finset.sum_congr rfl fun b' _ => ?_
    rw [← pr_shift q k M h a b']
    field_simp
  rw [e, dsc, ← pr_shift q k M h a b]
  field_simp
  ring

/-- A row's sum of cotangent times attention output. -/
theorem del_out (h : Fin 8) (a : Fin 16384) : ∑ e : Fin 128, ct a h e * ∑ b, v b h e * pr q k h a b = del q k v ct h a := by
  unfold del dpr
  simp only [Finset.mul_sum]
  rw [Finset.sum_comm]
  refine Finset.sum_congr rfl fun b _ => Finset.sum_congr rfl fun e _ => by ring

open Idealize.ShloMosaic

/-- The maximum of a row with a visible key is a real number. -/
theorem fold_real (f : Fin 16384 → EReal) (P : Fin 16384 → Prop) [DecidablePred P] (r : Fin 16384 → ℝ) (a : Fin 16384) (ha : P a)
    (hf : ∀ b, f b = if P b then ((r b : ℝ) : EReal) else ⊥) :
    ∃ M : ℝ, Finset.univ.fold max ⊥ f = (M : EReal) := by
  have h1 : Finset.univ.fold max ⊥ f < (⊤ : EReal) := by
    rw [Finset.fold_max_lt]
    refine ⟨bot_lt_top, fun b _ => ?_⟩
    rw [hf]; split
    · exact EReal.coe_lt_top _
    · exact bot_lt_top
  have h2 : ⊥ < Finset.univ.fold max ⊥ f := by
    rw [Finset.lt_fold_max]
    refine .inr ⟨a, Finset.mem_univ _, ?_⟩
    rw [hf, if_pos ha]; exact EReal.bot_lt_coe _
  exact ⟨_, (EReal.coe_toReal h1.ne h2.ne').symm⟩

/-- The exponential of a masked score less a real number. -/
theorem exp_masked (M : ℝ) (h : Fin 8) (a b : Fin 16384) :
    Ideal.exp ((if seen a b then ((score q k h a b : ℝ) : EReal) else ⊥) - (M : EReal)) = ((wt q k M h a b : ℝ) : EReal) := by
  unfold wt; split
  · rw [← EReal.coe_sub, Ideal.exp_coe]
  · rw [EReal.bot_sub, Ideal.exp_bot, EReal.coe_zero]

/-- The word of a comparison of two small numbers. -/
theorem sle_word (a b : ℕ) (ha : a < 2 ^ 31) (hb : b < 2 ^ 31) :
    IntOp.cmpi .sle (BitVec.ofNat 32 a) (BitVec.ofNat 32 b) = if a ≤ b then 1#1 else 0#1 := by
  have h := StableHlo.Predicate.sle_ofNat_iff a b ha hb
  show BitVec.ofBool ((BitVec.ofNat 32 a).sle (BitVec.ofNat 32 b)) = _
  by_cases hab : a ≤ b
  · rw [if_pos hab]; exact h.mpr hab
  · rw [if_neg hab]
    rcases Bool.eq_false_or_eq_true ((BitVec.ofNat 32 a).sle (BitVec.ofNat 32 b)) with e | e
    · exact absurd (h.mp (by rw [e]; rfl)) hab
    · rw [e]; rfl

/-- A row of 192 numbers followed by zeros. -/
def padd (f : Fin 192 → ℝ) (c : Fin 256) : ℝ := if hc : c.val < 192 then f ⟨c.val, hc⟩ else 0

/-- Column `c` of head `h` in an array of eight heads of 256 columns. -/
def colw (h : Fin 8) (c : Fin 256) : Fin 2048 := ⟨h.val * 256 + c.val, by omega⟩

/-- Column `e` of head `h` in an array of eight heads of 128 columns. -/
def coln (h : Fin 8) (e : Fin 128) : Fin 1024 := ⟨h.val * 128 + e.val, by omega⟩

theorem lit_sc : Ideal.ofBits .f32 0x3D93CD3A#32 = ((sc : ℝ) : EReal) := by
  simp [Ideal.ofBits, Ideal.ieee, sc]; rw [← EReal.coe_mul]; norm_num

theorem lit_zero : Ideal.ofBits .f32 0x00000000#32 = (0 : EReal) := by
  simp [Ideal.ofBits, Ideal.ieee]

theorem lit_bot : Ideal.ofBits .f32 0xFF800000#32 = (⊥ : EReal) := by
  simp [Ideal.ofBits, Ideal.ieee]

end Cert.Attn
-- ==== Proof.FlashChunk.lean ====
module

public import proofs.«01_k».proof.Proof.Gen.FlashRefIdeal.Read
public import proofs.«01_k».proof.Proof.FlashMath
public import Idealize.ShloMosaic.Lib.Pointwise

@[expose] public section

set_option maxRecDepth 16384

noncomputable section

namespace Cert.FlashRefIdeal.Values

open Idealize.ShloMosaic
open FlashRefIdeal FlashRefIdeal.Gen FlashRefIdeal.Read Ereal Attn Idealize.ShloMosaic.TcCoe

/-- The chunk ids: positions divided by 64. -/
theorem v3_at : ∀ a : Fin 16384, val_main_v3 (F := Ideal) (ix1 a) = BitVec.ofNat 32 (a.val / 64) := by
  simp only [val_main_v3_apply, val_main_call0_v0_apply, val_main_call0_v1_apply, val_main_call0_v2_apply, val_main_call0_v5_apply, val_main_call0_v6_apply, val_main_call0_v7_apply, val_main_call0_v8_apply, val_main_call0_c_apply, val_main_call0_v9_apply, val_main_call0_v10_apply, val_main_call0_v11_apply, val_main_call0_c_0_apply, val_main_call0_v12_apply, val_main_call0_v13_apply, val_main_v2_apply, val_main_c_apply, val_main_call0_v3, val_main_call0_v4, signi]
  decide +kernel
end Cert.FlashRefIdeal.Values
-- ==== Proof.FlashRef.lean ====
module

public import proofs.«01_k».proof.Proof.Gen.FlashRefIdeal.Read
public import proofs.«01_k».proof.Proof.FlashMath
public import Idealize.ShloMosaic.Lib.Pointwise
public import proofs.«01_k».proof.Proof.FlashChunk

@[expose] public section

set_option maxRecDepth 16384

noncomputable section

namespace Cert.FlashRefIdeal.Values

open Idealize.ShloMosaic
open FlashRefIdeal FlashRefIdeal.Gen FlashRefIdeal.Read Ereal Attn Idealize.ShloMosaic.TcCoe

theorem v9_at (a b : Fin 16384) : val_main_v9 (F := Ideal) (ix2 a b) = if seen a b then 1#1 else 0#1 := by
  rw [val_main_v9_apply, val_main_v7_apply, val_main_v8_apply, val_main_v5_apply, val_main_v6_apply,
    show idx_main_v5 (idx_main_v7 (ix2 a b)) = ix1 b from funext fun x => by match x with | ⟨0, _⟩ => rfl,
    show idx_main_v6 (idx_main_v8 (ix2 a b)) = ix1 a from funext fun x => by match x with | ⟨0, _⟩ => rfl, v3_at, v3_at]
  have key := Attn.sle_word (b.val / 64) (a.val / 64) (by have := b.isLt; omega) (by have := a.isLt; omega)
  exact key

variable (x0 x1 : FVec Ideal S16384x8x192 .f32) (x2 x3 : FVec Ideal S16384x8x128 .f32)
variable (q k : Fin 16384 → Fin 8 → Fin 192 → ℝ) (v ct : Fin 16384 → Fin 8 → Fin 128 → ℝ)

variable (hq : ∀ a h d, x0 (ix3 a h d) = (q a h d : EReal)) (hk : ∀ a h d, x1 (ix3 a h d) = (k a h d : EReal))
include hq hk

/-- The masked scores. -/
theorem v11_at (h : Fin 8) (a b : Fin 16384) :
    val_main_v11_0 (F := Ideal) x0 x1 (ix3 h a b) = if seen a b then ((score q k h a b : ℝ) : EReal) else ⊥ := by
  rw [val_main_v11_0_apply, val_main_v4_apply, val_main_v11_1_apply, val_main_v10_apply,
    show idx_main_v10 (idx_main_v11_1 (ix3 h a b)) = ix2 a b from funext fun x => by match x with | ⟨0, _⟩ => rfl | ⟨1, _⟩ => rfl, v9_at]
  simp only [val_main_v1_apply, val_main_v0_apply, val_main_cst_apply, val_main_call1_v2_apply, val_main_call1_v0_apply, val_main_cst_0_apply]
  have e : ∑ x : Fin 192, FloatOps.mulf (F := Ideal) (x0 (lidx_main_v4 (ix3 h a b) x)) (FloatOps.ofBits (F := Ideal) FTy.f32 0x3D93CD3A#32) *
          x1 (ridx_main_v4 (ix3 h a b) x) = ((score q k h a b : ℝ) : EReal) := by
    unfold score
    rw [← sum_coe]
    refine Finset.sum_congr rfl fun d _ => ?_
    rw [show lidx_main_v4 (ix3 h a b) d = ix3 a h d from funext fun x => by match x with | ⟨0, _⟩ => rfl | ⟨1, _⟩ => rfl | ⟨2, _⟩ => rfl,
      show ridx_main_v4 (ix3 h a b) d = ix3 b h d from funext fun x => by match x with | ⟨0, _⟩ => rfl | ⟨1, _⟩ => rfl | ⟨2, _⟩ => rfl, hq, hk]
    show (q a h d : EReal) * Ideal.ofBits .f32 0x3D93CD3A#32 * (k b h d : EReal) = _
    rw [lit_sc, ← EReal.coe_mul, ← EReal.coe_mul]
  rw [e]
  by_cases hs : seen a b
  · rw [if_pos hs, if_pos hs]; rfl
  · rw [if_neg hs, if_neg hs]; exact lit_bot

/-- A row's maximum is a real number. -/
theorem v12_at (h : Fin 8) (a : Fin 16384) : ∃ M : ℝ, val_main_v12 (F := Ideal) x0 x1 (ix2 h a) = (M : EReal) := by
  have hr := fold_real (fun b => val_main_v11_0 (F := Ideal) x0 x1 (ix3 h a b)) (seen a) (score q k h a) a le_rfl (v11_at x0 x1 q k hq hk h a)
  obtain ⟨M, hM⟩ := hr
  refine ⟨M, Eq.trans ?_ hM⟩
  unfold val_main_v12
  generalize val_main_v11_0 (F := Ideal) x0 x1 = y
  rw [Host.reduce_eq_fold_single _ y _ reducesTo_S8x16384x16384_S8x16384_d2 (by decide)]
  show Finset.univ.fold max (Ideal.ofBits .f32 0xFF800000#32) _ = _
  rw [lit_bot]
  exact Finset.fold_congr fun b _ => congrArg y (funext fun x => Fin.ext (by match x with | ⟨0, _⟩ => rfl | ⟨1, _⟩ => rfl | ⟨2, _⟩ => rfl))

/-- The softmax's numerators, the row's sum, with the row's maximum taken off. -/
theorem v32_at (h : Fin 8) (a : Fin 16384) : ∃ M : ℝ, (∀ b, val_main_v32 (F := Ideal) x0 x1 (ix3 h a b) = ((wt q k M h a b : ℝ) : EReal))
    ∧ val_main_v33 (F := Ideal) x0 x1 (ix2 h a) = ((tot q k M h a : ℝ) : EReal) := by
  obtain ⟨M, hM⟩ := v12_at x0 x1 q k hq hk h a
  have e : ∀ b, val_main_v32 (F := Ideal) x0 x1 (ix3 h a b) = ((wt q k M h a b : ℝ) : EReal) := fun b => by
    rw [val_main_v32_apply, val_main_v31_apply, val_main_v30_apply, val_main_v29_apply, val_main_v19_apply, v11_at x0 x1 q k hq hk,
      show idx_main_v29 (idx_main_v30 (ix3 h a b)) = ix2 h a from funext fun x => by match x with | ⟨0, _⟩ => rfl | ⟨1, _⟩ => rfl, hM,
      val_main_v18_apply, val_main_cst_3_apply]
    refine Eq.trans ?_ (exp_masked q k M h a b)
    show Ideal.exp (_ - max (Ideal.ofBits .f32 0xFF800000#32) (M : EReal)) = _
    rw [lit_bot, max_eq_right bot_le]
  refine ⟨M, e, ?_⟩
  rw [val_main_v33_apply, val_main_cst_9_apply]
  show Ideal.ofBits .f32 0x00000000#32 + _ = _
  rw [show Ideal.ofBits .f32 0x00000000#32 = 0 from by simp [Ideal.ofBits, Ideal.ieee], zero_add]
  unfold tot
  rw [← sum_coe]
  refine Finset.sum_congr rfl fun b _ => ?_
  rw [← e]
  exact congrArg _ (funext fun x => by match x with | ⟨0, _⟩ => rfl | ⟨1, _⟩ => rfl | ⟨2, _⟩ => rfl)

/-- A row's sum, broadcast. -/
theorem v34_at (h : Fin 8) (a : Fin 16384) : val_main_v34 (F := Ideal) x0 x1 (ix3 h a 0) = val_main_v33 (F := Ideal) x0 x1 (ix2 h a) := by
  rw [val_main_v34_apply]
  exact congrArg _ (eq_ix2 _)

/-- The softmax. -/
theorem v36_at (h : Fin 8) (a b : Fin 16384) : val_main_v36 (F := Ideal) x0 x1 (ix3 h a b) = ((pr q k h a b : ℝ) : EReal) := by
  obtain ⟨M, e, e'⟩ := v32_at x0 x1 q k hq hk h a
  rw [val_main_v36_apply, val_main_v35_apply, show idx_main_v35 (ix3 h a b) = ix3 h a 0 from eq_ix3 _, v34_at x0 x1 q k hq hk, e, e', ← pr_shift q k M]
  exact div_coe' (tot_pos q k M h a).ne' _

omit hq hk
variable (hv : ∀ a h e, x2 (ix3 a h e) = (v a h e : EReal)) (hct : ∀ a h e, x3 (ix3 a h e) = (ct a h e : EReal))
include hv hct

/-- The cotangent of the softmax. -/
theorem v43_at (h : Fin 8) (a b : Fin 16384) : val_main_v43 (F := Ideal) x2 x3 (ix3 h a b) = ((dpr v ct h a b : ℝ) : EReal) := by
  rw [val_main_v43_apply, dpr, ← sum_coe]
  refine Finset.sum_congr rfl fun e _ => ?_
  rw [val_main_v42_apply, show idx_main_v42 (lidx_main_v43 (ix3 h a b) e) = ix3 a h e from eq_ix3 _,
    show ridx_main_v43 (ix3 h a b) e = ix3 b h e from eq_ix3 _, hv, hct, EReal.coe_mul]

include hq hk

/-- The cotangent of the scores. -/
theorem v58_at (h : Fin 8) (a b : Fin 16384) : val_main_v58 (F := Ideal) x0 x1 x2 x3 (ix3 h a b) = ((dsc q k v ct h a b : ℝ) : EReal) := by
  obtain ⟨M, e, e'⟩ := v32_at x0 x1 q k hq hk h a
  have ht := (tot_pos q k M h a).ne'
  have e48 : ∀ b', val_main_v48 (F := Ideal) x0 x1 x2 x3 (ix3 h a b')
      = ((dpr v ct h a b' * (1 / (tot q k M h a * tot q k M h a)) * wt q k M h a b' : ℝ) : EReal) := fun b' => by
    rw [val_main_v48_apply, val_main_v47_apply, val_main_v46_apply, show idx_main_v46 (ix3 h a b') = ix3 h a 0 from eq_ix3 _, val_main_v39_apply,
      val_main_v38_apply, val_main_cst_10_apply, val_main_v37_apply, v34_at x0 x1 q k hq hk, v43_at x2 x3 v ct hv hct, e, e']
    show _ * Ideal.div (Ideal.ofBits .f32 0x3F800000#32) (((tot q k M h a : ℝ) : EReal) * ((tot q k M h a : ℝ) : EReal)) * _ = _
    rw [lit_one, ← EReal.coe_mul, div_coe' (mul_ne_zero ht ht), ← EReal.coe_mul, ← EReal.coe_mul]
  have e54 : val_main_v54 (F := Ideal) x0 x1 x2 x3 (ix2 h a)
      = ((-∑ b', dpr v ct h a b' * (1 / (tot q k M h a * tot q k M h a)) * wt q k M h a b' : ℝ) : EReal) := by
    rw [val_main_v54_apply, val_main_cst_12_apply, Fin.sum_univ_one, val_main_v51_apply, val_main_v50_apply,
      show idx_main_v50 (idx_main_v54 (ix2 h a) 0) = ix2 h a from ?_, val_main_v49_apply, val_main_cst_11_apply]
    · show Ideal.ofBits .f32 0x00000000#32 + -(Ideal.ofBits .f32 0x00000000#32 + _) = _
      rw [lit_zero, zero_add, zero_add, EReal.coe_neg, ← sum_coe]
      refine congrArg Neg.neg (Finset.sum_congr rfl fun b' _ => ?_)
      rw [← e48]
      exact congrArg _ (eq_ix3 _)
    · refine (eq_ix2 _).trans ?_
      have ha := a.isLt
      refine congrArg₂ ix2 (Fin.ext ?_) (Fin.ext ?_)
      · show ((h.val * 16384 + a.val) * 1 + 0) / 16384 = h.val
        omega
      · show ((h.val * 16384 + a.val) * 1 + 0) % 16384 = a.val
        omega
  rw [val_main_v58_apply, val_main_v11_1_apply, val_main_v10_apply, show idx_main_v10 (idx_main_v11_1 (ix3 h a b)) = ix2 a b from eq_ix2 _, v9_at]
  by_cases hs : seen a b
  · rw [if_pos hs]
    show val_main_v57 (F := Ideal) x0 x1 x2 x3 (ix3 h a b) = _
    rw [val_main_v57_apply, val_main_v56_apply, val_main_v53_apply, val_main_v52_apply, val_main_v55_apply,
      show idx_main_v52 (ix3 h a b) = ix3 h a 0 from eq_ix3 _, show idx_main_v55 (ix3 h a b) = ix2 h a from eq_ix2 _, v34_at x0 x1 q k hq hk, e54, e, e',
      v43_at x2 x3 v ct hv hct, ← dsc_quot q k v ct M h a b]
    show (Ideal.div _ _ + _) * _ = _
    rw [div_coe' ht, ← EReal.coe_add, ← EReal.coe_mul]
  · rw [if_neg hs, dsc_hidden q k v ct h a b hs]
    exact lit_zero

omit hq hk hv hct in
/-- A padded row, read at a column of the flat array. -/
theorem pad_close (a : Fin 16384) (h : Fin 8) (c : Fin 256) (y : FVec Ideal S16384x8x192 .f32) (g : Fin 192 → ℝ) (hy : ∀ d, y (ix3 a h d) = ((g d : ℝ) : EReal))
    (z : EReal) (hz : z = 0) :
    (if h_1 : (a.val * 2048 + (colw h c).val) / 2048 < 16384 ∧ (a.val * 2048 + (colw h c).val) / 256 % 8 < 8 ∧ (a.val * 2048 + (colw h c).val) % 256 < 192 then
      y (ix3 ⟨(a.val * 2048 + (colw h c).val) / 2048, h_1.1⟩ ⟨(a.val * 2048 + (colw h c).val) / 256 % 8, h_1.2.1⟩
          ⟨(a.val * 2048 + (colw h c).val) % 256, h_1.2.2⟩)
    else z) = ((padd g c : ℝ) : EReal) := by
  have hh := h.isLt
  have hc' := c.isLt
  have ha := a.isLt
  have e1 : (a.val * 2048 + (colw h c).val) / 2048 = a.val := by simp only [colw]; omega
  have e2 : (a.val * 2048 + (colw h c).val) / 256 % 8 = h.val := by simp only [colw]; omega
  have e3 : (a.val * 2048 + (colw h c).val) % 256 = c.val := by simp only [colw]; omega
  unfold padd
  by_cases hc : c.val < 192
  · rw [dif_pos ⟨by omega, by omega, by omega⟩, dif_pos hc, ← hy]
    congr 2 <;> exact Fin.ext (by assumption)
  · rw [dif_neg (by omega), dif_neg hc, hz, EReal.coe_zero]

omit hq hk hv hct in
theorem sitofp_zero : FloatOps.sitofp (F := Ideal) .f32 0#32 = (0 : EReal) := by
  show (((0#32 : BitVec 32).toInt : ℝ) : EReal) = 0
  simp

/-- The query gradient, padded. -/
theorem v64_at (a : Fin 16384) (h : Fin 8) (c : Fin 256) :
    val_main_v64 (F := Ideal) x0 x1 x2 x3 (ix2 a (colw h c)) = ((padd (gq q k v ct h a) c : ℝ) : EReal) := by
  have e : ∀ d, val_main_v62 (F := Ideal) x0 x1 x2 x3 (ix3 a h d) = ((gq q k v ct h a d : ℝ) : EReal) := fun d => by
    rw [val_main_v62_apply, show idx_main_v62 (ix3 a h d) = ix3 h a d from eq_ix3 _, val_main_v61_apply, gq, ← sum_coe]
    refine Finset.sum_congr rfl fun b _ => ?_
    rw [show lidx_main_v61 (ix3 h a d) b = ix3 h a b from eq_ix3 _, show ridx_main_v61 (ix3 h a d) b = ix3 b h d from eq_ix3 _,
      v58_at x0 x1 x2 x3 q k v ct hq hk hv hct, hk, ← EReal.coe_mul]
  rw [val_main_v64_apply]
  pointwise [val_main_v63]
  exact pad_close a h c _ _ e _ sitofp_zero

/-- The key gradient, padded. -/
theorem v67_at (b : Fin 16384) (h : Fin 8) (c : Fin 256) :
    val_main_v67 (F := Ideal) x0 x1 x2 x3 (ix2 b (colw h c)) = ((padd (gk q k v ct h b) c : ℝ) : EReal) := by
  have e : ∀ d, val_main_v60 (F := Ideal) x0 x1 x2 x3 (ix3 b h d) = ((gk q k v ct h b d : ℝ) : EReal) := fun d => by
    rw [val_main_v60_apply, show idx_main_v60 (ix3 b h d) = ix3 h b d from eq_ix3 _, val_main_v59_apply, gk, ← sum_coe]
    refine Finset.sum_congr rfl fun a _ => ?_
    rw [show lidx_main_v59 (ix3 h b d) a = ix3 h a b from eq_ix3 _, show ridx_main_v59 (ix3 h b d) a = ix3 a h d from eq_ix3 _,
      v58_at x0 x1 x2 x3 q k v ct hq hk hv hct, val_main_v1_apply, val_main_v0_apply, val_main_cst_apply, hq]
    show _ * (_ * Ideal.ofBits .f32 0x3D93CD3A#32) = _
    rw [lit_sc, ← EReal.coe_mul, ← EReal.coe_mul]
  rw [val_main_v67_apply, val_main_v66_apply]
  show val_main_v65 (F := Ideal) x0 x1 x2 x3 _ = _
  pointwise [val_main_v65]
  exact pad_close b h c _ _ e _ sitofp_zero

/-- The value gradient. -/
theorem v69_at (b : Fin 16384) (h : Fin 8) (e : Fin 128) :
    val_main_v69 (F := Ideal) x0 x1 x3 (ix2 b (coln h e)) = ((gv q k ct h b e : ℝ) : EReal) := by
  rw [val_main_v69_apply, val_main_v68_apply]
  show val_main_v45 (F := Ideal) x0 x1 x3 _ = _
  rw [show idx_main_v68 (ix2 b (coln h e)) = ix3 b h e from ?_, val_main_v45_apply, show idx_main_v45 (ix3 b h e) = ix3 h e b from eq_ix3 _, val_main_v44_apply, gv,
    ← sum_coe]
  · refine Finset.sum_congr rfl fun a _ => ?_
    rw [val_main_v42_apply, show idx_main_v42 (lidx_main_v44 (ix3 h e b) a) = ix3 a h e from eq_ix3 _,
      show ridx_main_v44 (ix3 h e b) a = ix3 h a b from eq_ix3 _, v36_at x0 x1 q k hq hk, hct, ← EReal.coe_mul, mul_comm]
  · refine (eq_ix3 _).trans ?_
    congr 1 <;> apply Fin.ext <;> simp [coln, ix2] <;> omega
end Cert.FlashRefIdeal.Values
-- ==== Proof.FlashHost.lean ====
module

public import proofs.«01_k».proof.Proof.FlashLaunch
public import proofs.«01_k».proof.Proof.FlashRef
public import Idealize.ShloMosaic.Lib.Pipeline.ValueKit
public import Idealize.ShloMosaic.Lib.StableHlo.ReadAt

@[expose] public section

set_option maxRecDepth 16384

noncomputable section

namespace Cert.FlashIdeal.Host

open Idealize.ShloMosaic TcCoe Tactic
open Idealize.SL Idealize.SL.Sem Idealize.ShloMosaic.StableHlo
open FlashIdeal FlashIdeal.Gen FlashIdeal.Launch Ereal Attn

abbrev early : List (List (HloOp τ sig (Elt Ideal))) := [hostOps0, hostOps0_1, hostOps0_2, hostOps0_3]
abbrev late : List (List (HloOp τ sig (Elt Ideal))) := [hostOps0_4, hostOps0_5, hostOps0_6, hostOps0_7, hostOps0_8]

/-- Each row's maximum. -/
def maxT (s : FVec Ideal S8x16384x16384 .f32) : FVec Ideal S8x16384x1 .f32 :=
  broadcastInDim S8x16384x1 ![0, 1] bcast_S8x16384_S8x16384x1_0_1
    (Host.reduce FloatOps.maximumf s (constant (F := Ideal) S_ .f32 0xFF800000#32) reducesTo_S8x16384x16384_S8x16384_d2 h_S_)

/-- Each row's sum of exponentials. -/
def sumT (s : FVec Ideal S8x16384x16384 .f32) (b : FVec Ideal S8x16384x1 .f32) : FVec Ideal S8x16384 .f32 :=
  Host.reduceAdd (Host.exp (subf s (broadcastInDim S8x16384x16384 ![0, 1, 2] bcast_S8x16384x1_S8x16384x16384_0_1_2 b)))
    (constant (F := Ideal) S_ .f32 0x00000000#32) reducesTo_S8x16384x16384_S8x16384_d2 h_S_

/-- The logarithm of each row's sum of exponentials. -/
def lseT (s : FVec Ideal S8x16384x16384 .f32) : FVec Ideal S8x16384x1 .f32 :=
  addf (maxT s) (Host.log (broadcastInDim S8x16384x1 ![0, 1] bcast_S8x16384_S8x16384x1_0_1 (sumT s (maxT s))))

/-- The attention's output. -/
def outT (v : FVec Ideal S16384x8x128 .f32) (p : FVec Ideal S8x16384x16384 .f32) : FVec Ideal S16384x8x128 .f32 :=
  transpose S16384x8x128 [2, 0, 1] (Host.dotGeneral dot_S16384x8x128_S8x16384x16384_S8x128x16384_0_2_2_1_1_0 none v p) transposes_S8x128x16384_S16384x8x128_2_0_1

/-- Each row's sum of cotangent times output. -/
def delT (ct o : FVec Ideal S16384x8x128 .f32) : FVec Ideal S16384x8 .f32 :=
  Host.reduceAdd (mulf ct o) (constant (F := Ideal) S_ .f32 0x00000000#32) reducesTo_S16384x8x128_S16384x8_d2 h_S_

/-- One number per row and head, over the head's lanes. -/
def lanes (x : FVec Ideal S16384x8 .f32) : FVec Ideal S16384x1024 .f32 :=
  shapeCast S16384x1024 (broadcastInDim S16384x8x128 ![0, 1, 2] bcast_S16384x8x1_S16384x8x128_0_1_2 (broadcastInDim S16384x8x1 ![0, 1] bcast_S16384x8_S16384x8x1_0_1 x))
    shapeCasts_S16384x8x128_S16384x1024

variable (m : (ℓ : Loc nD τ sig) → Buf (Elt Ideal) ℓ) (c : Dev nD)

/-- The arrays once the scores are masked. -/
def W (b : DevRef τ sig) : b.ty.Contents (Elt Ideal) := StableHlo.after early.flatten (fun b => m (c, b)) b

theorem V_W (b : Ref sig .tc) : V m c b = StableHlo.after late.flatten (W m c) b := rfl

theorem W_v11 : W m c main_v11 = FlashRefIdeal.Read.val_main_v11_0 (F := Ideal) (m (c.tc.loc main_arg0)) (m (c.tc.loc main_arg1)) := by
  unfold W early; simp only [List.flatten_cons, List.flatten_nil]; after_reads_simp
  rfl

theorem W_arg0 : W m c main_arg0 = m (c.tc.loc main_arg0) := by
  unfold W early; simp only [List.flatten_cons, List.flatten_nil]; after_reads_simp

theorem W_arg1 : W m c main_arg1 = m (c.tc.loc main_arg1) := by
  unfold W early; simp only [List.flatten_cons, List.flatten_nil]; after_reads_simp

theorem W_arg2 : W m c main_arg2 = m (c.tc.loc main_arg2) := by
  unfold W early; simp only [List.flatten_cons, List.flatten_nil]; after_reads_simp

theorem W_arg3 : W m c main_arg3 = m (c.tc.loc main_arg3) := by
  unfold W early; simp only [List.flatten_cons, List.flatten_nil]; after_reads_simp

variable (U : (b : DevRef τ sig) → b.ty.Contents (Elt Ideal))

theorem v20_eq : StableHlo.after late.flatten U main_v20 = lseT (U main_v11) := by
  unfold late; simp only [List.flatten_cons, List.flatten_nil]; after_reads_simp; rfl

theorem v52_eq : StableHlo.after late.flatten U main_v52 = lanes (Host.divf (transpose S16384x8 [1, 0] (shapeCast S8x16384 (lseT (U main_v11)) shapeCasts_S8x16384x1_S8x16384) transposes_S8x16384_S16384x8_1_0)
    (broadcastInDim S16384x8 ![] bcast_S_S16384x8 (Host.log (constant (F := Ideal) S_ .f32 0x40000000#32)))) := by
  unfold late; simp only [List.flatten_cons, List.flatten_nil]; after_reads_simp; rfl

theorem v55_eq : StableHlo.after late.flatten U main_v55
    = lanes (delT (U main_arg3) (outT (U main_arg2) (Host.exp (subf (U main_v11) (broadcastInDim S8x16384x16384 ![0, 1, 2] bcast_S8x16384x1_S8x16384x16384_0_1_2 (lseT (U main_v11))))))) := by
  unfold late; simp only [List.flatten_cons, List.flatten_nil]; after_reads_simp; rfl

section Rows
theorem log_pos {x : ℝ} (hx : 0 < x) : Ideal.log (x : EReal) = ((Real.log x : ℝ) : EReal) := by
  show (if x ≤ 0 then ⊥ else (Real.log x : EReal)) = _
  rw [if_neg hx.not_ge]

variable (q k : Fin 16384 → Fin 8 → Fin 192 → ℝ) (v ct : Fin 16384 → Fin 8 → Fin 128 → ℝ) (s : FVec Ideal S8x16384x16384 .f32)
  (hs : ∀ h a b, s (ix3 h a b) = if seen a b then ((score q k h a b : ℝ) : EReal) else ⊥)
include hs

omit hs in
theorem over_at (y : FVec Ideal S8x16384x1 .f32) (h : Fin 8) (a b : Fin 16384) :
    broadcastInDim S8x16384x16384 ![0, 1, 2] bcast_S8x16384x1_S8x16384x16384_0_1_2 y (ix3 h a b) = y (ix3 h a 0) :=
  congrArg y (eq_ix3 _)

omit hs in
theorem one_at (y : FVec Ideal S8x16384 .f32) (h : Fin 8) (a : Fin 16384) :
    broadcastInDim S8x16384x1 ![0, 1] bcast_S8x16384_S8x16384x1_0_1 y (ix3 h a 0) = y (ix2 h a) :=
  congrArg y (eq_ix2 _)

theorem maxT_at (h : Fin 8) (a : Fin 16384) : ∃ M : ℝ, maxT s (ix3 h a 0) = (M : EReal) := by
  obtain ⟨M, hM⟩ := fold_real (fun b => s (ix3 h a b)) (seen a) (score q k h a) a le_rfl (hs h a)
  refine ⟨M, Eq.trans ?_ hM⟩
  rw [maxT, one_at, Host.reduce_eq_fold_single _ s _ reducesTo_S8x16384x16384_S8x16384_d2 (by decide)]
  show Finset.univ.fold max (Ideal.ofBits .f32 0xFF800000#32) _ = _
  rw [lit_bot]
  exact Finset.fold_congr fun b _ => congrArg s (funext fun x => Fin.ext (by match x with | ⟨0, _⟩ => rfl | ⟨1, _⟩ => rfl | ⟨2, _⟩ => rfl))

omit hs in
theorem expsub_at (y z : FVec Ideal S8x16384x16384 .f32) (i : S8x16384x16384.Idx) : Host.exp (subf y z) i = Ideal.exp (y i - z i) := rfl

theorem sumT_at (y : FVec Ideal S8x16384x1 .f32) (h : Fin 8) (a : Fin 16384) (M : ℝ) (hy : y (ix3 h a 0) = (M : EReal)) :
    sumT s y (ix2 h a) = ((tot q k M h a : ℝ) : EReal) := by
  unfold sumT
  generalize he : Host.exp (subf s (broadcastInDim S8x16384x16384 ![0, 1, 2] bcast_S8x16384x1_S8x16384x16384_0_1_2 y)) = z
  have hz : ∀ b : Fin 16384, z (ix3 h a b) = ((wt q k M h a b : ℝ) : EReal) := fun b => by
    rw [← exp_masked q k M h a b, ← he, expsub_at, over_at, hy, hs]
  simp only [Host.reduceAdd, Ideal.hostReduceAdd_def]
  rw [Ideal.hostReduceAdd_single reducesTo_S8x16384x16384_S8x16384_d2 (by decide)]
  · show Ideal.ofBits .f32 0x00000000#32 + _ = _
    rw [lit_zero, zero_add, tot, ← sum_coe]
    refine Finset.sum_congr rfl fun b _ => ?_
    rw [← hz b]
    exact congrArg _ (funext fun x => Fin.ext (by match x with | ⟨0, _⟩ => rfl | ⟨1, _⟩ => rfl | ⟨2, _⟩ => rfl))

omit hs in
theorem addlog_at (y z : FVec Ideal S8x16384x1 .f32) (i : S8x16384x1.Idx) : addf y (Host.log z) i = y i + Ideal.log (z i) := rfl

/-- A row's logarithm of its sum of exponentials. -/
theorem lseT_at (h : Fin 8) (a : Fin 16384) : lseT s (ix3 h a 0) = ((Real.log (tot q k 0 h a) : ℝ) : EReal) := by
  obtain ⟨M, hM⟩ := maxT_at q k s hs h a
  have e := sumT_at q k s hs (maxT s) h a M hM
  rw [lseT, addlog_at, one_at, e, hM, log_pos (tot_pos q k M h a), ← EReal.coe_add, log_shift]

/-- The softmax, from the saved logarithms. -/
theorem prT_at (h : Fin 8) (a b : Fin 16384) :
    Host.exp (subf s (broadcastInDim S8x16384x16384 ![0, 1, 2] bcast_S8x16384x1_S8x16384x16384_0_1_2 (lseT s))) (ix3 h a b) = ((pr q k h a b : ℝ) : EReal) := by
  rw [expsub_at, over_at, lseT_at q k s hs, hs, exp_masked]
  by_cases hv : seen a b
  · rw [wt, if_pos hv, pr_exp q k h a b hv]
  · rw [wt, if_neg hv, pr_hidden q k h a b hv]

omit hs in
/-- The attention's output. -/
theorem outT_at (x : FVec Ideal S16384x8x128 .f32) (p : FVec Ideal S8x16384x16384 .f32) (a : Fin 16384) (h : Fin 8) (e : Fin 128) :
    outT x p (ix3 a h e) = ∑ b, x (ix3 b h e) * p (ix3 h a b) := by
  pointwise [outT]

omit hs in
/-- A row's sum of products. -/
theorem delT_at (x y : FVec Ideal S16384x8x128 .f32) (a : Fin 16384) (h : Fin 8) :
    delT x y (ix2 a h) = ∑ e, x (ix3 a h e) * y (ix3 a h e) := by
  unfold delT
  generalize he : mulf x y = z
  simp only [Host.reduceAdd, Ideal.hostReduceAdd_def]
  rw [Ideal.hostReduceAdd_single reducesTo_S16384x8x128_S16384x8_d2 (by decide)]
  show Ideal.ofBits .f32 0x00000000#32 + _ = _
  rw [lit_zero, zero_add]
  refine Finset.sum_congr rfl fun e _ => ?_
  show _ = mulf x y (ix3 a h e)
  rw [he]
  exact congrArg _ (funext fun x => Fin.ext (by match x with | ⟨0, _⟩ => rfl | ⟨1, _⟩ => rfl | ⟨2, _⟩ => rfl))

omit hs in
/-- One number per row and head, read at a lane. -/
theorem lanes_at (x : FVec Ideal S16384x8 .f32) (a : Fin 16384) (h : Fin 8) (e : Fin 128) : lanes x (ix2 a (coln h e)) = x (ix2 a h) := by
  pointwise [lanes]
  refine congrArg x (congrArg₂ ix2 rfl (Fin.ext ?_))
  have := h.isLt
  have := e.isLt
  simp only [coln]
  omega

end Rows

/-- A query, scaled. -/
def scaled (z : EReal) : EReal := Ideal.div (z * Ideal.ofBits .f32 0x3D93CD3A#32) (Ideal.log (Ideal.ofBits .f32 0x40000000#32))

theorem v36_raw (a : Fin 16384) (h : Fin 8) (c' : Fin 256) : StableHlo.after late.flatten U main_v36 (ix2 a (colw h c'))
    = if h_1 : (colw h c').val / 256 < 8 ∧ (colw h c').val % 256 < 192 then
        scaled (U main_arg0 (ix3 a ⟨_, h_1.1⟩ ⟨_, h_1.2⟩)) else FloatOps.sitofp (F := Ideal) .f32 0#32 := by
  unfold late; simp only [List.flatten_cons, List.flatten_nil]; after_reads_at
  rfl

theorem v39_raw (a : Fin 16384) (h : Fin 8) (c' : Fin 256) : StableHlo.after late.flatten U main_v39 (ix2 a (colw h c'))
    = if h_1 : (colw h c').val / 256 < 8 ∧ (colw h c').val % 256 < 192 then
        (U main_arg1 (ix3 a ⟨_, h_1.1⟩ ⟨_, h_1.2⟩) : EReal) else FloatOps.sitofp (F := Ideal) .f32 0#32 := by
  unfold late; simp only [List.flatten_cons, List.flatten_nil]; after_reads_at

theorem v41_raw (a : Fin 16384) (h : Fin 8) (e : Fin 128) : StableHlo.after late.flatten U main_v41 (ix2 a (coln h e)) = U main_arg2 (ix3 a h e) := by
  unfold late; simp only [List.flatten_cons, List.flatten_nil]; after_reads_at
  have := h.isLt
  have := e.isLt
  refine congrArg (U main_arg2) (congrArg₂ (ix3 a) (Fin.ext ?_) (Fin.ext ?_)) <;> simp only [coln] <;> omega

theorem v43_raw (a : Fin 16384) (h : Fin 8) (e : Fin 128) : StableHlo.after late.flatten U main_v43 (ix2 a (coln h e)) = U main_arg3 (ix3 a h e) := by
  unfold late; simp only [List.flatten_cons, List.flatten_nil]; after_reads_at
  have := h.isLt
  have := e.isLt
  refine congrArg (U main_arg3) (congrArg₂ (ix3 a) (Fin.ext ?_) (Fin.ext ?_)) <;> simp only [coln] <;> omega

/-- A padded row, read at a column of the flat array. -/
theorem pad_shut (h : Fin 8) (c' : Fin 256) (y : Fin 8 → Fin 192 → EReal) (g : Fin 192 → ℝ) (hy : ∀ d, y h d = ((g d : ℝ) : EReal)) :
    (if h_1 : (colw h c').val / 256 < 8 ∧ (colw h c').val % 256 < 192 then y ⟨_, h_1.1⟩ ⟨_, h_1.2⟩ else FloatOps.sitofp (F := Ideal) .f32 0#32)
      = ((padd g c' : ℝ) : EReal) := by
  have hh := h.isLt
  have hc' := c'.isLt
  have e2 : (colw h c').val / 256 = h.val := by simp only [colw]; omega
  have e3 : (colw h c').val % 256 = c'.val := by simp only [colw]; omega
  unfold padd
  by_cases hc : c'.val < 192
  · rw [dif_pos ⟨by omega, by omega⟩, dif_pos hc, ← hy]
    exact congrArg₂ y (Fin.ext e2) (Fin.ext e3)
  · rw [dif_neg (by omega), dif_neg hc, FlashRefIdeal.Values.sitofp_zero, EReal.coe_zero]

theorem log_two : Ideal.log (Ideal.ofBits .f32 0x40000000#32) = ((Real.log 2 : ℝ) : EReal) := by
  rw [lit_two, log_pos (by norm_num)]

section Reals
variable (q k : Fin 16384 → Fin 8 → Fin 192 → ℝ) (v ct : Fin 16384 → Fin 8 → Fin 128 → ℝ)
variable (hq : ∀ a h d, m (c.tc.loc main_arg0) (ix3 a h d) = (q a h d : EReal))
  (hk : ∀ a h d, m (c.tc.loc main_arg1) (ix3 a h d) = (k a h d : EReal))
  (hv : ∀ a h e, m (c.tc.loc main_arg2) (ix3 a h e) = (v a h e : EReal))
  (hct : ∀ a h e, m (c.tc.loc main_arg3) (ix3 a h e) = (ct a h e : EReal))

include hq in
/-- The scaled queries, padded. -/
theorem V36 (a : Fin 16384) (h : Fin 8) (j : Fin 256) : V m c main_v36 (ix2 a (colw h j)) = ((padd (fun d => q a h d * sc / Real.log 2) j : ℝ) : EReal) := by
  rw [V_W]
  refine (v36_raw (W m c) a h j).trans ?_
  rw [W_arg0]
  refine pad_shut h j (fun h' d' => scaled (m (c.tc.loc main_arg0) (ix3 a h' d'))) _ fun d => ?_
  show scaled (m (c.tc.loc main_arg0) (ix3 a h d)) = _
  rw [hq, scaled, log_two, lit_sc, ← EReal.coe_mul, div_coe' (Real.log_pos (by norm_num)).ne']

include hk in
/-- The keys, padded. -/
theorem V39 (a : Fin 16384) (h : Fin 8) (j : Fin 256) : V m c main_v39 (ix2 a (colw h j)) = ((padd (k a h) j : ℝ) : EReal) := by
  rw [V_W]
  refine (v39_raw (W m c) a h j).trans ?_
  rw [W_arg1]
  exact pad_shut h j (fun h' d' => (m (c.tc.loc main_arg1) (ix3 a h' d') : EReal)) _ fun d => hk a h d

include hv in
/-- The values. -/
theorem V41 (a : Fin 16384) (h : Fin 8) (e : Fin 128) : V m c main_v41 (ix2 a (coln h e)) = ((v a h e : ℝ) : EReal) := by
  rw [V_W]
  exact (v41_raw (W m c) a h e).trans ((congrFun (W_arg2 m c) _).trans (hv a h e))

include hct in
/-- The cotangent. -/
theorem V43 (a : Fin 16384) (h : Fin 8) (e : Fin 128) : V m c main_v43 (ix2 a (coln h e)) = ((ct a h e : ℝ) : EReal) := by
  rw [V_W]
  exact (v43_raw (W m c) a h e).trans ((congrFun (W_arg3 m c) _).trans (hct a h e))

include hq hk

theorem scores (h : Fin 8) (a b : Fin 16384) : W m c main_v11 (ix3 h a b) = if seen a b then ((score q k h a b : ℝ) : EReal) else ⊥ := by
  rw [W_v11]
  exact FlashRefIdeal.Values.v11_at _ _ q k hq hk h a b

/-- The saved logarithms, over log 2. -/
theorem V52 (a : Fin 16384) (h : Fin 8) (e : Fin 128) : V m c main_v52 (ix2 a (coln h e)) = ((Real.log (tot q k 0 h a) / Real.log 2 : ℝ) : EReal) := by
  have e1 := lseT_at q k (W m c main_v11) (scores m c q k hq hk) h a
  rw [V_W]
  refine (congrFun (v52_eq (W m c)) _).trans ?_
  rw [lanes_at, ← div_coe' (Real.log_pos (by norm_num : (1 : ℝ) < 2)).ne', ← log_two, ← e1]
  generalize lseT (W m c main_v11) = y
  pointwise

include hv hct

/-- The row sums of cotangent times output. -/
theorem V55 (a : Fin 16384) (h : Fin 8) (e : Fin 128) : V m c main_v55 (ix2 a (coln h e)) = ((del q k v ct h a : ℝ) : EReal) := by
  rw [V_W]
  refine (congrFun (v55_eq (W m c)) _).trans ?_
  rw [lanes_at]
  refine (delT_at _ _ a h).trans ?_
  rw [W_arg3, W_arg2, ← del_out, ← sum_coe]
  refine Finset.sum_congr rfl fun e' _ => ?_
  rw [outT_at, hct, EReal.coe_mul, ← sum_coe]
  refine congrArg _ (Finset.sum_congr rfl fun b _ => ?_)
  rw [prT_at q k _ (scores m c q k hq hk), hv, EReal.coe_mul]

end Reals
end Cert.FlashIdeal.Host
-- ==== Proof.FlashPay.lean ====
/- What the attention gradient's body computes of one block, as real numbers. -/
module

public import proofs.«01_k».proof.Proof.FlashData
public import proofs.«01_k».proof.Proof.FlashMath
public import Idealize.ShloMosaic.Lib.Pipeline.ValueKit

@[expose] public section

set_option maxRecDepth 16384

noncomputable section

namespace Cert.FlashIdeal.Pay

open Idealize.ShloMosaic TcCoe
open FlashIdeal FlashIdeal.Gen Ereal Attn

theorem exp2_real (x : ℝ) : FloatOps.exp2 (F := Ideal) (φ := .f32) (x : EReal) = (((2 : ℝ) ^ x : ℝ) : EReal) := rfl

/-- The chunk of a position, as the body computes it. -/
def chunkW (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

theorem chunkW_fin : ∀ n : Fin 2048, chunkW n.val = BitVec.ofNat 32 (n.val / 64) := by decide +kernel
theorem chunkW_eq (n : ℕ) (hn : n < 2048) : chunkW n = BitVec.ofNat 32 (n / 64) := chunkW_fin ⟨n, hn⟩

/-- The comparison of a key's chunk with a query's. -/
theorem mask_word (kn qn c r : ℕ) (hk : kn < 8) (hq : qn < 16) (hc : c < 2048) (hr : r < 1024) (x y : EReal) :
    Scalar.select (IntOp.cmpi .sle (IntOp.addi (Scalar.muli (BitVec.ofNat 32 kn) 32#32) (chunkW c)) (IntOp.addi (Scalar.muli (BitVec.ofNat 32 qn) 16#32) (chunkW r))) x y
      = if kn * 32 + c / 64 ≤ qn * 16 + r / 64 then x else y := by
  rw [chunkW_eq c hc, chunkW_eq r (by omega)]
  have e1 : IntOp.addi (Scalar.muli (BitVec.ofNat 32 kn) 32#32) (BitVec.ofNat 32 (c / 64)) = BitVec.ofNat 32 (kn * 32 + c / 64) := by
    rw [BitVec.ofNat_add, BitVec.ofNat_mul]; rfl
  have e2 : IntOp.addi (Scalar.muli (BitVec.ofNat 32 qn) 16#32) (BitVec.ofNat 32 (r / 64)) = BitVec.ofNat 32 (qn * 16 + r / 64) := by
    rw [BitVec.ofNat_add, BitVec.ofNat_mul]; rfl
  rw [e1, e2, sle_word _ _ (by omega) (by omega)]
  by_cases h : kn * 32 + c / 64 ≤ qn * 16 + r / 64
  · rw [if_pos h, if_pos h]; rfl
  · rw [if_neg h, if_neg h]; rfl

/-- A block's weight, and its share of the scores' cotangent, before the mask. -/
def pw (n : ℕ) (Q : Fin 1024 → Fin 256 → ℝ) (L : Fin 1024 → ℝ) (K : Fin n → Fin 256 → ℝ) (r : Fin 1024) (c : Fin n) : ℝ := (2 : ℝ) ^ (∑ j, Q r j * K c j - L r)
/-- What the weight is multiplied by. -/
def dw (n : ℕ) (C : Fin 1024 → Fin 128 → ℝ) (D : Fin 1024 → ℝ) (W : Fin n → Fin 128 → ℝ) (r : Fin 1024) (c : Fin n) : ℝ := ∑ e, C r e * W c e - D r
/-- A number where a key's chunk is not later than the query's. -/
def mk (qn kn : ℕ) (r c : ℕ) (x : ℝ) : ℝ := if kn * 32 + c / 64 ≤ qn * 16 + r / 64 then x else 0

theorem mk_coe (qn kn r c : ℕ) (x : ℝ) : ((mk qn kn r c x : ℝ) : EReal) = if kn * 32 + c / 64 ≤ qn * 16 + r / 64 then (x : EReal) else 0 := by
  unfold mk; split <;> simp

variable (Q : Fin 1024 → Fin 256 → ℝ) (L D : Fin 1024 → ℝ) (C : Fin 1024 → Fin 128 → ℝ) (qn kn : ℕ) (hqn : qn < 16) (hkn : kn < 8)

section Wide
variable (K : Fin 2048 → Fin 256 → ℝ) (W : Fin 2048 → Fin 128 → ℝ)
variable (v45 : FVec Ideal S1024x256 .bf16) (v47 : FVec Ideal S2048x256 .bf16) (v49 : FVec Ideal S1024x128 .bf16) (v51 : FVec Ideal S2048x128 .bf16) (v53 v55 : FVec Ideal S1024x128 .f32)
variable (hq : ∀ r j, v45 (ix2 r j) = (Q r j : EReal)) (hk : ∀ c j, v47 (ix2 c j) = (K c j : EReal)) (hct : ∀ r e, v49 (ix2 r e) = (C r e : EReal))
  (hv : ∀ c e, v51 (ix2 c e) = (W c e : EReal)) (hl : ∀ r e, v53 (ix2 r e) = (L r : EReal)) (hd : ∀ r e, v55 (ix2 r e) = (D r : EReal))

include hq hk hl in
/-- The weights of a block: powers of two of a product less the row's logarithm. -/
theorem pay12_at (r : Fin 1024) (c : Fin 2048) : k0_pay12 (F := Ideal) v45 v47 v53 (ix2 r c) = ((pw 2048 Q L K r c : ℝ) : EReal) := by
  pointwise [k0_pay12, k0_pay9, k0_pay10]
  simp only [hq, hk, hl, ← EReal.coe_mul, sum_coe, ← EReal.coe_sub, exp2_real, pw]

include hq hk hl hct hv hd in
/-- The scores' cotangent, of a block with no key hidden. -/
theorem pay13_at (r : Fin 1024) (c : Fin 2048) : k0_pay13 (F := Ideal) v45 v47 v49 v51 v53 v55 (ix2 r c)
    = ((pw 2048 Q L K r c * dw 2048 C D W r c : ℝ) : EReal) := by
  pointwise [k0_pay13, k0_pay11]
  simp only [pay12_at Q L K v45 v47 v53 hq hk hl, hct, hv, hd, ← EReal.coe_mul, sum_coe, ← EReal.coe_sub, dw]

include hq hk hl hct in
theorem pay14_at (x : FVec Ideal S2048x128 .f32) (c : Fin 2048) (e : Fin 128) : k0_pay14 (F := Ideal) v45 v47 v49 v53 x (ix2 c e)
    = x (ix2 c e) + ((∑ r, pw 2048 Q L K r c * C r e : ℝ) : EReal) := by
  have e' := fun r => pay12_at Q L K v45 v47 v53 hq hk hl r c
  pointwise [k0_pay14, k0_pay11]
  simp only [e', hct, ← EReal.coe_mul, sum_coe]

end Wide

section Half
variable (K : Fin 1024 → Fin 256 → ℝ) (W : Fin 1024 → Fin 128 → ℝ)
variable (v45 : FVec Ideal S1024x256 .bf16) (v47 : FVec Ideal S1024x256 .bf16) (v49 : FVec Ideal S1024x128 .bf16) (v51 : FVec Ideal S1024x128 .bf16) (v53 v55 : FVec Ideal S1024x128 .f32)
variable (hq : ∀ r j, v45 (ix2 r j) = (Q r j : EReal)) (hk : ∀ c j, v47 (ix2 c j) = (K c j : EReal)) (hct : ∀ r e, v49 (ix2 r e) = (C r e : EReal))
  (hv : ∀ c e, v51 (ix2 c e) = (W c e : EReal)) (hl : ∀ r e, v53 (ix2 r e) = (L r : EReal)) (hd : ∀ r e, v55 (ix2 r e) = (D r : EReal))

include hq hk hl in
theorem pay21_at (r : Fin 1024) (c : Fin 1024) : k0_pay21 (F := Ideal) v45 v47 v53 (ix2 r c) = ((pw 1024 Q L K r c : ℝ) : EReal) := by
  pointwise [k0_pay21, k0_pay16, k0_pay17]
  simp only [hq, hk, hl, ← EReal.coe_mul, sum_coe, ← EReal.coe_sub, exp2_real, pw]

include hqn hkn hq hk hl in
/-- The masked weights. -/
theorem pay24_at (r : Fin 1024) (c : Fin 1024) : k0_pay24 (F := Ideal) (BitVec.ofNat 32 kn) (k0_pay21 v45 v47 v53) (Scalar.muli (BitVec.ofNat 32 qn) 16#32) k0_pay22 k0_pay23 (ix2 r c)
    = ((mk qn kn r.val c.val (pw 1024 Q L K r c) : ℝ) : EReal) := by
  have e := pay21_at Q L K v45 v47 v53 hq hk hl r c
  generalize k0_pay21 (F := Ideal) v45 v47 v53 = y at e
  pointwise [k0_pay24, k0_pay22, k0_pay23]
  refine (mask_word kn qn c.val r.val hkn hqn (by omega) r.isLt _ _).trans ?_
  rw [mk_coe, ← e]

include hqn hkn hq hk hl hct hv hd in
/-- The scores' cotangent. -/
theorem pay25_at (r : Fin 1024) (c : Fin 1024) : k0_pay25 (F := Ideal) (BitVec.ofNat 32 kn) (k0_pay18 v49) (k0_pay19 v51) (k0_pay20 v55) (k0_pay21 v45 v47 v53) (Scalar.muli (BitVec.ofNat 32 qn) 16#32) k0_pay22 k0_pay23 (ix2 r c)
    = ((mk qn kn r.val c.val (pw 1024 Q L K r c) * dw 1024 C D W r c : ℝ) : EReal) := by
  have e := pay24_at Q L qn kn hqn hkn K v45 v47 v53 hq hk hl r c
  pointwise [k0_pay25, k0_pay18, k0_pay19, k0_pay20]
  rw [e]
  simp only [hct, hv, hd, ← EReal.coe_mul, sum_coe, ← EReal.coe_sub, dw]

include hqn hkn hq hk hl hct in
/-- The value gradient's sum, with the block's part. -/
theorem pay26_at (x : FVec Ideal S1024x128 .f32) (c : Fin 1024) (e : Fin 128) : k0_pay26 (F := Ideal) (BitVec.ofNat 32 kn) (k0_pay18 v49) (k0_pay21 v45 v47 v53) (Scalar.muli (BitVec.ofNat 32 qn) 16#32) k0_pay22 k0_pay23 x (ix2 c e)
    = x (ix2 c e) + ((∑ r, mk qn kn r.val c.val (pw 1024 Q L K r c) * C r e : ℝ) : EReal) := by
  have e' := fun r => pay24_at Q L qn kn hqn hkn K v45 v47 v53 hq hk hl r c
  pointwise [k0_pay26, k0_pay18]
  simp only [e', hct, ← EReal.coe_mul, sum_coe]

end Half

section Full
variable (K : Fin 2048 → Fin 256 → ℝ) (W : Fin 2048 → Fin 128 → ℝ)
variable (v45 : FVec Ideal S1024x256 .bf16) (v47 : FVec Ideal S2048x256 .bf16) (v49 : FVec Ideal S1024x128 .bf16) (v51 : FVec Ideal S2048x128 .bf16) (v53 v55 : FVec Ideal S1024x128 .f32)
variable (hq : ∀ r j, v45 (ix2 r j) = (Q r j : EReal)) (hk : ∀ c j, v47 (ix2 c j) = (K c j : EReal)) (hct : ∀ r e, v49 (ix2 r e) = (C r e : EReal))
  (hv : ∀ c e, v51 (ix2 c e) = (W c e : EReal)) (hl : ∀ r e, v53 (ix2 r e) = (L r : EReal)) (hd : ∀ r e, v55 (ix2 r e) = (D r : EReal))

include hq hk hl in
theorem pay32_at (r : Fin 1024) (c : Fin 2048) : k0_pay32 (F := Ideal) v45 v47 v53 (ix2 r c) = ((pw 2048 Q L K r c : ℝ) : EReal) := by
  pointwise [k0_pay32, k0_pay27, k0_pay28]
  simp only [hq, hk, hl, ← EReal.coe_mul, sum_coe, ← EReal.coe_sub, exp2_real, pw]

include hqn hkn hq hk hl in
/-- The masked weights. -/
theorem pay35_at (r : Fin 1024) (c : Fin 2048) : k0_pay35 (F := Ideal) (BitVec.ofNat 32 kn) (k0_pay32 v45 v47 v53) (Scalar.muli (BitVec.ofNat 32 qn) 16#32) k0_pay33 k0_pay34 (ix2 r c)
    = ((mk qn kn r.val c.val (pw 2048 Q L K r c) : ℝ) : EReal) := by
  have e := pay32_at Q L K v45 v47 v53 hq hk hl r c
  generalize k0_pay32 (F := Ideal) v45 v47 v53 = y at e
  pointwise [k0_pay35, k0_pay33, k0_pay34]
  refine (mask_word kn qn c.val r.val hkn hqn (by omega) r.isLt _ _).trans ?_
  rw [mk_coe, ← e]

include hqn hkn hq hk hl hct hv hd in
/-- The scores' cotangent. -/
theorem pay36_at (r : Fin 1024) (c : Fin 2048) : k0_pay36 (F := Ideal) (BitVec.ofNat 32 kn) (k0_pay29 v49) (k0_pay30 v51) (k0_pay31 v55) (k0_pay32 v45 v47 v53) (Scalar.muli (BitVec.ofNat 32 qn) 16#32) k0_pay33 k0_pay34 (ix2 r c)
    = ((mk qn kn r.val c.val (pw 2048 Q L K r c) * dw 2048 C D W r c : ℝ) : EReal) := by
  have e := pay35_at Q L qn kn hqn hkn K v45 v47 v53 hq hk hl r c
  pointwise [k0_pay36, k0_pay29, k0_pay30, k0_pay31]
  rw [e]
  simp only [hct, hv, hd, ← EReal.coe_mul, sum_coe, ← EReal.coe_sub, dw]

include hqn hkn hq hk hl hct in
/-- The value gradient's sum, with the block's part. -/
theorem pay37_at (x : FVec Ideal S2048x128 .f32) (c : Fin 2048) (e : Fin 128) : k0_pay37 (F := Ideal) (BitVec.ofNat 32 kn) (k0_pay29 v49) (k0_pay32 v45 v47 v53) (Scalar.muli (BitVec.ofNat 32 qn) 16#32) k0_pay33 k0_pay34 x (ix2 c e)
    = x (ix2 c e) + ((∑ r, mk qn kn r.val c.val (pw 2048 Q L K r c) * C r e : ℝ) : EReal) := by
  have e' := fun r => pay35_at Q L qn kn hqn hkn K v45 v47 v53 hq hk hl r c
  pointwise [k0_pay37, k0_pay29]
  simp only [e', hct, ← EReal.coe_mul, sum_coe]

end Full

/-! ## A block's product with a matrix, added to a sum -/

theorem lin2_at (G : Fin 1024 → Fin 1024 → ℝ) (g : FVec Ideal S1024x1024 .bf16) (v45 : FVec Ideal S1024x256 .bf16) (x : FVec Ideal S1024x256 .f32)
    (hq : ∀ r j, v45 (ix2 r j) = (Q r j : EReal)) (hg : ∀ r c, g (ix2 r c) = (G r c : EReal)) (c : Fin 1024) (j : Fin 256) :
    k0_pay2 (F := Ideal) (k0_pay16 v45) g x (ix2 c j) = x (ix2 c j) + ((∑ r, G r c * Q r j : ℝ) : EReal) := by
  pointwise [k0_pay2, k0_pay16]
  simp only [hq, hg, ← EReal.coe_mul, sum_coe]

theorem lin3_at (K : Fin 1024 → Fin 256 → ℝ) (G : Fin 1024 → Fin 1024 → ℝ) (g : FVec Ideal S1024x1024 .bf16) (v47 : FVec Ideal S1024x256 .bf16) (x : FVec Ideal S1024x256 .f32)
    (hk : ∀ c j, v47 (ix2 c j) = (K c j : EReal)) (hg : ∀ r c, g (ix2 r c) = (G r c : EReal)) (r : Fin 1024) (j : Fin 256) :
    k0_pay3 (F := Ideal) (k0_pay17 v47) g x (ix2 r j) = x (ix2 r j) + ((∑ c, G r c * K c j : ℝ) : EReal) := by
  pointwise [k0_pay3, k0_pay17]
  simp only [hk, hg, ← EReal.coe_mul, sum_coe]

theorem lin5_at (G : Fin 1024 → Fin 2048 → ℝ) (g : FVec Ideal S1024x2048 .bf16) (v45 : FVec Ideal S1024x256 .bf16) (x : FVec Ideal S2048x256 .f32)
    (hq : ∀ r j, v45 (ix2 r j) = (Q r j : EReal)) (hg : ∀ r c, g (ix2 r c) = (G r c : EReal)) (c : Fin 2048) (j : Fin 256) :
    k0_pay5 (F := Ideal) (k0_pay27 v45) g x (ix2 c j) = x (ix2 c j) + ((∑ r, G r c * Q r j : ℝ) : EReal) := by
  pointwise [k0_pay5, k0_pay27]
  simp only [hq, hg, ← EReal.coe_mul, sum_coe]

theorem lin6_at (K : Fin 2048 → Fin 256 → ℝ) (G : Fin 1024 → Fin 2048 → ℝ) (g : FVec Ideal S1024x2048 .bf16) (v47 : FVec Ideal S2048x256 .bf16) (x : FVec Ideal S1024x256 .f32)
    (hk : ∀ c j, v47 (ix2 c j) = (K c j : EReal)) (hg : ∀ r c, g (ix2 r c) = (G r c : EReal)) (r : Fin 1024) (j : Fin 256) :
    k0_pay6 (F := Ideal) (k0_pay28 v47) g x (ix2 r j) = x (ix2 r j) + ((∑ c, G r c * K c j : ℝ) : EReal) := by
  pointwise [k0_pay6, k0_pay28]
  simp only [hk, hg, ← EReal.coe_mul, sum_coe]

theorem lin42_at (K : Fin 2048 → Fin 256 → ℝ) (G : Fin 1024 → Fin 2048 → ℝ) (g : FVec Ideal S1024x2048 .bf16) (v47 : FVec Ideal S2048x256 .bf16) (x : FVec Ideal S1024x256 .f32)
    (hk : ∀ c j, v47 (ix2 c j) = (K c j : EReal)) (hg : ∀ r c, g (ix2 r c) = (G r c : EReal)) (r : Fin 1024) (j : Fin 256) :
    k0_pay42 (F := Ideal) (k0_pay10 v47) g x (ix2 r j) = x (ix2 r j) + ((∑ c, G r c * K c j : ℝ) : EReal) := by
  pointwise [k0_pay42, k0_pay10]
  simp only [hk, hg, ← EReal.coe_mul, sum_coe]

theorem lin15_at (G : Fin 1024 → Fin 2048 → ℝ) (v45 : FVec Ideal S1024x256 .bf16) (v47 : FVec Ideal S2048x256 .bf16) (v49 : FVec Ideal S1024x128 .bf16) (v51 : FVec Ideal S2048x128 .bf16) (v53 v55 : FVec Ideal S1024x128 .f32) (x : FVec Ideal S2048x256 .f32)
    (hq : ∀ r j, v45 (ix2 r j) = (Q r j : EReal)) (hg : ∀ r c, k0_pay13 (F := Ideal) v45 v47 v49 v51 v53 v55 (ix2 r c) = (G r c : EReal)) (c : Fin 2048) (j : Fin 256) :
    k0_pay41 (F := Ideal) (k0_pay15 v45 v47 v49 v51 v53 v55 x) (ix2 c j) = x (ix2 c j) + ((∑ r, G r c * Q r j : ℝ) : EReal) := by
  pointwise [k0_pay41, k0_pay15, k0_pay9]
  simp only [hq, hg, ← EReal.coe_mul, sum_coe]

theorem zero38_at (c : Fin 2048) (j : Fin 256) : k0_pay38 (F := Ideal) (ix2 c j) = 0 := by pointwise [k0_pay38]
theorem zero39_at (c : Fin 2048) (e : Fin 128) : k0_pay39 (F := Ideal) (ix2 c e) = 0 := by pointwise [k0_pay39]
theorem zero40_at (r : Fin 1024) (j : Fin 256) : k0_pay40 (F := Ideal) (ix2 r j) = 0 := by pointwise [k0_pay40]
theorem pay1_at (x : FVec Ideal S1024x128 .f32) (c : Fin 1024) (e : Fin 128) : k0_pay1 (F := Ideal) x (ix2 c e) = x (ix2 c e) := by pointwise [k0_pay1]
theorem pay4_at (x : FVec Ideal S2048x128 .f32) (c : Fin 2048) (e : Fin 128) : k0_pay4 (F := Ideal) x (ix2 c e) = x (ix2 c e) := by pointwise [k0_pay4]
theorem pay8_at (x : FVec Ideal S2048x128 .f32) (c : Fin 2048) (e : Fin 128) : k0_pay8 (F := Ideal) x (ix2 c e) = x (ix2 c e) := by pointwise [k0_pay8]
/-- The key gradient, times the natural logarithm of two. -/
theorem pay7_at (x : FVec Ideal S2048x256 .f32) (c : Fin 2048) (j : Fin 256) : k0_pay7 (F := Ideal) x (ix2 c j) = x (ix2 c j) * ((Real.log 2 : ℝ) : EReal) := by
  have e : Named.named (F := Ideal) (φ := .f32) κ "ln2" 0x3F317218#32 = ((Real.log 2 : ℝ) : EReal) := IdealRules.named_const.ideal_named_scalar _ _ _ _ rfl
  pointwise [k0_pay7]
  exact congrArg _ e
end Cert.FlashIdeal.Pay
-- ==== Proof.FlashBlock.lean ====
/- What the attention gradient's body computes of one block of the attention arrays, as real numbers. -/
module

public import proofs.«01_k».proof.Proof.FlashData
public import proofs.«01_k».proof.Proof.FlashPay
public import Idealize.ShloMosaic.Lib.Pipeline.ValueKit

@[expose] public section

set_option maxRecDepth 16384

noncomputable section

namespace Cert.FlashIdeal.Pay

open Idealize.ShloMosaic TcCoe
open FlashIdeal FlashIdeal.Gen Ereal Attn

/-! ## The blocks of the arrays -/

/-- Row `r` of tile `qn` of queries; row `c` of tile `kn` of keys. -/
def rq (qn : Fin 16) (r : Fin 1024) : Fin 16384 := ⟨qn.val * 1024 + r.val, by omega⟩
def rk (kn : Fin 8) (c : Fin 2048) : Fin 16384 := ⟨kn.val * 2048 + c.val, by omega⟩
/-- The first half of a key tile. -/
def lo (c : Fin 1024) : Fin 2048 := ⟨c.val, by omega⟩

section Block
variable (q k : Fin 16384 → Fin 8 → Fin 192 → ℝ) (v ct : Fin 16384 → Fin 8 → Fin 128 → ℝ)

/-- The scaled query rows, padded. -/
def qs (h : Fin 8) (a : Fin 16384) : Fin 256 → ℝ := padd (fun d => q a h d * sc / Real.log 2)

/-- A point's blocks hold tile `qn` of the query side and tile `kn` of the key side of head `h`. -/
structure Holds (b : Body.Blk Ideal) (h : Fin 8) (qn : Fin 16) (kn : Fin 8) : Prop where
  hq : ∀ r j, b.q (ix2 r j) = ((qs q h (rq qn r) j : ℝ) : EReal)
  hk : ∀ c j, b.k (ix2 c j) = ((padd (k (rk kn c) h) j : ℝ) : EReal)
  hv : ∀ c e, b.v (ix2 c e) = ((v (rk kn c) h e : ℝ) : EReal)
  hct : ∀ r e, b.ct (ix2 r e) = ((ct (rq qn r) h e : ℝ) : EReal)
  hlse : ∀ r e, b.lse (ix2 r e) = ((Real.log (tot q k 0 h (rq qn r)) / Real.log 2 : ℝ) : EReal)
  hdelta : ∀ r e, b.delta (ix2 r e) = ((del q k v ct h (rq qn r) : ℝ) : EReal)

theorem padd_dot (f g : Fin 192 → ℝ) : ∑ j, padd f j * padd g j = ∑ d, f d * g d := by
  rw [show (∑ j : Fin 256, padd f j * padd g j) = ∑ j : Fin (192 + 64), padd f j * padd g j from rfl, Fin.sum_univ_add]
  rw [Finset.sum_eq_zero (s := (Finset.univ : Finset (Fin 64))) fun j _ => ?_, add_zero]
  · refine Finset.sum_congr rfl fun d _ => ?_
    unfold padd
    have hd : (Fin.castAdd 64 d).val < 192 := d.isLt
    rw [dif_pos hd, dif_pos hd]; rfl
  · unfold padd
    have hj : ¬ (Fin.natAdd 192 j).val < 192 := by simp
    rw [dif_neg hj, zero_mul]

/-- A power of two of a scaled score less a scaled logarithm is the exponential of the difference. -/
theorem pow_exp (h : Fin 8) (a b : Fin 16384) (M : ℝ) :
    (2 : ℝ) ^ (∑ j, qs q h a j * padd (k b h) j - M / Real.log 2) = Real.exp (score q k h a b - M) := by
  have hl : Real.log 2 ≠ 0 := (Real.log_pos (by norm_num)).ne'
  rw [qs, padd_dot, Real.rpow_def_of_pos (by norm_num)]
  refine congrArg Real.exp ?_
  rw [mul_sub, mul_div_cancel₀ _ hl, Finset.mul_sum, score]
  refine congrArg (· - M) (Finset.sum_congr rfl fun d _ => ?_)
  field_simp

theorem seen_iff (qn : Fin 16) (kn : Fin 8) (r : Fin 1024) (c : Fin 2048) : seen (rq qn r) (rk kn c) ↔ kn.val * 32 + c.val / 64 ≤ qn.val * 16 + r.val / 64 := by
  unfold seen rq rk
  show (kn.val * 2048 + c.val) / 64 ≤ (qn.val * 1024 + r.val) / 64 ↔ _
  omega

/-- The masked weight is the softmax. -/
theorem mk_pr (h : Fin 8) (qn : Fin 16) (kn : Fin 8) (r : Fin 1024) (c : Fin 2048) :
    mk qn.val kn.val r.val c.val ((2 : ℝ) ^ (∑ j, qs q h (rq qn r) j * padd (k (rk kn c) h) j - Real.log (tot q k 0 h (rq qn r)) / Real.log 2)) = pr q k h (rq qn r) (rk kn c) := by
  rw [pow_exp]
  unfold mk
  by_cases hs : seen (rq qn r) (rk kn c)
  · rw [if_pos ((seen_iff qn kn r c).1 hs), pr_exp q k h _ _ hs]
  · rw [if_neg (fun h' => hs ((seen_iff qn kn r c).2 h')), pr_hidden q k h _ _ hs]

variable {b : Body.Blk Ideal} {h : Fin 8} {qn : Fin 16} {kn : Fin 8} (H : Holds q k v ct b h qn kn)

theorem window_at {n m k' l : ℕ} (x : (⟨2, ![n, m]⟩ : Shape).Idx → EReal) (inb : ∀ a, (![0, 0] : Fin 2 → ℕ) a + (![k', l] : Fin 2 → ℕ) a ≤ (![n, m] : Fin 2 → ℕ) a)
    (r : Fin k') (c : Fin l) : VecWindow.window (s := ⟨2, ![n, m]⟩) x ![0, 0] ![k', l] inb (ix2 r c)
      = x (ix2 ⟨r.val, by have := inb 0; simp at this; omega⟩ ⟨c.val, by have := inb 1; simp at this; omega⟩) := by
  refine congrArg x (funext fun a => Fin.ext ?_)
  match a with
  | ⟨0, _⟩ => exact (ValueKit.rect_emb_unit_val _ _ _ _ _).trans (Nat.zero_add _)
  | ⟨1, _⟩ => exact (ValueKit.rect_emb_unit_val _ _ _ _ _).trans (Nat.zero_add _)

include H

/-- The scores' cotangent and the softmax of a block, in the three branches. -/
theorem dsA_at (r c : Fin 1024) : Body.dsA (F := Ideal) (BitVec.ofNat 32 qn.val) (BitVec.ofNat 32 kn.val) b (ix2 r c) = ((dsc q k v ct h (rq qn r) (rk kn (lo c)) : ℝ) : EReal) := by
  refine (pay25_at (fun r => qs q h (rq qn r)) (fun r => Real.log (tot q k 0 h (rq qn r)) / Real.log 2) (fun r => del q k v ct h (rq qn r)) (fun r => ct (rq qn r) h) qn.val kn.val qn.isLt kn.isLt
    (fun c => padd (k (rk kn (lo c)) h)) (fun c => v (rk kn (lo c)) h) b.q b.k₀ b.ct b.v₀ b.lse b.delta H.hq (fun c j => (window_at b.k _ c j).trans (H.hk (lo c) j)) H.hct
    (fun c e => (window_at b.v _ c e).trans (H.hv (lo c) e)) H.hlse H.hdelta r c).trans ?_
  rw [dsc, ← mk_pr q k h qn kn r (lo c)]
  rfl

theorem dsB_at (r : Fin 1024) (c : Fin 2048) : Body.dsB (F := Ideal) (BitVec.ofNat 32 qn.val) (BitVec.ofNat 32 kn.val) b (ix2 r c) = ((dsc q k v ct h (rq qn r) (rk kn c) : ℝ) : EReal) := by
  refine (pay36_at (fun r => qs q h (rq qn r)) (fun r => Real.log (tot q k 0 h (rq qn r)) / Real.log 2) (fun r => del q k v ct h (rq qn r)) (fun r => ct (rq qn r) h) qn.val kn.val qn.isLt kn.isLt
    (fun c => padd (k (rk kn c) h)) (fun c => v (rk kn c) h) b.q b.k b.ct b.v b.lse b.delta H.hq H.hk H.hct H.hv H.hlse H.hdelta r c).trans ?_
  rw [dsc, ← mk_pr q k h qn kn r c]
  rfl

theorem pwC (hC : 2 * kn.val + 2 ≤ qn.val) (r : Fin 1024) (c : Fin 2048) :
    pw 2048 (fun r => qs q h (rq qn r)) (fun r => Real.log (tot q k 0 h (rq qn r)) / Real.log 2) (fun c => padd (k (rk kn c) h)) r c = pr q k h (rq qn r) (rk kn c) := by
  rw [← mk_pr q k h qn kn r c]
  unfold mk
  rw [if_pos (by omega)]
  rfl

theorem dsC_at (hC : 2 * kn.val + 2 ≤ qn.val) (r : Fin 1024) (c : Fin 2048) : k0_pay13 (F := Ideal) b.q b.k b.ct b.v b.lse b.delta (ix2 r c) = ((dsc q k v ct h (rq qn r) (rk kn c) : ℝ) : EReal) := by
  refine (pay13_at (fun r => qs q h (rq qn r)) (fun r => Real.log (tot q k 0 h (rq qn r)) / Real.log 2) (fun r => del q k v ct h (rq qn r)) (fun r => ct (rq qn r) h)
    (fun c => padd (k (rk kn c) h)) (fun c => v (rk kn c) h) b.q b.k b.ct b.v b.lse b.delta H.hq H.hk H.hct H.hv H.hlse H.hdelta r c).trans ?_
  rw [pwC q k v ct H hC r c]
  rfl

omit H in
theorem hiA (hA : qn.val = 2 * kn.val) (r : Fin 1024) (c : Fin 2048) (hc : ¬ c.val < 1024) : ¬ seen (rq qn r) (rk kn c) := by
  rw [seen_iff]; omega

omit H in
/-- A sum over a key tile whose second half is hidden. -/
theorem sum_lo (f : Fin 2048 → ℝ) (hf : ∀ c : Fin 2048, ¬ c.val < 1024 → f c = 0) : ∑ c : Fin 1024, f (lo c) = ∑ c, f c := by
  rw [show (∑ c : Fin 2048, f c) = ∑ c : Fin (1024 + 1024), f c from rfl, Fin.sum_univ_add, Finset.sum_eq_zero (s := (Finset.univ : Finset (Fin 1024))) (f := fun c => f (Fin.natAdd 1024 c)) fun c _ => hf _ (by simp), add_zero]
  rfl

/-- The key gradient's part of a block. -/
def gkB (h : Fin 8) (qn : Fin 16) (b : Fin 16384) (j : Fin 256) : ℝ := ∑ r, dsc q k v ct h (rq qn r) b * qs q h (rq qn r) j
/-- The value gradient's part of a block. -/
def gvB (h : Fin 8) (qn : Fin 16) (b : Fin 16384) (e : Fin 128) : ℝ := ∑ r, pr q k h (rq qn r) b * ct (rq qn r) h e
/-- The query gradient's part of a block. -/
def gqB (h : Fin 8) (kn : Fin 8) (a : Fin 16384) (j : Fin 256) : ℝ := ∑ c, dsc q k v ct h a (rk kn c) * padd (k (rk kn c) h) j

omit H in
theorem put_at {n m k' : ℕ} (x : (⟨2, ![n, m]⟩ : Shape).Idx → EReal) (o : ℕ) (w : ((a : Fin 2) → Fin ((![k', m] : Fin 2 → ℕ) a)) → EReal) (r : Fin n) (c : Fin m) :
    VecWindow.put (s := ⟨2, ![n, m]⟩) x ![o, 0] ![k', m] w (ix2 r c)
      = if hr : o ≤ r.val ∧ r.val < o + k' then w (ix2 ⟨r.val - o, by omega⟩ c) else x (ix2 r c) := by
  unfold VecWindow.put
  by_cases hr : o ≤ r.val ∧ r.val < o + k'
  · rw [dif_pos hr, dif_pos]
    · refine congrArg w (funext fun a => Fin.ext ?_)
      match a with
      | ⟨0, _⟩ => exact Rect.unitLocal_val _ _ _
      | ⟨1, _⟩ => exact (Rect.unitLocal_val _ _ _).trans (Nat.sub_zero _)
    · intro a
      match a with
      | ⟨0, _⟩ => exact hr
      | ⟨1, _⟩ => exact ⟨Nat.zero_le _, (Nat.zero_add _).symm ▸ c.isLt⟩
  · rw [dif_neg hr, dif_neg]
    intro h'
    exact hr (h' 0)

theorem s13A_at (hA : qn.val = 2 * kn.val) (c : Fin 2048) (j : Fin 256) :
    Body.s13A (F := Ideal) (BitVec.ofNat 32 qn.val) (BitVec.ofNat 32 kn.val) b (ix2 c j) = ((gkB q k v ct h qn (rk kn c) j : ℝ) : EReal) := by
  refine (put_at _ 0 _ c j).trans ?_
  by_cases hc : c.val < 1024
  · rw [dif_pos ⟨Nat.zero_le _, by omega⟩]
    refine (lin2_at (fun r => qs q h (rq qn r)) (fun r c => dsc q k v ct h (rq qn r) (rk kn (lo c))) _ b.q _ H.hq (dsA_at q k v ct H) _ j).trans ?_
    refine (congrArg (· + _) ((window_at (k0_pay38 (F := Ideal)) _ _ _).trans (zero38_at _ _))).trans ?_
    rw [zero_add]
    rfl
  · rw [dif_neg (by omega), zero38_at, gkB, Finset.sum_eq_zero, EReal.coe_zero]
    intro r _
    rw [dsc_hidden q k v ct h _ _ (hiA hA r c hc), zero_mul]

theorem s13B_at (x : FVec Ideal S2048x256 .f32) (c : Fin 2048) (j : Fin 256) :
    Body.s13B (F := Ideal) (BitVec.ofNat 32 qn.val) (BitVec.ofNat 32 kn.val) b x (ix2 c j) = x (ix2 c j) + ((gkB q k v ct h qn (rk kn c) j : ℝ) : EReal) :=
  lin5_at (fun r => qs q h (rq qn r)) (fun r c => dsc q k v ct h (rq qn r) (rk kn c)) _ b.q x H.hq (dsB_at q k v ct H) c j

theorem s13C_at (hC : 2 * kn.val + 2 ≤ qn.val) (x : FVec Ideal S2048x256 .f32) (c : Fin 2048) (j : Fin 256) :
    Body.s13C (F := Ideal) b x (ix2 c j) = x (ix2 c j) + ((gkB q k v ct h qn (rk kn c) j : ℝ) : EReal) :=
  lin15_at (fun r => qs q h (rq qn r)) (fun r c => dsc q k v ct h (rq qn r) (rk kn c)) b.q b.k b.ct b.v b.lse b.delta x H.hq (dsC_at q k v ct H hC) c j

theorem s14A_at (hA : qn.val = 2 * kn.val) (c : Fin 2048) (e : Fin 128) :
    Body.s14A (F := Ideal) (BitVec.ofNat 32 qn.val) (BitVec.ofNat 32 kn.val) b (ix2 c e) = ((gvB q k ct h qn (rk kn c) e : ℝ) : EReal) := by
  refine (put_at _ 0 _ c e).trans ?_
  by_cases hc : c.val < 1024
  · rw [dif_pos ⟨Nat.zero_le _, by omega⟩]
    refine (pay1_at _ _ _).trans ?_
    refine (pay26_at (fun r => qs q h (rq qn r)) (fun r => Real.log (tot q k 0 h (rq qn r)) / Real.log 2) (fun r => ct (rq qn r) h) qn.val kn.val qn.isLt kn.isLt
      (fun c => padd (k (rk kn (lo c)) h)) b.q b.k₀ b.ct b.lse H.hq (fun c j => (window_at b.k _ c j).trans (H.hk (lo c) j)) H.hct H.hlse _ _ e).trans ?_
    refine (congrArg (· + _) ((window_at (k0_pay39 (F := Ideal)) _ _ _).trans (zero39_at _ _))).trans ?_
    rw [zero_add]
    refine congrArg _ (Finset.sum_congr rfl fun r _ => ?_)
    rw [← mk_pr q k h qn kn r c]
    rfl
  · rw [dif_neg (by omega), zero39_at, gvB, Finset.sum_eq_zero, EReal.coe_zero]
    intro r _
    rw [pr_hidden q k h _ _ (hiA hA r c hc), zero_mul]

theorem s14B_at (x : FVec Ideal S2048x128 .f32) (c : Fin 2048) (e : Fin 128) :
    Body.s14B (F := Ideal) (BitVec.ofNat 32 qn.val) (BitVec.ofNat 32 kn.val) b x (ix2 c e) = x (ix2 c e) + ((gvB q k ct h qn (rk kn c) e : ℝ) : EReal) := by
  refine (pay4_at _ _ _).trans ?_
  refine (pay37_at (fun r => qs q h (rq qn r)) (fun r => Real.log (tot q k 0 h (rq qn r)) / Real.log 2) (fun r => ct (rq qn r) h) qn.val kn.val qn.isLt kn.isLt
      (fun c => padd (k (rk kn c) h)) b.q b.k b.ct b.lse H.hq H.hk H.hct H.hlse _ _ e).trans ?_
  refine congrArg (fun z : ℝ => x (ix2 c e) + (z : EReal)) (Finset.sum_congr rfl fun r _ => ?_)
  rw [← mk_pr q k h qn kn r c]
  rfl

theorem s14C_at (hC : 2 * kn.val + 2 ≤ qn.val) (x : FVec Ideal S2048x128 .f32) (c : Fin 2048) (e : Fin 128) :
    Body.s14C (F := Ideal) b x (ix2 c e) = x (ix2 c e) + ((gvB q k ct h qn (rk kn c) e : ℝ) : EReal) := by
  refine (pay14_at (fun r => qs q h (rq qn r)) (fun r => Real.log (tot q k 0 h (rq qn r)) / Real.log 2) (fun r => ct (rq qn r) h)
      (fun c => padd (k (rk kn c) h)) b.q b.k b.ct b.lse H.hq H.hk H.hct H.hlse x c e).trans ?_
  refine congrArg (fun z : ℝ => x (ix2 c e) + (z : EReal)) (Finset.sum_congr rfl fun r _ => ?_)
  rw [pwC q k v ct H hC r c]

theorem dqA_at (hA : qn.val = 2 * kn.val) (x : FVec Ideal S1024x256 .f32) (r : Fin 1024) (j : Fin 256) :
    Body.dqA (F := Ideal) (BitVec.ofNat 32 qn.val) (BitVec.ofNat 32 kn.val) b x (ix2 r j) = x (ix2 r j) + ((gqB q k v ct h kn (rq qn r) j : ℝ) : EReal) := by
  refine (lin3_at (fun c => padd (k (rk kn (lo c)) h)) (fun r c => dsc q k v ct h (rq qn r) (rk kn (lo c))) _ b.k₀ x (fun c j => (window_at b.k _ c j).trans (H.hk (lo c) j)) (dsA_at q k v ct H) r j).trans ?_
  refine congrArg (fun z : ℝ => x (ix2 r j) + (z : EReal)) (sum_lo (fun c => dsc q k v ct h (rq qn r) (rk kn c) * padd (k (rk kn c) h) j) fun c hc => ?_)
  rw [dsc_hidden q k v ct h _ _ (hiA hA r c hc), zero_mul]

theorem dqB_at (x : FVec Ideal S1024x256 .f32) (r : Fin 1024) (j : Fin 256) :
    Body.dqB (F := Ideal) (BitVec.ofNat 32 qn.val) (BitVec.ofNat 32 kn.val) b x (ix2 r j) = x (ix2 r j) + ((gqB q k v ct h kn (rq qn r) j : ℝ) : EReal) :=
  lin6_at (fun c => padd (k (rk kn c) h)) (fun r c => dsc q k v ct h (rq qn r) (rk kn c)) _ b.k x H.hk (dsB_at q k v ct H) r j

theorem dqC_at (hC : 2 * kn.val + 2 ≤ qn.val) (x : FVec Ideal S1024x256 .f32) (r : Fin 1024) (j : Fin 256) :
    Body.dqC (F := Ideal) b x (ix2 r j) = x (ix2 r j) + ((gqB q k v ct h kn (rq qn r) j : ℝ) : EReal) :=
  lin42_at (fun c => padd (k (rk kn c) h)) (fun r c => dsc q k v ct h (rq qn r) (rk kn c)) _ b.k x H.hk (dsC_at q k v ct H hC) r j

end Block
end Cert.FlashIdeal.Pay
-- ==== Proof.FlashPoints.lean ====
/- What the attention gradient's body computes of the key and value sums and of the query gradient, point by point. -/
module

public import proofs.«01_k».proof.Proof.FlashData
public import proofs.«01_k».proof.Proof.FlashBlock
public import Idealize.ShloMosaic.Lib.Pipeline.ValueKit

@[expose] public section

set_option maxRecDepth 16384

noncomputable section

namespace Cert.FlashIdeal.Points

open Idealize.ShloMosaic TcCoe
open FlashIdeal FlashIdeal.Gen FlashIdeal.Launch FlashIdeal.Pay Ereal Attn

/-- A point's head, its tile of queries, its tile of keys. -/
def hd (t : Fin grid0.N) : Fin 8 := ⟨t.val / 72 % 8, by omega⟩
def qt (t : Fin grid0.N) : Fin 16 := ⟨(qw (grid0.coords t)).toNat % 16, by omega⟩
def kt (t : Fin grid0.N) : Fin 8 := ⟨(kw (grid0.coords t)).toNat % 8, by omega⟩

set_option maxHeartbeats 4000000 in
theorem qw_eq : ∀ t : Fin grid0.N, qw (grid0.coords t) = BitVec.ofNat 32 (qt t).val := by decide +kernel
set_option maxHeartbeats 4000000 in
theorem kw_eq : ∀ t : Fin grid0.N, kw (grid0.coords t) = BitVec.ofNat 32 (kt t).val := by decide +kernel
set_option maxHeartbeats 4000000 in
theorem isA : ∀ t : Fin grid0.N, IsA (grid0.coords t) ↔ (qt t).val = 2 * (kt t).val := by decide +kernel
set_option maxHeartbeats 4000000 in
theorem notAB : ∀ t : Fin grid0.N, ¬ IsA (grid0.coords t) → ¬ IsB (grid0.coords t) → 2 * (kt t).val + 2 ≤ (qt t).val := by decide +kernel
set_option maxHeartbeats 4000000 in
theorem cond2 : ∀ t : Fin grid0.N, k0_cond2 (kw (grid0.coords t)) = 1#1 ↔ (kt t).val = 0 := by decide +kernel
set_option maxHeartbeats 4000000 in
theorem cond6 : ∀ t : Fin grid0.N, k0_cond6 (qw (grid0.coords t)) = 1#1 ↔ (qt t).val = 15 := by decide +kernel
set_option maxHeartbeats 4000000 in
theorem off2 : ∀ t : Fin grid0.N, k0_off2 (qw (grid0.coords t)) = ![(qt t).val * 1024, 0] := by decide +kernel

/-- The point before, inside a head: the previous tile of queries of the same keys, or the last one of the keys before. -/
theorem prev : ∀ t : Fin grid0.N, t.val % 72 ≠ 0 → hd ⟨t.val - 1, by omega⟩ = hd t ∧
    ((kt ⟨t.val - 1, by omega⟩ = kt t ∧ (qt ⟨t.val - 1, by omega⟩).val + 1 = (qt t).val)
      ∨ ((kt ⟨t.val - 1, by omega⟩).val + 1 = (kt t).val ∧ (qt ⟨t.val - 1, by omega⟩).val = 15 ∧ (qt t).val = 2 * (kt t).val)) := by decide +kernel
theorem first : ∀ t : Fin grid0.N, t.val % 72 = 0 → (kt t).val = 0 ∧ (qt t).val = 0 := by decide +kernel
theorem last : ∀ t : Fin grid0.N, t.val % 72 = 71 → (kt t).val = 7 ∧ (qt t).val = 15 := by decide +kernel

set_option maxHeartbeats 4000000 in
theorem idx0 : ∀ t : Fin (cfgT (F := Ideal)).N, ((cfgT (F := Ideal)).win 0).index t = ![(qt t).val, (hd t).val] :=
  (by decide +kernel : ∀ t : Fin grid0.N, ix0 (tabs (F := Ideal)) 0 (grid0.coords t) = ![(qt t).val, (hd t).val])
set_option maxHeartbeats 4000000 in
theorem idx1 : ∀ t : Fin (cfgT (F := Ideal)).N, ((cfgT (F := Ideal)).win 1).index t = ![(kt t).val, (hd t).val] :=
  (by decide +kernel : ∀ t : Fin grid0.N, ix0 (tabs (F := Ideal)) 1 (grid0.coords t) = ![(kt t).val, (hd t).val])
set_option maxHeartbeats 4000000 in
theorem idx2 : ∀ t : Fin (cfgT (F := Ideal)).N, ((cfgT (F := Ideal)).win 2).index t = ![(kt t).val, (hd t).val] :=
  (by decide +kernel : ∀ t : Fin grid0.N, ix0 (tabs (F := Ideal)) 2 (grid0.coords t) = ![(kt t).val, (hd t).val])
set_option maxHeartbeats 4000000 in
theorem idx3 : ∀ t : Fin (cfgT (F := Ideal)).N, ((cfgT (F := Ideal)).win 3).index t = ![(qt t).val, (hd t).val] :=
  (by decide +kernel : ∀ t : Fin grid0.N, ix0 (tabs (F := Ideal)) 3 (grid0.coords t) = ![(qt t).val, (hd t).val])
set_option maxHeartbeats 4000000 in
theorem idx4 : ∀ t : Fin (cfgT (F := Ideal)).N, ((cfgT (F := Ideal)).win 4).index t = ![(qt t).val, (hd t).val] :=
  (by decide +kernel : ∀ t : Fin grid0.N, ix0 (tabs (F := Ideal)) 4 (grid0.coords t) = ![(qt t).val, (hd t).val])
set_option maxHeartbeats 4000000 in
theorem idx5 : ∀ t : Fin (cfgT (F := Ideal)).N, ((cfgT (F := Ideal)).win 5).index t = ![(qt t).val, (hd t).val] :=
  (by decide +kernel : ∀ t : Fin grid0.N, ix0 (tabs (F := Ideal)) 5 (grid0.coords t) = ![(qt t).val, (hd t).val])
set_option maxHeartbeats 4000000 in
theorem idx7 : ∀ t : Fin (cfgT (F := Ideal)).N, ((cfgT (F := Ideal)).win 7).index t = ![(kt t).val, (hd t).val] :=
  (by decide +kernel : ∀ t : Fin grid0.N, ix0 (tabs (F := Ideal)) 7 (grid0.coords t) = ![(kt t).val, (hd t).val])
set_option maxHeartbeats 4000000 in
theorem idx8 : ∀ t : Fin (cfgT (F := Ideal)).N, ((cfgT (F := Ideal)).win 8).index t = ![(kt t).val, (hd t).val] :=
  (by decide +kernel : ∀ t : Fin grid0.N, ix0 (tabs (F := Ideal)) 8 (grid0.coords t) = ![(kt t).val, (hd t).val])
set_option maxHeartbeats 4000000 in
theorem idx6 : ∀ t : Fin (cfgT (F := Ideal)).N, ((cfgT (F := Ideal)).win 6).index t = ![0, (hd t).val] :=
  (by decide +kernel : ∀ t : Fin grid0.N, ix0 (tabs (F := Ideal)) 6 (grid0.coords t) = ![0, (hd t).val])

set_option maxHeartbeats 4000000 in
theorem fl6 : ∀ t : Fin (cfgT (F := Ideal)).N, ((cfgT (F := Ideal)).win 6).flush t = decide (t.val % 72 = 71) := by decide +kernel
set_option maxHeartbeats 4000000 in
theorem fl7 : ∀ t : Fin (cfgT (F := Ideal)).N, ((cfgT (F := Ideal)).win 7).flush t = decide ((qt t).val = 15) := by decide +kernel
set_option maxHeartbeats 4000000 in
theorem fl8 : ∀ t : Fin (cfgT (F := Ideal)).N, ((cfgT (F := Ideal)).win 8).flush t = decide ((qt t).val = 15) := by decide +kernel
end Cert.FlashIdeal.Points
-- ==== Proof.FlashSums.lean ====
/- What the attention gradient's body computes of the key and value sums and of the query gradient, point by point. -/
module

public import proofs.«01_k».proof.Proof.FlashHost
public import proofs.«01_k».proof.Proof.FlashPoints
public import Idealize.ShloMosaic.Lib.Pipeline.ValueKit

@[expose] public section

set_option maxRecDepth 16384

noncomputable section

namespace Cert.FlashIdeal.Points

open Idealize.ShloMosaic TcCoe
open FlashIdeal FlashIdeal.Gen FlashIdeal.Launch FlashIdeal.Pay Ereal Attn FlashIdeal.Host

variable (m : (ℓ : Loc nD τ sig) → Buf (Elt Ideal) ℓ) (c : Dev nD)

omit m c in
/-- A block of a whole array, read at an index. -/
theorem read_slice (c : Dev nD) (b : Ref sig .tc) (A : Buf (Elt Ideal) ((c.tc : Thread nD τ).loc b)) (off size : Fin b.ty.shape.rank → ℕ) (inb) (y : (Rect.unit (s := b.ty.shape) off size inb).shape.Idx) (i : b.ty.shape.Idx)
    (h : ∀ a, (i a).val = off a + (y a).val) : ((View.whole b).slice (Rect.unit off size inb)).read (Elt Ideal) A y = A i :=
  congrArg A (funext fun a => Fin.ext ((ValueKit.view_emb_slice_whole_unit_val b off size inb y a).trans (h a).symm))

theorem read_q (t : Fin (cfgT (F := Ideal)).N) (r : Fin 1024) (j : Fin 256) : (blk m c t).q (ix2 r j) = V m c main_v36 (ix2 (rq (qt t) r) (colw (hd t) j)) := by
  have e := idx0 t
  refine read_slice c main_v36 (V m c main_v36) (fun a => ((cfgT (F := Ideal)).win 0).index t a * S1024x256.size a) S1024x256.size (fun a => Pipeline.Clip.OkAt.inb (((cfgT (F := Ideal)).win 0).hclip (grid0.coords t) a)) (ix2 r j) _ fun a => ?_
  refine Eq.trans ?_ (congrArg (fun n : ℕ => n * S1024x256.size a + (ix2 r j a).val) (congrFun e a).symm)
  match a with
  | ⟨0, _⟩ => rfl
  | ⟨1, _⟩ => rfl

theorem read_k (t : Fin (cfgT (F := Ideal)).N) (r : Fin 2048) (j : Fin 256) : (blk m c t).k (ix2 r j) = V m c main_v39 (ix2 (rk (kt t) r) (colw (hd t) j)) := by
  have e := idx1 t
  refine read_slice c main_v39 (V m c main_v39) (fun a => ((cfgT (F := Ideal)).win 1).index t a * S2048x256.size a) S2048x256.size (fun a => Pipeline.Clip.OkAt.inb (((cfgT (F := Ideal)).win 1).hclip (grid0.coords t) a)) (ix2 r j) _ fun a => ?_
  refine Eq.trans ?_ (congrArg (fun n : ℕ => n * S2048x256.size a + (ix2 r j a).val) (congrFun e a).symm)
  match a with
  | ⟨0, _⟩ => rfl
  | ⟨1, _⟩ => rfl

theorem read_v (t : Fin (cfgT (F := Ideal)).N) (r : Fin 2048) (j : Fin 128) : (blk m c t).v (ix2 r j) = V m c main_v41 (ix2 (rk (kt t) r) (coln (hd t) j)) := by
  have e := idx2 t
  refine read_slice c main_v41 (V m c main_v41) (fun a => ((cfgT (F := Ideal)).win 2).index t a * S2048x128.size a) S2048x128.size (fun a => Pipeline.Clip.OkAt.inb (((cfgT (F := Ideal)).win 2).hclip (grid0.coords t) a)) (ix2 r j) _ fun a => ?_
  refine Eq.trans ?_ (congrArg (fun n : ℕ => n * S2048x128.size a + (ix2 r j a).val) (congrFun e a).symm)
  match a with
  | ⟨0, _⟩ => rfl
  | ⟨1, _⟩ => rfl

theorem read_ct (t : Fin (cfgT (F := Ideal)).N) (r : Fin 1024) (j : Fin 128) : (blk m c t).ct (ix2 r j) = V m c main_v43 (ix2 (rq (qt t) r) (coln (hd t) j)) := by
  have e := idx3 t
  refine read_slice c main_v43 (V m c main_v43) (fun a => ((cfgT (F := Ideal)).win 3).index t a * S1024x128.size a) S1024x128.size (fun a => Pipeline.Clip.OkAt.inb (((cfgT (F := Ideal)).win 3).hclip (grid0.coords t) a)) (ix2 r j) _ fun a => ?_
  refine Eq.trans ?_ (congrArg (fun n : ℕ => n * S1024x128.size a + (ix2 r j a).val) (congrFun e a).symm)
  match a with
  | ⟨0, _⟩ => rfl
  | ⟨1, _⟩ => rfl

theorem read_lse (t : Fin (cfgT (F := Ideal)).N) (r : Fin 1024) (j : Fin 128) : (blk m c t).lse (ix2 r j) = V m c main_v52 (ix2 (rq (qt t) r) (coln (hd t) j)) := by
  have e := idx4 t
  refine read_slice c main_v52 (V m c main_v52) (fun a => ((cfgT (F := Ideal)).win 4).index t a * S1024x128.size a) S1024x128.size (fun a => Pipeline.Clip.OkAt.inb (((cfgT (F := Ideal)).win 4).hclip (grid0.coords t) a)) (ix2 r j) _ fun a => ?_
  refine Eq.trans ?_ (congrArg (fun n : ℕ => n * S1024x128.size a + (ix2 r j a).val) (congrFun e a).symm)
  match a with
  | ⟨0, _⟩ => rfl
  | ⟨1, _⟩ => rfl

theorem read_delta (t : Fin (cfgT (F := Ideal)).N) (r : Fin 1024) (j : Fin 128) : (blk m c t).delta (ix2 r j) = V m c main_v55 (ix2 (rq (qt t) r) (coln (hd t) j)) := by
  have e := idx5 t
  refine read_slice c main_v55 (V m c main_v55) (fun a => ((cfgT (F := Ideal)).win 5).index t a * S1024x128.size a) S1024x128.size (fun a => Pipeline.Clip.OkAt.inb (((cfgT (F := Ideal)).win 5).hclip (grid0.coords t) a)) (ix2 r j) _ fun a => ?_
  refine Eq.trans ?_ (congrArg (fun n : ℕ => n * S1024x128.size a + (ix2 r j a).val) (congrFun e a).symm)
  match a with
  | ⟨0, _⟩ => rfl
  | ⟨1, _⟩ => rfl

variable (q k : Fin 16384 → Fin 8 → Fin 192 → ℝ) (v ct : Fin 16384 → Fin 8 → Fin 128 → ℝ)
variable (hq : ∀ a h d, m (c.tc.loc main_arg0) (ix3 a h d) = (q a h d : EReal))
  (hk : ∀ a h d, m (c.tc.loc main_arg1) (ix3 a h d) = (k a h d : EReal))
  (hv : ∀ a h e, m (c.tc.loc main_arg2) (ix3 a h e) = (v a h e : EReal))
  (hct : ∀ a h e, m (c.tc.loc main_arg3) (ix3 a h e) = (ct a h e : EReal))

include hq hk hv hct

/-- A point's blocks. -/
theorem holds (t : Fin (cfgT (F := Ideal)).N) : Holds q k v ct (blk m c t) (hd t) (qt t) (kt t) where
  hq r j := (read_q m c t r j).trans (V36 m c q hq _ _ j)
  hk r j := (read_k m c t r j).trans (V39 m c k hk _ _ j)
  hv r j := (read_v m c t r j).trans (V41 m c v hv _ _ j)
  hct r j := (read_ct m c t r j).trans (V43 m c ct hct _ _ j)
  hlse r j := (read_lse m c t r j).trans (V52 m c q k hq hk _ _ j)
  hdelta r j := (read_delta m c t r j).trans (V55 m c q k v ct hq hk hv hct _ _ j)
end Cert.FlashIdeal.Points
-- ==== Proof.FlashTotals.lean ====
/- The sums of one tile's contributions over all tiles: the whole gradients. -/
module

public import proofs.«01_k».proof.Proof.FlashBlock

@[expose] public section

set_option maxRecDepth 16384

noncomputable section

namespace Cert.FlashIdeal.Pay

open Idealize.ShloMosaic TcCoe
open FlashIdeal FlashIdeal.Gen Ereal Attn

/-- A sum over the indices with one property is that over those with another, where the term is zero or the two agree. -/
theorem sum_if_congr {n : ℕ} (f : Fin n → ℝ) (P Q : Fin n → Prop) [DecidablePred P] [DecidablePred Q] (h : ∀ i, (P i ↔ Q i) ∨ f i = 0) :
    ∑ i, (if P i then f i else 0) = ∑ i, if Q i then f i else 0 :=
  Finset.sum_congr rfl fun i _ => by
    rcases h i with h | h
    · simp only [h]
    · simp only [h, ite_self]

/-- One more index in the sum. -/
theorem sum_if_next {n : ℕ} (f : Fin n → ℝ) (P Q : Fin n → Prop) [DecidablePred P] [DecidablePred Q] (i₀ : Fin n) (h₀ : P i₀) (h₁ : ¬ Q i₀)
    (h : ∀ i, i ≠ i₀ → ((P i ↔ Q i) ∨ f i = 0)) :
    ∑ i, (if P i then f i else 0) = (∑ i, if Q i then f i else 0) + f i₀ := by
  have e : f i₀ = ∑ i, if i = i₀ then f i else 0 := by rw [Finset.sum_ite_eq' Finset.univ i₀ f, if_pos (Finset.mem_univ _)]
  rw [e, ← Finset.sum_add_distrib]
  refine Finset.sum_congr rfl fun i _ => ?_
  by_cases hi : i = i₀
  · subst hi; rw [if_pos h₀, if_neg h₁, if_pos rfl, zero_add]
  · rw [if_neg hi, add_zero]
    rcases h i hi with h | h
    · simp only [h]
    · simp only [h, ite_self]

/-- Only one index in the sum. -/
theorem sum_if_one {n : ℕ} (f : Fin n → ℝ) (P : Fin n → Prop) [DecidablePred P] (i₀ : Fin n) (h₀ : P i₀)
    (h : ∀ i, i ≠ i₀ → (¬ P i ∨ f i = 0)) : ∑ i, (if P i then f i else 0) = f i₀ := by
  refine (sum_if_next f P (fun _ => False) i₀ h₀ id fun i hi => (h i hi).imp (fun h' => iff_of_false h' id) id).trans ?_
  simp

variable (q k : Fin 16384 → Fin 8 → Fin 192 → ℝ) (v ct : Fin 16384 → Fin 8 → Fin 128 → ℝ)

/-- Queries before a tile of keys do not see it. -/
theorem not_seen_before (qn : Fin 16) (kn : Fin 8) (h : qn.val < 2 * kn.val) (r : Fin 1024) (c : Fin 2048) : ¬ seen (rq qn r) (rk kn c) := by
  rw [seen_iff]; omega

theorem gkB_before (h : Fin 8) (qn : Fin 16) (kn : Fin 8) (hb : qn.val < 2 * kn.val) (c : Fin 2048) (j : Fin 256) : gkB q k v ct h qn (rk kn c) j = 0 :=
  Finset.sum_eq_zero fun r _ => by rw [dsc_hidden q k v ct h _ _ (not_seen_before qn kn hb r c), zero_mul]
theorem gvB_before (h : Fin 8) (qn : Fin 16) (kn : Fin 8) (hb : qn.val < 2 * kn.val) (c : Fin 2048) (e : Fin 128) : gvB q k ct h qn (rk kn c) e = 0 :=
  Finset.sum_eq_zero fun r _ => by rw [pr_hidden q k h _ _ (not_seen_before qn kn hb r c), zero_mul]
theorem gqB_before (h : Fin 8) (qn : Fin 16) (kn : Fin 8) (hb : qn.val < 2 * kn.val) (r : Fin 1024) (j : Fin 256) : gqB q k v ct h kn (rq qn r) j = 0 :=
  Finset.sum_eq_zero fun c _ => by rw [dsc_hidden q k v ct h _ _ (not_seen_before qn kn hb r c), zero_mul]

/-- The key gradient, from all tiles of queries. -/
theorem gk_total (h : Fin 8) (b : Fin 16384) (j : Fin 256) : (∑ qn, gkB q k v ct h qn b j) * Real.log 2 = padd (gk q k v ct h b) j := by
  have e : ∑ qn, gkB q k v ct h qn b j = ∑ a, dsc q k v ct h a b * qs q h a j :=
    Fin.sum_mul_add_congr (f := fun a => dsc q k v ct h a b * qs q h a j) (fun s r _ => rfl)
  have hl : Real.log 2 ≠ 0 := (Real.log_pos one_lt_two).ne'
  rw [e, Finset.sum_mul]
  unfold qs padd
  by_cases hj : j.val < 192
  · rw [dif_pos hj]
    refine Finset.sum_congr rfl fun a _ => ?_
    rw [dif_pos hj]; field_simp
  · rw [dif_neg hj]
    refine Finset.sum_eq_zero fun a _ => ?_
    rw [dif_neg hj]; simp

/-- The value gradient, from all tiles of queries. -/
theorem gv_total (h : Fin 8) (b : Fin 16384) (e : Fin 128) : ∑ qn, gvB q k ct h qn b e = gv q k ct h b e :=
  Fin.sum_mul_add_congr (f := fun a => pr q k h a b * ct a h e) (fun s r _ => rfl)

/-- The query gradient, from all tiles of keys. -/
theorem gq_total (h : Fin 8) (a : Fin 16384) (j : Fin 256) : ∑ kn, gqB q k v ct h kn a j = padd (gq q k v ct h a) j := by
  have e : ∑ kn, gqB q k v ct h kn a j = ∑ b, dsc q k v ct h a b * padd (k b h) j :=
    Fin.sum_mul_add_congr (f := fun b => dsc q k v ct h a b * padd (k b h) j) (fun s r _ => rfl)
  rw [e]
  unfold padd
  by_cases hj : j.val < 192
  · rw [dif_pos hj]
    refine Finset.sum_congr rfl fun b _ => ?_
    rw [dif_pos hj]
  · rw [dif_neg hj]
    refine Finset.sum_eq_zero fun b _ => ?_
    rw [dif_neg hj]; simp
end Cert.FlashIdeal.Pay
-- ==== Proof.FlashSteps.lean ====
/- The attention gradient's sums, point after point. -/
module

public import proofs.«01_k».proof.Proof.FlashSums
public import proofs.«01_k».proof.Proof.FlashTotals

@[expose] public section

set_option maxRecDepth 16384

noncomputable section

namespace Cert.FlashIdeal.Points

open Idealize.ShloMosaic TcCoe
open FlashIdeal FlashIdeal.Gen FlashIdeal.Launch FlashIdeal.Pay Ereal Attn FlashIdeal.Host

variable (m : (ℓ : Loc nD τ sig) → Buf (Elt Ideal) ℓ) (c : Dev nD)
variable (q k : Fin 16384 → Fin 8 → Fin 192 → ℝ) (v ct : Fin 16384 → Fin 8 → Fin 128 → ℝ)

section Step
variable {b : Body.Blk Ideal} {t : Fin grid0.N} (H : Holds q k v ct b (hd t) (qt t) (kt t))
include H

/-- What a point leaves of the key gradient's sum. -/
theorem step13_at (x : FVec Ideal S2048x256 .f32) (r : Fin 2048) (j : Fin 256) :
    step13 (grid0.coords t) b x (ix2 r j) = if (qt t).val = 2 * (kt t).val then ((gkB q k v ct (hd t) (qt t) (rk (kt t) r) j : ℝ) : EReal)
      else x (ix2 r j) + ((gkB q k v ct (hd t) (qt t) (rk (kt t) r) j : ℝ) : EReal) := by
  unfold step13
  by_cases hA : IsA (grid0.coords t)
  · rw [if_pos hA, if_pos ((isA t).1 hA), qw_eq, kw_eq]
    exact s13A_at q k v ct H ((isA t).1 hA) r j
  · rw [if_neg hA, if_neg fun h => hA ((isA t).2 h)]
    by_cases hB : IsB (grid0.coords t)
    · rw [if_pos hB, qw_eq, kw_eq]
      exact s13B_at q k v ct H x r j
    · rw [if_neg hB]
      exact s13C_at q k v ct H (notAB t hA hB) x r j

/-- What a point leaves of the value gradient's sum. -/
theorem step14_at (x : FVec Ideal S2048x128 .f32) (r : Fin 2048) (e : Fin 128) :
    step14 (grid0.coords t) b x (ix2 r e) = if (qt t).val = 2 * (kt t).val then ((gvB q k ct (hd t) (qt t) (rk (kt t) r) e : ℝ) : EReal)
      else x (ix2 r e) + ((gvB q k ct (hd t) (qt t) (rk (kt t) r) e : ℝ) : EReal) := by
  unfold step14
  by_cases hA : IsA (grid0.coords t)
  · rw [if_pos hA, if_pos ((isA t).1 hA), qw_eq, kw_eq]
    exact s14A_at q k v ct H ((isA t).1 hA) r e
  · rw [if_neg hA, if_neg fun h => hA ((isA t).2 h)]
    by_cases hB : IsB (grid0.coords t)
    · rw [if_pos hB, qw_eq, kw_eq]
      exact s14B_at q k v ct H x r e
    · rw [if_neg hB]
      exact s14C_at q k v ct H (notAB t hA hB) x r e

/-- What a point adds to its rows of the query gradient. -/
theorem dqRow_at (x : FVec Ideal S1024x256 .f32) (r : Fin 1024) (j : Fin 256) :
    dqRow (grid0.coords t) b x (ix2 r j) = x (ix2 r j) + ((gqB q k v ct (hd t) (kt t) (rq (qt t) r) j : ℝ) : EReal) := by
  unfold dqRow
  by_cases hA : IsA (grid0.coords t)
  · rw [if_pos hA, qw_eq, kw_eq]
    exact dqA_at q k v ct H ((isA t).1 hA) x r j
  · rw [if_neg hA]
    by_cases hB : IsB (grid0.coords t)
    · rw [if_pos hB, qw_eq, kw_eq]
      exact dqB_at q k v ct H x r j
    · rw [if_neg hB]
      exact dqC_at q k v ct H (notAB t hA hB) x r j

omit H in
/-- Rows of a tall array, read at a row offset. -/
theorem rows_at {n l k' : ℕ} (x : (⟨2, ![n, l]⟩ : Shape).Idx → EReal) (o : ℕ) (inb : ∀ a, (![o, 0] : Fin 2 → ℕ) a + (![k', l] : Fin 2 → ℕ) a ≤ (![n, l] : Fin 2 → ℕ) a)
    (r : Fin k') (j : Fin l) (a : Fin n) (ha : a.val = o + r.val) : VecWindow.window (s := ⟨2, ![n, l]⟩) x ![o, 0] ![k', l] inb (ix2 r j) = x (ix2 a j) := by
  refine congrArg x (funext fun i => Fin.ext ?_)
  match i with
  | ⟨0, _⟩ => exact (ValueKit.rect_emb_unit_val _ _ _ _ _).trans ha.symm
  | ⟨1, _⟩ => exact (ValueKit.rect_emb_unit_val _ _ _ _ _).trans (Nat.zero_add _)

omit H in
theorem put_rows (x : FVec Ideal S16384x256 .f32) (off : Fin 2 → ℕ) (o : ℕ) (hoff : off = ![o, 0]) (w : FVec Ideal S1024x256 .f32) (a : Fin 16384) (j : Fin 256) :
    VecWindow.put (s := S16384x256) x off S1024x256.size w (ix2 a j)
      = if hr : o ≤ a.val ∧ a.val < o + 1024 then w (ix2 ⟨a.val - o, by omega⟩ j) else x (ix2 a j) := by
  subst hoff
  exact put_at x o w a j

omit H in
theorem window_rows (x : FVec Ideal S16384x256 .f32) (off : Fin 2 → ℕ) (o : ℕ) (hoff : off = ![o, 0]) (inb : ∀ a, off a + S1024x256.size a ≤ S16384x256.size a) (r : Fin 1024) (j : Fin 256) (a : Fin 16384) (ha : a.val = o + r.val) :
    VecWindow.window (s := S16384x256) x off S1024x256.size inb (ix2 r j) = x (ix2 a j) := by
  subst hoff
  exact rows_at x o inb r j a ha

/-- What a point leaves of the query gradient. -/
theorem dqStep_at (x : FVec Ideal S16384x256 .f32) (a : Fin 16384) (j : Fin 256) :
    dqStep (grid0.coords t) b x (ix2 a j) = if a.val / 1024 = (qt t).val then
        (if (kt t).val = 0 then 0 else x (ix2 a j)) + ((gqB q k v ct (hd t) (kt t) a j : ℝ) : EReal)
      else x (ix2 a j) := by
  have hz : Body.dqZ (F := Ideal) (qw (grid0.coords t)) (kw (grid0.coords t)) x (ix2 a j) = if a.val / 1024 = (qt t).val ∧ (kt t).val = 0 then 0 else x (ix2 a j) := by
    unfold Body.dqZ
    by_cases h0 : (kt t).val = 0
    · rw [if_pos ((cond2 t).2 h0)]
      refine (put_rows x _ _ (off2 t) _ a j).trans ?_
      by_cases ha : a.val / 1024 = (qt t).val
      · rw [dif_pos (by omega), if_pos ⟨ha, h0⟩]
        exact zero40_at _ _
      · rw [dif_neg (by omega), if_neg fun h => ha h.1]
    · rw [if_neg fun h => h0 ((cond2 t).1 h), if_neg fun h => h0 h.2]
  unfold dqStep Body.dqPut
  refine (put_rows _ _ _ (off2 t) _ a j).trans ?_
  by_cases ha : a.val / 1024 = (qt t).val
  · rw [dif_pos (by omega), if_pos ha]
    refine (dqRow_at q k v ct H _ _ _).trans ?_
    have hr : rq (qt t) ⟨a.val - (qt t).val * 1024, by omega⟩ = a := Fin.ext (by show (qt t).val * 1024 + (a.val - (qt t).val * 1024) = a.val; omega)
    rw [hr]
    refine congrArg (fun z : EReal => z + ((gqB q k v ct (hd t) (kt t) a j : ℝ) : EReal)) (?_ : (_ : EReal) = _)
    refine ((window_rows (Body.dqZ (F := Ideal) (qw (grid0.coords t)) (kw (grid0.coords t)) x) _ _ (off2 t) _ _ j a (by show a.val = (qt t).val * 1024 + (a.val - (qt t).val * 1024); omega)).trans hz).trans ?_
    by_cases h0 : (kt t).val = 0
    · rw [if_pos ⟨ha, h0⟩, if_pos h0]
    · rw [if_neg fun h => h0 h.2, if_neg h0]
  · rw [dif_neg (by omega), if_neg ha, hz, if_neg fun h => ha h.1]

end Step

section Sums
variable (hq : ∀ a h d, m (c.tc.loc main_arg0) (ix3 a h d) = (q a h d : EReal))
  (hk : ∀ a h d, m (c.tc.loc main_arg1) (ix3 a h d) = (k a h d : EReal))
  (hv : ∀ a h e, m (c.tc.loc main_arg2) (ix3 a h e) = (v a h e : EReal))
  (hct : ∀ a h e, m (c.tc.loc main_arg3) (ix3 a h e) = (ct a h e : EReal))
include hq hk hv hct

/-- The sums after a point: the contributions of the tiles of queries up to the point's. -/
theorem sums_at : ∀ (n : ℕ) (hn : n < grid0.N),
    (∀ (r : Fin 2048) (j : Fin 256), (sums (F := Ideal) m c (n + 1)).1 (ix2 r j)
      = ((∑ i : Fin 16, (if i.val ≤ (qt ⟨n, hn⟩).val then gkB q k v ct (hd ⟨n, hn⟩) i (rk (kt ⟨n, hn⟩) r) j else 0) : ℝ) : EReal))
    ∧ ∀ (r : Fin 2048) (e : Fin 128), (sums (F := Ideal) m c (n + 1)).2 (ix2 r e)
      = ((∑ i : Fin 16, (if i.val ≤ (qt ⟨n, hn⟩).val then gvB q k ct (hd ⟨n, hn⟩) i (rk (kt ⟨n, hn⟩) r) e else 0) : ℝ) : EReal) := by
  intro n
  induction n with
  | zero =>
    intro hn
    have f := first ⟨0, hn⟩ rfl
    have hA : (qt ⟨0, hn⟩).val = 2 * (kt ⟨0, hn⟩).val := by rw [f.1, f.2]
    rw [sums_succ m c ⟨0, hn⟩]
    refine ⟨fun r j => ?_, fun r e => ?_⟩
    · refine (step13_at q k v ct (holds m c q k v ct hq hk hv hct ⟨0, hn⟩) _ r j).trans ?_
      rw [if_pos hA]
      exact congrArg Real.toEReal (Eq.symm (sum_if_one _ _ (qt ⟨0, hn⟩) (Nat.le_refl _) fun i hi => Or.inl fun h => hi (Fin.ext (by have := f.1; have := f.2; omega))))
    · refine (step14_at q k v ct (holds m c q k v ct hq hk hv hct ⟨0, hn⟩) _ r e).trans ?_
      rw [if_pos hA]
      exact congrArg Real.toEReal (Eq.symm (sum_if_one _ _ (qt ⟨0, hn⟩) (Nat.le_refl _) fun i hi => Or.inl fun h => hi (Fin.ext (by have := f.1; have := f.2; omega))))
  | succ n ih =>
    intro hn
    rw [sums_succ m c ⟨n + 1, hn⟩]
    by_cases hA : (qt ⟨n + 1, hn⟩).val = 2 * (kt ⟨n + 1, hn⟩).val
    · refine ⟨fun r j => ?_, fun r e => ?_⟩
      · refine (step13_at q k v ct (holds m c q k v ct hq hk hv hct ⟨n + 1, hn⟩) _ r j).trans ?_
        rw [if_pos hA]
        refine congrArg Real.toEReal (Eq.symm (sum_if_one _ _ (qt ⟨n + 1, hn⟩) (Nat.le_refl _) fun i hi => ?_))
        by_cases h : i.val ≤ (qt ⟨n + 1, hn⟩).val
        · have hne : i.val ≠ (qt ⟨n + 1, hn⟩).val := fun h' => hi (Fin.ext h')
          exact Or.inr (gkB_before q k v ct _ i _ (by omega) r j)
        · exact Or.inl h
      · refine (step14_at q k v ct (holds m c q k v ct hq hk hv hct ⟨n + 1, hn⟩) _ r e).trans ?_
        rw [if_pos hA]
        refine congrArg Real.toEReal (Eq.symm (sum_if_one _ _ (qt ⟨n + 1, hn⟩) (Nat.le_refl _) fun i hi => ?_))
        by_cases h : i.val ≤ (qt ⟨n + 1, hn⟩).val
        · have hne : i.val ≠ (qt ⟨n + 1, hn⟩).val := fun h' => hi (Fin.ext h')
          exact Or.inr (gvB_before q k ct _ i _ (by omega) r e)
        · exact Or.inl h
    · have h72 : (n + 1) % 72 ≠ 0 := fun h => hA (by have f := first ⟨n + 1, hn⟩ h; rw [f.1, f.2])
      obtain ⟨hh, hp⟩ := prev ⟨n + 1, hn⟩ h72
      have hp := hp.resolve_right fun h => hA h.2.2
      have I := ih (Nat.lt_of_succ_lt hn)
      have e1 : hd ⟨n, Nat.lt_of_succ_lt hn⟩ = hd ⟨n + 1, hn⟩ := hh
      have e2 : kt ⟨n, Nat.lt_of_succ_lt hn⟩ = kt ⟨n + 1, hn⟩ := hp.1
      have e3 : (qt ⟨n, Nat.lt_of_succ_lt hn⟩).val + 1 = (qt ⟨n + 1, hn⟩).val := hp.2
      rw [e1, e2] at I
      refine ⟨fun r j => ?_, fun r e => ?_⟩
      · refine (step13_at q k v ct (holds m c q k v ct hq hk hv hct ⟨n + 1, hn⟩) _ r j).trans ?_
        rw [if_neg hA, I.1, ← EReal.coe_add, sum_if_next _ (fun i : Fin 16 => i.val ≤ (qt ⟨n + 1, hn⟩).val) (fun i : Fin 16 => i.val ≤ (qt ⟨n, Nat.lt_of_succ_lt hn⟩).val) (qt ⟨n + 1, hn⟩) (le_refl _) (by omega)]
        intro i hi
        have hne : i.val ≠ (qt ⟨n + 1, hn⟩).val := fun h' => hi (Fin.ext h')
        exact Or.inl (by omega)
      · refine (step14_at q k v ct (holds m c q k v ct hq hk hv hct ⟨n + 1, hn⟩) _ r e).trans ?_
        rw [if_neg hA, I.2, ← EReal.coe_add, sum_if_next _ (fun i : Fin 16 => i.val ≤ (qt ⟨n + 1, hn⟩).val) (fun i : Fin 16 => i.val ≤ (qt ⟨n, Nat.lt_of_succ_lt hn⟩).val) (qt ⟨n + 1, hn⟩) (le_refl _) (by omega)]
        intro i hi
        have hne : i.val ≠ (qt ⟨n + 1, hn⟩).val := fun h' => hi (Fin.ext h')
        exact Or.inl (by omega)

omit hq hk hv hct in
theorem no_fetch : ∀ t : Fin (cfgT (F := Ideal)).N, ((cfgT (F := Ideal)).win 6).fetch t = false := by decide +kernel

/-- The query gradient after a point: the contributions of the tiles of keys up to the point's. -/
theorem dq_at : ∀ (n : ℕ) (hn : n < grid0.N) (X : Vec Ideal S16384x256 .f32), (rdat (F := Ideal) m c).Leaves 6 ⟨n, hn⟩ X →
    ∀ (a : Fin 16384) (j : Fin 256), ((kt ⟨n, hn⟩).val = 0 → a.val / 1024 ≤ (qt ⟨n, hn⟩).val) →
      X (ix2 a j) = ((∑ i : Fin 8, (if i.val < (kt ⟨n, hn⟩).val ∨ i.val = (kt ⟨n, hn⟩).val ∧ a.val / 1024 ≤ (qt ⟨n, hn⟩).val
        then gqB q k v ct (hd ⟨n, hn⟩) i a j else 0) : ℝ) : EReal) := by
  intro n
  induction n with
  | zero =>
    rintro hn X ⟨Y, -, rfl⟩ a j h0
    have f := first ⟨0, hn⟩ rfl
    refine (dqStep_at q k v ct (holds m c q k v ct hq hk hv hct ⟨0, hn⟩) Y a j).trans ?_
    have ha := h0 f.1
    rw [if_pos (by omega), if_pos f.1, zero_add, sum_if_one _ _ (kt ⟨0, hn⟩) (Or.inr ⟨rfl, ha⟩) fun i hi => Or.inl fun h => hi (Fin.ext (by omega))]
  | succ n ih =>
    rintro hn X ⟨Y, hY, rfl⟩ a j h0
    refine (dqStep_at q k v ct (holds m c q k v ct hq hk hv hct ⟨n + 1, hn⟩) Y a j).trans ?_
    by_cases h72 : (n + 1) % 72 = 0
    · have f := first ⟨n + 1, hn⟩ h72
      have ha := h0 f.1
      rw [if_pos (by omega), if_pos f.1, zero_add, sum_if_one _ _ (kt ⟨n + 1, hn⟩) (Or.inr ⟨rfl, ha⟩) fun i hi => Or.inl fun h => hi (Fin.ext (by omega))]
    · obtain ⟨hh, hp⟩ := prev ⟨n + 1, hn⟩ h72
      have e1 : hd ⟨n, Nat.lt_of_succ_lt hn⟩ = hd ⟨n + 1, hn⟩ := hh
      have hL : (rdat (F := Ideal) m c).Leaves 6 ⟨n, Nat.lt_of_succ_lt hn⟩ Y := by
        refine (((rdat (F := Ideal) m c).finds_of_pos (no_fetch ⟨n + 1, hn⟩) (Nat.succ_ne_zero n) Y).1 hY).resolve_left fun h => ?_
        rw [fl6] at h
        have h := of_decide_eq_true h
        have h : n % 72 = 71 := h
        omega
      have I := ih (Nat.lt_of_succ_lt hn) Y hL a j
      rw [e1] at I
      have ha : a.val / 1024 ≤ 15 := by omega
      have hv' : (kt ⟨n, Nat.lt_of_succ_lt hn⟩).val = (kt ⟨n + 1, hn⟩).val ∧ (qt ⟨n, Nat.lt_of_succ_lt hn⟩).val + 1 = (qt ⟨n + 1, hn⟩).val
          ∨ (kt ⟨n, Nat.lt_of_succ_lt hn⟩).val + 1 = (kt ⟨n + 1, hn⟩).val ∧ (qt ⟨n, Nat.lt_of_succ_lt hn⟩).val = 15 ∧ (qt ⟨n + 1, hn⟩).val = 2 * (kt ⟨n + 1, hn⟩).val :=
        hp.imp_left fun h => ⟨congrArg Fin.val h.1, h.2⟩
      clear hp
      generalize hK : (kt ⟨n + 1, hn⟩) = K at *
      generalize hQ : (qt ⟨n + 1, hn⟩) = Q at *
      generalize hK' : (kt ⟨n, Nat.lt_of_succ_lt hn⟩) = K' at *
      generalize hQ' : (qt ⟨n, Nat.lt_of_succ_lt hn⟩) = Q' at *
      by_cases haQ : a.val / 1024 = Q.val
      · rw [if_pos haQ]
        by_cases hK0 : K.val = 0
        · rw [if_pos hK0, zero_add, sum_if_one _ _ K (Or.inr ⟨rfl, by omega⟩) fun i hi => Or.inl fun h => hi (Fin.ext (by omega))]
        · rw [if_neg hK0, I (by omega), ← EReal.coe_add]
          rw [sum_if_next (fun i : Fin 8 => gqB q k v ct (hd ⟨n + 1, hn⟩) i a j) (fun i : Fin 8 => i.val < K.val ∨ i.val = K.val ∧ a.val / 1024 ≤ Q.val)
            (fun i : Fin 8 => i.val < K'.val ∨ i.val = K'.val ∧ a.val / 1024 ≤ Q'.val) K (Or.inr ⟨rfl, by omega⟩) (by omega) fun i hi => ?_]
          have hne : i.val ≠ K.val := fun h' => hi (Fin.ext h')
          exact Or.inl (by omega)
      · rw [if_neg haQ, I (by omega)]
        refine congrArg _ (sum_if_congr (fun i : Fin 8 => gqB q k v ct (hd ⟨n + 1, hn⟩) i a j) (fun i : Fin 8 => i.val < K'.val ∨ i.val = K'.val ∧ a.val / 1024 ≤ Q'.val)
          (fun i : Fin 8 => i.val < K.val ∨ i.val = K.val ∧ a.val / 1024 ≤ Q.val) fun i => ?_)
        by_cases hz : i.val = K.val ∧ a.val / 1024 < 2 * K.val
        · refine Or.inr ?_
          have hb := gqB_before q k v ct (hd ⟨n + 1, hn⟩) ⟨a.val / 1024, by omega⟩ i (by show a.val / 1024 < 2 * i.val; omega) ⟨a.val % 1024, by omega⟩ j
          have hr : rq ⟨a.val / 1024, by omega⟩ ⟨a.val % 1024, by omega⟩ = a := Fin.ext (by show a.val / 1024 * 1024 + a.val % 1024 = a.val; omega)
          rwa [hr] at hb
        · exact Or.inl (by omega)

end Sums
end Cert.FlashIdeal.Points
-- ==== Proof.FlashFinal.lean ====
/- What the attention gradient's three arrays hold: what the reference computes. -/
module

public import proofs.«01_k».proof.Proof.FlashSteps
public import proofs.«01_k».proof.Proof.FlashRef
public import Idealize.ShloMosaic.Lib.Pipeline.ArrRel
public import proofs.«01_k».proof.Proof.Gen.Pre_flash_finite

@[expose] public section

set_option maxRecDepth 16384

noncomputable section

namespace Cert.FlashIdeal.Final

open Idealize.ShloMosaic TcCoe
open FlashIdeal FlashIdeal.Gen FlashIdeal.Launch FlashIdeal.Pay FlashIdeal.Points Ereal Attn
open FlashRefIdeal.Read FlashRefIdeal.Values

variable (m : (ℓ : Loc nD τ sig) → Buf (Elt Ideal) ℓ) (c : Dev nD)
variable (q k : Fin 16384 → Fin 8 → Fin 192 → ℝ) (v ct : Fin 16384 → Fin 8 → Fin 128 → ℝ)
variable (hq : ∀ a h d, m (c.tc.loc main_arg0) (ix3 a h d) = (q a h d : EReal))
  (hk : ∀ a h d, m (c.tc.loc main_arg1) (ix3 a h d) = (k a h d : EReal))
  (hv : ∀ a h e, m (c.tc.loc main_arg2) (ix3 a h e) = (v a h e : EReal))
  (hct : ∀ a h e, m (c.tc.loc main_arg3) (ix3 a h e) = (ct a h e : EReal))
variable (after : (w : Fin (cfgT (F := Ideal)).W) → Fin (cfgT (F := Ideal)).N → ((cfgT (F := Ideal)).win w).block.Idx → Elt Ideal ((cfgT (F := Ideal)).win w).elt)
  (hL : ∀ (w : Fin (cfgT (F := Ideal)).W) (u : Fin (cfgT (F := Ideal)).N), ((cfgT (F := Ideal)).win w).flush u = true → (rdat (F := Ideal) m c).Leaves w u (after w u))

omit m c in
/-- A block of a whole array, its place. -/
theorem emb_slice (b : Ref sig .tc) (off size : Fin b.ty.shape.rank → ℕ) (inb) (y : (Rect.unit (s := b.ty.shape) off size inb).shape.Idx) (i : b.ty.shape.Idx)
    (h : ∀ a, (i a).val = off a + (y a).val) : ((View.whole b).slice (Rect.unit off size inb)).emb y = i :=
  funext fun a => Fin.ext ((ValueKit.view_emb_slice_whole_unit_val b off size inb y a).trans (h a).symm)

theorem emb6 (t : Fin (cfgT (F := Ideal)).N) (a : Fin 16384) (j : Fin 256) : (((cfgT (F := Ideal)).win 6).blk t).view.emb (ix2 a j) = ix2 a (colw (hd t) j) := by
  have e := idx6 t
  refine emb_slice main_v56_0 (fun a => ((cfgT (F := Ideal)).win 6).index t a * S16384x256.size a) S16384x256.size (fun a => Pipeline.Clip.OkAt.inb (((cfgT (F := Ideal)).win 6).hclip (grid0.coords t) a)) (ix2 a j) _ fun i => ?_
  refine Eq.trans ?_ (congrArg (fun n : ℕ => n * S16384x256.size i + (ix2 a j i).val) (congrFun e i).symm)
  match i with
  | ⟨0, _⟩ => exact (Nat.zero_add _).symm.trans (congrArg (· + a.val) (Nat.zero_mul _).symm)
  | ⟨1, _⟩ => rfl

theorem emb7 (t : Fin (cfgT (F := Ideal)).N) (r : Fin 2048) (j : Fin 256) : (((cfgT (F := Ideal)).win 7).blk t).view.emb (ix2 r j) = ix2 (rk (kt t) r) (colw (hd t) j) := by
  have e := idx7 t
  refine emb_slice main_v56_1 (fun a => ((cfgT (F := Ideal)).win 7).index t a * S2048x256.size a) S2048x256.size (fun a => Pipeline.Clip.OkAt.inb (((cfgT (F := Ideal)).win 7).hclip (grid0.coords t) a)) (ix2 r j) _ fun i => ?_
  refine Eq.trans ?_ (congrArg (fun n : ℕ => n * S2048x256.size i + (ix2 r j i).val) (congrFun e i).symm)
  match i with
  | ⟨0, _⟩ => rfl
  | ⟨1, _⟩ => rfl

theorem emb8 (t : Fin (cfgT (F := Ideal)).N) (r : Fin 2048) (j : Fin 128) : (((cfgT (F := Ideal)).win 8).blk t).view.emb (ix2 r j) = ix2 (rk (kt t) r) (coln (hd t) j) := by
  have e := idx8 t
  refine emb_slice main_v56_2 (fun a => ((cfgT (F := Ideal)).win 8).index t a * S2048x128.size a) S2048x128.size (fun a => Pipeline.Clip.OkAt.inb (((cfgT (F := Ideal)).win 8).hclip (grid0.coords t) a)) (ix2 r j) _ fun i => ?_
  refine Eq.trans ?_ (congrArg (fun n : ℕ => n * S2048x128.size i + (ix2 r j i).val) (congrFun e i).symm)
  match i with
  | ⟨0, _⟩ => rfl
  | ⟨1, _⟩ => rfl

include hq hk hv hct hL

/-- The query gradient's array. -/
theorem final6 : ((rdat (F := Ideal) m c).withAfter after).arrAt 6 (cfgT (F := Ideal)).N
    = val_main_v64 (F := Ideal) (m (c.tc.loc main_arg0)) (m (c.tc.loc main_arg1)) (m (c.tc.loc main_arg2)) (m (c.tc.loc main_arg3)) := by
  refine Pipeline.Dat.arrAt_eq_of_covers _ 6 _ (by decide +kernel) fun t hf y => ?_
  have L := hL 6 t hf
  have hf' : t.val % 72 = 71 := of_decide_eq_true ((fl6 t).symm.trans hf)
  have e := last t hf'
  obtain ⟨a, j, rfl⟩ := two (n := 16384) (l := 256) y
  refine (dq_at m c q k v ct hq hk hv hct t.val t.isLt _ L a j (fun h => absurd (e.1.symm.trans h) (by decide))).trans ?_
  refine Eq.trans ?_ (congrArg (val_main_v64 (F := Ideal) _ _ _ _) (emb6 t a j)).symm
  refine Eq.trans ?_ (v64_at _ _ _ _ q k v ct hq hk hv hct a (hd t) j).symm
  rw [← gq_total]
  refine congrArg Real.toEReal (Finset.sum_congr rfl fun i _ => if_pos ?_)
  show i.val < (kt t).val ∨ i.val = (kt t).val ∧ a.val / 1024 ≤ (qt t).val
  omega

/-- The key gradient's array. -/
theorem final7 : ((rdat (F := Ideal) m c).withAfter after).arrAt 7 (cfgT (F := Ideal)).N
    = val_main_v67 (F := Ideal) (m (c.tc.loc main_arg0)) (m (c.tc.loc main_arg1)) (m (c.tc.loc main_arg2)) (m (c.tc.loc main_arg3)) := by
  refine Pipeline.Dat.arrAt_eq_of_covers _ 7 _ (by decide +kernel) fun t hf y => ?_
  obtain ⟨Y, -, e⟩ := hL 7 t hf
  have hf' : (qt t).val = 15 := of_decide_eq_true ((fl7 t).symm.trans hf)
  have e := e.trans (if_pos ((cond6 t).2 hf'))
  obtain ⟨r, j, rfl⟩ := two (n := 2048) (l := 256) y
  refine (congrFun e (ix2 r j)).trans ?_
  refine (pay7_at _ r j).trans ?_
  refine Eq.trans ?_ (congrArg (val_main_v67 (F := Ideal) _ _ _ _) (emb7 t r j)).symm
  refine Eq.trans ?_ (v67_at _ _ _ _ q k v ct hq hk hv hct (rk (kt t) r) (hd t) j).symm
  rw [(sums_at m c q k v ct hq hk hv hct t.val t.isLt).1 r j, ← EReal.coe_mul, ← gk_total]
  refine congrArg (fun x : ℝ => ((x * Real.log 2 : ℝ) : EReal)) (Finset.sum_congr rfl fun i _ => if_pos ?_)
  show i.val ≤ (qt t).val
  omega

/-- The value gradient's array. -/
theorem final8 : ((rdat (F := Ideal) m c).withAfter after).arrAt 8 (cfgT (F := Ideal)).N
    = val_main_v69 (F := Ideal) (m (c.tc.loc main_arg0)) (m (c.tc.loc main_arg1)) (m (c.tc.loc main_arg3)) := by
  refine Pipeline.Dat.arrAt_eq_of_covers _ 8 _ (by decide +kernel) fun t hf y => ?_
  obtain ⟨Y, -, e⟩ := hL 8 t hf
  have hf' : (qt t).val = 15 := of_decide_eq_true ((fl8 t).symm.trans hf)
  have e := e.trans (if_pos ((cond6 t).2 hf'))
  obtain ⟨r, j, rfl⟩ := two (n := 2048) (l := 128) y
  refine (congrFun e (ix2 r j)).trans ?_
  refine (pay8_at _ r j).trans ?_
  refine Eq.trans ?_ (congrArg (val_main_v69 (F := Ideal) _ _ _) (emb8 t r j)).symm
  refine Eq.trans ?_ (v69_at _ _ _ _ q k v ct hq hk hv hct (rk (kt t) r) (hd t) j).symm
  rw [(sums_at m c q k v ct hq hk hv hct t.val t.isLt).2 r j, ← gv_total]
  refine congrArg Real.toEReal (Finset.sum_congr rfl fun i _ => if_pos ?_)
  show i.val ≤ (qt t).val
  omega

omit hq hk hv hct hL m c in
/-- Finite arguments, as the precondition says it, are arrays of real numbers. -/
theorem real_args (x0 x1 : FVec Ideal S16384x8x192 .f32) (x2 x3 : FVec Ideal S16384x8x128 .f32)
    (h : @Pre_flash_finite.fn Pre_flash_finite.Gen.facts Ideal _ x0 x1 x2 x3 = fun _ => 1#1) :
    ∃ (q k : Fin 16384 → Fin 8 → Fin 192 → ℝ) (v ct : Fin 16384 → Fin 8 → Fin 128 → ℝ), (∀ a h d, x0 (ix3 a h d) = (q a h d : EReal)) ∧ (∀ a h d, x1 (ix3 a h d) = (k a h d : EReal))
      ∧ (∀ a h e, x2 (ix3 a h e) = (v a h e : EReal)) ∧ (∀ a h e, x3 (ix3 a h e) = (ct a h e : EReal)) := by
  have h0 := congrFun h ValueIdx.ix0
  simp only [Pre_flash_finite.fn, Pre_flash_finite.fn_part1, andi, IntOp.andi_eq_one] at h0
  obtain ⟨⟨⟨a, b⟩, d⟩, f⟩ := h0
  obtain ⟨Q, rfl⟩ := real_of_all x0 _ (fun i => by pointwise) _ _ _ _ a
  obtain ⟨K, rfl⟩ := real_of_all x1 _ (fun i => by pointwise) _ _ _ _ b
  obtain ⟨V, rfl⟩ := real_of_all x2 _ (fun i => by pointwise) _ _ _ _ d
  obtain ⟨C, rfl⟩ := real_of_all x3 _ (fun i => by pointwise) _ _ _ _ f
  exact ⟨fun a h d => Q (ix3 a h d), fun a h d => K (ix3 a h d), fun a h d => V (ix3 a h d), fun a h d => C (ix3 a h d), fun _ _ _ => rfl, fun _ _ _ => rfl, fun _ _ _ => rfl, fun _ _ _ => rfl⟩
end Cert.FlashIdeal.Final
-- ==== Proof.FlashClaim.lean ====
/- The claims about the attention gradient. -/
module

public import proofs.«01_k».proof.Defs
public import proofs.«01_k».proof.Proof.FlashFrame
public import proofs.«01_k».proof.Proof.FlashFinal
public import proofs.«01_k».proof.Proof.Gen.FlashRefIdeal.Run
public import Idealize.ShloMosaic.Lib.Claim

@[expose] public section

set_option maxRecDepth 16384

noncomputable section

namespace Cert.Proof

open Idealize.ShloMosaic Idealize.SL.Sem

open FlashRefIdeal in
/-- The attention reference's run, its results named. -/
theorem flash_ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v64) = Read.val_main_v64 (F := Ideal) (m (c.tc.loc main_arg0)) (m (c.tc.loc main_arg1)) (m (c.tc.loc main_arg2)) (m (c.tc.loc main_arg3))
      ∧ r.2.mem (c.tc.loc main_v67) = Read.val_main_v67 (F := Ideal) (m (c.tc.loc main_arg0)) (m (c.tc.loc main_arg1)) (m (c.tc.loc main_arg2)) (m (c.tc.loc main_arg3))
      ∧ r.2.mem (c.tc.loc main_v69) = Read.val_main_v69 (F := Ideal) (m (c.tc.loc main_arg0)) (m (c.tc.loc main_arg1)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (Read.val_main_v64_eq m c), (h c).2.1.trans (Read.val_main_v67_eq m c),
    (h c).2.2.1.trans (Read.val_main_v69_eq m c), (h c).2.2.2⟩) (Value.run m ρ)

/-- The attention reference's frame. -/
theorem flash_ref : Cert.quiescent_FlashRefIdeal (hFlashRefIdeal := FlashRefIdeal.Gen.facts) := by
  intro m g _
  exact (θ_run FlashRefIdeal.defs _ _).mono (fun r h => ⟨fun c => (h c).2.2.2, sem_eq_zero_of_no_sems (by decide) r.2⟩) (flash_ref_run m g)

/-- The constant the kernel rounds is the logarithm of two. -/
theorem flash_preserves : Cert.preserves_Flash_FlashIdeal :=
  IdealRules.named_const.statement FlashIdeal.κ "ln2" .f32 0x3F317218#32 ((Real.log 2 : ℝ) : EReal) rfl

open FlashIdeal in
/-- The attention kernel's run, its results named. -/
theorem flash_run (m : (ℓ : Loc nD τ sig) → Buf (Elt Ideal) ℓ) (ρ : Dev nD → PrngReg)
    (hpre : Pre_FlashIdeal_flash_finite (hPre_flash_finite := Pre_flash_finite.Gen.facts) m) :
    θ_run defs (onTc (τ := τ) (main (F := Ideal))) ⟨m, fun _ => 0, ρ⟩ fun r => ∀ c : Dev nD,
      r.2.mem (c.tc.loc main_v56_0) = FlashRefIdeal.Read.val_main_v64 (F := Ideal) (m (c.tc.loc main_arg0)) (m (c.tc.loc main_arg1)) (m (c.tc.loc main_arg2)) (m (c.tc.loc main_arg3))
      ∧ r.2.mem (c.tc.loc main_v56_1) = FlashRefIdeal.Read.val_main_v67 (F := Ideal) (m (c.tc.loc main_arg0)) (m (c.tc.loc main_arg1)) (m (c.tc.loc main_arg2)) (m (c.tc.loc main_arg3))
      ∧ r.2.mem (c.tc.loc main_v56_2) = FlashRefIdeal.Read.val_main_v69 (F := Ideal) (m (c.tc.loc main_arg0)) (m (c.tc.loc main_arg1)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run defs _ _).mono (fun r h c => ?_) (Launch.run_main m ρ)
  obtain ⟨q, k, v, ct, hq, hk, hv, hct⟩ := Final.real_args _ _ _ _ (hpre c)
  obtain ⟨after, hL, hA⟩ := h.1.exists_exact c
  have k := (h.1 c).2
  exact ⟨(hA 6).trans (Final.final6 m c q _ v ct hq hk hv hct after hL), (hA 7).trans (Final.final7 m c q _ v ct hq hk hv hct after hL),
    (hA 8).trans (Final.final8 m c q _ v ct hq hk hv hct after hL),
    (k main_arg0 (by decide)).trans (Launch.V_arg0 m c), (k main_arg1 (by decide)).trans (Launch.V_arg1 m c),
    (k main_arg2 (by decide)).trans (Launch.V_arg2 m c), (k main_arg3 (by decide)).trans (Launch.V_arg3 m c)⟩

/-- The attention gradient's kernel computes the reference's three results on finite arguments. -/
theorem flash_value : Cert.algebraic_FlashIdeal_FlashRefIdeal_pre_flash_finite (hFlashIdeal := FlashIdeal.Gen.facts) (hFlashRefIdeal := FlashRefIdeal.Gen.facts)
    (hPre_flash_finite := Pre_flash_finite.Gen.facts) := by
  intro m g m' g' hpre hagree
  refine ⟨_, _, _, flash_run m g hpre, (θ_run FlashRefIdeal.defs _ _).mono (fun r h c => ?_) (flash_ref_run m' g')⟩
  have e := h c
  rw [(hagree c).1, (hagree c).2.1, (hagree c).2.2.1, (hagree c).2.2.2] at e
  rw [(hagree c).1, (hagree c).2.1, (hagree c).2.2.1, (hagree c).2.2.2]
  exact e

end Cert.Proof

end
-- ==== Proof.GateMath.lean ====
/- The gate of the scan's output over the reals: the activation, its derivative, the gate and what its two gradients are. -/
module

public import proofs.«01_k».proof.Proof.Ereal

@[expose] public section

noncomputable section

open Idealize.ShloMosaic

namespace Cert.Gate.Math

open Ereal

/-- The number the word of √(2/π) is. -/
def cc : ℝ := 13386282 * (2 : ℝ) ^ (-24 : ℤ)
theorem lit_cc : Ideal.ofBits .f32 0x3F4C422A#32 = ((cc : ℝ) : EReal) := by
  simp [Ideal.ofBits, Ideal.ieee, cc]
/-- The word of 44715. -/
theorem lit_44715 : Ideal.ofBits .f32 0x472EAB00#32 = ((44715 : ℝ) : EReal) := by
  simp [Ideal.ofBits, Ideal.ieee]; rw [← EReal.coe_mul]; norm_num
/-- The word of 10⁶. -/
theorem lit_million : Ideal.ofBits .f32 0x49742400#32 = ((1000000 : ℝ) : EReal) := by
  simp [Ideal.ofBits, Ideal.ieee]; rw [← EReal.coe_mul]; norm_num
/-- The word of 3. -/
theorem lit_three : Ideal.ofBits .f32 0x40400000#32 = ((3 : ℝ) : EReal) := by
  simp [Ideal.ofBits, Ideal.ieee]; rw [← EReal.coe_mul]; norm_num

/-- The hyperbolic tangent inside the activation. -/
def th (y : ℝ) : ℝ := Real.tanh (cc * (y + 44715 / 1000000 * (y * y * y)))
/-- The activation. -/
def act (y : ℝ) : ℝ := y * (1 / 2 * (1 + th y))
/-- Its derivative. -/
def dact (y : ℝ) : ℝ := 1 / 2 * (1 + th y) + 1 / 2 * y * (1 - th y * th y) * (cc * (1 + 3 * (44715 / 1000000) * (y * y)))
/-- The logistic function. -/
def sg (x : ℝ) : ℝ := (1 + Real.exp (-x))⁻¹

variable (y d : Fin 16384 → Fin 1024 → ℝ) (w : Fin 1024 → Fin 2048 → ℝ)

/-- The product before the gate: its first 1024 columns are the values, the others the gates. -/
def z (r : Fin 16384) (j : Fin 2048) : ℝ := ∑ k, act (y r k) * w k j
/-- The value's column of `z`. -/
def lo (k : Fin 1024) : Fin 2048 := ⟨k.val, by omega⟩
/-- The gate's column of `z`. -/
def hi (k : Fin 1024) : Fin 2048 := ⟨1024 + k.val, by omega⟩
/-- The gradient with respect to a value. -/
def dlo (r : Fin 16384) (k : Fin 1024) : ℝ := d r k * sg (z y w r (hi k))
/-- The gradient with respect to a gate. -/
def dhi (r : Fin 16384) (k : Fin 1024) : ℝ := d r k * z y w r (lo k) * sg (z y w r (hi k)) * (1 - sg (z y w r (hi k)))
/-- The gradient with respect to `z`. -/
def dz (r : Fin 16384) (j : Fin 2048) : ℝ :=
  if h : j.val < 1024 then dlo y d w r ⟨j.val, h⟩ else dhi y d w r ⟨j.val - 1024, by omega⟩
/-- The gradient with respect to the activation's argument. -/
def dy (r : Fin 16384) (k : Fin 1024) : ℝ := (∑ j, dz y d w r j * w k j) * dact (y r k)
/-- The gradient with respect to the weights. -/
def dw (k : Fin 1024) (j : Fin 2048) : ℝ := ∑ r, act (y r k) * dz y d w r j

end Cert.Gate.Math

end
-- ==== Proof.GateRef.lean ====
/- What the gate's reference computes, over the reals. -/
module

public import proofs.«01_k».proof.Proof.Gen.GateRefIdeal.Read
public import proofs.«01_k».proof.Proof.GateMath
public import Idealize.ShloMosaic.Lib.Pointwise

@[expose] public section

set_option maxRecDepth 16384

noncomputable section

namespace Cert.GateRefIdeal.Final

open GateRefIdeal GateRefIdeal.Read Idealize.ShloMosaic Ereal Gate.Math

variable (x0 x1 x3 : FVec Ideal S16384x1024 .f32) (x2 : FVec Ideal S1024x2048 .f32)
variable (y d : Fin 16384 → Fin 1024 → ℝ) (w : Fin 1024 → Fin 2048 → ℝ)
variable (hy : ∀ r k, x1 (ix2 r k) = (y r k : EReal)) (hw : ∀ k j, x2 (ix2 k j) = (w k j : EReal)) (hd : ∀ r k, x3 (ix2 r k) = (d r k : EReal))

include hy in
theorem v12_at (r : Fin 16384) (k : Fin 1024) : val_main_v12 (F := Ideal) x1 (ix2 r k) = ((th (y r k) : ℝ) : EReal) := by
  pointwise [val_main_v12, val_main_v11, val_main_v10, val_main_v9, val_main_v8, val_main_v7, val_main_v6, val_main_v5, val_main_v1, val_main_v0, val_main_cst_0, val_main_cst_1, val_main_cst_2]
  simp only [hy, lit_cc, lit_44715, lit_million]
  rw [← EReal.coe_mul, ← EReal.coe_mul, ← EReal.coe_mul, div_coe' (by norm_num), ← EReal.coe_add, ← EReal.coe_mul, Ideal.tanh_coe, th]
  congr 4; ring

include hy in
theorem v22_at (r : Fin 16384) (k : Fin 1024) : val_main_v22 (F := Ideal) x1 (ix2 r k) = ((act (y r k) : ℝ) : EReal) := by
  pointwise [val_main_v22, val_main_v21, val_main_v20, val_main_v19, val_main_v18, val_main_cst_5, val_main_cst_6]
  rw [v12_at x1 y hy]
  simp only [hy, lit_half, ← EReal.coe_one, ← EReal.coe_add, ← EReal.coe_mul, act]

include hy hw in
theorem v23_at (r : Fin 16384) (j : Fin 2048) : val_main_v23 (F := Ideal) x1 x2 (ix2 r j) = ((z y w r j : ℝ) : EReal) := by
  pointwise [val_main_v23]
  simp only [v22_at x1 y hy, hw, ← EReal.coe_mul]
  exact sum_coe _ _

include hy hw in
theorem v31_at (r : Fin 16384) (k : Fin 1024) : val_main_v31 (F := Ideal) x1 x2 (ix2 r k) = ((sg (z y w r (hi k)) : ℝ) : EReal) := by
  pointwise [val_main_v31, val_main_v30, val_main_v29, val_main_v28, val_main_v27, val_main_v26, val_main_v25, val_main_cst_7, val_main_cst_8]
  simp only [v23_at x1 x2 y w hy hw]
  rw [← EReal.coe_neg, Ideal.exp_coe, ← EReal.coe_one, ← EReal.coe_add, div_coe' (by positivity), one_div]; rfl

include hy hw in
theorem v36_at (r : Fin 16384) (k : Fin 1024) :
    val_main_v36 (F := Ideal) x0 x1 x2 (ix2 r k) = x0 (ix2 r k) + ((z y w r (lo k) * sg (z y w r (hi k)) : ℝ) : EReal) := by
  pointwise [val_main_v36, val_main_v35, val_main_v24]
  simp only [v23_at x1 x2 y w hy hw, v31_at x1 x2 y w hy hw, ← EReal.coe_mul]
  rfl

include hy hw hd in
theorem v40_at (r : Fin 16384) (j : Fin 2048) : val_main_v40 (F := Ideal) x1 x2 x3 (ix2 r j) = ((dz y d w r j : ℝ) : EReal) := by
  pointwise [val_main_v40, val_main_v39, val_main_v38, val_main_v37, val_main_v34, val_main_v33, val_main_v32, val_main_v24, val_main_cst_9]
  simp only [v23_at x1 x2 y w hy hw, v31_at x1 x2 y w hy hw, hd, lit_one, ← EReal.coe_sub, ← EReal.coe_mul]
  simp only [← EReal.coe_one, ← EReal.coe_sub, ← EReal.coe_mul]
  unfold dz dlo dhi
  split_ifs with _ h'
  · rfl
  · refine congrArg _ (Eq.trans ?_ (show d r _ * z y w r (lo ⟨j.val - 1024, by omega⟩) * sg _ * _ = _ from rfl))
    rw [show lo ⟨j.val - 1024, by omega⟩ = (⟨j.val - 1024, by omega⟩ : Fin 2048) from rfl]; ring
  · exact absurd rfl h'

include hy hw hd in
/-- The gradient of the weights. -/
theorem v42_at (k : Fin 1024) (j : Fin 2048) : val_main_v42 (F := Ideal) x1 x2 x3 (ix2 k j) = ((dw y d w k j : ℝ) : EReal) := by
  pointwise [val_main_v42, val_main_v41]
  simp only [v22_at x1 y hy, v40_at x1 x3 x2 y d w hy hw hd, ← EReal.coe_mul]
  rw [sum_coe, dw]
  exact congrArg _ (Finset.sum_congr rfl fun _ _ => mul_comm _ _)

include hy hw hd in
/-- The gradient of the gate's argument. -/
theorem v57_at (r : Fin 16384) (k : Fin 1024) : val_main_v57 (F := Ideal) x1 x2 x3 (ix2 r k) = ((dy y d w r k : ℝ) : EReal) := by
  have h43 : val_main_v43 (F := Ideal) x1 x2 x3 (ix2 r k) = ((∑ j, dz y d w r j * w k j : ℝ) : EReal) := by
    pointwise [val_main_v43]
    simp only [v40_at x1 x3 x2 y d w hy hw hd, hw, ← EReal.coe_mul]
    exact sum_coe _ _
  pointwise [val_main_v57, val_main_v56, val_main_v55, val_main_v54, val_main_v53, val_main_v52, val_main_v51, val_main_v50, val_main_v49, val_main_v48, val_main_v47, val_main_v46, val_main_v45,
    val_main_v44, val_main_v21, val_main_v20, val_main_v19, val_main_v18, val_main_v17, val_main_v16, val_main_v15, val_main_v14, val_main_v13, val_main_v4, val_main_v3, val_main_v2,
    val_main_cst, val_main_cst_3, val_main_cst_4, val_main_cst_5, val_main_cst_6, val_main_cst_10, val_main_cst_11, val_main_cst_12, val_main_cst_13]
  simp only [h43, v12_at x1 y hy, hy, lit_cc, lit_one, lit_half, lit_three, lit_44715, lit_million, ← EReal.coe_sub, ← EReal.coe_add, ← EReal.coe_mul]
  simp only [← EReal.coe_one, ← EReal.coe_sub, ← EReal.coe_add, ← EReal.coe_mul]
  rw [div_coe' (by norm_num)]
  simp only [← EReal.coe_add, ← EReal.coe_mul]
  unfold dy dact
  exact congrArg _ (by ring)

end Cert.GateRefIdeal.Final

end
-- ==== Proof.GateValue.lean ====
/- What the gate's two calls compute, over the reals. -/
module

public import proofs.«01_k».proof.Proof.Gen.GateIdeal.Frame
public import proofs.«01_k».proof.Proof.GateRef
public import Idealize.ShloMosaic.Lib.Pipeline.ValueKit

@[expose] public section

set_option maxRecDepth 16384

noncomputable section

namespace Cert.GateIdeal.Final

open GateIdeal GateIdeal.Gen Idealize.ShloMosaic TcCoe Idealize.SL.Sem Ereal Gate.Math
open Idealize.ShloMosaic.Pipeline (Dat)

/-- The small constant of the activation is 0.044715. -/
theorem named_gelu : Named.named (F := Ideal) (φ := .f32) κ "gelu" 0x3D372713#32 = ((8943 / 200000 : ℝ) : EReal) := IdealRules.named_const.ideal_named_scalar _ _ _ _ rfl
/-- And three times it. -/
theorem named_gelu3 : Named.named (F := Ideal) (φ := .f32) κ "gelu3" 0x3E095D4F#32 = ((26829 / 200000 : ℝ) : EReal) := IdealRules.named_const.ideal_named_scalar _ _ _ _ rfl

/-- The kernel's hyperbolic tangent at a real argument. -/
theorem th_at (y : ℝ) : Ideal.tanh (Ideal.ofBits .f32 0x3F4C422A#32 * ((y : EReal) + Named.named (F := Ideal) (φ := .f32) κ "gelu" 0x3D372713#32 * ((y : EReal) * y * y))) = ((th y : ℝ) : EReal) := by
  rw [lit_cc, named_gelu]
  simp only [← EReal.coe_add, ← EReal.coe_mul]
  rw [Ideal.tanh_coe, th]
  congr 4; ring

/-- The product the forward call makes, at a block whose first operand is `u`. -/
theorem z_at (a : FVec Ideal S512x1024 .f32) (b : FVec Ideal S1024x2048 .bf16) (u : Fin 512 → Fin 1024 → ℝ) (w : Fin 1024 → Fin 2048 → ℝ)
    (ha : ∀ r k, a (ix2 r k) = (u r k : EReal)) (hb : ∀ k j, b (ix2 k j) = (w k j : EReal)) (r : Fin 512) (j : Fin 2048) :
    k0_pay1 (F := Ideal) a b (ix2 r j) = ((∑ k, act (u r k) * w k j : ℝ) : EReal) := by
  pointwise [k0_pay1]
  simp only [ha, hb, th_at]
  simp only [lit_half, ← EReal.coe_one, ← EReal.coe_add, ← EReal.coe_mul]
  rw [sum_coe]
  exact congrArg _ (Finset.sum_congr rfl fun k _ => by unfold act; ring)

theorem act_at (a : FVec Ideal S512x1024 .f32) (u : Fin 512 → Fin 1024 → ℝ) (ha : ∀ r k, a (ix2 r k) = (u r k : EReal)) (r : Fin 512) (k : Fin 1024) :
    k1_pay7 (F := Ideal) a (ix2 r k) = ((act (u r k) : ℝ) : EReal) := by
  pointwise [k1_pay7, k1_pay6]
  simp only [ha, th_at]
  simp only [lit_half, ← EReal.coe_one, ← EReal.coe_add, ← EReal.coe_mul]
  exact congrArg _ (by unfold act; ring)

theorem dact_at (a : FVec Ideal S512x1024 .f32) (u : Fin 512 → Fin 1024 → ℝ) (ha : ∀ r k, a (ix2 r k) = (u r k : EReal)) (r : Fin 512) (k : Fin 1024) :
    k1_pay8 (F := Ideal) a (ix2 r k) = ((dact (u r k) : ℝ) : EReal) := by
  pointwise [k1_pay8, k1_pay6]
  simp only [ha, th_at]
  simp only [named_gelu3, lit_half, lit_cc, ← EReal.coe_one, ← EReal.coe_add, ← EReal.coe_sub, ← EReal.coe_mul]
  exact congrArg _ (by unfold dact; ring)

theorem dz_at (e : FVec Ideal S512x1024 .f32) (b : FVec Ideal S512x2048 .bf16) (v : Fin 512 → Fin 1024 → ℝ) (x : Fin 512 → Fin 2048 → ℝ)
    (he : ∀ r k, e (ix2 r k) = (v r k : EReal)) (hb : ∀ k j, b (ix2 k j) = (x k j : EReal)) (r : Fin 512) (j : Fin 2048) :
    k1_pay1 (F := Ideal) e (k1_pay9 b) (k1_pay10 b) (ix2 r j) = ((if h : j.val < 1024 then v r ⟨j.val, h⟩ * sg (x r (hi ⟨j.val, h⟩))
      else v r ⟨j.val - 1024, by omega⟩ * x r (lo ⟨j.val - 1024, by omega⟩) * sg (x r (hi ⟨j.val - 1024, by omega⟩)) * (1 - sg (x r (hi ⟨j.val - 1024, by omega⟩))) : ℝ) : EReal) := by
  pointwise [k1_pay1, k1_pay9, k1_pay10]
  simp only [he, hb]
  simp only [Ideal.logistic_coe]
  split_ifs with _ h'
  · rw [← EReal.coe_mul]; rfl
  · rw [← EReal.coe_one, ← EReal.coe_sub, ← EReal.coe_mul, ← EReal.coe_mul, ← EReal.coe_mul]; rfl
  · exact absurd rfl h'

theorem idx0 : ∀ p : Fin cfg0.N, win0_0.index p = ![p.val, 0] ∧ win0_1.index p = ![p.val, 0] ∧ win0_2.index p = ![0, 0] ∧ win0_3.index p = ![p.val, 0]
    ∧ win0_4.index p = ![p.val, 0] :=
  (by decide +kernel : ∀ p : Fin grid0.N, _)

theorem idx1 : ∀ p : Fin cfg1.N, win1_0.index p = ![p.val, 0] ∧ win1_1.index p = ![p.val, 0] ∧ win1_2.index p = ![p.val, 0] ∧ win1_3.index p = ![0, 0]
    ∧ win1_4.index p = ![p.val, 0] ∧ win1_5.index p = ![0, 0] :=
  (by decide +kernel : ∀ p : Fin grid1.N, _)

/-- The row of the arrays that row `r` of block `p` is. -/
def row (p : ℕ) (h : p < 32) (r : Fin 512) : Fin 16384 := ⟨p * 512 + r.val, by have := r.isLt; omega⟩

/-- Summing over the blocks and a block's rows is summing over the rows. -/
theorem sum_rows (f : Fin 16384 → EReal) : ∑ p : Fin cfg1.N, ∑ r : Fin 512, f (row p.val (lt_of_lt_of_eq p.isLt N_1) r) = ∑ q, f q :=
  Fin.sum_mul_add_congr fun p r hl => rfl

theorem lt0 (p : Fin cfg0.N) : p.val < 32 := lt_of_lt_of_eq p.isLt N_0
theorem lt1 (p : Fin cfg1.N) : p.val < 32 := lt_of_lt_of_eq p.isLt N_1

/-- The product before the gate, as an array. -/
def saved (y : Fin 16384 → Fin 1024 → ℝ) (w : Fin 1024 → Fin 2048 → ℝ) : FVec Ideal S16384x2048 .bf16 := fun i => (z y w (i 0) (i 1) : EReal)

/-- The last point of the backward call's grid. -/
def t1_31 : Fin cfg1.N := ⟨31, by rw [show cfg1.N = 32 from N_1]; decide⟩
theorem last_31 : t1_31.val + 1 = cfg1.N := show 31 + 1 = grid1.N from N_1.symm

variable (V : (c : Dev nD) → (b : Ref sig .tc) → Buf (Elt Ideal) ((c : Thread nD τ).loc b)) (c : Dev nD)
variable (H Y T : FVec Ideal S16384x1024 .f32) (W : FVec Ideal S1024x2048 .f32)
variable (y d : Fin 16384 → Fin 1024 → ℝ) (w : Fin 1024 → Fin 2048 → ℝ)
variable (hy : ∀ r k, Y (ix2 r k) = (y r k : EReal)) (hw : ∀ k j, W (ix2 k j) = (w k j : EReal)) (hd : ∀ r k, T (ix2 r k) = (d r k : EReal))

section
variable (h0 : V c main_arg0 = H) (h1 : V c main_arg1 = Y) (h2 : V c main_v0 = (W : S1024x2048.Idx → EReal))
include h0 in
theorem b00 (p : Fin cfg0.N) (r : Fin 512) (k : Fin 1024) : (iblk0 V c 0 p : FVec Ideal S512x1024 .f32) (ix2 r k) = H (ix2 (row p.val (lt0 p) r) k) := by
  rw [← h0]; blk_ext [iblk0, idx0 p, row]
include h1 hy in
theorem b01 (p : Fin cfg0.N) (r : Fin 512) (k : Fin 1024) : (iblk0 V c 1 p : FVec Ideal S512x1024 .f32) (ix2 r k) = (y (row p.val (lt0 p) r) k : EReal) := by
  rw [← hy, ← h1]; blk_ext [iblk0, idx0 p, row]
include h2 hw in
theorem b02 (p : Fin cfg0.N) (k : Fin 1024) (j : Fin 2048) : (iblk0 V c 2 p : FVec Ideal S1024x2048 .bf16) (ix2 k j) = (w k j : EReal) := by
  rw [← hw, ← h2]; blk_ext [iblk0, idx0 p, row]

include hy hw h0 h1 h2 in
/-- The gate's forward result. -/
theorem final3 (i : S16384x1024.Idx) : (dat0 V c).arrAt 3 cfg0.N i = GateRefIdeal.Read.val_main_v36 (F := Ideal) H Y W i := by
  refine congrFun ((dat0 V c).arrAt_eq_of_covers 3 _ (by decide +kernel) fun p _ i => ?_) i
  blk_simp
  rw [after0_3]
  frame_out
  obtain ⟨r, k, rfl⟩ : ∃ (r : Fin 512) (k : Fin 1024), i = ix2 r k := two i
  refine Eq.trans (b := GateRefIdeal.Read.val_main_v36 (F := Ideal) H Y W (ix2 (row p.val (lt0 p) r) k)) ?_ ?_
  · rw [GateRefIdeal.Final.v36_at H Y W y w hy hw]
    pointwise [k0_pay2]
    rw [z_at _ _ _ _ (b01 V c Y y hy h1 p) (b02 V c W w hw h2 p), z_at _ _ _ _ (b01 V c Y y hy h1 p) (b02 V c W w hw h2 p), Ideal.logistic_coe, ← EReal.coe_mul, b00 V c H h0]
    rfl
  · generalize GateRefIdeal.Read.val_main_v36 (F := Ideal) H Y W = G
    blk_ext [idx0 p, row]

include hy hw h1 h2 in
/-- The product the forward call saves. -/
theorem final4 (r : Fin 16384) (j : Fin 2048) : (dat0 V c).arrAt 4 cfg0.N (ix2 r j) = (z y w r j : EReal) := by
  refine congrFun ((dat0 V c).arrAt_eq_of_covers 4 (saved y w) (by decide +kernel) fun p _ i => ?_) (ix2 r j)
  blk_simp
  rw [after0_4]
  frame_out
  obtain ⟨r, k, rfl⟩ : ∃ (r : Fin 512) (k : Fin 2048), i = ix2 r k := two i
  refine Eq.trans (b := (saved y w) (ix2 (row p.val (lt0 p) r) k)) ?_ ?_
  · pointwise [k0_pay3]
    rw [z_at _ _ _ _ (b01 V c Y y hy h1 p) (b02 V c W w hw h2 p)]
    rfl
  · generalize (saved y w) = G
    blk_ext [idx0 p, row]
end

section
variable (h0 : V c main_arg3 = T) (h1 : V c main_arg1 = Y) (h2 : ∀ r j, V c main_v1_1 (ix2 r j) = (z y w r j : EReal)) (h3 : ∀ j k, V c main_v2 (ix2 j k) = W (ix2 k j))
include h0 hd in
theorem b10 (p : Fin cfg1.N) (r : Fin 512) (k : Fin 1024) : (iblk1 V c 0 p : FVec Ideal S512x1024 .f32) (ix2 r k) = (d (row p.val (lt1 p) r) k : EReal) := by
  rw [← hd, ← h0]; blk_ext [iblk1, idx1 p, row]
include h1 hy in
theorem b11 (p : Fin cfg1.N) (r : Fin 512) (k : Fin 1024) : (iblk1 V c 1 p : FVec Ideal S512x1024 .f32) (ix2 r k) = (y (row p.val (lt1 p) r) k : EReal) := by
  rw [← hy, ← h1]; blk_ext [iblk1, idx1 p, row]
include h2 in
theorem b12 (p : Fin cfg1.N) (r : Fin 512) (j : Fin 2048) : (iblk1 V c 2 p : FVec Ideal S512x2048 .bf16) (ix2 r j) = (z y w (row p.val (lt1 p) r) j : EReal) := by
  rw [← h2]; blk_ext [iblk1, idx1 p, row]
include h3 hw in
theorem b13 (p : Fin cfg1.N) (j : Fin 2048) (k : Fin 1024) : (iblk1 V c 3 p : FVec Ideal S2048x1024 .bf16) (ix2 j k) = (w k j : EReal) := by
  rw [← hw, ← h3]; blk_ext [iblk1, idx1 p, row]

include hd h0 h2 in
/-- A block of the gradient with respect to the product. -/
theorem bdz (p : Fin cfg1.N) (r : Fin 512) (j : Fin 2048) : k1_pay1 (F := Ideal) (iblk1 V c 0 p) (k1_pay9 (iblk1 V c 2 p)) (k1_pay10 (iblk1 V c 2 p)) (ix2 r j)
    = (dz y d w (row p.val (lt1 p) r) j : EReal) :=
  dz_at _ _ _ _ (b10 V c T d hd h0 p) (b12 V c y w h2 p) r j

include hy hw hd h0 h1 h2 h3 in
/-- The gradient of the gate's argument. -/
theorem final1_4 (i : S16384x1024.Idx) : (dat1 V c).arrAt 4 cfg1.N i = GateRefIdeal.Read.val_main_v57 (F := Ideal) Y W T i := by
  refine congrFun ((dat1 V c).arrAt_eq_of_covers 4 _ (by decide +kernel) fun p _ i => ?_) i
  blk_simp
  rw [after1_4]
  have key : (outsAt1 V c p.val p.isLt).1 = k1_pay2 (F := Ideal) (iblk1 V c 0 p) (k1_pay5 (iblk1 V c 3 p)) (k1_pay8 (iblk1 V c 1 p)) (k1_pay9 (iblk1 V c 2 p)) (k1_pay10 (iblk1 V c 2 p)) := by
    rcases Nat.eq_zero_or_pos (p.val % 32) with h | h
    · rw [outsAt1_A V c p h]; frame_out
    · rw [outsAt1_B V c p h.ne']; frame_out
  rw [key]
  obtain ⟨r, k, rfl⟩ : ∃ (r : Fin 512) (k : Fin 1024), i = ix2 r k := two i
  refine Eq.trans (b := GateRefIdeal.Read.val_main_v57 (F := Ideal) Y W T (ix2 (row p.val (lt1 p) r) k)) ?_ ?_
  · rw [GateRefIdeal.Final.v57_at Y T W y d w hy hw hd]
    pointwise [k1_pay2, k1_pay5]
    rw [dact_at _ _ (b11 V c Y y hy h1 p)]
    simp only [bdz V c T y d w hd h0 h2, b13 V c W w hw h3, ← EReal.coe_mul]
    rw [sum_coe, ← EReal.coe_mul]
    rfl
  · generalize GateRefIdeal.Read.val_main_v57 (F := Ideal) Y W T = G
    blk_ext [idx1 p, row]

include hy hd h0 h1 h2 in
/-- What one block adds to the weights' gradient. -/
theorem part (p : Fin cfg1.N) (u : FVec Ideal S1024x2048 .f32) (k : Fin 1024) (j : Fin 2048) :
    k1_pay4 (F := Ideal) (iblk1 V c 0 p) (k1_pay7 (iblk1 V c 1 p)) (k1_pay9 (iblk1 V c 2 p)) (k1_pay10 (iblk1 V c 2 p)) u (ix2 k j)
      = u (ix2 k j) + ∑ r : Fin 512, ((act (y (row p.val (lt1 p) r) k) * dz y d w (row p.val (lt1 p) r) j : ℝ) : EReal) := by
  pointwise [k1_pay4]
  simp only [act_at _ _ (b11 V c Y y hy h1 p), bdz V c T y d w hd h0 h2, ← EReal.coe_mul]

include hy hw hd h0 h1 h2 in
/-- The gradient of the weights. -/
theorem final1_5 (i : S1024x2048.Idx) : (dat1 V c).arrAt 5 cfg1.N i = GateRefIdeal.Read.val_main_v42 (F := Ideal) Y W T i := by
  refine congrFun ((dat1 V c).arrAt_eq_of_after_last 5 t1_31 (by decide +kernel) _ fun i => ?_) i
  blk_simp
  rw [after1_5, Pipeline.eq_sum_fin_of_reset_step_apply_last (fun n h => (outsAt1 V c n h).2) 32 (fun _ => 0)
    (fun p (i : S1024x2048.Idx) => ∑ r : Fin 512, ((act (y (row p.val (lt1 p) r) (i 0)) * dz y d w (row p.val (lt1 p) r) (i 1) : ℝ) : EReal))
    (fun t h i => by obtain ⟨k, j, rfl⟩ : ∃ (k : Fin 1024) (j : Fin 2048), i = ix2 k j := two i; rw [outsAt1_A V c t h]; frame_out; exact (part V c Y T y d w hy hd h0 h1 h2 t _ k j).trans (by pointwise [k1_pay3]))
    (fun t h i => by obtain ⟨k, j, rfl⟩ : ∃ (k : Fin 1024) (j : Fin 2048), i = ix2 k j := two i; rw [outsAt1_B V c t h]; frame_out; exact part V c Y T y d w hy hd h0 h1 h2 t _ k j) (le_of_eq N_1) t1_31 last_31 _, zero_add]
  obtain ⟨k, j, rfl⟩ : ∃ (k : Fin 1024) (j : Fin 2048), i = ix2 k j := two i
  refine Eq.trans (sum_rows fun q => ((act (y q k) * dz y d w q j : ℝ) : EReal)) ?_
  rw [sum_coe]
  exact (GateRefIdeal.Final.v42_at Y T W y d w hy hw hd k j).symm
end

end Cert.GateIdeal.Final

end
-- ==== Proof.GateRun.lean ====
/- The whole run of the gate's two calls: what every array ends holding. -/
module

public import proofs.«01_k».proof.Proof.Gen.GateIdeal.Frame
public import proofs.«01_k».proof.Proof.GateValue
public import proofs.«01_k».proof.Proof.Gen.Pre_gate_finite
public import Idealize.ShloMosaic.Lib.StableHlo.ReadAt

@[expose] public section

set_option maxRecDepth 16384

noncomputable section

namespace Cert.GateIdeal.Run

open GateIdeal GateIdeal.Gen
open Idealize.ShloMosaic TcCoe Tactic
open Idealize.SL RA BI
open scoped Idealize.SL.BI
open Idealize.ShloMosaic.Rounds
open Idealize.SL.BI.BIBase Idealize.SL.BI.Laws Idealize.SL.ProofMode Idealize.SL.Sem

section
variable {F : FTy → Type} [FloatOps F] [Named F]
variable (m : (ℓ : Loc nD τ sig) → Buf (Elt F) ℓ) (ρ : Dev nD → PrngReg)

-- the launch lemma's implicit arguments are found by unifying its conclusion, which takes unfolding plain definitions
-- in a metavariable's type
set_option backward.isDefEq.respectTransparency.types false in
/-- Every array of the machine ends at its contents after the last region. -/
theorem contents : θ_run defs (onTc (τ := τ) (main (F := F))) ⟨m, fun _ => 0, ρ⟩ fun r =>
    ∀ c : Dev nD, ∀ b ∈ Pipeline.ucRefs τ sig, r.2.mem ((c : Thread nD τ).1, b) = W4 m ρ c b := by
  refine Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (hu₀ := ?_)
    (T₀ := fun c => iprop(StableHlo.held c.tc (Pipeline.ucRefs τ sig) (W0 m ρ c) ∗ R c)) (Tₙ := Tₙ m ρ)
    (hch := ⟨fun _ => .rfl, fun _ => .rfl, fun _ => .rfl, fun _ => .rfl, fun _ => .rfl⟩) (hinit := ?_)
    (QY := fun c s => ∀ b ∈ Pipeline.ucRefs τ sig, s.mem ((c : Thread nD τ).1, b) = W4 m ρ c b) (hfin := ?_) (hQ := fun s h _ => h)
  · iintro Hu; imodintro
    isplitl [Hu]
    · iapply (show (ownU (initOf (Pipeline.cells cfgs cellOf_inj) (Pipeline.launchToks cfgs cellOf_inj)) : sProp (MT nD τ sig Unit (Elt F) ℕ (UR sig nD τ) ℕ))
          ⊢ BI.own (emb₁ (initOf (Pipeline.cells cfgs cellOf_inj) (Pipeline.launchToks cfgs cellOf_inj))) from .rfl)
      iexact Hu
    iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
    iempintro
  · refine Pipeline.initEach L lv fun c => ?_
    rw [show unscopedBufs c (fun b => m (c.tc.loc b)) = StableHlo.held c.tc (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  · intro c s'
    iintro ⟨⟨Hh, -⟩, HSI⟩
    unfold StableHlo.held
    imodintro
    iapply (pointsTo_read_all (Pipeline.ucRefs τ sig) (fun b => ((c : Thread nD τ).1, b)) (W4 m ρ c) s')
    isplitl [Hh] <;> iassumption

end

variable (m : (ℓ : Loc nD τ sig) → Buf (Elt Ideal) ℓ) (ρ : Dev nD → PrngReg) (c : Dev nD)

/-- Before the forward call the weights are as launched. -/
theorem early0 : V1 m ρ c main_v0 = m (c.tc.loc main_arg2) := by
  unfold V1 W1 hostOps0; after_reads_simp; rfl

/-- Before the backward call the weights are transposed. -/
theorem late2 (j : Fin 2048) (k : Fin 1024) : V3 m ρ c main_v2 (ValueIdx.ix2 j k) = m (c.tc.loc main_arg2) (ValueIdx.ix2 k j) := by
  have e : V3 m ρ c main_v2 = transpose S2048x1024 [1, 0] (W2 m ρ c (Proc.devRef .tc main_v0)) transposes_S1024x2048_S2048x1024_1_0 := by
    unfold V3 W3 hostOps1; after_reads_simp
  rw [e, W2_of m ρ c main_v0 (by decide), show W1 m ρ c (Proc.devRef .tc main_v0) = _ from early0 m ρ c]
  pointwise
  rfl

/-- And the product the forward call saved is still there. -/
theorem late1 : V3 m ρ c main_v1_1 = (dat0 (V1 m ρ) c).arrAt 4 cfg0.N :=
  (W3_of m ρ c main_v1_1 (by decide)).trans (W2_arr m ρ c 4)

open GateRefIdeal.Read (val_main_v36 val_main_v57 val_main_v42)

/-- The precondition makes the three arguments that need it arrays of real numbers. -/
theorem real_args (x0 x1 x3 : FVec Ideal S16384x1024 .f32) (x2 : FVec Ideal S1024x2048 .f32)
    (h : @Pre_gate_finite.fn Pre_gate_finite.Gen.facts Ideal _ x0 x1 x2 x3 = fun _ => 1#1) :
    ∃ (y d : Fin 16384 → Fin 1024 → ℝ) (w : Fin 1024 → Fin 2048 → ℝ), (∀ r k, x1 (ValueIdx.ix2 r k) = (y r k : EReal)) ∧ (∀ r k, x3 (ValueIdx.ix2 r k) = (d r k : EReal))
      ∧ (∀ k j, x2 (ValueIdx.ix2 k j) = (w k j : EReal)) := by
  have h0 := congrFun h ValueIdx.ix0
  simp only [Pre_gate_finite.fn, andi, IntOp.andi_eq_one] at h0
  obtain ⟨⟨a, b⟩, e⟩ := h0
  obtain ⟨Y, rfl⟩ := Ereal.real_of_all x1 _ (fun i => by pointwise) _ _ _ _ a
  obtain ⟨W, rfl⟩ := Ereal.real_of_all x2 _ (fun i => by pointwise) _ _ _ _ b
  obtain ⟨D, rfl⟩ := Ereal.real_of_all x3 _ (fun i => by pointwise) _ _ _ _ e
  exact ⟨fun r k => Y (ValueIdx.ix2 r k), fun r k => D (ValueIdx.ix2 r k), fun k j => W (ValueIdx.ix2 k j), fun _ _ => rfl, fun _ _ => rfl, fun _ _ => rfl⟩

/-- The kernel's run: its three results at the reference's terms, and the arguments as launched. -/
theorem results (hreal : ∀ c : Dev nD, ∃ (y d : Fin 16384 → Fin 1024 → ℝ) (w : Fin 1024 → Fin 2048 → ℝ), (∀ r k, m (c.tc.loc main_arg1) (ValueIdx.ix2 r k) = (y r k : EReal))
      ∧ (∀ r k, m (c.tc.loc main_arg3) (ValueIdx.ix2 r k) = (d r k : EReal)) ∧ (∀ k j, m (c.tc.loc main_arg2) (ValueIdx.ix2 k j) = (w k j : EReal))) :
    θ_run defs (onTc (τ := τ) (main (F := Ideal))) ⟨m, fun _ => 0, ρ⟩ fun r => ∀ c : Dev nD,
    r.2.mem (c.tc.loc main_v1_0) = val_main_v36 (F := Ideal) (m (c.tc.loc main_arg0)) (m (c.tc.loc main_arg1)) (m (c.tc.loc main_arg2))
    ∧ r.2.mem (c.tc.loc main_v3_0) = val_main_v57 (F := Ideal) (m (c.tc.loc main_arg1)) (m (c.tc.loc main_arg2)) (m (c.tc.loc main_arg3))
    ∧ r.2.mem (c.tc.loc main_v3_1) = val_main_v42 (F := Ideal) (m (c.tc.loc main_arg1)) (m (c.tc.loc main_arg2)) (m (c.tc.loc main_arg3))
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3) := by
  refine (θ_run defs _ _).mono (fun r h c => ?_) (contents m ρ)
  obtain ⟨y, d, w, hy, hd, hw⟩ := hreal c
  have hz : ∀ r j, V3 m ρ c main_v1_1 (ValueIdx.ix2 r j) = (Gate.Math.z y w r j : EReal) := fun r j => by
    rw [late1 m ρ c]; exact Final.final4 (V1 m ρ) c _ _ y w hy hw (W1_args m ρ c main_arg1 (by decide)) (early0 m ρ c) r j
  exact ⟨(h c _ (mem_uc main_v1_0 (by decide))).trans ((W4_of m ρ c main_v1_0 (by decide)).trans ((W3_of m ρ c main_v1_0 (by decide)).trans ((W2_arr m ρ c 3).trans
        (funext fun i => Final.final3 (V1 m ρ) c _ _ _ y w hy hw (W1_args m ρ c main_arg0 (by decide)) (W1_args m ρ c main_arg1 (by decide)) (early0 m ρ c) i)))),
      (h c _ (mem_uc main_v3_0 (by decide))).trans ((W4_arr m ρ c 4).trans
        (funext fun i => Final.final1_4 (V3 m ρ) c _ _ _ y d w hy hw hd (W3_args m ρ c main_arg3 (by decide)) (W3_args m ρ c main_arg1 (by decide)) hz (late2 m ρ c) i)),
      (h c _ (mem_uc main_v3_1 (by decide))).trans ((W4_arr m ρ c 5).trans
        (funext fun i => Final.final1_5 (V3 m ρ) c _ _ _ y d w hy hw hd (W3_args m ρ c main_arg3 (by decide)) (W3_args m ρ c main_arg1 (by decide)) hz i)),
      (h c _ (mem_uc main_arg0 (by decide))).trans (W4_main_arg0 m ρ c), (h c _ (mem_uc main_arg1 (by decide))).trans (W4_main_arg1 m ρ c),
      (h c _ (mem_uc main_arg2 (by decide))).trans (W4_main_arg2 m ρ c), (h c _ (mem_uc main_arg3 (by decide))).trans (W4_main_arg3 m ρ c)⟩

end Cert.GateIdeal.Run

end
-- ==== Proof.GateClaim.lean ====
/- The claims about the gate of the scan's output. -/
module

public import proofs.«01_k».proof.Defs
public import proofs.«01_k».proof.Proof.Gen.GateIdeal.Frame
public import proofs.«01_k».proof.Proof.Gen.GateRefIdeal.Run
public import proofs.«01_k».proof.Proof.Gen.GateRefIdeal.Read
public import proofs.«01_k».proof.Proof.GateRun
public import Idealize.ShloMosaic.Lib.Claim

@[expose] public section

set_option maxRecDepth 16384

noncomputable section

namespace Cert.Proof

open Idealize.ShloMosaic Idealize.SL.Sem

/-- The gate reference's frame. -/
theorem gate_ref : Cert.quiescent_GateRefIdeal (hGateRefIdeal := GateRefIdeal.Gen.facts) := by
  intro m g _
  exact (θ_run GateRefIdeal.defs _ _).mono (fun r h => ⟨fun c => (h c).2.2.2, sem_eq_zero_of_no_sems (by decide) r.2⟩) (GateRefIdeal.Value.run m g)

/-- The constants the kernel rounds are 0.044715 and three times it. -/
theorem gate_preserves : Cert.preserves_Gate_GateIdeal :=
  ⟨IdealRules.named_const.statement GateIdeal.κ "gelu" .f32 0x3D372713#32 ((8943 / 200000 : ℝ) : EReal) rfl,
    IdealRules.named_const.statement GateIdeal.κ "gelu3" .f32 0x3E095D4F#32 ((26829 / 200000 : ℝ) : EReal) rfl⟩

/-- The two calls compute the reference's three results, where the gate's argument, its weights and the cotangent are finite. -/
theorem gate_value : Cert.algebraic_GateIdeal_GateRefIdeal_pre_gate_finite (hGateIdeal := GateIdeal.Gen.facts) (hGateRefIdeal := GateRefIdeal.Gen.facts)
    (hPre_gate_finite := Pre_gate_finite.Gen.facts) := by
  intro m g m' g' hpre hagree
  refine ⟨_, _, _, GateIdeal.Run.results m g (fun c => GateIdeal.Run.real_args _ _ _ _ (hpre c)), (θ_run GateRefIdeal.defs _ _).mono (fun r h c => ?_) (GateRefIdeal.Value.run m' g')⟩
  obtain ⟨hv36, hv57, hv42, ha⟩ := h c
  replace hv36 := hv36.trans (GateRefIdeal.Read.val_main_v36_eq _ _ _)
  replace hv57 := hv57.trans (GateRefIdeal.Read.val_main_v57_eq m' c)
  replace hv42 := hv42.trans (GateRefIdeal.Read.val_main_v42_eq m' c)
  obtain ⟨e0, e1, e2, e3⟩ := hagree c
  rw [e0, e1, e2] at hv36
  rw [e1, e2, e3] at hv57
  rw [e1, e2, e3] at hv42
  exact ⟨hv36, hv57, hv42, ha⟩

end Cert.Proof

end
-- ==== Proof.ProjValue.lean ====
/- What the output projection's two calls leave in their arrays, for any entry contents. -/
module

public import proofs.«01_k».proof.Proof.Gen.ProjIdeal.Frame
public import proofs.«01_k».proof.Proof.Gen.ProjRefIdeal.Read
public import Idealize.ShloMosaic.Lib.Pipeline.ValueKit

@[expose] public section

set_option maxRecDepth 16384

noncomputable section

namespace Cert.ProjIdeal.Final

open ProjIdeal ProjIdeal.Gen Idealize.ShloMosaic TcCoe Idealize.SL.Sem
open ProjRefIdeal.Read (val_main_v0 val_main_v1 val_main_v2 val_main_v3 val_main_v4 val_main_v5 val_main_v6 val_main_v7 val_main_v8 val_main_v9 val_main_v10 val_main_v11 val_main_cst)
open Idealize.ShloMosaic.Pipeline (Dat)

variable (V : (c : Dev nD) → (b : Ref sig .tc) → Buf (Elt Ideal) ((c : Thread nD τ).loc b)) (c : Dev nD)
variable (X O T : FVec Ideal S16384x1024 .f32) (W : FVec Ideal S1024x1024 .f32)

theorem idx0 : ∀ p : Fin cfg0.N, win0_0.index p = ![p.val, 0] ∧ win0_1.index p = ![p.val, 0] ∧ win0_2.index p = ![0, 0] ∧ win0_3.index p = ![p.val, 0] :=
  (by decide +kernel : ∀ p : Fin grid0.N, _)

theorem idx1 : ∀ p : Fin cfg1.N, win1_0.index p = ![p.val, 0] ∧ win1_1.index p = ![p.val, 0] ∧ win1_2.index p = ![0, 0] ∧ win1_3.index p = ![p.val, 0]
    ∧ win1_4.index p = ![p.val, 0] ∧ win1_5.index p = ![0, 0] :=
  (by decide +kernel : ∀ p : Fin grid1.N, _)

/-- The row of the arrays that row `r` of block `p` is. -/
def row (p : ℕ) (h : p < 16) (r : Fin 1024) : Fin 16384 := ⟨p * 1024 + r.val, by have := r.isLt; omega⟩

theorem two (y : S1024x1024.Idx) : ∃ (r : Fin 1024) (k : Fin 1024), y = ix2 r k :=
  ⟨y 0, y 1, by funext a; match a with | ⟨0, _⟩ => rfl | ⟨1, _⟩ => rfl⟩

/-- Summing over the blocks and a block's rows is summing over the rows. -/
theorem sum_rows (f : Fin 16384 → EReal) : ∑ p : Fin cfg1.N, ∑ r : Fin 1024, f (row p.val (lt_of_lt_of_eq p.isLt N_1) r) = ∑ q, f q :=
  Fin.sum_mul_add_congr fun p r hl => rfl

/-- Choosing a head's sum by where its lanes lie is taking the sum over the lanes of the column's own head. -/
theorem heads (G : Fin 1024 → EReal) (k : ℕ) (hk : k < 1024) :
    (if h : k < 128 then ∑ x : Fin 128, G ⟨x.val, by omega⟩ else
      if h : k - 128 < 128 then ∑ x : Fin 128, G ⟨128 + x.val, by omega⟩ else
      if h : k - 128 - 128 < 128 then ∑ x : Fin 128, G ⟨256 + x.val, by omega⟩ else
      if h : k - 128 - 128 - 128 < 128 then ∑ x : Fin 128, G ⟨384 + x.val, by omega⟩ else
      if h : k - 128 - 128 - 128 - 128 < 128 then ∑ x : Fin 128, G ⟨512 + x.val, by omega⟩ else
      if h : k - 128 - 128 - 128 - 128 - 128 < 128 then ∑ x : Fin 128, G ⟨640 + x.val, by omega⟩ else
      if h : k - 128 - 128 - 128 - 128 - 128 - 128 < 128 then ∑ x : Fin 128, G ⟨768 + x.val, by omega⟩ else
      ∑ x : Fin 128, G ⟨896 + x.val, by omega⟩)
      = ∑ x : Fin 128, G ⟨k / 128 * 128 + x.val, by omega⟩ := by
  split_ifs <;> exact Finset.sum_congr rfl fun x _ => congrArg G (Fin.ext (by simp only; omega))

theorem lt0 (p : Fin cfg0.N) : p.val < 16 := lt_of_lt_of_eq p.isLt N_0
theorem lt1 (p : Fin cfg1.N) : p.val < 16 := lt_of_lt_of_eq p.isLt N_1

section
variable (h0 : V c main_arg0 = X) (h1 : V c main_v0 = (O : S16384x1024.Idx → EReal)) (h2 : V c main_v1 = (W : S1024x1024.Idx → EReal))
include h0 in
theorem b00 (p : Fin cfg0.N) (r k : Fin 1024) : (iblk0 V c 0 p : FVec Ideal S1024x1024 .f32) (ix2 r k) = X (ix2 (row p.val (lt0 p) r) k) := by
  rw [← h0]; blk_ext [iblk0, idx0 p, row]
include h1 in
theorem b01 (p : Fin cfg0.N) (r k : Fin 1024) : (iblk0 V c 1 p : FVec Ideal S1024x1024 .bf16) (ix2 r k) = O (ix2 (row p.val (lt0 p) r) k) := by
  rw [← h1]; blk_ext [iblk0, idx0 p, row]
include h2 in
theorem b02 (p : Fin cfg0.N) (r k : Fin 1024) : (iblk0 V c 2 p : FVec Ideal S1024x1024 .bf16) (ix2 r k) = W (ix2 r k) := by
  rw [← h2]; blk_ext [iblk0, idx0 p, row]

include h0 h1 h2 in
/-- The projection's forward call. -/
theorem final0 (y : S16384x1024.Idx) : (dat0 V c).arrAt 3 cfg0.N y = val_main_v1 (F := Ideal) X O W y := by
  refine congrFun ((dat0 V c).arrAt_eq_of_covers 3 _ (by decide +kernel) fun p _ y => ?_) y
  blk_simp
  rw [after0_3]
  frame_out
  obtain ⟨r, k, rfl⟩ := two y
  refine Eq.trans (b := val_main_v1 (F := Ideal) X O W (ix2 (row p.val (lt0 p) r) k)) ?_ ?_
  · pointwise [k0_pay1, val_main_v1, val_main_v0]
    simp only [b00 V c X h0, b01 V c O h1, b02 V c W h2]
  · blk_ext [idx0 p, row]
end

section
variable (h0 : V c main_arg3 = T) (h1 : V c main_v0 = (O : S16384x1024.Idx → EReal)) (h2 : ∀ r k, V c main_v3 (ix2 r k) = W (ix2 k r))
include h0 in
theorem b10 (p : Fin cfg1.N) (r k : Fin 1024) : (iblk1 V c 0 p : FVec Ideal S1024x1024 .f32) (ix2 r k) = T (ix2 (row p.val (lt1 p) r) k) := by
  rw [← h0]; blk_ext [iblk1, idx1 p, row]
include h1 in
theorem b11 (p : Fin cfg1.N) (r k : Fin 1024) : (iblk1 V c 1 p : FVec Ideal S1024x1024 .bf16) (ix2 r k) = O (ix2 (row p.val (lt1 p) r) k) := by
  rw [← h1]; blk_ext [iblk1, idx1 p, row]
include h2 in
theorem b12 (p : Fin cfg1.N) (r k : Fin 1024) : (iblk1 V c 2 p : FVec Ideal S1024x1024 .bf16) (ix2 r k) = W (ix2 k r) := by
  rw [← h2]; blk_ext [iblk1, idx1 p, row]

include h0 h2 in
theorem pay6_at (p : Fin cfg1.N) (r k : Fin 1024) : k1_pay6 (F := Ideal) (iblk1 V c 0 p) (iblk1 V c 2 p) (ix2 r k)
    = val_main_v4 (F := Ideal) W T (ix2 (row p.val (lt1 p) r) k) := by
  pointwise [k1_pay6, val_main_v4]
  simp only [b10 V c T h0, b12 V c W h2]

include h0 h2 in
/-- The gradient of the attention's output. -/
theorem final3 (y : S16384x1024.Idx) : (dat1 V c).arrAt 3 cfg1.N y = val_main_v9 (F := Ideal) W T y := by
  refine congrFun ((dat1 V c).arrAt_eq_of_covers 3 _ (by decide +kernel) fun p _ y => ?_) y
  blk_simp
  rw [after1_3]
  have key : (outsAt1 V c p.val p.isLt).1 = k1_pay3 (k1_pay6 (F := Ideal) (iblk1 V c 0 p) (iblk1 V c 2 p)) := by
    rcases Nat.eq_zero_or_pos (p.val % 16) with h | h
    · rw [outsAt1_A V c p h]; frame_out
    · rw [outsAt1_B V c p h.ne']; frame_out
  rw [key]
  obtain ⟨r, k, rfl⟩ := two y
  refine Eq.trans (b := val_main_v9 (F := Ideal) W T (ix2 (row p.val (lt1 p) r) k)) ?_ ?_
  · pointwise [k1_pay3, val_main_v9]
    exact pay6_at V c T W h0 h2 p r k
  · blk_ext [idx1 p, row]

include h0 h1 h2 in
/-- The row sums of the output times its gradient, one per row and head, over the head's lanes. -/
theorem final4 (y : S16384x1024.Idx) : (dat1 V c).arrAt 4 cfg1.N y = val_main_v11 (F := Ideal) O W T y := by
  refine congrFun ((dat1 V c).arrAt_eq_of_covers 4 _ (by decide +kernel) fun p _ y => ?_) y
  blk_simp
  rw [after1_4]
  have key : (outsAt1 V c p.val p.isLt).2.1 = k1_pay1 (F := Ideal) (k1_pay6 (iblk1 V c 0 p) (iblk1 V c 2 p)) (k1_pay7 (iblk1 V c 1 p))
      (k1_pay8 (iblk1 V c 0 p) (iblk1 V c 1 p) (iblk1 V c 2 p)) (k1_pay9 (iblk1 V c 0 p) (iblk1 V c 1 p) (iblk1 V c 2 p))
      (k1_pay10 (iblk1 V c 0 p) (iblk1 V c 1 p) (iblk1 V c 2 p)) (k1_pay11 (iblk1 V c 0 p) (iblk1 V c 1 p) (iblk1 V c 2 p))
      (k1_pay12 (iblk1 V c 0 p) (iblk1 V c 1 p) (iblk1 V c 2 p)) (k1_pay13 (iblk1 V c 0 p) (iblk1 V c 1 p) (iblk1 V c 2 p)) := by
    rcases Nat.eq_zero_or_pos (p.val % 16) with h | h
    · rw [outsAt1_A V c p h]; frame_out
    · rw [outsAt1_B V c p h.ne']; frame_out
  rw [key]
  obtain ⟨r, k, rfl⟩ := two y
  refine Eq.trans (b := val_main_v11 (F := Ideal) O W T (ix2 (row p.val (lt1 p) r) k)) ?_ ?_
  · pointwise [k1_pay1, k1_pay8, k1_pay9, k1_pay10, k1_pay11, k1_pay12, k1_pay13, k1_pay7, k1_pay5, val_main_v11, val_main_v10, val_main_v8, val_main_v7, val_main_v6, val_main_v5, val_main_cst]
    simp only [pay6_at V c T W h0 h2, b11 V c O h1]
    exact heads (fun l => (val_main_v4 (F := Ideal) W T (ix2 (row p.val (lt1 p) r) l) : EReal) * O (ix2 (row p.val (lt1 p) r) l)) k.val k.isLt
  · generalize val_main_v11 (F := Ideal) O W T = G
    blk_ext [idx1 p, row]

include h0 h1 in
/-- The gradient of the projection. -/
theorem final5 (y : S1024x1024.Idx) : (dat1 V c).arrAt 5 cfg1.N y = val_main_v3 (F := Ideal) O T y := by
  refine congrFun ((dat1 V c).arrAt_eq_of_after_last 5 t1_15 (by decide +kernel) _ fun y => ?_) y
  blk_simp
  rw [after1_5, Pipeline.eq_sum_fin_of_reset_step_apply_last (fun n h => (outsAt1 V c n h).2.2) 16 (fun _ => 0)
    (fun p (j : S1024x1024.Idx) => ∑ r : Fin 1024, O (ix2 (row p.val (lt1 p) r) (j 0)) * T (ix2 (row p.val (lt1 p) r) (j 1)))
    (fun t h j => by obtain ⟨r, k, rfl⟩ := two j; rw [outsAt1_A V c t h]; frame_out; pointwise [k1_pay4, k1_pay2, k1_pay5]; simp only [b10 V c T h0, b11 V c O h1])
    (fun t h j => by obtain ⟨r, k, rfl⟩ := two j; rw [outsAt1_B V c t h]; frame_out; pointwise [k1_pay4, k1_pay5]; simp only [b10 V c T h0, b11 V c O h1]) (le_of_eq N_1) t1_15 rfl _, zero_add]
  obtain ⟨r, k, rfl⟩ := two y
  refine Eq.trans (sum_rows fun q => O (ix2 q r) * T (ix2 q k)) ?_
  pointwise [val_main_v3, val_main_v2]
  have e : ∑ q : Fin 16384, (O (ix2 q r) : EReal) * T (ix2 q k) = ∑ q : Fin 16384, (T (ix2 q k) : EReal) * O (ix2 q r) :=
    Finset.sum_congr rfl fun q _ => mul_comm _ _
  exact e
end

end Cert.ProjIdeal.Final

end
-- ==== Proof.ProjRun.lean ====
/- The whole run of the projection's two calls: what every array ends holding. -/
module

public import proofs.«01_k».proof.Proof.Gen.ProjIdeal.Frame
public import proofs.«01_k».proof.Proof.ProjValue
public import Idealize.ShloMosaic.Lib.StableHlo.ReadAt

@[expose] public section

set_option maxRecDepth 16384

noncomputable section

namespace Cert.ProjIdeal.Run

open ProjIdeal ProjIdeal.Gen
open Idealize.ShloMosaic TcCoe Tactic
open Idealize.SL RA BI
open scoped Idealize.SL.BI
open Idealize.ShloMosaic.Rounds
open Idealize.SL.BI.BIBase Idealize.SL.BI.Laws Idealize.SL.ProofMode Idealize.SL.Sem

section
variable {F : FTy → Type} [FloatOps F]
variable (m : (ℓ : Loc nD τ sig) → Buf (Elt F) ℓ) (ρ : Dev nD → PrngReg)

-- the launch lemma's implicit arguments are found by unifying its conclusion, which takes unfolding plain definitions
-- in a metavariable's type
set_option backward.isDefEq.respectTransparency.types false in
/-- Every array of the machine ends at its contents after the last region. -/
theorem contents : θ_run defs (onTc (τ := τ) (main (F := F))) ⟨m, fun _ => 0, ρ⟩ fun r =>
    ∀ c : Dev nD, ∀ b ∈ Pipeline.ucRefs τ sig, r.2.mem ((c : Thread nD τ).1, b) = W4 m ρ c b := by
  refine Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (hu₀ := ?_)
    (T₀ := fun c => iprop(StableHlo.held c.tc (Pipeline.ucRefs τ sig) (W0 m ρ c) ∗ R c)) (Tₙ := Tₙ m ρ)
    (hch := ⟨fun _ => .rfl, fun _ => .rfl, fun _ => .rfl, fun _ => .rfl, fun _ => .rfl⟩) (hinit := ?_)
    (QY := fun c s => ∀ b ∈ Pipeline.ucRefs τ sig, s.mem ((c : Thread nD τ).1, b) = W4 m ρ c b) (hfin := ?_) (hQ := fun s h _ => h)
  · iintro Hu; imodintro
    isplitl [Hu]
    · iapply (show (ownU (initOf (Pipeline.cells cfgs cellOf_inj) (Pipeline.launchToks cfgs cellOf_inj)) : sProp (MT nD τ sig Unit (Elt F) ℕ (UR sig nD τ) ℕ))
          ⊢ BI.own (emb₁ (initOf (Pipeline.cells cfgs cellOf_inj) (Pipeline.launchToks cfgs cellOf_inj))) from .rfl)
      iexact Hu
    iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
    iempintro
  · refine Pipeline.initEach L lv fun c => ?_
    rw [show unscopedBufs c (fun b => m (c.tc.loc b)) = StableHlo.held c.tc (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  · intro c s'
    iintro ⟨⟨Hh, -⟩, HSI⟩
    unfold StableHlo.held
    imodintro
    iapply (pointsTo_read_all (Pipeline.ucRefs τ sig) (fun b => ((c : Thread nD τ).1, b)) (W4 m ρ c) s')
    isplitl [Hh] <;> iassumption

end

variable (m : (ℓ : Loc nD τ sig) → Buf (Elt Ideal) ℓ) (ρ : Dev nD → PrngReg) (c : Dev nD)

/-- Before the forward call the attention output is as launched. -/
theorem early0 : V1 m ρ c main_v0 = m (c.tc.loc main_arg1) := by
  unfold V1 W1 hostOps0; after_reads_simp; rfl

/-- And so is the projection. -/
theorem early1 : V1 m ρ c main_v1 = m (c.tc.loc main_arg2) := by
  unfold V1 W1 hostOps0; after_reads_simp; rfl

/-- Before the backward call the projection is transposed. -/
theorem late3 (r k : Fin 1024) : V3 m ρ c main_v3 (ValueIdx.ix2 r k) = m (c.tc.loc main_arg2) (ValueIdx.ix2 k r) := by
  have e : V3 m ρ c main_v3 = transpose S1024x1024 [1, 0] (W2 m ρ c (Proc.devRef .tc main_v1)) transposes_S1024x1024_S1024x1024_1_0 := by
    unfold V3 W3 hostOps1; after_reads_simp
  rw [e, W2_of m ρ c main_v1 (by decide), show W1 m ρ c (Proc.devRef .tc main_v1) = _ from early1 m ρ c]
  pointwise
  rfl

/-- What the backward call finds in an array no call before it writes. -/
theorem late3_arg : V3 m ρ c main_arg3 = m (c.tc.loc main_arg3) := W3_args m ρ c main_arg3 (by decide)

/-- The attention output is still there before the backward call. -/
theorem late0 : V3 m ρ c main_v0 = m (c.tc.loc main_arg1) := by
  refine Eq.trans (W3_of m ρ c main_v0 (by decide)) ?_
  rw [W2_of m ρ c main_v0 (by decide)]; exact early0 m ρ c

open ProjRefIdeal.Read (val_main_v1 val_main_v3 val_main_v9 val_main_v11)

/-- The kernel's run: the residual sum, the two gradients and the row sums at the reference's terms, and the arguments as launched. -/
theorem results : θ_run defs (onTc (τ := τ) (main (F := Ideal))) ⟨m, fun _ => 0, ρ⟩ fun r => ∀ c : Dev nD,
    r.2.mem (c.tc.loc main_v2) = val_main_v1 (F := Ideal) (m (c.tc.loc main_arg0)) (m (c.tc.loc main_arg1)) (m (c.tc.loc main_arg2))
    ∧ r.2.mem (c.tc.loc main_v4_0) = val_main_v9 (F := Ideal) (m (c.tc.loc main_arg2)) (m (c.tc.loc main_arg3))
    ∧ r.2.mem (c.tc.loc main_v4_1) = val_main_v11 (F := Ideal) (m (c.tc.loc main_arg1)) (m (c.tc.loc main_arg2)) (m (c.tc.loc main_arg3))
    ∧ r.2.mem (c.tc.loc main_v4_2) = val_main_v3 (F := Ideal) (m (c.tc.loc main_arg1)) (m (c.tc.loc main_arg3))
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3) :=
  (θ_run defs _ _).mono (fun r h c =>
    ⟨(h c _ (mem_uc main_v2 (by decide))).trans ((W4_of m ρ c main_v2 (by decide)).trans ((W3_of m ρ c main_v2 (by decide)).trans ((W2_arr m ρ c 3).trans
        (funext fun y => Final.final0 (V1 m ρ) c _ _ _ (W1_args m ρ c main_arg0 (by decide)) (early0 m ρ c) (early1 m ρ c) y)))),
      (h c _ (mem_uc main_v4_0 (by decide))).trans ((W4_arr m ρ c 3).trans
        (funext fun y => Final.final3 (V3 m ρ) c _ _ (late3_arg m ρ c) (late3 m ρ c) y)),
      (h c _ (mem_uc main_v4_1 (by decide))).trans ((W4_arr m ρ c 4).trans
        (funext fun y => Final.final4 (V3 m ρ) c _ _ _ (late3_arg m ρ c) (late0 m ρ c) (late3 m ρ c) y)),
      (h c _ (mem_uc main_v4_2 (by decide))).trans ((W4_arr m ρ c 5).trans
        (funext fun y => Final.final5 (V3 m ρ) c _ _ (late3_arg m ρ c) (late0 m ρ c) y)),
      (h c _ (mem_uc main_arg0 (by decide))).trans (W4_main_arg0 m ρ c), (h c _ (mem_uc main_arg1 (by decide))).trans (W4_main_arg1 m ρ c),
      (h c _ (mem_uc main_arg2 (by decide))).trans (W4_main_arg2 m ρ c), (h c _ (mem_uc main_arg3 (by decide))).trans (W4_main_arg3 m ρ c)⟩)
    (contents m ρ)

end Cert.ProjIdeal.Run

end
-- ==== Proof.ProjClaim.lean ====
/- The claims about the attention's output projection. -/
module

public import proofs.«01_k».proof.Defs
public import proofs.«01_k».proof.Proof.Gen.ProjIdeal.Frame
public import proofs.«01_k».proof.Proof.Gen.ProjRefIdeal.Run
public import proofs.«01_k».proof.Proof.Gen.ProjRefIdeal.Read
public import proofs.«01_k».proof.Proof.ProjRun
public import Idealize.ShloMosaic.Lib.Claim

@[expose] public section

set_option maxRecDepth 16384

noncomputable section

namespace Cert.Proof

open Idealize.ShloMosaic Idealize.SL.Sem

/-- The proj reference's frame. -/
theorem proj_ref : Cert.quiescent_ProjRefIdeal (hProjRefIdeal := ProjRefIdeal.Gen.facts) := by
  intro m g _
  exact (θ_run ProjRefIdeal.defs _ _).mono (fun r h => ⟨fun c => (h c).2.2.2.2, sem_eq_zero_of_no_sems (by decide) r.2⟩) (ProjRefIdeal.Value.run m g)

/-- The two calls compute the reference's four results, whatever the arguments. -/
theorem proj_value : Cert.algebraic_ProjIdeal_ProjRefIdeal (hProjIdeal := ProjIdeal.Gen.facts) (hProjRefIdeal := ProjRefIdeal.Gen.facts) := by
  intro m g m' g' hpre hagree
  refine ⟨_, _, _, _, ProjIdeal.Run.results m g, (θ_run ProjRefIdeal.defs _ _).mono (fun r h c => ?_) (ProjRefIdeal.Value.run m' g')⟩
  obtain ⟨h1, h9, h11, h3, ha⟩ := h c
  replace h1 := h1.trans (ProjRefIdeal.Read.val_main_v1_eq _ _ _)
  replace h9 := h9.trans (ProjRefIdeal.Read.val_main_v9_eq _ _)
  replace h11 := h11.trans (ProjRefIdeal.Read.val_main_v11_eq _ _ _)
  replace h3 := h3.trans (ProjRefIdeal.Read.val_main_v3_eq _ _)
  obtain ⟨e0, e1, e2, e3⟩ := hagree c
  rw [e0, e1, e2] at h1
  rw [e2, e3] at h9
  rw [e1, e2, e3] at h11
  rw [e1, e3] at h3
  exact ⟨h1, h9, h11, h3, ha⟩

end Cert.Proof

end
-- ==== Proof.AttnRun.lean ====
module

public import proofs.«01_k».proof.Proof.Gen.AttnIdeal.Launch
public import proofs.«01_k».proof.Proof.Gen.AttnIdeal.Skeleton
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Pipeline.FrameBody

@[expose] public section

set_option maxRecDepth 16384

noncomputable section

namespace Cert.AttnIdeal.Body

open Idealize.ShloMosaic TcCoe Tactic
open Idealize.SL RA BI
open scoped Idealize.SL.BI
open Idealize.SL.BI.BIBase Idealize.SL.BI.Laws Idealize.SL.ProofMode Idealize.SL.Sem
open Idealize.ShloMosaic.Rounds
open AttnIdeal.Gen

variable {F : FTy → Type} [FloatOps F] [Named F]

local notation "𝕄" => MT nD τ sig Unit (Elt F) ℕ (UR sig nD τ) ℕ

/-- The word of a table that the point `i` loads. -/
abbrev word (i : grid0.Coords) (T : Vec F S40 .i32) : BitVec 32 :=
  T ((Rect.unit (s := S40) (k0_off1 i) S1.size (k0_off1_inb i)).toLoadRect.idx (Shape.Idx.first (s := S1) (numel1_S1.symm ▸ Nat.one_pos)))

/-- The printed test of the first `scf.if`: the key tile is the first one of its query tile. -/
abbrev cond0 (v3 : BitVec 32) : BitVec 1 := Scalar.cmpi .ne (Scalar.extui (Scalar.cmpi .eq v3 0#32) : BitVec 32) 0#32
/-- How many quarters of the key tile the query tile sees, from one to four and past it. -/
abbrev quarters (v1 v3 : BitVec 32) : BitVec 32 := Scalar.subi (Scalar.addi v1 1#32) (Scalar.muli v3 4#32)
/-- The printed tests of the five branches: a tile seen whole, and one seen up to `n` quarters. -/
abbrev condW (v1 v3 : BitVec 32) : BitVec 1 := Scalar.cmpi .ne (Scalar.extui (Scalar.cmpi .sgt (quarters v1 v3) 4#32) : BitVec 32) 0#32
abbrev condN (n v1 v3 : BitVec 32) : BitVec 1 := Scalar.cmpi .ne (Scalar.extui (Scalar.cmpi .eq (quarters v1 v3) n) : BitVec 32) 0#32

/-- The blocks a point reads: queries, keys, values. -/
structure Blk (F : FTy → Type) [FloatOps F] where
  q : Vec F S1024x256 .bf16
  k : Vec F S4096x256 .bf16
  v : Vec F S4096x128 .bf16

/-- What the scratch buffers hold: a row's largest score so far, its sum of weights, its weighted sum of values. -/
structure St (F : FTy → Type) [FloatOps F] where
  m : Vec F S1024x1 .f32
  l : Vec F S1024x1 .f32
  a : Vec F S1024x128 .f32

/-- The first rows of a key tile, and of a value tile. -/
abbrev Blk.kw (b : Blk F) (n : ℕ) (h : ∀ a, (![0, 0] : Fin 2 → ℕ) a + (![n, 256] : Fin 2 → ℕ) a ≤ S4096x256.size a) : Vec F ⟨2, ![n, 256]⟩ .bf16 := VecWindow.window (s := S4096x256) (α := Elt F .bf16) b.k ![0, 0] ![n, 256] h
abbrev Blk.vw (b : Blk F) (n : ℕ) (h : ∀ a, (![0, 0] : Fin 2 → ℕ) a + (![n, 128] : Fin 2 → ℕ) a ≤ S4096x128.size a) : Vec F ⟨2, ![n, 128]⟩ .bf16 := VecWindow.window (s := S4096x128) (α := Elt F .bf16) b.v ![0, 0] ![n, 128] h

/-- The state a query tile starts from, under its first key tile. -/
def ini (v3 : BitVec 32) (s : St F) : St F := if cond0 v3 = 1#1 then ⟨k0_pay54, k0_pay55, k0_pay56⟩ else s

/-- The state after a key tile seen whole. -/
def nextW (b : Blk F) (s : St F) : St F := ⟨k0_pay9 b.q b.k s.m, k0_pay7 b.q b.k s.m s.l, k0_pay8 b.q b.k s.m s.a b.v⟩

/-- The state after a key tile seen up to its first 1024 keys, under the mask. -/
def next1 (v1 v3 : BitVec 32) (b : Blk F) (s : St F) : St F :=
  ⟨k0_pay58 (k0_pay16 (k0_pay10 b.q (b.kw 1024 inb_S4096x256_S1024x256_0_0)) (k0_pay11 (F := F) v1) (Scalar.muli v3 64#32) (iota .tc S1024x1024 32 [1] iota_S1024x1024_d1_w32) 64#32 k0_pay12 k0_pay13 k0_pay14 s.m),
   k0_pay19 (k0_pay10 b.q (b.kw 1024 inb_S4096x256_S1024x256_0_0)) (k0_pay11 (F := F) v1) (Scalar.muli v3 64#32) (iota .tc S1024x1024 32 [1] iota_S1024x1024_d1_w32) 64#32 k0_pay12 k0_pay13 k0_pay14 s.m s.l,
   k0_pay57 (k0_pay18 (k0_pay10 b.q (b.kw 1024 inb_S4096x256_S1024x256_0_0)) (k0_pay11 (F := F) v1) (Scalar.muli v3 64#32) (iota .tc S1024x1024 32 [1] iota_S1024x1024_d1_w32) 64#32 k0_pay12 k0_pay13 k0_pay14 s.m) (k0_pay20 (k0_pay10 b.q (b.kw 1024 inb_S4096x256_S1024x256_0_0)) (k0_pay11 (F := F) v1) (Scalar.muli v3 64#32) (iota .tc S1024x1024 32 [1] iota_S1024x1024_d1_w32) 64#32 k0_pay12 k0_pay13 k0_pay14 s.m s.a) (b.vw 1024 inb_S4096x128_S1024x128_0_0)⟩

/-- The state after a key tile seen up to its first 2048 keys, under the mask. -/
def next2 (v1 v3 : BitVec 32) (b : Blk F) (s : St F) : St F :=
  ⟨k0_pay60 (k0_pay27 (k0_pay21 b.q (b.kw 2048 inb_S4096x256_S2048x256_0_0)) (k0_pay22 (F := F) v1) (Scalar.muli v3 64#32) (iota .tc S1024x2048 32 [1] iota_S1024x2048_d1_w32) 64#32 k0_pay23 k0_pay24 k0_pay25 s.m),
   k0_pay30 (k0_pay21 b.q (b.kw 2048 inb_S4096x256_S2048x256_0_0)) (k0_pay22 (F := F) v1) (Scalar.muli v3 64#32) (iota .tc S1024x2048 32 [1] iota_S1024x2048_d1_w32) 64#32 k0_pay23 k0_pay24 k0_pay25 s.m s.l,
   k0_pay59 (k0_pay29 (k0_pay21 b.q (b.kw 2048 inb_S4096x256_S2048x256_0_0)) (k0_pay22 (F := F) v1) (Scalar.muli v3 64#32) (iota .tc S1024x2048 32 [1] iota_S1024x2048_d1_w32) 64#32 k0_pay23 k0_pay24 k0_pay25 s.m) (k0_pay31 (k0_pay21 b.q (b.kw 2048 inb_S4096x256_S2048x256_0_0)) (k0_pay22 (F := F) v1) (Scalar.muli v3 64#32) (iota .tc S1024x2048 32 [1] iota_S1024x2048_d1_w32) 64#32 k0_pay23 k0_pay24 k0_pay25 s.m s.a) (b.vw 2048 inb_S4096x128_S2048x128_0_0)⟩

/-- The state after a key tile seen up to its first 3072 keys, under the mask. -/
def next3 (v1 v3 : BitVec 32) (b : Blk F) (s : St F) : St F :=
  ⟨k0_pay62 (k0_pay38 (k0_pay32 b.q (b.kw 3072 inb_S4096x256_S3072x256_0_0)) (k0_pay33 (F := F) v1) (Scalar.muli v3 64#32) (iota .tc S1024x3072 32 [1] iota_S1024x3072_d1_w32) 64#32 k0_pay34 k0_pay35 k0_pay36 s.m),
   k0_pay41 (k0_pay32 b.q (b.kw 3072 inb_S4096x256_S3072x256_0_0)) (k0_pay33 (F := F) v1) (Scalar.muli v3 64#32) (iota .tc S1024x3072 32 [1] iota_S1024x3072_d1_w32) 64#32 k0_pay34 k0_pay35 k0_pay36 s.m s.l,
   k0_pay61 (k0_pay40 (k0_pay32 b.q (b.kw 3072 inb_S4096x256_S3072x256_0_0)) (k0_pay33 (F := F) v1) (Scalar.muli v3 64#32) (iota .tc S1024x3072 32 [1] iota_S1024x3072_d1_w32) 64#32 k0_pay34 k0_pay35 k0_pay36 s.m) (k0_pay42 (k0_pay32 b.q (b.kw 3072 inb_S4096x256_S3072x256_0_0)) (k0_pay33 (F := F) v1) (Scalar.muli v3 64#32) (iota .tc S1024x3072 32 [1] iota_S1024x3072_d1_w32) 64#32 k0_pay34 k0_pay35 k0_pay36 s.m s.a) (b.vw 3072 inb_S4096x128_S3072x128_0_0)⟩

/-- The state after a key tile seen up to its first 4096 keys, under the mask. -/
def next4 (v1 v3 : BitVec 32) (b : Blk F) (s : St F) : St F :=
  ⟨k0_pay64 (k0_pay49 (k0_pay43 b.q b.k) (k0_pay44 (F := F) v1) (Scalar.muli v3 64#32) (iota .tc S1024x4096 32 [1] iota_S1024x4096_d1_w32) 64#32 k0_pay45 k0_pay46 k0_pay47 s.m),
   k0_pay52 (k0_pay43 b.q b.k) (k0_pay44 (F := F) v1) (Scalar.muli v3 64#32) (iota .tc S1024x4096 32 [1] iota_S1024x4096_d1_w32) 64#32 k0_pay45 k0_pay46 k0_pay47 s.m s.l,
   k0_pay63 (k0_pay51 (k0_pay43 b.q b.k) (k0_pay44 (F := F) v1) (Scalar.muli v3 64#32) (iota .tc S1024x4096 32 [1] iota_S1024x4096_d1_w32) 64#32 k0_pay45 k0_pay46 k0_pay47 s.m) (k0_pay53 (k0_pay43 b.q b.k) (k0_pay44 (F := F) v1) (Scalar.muli v3 64#32) (iota .tc S1024x4096 32 [1] iota_S1024x4096_d1_w32) 64#32 k0_pay45 k0_pay46 k0_pay47 s.m s.a) b.v⟩

/-- The state after a point. -/
def next (v1 v3 : BitVec 32) (b : Blk F) (s : St F) : St F :=
  if condW v1 v3 = 1#1 then nextW b s else if condN 1#32 v1 v3 = 1#1 then next1 v1 v3 b s else if condN 2#32 v1 v3 = 1#1 then next2 v1 v3 b s
  else if condN 3#32 v1 v3 = 1#1 then next3 v1 v3 b s else next4 v1 v3 b s

/-- The branch a point takes, and whether it writes the results: only the last key tile of a query tile does, and it is the masked one. -/
def Path (v1 v3 : BitVec 32) : Prop :=
  (condW v1 v3 = 1#1 ∧ ¬ condN 1#32 v1 v3 = 1#1 ∧ ¬ condN 2#32 v1 v3 = 1#1 ∧ ¬ condN 3#32 v1 v3 = 1#1 ∧ ¬ condN 4#32 v1 v3 = 1#1 ∧ ¬ k0_cond7 v1 v3 = 1#1)
  ∨ (¬ condW v1 v3 = 1#1 ∧ condN 1#32 v1 v3 = 1#1 ∧ ¬ condN 2#32 v1 v3 = 1#1 ∧ ¬ condN 3#32 v1 v3 = 1#1 ∧ ¬ condN 4#32 v1 v3 = 1#1 ∧ k0_cond7 v1 v3 = 1#1)
  ∨ (¬ condW v1 v3 = 1#1 ∧ ¬ condN 1#32 v1 v3 = 1#1 ∧ condN 2#32 v1 v3 = 1#1 ∧ ¬ condN 3#32 v1 v3 = 1#1 ∧ ¬ condN 4#32 v1 v3 = 1#1 ∧ k0_cond7 v1 v3 = 1#1)
  ∨ (¬ condW v1 v3 = 1#1 ∧ ¬ condN 1#32 v1 v3 = 1#1 ∧ ¬ condN 2#32 v1 v3 = 1#1 ∧ condN 3#32 v1 v3 = 1#1 ∧ ¬ condN 4#32 v1 v3 = 1#1 ∧ k0_cond7 v1 v3 = 1#1)
  ∨ (¬ condW v1 v3 = 1#1 ∧ ¬ condN 1#32 v1 v3 = 1#1 ∧ ¬ condN 2#32 v1 v3 = 1#1 ∧ ¬ condN 3#32 v1 v3 = 1#1 ∧ condN 4#32 v1 v3 = 1#1 ∧ k0_cond7 v1 v3 = 1#1)

set_option maxHeartbeats 0 in
/-- The body at a point, whichever branch it takes. -/
theorem run (c : Dev nD) (i : grid0.Coords) (arg2 : Memref sig .tc .smem S40 .i32) (harg2 : arg2.IsWhole) (arg3 : Memref sig .tc .smem S40 .i32) (harg3 : arg3.IsWhole) (arg4 : Memref sig .tc .vmem S1024x256 .bf16) (harg4 : arg4.IsWhole) (arg5 : Memref sig .tc .vmem S4096x256 .bf16) (harg5 : arg5.IsWhole) (arg6 : Memref sig .tc .vmem S4096x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole)
    (x2 x3 : Vec F S40 .i32) (q : PosShare TreeShare) (hp : Path (word i x2) (word i x3))
    (b : Blk F) (x7 : Vec F S1024x128 .bf16) (x8 : Vec F S1024x128 .f32) (s : St F)
    (E : Set ℕ) (K : PUnit → sProp 𝕄) :
    iprop(owns c.tc arg2 q x2 ∗ owns c.tc arg3 q x3 ∗ owns c.tc arg4 fullShare b.q ∗ owns c.tc arg5 fullShare b.k ∗ owns c.tc arg6 fullShare b.v ∗ owns c.tc arg7 fullShare x7 ∗ owns c.tc arg8 fullShare x8 ∗ owns c.tc arg9 fullShare s.m ∗ owns c.tc arg10 fullShare s.l ∗ owns c.tc arg11 fullShare s.a
        ∗ (iprop(owns c.tc arg2 q x2 ∗ owns c.tc arg3 q x3 ∗ owns c.tc arg4 fullShare b.q ∗ owns c.tc arg5 fullShare b.k ∗ owns c.tc arg6 fullShare b.v ∗ owns c.tc arg7 fullShare (if k0_cond7 (word i x2) (word i x3) = 1#1 then k0_pay1 (next (word i x2) (word i x3) b (ini (word i x3) s)).l (next (word i x2) (word i x3) b (ini (word i x3) s)).a else x7) ∗ owns c.tc arg8 fullShare (if k0_cond7 (word i x2) (word i x3) = 1#1 then k0_pay2 (next (word i x2) (word i x3) b (ini (word i x3) s)).l (next (word i x2) (word i x3) b (ini (word i x3) s)).m else x8) ∗ owns c.tc arg9 fullShare (next (word i x2) (word i x3) b (ini (word i x3) s)).m ∗ owns c.tc arg10 fullShare (next (word i x2) (word i x3) b (ini (word i x3) s)).l ∗ owns c.tc arg11 fullShare (next (word i x2) (word i x3) b (ini (word i x3) s)).a) -∗ K ⟨⟩))
      ⊢ wp frame (wpE (defs₀ (F := F)) Variants.none c none) E (cc0_flash_fwd i arg2 harg2 arg3 harg3 arg4 harg4 arg5 harg5 arg6 harg6 arg7 harg7 arg8 harg8 arg9 harg9 arg10 harg10 arg11 harg11) K := by
  obtain ⟨b4, b5, b6⟩ := b
  obtain ⟨x9, x10, x11⟩ := s
  simp only [cc0_flash_fwd_eq_skeleton]; unfold cc0_flash_fwd_skel
  simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf2 hf3
  have r4 : ∀ h, arg4.view.readAt (Elt F) (Rect.unit (s := S1024x256) ![0, 0] ![1024, 256] h).toLoadRect f4 = b4 := fun h => (View.readAt_full arg4.view f4 h).trans hf4
  have r5 : ∀ h, arg5.view.readAt (Elt F) (Rect.unit (s := S4096x256) ![0, 0] ![4096, 256] h).toLoadRect f5 = b5 := fun h => (View.readAt_full arg5.view f5 h).trans hf5
  have w5 : ∀ m h, arg5.view.readAt (Elt F) (Rect.unit (s := S4096x256) ![0, 0] ![m, 256] h).toLoadRect f5 = VecWindow.window (s := S4096x256) (α := Elt F .bf16) b5 ![0, 0] ![m, 256] h := fun m h =>
    (View.readAt_unit arg5.view f5 h rfl h).trans (congrArg (fun x => VecWindow.window (s := S4096x256) (α := Elt F .bf16) x ![0, 0] ![m, 256] h) hf5)
  have r6 : ∀ h, arg6.view.readAt (Elt F) (Rect.unit (s := S4096x128) ![0, 0] ![4096, 128] h).toLoadRect f6 = b6 := fun h => (View.readAt_full arg6.view f6 h).trans hf6
  have w6 : ∀ m h, arg6.view.readAt (Elt F) (Rect.unit (s := S4096x128) ![0, 0] ![m, 128] h).toLoadRect f6 = VecWindow.window (s := S4096x128) (α := Elt F .bf16) b6 ![0, 0] ![m, 128] h := fun m h =>
    (View.readAt_unit arg6.view f6 h rfl h).trans (congrArg (fun x => VecWindow.window (s := S4096x128) (α := Elt F .bf16) x ![0, 0] ![m, 128] h) hf6)
  have r9 : ∀ h, arg9.view.readAt (Elt F) (Rect.unit (s := S1024x1) ![0, 0] ![1024, 1] h).toLoadRect f9 = x9 := fun h => (View.readAt_full arg9.view f9 h).trans hf9
  have c9 : ∀ h (z : (Rect.unit (s := S1024x1) ![0, 0] ![1024, 1] h).shape.Idx → Elt F .f32) l h', arg9.view.readCov (Val := Elt F) (⟨Rect.unit (s := S1024x1) ![0, 0] ![1024, 1] h, z⟩ :: l) (Rect.unit (s := S1024x1) ![0, 0] ![1024, 1] h').toLoadRect = z := fun h z l h' =>
    (View.readAt_full arg9.view _ h').trans (View.read_writes_full arg9.view _ h z l)
  have u9 : ∀ f h (z : (Rect.unit (s := S1024x1) ![0, 0] ![1024, 1] h).shape.Idx → Elt F .f32) l, arg9.view.read (Elt F) (arg9.view.writes (Elt F) f (⟨Rect.unit (s := S1024x1) ![0, 0] ![1024, 1] h, z⟩ :: l)) = z := fun f h z l => View.read_writes_full arg9.view f h z l
  have r10 : ∀ h, arg10.view.readAt (Elt F) (Rect.unit (s := S1024x1) ![0, 0] ![1024, 1] h).toLoadRect f10 = x10 := fun h => (View.readAt_full arg10.view f10 h).trans hf10
  have c10 : ∀ h (z : (Rect.unit (s := S1024x1) ![0, 0] ![1024, 1] h).shape.Idx → Elt F .f32) l h', arg10.view.readCov (Val := Elt F) (⟨Rect.unit (s := S1024x1) ![0, 0] ![1024, 1] h, z⟩ :: l) (Rect.unit (s := S1024x1) ![0, 0] ![1024, 1] h').toLoadRect = z := fun h z l h' =>
    (View.readAt_full arg10.view _ h').trans (View.read_writes_full arg10.view _ h z l)
  have u10 : ∀ f h (z : (Rect.unit (s := S1024x1) ![0, 0] ![1024, 1] h).shape.Idx → Elt F .f32) l, arg10.view.read (Elt F) (arg10.view.writes (Elt F) f (⟨Rect.unit (s := S1024x1) ![0, 0] ![1024, 1] h, z⟩ :: l)) = z := fun f h z l => View.read_writes_full arg10.view f h z l
  have r11 : ∀ h, arg11.view.readAt (Elt F) (Rect.unit (s := S1024x128) ![0, 0] ![1024, 128] h).toLoadRect f11 = x11 := fun h => (View.readAt_full arg11.view f11 h).trans hf11
  have c11 : ∀ h (z : (Rect.unit (s := S1024x128) ![0, 0] ![1024, 128] h).shape.Idx → Elt F .f32) l h', arg11.view.readCov (Val := Elt F) (⟨Rect.unit (s := S1024x128) ![0, 0] ![1024, 128] h, z⟩ :: l) (Rect.unit (s := S1024x128) ![0, 0] ![1024, 128] h').toLoadRect = z := fun h z l h' =>
    (View.readAt_full arg11.view _ h').trans (View.read_writes_full arg11.view _ h z l)
  have u11 : ∀ f h (z : (Rect.unit (s := S1024x128) ![0, 0] ![1024, 128] h).shape.Idx → Elt F .f32) l, arg11.view.read (Elt F) (arg11.view.writes (Elt F) f (⟨Rect.unit (s := S1024x128) ![0, 0] ![1024, 128] h, z⟩ :: l)) = z := fun f h z l => View.read_writes_full arg11.view f h z l
  by_cases h0 : cond0 (word i (arg3.view.read (Elt F) f3)) = 1#1
  all_goals rcases hp with ⟨a0, a1, a2, a3, a4, a5⟩ | ⟨a0, a1, a2, a3, a4, a5⟩ | ⟨a0, a1, a2, a3, a4, a5⟩ | ⟨a0, a1, a2, a3, a4, a5⟩ | ⟨a0, a1, a2, a3, a4, a5⟩
  all_goals
    sl_exec (disch := first | sl_exact h0 | sl_exact a0 | sl_exact a1 | sl_exact a2 | sl_exact a3 | sl_exact a4 | sl_exact a5)
    sl_step
    iapply Hk
    simp only [next, ini, h0, a0, a1, a2, a3, a4, a5, if_true, if_false]
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; sl_unfold_run_names; first | exact hf7 | (refine (View.read_writes_full arg7.view _ _ _ []).trans ?_; simp only [r4, r5, r6, w5, w6, r9, r10, r11, c9, c10, c11]; rfl)
    isplitl [H8]
    · iexists _; isplitr; swap; · iexact H8
      ipureintro; sl_unfold_run_names; first | exact hf8 | (refine (View.read_writes_full arg8.view _ _ _ []).trans ?_; simp only [r4, r5, r6, w5, w6, r9, r10, r11, c9, c10, c11]; rfl)
    isplitl [H9]
    · iexists _; isplitr; swap; · iexact H9
      ipureintro; sl_unfold_run_names; refine (u9 _ _ _ _).trans ?_; simp only [r4, r5, r6, w5, w6, r9, r10, r11, c9, c10, c11]; rfl
    isplitl [H10]
    · iexists _; isplitr; swap; · iexact H10
      ipureintro; sl_unfold_run_names; refine (u10 _ _ _ _).trans ?_; simp only [r4, r5, r6, w5, w6, r9, r10, r11, c9, c10, c11]; rfl
    iexists _; isplitr; swap; · iexact H11
    ipureintro; sl_unfold_run_names; refine (u11 _ _ _ _).trans ?_; simp only [r4, r5, r6, w5, w6, r9, r10, r11, c9, c10, c11]; rfl

end Cert.AttnIdeal.Body
-- ==== Proof.AttnData.lean ====
module

public import proofs.«01_k».proof.Proof.AttnRun
public import proofs.«01_k».proof.Proof.Gen.AttnIdeal.Launch
public import proofs.«01_k».proof.Proof.Gen.AttnIdeal.Skeleton
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Pipeline.FrameBody

@[expose] public section

set_option maxRecDepth 16384

noncomputable section

namespace Cert.AttnIdeal.Launch

open Idealize.ShloMosaic TcCoe Tactic
open Idealize.SL RA BI
open scoped Idealize.SL.BI
open Idealize.SL.BI.BIBase Idealize.SL.BI.Laws Idealize.SL.ProofMode Idealize.SL.Sem
open Idealize.ShloMosaic.Rounds
open AttnIdeal.Gen

variable {F : FTy → Type} [FloatOps F] [Named F]

local notation "𝕄" => MT nD τ sig Unit (Elt F) ℕ (UR sig nD τ) ℕ

/-- The tables' contents: the tile of queries and the tile of keys of each point of a head. -/
def tabs : pre0.Contents (Elt F) := fun
  | 0 => fun i => lit0 (S40.rowMajor i)
  | 1 => fun i => lit1 (S40.rowMajor i)
  | ⟨_ + 2, h⟩ => absurd h (Nat.not_lt.2 (Nat.le_add_left _ _))

set_option maxHeartbeats 4000000 in
/-- The tables' contents are admissible (the words do not depend on the reading of floats). -/
theorem tabs_ok_ideal : ok0 (F := Ideal) (tabs (F := Ideal)) := by decide +kernel
/-- The tables' contents are admissible. -/
theorem tabs_ok : ok0 (F := F) (tabs (F := F)) := tabs_ok_ideal

/-- The pipeline's tables. -/
abbrev adm : (p : Fin 1) → (pcfgs (F := F) p).Adm := fun _ => ⟨tabs, tabs_ok⟩
/-- The pipeline at its tables. -/
abbrev cfgT : Pipeline.Cfg sig Λ₀ := cfg0 (adm (F := F) 0)

/-- The table index that a point reads. -/
abbrev wordAt (i : grid0.Coords) : S40.Idx :=
  (Rect.unit (s := S40) (k0_off1 i) S1.size (k0_off1_inb i)).toLoadRect.idx (Shape.Idx.first (s := S1) (numel1_S1.symm ▸ Nat.one_pos))
/-- The tile of queries of a point. -/
def qw (i : grid0.Coords) : BitVec 32 := lit0 (S40.rowMajor (wordAt i))
/-- The tile of keys of a point. -/
def kw (i : grid0.Coords) : BitVec 32 := lit1 (S40.rowMajor (wordAt i))

instance (v1 v3 : BitVec 32) : Decidable (Body.Path v1 v3) := by unfold Body.Path; infer_instance

set_option maxHeartbeats 4000000 in
/-- The branch that each point takes. -/
theorem path (i : grid0.Coords) : Body.Path (qw i) (kw i) := by
  revert i; decide +kernel
theorem zero0 : Body.cond0 (kw (grid0.coords ⟨0, by decide⟩)) = 1#1 := by decide +kernel

variable (m : (ℓ : Loc nD τ sig) → Buf (Elt F) ℓ)

/-- The host operations before the region. -/
abbrev hostOps : List (List (HloOp τ sig (Elt F))) := [hostOps0, hostOps0_1, hostOps0_2, hostOps0_3, hostOps0_4]
/-- What the buffers hold when the region is entered. -/
def V (c : Dev nD) (b : Ref sig .tc) : Buf (Elt F) ((c.tc : Thread nD τ).loc b) :=
  StableHlo.after hostOps.flatten (fun b => m (c, b)) b

/-- The blocks a point reads. -/
def blk (c : Dev nD) (t : Fin (cfgT (F := F)).N) : Body.Blk F where
  q := ((cfgT.win 0).blk t).view.read (Elt F) (V m c main_v8)
  k := ((cfgT.win 1).blk t).view.read (Elt F) (V m c main_v11)
  v := ((cfgT.win 2).blk t).view.read (Elt F) (V m c main_v13)

/-- What a point leaves of the state. -/
def step (i : grid0.Coords) (b : Body.Blk F) (s : Body.St F) : Body.St F := Body.next (qw i) (kw i) b (Body.ini (kw i) s)

/-- The state before point `n`. -/
def st (c : Dev nD) : ℕ → Body.St F
  | 0 => ⟨k0_pay54, k0_pay55, k0_pay56⟩
  | n + 1 => if h : n < (cfgT (F := F)).N then step (grid0.coords ⟨n, h⟩) (blk m c ⟨n, h⟩) (st c n) else st c n

theorem st_succ (c : Dev nD) (t : Fin (cfgT (F := F)).N) : st m c (t.val + 1) = step (grid0.coords t) (blk m c t) (st m c t.val) := by
  unfold st; rw [dif_pos t.isLt]; cases t; rename_i n h; cases n <;> rfl

/-- What a point may leave in a window's staging buffer. -/
def after (c : Dev nD) : (w : Fin (cfgT (F := F)).W) → Fin (cfgT (F := F)).N → (Y X : ((cfgT (F := F)).win w).block.Idx → Elt F ((cfgT (F := F)).win w).elt) → Prop := fun
  | 3 => fun t Y X => X = if k0_cond7 (qw (grid0.coords t)) (kw (grid0.coords t)) = 1#1 then k0_pay1 (st m c (t.val + 1)).l (st m c (t.val + 1)).a else Y
  | 4 => fun t Y X => X = if k0_cond7 (qw (grid0.coords t)) (kw (grid0.coords t)) = 1#1 then k0_pay2 (st m c (t.val + 1)).l (st m c (t.val + 1)).m else Y
  | _ => fun _ Y X => X = Y

/-- What the body carries between points: the state in the scratch buffers, the random state, the tables. -/
def Φ (c : Dev nD) (t : Fin ((cfgT (F := F)).N + 1)) : sProp 𝕄 :=
  iprop((∃ s : Body.St F, ⌜t.val ≠ 0 → s = st m c t.val⌝
    ∗ owns c (Memref.whole cc0_scratch0) fullShare s.m ∗ owns c (Memref.whole cc0_scratch1) fullShare s.l ∗ owns c (Memref.whole cc0_scratch2) fullShare s.a)
    ∗ (∃ r, prngReg c r) ∗ owns c (Memref.whole main_c) fullShare.right (tabs (F := F) 0) ∗ owns c (Memref.whole main_c_0) fullShare.right (tabs (F := F) 1))

/-- The pipeline's proof data. -/
def rdat (c : Dev nD) : Pipeline.RDat τ (Elt F) Unit ℕ (UR sig nD τ) ℕ (cfgT (F := F)) c where
  A w := V m c (Pipeline.arrRef spec0 w)
  after := after m c
  Φ := Φ m c
  q _ := fullShare
  owed _ := 0

/-- What an uncut input window's staging buffer holds at a point: the block of the array there. -/
theorem finds_in (c : Dev nD) (w : Fin (cfgT (F := F)).W) (hw : ((cfgT (F := F)).win w).isOut = false)
    (hclip : ∀ i a, ((cfgT (F := F)).win w).clip i a = none) (hkeep : ∀ t Y X, after m c w t Y X → X = Y)
    (t : Fin (cfgT (F := F)).N) (Y B : (cfgT.win w).block.Idx → Elt F (cfgT.win w).elt)
    (hB : (rdat m c).blockOf w t = (cfgT.win w).cut ((cfgT (F := F)).grid.coords t) B)
    (h : (rdat m c).Finds w t Y) : Y = B := by
  obtain ⟨d, rfl⟩ := (rdat m c).finds_in_eq_fetched w hw (fun t t' _ => funext fun a => (hclip _ a).trans (hclip _ a).symm) hkeep t Y h
  unfold Pipeline.RDat.fetched
  rw [hB]
  exact (Pipeline.fill_of_clip_none w _ (hclip _) d B _).trans ((cfgT.win w).fill_cut _ B)

theorem finds0 (c : Dev nD) (t) (Y) (h : (rdat m c).Finds 0 t Y) : Y = (blk m c t).q :=
  finds_in m c 0 rfl (fun _ _ => rfl) (fun _ _ _ h => h) t Y (blk m c t).q rfl h
theorem finds1 (c : Dev nD) (t) (Y) (h : (rdat m c).Finds 1 t Y) : Y = (blk m c t).k :=
  finds_in m c 1 rfl (fun _ _ => rfl) (fun _ _ _ h => h) t Y (blk m c t).k rfl h
theorem finds2 (c : Dev nD) (t) (Y) (h : (rdat m c).Finds 2 t Y) : Y = (blk m c t).v :=
  finds_in m c 2 rfl (fun _ _ => rfl) (fun _ _ _ h => h) t Y (blk m c t).v rfl h
end Cert.AttnIdeal.Launch
-- ==== Proof.AttnBody.lean ====
module

public import proofs.«01_k».proof.Proof.AttnData
public import proofs.«01_k».proof.Proof.Gen.AttnIdeal.Launch
public import proofs.«01_k».proof.Proof.Gen.AttnIdeal.Skeleton
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Pipeline.FrameBody

@[expose] public section

set_option maxRecDepth 16384

noncomputable section

namespace Cert.AttnIdeal.Launch

open Idealize.ShloMosaic TcCoe Tactic
open Idealize.SL RA BI
open scoped Idealize.SL.BI
open Idealize.SL.BI.BIBase Idealize.SL.BI.Laws Idealize.SL.ProofMode Idealize.SL.Sem
open Idealize.ShloMosaic.Rounds
open AttnIdeal.Gen

variable {F : FTy → Type} [FloatOps F] [Named F]
variable (m : (ℓ : Loc nD τ sig) → Buf (Elt F) ℓ)

local notation "𝕄" => MT nD τ sig Unit (Elt F) ℕ (UR sig nD τ) ℕ

/-- At the first point the state is reset, so what the scratch held before does not matter. -/
theorem step_eq (c : Dev nD) (t : Fin (cfgT (F := F)).N) (s : Body.St F) (hs : t.val ≠ 0 → s = st m c t.val) :
    step (grid0.coords t) (blk m c t) s = st m c (t.val + 1) := by
  rw [st_succ]
  by_cases h : t.val = 0
  · have h0 : Body.cond0 (kw (grid0.coords t)) = 1#1 := by
      have : t = ⟨0, (by decide : 0 < grid0.N)⟩ := Fin.ext h
      rw [this]; exact zero0
    unfold step Body.ini
    rw [if_pos h0, if_pos h0]
  · rw [hs h]

attribute [local irreducible] st step blk Body.next Body.ini

/-- The body as the pipeline calls it at a point. -/
abbrev bodyAt (t : Fin (cfgT (F := F)).N) : Prog (TpuEff nD τ sig (Elt F) Λ₀ .tc) PUnit :=
  cc0_flash_fwd (grid0.coords t) (Memref.whole main_c) (Memref.isWhole_whole _) (Memref.whole main_c_0) (Memref.isWhole_whole _) (spec0_0.stage (cfgT.slots t 0)) (hstage0_0 ((cfgT.slots t 0).cast nbuf0_0)) (spec0_1.stage (cfgT.slots t 1)) (hstage0_1 ((cfgT.slots t 1).cast nbuf0_1)) (spec0_2.stage (cfgT.slots t 2)) (hstage0_2 ((cfgT.slots t 2).cast nbuf0_2)) (spec0_3.stage (cfgT.slots t 3)) (hstage0_3 ((cfgT.slots t 3).cast nbuf0_3)) (spec0_4.stage (cfgT.slots t 4)) (hstage0_4 ((cfgT.slots t 4).cast nbuf0_4)) (Memref.whole cc0_scratch0) (Memref.isWhole_whole _) (Memref.whole cc0_scratch1) (Memref.isWhole_whole _) (Memref.whole cc0_scratch2) (Memref.isWhole_whole _)
set_option maxHeartbeats 1600000 in
/-- The body's triple at a point, the windows one by one. -/
theorem sound (c : Dev nD) (t : Fin (cfgT (F := F)).N) (y3 : Vec F S1024x128 .bf16) (y4 : Vec F S1024x128 .f32) :
    iprop((rdat m c).Φ t.castSucc ∗ (rdat m c).owesAt () t.castSucc ∗ owns c.tc (spec0_0.stage (cfgT.slots t 0)) fullShare (blk m c t).q ∗ owns c.tc (spec0_1.stage (cfgT.slots t 1)) fullShare (blk m c t).k ∗ owns c.tc (spec0_2.stage (cfgT.slots t 2)) fullShare (blk m c t).v ∗ owns c.tc (spec0_3.stage (cfgT.slots t 3)) fullShare y3 ∗ owns c.tc (spec0_4.stage (cfgT.slots t 4)) fullShare y4)
      ⊢ wp frame (wpE (defs₀ (F := F)) Variants.none c none) Set.univ (bodyAt t) (fun _ => iprop((rdat m c).Φ t.succ ∗ (rdat m c).owesAt () t.succ ∗ (∃ X, ⌜after m c 0 t (blk m c t).q X⌝ ∗ owns c.tc (spec0_0.stage (cfgT.slots t 0)) fullShare X) ∗ (∃ X, ⌜after m c 1 t (blk m c t).k X⌝ ∗ owns c.tc (spec0_1.stage (cfgT.slots t 1)) fullShare X) ∗ (∃ X, ⌜after m c 2 t (blk m c t).v X⌝ ∗ owns c.tc (spec0_2.stage (cfgT.slots t 2)) fullShare X) ∗ (∃ X, ⌜after m c 3 t y3 X⌝ ∗ owns c.tc (spec0_3.stage (cfgT.slots t 3)) fullShare X) ∗ (∃ X, ⌜after m c 4 t y4 X⌝ ∗ owns c.tc (spec0_4.stage (cfgT.slots t 4)) fullShare X))) := by
  rw [show (rdat m c).Φ t.succ = Φ m c t.succ from rfl, show (rdat m c).Φ t.castSucc = Φ m c t.castSucc from rfl,
    show (rdat m c).owesAt () t.succ = (rdat m c).owesAt () t.castSucc from rfl]
  unfold Φ
  iintro ⟨⟨⟨%s, %hs, H9, H10, H11⟩, Hr, H2, H3⟩, Ho, H4, H5, H6, H7, H8⟩
  simp only [Fin.val_castSucc] at hs
  have e : Body.next (qw (grid0.coords t)) (kw (grid0.coords t)) (blk m c t) (Body.ini (kw (grid0.coords t)) s) = st m c (t.val + 1) :=
    Eq.trans (by unfold step; rfl) (step_eq m c t s hs)
  have R := Body.run c (grid0.coords t) (Memref.whole main_c) (Memref.isWhole_whole _) (Memref.whole main_c_0) (Memref.isWhole_whole _) (spec0_0.stage (cfgT.slots t 0)) (hstage0_0 ((cfgT.slots t 0).cast nbuf0_0)) (spec0_1.stage (cfgT.slots t 1)) (hstage0_1 ((cfgT.slots t 1).cast nbuf0_1)) (spec0_2.stage (cfgT.slots t 2)) (hstage0_2 ((cfgT.slots t 2).cast nbuf0_2)) (spec0_3.stage (cfgT.slots t 3)) (hstage0_3 ((cfgT.slots t 3).cast nbuf0_3)) (spec0_4.stage (cfgT.slots t 4)) (hstage0_4 ((cfgT.slots t 4).cast nbuf0_4)) (Memref.whole cc0_scratch0) (Memref.isWhole_whole _) (Memref.whole cc0_scratch1) (Memref.isWhole_whole _) (Memref.whole cc0_scratch2) (Memref.isWhole_whole _)
    (tabs (F := F) 0) (tabs (F := F) 1) fullShare.right (path (grid0.coords t)) (blk m c t) y3 y4 s Set.univ
  rw [show Body.word (grid0.coords t) (tabs (F := F) 0) = qw (grid0.coords t) from rfl, show Body.word (grid0.coords t) (tabs (F := F) 1) = kw (grid0.coords t) from rfl, e] at R
  iapply (R _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H2, H3, H4, H5, H6, H7, H8, H9, H10, H11⟩
  isplitl [H9 H10 H11 Hr H2 H3]
  · isplitl [H9 H10 H11]
    · iexists _; isplitr
      swap
      · isplitl [H9]
        · iexact H9
        isplitl [H10]
        · iexact H10
        · iexact H11
      · ipureintro; intro _; rfl
    isplitl [Hr]; · iexact Hr
    isplitl [H2]; · iexact H2
    iexact H3
  isplitl [Ho]; · iexact Ho
  isplitl [H4]
  · iexists _; isplitr
    swap; · iexact H4
    ipureintro; exact rfl
  isplitl [H5]
  · iexists _; isplitr
    swap; · iexact H5
    ipureintro; exact rfl
  isplitl [H6]
  · iexists _; isplitr
    swap; · iexact H6
    ipureintro; exact rfl
  isplitl [H7]
  · iexists _; isplitr
    swap; · iexact H7
    ipureintro; exact rfl
  iexists _; isplitr
  swap; · iexact H8
  ipureintro; exact rfl

/-- The body table's row at a point is the body as spelt above. -/
theorem defs₀_row (t : Fin (cfgT (F := F)).N) :
    defs₀ (F := F) .tc cfgT.body (cfgT.bodyArgs t (cfgT.slots t)) = bodyAt t := by
  unfold defs₀; rw [Defs.onTc_tc]

/-- The body obligation. -/
theorem body_obligation (c : Dev nD) : (rdat m c).BodyObligation (defs₀ (F := F)) Variants.none () Set.univ := fun t Y hY => by
  rw [bigSep_W0, bigSep_W0, defs₀_row]
  rw [finds0 m c t _ (hY 0), finds1 m c t _ (hY 1), finds2 m c t _ (hY 2)]
  exact triple_restated (sound m c t (Y 3) (Y 4)) rfl .rfl fun _ => .rfl

end Cert.AttnIdeal.Launch
-- ==== Proof.AttnLaunch.lean ====
module

public import proofs.«01_k».proof.Proof.AttnBody
public import proofs.«01_k».proof.Proof.Gen.AttnIdeal.Launch
public import proofs.«01_k».proof.Proof.Gen.AttnIdeal.Skeleton
public import Idealize.ShloMosaic.Lib.StableHlo.RunRead
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Pipeline.FrameBody

@[expose] public section

set_option maxRecDepth 16384

noncomputable section

namespace Cert.AttnIdeal.Launch

open Idealize.ShloMosaic TcCoe Tactic
open Idealize.SL RA BI
open scoped Idealize.SL.BI
open Idealize.SL.BI.BIBase Idealize.SL.BI.Laws Idealize.SL.ProofMode Idealize.SL.Sem
open Idealize.ShloMosaic.Rounds
open AttnIdeal.Gen

variable {F : FTy → Type} [FloatOps F] [Named F]
variable (m : (ℓ : Loc nD τ sig) → Buf (Elt F) ℓ)

local notation "𝕄" => MT nD τ sig Unit (Elt F) ℕ (UR sig nD τ) ℕ

theorem hostOps_fresh : (hostOps (F := F)).Forall fun ops => ops.Forall fun op => op.fresh = ∅ := by
  repeat' constructor

/-- @main up to the region. -/
theorem hmain : Pipeline.HMainP (Ix := Unit) (Name := ℕ) (U := UR sig nD τ) (Lvl := ℕ) (pcfgs (F := F)) 0 (defs₀ (F := F)) Variants.none m (main (F := F)) (V m) :=
  Pipeline.hmainP_prefixes _ 0 _ _ m main hostOps
    ⟨hostOps0_sub, hostOps0_1_sub, hostOps0_2_sub, hostOps0_3_sub, hostOps0_4_sub⟩
    hostOps_fresh fun c => main_chain c

theorem V_tab0 (c : Dev nD) : V m c main_c = tabs (F := F) 0 := by
  unfold V hostOps; simp only [List.flatten_cons, List.flatten_nil]; after_reads_simp; rfl
theorem V_tab1 (c : Dev nD) : V m c main_c_0 = tabs (F := F) 1 := by
  unfold V hostOps; simp only [List.flatten_cons, List.flatten_nil]; after_reads_simp; rfl
theorem V_arg0 (c : Dev nD) : V m c main_arg0 = m (c.tc.loc main_arg0) := by
  unfold V hostOps; simp only [List.flatten_cons, List.flatten_nil]; after_reads_simp
theorem V_arg1 (c : Dev nD) : V m c main_arg1 = m (c.tc.loc main_arg1) := by
  unfold V hostOps; simp only [List.flatten_cons, List.flatten_nil]; after_reads_simp
theorem V_arg2 (c : Dev nD) : V m c main_arg2 = m (c.tc.loc main_arg2) := by
  unfold V hostOps; simp only [List.flatten_cons, List.flatten_nil]; after_reads_simp

attribute [local irreducible] st step blk

theorem share_rdat (c : Dev nD) (w) : (rdat m c).share w = fullShare := by
  unfold Pipeline.RDat.share; split <;> rfl

theorem whole_in (c : Dev nD) (b : Ref sig .tc) (q : PosShare TreeShare) (f : b.ty.Contents (Elt F)) :
    ((c.tc.loc b) ↦{q} f : sProp 𝕄) ⊢ owns c.tc (Memref.whole b) q f := by rw [owns_whole]
theorem whole_out (c : Dev nD) (b : Ref sig .tc) (q : PosShare TreeShare) (f : b.ty.Contents (Elt F)) :
    owns c.tc (Memref.whole b) q f ⊢ ((c.tc.loc b) ↦{q} f : sProp 𝕄) := by rw [owns_whole]

theorem tabs_held (c : Dev nD) : (Pipeline.ΦT (U := UR sig nD τ) pre0 (tabs (F := F)) c : sProp 𝕄)
    ⊢ iprop(owns c (Memref.whole main_c) fullShare.right (tabs (F := F) 0) ∗ owns c (Memref.whole main_c_0) fullShare.right (tabs (F := F) 1)) := by
  unfold Pipeline.ΦT Pipeline.prefHeld
  rw [bigSep_univ_eq_bigSepL [(0 : Fin 2), (1 : Fin 2)] (by decide) (by decide)]
  rw [show ∀ Ψ : Fin 2 → sProp 𝕄, bigSepL [(0 : Fin 2), (1 : Fin 2)] Ψ = iprop(Ψ 0 ∗ Ψ 1) from fun _ => rfl]
  iintro ⟨H0, H1⟩
  isplitl [H0]
  · iapply (whole_in c main_c fullShare.right (tabs (F := F) 0)); iexact H0
  iapply (whole_in c main_c_0 fullShare.right (tabs (F := F) 1)); iexact H1

theorem inv_in (c : Dev nD) : iprop(Pipeline.ΦA (U := UR sig nD τ) (Val := Elt F) spec0 c ∗ Pipeline.ΦT (U := UR sig nD τ) pre0 (tabs (F := F)) c) ⊢ Φ m c 0 := by
  unfold Pipeline.ΦA Φ
  rw [scopedRest0_eq]
  iintro ⟨⟨⟨⟨%f0, H0⟩, ⟨%f1, H1⟩, ⟨%f2, H2⟩⟩, Hr⟩, HT⟩
  isplitl [H0 H1 H2]
  · iexists (⟨f0, f1, f2⟩ : Body.St F); isplitr
    swap
    · isplitl [H0]
      · iapply (whole_in c cc0_scratch0 fullShare f0); iexact H0
      isplitl [H1]
      · iapply (whole_in c cc0_scratch1 fullShare f1); iexact H1
      iapply (whole_in c cc0_scratch2 fullShare f2); iexact H2
    ipureintro; exact fun h => absurd rfl h
  isplitl [Hr]; · iexact Hr
  iapply (tabs_held c); iexact HT

theorem inv_out (c : Dev nD) : Φ m c (Fin.last _) ⊢ (Pipeline.ΦA (U := UR sig nD τ) (Val := Elt F) spec0 c : sProp 𝕄) := by
  unfold Pipeline.ΦA Φ
  rw [scopedRest0_eq]
  iintro ⟨⟨%s, -, H0, H1, H2⟩, Hr, -⟩
  isplitl [H0 H1 H2]
  · isplitl [H0]
    · iexists s.m; iapply (whole_out c cc0_scratch0 fullShare s.m); iexact H0
    isplitl [H1]
    · iexists s.l; iapply (whole_out c cc0_scratch1 fullShare s.l); iexact H1
    · iexists s.a; iapply (whole_out c cc0_scratch2 fullShare s.a); iexact H2
  iexact Hr

variable (g : Dev nD → PrngReg)

set_option backward.isDefEq.respectTransparency.types false in
/-- The run: every execution ends, with the counters at zero and the arrays as the proof data say. -/
theorem run_main : θ_run defs (onTc (τ := τ) (main (F := F))) (s₀ m g)
    (fun r => Pipeline.RDat.FramePost cfgT (rdat m) (V m) r ∧ r.2.sem = fun _ => 0) :=
  Pipeline.RDat.θ_run_frameP_track (Q' := _) pcfgs adm (0 : Fin 1) launch0 defs₀ Variants.none (rdat m) m g main
    (hbody := body_obligation m) (hshare := share_rdat m) (howed := fun _ _ => rfl) (V := V m) (hmain := hmain m)
    (hA := fun _ _ => rfl) (hpf := fun c k => by
      match k with
      | 0 => exact V_tab0 m c
      | 1 => exact V_tab1 m c)
    (hin := inv_in m) (hout := inv_out m)

/-- The frame: the arguments end unchanged and the counters at zero. -/
theorem frame : θ_run defs (onTc (τ := τ) (main (F := F))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2))
      ∧ r.2.sem = fun _ => 0) :=
  (θ_run defs _ _).mono (fun r h => ⟨fun c => ⟨((h.1 c).2 main_arg0 (by decide : main_arg0 ∈ Pipeline.restRefs sig spec0)).trans (V_arg0 m c), ((h.1 c).2 main_arg1 (by decide : main_arg1 ∈ Pipeline.restRefs sig spec0)).trans (V_arg1 m c),
    ((h.1 c).2 main_arg2 (by decide : main_arg2 ∈ Pipeline.restRefs sig spec0)).trans (V_arg2 m c)⟩, h.2⟩) (run_main m g)

end Cert.AttnIdeal.Launch
-- ==== Proof.AttnFrame.lean ====
module

public import proofs.«01_k».proof.Proof.AttnLaunch
public import proofs.«01_k».proof.Proof.Gen.Attn.Launch
public import proofs.«01_k».proof.Defs

@[expose] public section

set_option maxRecDepth 16384

noncomputable section

namespace Cert.AttnIdeal.Launch

open Idealize.ShloMosaic TcCoe Tactic
open Idealize.SL Idealize.SL.Sem

/-- On words a named constant is the literal it was printed for. -/
@[reducible] def wordNamed : Named Bits := ⟨fun _ _ _ bits => FloatOps.ofBits (F := Bits) _ bits⟩

attribute [local instance] wordNamed

set_option maxHeartbeats 4000000 in
/-- The frame of the program on words: its text is the idealized one's, the constant unnamed. -/
theorem frame_words : Cert.quiescent_Attn (hAttn := Attn.Gen.facts) := fun m g _ =>
  Eq.mp (by sl_kernel_rfl) (frame (F := Bits) m g)

end Cert.AttnIdeal.Launch
-- ==== Proof.AttnPoints.lean ====
/- The points of the attention's grid: which head, tile of queries and tile of keys each one works on. -/
module

public import proofs.«01_k».proof.Proof.AttnData

@[expose] public section

set_option maxRecDepth 16384

noncomputable section

namespace Cert.AttnIdeal.Points

open Idealize.ShloMosaic TcCoe
open AttnIdeal AttnIdeal.Gen AttnIdeal.Launch

/-- A point's head, its tile of queries, its tile of keys. -/
def hd (t : Fin grid0.N) : Fin 8 := ⟨t.val / 40 % 8, by omega⟩
def qt (t : Fin grid0.N) : Fin 16 := ⟨(qw (grid0.coords t)).toNat % 16, by omega⟩
def kt (t : Fin grid0.N) : Fin 4 := ⟨(kw (grid0.coords t)).toNat % 4, by omega⟩

set_option maxHeartbeats 4000000 in
theorem qw_eq : ∀ t : Fin grid0.N, qw (grid0.coords t) = BitVec.ofNat 32 (qt t).val := by decide +kernel
set_option maxHeartbeats 4000000 in
theorem kw_eq : ∀ t : Fin grid0.N, kw (grid0.coords t) = BitVec.ofNat 32 (kt t).val := by decide +kernel
set_option maxHeartbeats 4000000 in
theorem le_diag : ∀ t : Fin grid0.N, (kt t).val ≤ (qt t).val / 4 := by decide +kernel
set_option maxHeartbeats 4000000 in
theorem cond7 : ∀ t : Fin grid0.N, k0_cond7 (qw (grid0.coords t)) (kw (grid0.coords t)) = 1#1 ↔ (kt t).val = (qt t).val / 4 := by decide +kernel

theorem cond0 : ∀ kn : Fin 4, Body.cond0 (BitVec.ofNat 32 kn.val) = 1#1 ↔ kn.val = 0 := by decide +kernel
theorem condW : ∀ (qn : Fin 16) (kn : Fin 4), Body.condW (BitVec.ofNat 32 qn.val) (BitVec.ofNat 32 kn.val) = 1#1 ↔ kn.val * 4 + 4 ≤ qn.val := by decide +kernel
theorem cond1 : ∀ (qn : Fin 16) (kn : Fin 4), Body.condN 1#32 (BitVec.ofNat 32 qn.val) (BitVec.ofNat 32 kn.val) = 1#1 ↔ qn.val = kn.val * 4 := by decide +kernel
theorem cond2 : ∀ (qn : Fin 16) (kn : Fin 4), Body.condN 2#32 (BitVec.ofNat 32 qn.val) (BitVec.ofNat 32 kn.val) = 1#1 ↔ qn.val = kn.val * 4 + 1 := by decide +kernel
theorem cond3 : ∀ (qn : Fin 16) (kn : Fin 4), Body.condN 3#32 (BitVec.ofNat 32 qn.val) (BitVec.ofNat 32 kn.val) = 1#1 ↔ qn.val = kn.val * 4 + 2 := by decide +kernel

/-- The point before, unless this one starts a row of tiles: the tile of keys before. -/
theorem prev : ∀ t : Fin grid0.N, (kt t).val ≠ 0 → t.val ≠ 0 ∧ hd ⟨t.val - 1, by omega⟩ = hd t ∧ qt ⟨t.val - 1, by omega⟩ = qt t ∧ (kt ⟨t.val - 1, by omega⟩).val + 1 = (kt t).val := by decide +kernel

set_option maxHeartbeats 4000000 in
theorem idx0 : ∀ t : Fin (cfgT (F := Ideal)).N, ((cfgT (F := Ideal)).win 0).index t = ![(qt t).val, (hd t).val] :=
  (by decide +kernel : ∀ t : Fin grid0.N, ix0 (tabs (F := Ideal)) 0 (grid0.coords t) = ![(qt t).val, (hd t).val])
set_option maxHeartbeats 4000000 in
theorem idx1 : ∀ t : Fin (cfgT (F := Ideal)).N, ((cfgT (F := Ideal)).win 1).index t = ![(kt t).val, (hd t).val] :=
  (by decide +kernel : ∀ t : Fin grid0.N, ix0 (tabs (F := Ideal)) 1 (grid0.coords t) = ![(kt t).val, (hd t).val])
set_option maxHeartbeats 4000000 in
theorem idx2 : ∀ t : Fin (cfgT (F := Ideal)).N, ((cfgT (F := Ideal)).win 2).index t = ![(kt t).val, (hd t).val] :=
  (by decide +kernel : ∀ t : Fin grid0.N, ix0 (tabs (F := Ideal)) 2 (grid0.coords t) = ![(kt t).val, (hd t).val])
set_option maxHeartbeats 4000000 in
theorem idx3 : ∀ t : Fin (cfgT (F := Ideal)).N, ((cfgT (F := Ideal)).win 3).index t = ![(qt t).val, (hd t).val] :=
  (by decide +kernel : ∀ t : Fin grid0.N, ix0 (tabs (F := Ideal)) 3 (grid0.coords t) = ![(qt t).val, (hd t).val])
set_option maxHeartbeats 4000000 in
theorem idx4 : ∀ t : Fin (cfgT (F := Ideal)).N, ((cfgT (F := Ideal)).win 4).index t = ![(qt t).val, (hd t).val] :=
  (by decide +kernel : ∀ t : Fin grid0.N, ix0 (tabs (F := Ideal)) 4 (grid0.coords t) = ![(qt t).val, (hd t).val])

set_option maxHeartbeats 4000000 in
theorem fl3 : ∀ t : Fin (cfgT (F := Ideal)).N, ((cfgT (F := Ideal)).win 3).flush t = decide ((kt t).val = (qt t).val / 4) := by decide +kernel
set_option maxHeartbeats 4000000 in
theorem fl4 : ∀ t : Fin (cfgT (F := Ideal)).N, ((cfgT (F := Ideal)).win 4).flush t = decide ((kt t).val = (qt t).val / 4) := by decide +kernel
end Cert.AttnIdeal.Points
-- ==== Proof.AttnHost.lean ====
/- What the attention's host code passes on: scaled and padded queries, padded keys, values, as real numbers. -/
module

public import proofs.«01_k».proof.Proof.AttnData
public import proofs.«01_k».proof.Proof.FlashHost
public import Idealize.ShloMosaic.Lib.Pipeline.ValueKit
public import Idealize.ShloMosaic.Lib.StableHlo.ReadAt

@[expose] public section

set_option maxRecDepth 16384

noncomputable section

namespace Cert.AttnIdeal.Host

open Idealize.ShloMosaic TcCoe Tactic
open Idealize.SL Idealize.SL.Sem Idealize.ShloMosaic.StableHlo
open AttnIdeal AttnIdeal.Gen AttnIdeal.Launch Ereal Attn
open FlashIdeal.Host (scaled pad_shut log_two)

section Raw
variable (U : (b : DevRef τ sig) → b.ty.Contents (Elt Ideal))

theorem v8_raw (a : Fin 16384) (h : Fin 8) (c' : Fin 256) : StableHlo.after (hostOps (F := Ideal)).flatten U main_v8 (ix2 a (colw h c'))
    = if h_1 : (colw h c').val / 256 < 8 ∧ (colw h c').val % 256 < 192 then
        scaled (U main_arg0 (ix3 a ⟨_, h_1.1⟩ ⟨_, h_1.2⟩)) else FloatOps.sitofp (F := Ideal) .f32 0#32 := by
  unfold hostOps; simp only [List.flatten_cons, List.flatten_nil]; after_reads_at
  rfl

theorem v11_raw (a : Fin 16384) (h : Fin 8) (c' : Fin 256) : StableHlo.after (hostOps (F := Ideal)).flatten U main_v11 (ix2 a (colw h c'))
    = if h_1 : (colw h c').val / 256 < 8 ∧ (colw h c').val % 256 < 192 then
        (U main_arg1 (ix3 a ⟨_, h_1.1⟩ ⟨_, h_1.2⟩) : EReal) else FloatOps.sitofp (F := Ideal) .f32 0#32 := by
  unfold hostOps; simp only [List.flatten_cons, List.flatten_nil]; after_reads_at

theorem v13_raw (a : Fin 16384) (h : Fin 8) (e : Fin 128) : StableHlo.after (hostOps (F := Ideal)).flatten U main_v13 (ix2 a (coln h e)) = U main_arg2 (ix3 a h e) := by
  unfold hostOps; simp only [List.flatten_cons, List.flatten_nil]; after_reads_at
  have := h.isLt
  have := e.isLt
  refine congrArg (U main_arg2) (congrArg₂ (ix3 a) (Fin.ext ?_) (Fin.ext ?_)) <;> simp only [coln] <;> omega
end Raw

variable (m : (ℓ : Loc nD τ sig) → Buf (Elt Ideal) ℓ) (c : Dev nD)
variable (q k : Fin 16384 → Fin 8 → Fin 192 → ℝ) (v : Fin 16384 → Fin 8 → Fin 128 → ℝ)
variable (hq : ∀ a h d, m (c.tc.loc main_arg0) (ix3 a h d) = (q a h d : EReal))
  (hk : ∀ a h d, m (c.tc.loc main_arg1) (ix3 a h d) = (k a h d : EReal))
  (hv : ∀ a h e, m (c.tc.loc main_arg2) (ix3 a h e) = (v a h e : EReal))

include hq in
/-- The scaled queries, padded. -/
theorem V8 (a : Fin 16384) (h : Fin 8) (j : Fin 256) : V m c main_v8 (ix2 a (colw h j)) = ((padd (fun d => q a h d * sc / Real.log 2) j : ℝ) : EReal) := by
  refine (v8_raw (fun b => m (c, b)) a h j).trans ?_
  refine pad_shut h j (fun h' d' => scaled (m (c.tc.loc main_arg0) (ix3 a h' d'))) _ fun d => ?_
  show scaled (m (c.tc.loc main_arg0) (ix3 a h d)) = _
  rw [hq, scaled, log_two, lit_sc, ← EReal.coe_mul, div_coe' (Real.log_pos (by norm_num)).ne']

include hk in
/-- The keys, padded. -/
theorem V11 (a : Fin 16384) (h : Fin 8) (j : Fin 256) : V m c main_v11 (ix2 a (colw h j)) = ((padd (k a h) j : ℝ) : EReal) := by
  refine (v11_raw (fun b => m (c, b)) a h j).trans ?_
  exact pad_shut h j (fun h' d' => (m (c.tc.loc main_arg1) (ix3 a h' d') : EReal)) _ fun d => hk a h d

include hv in
/-- The values. -/
theorem V13 (a : Fin 16384) (h : Fin 8) (e : Fin 128) : V m c main_v13 (ix2 a (coln h e)) = ((v a h e : ℝ) : EReal) :=
  (v13_raw (fun b => m (c, b)) a h e).trans (hv a h e)
end Cert.AttnIdeal.Host
-- ==== Proof.AttnRow.lean ====
/- One row of the attention's running sums: what a tile of keys adds, as real numbers. -/
module

public import proofs.«01_k».proof.Proof.FlashMath

@[expose] public section

set_option maxRecDepth 16384

noncomputable section

namespace Cert.Attn

open Idealize.ShloMosaic Ereal

/-- A row's new largest score, sum of weights and weighted sum of values, from the old ones and a tile's scores and values. -/
structure RowNext {n : ℕ} (S : Fin n → EReal) (W : Fin n → Fin 128 → EReal) (m l : EReal) (a : Fin 128 → EReal) (m' l' : EReal) (a' : Fin 128 → EReal) : Prop where
  hm : m' = max m (Finset.univ.fold max ⊥ S)
  hl : l' = Ideal.exp2 (m - m') * l + ∑ c, Ideal.exp2 (S c - m')
  ha : ∀ e, a' e = Ideal.exp2 (m - m') * a e + ∑ c, Ideal.exp2 (S c - m') * W c e

/-- A row's running sums stand for the weights' total `A` and the weighted values `B`: both are scaled by the largest score so far. -/
def Row (A : ℝ) (B : Fin 128 → ℝ) (m l : EReal) (a : Fin 128 → EReal) : Prop :=
  (A = 0 ∧ (∀ e, B e = 0) ∧ m = ⊥ ∧ l = 0 ∧ ∀ e, a e = 0)
  ∨ ∃ M : ℝ, m = (M : EReal) ∧ l = (((2 : ℝ) ^ (-M) * A : ℝ) : EReal) ∧ ∀ e, a e = (((2 : ℝ) ^ (-M) * B e : ℝ) : EReal)

/-- The sums a row starts from. -/
theorem row_zero : Row 0 (fun _ => 0) ⊥ 0 fun _ => 0 := .inl ⟨rfl, fun _ => rfl, rfl, rfl, fun _ => rfl⟩

/-- The maximum of a row with a visible key is a real number, at any length. -/
theorem fold_coe {n : ℕ} (f : Fin n → EReal) (P : Fin n → Prop) [DecidablePred P] (r : Fin n → ℝ) (a : Fin n) (ha : P a)
    (hf : ∀ b, f b = if P b then ((r b : ℝ) : EReal) else ⊥) :
    ∃ M : ℝ, Finset.univ.fold max ⊥ f = (M : EReal) := by
  have h1 : Finset.univ.fold max ⊥ f < (⊤ : EReal) := by
    rw [Finset.fold_max_lt]
    refine ⟨bot_lt_top, fun b _ => ?_⟩
    rw [hf]; split
    · exact EReal.coe_lt_top _
    · exact bot_lt_top
  have h2 : ⊥ < Finset.univ.fold max ⊥ f := by
    rw [Finset.lt_fold_max]
    refine .inr ⟨a, Finset.mem_univ _, ?_⟩
    rw [hf, if_pos ha]; exact EReal.bot_lt_coe _
  exact ⟨_, (EReal.coe_toReal h1.ne h2.ne').symm⟩

theorem exp2_real' (x : ℝ) : Ideal.exp2 (x : EReal) = (((2 : ℝ) ^ x : ℝ) : EReal) := rfl

/-- A tile with a visible key adds its weights and its weighted values. -/
theorem Row.next {n : ℕ} {S : Fin n → EReal} {W : Fin n → Fin 128 → EReal} {m l : EReal} {a : Fin 128 → EReal} {m' l' : EReal} {a' : Fin 128 → EReal} {A : ℝ} {B : Fin 128 → ℝ}
    (h : Row A B m l a) (N : RowNext S W m l a m' l' a') (P : Fin n → Prop) [DecidablePred P] (s : Fin n → ℝ) (w : Fin n → Fin 128 → ℝ) (x : Fin n) (hx : P x)
    (hS : ∀ c, S c = if P c then ((s c : ℝ) : EReal) else ⊥) (hW : ∀ c e, W c e = ((w c e : ℝ) : EReal)) :
    Row (A + ∑ c, if P c then (2 : ℝ) ^ s c else 0) (fun e => B e + ∑ c, (if P c then (2 : ℝ) ^ s c else 0) * w c e) m' l' a' := by
  obtain ⟨M₀, hM₀⟩ := fold_coe S P s x hx hS
  have hT : ∃ M' : ℝ, m' = (M' : EReal) ∧ Ideal.exp2 (m - m') * l = (((2 : ℝ) ^ (-M') * A : ℝ) : EReal)
      ∧ ∀ e, Ideal.exp2 (m - m') * a e = (((2 : ℝ) ^ (-M') * B e : ℝ) : EReal) := by
    rcases h with ⟨hA, hB, hm, hl, ha⟩ | ⟨M, hm, hl, ha⟩
    · refine ⟨M₀, ?_, ?_, fun e => ?_⟩
      · rw [N.hm, hM₀, hm]; exact max_eq_right bot_le
      · rw [hl, hA, mul_zero, mul_zero, EReal.coe_zero]
      · rw [ha, hB, mul_zero, mul_zero, EReal.coe_zero]
    · have hm' : m' = ((max M M₀ : ℝ) : EReal) := by rw [N.hm, hM₀, hm]; exact (EReal.coe_strictMono.monotone.map_max).symm
      have e2 : ∀ y : ℝ, (2 : ℝ) ^ (M - max M M₀) * ((2 : ℝ) ^ (-M) * y) = (2 : ℝ) ^ (-max M M₀) * y := fun y => by
        rw [← mul_assoc, ← Real.rpow_add (by norm_num)]
        congr 2; ring
      refine ⟨max M M₀, hm', ?_, fun e => ?_⟩
      · rw [hm', hm, hl, ← EReal.coe_sub, exp2_real', ← EReal.coe_mul, e2]
      · rw [hm', hm, ha, ← EReal.coe_sub, exp2_real', ← EReal.coe_mul, e2]
  obtain ⟨M', hm', hl', ha'⟩ := hT
  have hp : ∀ c, Ideal.exp2 (S c - m') = (((2 : ℝ) ^ (-M') * (if P c then (2 : ℝ) ^ s c else 0) : ℝ) : EReal) := fun c => by
    rw [hS, hm']
    by_cases hc : P c
    · rw [if_pos hc, if_pos hc, ← EReal.coe_sub, exp2_real', ← Real.rpow_add (by norm_num)]
      congr 2; ring
    · rw [if_neg hc, if_neg hc, EReal.bot_sub, Ideal.exp2_bot, mul_zero, EReal.coe_zero]
  refine .inr ⟨M', hm', ?_, fun e => ?_⟩
  · rw [N.hl, hl', Finset.sum_congr rfl fun c _ => hp c, sum_coe, ← EReal.coe_add, ← Finset.mul_sum, ← mul_add]
  · rw [N.ha, ha', Finset.sum_congr rfl fun c _ => congrArg₂ (· * ·) (hp c) (hW c e), Finset.sum_congr rfl fun c _ => (EReal.coe_mul _ _).symm, sum_coe, ← EReal.coe_add, mul_add, Finset.mul_sum]
    refine congrArg (fun y : ℝ => ((_ + y : ℝ) : EReal)) (Finset.sum_congr rfl fun c _ => ?_)
    ring

/-- A sum over a tile whose rest is zero. -/
theorem sum_front (n N : ℕ) (hn : n ≤ N) (f : Fin N → ℝ) (hf : ∀ c : Fin N, n ≤ c.val → f c = 0) :
    ∑ c : Fin n, f ⟨c.val, lt_of_lt_of_le c.isLt hn⟩ = ∑ c, f c := by
  obtain ⟨k, rfl⟩ := Nat.exists_eq_add_of_le hn
  rw [Fin.sum_univ_add, Finset.sum_eq_zero (s := (Finset.univ : Finset (Fin k))) fun c _ => hf _ (by simp), add_zero]
  rfl

end Cert.Attn
-- ==== Proof.AttnPay.lean ====
/- What the attention's body computes of one tile of keys, row by row. -/
module

public import proofs.«01_k».proof.Proof.AttnRow
public import proofs.«01_k».proof.Proof.Gen.AttnIdeal.Skeleton
public import Idealize.ShloMosaic.Lib.Pipeline.ValueKit
public import Idealize.ShloMosaic.Lib.Pointwise

@[expose] public section

set_option maxRecDepth 16384

noncomputable section

namespace Cert.AttnIdeal.Pay

open Idealize.ShloMosaic TcCoe
open AttnIdeal AttnIdeal.Gen Ereal Attn

/-- The chunk of a position, as the body computes it. -/
def chunkW (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

theorem chunkW_fin : ∀ n : Fin 4096, chunkW n.val = BitVec.ofNat 32 (n.val / 64) := by decide +kernel
theorem chunkW_eq (n : ℕ) (hn : n < 4096) : chunkW n = BitVec.ofNat 32 (n / 64) := chunkW_fin ⟨n, hn⟩

/-- The comparison of a key's chunk with a query's. -/
theorem mask_word (kn qn c r : ℕ) (hk : kn < 4) (hq : qn < 16) (hc : c < 4096) (hr : r < 1024) (x y : EReal) :
    Scalar.select (IntOp.cmpi .sle (IntOp.addi (Scalar.muli (BitVec.ofNat 32 kn) 64#32) (chunkW c)) (IntOp.addi (Scalar.muli (BitVec.ofNat 32 qn) 16#32) (chunkW r))) x y
      = if kn * 64 + c / 64 ≤ qn * 16 + r / 64 then x else y := by
  rw [chunkW_eq c hc, chunkW_eq r (by omega)]
  have e1 : IntOp.addi (Scalar.muli (BitVec.ofNat 32 kn) 64#32) (BitVec.ofNat 32 (c / 64)) = BitVec.ofNat 32 (kn * 64 + c / 64) := by
    rw [BitVec.ofNat_add, BitVec.ofNat_mul]; rfl
  have e2 : IntOp.addi (Scalar.muli (BitVec.ofNat 32 qn) 16#32) (BitVec.ofNat 32 (r / 64)) = BitVec.ofNat 32 (qn * 16 + r / 64) := by
    rw [BitVec.ofNat_add, BitVec.ofNat_mul]; rfl
  rw [e1, e2, sle_word _ _ (by omega) (by omega)]
  by_cases h : kn * 64 + c / 64 ≤ qn * 16 + r / 64
  · rw [if_pos h, if_pos h]; rfl
  · rw [if_neg h, if_neg h]; rfl

theorem bot_word : Scalar.ofBits (F := Ideal) .f32 0xFF800000#32 = (⊥ : EReal) := lit_bot

/-- A tile's score, where the key's chunk is not later than the query's. -/
def scoreAt {n : ℕ} (qn kn : ℕ) (q : FVec Ideal S1024x256 .bf16) (k : (⟨2, ![n, 256]⟩ : Shape).Idx → EReal) (r : Fin 1024) (c : Fin n) : EReal :=
  if kn * 64 + c.val / 64 ≤ qn * 16 + r.val / 64 then ∑ j : Fin 256, q (ix2 r j) * k (ix2 c j) else ⊥

/-- A row's maximum, at any number of columns. -/
theorem rowmax {n : ℕ} (x : FVec Ideal ⟨2, ![1024, n]⟩ .f32) (h : (⟨2, ![1024, n]⟩ : Shape).Reduces [1] S1024) (hn) (hp) (r : Fin 1024) :
    shapeCast S1024x1 (multiReduction (F := Ideal) .maximumf [1] S1024 x 0xFF800000#32 h hn hp) shapeCasts_S1024_S1024x1 (ix2 r 0)
      = Finset.univ.fold max ⊥ fun c : Fin n => x (ix2 r c) := by
  have e : shapeCast S1024x1 (multiReduction (F := Ideal) .maximumf [1] S1024 x 0xFF800000#32 h hn hp) shapeCasts_S1024_S1024x1 (ix2 r 0)
      = multiReduction (F := Ideal) .maximumf [1] S1024 x 0xFF800000#32 h hn hp (ix1 r) := by
    generalize multiReduction (F := Ideal) .maximumf [1] S1024 x 0xFF800000#32 h hn hp = y
    pointwise
  rw [e, Ideal.multiReduction_maximumf_single]
  rw [show FloatOps.ofBits (F := Ideal) FTy.f32 0xFF800000#32 = (⊥ : EReal) from lit_bot]
  exact Finset.fold_congr fun b _ => congrArg x (funext fun x => Fin.ext (by match x with | ⟨0, _⟩ => rfl | ⟨1, _⟩ => rfl))
/-- A row's sum, at any number of columns. -/
theorem rowsum {n : ℕ} (x : FVec Ideal ⟨2, ![1024, n]⟩ .f32) (h : (⟨2, ![1024, n]⟩ : Shape).Reduces [1] S1024) (hn) (hp) (r : Fin 1024) :
    shapeCast S1024x1 (multiReduction (F := Ideal) .add [1] S1024 x 0x00000000#32 h hn hp) shapeCasts_S1024_S1024x1 (ix2 r 0)
      = ∑ c : Fin n, x (ix2 r c) := by
  have e : shapeCast S1024x1 (multiReduction (F := Ideal) .add [1] S1024 x 0x00000000#32 h hn hp) shapeCasts_S1024_S1024x1 (ix2 r 0)
      = multiReduction (F := Ideal) .add [1] S1024 x 0x00000000#32 h hn hp (ix1 r) := by
    generalize multiReduction (F := Ideal) .add [1] S1024 x 0x00000000#32 h hn hp = y
    pointwise
  rw [e, Ideal.multiReduction_add_single]
  exact Finset.sum_congr rfl fun b _ => congrArg x (funext fun x => Fin.ext (by match x with | ⟨0, _⟩ => rfl | ⟨1, _⟩ => rfl))
/-- A column over the lanes. -/
theorem over {n : ℕ} (y : FVec Ideal S1024x1 .f32) (h : S1024x1.Broadcasts ⟨2, ![1024, n]⟩) (r : Fin 1024) (c : Fin n) :
    broadcastTo ⟨2, ![1024, n]⟩ y h (ix2 r c) = y (ix2 r 0) := by
  pointwise
theorem cast1 (y : FVec Ideal S1024x1 .f32) (r : Fin 1024) : shapeCast S1024x1 y shapeCasts_S1024x1_S1024x1 (ix2 r 0) = y (ix2 r 0) := by
  pointwise
section Whole
variable (q : FVec Ideal S1024x256 .bf16) (k : FVec Ideal S4096x256 .bf16) (v : FVec Ideal S4096x128 .bf16) (m l : FVec Ideal S1024x1 .f32) (a : FVec Ideal S1024x128 .f32)

theorem scoreW (r : Fin 1024) (c : Fin 4096) : k0_pay3 (F := Ideal) q k (ix2 r c) = ∑ j : Fin 256, q (ix2 r j) * k (ix2 c j) := by
  pointwise [k0_pay3]
theorem dotW (r : Fin 1024) (e : Fin 128) : k0_pay8 (F := Ideal) q k m a v (ix2 r e) = (k0_pay5 (F := Ideal) q k m (ix2 r 0) : EReal) * a (ix2 r e) + ∑ c, (k0_pay6 (F := Ideal) q k m (ix2 r c) : EReal) * v (ix2 c e) := by
  pointwise [k0_pay8]

/-- A tile of keys seen whole. -/
theorem nextW_at (r : Fin 1024) : RowNext (fun c => k0_pay3 (F := Ideal) q k (ix2 r c)) (fun c e => v (ix2 c e)) (m (ix2 r 0)) (l (ix2 r 0)) (fun e => a (ix2 r e))
    (k0_pay9 (F := Ideal) q k m (ix2 r 0)) (k0_pay7 (F := Ideal) q k m l (ix2 r 0)) (fun e => k0_pay8 (F := Ideal) q k m a v (ix2 r e)) := by
  have e9 : k0_pay9 (F := Ideal) q k m (ix2 r 0) = k0_pay4 (F := Ideal) q k m (ix2 r 0) := by
    unfold k0_pay9; exact cast1 _ r
  have e8 : ∀ c, k0_pay6 (F := Ideal) q k m (ix2 r c) = Ideal.exp2 (k0_pay3 (F := Ideal) q k (ix2 r c) - k0_pay4 (F := Ideal) q k m (ix2 r 0)) := fun c => by
    unfold k0_pay6
    exact congrArg (fun z => Ideal.exp2 (k0_pay3 (F := Ideal) q k (ix2 r c) - z)) (over (k0_pay4 (F := Ideal) q k m) _ r c)
  rw [e9]
  refine ⟨congrArg (max _) (rowmax _ _ _ _ r), ?_, fun e => ?_⟩
  · unfold k0_pay7
    refine (cast1 _ r).trans ?_
    exact (congrArg (Ideal.exp2 (m (ix2 r 0) - k0_pay4 (F := Ideal) q k m (ix2 r 0)) * l (ix2 r 0) + ·) ((rowsum _ _ _ _ r).trans (Finset.sum_congr rfl fun c _ => e8 c)))
  · exact (dotW q k v m a r e).trans (congrArg (_ + ·) (Finset.sum_congr rfl fun c _ => congrArg (· * v (ix2 c e)) (e8 c)))
end Whole

section Masked1024
variable (v52 : FVec Ideal S1024x1024 .f32) (v80 : IVec S1024x1024 32) (v81 : BitVec 32) (v82 : IVec S1024x1024 32) (w : BitVec 32) (v84 v87 v90 : IVec S1024x1024 32)
variable (v : FVec Ideal S1024x128 .bf16) (m l : FVec Ideal S1024x1 .f32) (a : FVec Ideal S1024x128 .f32)

theorem dot1024 (P : FVec Ideal S1024x1024 .f32) (r : Fin 1024) (e : Fin 128) : k0_pay57 P a v (ix2 r e) = a (ix2 r e) + ∑ c, P (ix2 r c) * v (ix2 c e) := by
  pointwise [k0_pay57]

/-- A tile of 1024 keys under the mask. -/
theorem masked1024_at (r : Fin 1024) : RowNext (fun c => k0_pay15 (F := Ideal) v52 v80 v81 v82 w v84 v87 v90 (ix2 r c)) (fun c e => v (ix2 c e)) (m (ix2 r 0)) (l (ix2 r 0)) (fun e => a (ix2 r e))
    (k0_pay58 (k0_pay16 v52 v80 v81 v82 w v84 v87 v90 m) (ix2 r 0)) (k0_pay19 v52 v80 v81 v82 w v84 v87 v90 m l (ix2 r 0)) (fun e => k0_pay57 (k0_pay18 v52 v80 v81 v82 w v84 v87 v90 m) (k0_pay20 v52 v80 v81 v82 w v84 v87 v90 m a) v (ix2 r e)) := by
  have e9 : k0_pay58 (F := Ideal) (k0_pay16 v52 v80 v81 v82 w v84 v87 v90 m) (ix2 r 0) = k0_pay16 v52 v80 v81 v82 w v84 v87 v90 m (ix2 r 0) := by
    unfold k0_pay58; exact cast1 _ r
  have e8 : ∀ c, k0_pay18 (F := Ideal) v52 v80 v81 v82 w v84 v87 v90 m (ix2 r c) = Ideal.exp2 (k0_pay15 (F := Ideal) v52 v80 v81 v82 w v84 v87 v90 (ix2 r c) - k0_pay16 v52 v80 v81 v82 w v84 v87 v90 m (ix2 r 0)) := fun c =>
    congrArg (fun z => Ideal.exp2 (k0_pay15 (F := Ideal) v52 v80 v81 v82 w v84 v87 v90 (ix2 r c) - z)) (over (k0_pay16 v52 v80 v81 v82 w v84 v87 v90 m) _ r c)
  have e10 : ∀ e, k0_pay20 (F := Ideal) v52 v80 v81 v82 w v84 v87 v90 m a (ix2 r e) = Ideal.exp2 (m (ix2 r 0) - k0_pay16 v52 v80 v81 v82 w v84 v87 v90 m (ix2 r 0)) * a (ix2 r e) := fun e =>
    congrArg (· * a (ix2 r e)) (over (k0_pay17 v52 v80 v81 v82 w v84 v87 v90 m) _ r e)
  rw [e9]
  refine ⟨congrArg (max _) (rowmax _ _ _ _ r), ?_, fun e => ?_⟩
  · unfold k0_pay19
    refine (cast1 _ r).trans ?_
    exact (congrArg (Ideal.exp2 (m (ix2 r 0) - k0_pay16 v52 v80 v81 v82 w v84 v87 v90 m (ix2 r 0)) * l (ix2 r 0) + ·) ((rowsum _ _ _ _ r).trans (Finset.sum_congr rfl fun c _ => e8 c)))
  · exact (dot1024 v _ _ r e).trans (congrArg₂ (· + ·) (e10 e) (Finset.sum_congr rfl fun c _ => congrArg (· * v (ix2 c e)) (e8 c)))

/-- The masked scores of 1024 keys. -/
theorem score1024_at (q : FVec Ideal S1024x256 .bf16) (k : FVec Ideal S1024x256 .bf16) (qn kn : ℕ) (hq : qn < 16) (hk : kn < 4) (r : Fin 1024) (c : Fin 1024) :
    k0_pay15 (F := Ideal) (k0_pay10 q k) (k0_pay11 (F := Ideal) (BitVec.ofNat 32 qn)) (Scalar.muli (BitVec.ofNat 32 kn) 64#32) (iota .tc S1024x1024 32 [1] iota_S1024x1024_d1_w32) 64#32 k0_pay12 k0_pay13 k0_pay14 (ix2 r c) = scoreAt qn kn q k r c := by
  have e : k0_pay10 (F := Ideal) q k (ix2 r c) = ∑ j : Fin 256, q (ix2 r j) * k (ix2 c j) := by pointwise [k0_pay10]
  generalize k0_pay10 (F := Ideal) q k = y at e
  pointwise [k0_pay15, k0_pay11, k0_pay12, k0_pay13, k0_pay14]
  refine (mask_word kn qn c.val r.val hk hq (by omega) r.isLt _ _).trans ?_
  rw [scoreAt, ← e]
  exact congrArg _ bot_word

end Masked1024

section Masked2048
variable (v52 : FVec Ideal S1024x2048 .f32) (v80 : IVec S1024x2048 32) (v81 : BitVec 32) (v82 : IVec S1024x2048 32) (w : BitVec 32) (v84 v87 v90 : IVec S1024x2048 32)
variable (v : FVec Ideal S2048x128 .bf16) (m l : FVec Ideal S1024x1 .f32) (a : FVec Ideal S1024x128 .f32)

theorem dot2048 (P : FVec Ideal S1024x2048 .f32) (r : Fin 1024) (e : Fin 128) : k0_pay59 P a v (ix2 r e) = a (ix2 r e) + ∑ c, P (ix2 r c) * v (ix2 c e) := by
  pointwise [k0_pay59]

/-- A tile of 2048 keys under the mask. -/
theorem masked2048_at (r : Fin 1024) : RowNext (fun c => k0_pay26 (F := Ideal) v52 v80 v81 v82 w v84 v87 v90 (ix2 r c)) (fun c e => v (ix2 c e)) (m (ix2 r 0)) (l (ix2 r 0)) (fun e => a (ix2 r e))
    (k0_pay60 (k0_pay27 v52 v80 v81 v82 w v84 v87 v90 m) (ix2 r 0)) (k0_pay30 v52 v80 v81 v82 w v84 v87 v90 m l (ix2 r 0)) (fun e => k0_pay59 (k0_pay29 v52 v80 v81 v82 w v84 v87 v90 m) (k0_pay31 v52 v80 v81 v82 w v84 v87 v90 m a) v (ix2 r e)) := by
  have e9 : k0_pay60 (F := Ideal) (k0_pay27 v52 v80 v81 v82 w v84 v87 v90 m) (ix2 r 0) = k0_pay27 v52 v80 v81 v82 w v84 v87 v90 m (ix2 r 0) := by
    unfold k0_pay60; exact cast1 _ r
  have e8 : ∀ c, k0_pay29 (F := Ideal) v52 v80 v81 v82 w v84 v87 v90 m (ix2 r c) = Ideal.exp2 (k0_pay26 (F := Ideal) v52 v80 v81 v82 w v84 v87 v90 (ix2 r c) - k0_pay27 v52 v80 v81 v82 w v84 v87 v90 m (ix2 r 0)) := fun c =>
    congrArg (fun z => Ideal.exp2 (k0_pay26 (F := Ideal) v52 v80 v81 v82 w v84 v87 v90 (ix2 r c) - z)) (over (k0_pay27 v52 v80 v81 v82 w v84 v87 v90 m) _ r c)
  have e10 : ∀ e, k0_pay31 (F := Ideal) v52 v80 v81 v82 w v84 v87 v90 m a (ix2 r e) = Ideal.exp2 (m (ix2 r 0) - k0_pay27 v52 v80 v81 v82 w v84 v87 v90 m (ix2 r 0)) * a (ix2 r e) := fun e =>
    congrArg (· * a (ix2 r e)) (over (k0_pay28 v52 v80 v81 v82 w v84 v87 v90 m) _ r e)
  rw [e9]
  refine ⟨congrArg (max _) (rowmax _ _ _ _ r), ?_, fun e => ?_⟩
  · unfold k0_pay30
    refine (cast1 _ r).trans ?_
    exact (congrArg (Ideal.exp2 (m (ix2 r 0) - k0_pay27 v52 v80 v81 v82 w v84 v87 v90 m (ix2 r 0)) * l (ix2 r 0) + ·) ((rowsum _ _ _ _ r).trans (Finset.sum_congr rfl fun c _ => e8 c)))
  · exact (dot2048 v _ _ r e).trans (congrArg₂ (· + ·) (e10 e) (Finset.sum_congr rfl fun c _ => congrArg (· * v (ix2 c e)) (e8 c)))

/-- The masked scores of 2048 keys. -/
theorem score2048_at (q : FVec Ideal S1024x256 .bf16) (k : FVec Ideal S2048x256 .bf16) (qn kn : ℕ) (hq : qn < 16) (hk : kn < 4) (r : Fin 1024) (c : Fin 2048) :
    k0_pay26 (F := Ideal) (k0_pay21 q k) (k0_pay22 (F := Ideal) (BitVec.ofNat 32 qn)) (Scalar.muli (BitVec.ofNat 32 kn) 64#32) (iota .tc S1024x2048 32 [1] iota_S1024x2048_d1_w32) 64#32 k0_pay23 k0_pay24 k0_pay25 (ix2 r c) = scoreAt qn kn q k r c := by
  have e : k0_pay21 (F := Ideal) q k (ix2 r c) = ∑ j : Fin 256, q (ix2 r j) * k (ix2 c j) := by pointwise [k0_pay21]
  generalize k0_pay21 (F := Ideal) q k = y at e
  pointwise [k0_pay26, k0_pay22, k0_pay23, k0_pay24, k0_pay25]
  refine (mask_word kn qn c.val r.val hk hq (by omega) r.isLt _ _).trans ?_
  rw [scoreAt, ← e]
  exact congrArg _ bot_word

end Masked2048

section Masked3072
variable (v52 : FVec Ideal S1024x3072 .f32) (v80 : IVec S1024x3072 32) (v81 : BitVec 32) (v82 : IVec S1024x3072 32) (w : BitVec 32) (v84 v87 v90 : IVec S1024x3072 32)
variable (v : FVec Ideal S3072x128 .bf16) (m l : FVec Ideal S1024x1 .f32) (a : FVec Ideal S1024x128 .f32)

theorem dot3072 (P : FVec Ideal S1024x3072 .f32) (r : Fin 1024) (e : Fin 128) : k0_pay61 P a v (ix2 r e) = a (ix2 r e) + ∑ c, P (ix2 r c) * v (ix2 c e) := by
  pointwise [k0_pay61]

/-- A tile of 3072 keys under the mask. -/
theorem masked3072_at (r : Fin 1024) : RowNext (fun c => k0_pay37 (F := Ideal) v52 v80 v81 v82 w v84 v87 v90 (ix2 r c)) (fun c e => v (ix2 c e)) (m (ix2 r 0)) (l (ix2 r 0)) (fun e => a (ix2 r e))
    (k0_pay62 (k0_pay38 v52 v80 v81 v82 w v84 v87 v90 m) (ix2 r 0)) (k0_pay41 v52 v80 v81 v82 w v84 v87 v90 m l (ix2 r 0)) (fun e => k0_pay61 (k0_pay40 v52 v80 v81 v82 w v84 v87 v90 m) (k0_pay42 v52 v80 v81 v82 w v84 v87 v90 m a) v (ix2 r e)) := by
  have e9 : k0_pay62 (F := Ideal) (k0_pay38 v52 v80 v81 v82 w v84 v87 v90 m) (ix2 r 0) = k0_pay38 v52 v80 v81 v82 w v84 v87 v90 m (ix2 r 0) := by
    unfold k0_pay62; exact cast1 _ r
  have e8 : ∀ c, k0_pay40 (F := Ideal) v52 v80 v81 v82 w v84 v87 v90 m (ix2 r c) = Ideal.exp2 (k0_pay37 (F := Ideal) v52 v80 v81 v82 w v84 v87 v90 (ix2 r c) - k0_pay38 v52 v80 v81 v82 w v84 v87 v90 m (ix2 r 0)) := fun c =>
    congrArg (fun z => Ideal.exp2 (k0_pay37 (F := Ideal) v52 v80 v81 v82 w v84 v87 v90 (ix2 r c) - z)) (over (k0_pay38 v52 v80 v81 v82 w v84 v87 v90 m) _ r c)
  have e10 : ∀ e, k0_pay42 (F := Ideal) v52 v80 v81 v82 w v84 v87 v90 m a (ix2 r e) = Ideal.exp2 (m (ix2 r 0) - k0_pay38 v52 v80 v81 v82 w v84 v87 v90 m (ix2 r 0)) * a (ix2 r e) := fun e =>
    congrArg (· * a (ix2 r e)) (over (k0_pay39 v52 v80 v81 v82 w v84 v87 v90 m) _ r e)
  rw [e9]
  refine ⟨congrArg (max _) (rowmax _ _ _ _ r), ?_, fun e => ?_⟩
  · unfold k0_pay41
    refine (cast1 _ r).trans ?_
    exact (congrArg (Ideal.exp2 (m (ix2 r 0) - k0_pay38 v52 v80 v81 v82 w v84 v87 v90 m (ix2 r 0)) * l (ix2 r 0) + ·) ((rowsum _ _ _ _ r).trans (Finset.sum_congr rfl fun c _ => e8 c)))
  · exact (dot3072 v _ _ r e).trans (congrArg₂ (· + ·) (e10 e) (Finset.sum_congr rfl fun c _ => congrArg (· * v (ix2 c e)) (e8 c)))

/-- The masked scores of 3072 keys. -/
theorem score3072_at (q : FVec Ideal S1024x256 .bf16) (k : FVec Ideal S3072x256 .bf16) (qn kn : ℕ) (hq : qn < 16) (hk : kn < 4) (r : Fin 1024) (c : Fin 3072) :
    k0_pay37 (F := Ideal) (k0_pay32 q k) (k0_pay33 (F := Ideal) (BitVec.ofNat 32 qn)) (Scalar.muli (BitVec.ofNat 32 kn) 64#32) (iota .tc S1024x3072 32 [1] iota_S1024x3072_d1_w32) 64#32 k0_pay34 k0_pay35 k0_pay36 (ix2 r c) = scoreAt qn kn q k r c := by
  have e : k0_pay32 (F := Ideal) q k (ix2 r c) = ∑ j : Fin 256, q (ix2 r j) * k (ix2 c j) := by pointwise [k0_pay32]
  generalize k0_pay32 (F := Ideal) q k = y at e
  pointwise [k0_pay37, k0_pay33, k0_pay34, k0_pay35, k0_pay36]
  refine (mask_word kn qn c.val r.val hk hq (by omega) r.isLt _ _).trans ?_
  rw [scoreAt, ← e]
  exact congrArg _ bot_word

end Masked3072

section Masked4096
variable (v52 : FVec Ideal S1024x4096 .f32) (v80 : IVec S1024x4096 32) (v81 : BitVec 32) (v82 : IVec S1024x4096 32) (w : BitVec 32) (v84 v87 v90 : IVec S1024x4096 32)
variable (v : FVec Ideal S4096x128 .bf16) (m l : FVec Ideal S1024x1 .f32) (a : FVec Ideal S1024x128 .f32)

theorem dot4096 (P : FVec Ideal S1024x4096 .f32) (r : Fin 1024) (e : Fin 128) : k0_pay63 P a v (ix2 r e) = a (ix2 r e) + ∑ c, P (ix2 r c) * v (ix2 c e) := by
  pointwise [k0_pay63]

/-- A tile of 4096 keys under the mask. -/
theorem masked4096_at (r : Fin 1024) : RowNext (fun c => k0_pay48 (F := Ideal) v52 v80 v81 v82 w v84 v87 v90 (ix2 r c)) (fun c e => v (ix2 c e)) (m (ix2 r 0)) (l (ix2 r 0)) (fun e => a (ix2 r e))
    (k0_pay64 (k0_pay49 v52 v80 v81 v82 w v84 v87 v90 m) (ix2 r 0)) (k0_pay52 v52 v80 v81 v82 w v84 v87 v90 m l (ix2 r 0)) (fun e => k0_pay63 (k0_pay51 v52 v80 v81 v82 w v84 v87 v90 m) (k0_pay53 v52 v80 v81 v82 w v84 v87 v90 m a) v (ix2 r e)) := by
  have e9 : k0_pay64 (F := Ideal) (k0_pay49 v52 v80 v81 v82 w v84 v87 v90 m) (ix2 r 0) = k0_pay49 v52 v80 v81 v82 w v84 v87 v90 m (ix2 r 0) := by
    unfold k0_pay64; exact cast1 _ r
  have e8 : ∀ c, k0_pay51 (F := Ideal) v52 v80 v81 v82 w v84 v87 v90 m (ix2 r c) = Ideal.exp2 (k0_pay48 (F := Ideal) v52 v80 v81 v82 w v84 v87 v90 (ix2 r c) - k0_pay49 v52 v80 v81 v82 w v84 v87 v90 m (ix2 r 0)) := fun c =>
    congrArg (fun z => Ideal.exp2 (k0_pay48 (F := Ideal) v52 v80 v81 v82 w v84 v87 v90 (ix2 r c) - z)) (over (k0_pay49 v52 v80 v81 v82 w v84 v87 v90 m) _ r c)
  have e10 : ∀ e, k0_pay53 (F := Ideal) v52 v80 v81 v82 w v84 v87 v90 m a (ix2 r e) = Ideal.exp2 (m (ix2 r 0) - k0_pay49 v52 v80 v81 v82 w v84 v87 v90 m (ix2 r 0)) * a (ix2 r e) := fun e =>
    congrArg (· * a (ix2 r e)) (over (k0_pay50 v52 v80 v81 v82 w v84 v87 v90 m) _ r e)
  rw [e9]
  refine ⟨congrArg (max _) (rowmax _ _ _ _ r), ?_, fun e => ?_⟩
  · unfold k0_pay52
    refine (cast1 _ r).trans ?_
    exact (congrArg (Ideal.exp2 (m (ix2 r 0) - k0_pay49 v52 v80 v81 v82 w v84 v87 v90 m (ix2 r 0)) * l (ix2 r 0) + ·) ((rowsum _ _ _ _ r).trans (Finset.sum_congr rfl fun c _ => e8 c)))
  · exact (dot4096 v _ _ r e).trans (congrArg₂ (· + ·) (e10 e) (Finset.sum_congr rfl fun c _ => congrArg (· * v (ix2 c e)) (e8 c)))

/-- The masked scores of 4096 keys. -/
theorem score4096_at (q : FVec Ideal S1024x256 .bf16) (k : FVec Ideal S4096x256 .bf16) (qn kn : ℕ) (hq : qn < 16) (hk : kn < 4) (r : Fin 1024) (c : Fin 4096) :
    k0_pay48 (F := Ideal) (k0_pay43 q k) (k0_pay44 (F := Ideal) (BitVec.ofNat 32 qn)) (Scalar.muli (BitVec.ofNat 32 kn) 64#32) (iota .tc S1024x4096 32 [1] iota_S1024x4096_d1_w32) 64#32 k0_pay45 k0_pay46 k0_pay47 (ix2 r c) = scoreAt qn kn q k r c := by
  have e : k0_pay43 (F := Ideal) q k (ix2 r c) = ∑ j : Fin 256, q (ix2 r j) * k (ix2 c j) := by pointwise [k0_pay43]
  generalize k0_pay43 (F := Ideal) q k = y at e
  pointwise [k0_pay48, k0_pay44, k0_pay45, k0_pay46, k0_pay47]
  refine (mask_word kn qn c.val r.val hk hq (by omega) r.isLt _ _).trans ?_
  rw [scoreAt, ← e]
  exact congrArg _ bot_word

end Masked4096

theorem bot54_at (r : Fin 1024) : k0_pay54 (F := Ideal) (ix2 r 0) = ⊥ := by rw [← lit_bot]; pointwise [k0_pay54]
theorem zero55_at (r : Fin 1024) : k0_pay55 (F := Ideal) (ix2 r 0) = 0 := by pointwise [k0_pay55]
theorem zero56_at (r : Fin 1024) (e : Fin 128) : k0_pay56 (F := Ideal) (ix2 r e) = 0 := by pointwise [k0_pay56]
/-- The output: the weighted values over the weights' total. -/
theorem pay1_at (l : FVec Ideal S1024x1 .f32) (a : FVec Ideal S1024x128 .f32) (r : Fin 1024) (e : Fin 128) :
    k0_pay1 (F := Ideal) l a (ix2 r e) = Ideal.div (a (ix2 r e)) (l (ix2 r 0)) := by pointwise [k0_pay1]
/-- The logarithm of the weights' total, to base two. -/
theorem pay2_at (l m : FVec Ideal S1024x1 .f32) (r : Fin 1024) (e : Fin 128) :
    k0_pay2 (F := Ideal) l m (ix2 r e) = m (ix2 r 0) + Ideal.log (l (ix2 r 0)) * (((Real.log 2)⁻¹ : ℝ) : EReal) := by
  have e' : Named.named (F := Ideal) (φ := .f32) κ "log2e" 0x3FB8AA3B#32 = (((Real.log 2)⁻¹ : ℝ) : EReal) := IdealRules.named_const.ideal_named_scalar _ _ _ _ rfl
  pointwise [k0_pay2]
  exact congrArg _ (congrArg _ e')
end Cert.AttnIdeal.Pay
-- ==== Proof.AttnBlock.lean ====
/- What a tile of keys adds to a row of the attention's running sums, as real numbers. -/
module

public import proofs.«01_k».proof.Proof.AttnPoints
public import proofs.«01_k».proof.Proof.AttnHost
public import proofs.«01_k».proof.Proof.AttnPay
public import proofs.«01_k».proof.Proof.FlashTotals

@[expose] public section

set_option maxRecDepth 16384

noncomputable section

namespace Cert.AttnIdeal.Pay

open Idealize.ShloMosaic TcCoe
open AttnIdeal AttnIdeal.Gen Ereal Attn
open FlashIdeal.Pay (rq qs padd_dot pow_exp window_at)

/-- Row `c` of tile `kn` of keys. -/
def rk (kn : Fin 4) (c : Fin 4096) : Fin 16384 := ⟨kn.val * 4096 + c.val, by omega⟩

variable (q k : Fin 16384 → Fin 8 → Fin 192 → ℝ) (v : Fin 16384 → Fin 8 → Fin 128 → ℝ)

/-- A tile's weights and its weighted values. -/
def wA (h : Fin 8) (a : Fin 16384) (kn : Fin 4) : ℝ := ∑ c, wt q k 0 h a (rk kn c)
def vB (h : Fin 8) (a : Fin 16384) (kn : Fin 4) (e : Fin 128) : ℝ := ∑ c, wt q k 0 h a (rk kn c) * v (rk kn c) h e

/-- A point's blocks hold tile `qn` of the queries and tile `kn` of the keys and values of head `h`. -/
structure Holds (b : Body.Blk Ideal) (h : Fin 8) (qn : Fin 16) (kn : Fin 4) : Prop where
  hq : ∀ r j, b.q (ix2 r j) = ((qs q h (rq qn r) j : ℝ) : EReal)
  hk : ∀ c j, b.k (ix2 c j) = ((padd (k (rk kn c) h) j : ℝ) : EReal)
  hv : ∀ c e, b.v (ix2 c e) = ((v (rk kn c) h e : ℝ) : EReal)

theorem seen_iff (qn : Fin 16) (kn : Fin 4) (r : Fin 1024) (c : Fin 4096) : seen (rq qn r) (rk kn c) ↔ kn.val * 64 + c.val / 64 ≤ qn.val * 16 + r.val / 64 := by
  unfold seen rq rk
  show (kn.val * 4096 + c.val) / 64 ≤ (qn.val * 1024 + r.val) / 64 ↔ _
  omega

/-- A weight as a power of two. -/
theorem wt_pow (h : Fin 8) (a b : Fin 16384) : wt q k 0 h a b = if seen a b then (2 : ℝ) ^ (∑ j, qs q h a j * padd (k b h) j) else 0 := by
  unfold wt
  rw [← pow_exp q k h a b 0, zero_div, sub_zero]

variable (h : Fin 8) (qn : Fin 16) (kn : Fin 4) (r : Fin 1024)

/-- A tile of keys, of which the first `n` may be visible, adds its weights and weighted values. -/
theorem tile_row (n : ℕ) (hn : n ≤ 4096) (hpos : 0 < n) (hvis : kn.val * 4 ≤ qn.val) (hrest : n = 4096 ∨ qn.val * 1024 + 1024 ≤ kn.val * 4096 + n)
    {S : Fin n → EReal} {W : Fin n → Fin 128 → EReal} {m l : EReal} {a : Fin 128 → EReal} {m' l' : EReal} {a' : Fin 128 → EReal} {A : ℝ} {B : Fin 128 → ℝ}
    (h₀ : Row A B m l a) (N : RowNext S W m l a m' l' a')
    (hS : ∀ c : Fin n, S c = if seen (rq qn r) (rk kn ⟨c.val, by omega⟩) then ((∑ j, qs q h (rq qn r) j * padd (k (rk kn ⟨c.val, by omega⟩) h) j : ℝ) : EReal) else ⊥)
    (hW : ∀ (c : Fin n) e, W c e = ((v (rk kn ⟨c.val, by omega⟩) h e : ℝ) : EReal)) :
    Row (A + wA q k h (rq qn r) kn) (fun e => B e + vB q k v h (rq qn r) kn e) m' l' a' := by
  have hid : ∀ c : Fin 4096, n ≤ c.val → wt q k 0 h (rq qn r) (rk kn c) = 0 := fun c hc => by
    unfold wt
    rw [if_neg]
    rw [seen_iff]
    omega
  have key := Row.next h₀ N (fun c : Fin n => seen (rq qn r) (rk kn ⟨c.val, by omega⟩)) (fun c => ∑ j, qs q h (rq qn r) j * padd (k (rk kn ⟨c.val, by omega⟩) h) j)
    (fun c e => v (rk kn ⟨c.val, by omega⟩) h e) ⟨0, hpos⟩ ((seen_iff qn kn r _).2 (by show kn.val * 64 + 0 / 64 ≤ _; omega)) hS hW
  simp only [← wt_pow] at key
  have e1 : ∑ c : Fin n, wt q k 0 h (rq qn r) (rk kn ⟨c.val, by omega⟩) = wA q k h (rq qn r) kn := sum_front n 4096 hn (fun c => wt q k 0 h (rq qn r) (rk kn c)) hid
  have e2 : ∀ e, ∑ c : Fin n, wt q k 0 h (rq qn r) (rk kn ⟨c.val, by omega⟩) * v (rk kn ⟨c.val, by omega⟩) h e = vB q k v h (rq qn r) kn e := fun e =>
    sum_front n 4096 hn (fun c => wt q k 0 h (rq qn r) (rk kn c) * v (rk kn c) h e) fun c hc => by rw [hid c hc, zero_mul]
  simp only [e1, e2] at key
  exact key

variable {h qn kn} {b : Body.Blk Ideal} (H : Holds q k v b h qn kn) {s : Body.St Ideal} {A : ℝ} {B : Fin 128 → ℝ}
include H

/-- The product of a query's and a key's rows. -/
theorem dot_tile {n : ℕ} (hn : n ≤ 4096) (K : (⟨2, ![n, 256]⟩ : Shape).Idx → EReal) (hK : ∀ (c : Fin n) j, K (ix2 c j) = ((padd (k (rk kn ⟨c.val, by omega⟩) h) j : ℝ) : EReal))
    (r : Fin 1024) (c : Fin n) : ∑ j : Fin 256, b.q (ix2 r j) * K (ix2 c j) = ((∑ j, qs q h (rq qn r) j * padd (k (rk kn ⟨c.val, by omega⟩) h) j : ℝ) : EReal) := by
  rw [← sum_coe]
  exact Finset.sum_congr rfl fun j _ => by rw [H.hq, hK, EReal.coe_mul]

theorem score_tile {n : ℕ} (hn : n ≤ 4096) (K : (⟨2, ![n, 256]⟩ : Shape).Idx → EReal) (hK : ∀ (c : Fin n) j, K (ix2 c j) = ((padd (k (rk kn ⟨c.val, by omega⟩) h) j : ℝ) : EReal))
    (r : Fin 1024) (c : Fin n) : scoreAt qn.val kn.val b.q K r c
      = if seen (rq qn r) (rk kn ⟨c.val, by omega⟩) then ((∑ j, qs q h (rq qn r) j * padd (k (rk kn ⟨c.val, by omega⟩) h) j : ℝ) : EReal) else ⊥ := by
  unfold scoreAt
  rw [dot_tile q k v H hn K hK]
  exact if_congr (seen_iff qn kn r ⟨c.val, by omega⟩).symm rfl rfl

/-! The five ways a tile of keys is taken in. -/

theorem nextW_row (hn : kn.val * 4 + 4 ≤ qn.val) (h₀ : Row A B (s.m (ix2 r 0)) (s.l (ix2 r 0)) fun e => s.a (ix2 r e)) :
    Row (A + wA q k h (rq qn r) kn) (fun e => B e + vB q k v h (rq qn r) kn e) ((Body.nextW b s).m (ix2 r 0)) ((Body.nextW b s).l (ix2 r 0)) fun e => (Body.nextW b s).a (ix2 r e) :=
  tile_row q k v h qn kn r 4096 (by omega) (by omega) (by omega) (by omega) h₀ (nextW_at b.q b.k b.v s.m s.l s.a r)
    (fun c => (scoreW b.q b.k r c).trans ((dot_tile q k v H (by omega) b.k (fun c j => H.hk c j) r c).trans (if_pos ((seen_iff qn kn r c).2 (by omega))).symm)) (fun c e => H.hv c e)

theorem next1_row (hn : qn.val = kn.val * 4 + 0) (h₀ : Row A B (s.m (ix2 r 0)) (s.l (ix2 r 0)) fun e => s.a (ix2 r e)) :
    Row (A + wA q k h (rq qn r) kn) (fun e => B e + vB q k v h (rq qn r) kn e) ((Body.next1 (BitVec.ofNat 32 qn.val) (BitVec.ofNat 32 kn.val) b s).m (ix2 r 0))
      ((Body.next1 (BitVec.ofNat 32 qn.val) (BitVec.ofNat 32 kn.val) b s).l (ix2 r 0)) fun e => (Body.next1 (BitVec.ofNat 32 qn.val) (BitVec.ofNat 32 kn.val) b s).a (ix2 r e) :=
  tile_row q k v h qn kn r 1024 (by omega) (by omega) (by omega) (by omega) h₀ (masked1024_at _ _ _ _ _ _ _ _ (b.vw 1024 inb_S4096x128_S1024x128_0_0) s.m s.l s.a r)
    (fun c => (score1024_at b.q (b.kw 1024 inb_S4096x256_S1024x256_0_0) qn.val kn.val qn.isLt kn.isLt r c).trans (score_tile q k v H (by omega) (b.kw 1024 inb_S4096x256_S1024x256_0_0) (fun c j => (window_at b.k _ c j).trans (H.hk ⟨c.val, by omega⟩ j)) r c)) (fun c e => (window_at b.v _ c e).trans (H.hv ⟨c.val, by omega⟩ e))

theorem next2_row (hn : qn.val = kn.val * 4 + 1) (h₀ : Row A B (s.m (ix2 r 0)) (s.l (ix2 r 0)) fun e => s.a (ix2 r e)) :
    Row (A + wA q k h (rq qn r) kn) (fun e => B e + vB q k v h (rq qn r) kn e) ((Body.next2 (BitVec.ofNat 32 qn.val) (BitVec.ofNat 32 kn.val) b s).m (ix2 r 0))
      ((Body.next2 (BitVec.ofNat 32 qn.val) (BitVec.ofNat 32 kn.val) b s).l (ix2 r 0)) fun e => (Body.next2 (BitVec.ofNat 32 qn.val) (BitVec.ofNat 32 kn.val) b s).a (ix2 r e) :=
  tile_row q k v h qn kn r 2048 (by omega) (by omega) (by omega) (by omega) h₀ (masked2048_at _ _ _ _ _ _ _ _ (b.vw 2048 inb_S4096x128_S2048x128_0_0) s.m s.l s.a r)
    (fun c => (score2048_at b.q (b.kw 2048 inb_S4096x256_S2048x256_0_0) qn.val kn.val qn.isLt kn.isLt r c).trans (score_tile q k v H (by omega) (b.kw 2048 inb_S4096x256_S2048x256_0_0) (fun c j => (window_at b.k _ c j).trans (H.hk ⟨c.val, by omega⟩ j)) r c)) (fun c e => (window_at b.v _ c e).trans (H.hv ⟨c.val, by omega⟩ e))

theorem next3_row (hn : qn.val = kn.val * 4 + 2) (h₀ : Row A B (s.m (ix2 r 0)) (s.l (ix2 r 0)) fun e => s.a (ix2 r e)) :
    Row (A + wA q k h (rq qn r) kn) (fun e => B e + vB q k v h (rq qn r) kn e) ((Body.next3 (BitVec.ofNat 32 qn.val) (BitVec.ofNat 32 kn.val) b s).m (ix2 r 0))
      ((Body.next3 (BitVec.ofNat 32 qn.val) (BitVec.ofNat 32 kn.val) b s).l (ix2 r 0)) fun e => (Body.next3 (BitVec.ofNat 32 qn.val) (BitVec.ofNat 32 kn.val) b s).a (ix2 r e) :=
  tile_row q k v h qn kn r 3072 (by omega) (by omega) (by omega) (by omega) h₀ (masked3072_at _ _ _ _ _ _ _ _ (b.vw 3072 inb_S4096x128_S3072x128_0_0) s.m s.l s.a r)
    (fun c => (score3072_at b.q (b.kw 3072 inb_S4096x256_S3072x256_0_0) qn.val kn.val qn.isLt kn.isLt r c).trans (score_tile q k v H (by omega) (b.kw 3072 inb_S4096x256_S3072x256_0_0) (fun c j => (window_at b.k _ c j).trans (H.hk ⟨c.val, by omega⟩ j)) r c)) (fun c e => (window_at b.v _ c e).trans (H.hv ⟨c.val, by omega⟩ e))

theorem next4_row (hn : qn.val = kn.val * 4 + 3) (h₀ : Row A B (s.m (ix2 r 0)) (s.l (ix2 r 0)) fun e => s.a (ix2 r e)) :
    Row (A + wA q k h (rq qn r) kn) (fun e => B e + vB q k v h (rq qn r) kn e) ((Body.next4 (BitVec.ofNat 32 qn.val) (BitVec.ofNat 32 kn.val) b s).m (ix2 r 0))
      ((Body.next4 (BitVec.ofNat 32 qn.val) (BitVec.ofNat 32 kn.val) b s).l (ix2 r 0)) fun e => (Body.next4 (BitVec.ofNat 32 qn.val) (BitVec.ofNat 32 kn.val) b s).a (ix2 r e) :=
  tile_row q k v h qn kn r 4096 (by omega) (by omega) (by omega) (by omega) h₀ (masked4096_at _ _ _ _ _ _ _ _ b.v s.m s.l s.a r)
    (fun c => (score4096_at b.q b.k qn.val kn.val qn.isLt kn.isLt r c).trans (score_tile q k v H (by omega) b.k (fun c j => H.hk c j) r c)) (fun c e => H.hv c e)

/-- A point adds its tile. -/
theorem next_row (hn : kn.val ≤ qn.val / 4) (h₀ : Row A B (s.m (ix2 r 0)) (s.l (ix2 r 0)) fun e => s.a (ix2 r e)) :
    Row (A + wA q k h (rq qn r) kn) (fun e => B e + vB q k v h (rq qn r) kn e) ((Body.next (BitVec.ofNat 32 qn.val) (BitVec.ofNat 32 kn.val) b s).m (ix2 r 0))
      ((Body.next (BitVec.ofNat 32 qn.val) (BitVec.ofNat 32 kn.val) b s).l (ix2 r 0)) fun e => (Body.next (BitVec.ofNat 32 qn.val) (BitVec.ofNat 32 kn.val) b s).a (ix2 r e) := by
  unfold Body.next
  by_cases c0 : kn.val * 4 + 4 ≤ qn.val
  · rw [if_pos ((Points.condW qn kn).2 c0)]; exact nextW_row q k v r H c0 h₀
  rw [if_neg (fun hc => c0 ((Points.condW qn kn).1 hc))]
  by_cases c1 : qn.val = kn.val * 4
  · rw [if_pos ((Points.cond1 qn kn).2 c1)]; exact next1_row q k v r H c1 h₀
  rw [if_neg (fun hc => c1 ((Points.cond1 qn kn).1 hc))]
  by_cases c2 : qn.val = kn.val * 4 + 1
  · rw [if_pos ((Points.cond2 qn kn).2 c2)]; exact next2_row q k v r H c2 h₀
  rw [if_neg (fun hc => c2 ((Points.cond2 qn kn).1 hc))]
  by_cases c3 : qn.val = kn.val * 4 + 2
  · rw [if_pos ((Points.cond3 qn kn).2 c3)]; exact next3_row q k v r H c3 h₀
  rw [if_neg (fun hc => c3 ((Points.cond3 qn kn).1 hc))]
  exact next4_row q k v r H (by omega) h₀

omit H in
/-- The sums over all tiles of keys are the sums over all keys. -/
theorem wA_total (h : Fin 8) (a : Fin 16384) : ∑ kn, wA q k h a kn = tot q k 0 h a :=
  Fin.sum_mul_add_congr (f := fun b => wt q k 0 h a b) (fun s r _ => rfl)
omit H in
theorem vB_total (h : Fin 8) (a : Fin 16384) (e : Fin 128) : ∑ kn, vB q k v h a kn e = ∑ b, wt q k 0 h a b * v b h e :=
  Fin.sum_mul_add_congr (f := fun b => wt q k 0 h a b * v b h e) (fun s r _ => rfl)
omit H in
/-- A tile of keys after a tile of queries has no visible key. -/
theorem wA_after (h : Fin 8) (qn : Fin 16) (kn : Fin 4) (hn : qn.val / 4 < kn.val) (r : Fin 1024) : wA q k h (rq qn r) kn = 0 :=
  Finset.sum_eq_zero fun c _ => by rw [wt, if_neg (by rw [seen_iff]; omega)]
omit H in
theorem vB_after (h : Fin 8) (qn : Fin 16) (kn : Fin 4) (hn : qn.val / 4 < kn.val) (r : Fin 1024) (e : Fin 128) : vB q k v h (rq qn r) kn e = 0 :=
  Finset.sum_eq_zero fun c _ => by rw [wt, if_neg (by rw [seen_iff]; omega), zero_mul]
end Cert.AttnIdeal.Pay
-- ==== Proof.AttnSteps.lean ====
/- What the attention's state holds after each point: the sums over the keys so far. -/
module

public import proofs.«01_k».proof.Proof.AttnBlock

@[expose] public section

set_option maxRecDepth 16384

noncomputable section

namespace Cert.AttnIdeal.Points

open Idealize.ShloMosaic TcCoe
open AttnIdeal AttnIdeal.Gen AttnIdeal.Launch AttnIdeal.Pay AttnIdeal.Host Ereal Attn
open FlashIdeal.Pay (rq qs sum_if_congr sum_if_next)

variable (m : (ℓ : Loc nD τ sig) → Buf (Elt Ideal) ℓ) (c : Dev nD)

omit m c in
/-- A block of a whole array, read at an index. -/
theorem read_slice (c : Dev nD) (b : Ref sig .tc) (A : Buf (Elt Ideal) ((c.tc : Thread nD τ).loc b)) (off size : Fin b.ty.shape.rank → ℕ) (inb) (y : (Rect.unit (s := b.ty.shape) off size inb).shape.Idx) (i : b.ty.shape.Idx)
    (h : ∀ a, (i a).val = off a + (y a).val) : ((View.whole b).slice (Rect.unit off size inb)).read (Elt Ideal) A y = A i :=
  congrArg A (funext fun a => Fin.ext ((ValueKit.view_emb_slice_whole_unit_val b off size inb y a).trans (h a).symm))

theorem read_q (t : Fin (cfgT (F := Ideal)).N) (r : Fin 1024) (j : Fin 256) : (blk m c t).q (ix2 r j) = V m c main_v8 (ix2 (rq (qt t) r) (colw (hd t) j)) := by
  have e := idx0 t
  refine AttnIdeal.Points.read_slice c main_v8 (V m c main_v8) (fun a => ((cfgT (F := Ideal)).win 0).index t a * S1024x256.size a) S1024x256.size (fun a => Pipeline.Clip.OkAt.inb (((cfgT (F := Ideal)).win 0).hclip (grid0.coords t) a)) (ix2 r j) _ fun a => ?_
  refine Eq.trans ?_ (congrArg (fun n : ℕ => n * S1024x256.size a + (ix2 r j a).val) (congrFun e a).symm)
  match a with
  | ⟨0, _⟩ => rfl
  | ⟨1, _⟩ => rfl

theorem read_k (t : Fin (cfgT (F := Ideal)).N) (r : Fin 4096) (j : Fin 256) : (blk m c t).k (ix2 r j) = V m c main_v11 (ix2 (rk (kt t) r) (colw (hd t) j)) := by
  have e := idx1 t
  refine AttnIdeal.Points.read_slice c main_v11 (V m c main_v11) (fun a => ((cfgT (F := Ideal)).win 1).index t a * S4096x256.size a) S4096x256.size (fun a => Pipeline.Clip.OkAt.inb (((cfgT (F := Ideal)).win 1).hclip (grid0.coords t) a)) (ix2 r j) _ fun a => ?_
  refine Eq.trans ?_ (congrArg (fun n : ℕ => n * S4096x256.size a + (ix2 r j a).val) (congrFun e a).symm)
  match a with
  | ⟨0, _⟩ => rfl
  | ⟨1, _⟩ => rfl

theorem read_v (t : Fin (cfgT (F := Ideal)).N) (r : Fin 4096) (j : Fin 128) : (blk m c t).v (ix2 r j) = V m c main_v13 (ix2 (rk (kt t) r) (coln (hd t) j)) := by
  have e := idx2 t
  refine AttnIdeal.Points.read_slice c main_v13 (V m c main_v13) (fun a => ((cfgT (F := Ideal)).win 2).index t a * S4096x128.size a) S4096x128.size (fun a => Pipeline.Clip.OkAt.inb (((cfgT (F := Ideal)).win 2).hclip (grid0.coords t) a)) (ix2 r j) _ fun a => ?_
  refine Eq.trans ?_ (congrArg (fun n : ℕ => n * S4096x128.size a + (ix2 r j a).val) (congrFun e a).symm)
  match a with
  | ⟨0, _⟩ => rfl
  | ⟨1, _⟩ => rfl

variable (q k : Fin 16384 → Fin 8 → Fin 192 → ℝ) (v : Fin 16384 → Fin 8 → Fin 128 → ℝ)
variable (hq : ∀ a h d, m (c.tc.loc main_arg0) (ix3 a h d) = (q a h d : EReal))
  (hk : ∀ a h d, m (c.tc.loc main_arg1) (ix3 a h d) = (k a h d : EReal))
  (hv : ∀ a h e, m (c.tc.loc main_arg2) (ix3 a h e) = (v a h e : EReal))

/-- The sums over the first `n` tiles of keys. -/
def sA (h : Fin 8) (a : Fin 16384) (n : ℕ) : ℝ := ∑ i : Fin 4, if i.val < n then wA q k h a i else 0
def sB (h : Fin 8) (a : Fin 16384) (n : ℕ) (e : Fin 128) : ℝ := ∑ i : Fin 4, if i.val < n then vB q k v h a i e else 0

theorem sA_next (h : Fin 8) (a : Fin 16384) (i : Fin 4) : sA q k h a (i.val + 1) = sA q k h a i.val + wA q k h a i :=
  sum_if_next (fun i => wA q k h a i) (fun j => j.val < i.val + 1) (fun j => j.val < i.val) i (Nat.lt_succ_self _) (lt_irrefl _) fun j hj => .inl (by
    have : j.val ≠ i.val := fun e => hj (Fin.ext e)
    omega)
theorem sB_next (h : Fin 8) (a : Fin 16384) (i : Fin 4) (e : Fin 128) : sB q k v h a (i.val + 1) e = sB q k v h a i.val e + vB q k v h a i e :=
  sum_if_next (fun i => vB q k v h a i e) (fun j => j.val < i.val + 1) (fun j => j.val < i.val) i (Nat.lt_succ_self _) (lt_irrefl _) fun j hj => .inl (by
    have : j.val ≠ i.val := fun e => hj (Fin.ext e)
    omega)
theorem sA_zero (h : Fin 8) (a : Fin 16384) : sA q k h a 0 = 0 := Finset.sum_eq_zero fun i _ => if_neg (Nat.not_lt_zero _)
theorem sB_zero (h : Fin 8) (a : Fin 16384) (e : Fin 128) : sB q k v h a 0 e = 0 := Finset.sum_eq_zero fun i _ => if_neg (Nat.not_lt_zero _)

/-- After a tile of queries' last tile of keys, the sums are those over all keys. -/
theorem sA_last (h : Fin 8) (qn : Fin 16) (r : Fin 1024) : sA q k h (rq qn r) (qn.val / 4 + 1) = tot q k 0 h (rq qn r) := by
  rw [← wA_total]
  refine Finset.sum_congr rfl fun i _ => ?_
  by_cases hi : i.val < qn.val / 4 + 1
  · rw [if_pos hi]
  · rw [if_neg hi, wA_after q k h qn i (by omega)]
theorem sB_last (h : Fin 8) (qn : Fin 16) (r : Fin 1024) (e : Fin 128) : sB q k v h (rq qn r) (qn.val / 4 + 1) e = ∑ b, wt q k 0 h (rq qn r) b * v b h e := by
  rw [← vB_total]
  refine Finset.sum_congr rfl fun i _ => ?_
  by_cases hi : i.val < qn.val / 4 + 1
  · rw [if_pos hi]
  · rw [if_neg hi, vB_after q k v h qn i (by omega)]

include hq hk hv

/-- A point's blocks. -/
theorem holds (t : Fin (cfgT (F := Ideal)).N) : Holds q k v (blk m c t) (hd t) (qt t) (kt t) where
  hq r j := (read_q m c t r j).trans (V8 m c q hq _ _ j)
  hk r j := (read_k m c t r j).trans (V11 m c k hk _ _ j)
  hv r j := (read_v m c t r j).trans (V13 m c v hv _ _ j)

/-- The state after a point: its rows' sums over the tiles of keys up to the point's. -/
theorem st_at : ∀ (n : ℕ) (hn : n < (cfgT (F := Ideal)).N) (r : Fin 1024),
    Row (sA q k (hd ⟨n, hn⟩) (rq (qt ⟨n, hn⟩) r) ((kt ⟨n, hn⟩).val + 1)) (sB q k v (hd ⟨n, hn⟩) (rq (qt ⟨n, hn⟩) r) ((kt ⟨n, hn⟩).val + 1))
      ((st m c (n + 1)).m (ix2 r 0)) ((st m c (n + 1)).l (ix2 r 0)) fun e => (st m c (n + 1)).a (ix2 r e)
  | n, hn, r => by
    have hs : st m c (n + 1) = step (grid0.coords ⟨n, hn⟩) (blk m c ⟨n, hn⟩) (st m c n) := st_succ m c ⟨n, hn⟩
    rw [hs]
    unfold step
    rw [qw_eq ⟨n, hn⟩, kw_eq ⟨n, hn⟩]
    have hi : Row (sA q k (hd ⟨n, hn⟩) (rq (qt ⟨n, hn⟩) r) (kt ⟨n, hn⟩).val) (sB q k v (hd ⟨n, hn⟩) (rq (qt ⟨n, hn⟩) r) (kt ⟨n, hn⟩).val)
        ((Body.ini (BitVec.ofNat 32 (kt ⟨n, hn⟩).val) (st m c n)).m (ix2 r 0)) ((Body.ini (BitVec.ofNat 32 (kt ⟨n, hn⟩).val) (st m c n)).l (ix2 r 0))
        fun e => (Body.ini (BitVec.ofNat 32 (kt ⟨n, hn⟩).val) (st m c n)).a (ix2 r e) := by
      unfold Body.ini
      by_cases hz : (kt ⟨n, hn⟩).val = 0
      · rw [if_pos ((cond0 _).2 hz), hz]
        exact .inl ⟨sA_zero q k _ _, sB_zero q k v _ _, bot54_at r, zero55_at r, zero56_at r⟩
      · rw [if_neg (fun hc => hz ((cond0 _).1 hc))]
        obtain ⟨p0, p1, p2, p3⟩ := prev ⟨n, hn⟩ hz
        have p0 : n ≠ 0 := p0
        obtain ⟨n', rfl⟩ : ∃ n', n = n' + 1 := ⟨n - 1, by omega⟩
        have ih := st_at n' (Nat.lt_of_succ_lt hn) r
        have p1 : hd ⟨n', Nat.lt_of_succ_lt hn⟩ = hd ⟨n' + 1, hn⟩ := p1
        have p2 : qt ⟨n', Nat.lt_of_succ_lt hn⟩ = qt ⟨n' + 1, hn⟩ := p2
        have p3 : (kt ⟨n', Nat.lt_of_succ_lt hn⟩).val + 1 = (kt ⟨n' + 1, hn⟩).val := p3
        rw [p1, p2, p3] at ih
        exact ih
    have key := next_row q k v r (holds m c q k v hq hk hv ⟨n, hn⟩) (le_diag ⟨n, hn⟩) hi
    rw [sA_next, show sB q k v (hd ⟨n, hn⟩) (rq (qt ⟨n, hn⟩) r) ((kt ⟨n, hn⟩).val + 1) = _ from funext fun e => sB_next q k v _ _ _ e]
    exact key
end Cert.AttnIdeal.Points
-- ==== Proof.AttnRef.lean ====
/- What the attention's reference computes, as real numbers: the softmax-weighted values and the logarithm of each row's sum. -/
module

public import proofs.«01_k».proof.Proof.FlashHost
public import proofs.«01_k».proof.Proof.Gen.AttnRefIdeal.Read
public import Idealize.ShloMosaic.Lib.Pointwise

@[expose] public section

set_option maxRecDepth 16384

noncomputable section

namespace Cert.AttnRefIdeal.Values

open Idealize.ShloMosaic TcCoe
open AttnRefIdeal AttnRefIdeal.Read Ereal Attn
open FlashIdeal.Host (lseT lseT_at log_two log_pos)

variable (x0 x1 : (⟨S16384x8x192, .f32⟩ : BufTy).Contents (Elt Ideal)) (x2 : (⟨S16384x8x128, .f32⟩ : BufTy).Contents (Elt Ideal))
variable (q k : Fin 16384 → Fin 8 → Fin 192 → ℝ) (v : Fin 16384 → Fin 8 → Fin 128 → ℝ)
variable (hq : ∀ a h d, x0 (ix3 a h d) = (q a h d : EReal)) (hk : ∀ a h d, x1 (ix3 a h d) = (k a h d : EReal))
  (hv : ∀ a h e, x2 (ix3 a h e) = (v a h e : EReal))

/-- The masked scores are those of the gradient's reference. -/
theorem v11_eq : val_main_v11 (F := Ideal) x0 x1 = FlashRefIdeal.Read.val_main_v11_0 (F := Ideal) x0 x1 := rfl
theorem v20_eq : val_main_v20 (F := Ideal) x0 x1 = lseT (val_main_v11 (F := Ideal) x0 x1) := rfl
theorem v43_eq : val_main_v43 (F := Ideal) x0 x1 = FlashRefIdeal.Read.val_main_v36 (F := Ideal) x0 x1 := rfl

/-- The two readings of a column of eight heads of 128. -/
theorem col (a : Fin 16384) (h : Fin 8) (e : Fin 128) : idx_main_v46 (ix2 a (coln h e)) = ix3 a h e := by
  refine (eq_ix3 _).trans ?_
  have := h.isLt
  have := e.isLt
  congr 1 <;> apply Fin.ext <;> simp [coln, ix2] <;> omega

include hq hk

/-- The output. -/
theorem v47_at (hv : ∀ a h e, x2 (ix3 a h e) = (v a h e : EReal)) (a : Fin 16384) (h : Fin 8) (e : Fin 128) :
    val_main_v47 (F := Ideal) x0 x1 x2 (ix2 a (coln h e)) = ((∑ b, v b h e * pr q k h a b : ℝ) : EReal) := by
  show val_main_v46 (F := Ideal) x0 x1 x2 _ = _
  rw [val_main_v46_apply, col, val_main_v45_apply, show idx_main_v45 (ix3 a h e) = ix3 h e a from eq_ix3 _, val_main_v44_apply, ← sum_coe]
  refine Finset.sum_congr rfl fun b _ => ?_
  rw [show lidx_main_v44 (ix3 h e a) b = ix3 b h e from eq_ix3 _, show ridx_main_v44 (ix3 h e a) b = ix3 h a b from eq_ix3 _, hv, EReal.coe_mul]
  exact congrArg _ ((congrFun (v43_eq x0 x1) _).trans (FlashRefIdeal.Values.v36_at x0 x1 q k hq hk h a b))

/-- The logarithms, to base two. -/
theorem v56_at (a : Fin 16384) (h : Fin 8) (e : Fin 128) :
    val_main_v56 (F := Ideal) x0 x1 (ix2 a (coln h e)) = ((Real.log (tot q k 0 h a) / Real.log 2 : ℝ) : EReal) := by
  have e1 : val_main_v20 (F := Ideal) x0 x1 (ix3 h a 0) = ((Real.log (tot q k 0 h a) : ℝ) : EReal) := by
    rw [v20_eq]
    exact lseT_at q k _ (fun h a b => (congrFun (v11_eq x0 x1) _).trans (FlashRefIdeal.Values.v11_at x0 x1 q k hq hk h a b)) h a
  rw [val_main_v56_apply, show idx_main_v56 (ix2 a (coln h e)) = ix3 a h e from col a h e, val_main_v55_apply, show idx_main_v55 (ix3 a h e) = ix3 a h 0 from eq_ix3 _,
    val_main_v54_apply, show idx_main_v54 (ix3 a h 0) = ix2 a h from eq_ix2 _, val_main_v53_apply, val_main_v49_apply, show idx_main_v49 (ix2 a h) = ix2 h a from eq_ix2 _,
    val_main_v48_apply, show idx_main_v48 (ix2 h a) = ix3 h a 0 from ?_, e1, val_main_v52_apply]
  · refine Eq.trans (congrArg (Ideal.div _) (log_two : _)) ?_
    rw [div_coe' (Real.log_pos (by norm_num : (1 : ℝ) < 2)).ne']
  · refine (eq_ix3 _).trans ?_
    have := h.isLt
    have := a.isLt
    refine congrArg₂ (fun x y => ix3 x y (0 : Fin 1)) (Fin.ext ?_) (Fin.ext ?_)
    · show (h.val * 16384 + a.val) / 16384 = h.val; omega
    · show (h.val * 16384 + a.val) / 1 % 16384 = a.val; omega
end Cert.AttnRefIdeal.Values
-- ==== Proof.AttnFinal.lean ====
/- What the attention's two arrays hold: what the reference computes. -/
module

public import proofs.«01_k».proof.Proof.AttnSteps
public import proofs.«01_k».proof.Proof.AttnLaunch
public import proofs.«01_k».proof.Proof.AttnRef
public import Idealize.ShloMosaic.Lib.Pipeline.ArrRel
public import proofs.«01_k».proof.Proof.Gen.Pre_attn_finite

@[expose] public section

set_option maxRecDepth 16384

noncomputable section

namespace Cert.AttnIdeal.Final

open Idealize.ShloMosaic TcCoe
open AttnIdeal AttnIdeal.Gen AttnIdeal.Launch AttnIdeal.Pay AttnIdeal.Points Ereal Attn
open AttnRefIdeal.Read AttnRefIdeal.Values
open FlashIdeal.Pay (rq)
open FlashIdeal.Host (log_pos)

section Rows
variable {A : ℝ} {B : Fin 128 → ℝ} {m l : EReal} {a : Fin 128 → EReal}

/-- A row's quotient and logarithm, whatever its largest score was. -/
theorem row_out (h : Row A B m l a) (hA : 0 < A) (e : Fin 128) : Ideal.div (a e) l = ((B e / A : ℝ) : EReal) := by
  rcases h with h | ⟨M, -, hl, ha⟩
  · exact absurd h.1 hA.ne'
  · have hp : (2 : ℝ) ^ (-M) ≠ 0 := (Real.rpow_pos_of_pos (by norm_num) _).ne'
    rw [hl, ha, div_coe' (mul_ne_zero hp hA.ne'), mul_div_mul_left _ _ hp]
theorem row_log (h : Row A B m l a) (hA : 0 < A) : m + Ideal.log l * (((Real.log 2)⁻¹ : ℝ) : EReal) = ((Real.log A / Real.log 2 : ℝ) : EReal) := by
  rcases h with h | ⟨M, hm, hl, -⟩
  · exact absurd h.1 hA.ne'
  · have hp : 0 < (2 : ℝ) ^ (-M) := Real.rpow_pos_of_pos (by norm_num) _
    have h2 : Real.log 2 ≠ 0 := (Real.log_pos (by norm_num)).ne'
    rw [hm, hl, log_pos (mul_pos hp hA), ← EReal.coe_mul, ← EReal.coe_add, Real.log_mul hp.ne' hA.ne', Real.log_rpow (by norm_num)]
    refine congrArg _ ?_
    field_simp
    ring
end Rows

variable (m : (ℓ : Loc nD τ sig) → Buf (Elt Ideal) ℓ) (c : Dev nD)
variable (q k : Fin 16384 → Fin 8 → Fin 192 → ℝ) (v : Fin 16384 → Fin 8 → Fin 128 → ℝ)
variable (hq : ∀ a h d, m (c.tc.loc main_arg0) (ix3 a h d) = (q a h d : EReal))
  (hk : ∀ a h d, m (c.tc.loc main_arg1) (ix3 a h d) = (k a h d : EReal))
  (hv : ∀ a h e, m (c.tc.loc main_arg2) (ix3 a h e) = (v a h e : EReal))
variable (after : (w : Fin (cfgT (F := Ideal)).W) → Fin (cfgT (F := Ideal)).N → ((cfgT (F := Ideal)).win w).block.Idx → Elt Ideal ((cfgT (F := Ideal)).win w).elt)
  (hL : ∀ (w : Fin (cfgT (F := Ideal)).W) (u : Fin (cfgT (F := Ideal)).N), ((cfgT (F := Ideal)).win w).flush u = true → (rdat (F := Ideal) m c).Leaves w u (after w u))

omit m c in
/-- A block of a whole array, its place. -/
theorem emb_slice (b : Ref sig .tc) (off size : Fin b.ty.shape.rank → ℕ) (inb) (y : (Rect.unit (s := b.ty.shape) off size inb).shape.Idx) (i : b.ty.shape.Idx)
    (h : ∀ a, (i a).val = off a + (y a).val) : ((View.whole b).slice (Rect.unit off size inb)).emb y = i :=
  funext fun a => Fin.ext ((ValueKit.view_emb_slice_whole_unit_val b off size inb y a).trans (h a).symm)

theorem emb3 (t : Fin (cfgT (F := Ideal)).N) (r : Fin 1024) (j : Fin 128) : (((cfgT (F := Ideal)).win 3).blk t).view.emb (ix2 r j) = ix2 (rq (qt t) r) (coln (hd t) j) := by
  have e := idx3 t
  refine emb_slice main_v14_0 (fun a => ((cfgT (F := Ideal)).win 3).index t a * S1024x128.size a) S1024x128.size (fun a => Pipeline.Clip.OkAt.inb (((cfgT (F := Ideal)).win 3).hclip (grid0.coords t) a)) (ix2 r j) _ fun i => ?_
  refine Eq.trans ?_ (congrArg (fun n : ℕ => n * S1024x128.size i + (ix2 r j i).val) (congrFun e i).symm)
  match i with
  | ⟨0, _⟩ => rfl
  | ⟨1, _⟩ => rfl

theorem emb4 (t : Fin (cfgT (F := Ideal)).N) (r : Fin 1024) (j : Fin 128) : (((cfgT (F := Ideal)).win 4).blk t).view.emb (ix2 r j) = ix2 (rq (qt t) r) (coln (hd t) j) := by
  have e := idx4 t
  refine emb_slice main_v14_1 (fun a => ((cfgT (F := Ideal)).win 4).index t a * S1024x128.size a) S1024x128.size (fun a => Pipeline.Clip.OkAt.inb (((cfgT (F := Ideal)).win 4).hclip (grid0.coords t) a)) (ix2 r j) _ fun i => ?_
  refine Eq.trans ?_ (congrArg (fun n : ℕ => n * S1024x128.size i + (ix2 r j i).val) (congrFun e i).symm)
  match i with
  | ⟨0, _⟩ => rfl
  | ⟨1, _⟩ => rfl

include hq hk hv

/-- The state after a tile of queries' last tile of keys. -/
theorem st_last (t : Fin (cfgT (F := Ideal)).N) (ht : (kt t).val = (qt t).val / 4) (r : Fin 1024) :
    Row (tot q k 0 (hd t) (rq (qt t) r)) (fun e => ∑ b, wt q k 0 (hd t) (rq (qt t) r) b * v b (hd t) e)
      ((st m c (t.val + 1)).m (ix2 r 0)) ((st m c (t.val + 1)).l (ix2 r 0)) fun e => (st m c (t.val + 1)).a (ix2 r e) := by
  have key := st_at m c q k v hq hk hv t.val t.isLt r
  rw [show (kt ⟨t.val, t.isLt⟩).val = (qt t).val / 4 from ht] at key
  rw [← sA_last, ← show sB q k v (hd t) (rq (qt t) r) ((qt t).val / 4 + 1) = _ from funext fun e => sB_last q k v (hd t) (qt t) r e]
  exact key

include hL

/-- The output's array. -/
theorem final3 : ((rdat (F := Ideal) m c).withAfter after).arrAt 3 (cfgT (F := Ideal)).N
    = val_main_v47 (F := Ideal) (m (c.tc.loc main_arg0)) (m (c.tc.loc main_arg1)) (m (c.tc.loc main_arg2)) := by
  refine Pipeline.Dat.arrAt_eq_of_covers _ 3 _ (by decide +kernel) fun t hf y => ?_
  obtain ⟨Y, -, e⟩ := hL 3 t hf
  have hf' : (kt t).val = (qt t).val / 4 := of_decide_eq_true ((fl3 t).symm.trans hf)
  have e := e.trans (if_pos ((cond7 t).2 hf'))
  obtain ⟨r, j, rfl⟩ := two (n := 1024) (l := 128) y
  refine (congrFun e (ix2 r j)).trans ?_
  refine (pay1_at _ _ r j).trans ?_
  refine Eq.trans ?_ (congrArg (val_main_v47 (F := Ideal) _ _ _) (emb3 t r j)).symm
  refine Eq.trans ?_ (v47_at _ _ _ q k v hq hk hv (rq (qt t) r) (hd t) j).symm
  refine (row_out (st_last m c q k v hq hk hv t hf' r) (tot_pos q k 0 _ _) j).trans ?_
  refine congrArg Real.toEReal ?_
  rw [Finset.sum_div]
  refine Finset.sum_congr rfl fun b _ => ?_
  rw [pr]; ring

/-- The logarithms' array. -/
theorem final4 : ((rdat (F := Ideal) m c).withAfter after).arrAt 4 (cfgT (F := Ideal)).N
    = val_main_v56 (F := Ideal) (m (c.tc.loc main_arg0)) (m (c.tc.loc main_arg1)) := by
  refine Pipeline.Dat.arrAt_eq_of_covers _ 4 _ (by decide +kernel) fun t hf y => ?_
  obtain ⟨Y, -, e⟩ := hL 4 t hf
  have hf' : (kt t).val = (qt t).val / 4 := of_decide_eq_true ((fl4 t).symm.trans hf)
  have e := e.trans (if_pos ((cond7 t).2 hf'))
  obtain ⟨r, j, rfl⟩ := two (n := 1024) (l := 128) y
  refine (congrFun e (ix2 r j)).trans ?_
  refine (pay2_at _ _ r j).trans ?_
  refine Eq.trans ?_ (congrArg (val_main_v56 (F := Ideal) _ _) (emb4 t r j)).symm
  refine Eq.trans ?_ (v56_at _ _ q k hq hk (rq (qt t) r) (hd t) j).symm
  exact row_log (st_last m c q k v hq hk hv t hf' r) (tot_pos q k 0 _ _)

omit hq hk hv hL m c in
/-- Finite arguments, as the precondition says it, are arrays of real numbers. -/
theorem real_args (x0 x1 : FVec Ideal S16384x8x192 .f32) (x2 : FVec Ideal S16384x8x128 .f32)
    (h : @Pre_attn_finite.fn Pre_attn_finite.Gen.facts Ideal _ x0 x1 x2 = fun _ => 1#1) :
    ∃ (q k : Fin 16384 → Fin 8 → Fin 192 → ℝ) (v : Fin 16384 → Fin 8 → Fin 128 → ℝ), (∀ a h d, x0 (ix3 a h d) = (q a h d : EReal)) ∧ (∀ a h d, x1 (ix3 a h d) = (k a h d : EReal))
      ∧ (∀ a h e, x2 (ix3 a h e) = (v a h e : EReal)) := by
  have h0 := congrFun h ValueIdx.ix0
  simp only [Pre_attn_finite.fn, andi, IntOp.andi_eq_one] at h0
  obtain ⟨⟨a, b⟩, d⟩ := h0
  obtain ⟨Q, rfl⟩ := real_of_all x0 _ (fun i => by pointwise) _ _ _ _ a
  obtain ⟨K, rfl⟩ := real_of_all x1 _ (fun i => by pointwise) _ _ _ _ b
  obtain ⟨V, rfl⟩ := real_of_all x2 _ (fun i => by pointwise) _ _ _ _ d
  exact ⟨fun a h d => Q (ix3 a h d), fun a h d => K (ix3 a h d), fun a h d => V (ix3 a h d), fun _ _ _ => rfl, fun _ _ _ => rfl, fun _ _ _ => rfl⟩
end Cert.AttnIdeal.Final
-- ==== Proof.AttnClaim.lean ====
/- The claims about the attention. -/
module

public import proofs.«01_k».proof.Defs
public import proofs.«01_k».proof.Proof.AttnFrame
public import proofs.«01_k».proof.Proof.AttnFinal
public import proofs.«01_k».proof.Proof.Gen.AttnRefIdeal.Run
public import Idealize.ShloMosaic.Lib.Claim

@[expose] public section

set_option maxRecDepth 16384

noncomputable section

namespace Cert.Proof

open Idealize.ShloMosaic Idealize.SL.Sem

open AttnRefIdeal in
/-- The forward attention reference's run, its results named. -/
theorem attn_ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v47) = Read.val_main_v47 (F := Ideal) (m (c.tc.loc main_arg0)) (m (c.tc.loc main_arg1)) (m (c.tc.loc main_arg2))
      ∧ r.2.mem (c.tc.loc main_v56) = Read.val_main_v56 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (Read.val_main_v47_eq m c), (h c).2.1.trans (Read.val_main_v56_eq m c), (h c).2.2⟩)
    (Value.run m ρ)

/-- The forward attention reference's frame. -/
theorem attn_ref : Cert.quiescent_AttnRefIdeal (hAttnRefIdeal := AttnRefIdeal.Gen.facts) := by
  intro m g _
  exact (θ_run AttnRefIdeal.defs _ _).mono (fun r h => ⟨fun c => (h c).2.2, sem_eq_zero_of_no_sems (by decide) r.2⟩) (attn_ref_run m g)

/-- The constant the kernel rounds is the inverse of the logarithm of two. -/
theorem attn_preserves : Cert.preserves_Attn_AttnIdeal :=
  IdealRules.named_const.statement AttnIdeal.κ "log2e" .f32 0x3FB8AA3B#32 (((Real.log 2)⁻¹ : ℝ) : EReal) rfl

open AttnIdeal in
/-- The forward attention kernel's run, its results named. -/
theorem attn_run (m : (ℓ : Loc nD τ sig) → Buf (Elt Ideal) ℓ) (ρ : Dev nD → PrngReg)
    (hpre : Pre_AttnIdeal_attn_finite (hPre_attn_finite := Pre_attn_finite.Gen.facts) m) :
    θ_run defs (onTc (τ := τ) (main (F := Ideal))) ⟨m, fun _ => 0, ρ⟩ fun r => ∀ c : Dev nD,
      r.2.mem (c.tc.loc main_v14_0) = AttnRefIdeal.Read.val_main_v47 (F := Ideal) (m (c.tc.loc main_arg0)) (m (c.tc.loc main_arg1)) (m (c.tc.loc main_arg2))
      ∧ r.2.mem (c.tc.loc main_v14_1) = AttnRefIdeal.Read.val_main_v56 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ?_) (Launch.run_main m ρ)
  obtain ⟨q, k, v, hq, hk, hv⟩ := Final.real_args _ _ _ (hpre c)
  obtain ⟨after, hL, hA⟩ := h.1.exists_exact c
  have l := (h.1 c).2
  exact ⟨(hA 3).trans (Final.final3 m c q k v hq hk hv after hL), (hA 4).trans (Final.final4 m c q k v hq hk hv after hL),
    (l main_arg0 (by decide)).trans (Launch.V_arg0 m c), (l main_arg1 (by decide)).trans (Launch.V_arg1 m c),
    (l main_arg2 (by decide)).trans (Launch.V_arg2 m c)⟩

/-- The forward attention kernel computes the reference's two results on finite arguments. -/
theorem attn_value : Cert.algebraic_AttnIdeal_AttnRefIdeal_pre_attn_finite (hAttnIdeal := AttnIdeal.Gen.facts) (hAttnRefIdeal := AttnRefIdeal.Gen.facts)
    (hPre_attn_finite := Pre_attn_finite.Gen.facts) := by
  intro m g m' g' hpre hagree
  refine ⟨_, _, attn_run m g hpre, (θ_run AttnRefIdeal.defs _ _).mono (fun r h c => ?_) (attn_ref_run m' g')⟩
  have e := h c
  rw [(hagree c).1, (hagree c).2.1, (hagree c).2.2] at e
  rw [(hagree c).1, (hagree c).2.1, (hagree c).2.2]
  exact e

end Cert.Proof

end
-- ==== Proof.InprojRef.lean ====
/- What the input projection's reference computes, its norm's part as real numbers. -/
module

public import proofs.«01_k».proof.Proof.Gen.InprojRefIdeal.Read
public import proofs.«01_k».proof.Proof.Norm
public import Idealize.ShloMosaic.Lib.Pipeline.ValueKit

@[expose] public section

set_option maxRecDepth 16384

noncomputable section

namespace Cert.InprojRefIdeal.Row

open InprojRefIdeal InprojRefIdeal.Gen InprojRefIdeal.Read Ereal Norm Idealize.ShloMosaic

variable (x0 x3 x4 : FVec Ideal S16384x1024 .f32) (x1 : FVec Ideal S1024 .f32) (x2 : FVec Ideal S1024x1024 .f32)
variable (x d : Fin 16384 → Fin 1024 → ℝ) (g : Fin 1024 → ℝ) (w : Fin 1024 → Fin 1024 → ℝ)
variable (hx : ∀ r k, x0 (ix2 r k) = (x r k : EReal)) (hd : ∀ r k, x3 (ix2 r k) = (d r k : EReal))
  (hg : ∀ k, x1 (ix1 k) = (g k : EReal)) (hw : ∀ j k, x2 (ix2 j k) = (w j k : EReal))

/-- The gradient of the scaled row: the cotangent's row against the projection's rows. -/
def dn (d : Fin 1024 → ℝ) (w : Fin 1024 → Fin 1024 → ℝ) (c : Fin 1024) : ℝ := ∑ k, d k * w c k

section
include hd hw
theorem v19_at (r : Fin 16384) (c : Fin 1024) : val_main_v19 (F := Ideal) x2 x3 (ix2 r c) = ((dn (d r) w c : ℝ) : EReal) := by
  pointwise [val_main_v19]
  simp only [hd, hw, ← EReal.coe_mul, sum_coe, dn]
end

section
include hx
theorem v6_at (r : Fin 16384) : val_main_v6 (F := Ideal) x0 (ix2 r 0) = ((ms (x r) : ℝ) : EReal) := by
  pointwise [val_main_v6, val_main_v5, val_main_v4, val_main_v3, val_main_v2, val_main_v1, val_main_v0, val_main_cst, val_main_cst_0, val_main_cst_1]
  exact ms_at (fun k => x0 (ix2 r k)) (x r) (hx r)

theorem v7_at (r : Fin 16384) : val_main_v7 (F := Ideal) x0 (ix2 r 0) = ((rr (x r) : ℝ) : EReal) := by
  pointwise [val_main_v7]
  rw [v6_at x0 x hx r, rsqrt_pos (ms_pos _), rr]

theorem v12_at (r : Fin 16384) (c : Fin 1024) : val_main_v12 (F := Ideal) x0 (ix2 r c) = ((x r c * rr (x r) : ℝ) : EReal) := by
  pointwise [val_main_v12, val_main_v11]
  simp only [v7_at x0 x hx, hx, ← EReal.coe_mul]

include hg in
/-- The row after the norm and its scale. -/
theorem v15_at (r : Fin 16384) (c : Fin 1024) : val_main_v15 (F := Ideal) x0 x1 (ix2 r c) = ((x r c * rr (x r) * g c : ℝ) : EReal) := by
  pointwise [val_main_v15, val_main_v14, val_main_v13]
  simp only [v12_at x0 x hx, hg, ← EReal.coe_mul]

include hd hw in
/-- The scale's gradient. -/
theorem v41_at (c : Fin 1024) : val_main_v41 (F := Ideal) x0 x2 x3 (ix2 0 c) = ∑ r, ((dn (d r) w c * (x r c * rr (x r)) : ℝ) : EReal) := by
  pointwise [val_main_v41, val_main_v25, val_main_v22, val_main_v21, val_main_v20, val_main_cst_3, val_main_cst_4]
  simp only [Fin.sum_univ_one, v12_at x0 x hx, v19_at x3 x2 d w hd hw, ← EReal.coe_mul, mul_comm]

include hd hg hw in
/-- The stream's gradient: the cotangent passed on, plus the norm's. -/
theorem v40_at (r : Fin 16384) (c : Fin 1024) :
    val_main_v40 (F := Ideal) x0 x1 x2 x3 x4 (ix2 r c) = (x4 (ix2 r c) : EReal) + ((back (x r) (fun k => dn (d r) w k * g k) c : ℝ) : EReal) := by
  pointwise [val_main_v40, val_main_v39, val_main_v38, val_main_v37, val_main_v36, val_main_v35, val_main_v34, val_main_v33, val_main_v32, val_main_v31, val_main_v30, val_main_v29, val_main_v28, val_main_v27, val_main_v26, val_main_v24, val_main_v23, val_main_v13, val_main_v10, val_main_v9, val_main_v8, val_main_cst_2, val_main_cst_5, val_main_cst_6, val_main_cst_7]
  simp only [Fin.sum_univ_one]
  simp only [v6_at x0 x hx, v7_at x0 x hx, v19_at x3 x2 d w hd hw, hx, hg, lit_1024, lit_neg_half, ← EReal.coe_mul, sum_coe,
    div_coe' (show (1024 : ℝ) ≠ 0 by norm_num), div_coe' (ms_pos _).ne', rr_div]
  rw [add_assoc, add_assoc, ← EReal.coe_add, ← EReal.coe_add]
  have h : ∑ k, dn (d r) w k * g k * (x r k * rr (x r)) = rr (x r) * ∑ k, x r k * (dn (d r) w k * g k) := by
    rw [Finset.mul_sum]; exact Finset.sum_congr rfl fun k _ => by ring
  refine congrArg (fun e : ℝ => (x4 (ix2 r c) : EReal) + (e : EReal)) ?_
  rw [back, h]; ring
end

end Cert.InprojRefIdeal.Row

end
-- ==== Proof.InprojValue.lean ====
/- What the input projection's two calls leave in their arrays, for any entry contents. -/
module

public import proofs.«01_k».proof.Proof.Gen.InprojIdeal.Frame
public import proofs.«01_k».proof.Proof.InprojRef

@[expose] public section

set_option maxRecDepth 16384

noncomputable section

namespace Cert.InprojIdeal.Final

open InprojIdeal InprojIdeal.Gen Ereal Norm Idealize.ShloMosaic TcCoe Idealize.SL.Sem
open InprojRefIdeal.Read (val_main_v15 val_main_v16 val_main_v17 val_main_v18 val_main_v40 val_main_v41)
open InprojRefIdeal.Row (dn v15_at v40_at v41_at)
open Idealize.ShloMosaic.Pipeline (Dat)

section
variable (v0 v1 v2 : FVec Ideal S1024x1024 .f32) (v3 : FVec Ideal S1x1024 .f32) (v5 : FVec Ideal S1024x1024 .bf16)
variable (x d : Fin 1024 → Fin 1024 → ℝ) (g : Fin 1024 → ℝ) (w : Fin 1024 → Fin 1024 → ℝ)
variable (hx : ∀ r k, v0 (ix2 r k) = (x r k : EReal)) (hd : ∀ r k, v1 (ix2 r k) = (d r k : EReal))
  (hg : ∀ k, v3 (ix2 0 k) = (g k : EReal)) (hw : ∀ k j, v5 (ix2 k j) = (w j k : EReal))

include hx in
theorem pay6_at (r : Fin 1024) : k1_pay6 (F := Ideal) v0 (ix2 r 0) = ((rr (x r) : ℝ) : EReal) := by
  pointwise [k1_pay6]
  exact rr_at (fun k => v0 (ix2 r k)) (x r) (hx r)

include hx in
theorem pay7_at (r c : Fin 1024) : k1_pay7 (F := Ideal) v0 (ix2 r c) = ((x r c * rr (x r) : ℝ) : EReal) := by
  pointwise [k1_pay7]
  simp only [pay6_at v0 x hx, hx, ← EReal.coe_mul]

include hd hw in
theorem pay8_at (r c : Fin 1024) : k1_pay8 (F := Ideal) v1 v5 (ix2 r c) = ((dn (d r) w c : ℝ) : EReal) := by
  pointwise [k1_pay8]
  simp only [hd, hw, ← EReal.coe_mul, sum_coe, dn]

include hx hd hw in
theorem pay9_at (c : Fin 1024) : k1_pay9 (F := Ideal) v0 v1 v5 (ix2 0 c) = ∑ r, ((dn (d r) w c * (x r c * rr (x r)) : ℝ) : EReal) := by
  pointwise [k1_pay9]
  simp only [pay7_at v0 x hx, pay8_at v1 v5 d w hd hw, ← EReal.coe_mul]

include hx hd hg hw in
theorem pay10_at (r c : Fin 1024) : k1_pay10 (F := Ideal) v0 v1 v2 v3 v5 (ix2 r c)
    = (v2 (ix2 r c) : EReal) + ((back (x r) (fun k => dn (d r) w k * g k) c : ℝ) : EReal) := by
  pointwise [k1_pay10, k1_pay5]
  simp only [pay6_at v0 x hx, pay7_at v0 x hx, pay8_at v1 v5 d w hd hw, hg, lit_1024, ← EReal.coe_mul, sum_coe,
    div_coe' (show (1024 : ℝ) ≠ 0 by norm_num), ← EReal.coe_sub, back]

include hx hg in
theorem pay11_at (r c : Fin 1024) : k1_pay11 (F := Ideal) v0 v1 v3 (ix2 r c) = ∑ q : Fin 1024, ((x q r * rr (x q) * g r : ℝ) : EReal) * v1 (ix2 q c) := by
  pointwise [k1_pay11, k1_pay5]
  simp only [pay7_at v0 x hx, hg, ← EReal.coe_mul]

include hx hg in
/-- The forward call's block. -/
theorem pay1_at (r c : Fin 1024) : k0_pay1 (F := Ideal) v0 v3 v5 (ix2 r c) = ∑ k : Fin 1024, ((x r k * rr (x r) * g k : ℝ) : EReal) * v5 (ix2 k c) := by
  have h := rr_at (fun k => v0 (ix2 r k)) (x r) (hx r)
  pointwise [k0_pay1]
  simp only [h]
  simp only [hx, hg, ← EReal.coe_mul]
end

variable (V : (c : Dev nD) → (b : Ref sig .tc) → Buf (Elt Ideal) ((c : Thread nD τ).loc b)) (c : Dev nD)
variable (X D T : FVec Ideal S16384x1024 .f32) (G : FVec Ideal S1024 .f32) (W : FVec Ideal S1024x1024 .f32)
variable (x d : Fin 16384 → Fin 1024 → ℝ) (g : Fin 1024 → ℝ) (w : Fin 1024 → Fin 1024 → ℝ)
variable (hx : ∀ r k, X (ix2 r k) = (x r k : EReal)) (hd : ∀ r k, D (ix2 r k) = (d r k : EReal))
  (hg : ∀ k, G (ix1 k) = (g k : EReal)) (hw : ∀ j k, W (ix2 j k) = (w j k : EReal))

theorem idx0 : ∀ p : Fin cfg0.N, win0_0.index p = ![p.val, 0] ∧ win0_1.index p = ![0, 0] ∧ win0_2.index p = ![0, 0] ∧ win0_3.index p = ![p.val, 0] :=
  (by decide +kernel : ∀ p : Fin grid0.N, _)

theorem idx1 : ∀ p : Fin cfg1.N, win1_0.index p = ![p.val, 0] ∧ win1_1.index p = ![p.val, 0] ∧ win1_2.index p = ![p.val, 0] ∧ win1_3.index p = ![0, 0]
    ∧ win1_4.index p = ![0, 0] ∧ win1_5.index p = ![p.val, 0] ∧ win1_6.index p = ![0, 0] ∧ win1_7.index p = ![0, 0] :=
  (by decide +kernel : ∀ p : Fin grid1.N, _)

/-- The row of the arrays that row `r` of block `p` is. -/
def row (p : ℕ) (h : p < 16) (r : Fin 1024) : Fin 16384 := ⟨p * 1024 + r.val, by have := r.isLt; omega⟩

/-- Summing over the blocks and a block's rows is summing over the rows. -/
theorem sum_rows (f : Fin 16384 → EReal) : ∑ p : Fin cfg1.N, ∑ r : Fin 1024, f (row p.val (lt_of_lt_of_eq p.isLt N_1) r) = ∑ q, f q :=
  Fin.sum_mul_add_congr fun p r hl => rfl

theorem lt0 (p : Fin cfg0.N) : p.val < 16 := lt_of_lt_of_eq p.isLt N_0
theorem lt1 (p : Fin cfg1.N) : p.val < 16 := lt_of_lt_of_eq p.isLt N_1

section
variable (h0 : V c main_arg0 = X) (h1 : ∀ k, V c main_v0 (ix2 0 k) = G (ix1 k)) (h2 : V c main_v1 = (W : S1024x1024.Idx → EReal))
include h0 in
theorem b00 (p : Fin cfg0.N) (r k : Fin 1024) : (iblk0 V c 0 p : FVec Ideal S1024x1024 .f32) (ix2 r k) = X (ix2 (row p.val (lt0 p) r) k) := by
  rw [← h0]; blk_ext [iblk0, idx0 p, row]
include h1 in
theorem b01 (p : Fin cfg0.N) (k : Fin 1024) : (iblk0 V c 1 p : FVec Ideal S1x1024 .f32) (ix2 0 k) = G (ix1 k) := by
  rw [← h1]; blk_ext [iblk0, idx0 p, row]
include h2 in
theorem b02 (p : Fin cfg0.N) (r k : Fin 1024) : (iblk0 V c 2 p : FVec Ideal S1024x1024 .bf16) (ix2 r k) = W (ix2 r k) := by
  rw [← h2]; blk_ext [iblk0, idx0 p, row]

include h0 h1 h2 hx hg in
/-- The forward call. -/
theorem final0 (y : S16384x1024.Idx) : (dat0 V c).arrAt 3 cfg0.N y = val_main_v16 (F := Ideal) X G W y := by
  refine congrFun ((dat0 V c).arrAt_eq_of_covers 3 _ (by decide +kernel) fun p _ y => ?_) y
  blk_simp
  rw [after0_3]
  frame_out
  obtain ⟨r, k, rfl⟩ := two y
  refine Eq.trans (b := val_main_v16 (F := Ideal) X G W (ix2 (row p.val (lt0 p) r) k)) ?_ ?_
  · refine (pay1_at _ _ _ (fun r => x (row p.val (lt0 p) r)) g (fun r k => (b00 V c X h0 p r k).trans (hx _ _)) (fun k => (b01 V c G h1 p k).trans (hg k)) r k).trans ?_
    pointwise [val_main_v16]
    simp only [b02 V c W h2, v15_at X G x g hx hg]
  · generalize val_main_v16 (F := Ideal) X G W = A
    blk_ext [idx0 p, row]
end

section
variable (h0 : V c main_arg0 = X) (h1 : V c main_arg3 = D) (h2 : V c main_arg4 = T) (h3 : ∀ k, V c main_v0 (ix2 0 k) = G (ix1 k)) (h4 : ∀ r k, V c main_v3 (ix2 r k) = W (ix2 k r))
include h0 hx in
theorem b10 (p : Fin cfg1.N) (r k : Fin 1024) : (iblk1 V c 0 p : FVec Ideal S1024x1024 .f32) (ix2 r k) = (x (row p.val (lt1 p) r) k : EReal) := by
  rw [← hx, ← h0]; blk_ext [iblk1, idx1 p, row]
include h1 in
theorem b11' (p : Fin cfg1.N) (r k : Fin 1024) : (iblk1 V c 1 p : FVec Ideal S1024x1024 .f32) (ix2 r k) = D (ix2 (row p.val (lt1 p) r) k) := by
  rw [← h1]; blk_ext [iblk1, idx1 p, row]
include h1 hd in
theorem b11 (p : Fin cfg1.N) (r k : Fin 1024) : (iblk1 V c 1 p : FVec Ideal S1024x1024 .f32) (ix2 r k) = (d (row p.val (lt1 p) r) k : EReal) :=
  (b11' V c D h1 p r k).trans (hd _ _)
include h2 in
theorem b12 (p : Fin cfg1.N) (r k : Fin 1024) : (iblk1 V c 2 p : FVec Ideal S1024x1024 .f32) (ix2 r k) = T (ix2 (row p.val (lt1 p) r) k) := by
  rw [← h2]; blk_ext [iblk1, idx1 p, row]
include h3 hg in
theorem b13 (p : Fin cfg1.N) (k : Fin 1024) : (iblk1 V c 3 p : FVec Ideal S1x1024 .f32) (ix2 0 k) = (g k : EReal) := by
  rw [← hg, ← h3]; blk_ext [iblk1, idx1 p, row]
include h4 hw in
theorem b14 (p : Fin cfg1.N) (r k : Fin 1024) : (iblk1 V c 4 p : FVec Ideal S1024x1024 .bf16) (ix2 r k) = (w k r : EReal) := by
  rw [← hw, ← h4]; blk_ext [iblk1, idx1 p, row]

include h0 h1 h2 h3 h4 hx hd hg hw in
/-- The stream's gradient. -/
theorem final5 (y : S16384x1024.Idx) : (dat1 V c).arrAt 5 cfg1.N y = val_main_v40 (F := Ideal) X G W D T y := by
  refine congrFun ((dat1 V c).arrAt_eq_of_covers 5 _ (by decide +kernel) fun p _ y => ?_) y
  blk_simp
  rw [after1_5]
  have key : (outsAt1 V c p.val p.isLt).1 = k1_pay10 (F := Ideal) (iblk1 V c 0 p) (iblk1 V c 1 p) (iblk1 V c 2 p) (iblk1 V c 3 p) (iblk1 V c 4 p) := by
    rcases Nat.eq_zero_or_pos (p.val % 16) with h | h
    · rw [outsAt1_A V c p h]; frame_out
    · rw [outsAt1_B V c p h.ne']; frame_out
  rw [key]
  obtain ⟨r, k, rfl⟩ := two y
  refine Eq.trans (b := val_main_v40 (F := Ideal) X G W D T (ix2 (row p.val (lt1 p) r) k)) ?_ ?_
  · refine (pay10_at _ _ _ _ _ (fun r => x (row p.val (lt1 p) r)) (fun r => d (row p.val (lt1 p) r)) g w (b10 V c X x hx h0 p) (b11 V c D d hd h1 p) (b13 V c G g hg h3 p) (b14 V c W w hw h4 p) r k).trans ?_
    rw [v40_at X D T G W x d g w hx hd hg hw]
    rw [b12 V c T h2 p r k]
  · generalize val_main_v40 (F := Ideal) X G W D T = A
    blk_ext [idx1 p, row]

include h0 h1 h3 hx hg in
/-- The projection's gradient. -/
theorem final6 (y : S1024x1024.Idx) : (dat1 V c).arrAt 6 cfg1.N y = val_main_v18 (F := Ideal) X G D y := by
  refine congrFun ((dat1 V c).arrAt_eq_of_after_last 6 t1_15 (by decide +kernel) _ fun y => ?_) y
  blk_simp
  rw [after1_6, Pipeline.eq_sum_fin_of_reset_step_apply_last (fun n h => (outsAt1 V c n h).2.1) 16 (fun _ => 0)
    (fun p j => k1_pay11 (F := Ideal) (iblk1 V c 0 p) (iblk1 V c 1 p) (iblk1 V c 3 p) j)
    (fun t h j => by rw [outsAt1_A V c t h]; frame_out; pointwise [k1_pay1, k1_pay3])
    (fun t h j => by rw [outsAt1_B V c t h]; frame_out; pointwise [k1_pay3]) (le_of_eq N_1) t1_15 rfl _, zero_add]
  obtain ⟨r, k, rfl⟩ := two y
  refine Eq.trans (Fin.sum_fin_congr fun p => (pay11_at _ _ _ (fun r => x (row p.val (lt1 p) r)) g (b10 V c X x hx h0 p) (b13 V c G g hg h3 p) r k).trans
    (Finset.sum_congr rfl fun q _ => congrArg _ (b11' V c D h1 p q k))) ?_
  refine Eq.trans (sum_rows fun q => ((x q r * rr (x q) * g r : ℝ) : EReal) * D (ix2 q k)) ?_
  pointwise [val_main_v18, val_main_v17]
  simp only [v15_at X G x g hx hg]
  have e : ∑ q : Fin 16384, ((x q r * rr (x q) * g r : ℝ) : EReal) * D (ix2 q k) = ∑ q : Fin 16384, (D (ix2 q k) : EReal) * ((x q r * rr (x q) * g r : ℝ) : EReal) :=
    Finset.sum_congr rfl fun q _ => mul_comm (G := EReal) _ _
  exact e

include h0 h1 h4 hx hd hw in
/-- The scale's gradient. -/
theorem final7 (y : S1x1024.Idx) : (dat1 V c).arrAt 7 cfg1.N y = val_main_v41 (F := Ideal) X W D y := by
  refine congrFun ((dat1 V c).arrAt_eq_of_after_last 7 t1_15 (by decide +kernel) _ fun y => ?_) y
  blk_simp
  rw [after1_7, Pipeline.eq_sum_fin_of_reset_step_apply_last (fun n h => (outsAt1 V c n h).2.2) 16 (fun _ => 0)
    (fun p j => k1_pay9 (F := Ideal) (iblk1 V c 0 p) (iblk1 V c 1 p) (iblk1 V c 4 p) j)
    (fun t h j => by rw [outsAt1_A V c t h]; frame_out; pointwise [k1_pay2, k1_pay4])
    (fun t h j => by rw [outsAt1_B V c t h]; frame_out; pointwise [k1_pay4]) (le_of_eq N_1) t1_15 rfl _, zero_add]
  obtain ⟨k, rfl⟩ : ∃ (k : Fin 1024), y = ix2 0 k := ⟨y 1, by funext a; match a with | ⟨0, _⟩ => exact Subsingleton.elim (α := Fin 1) _ _ | ⟨1, _⟩ => rfl⟩
  rw [v41_at X D W x d w hx hd hw]
  refine Eq.trans (Fin.sum_fin_congr fun p => pay9_at _ _ _ (fun r => x (row p.val (lt1 p) r)) (fun r => d (row p.val (lt1 p) r)) w (b10 V c X x hx h0 p) (b11 V c D d hd h1 p) (b14 V c W w hw h4 p) k) ?_
  exact sum_rows fun r => ((dn (d r) w k * (x r k * rr (x r)) : ℝ) : EReal)
end

end Cert.InprojIdeal.Final

end
-- ==== Proof.InprojRun.lean ====
/- The whole run of the input projection's two calls: what every array ends holding. -/
module

public import proofs.«01_k».proof.Proof.Gen.InprojIdeal.Frame
public import proofs.«01_k».proof.Proof.InprojValue
public import proofs.«01_k».proof.Proof.Gen.Pre_inproj_finite
public import Idealize.ShloMosaic.Lib.StableHlo.ReadAt

@[expose] public section

set_option maxRecDepth 16384

noncomputable section

namespace Cert.InprojIdeal.Run

open InprojIdeal InprojIdeal.Gen
open Idealize.ShloMosaic TcCoe Tactic
open Idealize.SL RA BI
open scoped Idealize.SL.BI
open Idealize.ShloMosaic.Rounds
open Idealize.SL.BI.BIBase Idealize.SL.BI.Laws Idealize.SL.ProofMode Idealize.SL.Sem

section
variable {F : FTy → Type} [FloatOps F]
variable (m : (ℓ : Loc nD τ sig) → Buf (Elt F) ℓ) (ρ : Dev nD → PrngReg)

-- the launch lemma's implicit arguments are found by unifying its conclusion, which takes unfolding plain definitions
-- in a metavariable's type
set_option backward.isDefEq.respectTransparency.types false in
/-- Every array of the machine ends at its contents after the last region. -/
theorem contents : θ_run defs (onTc (τ := τ) (main (F := F))) ⟨m, fun _ => 0, ρ⟩ fun r =>
    ∀ c : Dev nD, ∀ b ∈ Pipeline.ucRefs τ sig, r.2.mem ((c : Thread nD τ).1, b) = W4 m ρ c b := by
  refine Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (hu₀ := ?_)
    (T₀ := fun c => iprop(StableHlo.held c.tc (Pipeline.ucRefs τ sig) (W0 m ρ c) ∗ R c)) (Tₙ := Tₙ m ρ)
    (hch := ⟨fun _ => .rfl, fun _ => .rfl, fun _ => .rfl, fun _ => .rfl, fun _ => .rfl⟩) (hinit := ?_)
    (QY := fun c s => ∀ b ∈ Pipeline.ucRefs τ sig, s.mem ((c : Thread nD τ).1, b) = W4 m ρ c b) (hfin := ?_) (hQ := fun s h _ => h)
  · iintro Hu; imodintro
    isplitl [Hu]
    · iapply (show (ownU (initOf (Pipeline.cells cfgs cellOf_inj) (Pipeline.launchToks cfgs cellOf_inj)) : sProp (MT nD τ sig Unit (Elt F) ℕ (UR sig nD τ) ℕ))
          ⊢ BI.own (emb₁ (initOf (Pipeline.cells cfgs cellOf_inj) (Pipeline.launchToks cfgs cellOf_inj))) from .rfl)
      iexact Hu
    iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
    iempintro
  · refine Pipeline.initEach L lv fun c => ?_
    rw [show unscopedBufs c (fun b => m (c.tc.loc b)) = StableHlo.held c.tc (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  · intro c s'
    iintro ⟨⟨Hh, -⟩, HSI⟩
    unfold StableHlo.held
    imodintro
    iapply (pointsTo_read_all (Pipeline.ucRefs τ sig) (fun b => ((c : Thread nD τ).1, b)) (W4 m ρ c) s')
    isplitl [Hh] <;> iassumption

end

variable (m : (ℓ : Loc nD τ sig) → Buf (Elt Ideal) ℓ) (ρ : Dev nD → PrngReg) (c : Dev nD)

/-- Before the forward call the scale is as launched, as one row. -/
theorem early0 (k : Fin 1024) : V1 m ρ c main_v0 (ValueIdx.ix2 0 k) = m (c.tc.loc main_arg1) (ValueIdx.ix1 k) := by
  have e : V1 m ρ c main_v0 = shapeCast S1x1024 (m (c.tc.loc main_arg1)) shapeCasts_S1024_S1x1024 := by
    unfold V1 W1 hostOps0; after_reads_simp; rfl
  rw [e]
  pointwise
  rfl

/-- And the projection is as launched. -/
theorem early1 : V1 m ρ c main_v1 = m (c.tc.loc main_arg2) := by
  unfold V1 W1 hostOps0; after_reads_simp; rfl

/-- The scale is still there before the backward call. -/
theorem late0 (k : Fin 1024) : V3 m ρ c main_v0 (ValueIdx.ix2 0 k) = m (c.tc.loc main_arg1) (ValueIdx.ix1 k) := by
  rw [show V3 m ρ c main_v0 = W2 m ρ c (Proc.devRef .tc main_v0) from W3_of m ρ c main_v0 (by decide), W2_of m ρ c main_v0 (by decide)]
  exact early0 m ρ c k

/-- Before the backward call the projection is transposed. -/
theorem late3 (r k : Fin 1024) : V3 m ρ c main_v3 (ValueIdx.ix2 r k) = m (c.tc.loc main_arg2) (ValueIdx.ix2 k r) := by
  have e : V3 m ρ c main_v3 = transpose S1024x1024 [1, 0] (W2 m ρ c (Proc.devRef .tc main_v1)) transposes_S1024x1024_S1024x1024_1_0 := by
    unfold V3 W3 hostOps1; after_reads_simp
  rw [e, W2_of m ρ c main_v1 (by decide), show W1 m ρ c (Proc.devRef .tc main_v1) = _ from early1 m ρ c]
  pointwise
  rfl

open InprojRefIdeal.Read (val_main_v16 val_main_v18 val_main_v40 val_main_v41)

/-- The precondition makes the four arguments that need it arrays of real numbers. -/
theorem real_args (x0 x3 x4 : FVec Ideal S16384x1024 .f32) (x1 : FVec Ideal S1024 .f32) (x2 : FVec Ideal S1024x1024 .f32)
    (h : @Pre_inproj_finite.fn Pre_inproj_finite.Gen.facts Ideal _ x0 x1 x2 x3 x4 = fun _ => 1#1) :
    ∃ (x d : Fin 16384 → Fin 1024 → ℝ) (g : Fin 1024 → ℝ) (w : Fin 1024 → Fin 1024 → ℝ), (∀ r k, x0 (ValueIdx.ix2 r k) = (x r k : EReal)) ∧ (∀ r k, x3 (ValueIdx.ix2 r k) = (d r k : EReal))
      ∧ (∀ k, x1 (ValueIdx.ix1 k) = (g k : EReal)) ∧ (∀ j k, x2 (ValueIdx.ix2 j k) = (w j k : EReal)) := by
  have h0 := congrFun h ValueIdx.ix0
  simp only [Pre_inproj_finite.fn, Pre_inproj_finite.fn_part1, andi, IntOp.andi_eq_one] at h0
  obtain ⟨⟨⟨a, b⟩, e⟩, f⟩ := h0
  obtain ⟨X, rfl⟩ := Ereal.real_of_all x0 _ (fun i => by pointwise) _ _ _ _ a
  obtain ⟨G, rfl⟩ := Ereal.real_of_all x1 _ (fun i => by pointwise) _ _ _ _ b
  obtain ⟨W, rfl⟩ := Ereal.real_of_all x2 _ (fun i => by pointwise) _ _ _ _ e
  obtain ⟨D, rfl⟩ := Ereal.real_of_all x3 _ (fun i => by pointwise) _ _ _ _ f
  exact ⟨fun r k => X (ValueIdx.ix2 r k), fun r k => D (ValueIdx.ix2 r k), fun k => G (ValueIdx.ix1 k), fun j k => W (ValueIdx.ix2 j k), fun _ _ => rfl, fun _ _ => rfl, fun _ => rfl, fun _ _ => rfl⟩

/-- The kernel's run: the projected stream and the three gradients at the reference's terms, and the arguments as launched. -/
theorem results (hreal : ∀ c : Dev nD, ∃ (x d : Fin 16384 → Fin 1024 → ℝ) (g : Fin 1024 → ℝ) (w : Fin 1024 → Fin 1024 → ℝ), (∀ r k, m (c.tc.loc main_arg0) (ValueIdx.ix2 r k) = (x r k : EReal))
      ∧ (∀ r k, m (c.tc.loc main_arg3) (ValueIdx.ix2 r k) = (d r k : EReal)) ∧ (∀ k, m (c.tc.loc main_arg1) (ValueIdx.ix1 k) = (g k : EReal)) ∧ (∀ j k, m (c.tc.loc main_arg2) (ValueIdx.ix2 j k) = (w j k : EReal))) :
    θ_run defs (onTc (τ := τ) (main (F := Ideal))) ⟨m, fun _ => 0, ρ⟩ fun r => ∀ c : Dev nD,
    r.2.mem (c.tc.loc main_v2) = val_main_v16 (F := Ideal) (m (c.tc.loc main_arg0)) (m (c.tc.loc main_arg1)) (m (c.tc.loc main_arg2))
    ∧ r.2.mem (c.tc.loc main_v4_0) = val_main_v40 (F := Ideal) (m (c.tc.loc main_arg0)) (m (c.tc.loc main_arg1)) (m (c.tc.loc main_arg2)) (m (c.tc.loc main_arg3)) (m (c.tc.loc main_arg4))
    ∧ r.2.mem (c.tc.loc main_v4_1) = val_main_v18 (F := Ideal) (m (c.tc.loc main_arg0)) (m (c.tc.loc main_arg1)) (m (c.tc.loc main_arg3))
    ∧ r.2.mem (c.tc.loc main_v4_2) = val_main_v41 (F := Ideal) (m (c.tc.loc main_arg0)) (m (c.tc.loc main_arg2)) (m (c.tc.loc main_arg3))
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3) ∧ r.2.mem (c.tc.loc main_arg4) = m (c.tc.loc main_arg4) := by
  refine (θ_run defs _ _).mono (fun r h c => ?_) (contents m ρ)
  obtain ⟨x, d, g, w, hx, hd, hg, hw⟩ := hreal c
  have a0 := W3_args m ρ c main_arg0 (by decide)
  have a3 := W3_args m ρ c main_arg3 (by decide)
  have a4 := W3_args m ρ c main_arg4 (by decide)
  exact ⟨(h c _ (mem_uc main_v2 (by decide))).trans ((W4_of m ρ c main_v2 (by decide)).trans ((W3_of m ρ c main_v2 (by decide)).trans ((W2_arr m ρ c 3).trans
        (funext fun y => Final.final0 (V1 m ρ) c _ _ _ x g hx hg (W1_args m ρ c main_arg0 (by decide)) (early0 m ρ c) (early1 m ρ c) y)))),
      (h c _ (mem_uc main_v4_0 (by decide))).trans ((W4_arr m ρ c 5).trans
        (funext fun y => Final.final5 (V3 m ρ) c _ _ _ _ _ x d g w hx hd hg hw a0 a3 a4 (late0 m ρ c) (late3 m ρ c) y)),
      (h c _ (mem_uc main_v4_1 (by decide))).trans ((W4_arr m ρ c 6).trans
        (funext fun y => Final.final6 (V3 m ρ) c _ _ _ x g hx hg a0 a3 (late0 m ρ c) y)),
      (h c _ (mem_uc main_v4_2 (by decide))).trans ((W4_arr m ρ c 7).trans
        (funext fun y => Final.final7 (V3 m ρ) c _ _ _ x d w hx hd hw a0 a3 (late3 m ρ c) y)),
      (h c _ (mem_uc main_arg0 (by decide))).trans (W4_main_arg0 m ρ c), (h c _ (mem_uc main_arg1 (by decide))).trans (W4_main_arg1 m ρ c),
      (h c _ (mem_uc main_arg2 (by decide))).trans (W4_main_arg2 m ρ c), (h c _ (mem_uc main_arg3 (by decide))).trans (W4_main_arg3 m ρ c),
      (h c _ (mem_uc main_arg4 (by decide))).trans (W4_main_arg4 m ρ c)⟩

end Cert.InprojIdeal.Run

end
-- ==== Proof.InprojClaim.lean ====
/- The claims about the recurrent layers' input projection. -/
module

public import proofs.«01_k».proof.Defs
public import proofs.«01_k».proof.Proof.Gen.InprojIdeal.Frame
public import proofs.«01_k».proof.Proof.Gen.InprojRefIdeal.Run
public import proofs.«01_k».proof.Proof.Gen.InprojRefIdeal.Read
public import proofs.«01_k».proof.Proof.InprojRun
public import Idealize.ShloMosaic.Lib.Claim

@[expose] public section

set_option maxRecDepth 16384

noncomputable section

namespace Cert.Proof

open Idealize.ShloMosaic Idealize.SL.Sem

/-- The inproj reference's frame. -/
theorem inproj_ref : Cert.quiescent_InprojRefIdeal (hInprojRefIdeal := InprojRefIdeal.Gen.facts) := by
  intro m g _
  exact (θ_run InprojRefIdeal.defs _ _).mono (fun r h => ⟨fun c => (h c).2.2.2.2, sem_eq_zero_of_no_sems (by decide) r.2⟩) (InprojRefIdeal.Value.run m g)

/-- The two calls compute the reference's four results, where the stream, the scale, the projection and its cotangent are finite. -/
theorem inproj_value : Cert.algebraic_InprojIdeal_InprojRefIdeal_pre_inproj_finite (hInprojIdeal := InprojIdeal.Gen.facts) (hInprojRefIdeal := InprojRefIdeal.Gen.facts)
    (hPre_inproj_finite := Pre_inproj_finite.Gen.facts) := by
  intro m g m' g' hpre hagree
  refine ⟨_, _, _, _, InprojIdeal.Run.results m g (fun c => InprojIdeal.Run.real_args _ _ _ _ _ (hpre c)), (θ_run InprojRefIdeal.defs _ _).mono (fun r h c => ?_) (InprojRefIdeal.Value.run m' g')⟩
  obtain ⟨hv16, hv40, hv18, hv41, ha⟩ := h c
  replace hv16 := hv16.trans (InprojRefIdeal.Read.val_main_v16_eq _ _ _)
  replace hv40 := hv40.trans (InprojRefIdeal.Read.val_main_v40_eq m' c)
  replace hv18 := hv18.trans (InprojRefIdeal.Read.val_main_v18_eq _ _ _)
  replace hv41 := hv41.trans (InprojRefIdeal.Read.val_main_v41_eq _ _ _)
  obtain ⟨e0, e1, e2, e3, e4⟩ := hagree c
  rw [e0, e1, e2] at hv16
  rw [e0, e1, e2, e3, e4] at hv40
  rw [e0, e1, e3] at hv18
  rw [e0, e2, e3] at hv41
  exact ⟨hv16, hv40, hv18, hv41, ha⟩

end Cert.Proof

end
-- ==== Proof.PrepMath.lean ====
/- The gradient of the state-space layer's discretization, one state at a time, as real numbers. -/
module

public import proofs.«01_k».proof.Proof.Ereal

@[expose] public section

noncomputable section

namespace Cert.Prep

variable (l i t a b x y : ℝ)

/-- The squared absolute value of the pole `l + i·√-1`. -/
def den : ℝ := l * l + i * i
/-- The size of one step's transition. -/
def mag : ℝ := Real.exp (l * Real.exp t)
/-- The transition, its real part. -/
def ar : ℝ := mag l t * Real.cos (i * Real.exp t)
/-- The transition, its imaginary part. -/
def ai : ℝ := mag l t * Real.sin (i * Real.exp t)
/-- The input's coefficient, its real part. -/
def cr : ℝ := ((ar l i t - 1) * l + ai l i t * i) / den l i
/-- The input's coefficient, its imaginary part. -/
def ci : ℝ := (ai l i t * l - (ar l i t - 1) * i) / den l i
/-- The gradient of the squared absolute value, from the coefficient's gradient `a`, `b`. -/
def dden : ℝ := (0 - (a * cr l i t + b * ci l i t)) / den l i
/-- The transition's gradient, its real part: what arrives at it, and what the coefficient passes on. -/
def dar : ℝ := x + a / den l i * l - b / den l i * i
/-- The transition's gradient, its imaginary part. -/
def dai : ℝ := y + a / den l i * i + b / den l i * l
/-- The gradient along the transition's size. -/
def dmag : ℝ := dar l i a b x * Real.cos (i * Real.exp t) + dai l i a b y * Real.sin (i * Real.exp t)
/-- The gradient along the transition's angle. -/
def dang : ℝ := dai l i a b y * ar l i t - dar l i a b x * ai l i t
/-- The gradient of the pole's real part. -/
def dl : ℝ := a / den l i * (ar l i t - 1) + b / den l i * ai l i t + 2 * l * dden l i t a b + dmag l i t a b x y * mag l t * Real.exp t
/-- The gradient of the pole's imaginary part. -/
def di : ℝ := a / den l i * ai l i t - b / den l i * (ar l i t - 1) + 2 * i * dden l i t a b + dang l i t a b x y * Real.exp t
/-- One state's part of the step size's gradient. -/
def dt : ℝ := (dmag l i t a b x y * mag l t * l + dang l i t a b x y * i) * Real.exp t

end Cert.Prep

end
-- ==== Proof.PrepRef.lean ====
/- What the discretization's reference computes, as real numbers. -/
module

public import proofs.«01_k».proof.Proof.Gen.PrepRefIdeal.Read
public import proofs.«01_k».proof.Proof.PrepMath
public import Idealize.ShloMosaic.Lib.Pipeline.ValueKit

@[expose] public section

set_option maxRecDepth 16384

noncomputable section

namespace Cert.PrepRefIdeal.Row

open PrepRefIdeal PrepRefIdeal.Gen PrepRefIdeal.Read Ereal Prep Idealize.ShloMosaic

variable (x0 x1 : FVec Ideal S64x64 .f32) (x2 : FVec Ideal S64 .f32) (x3 x4 x5 x6 : FVec Ideal S64x64x16 .f32) (x7 : FVec Ideal S8x8x1024 .f32)
variable (l i : Fin 64 → Fin 64 → ℝ) (t : Fin 64 → ℝ) (br bi gr gi : Fin 64 → Fin 64 → Fin 16 → ℝ) (d : Fin 8 → Fin 8 → Fin 1024 → ℝ)

/-- The arguments as real numbers. -/
structure Real' : Prop where
  h0 : ∀ g p, x0 (ix2 g p) = (l g p : EReal)
  h1 : ∀ g p, x1 (ix2 g p) = (i g p : EReal)
  h2 : ∀ g, x2 (ix1 g) = (t g : EReal)
  h3 : ∀ g p c, x3 (ix3 g p c) = (br g p c : EReal)
  h4 : ∀ g p c, x4 (ix3 g p c) = (bi g p c : EReal)
  h5 : ∀ g p c, x5 (ix3 g p c) = (gr g p c : EReal)
  h6 : ∀ g p c, x6 (ix3 g p c) = (gi g p c : EReal)
  h7 : ∀ k r j, x7 (ix3 k r j) = (d k r j : EReal)
  hd : ∀ g p, den (l g p) (i g p) ≠ 0

/-- The block of eight groups that group `g` is in. -/
def blk (g : Fin 64) : Fin 8 := ⟨g.val / 8, by have := g.isLt; omega⟩
/-- The column of group `g`'s state `p` in its block. -/
def col (g p : Fin 64) : Fin 512 := ⟨g.val % 8 * 64 + p.val, by have := p.isLt; omega⟩
/-- The same in the first half of a row. -/
def colr (j : Fin 512) : Fin 1024 := ⟨j.val, by have := j.isLt; omega⟩
/-- The same in the second half of a row. -/
def coli (j : Fin 512) : Fin 1024 := ⟨512 + j.val, by have := j.isLt; omega⟩

/-- The gradient of the coefficient, its real part. -/
def A (g p : Fin 64) : ℝ := ∑ c, (gr g p c * br g p c + gi g p c * bi g p c)
/-- The gradient of the coefficient, its imaginary part. -/
def B (g p : Fin 64) : ℝ := ∑ c, (gi g p c * br g p c - gr g p c * bi g p c)
/-- The gradient that arrives at the transition, its real part. -/
def X (g p : Fin 64) : ℝ := ∑ r, d (blk g) r (colr (col g p))
/-- The gradient that arrives at the transition, its imaginary part. -/
def Y (g p : Fin 64) : ℝ := ∑ r, d (blk g) r (coli (col g p))

variable (H : Real' x0 x1 x2 x3 x4 x5 x6 x7 l i t br bi gr gi d)
include H

theorem v4_at (g p : Fin 64) : val_main_v4 (F := Ideal) x0 x2 (ix2 g p) = (mag (l g p) (t g) : EReal) := by
  pointwise [val_main_v4, val_main_v3, val_main_v2, val_main_v1, val_main_v0]
  simp only [H.h0, H.h2, Ideal.exp_coe, ← EReal.coe_mul, mag]

theorem v7_at (g p : Fin 64) : val_main_v7 (F := Ideal) x1 x2 (ix2 g p) = (Real.cos (i g p * Real.exp (t g)) : EReal) := by
  pointwise [val_main_v7, val_main_v6, val_main_v5, val_main_v1, val_main_v0]
  simp only [H.h1, H.h2, Ideal.exp_coe, Ideal.cos_coe, ← EReal.coe_mul]

theorem v13_at (g p : Fin 64) : val_main_v13 (F := Ideal) x1 x2 (ix2 g p) = (Real.cos (i g p * Real.exp (t g)) : EReal) := by
  pointwise [val_main_v13, val_main_v11, val_main_v10, val_main_v1, val_main_v0]
  simp only [H.h1, H.h2, Ideal.exp_coe, Ideal.cos_coe, ← EReal.coe_mul]

theorem v8_at (g p : Fin 64) : val_main_v8 (F := Ideal) x1 x2 (ix2 g p) = (Real.sin (i g p * Real.exp (t g)) : EReal) := by
  pointwise [val_main_v8, val_main_v6, val_main_v5, val_main_v1, val_main_v0]
  simp only [H.h1, H.h2, Ideal.exp_coe, Ideal.sin_coe, ← EReal.coe_mul]

theorem v12_at (g p : Fin 64) : val_main_v12 (F := Ideal) x1 x2 (ix2 g p) = (Real.sin (i g p * Real.exp (t g)) : EReal) := by
  pointwise [val_main_v12, val_main_v11, val_main_v10, val_main_v1, val_main_v0]
  simp only [H.h1, H.h2, Ideal.exp_coe, Ideal.sin_coe, ← EReal.coe_mul]

theorem v14_at (g p : Fin 64) : val_main_v14 (F := Ideal) x0 x1 x2 (ix2 g p) = (ai (l g p) (i g p) (t g) : EReal) := by
  pointwise [val_main_v14]
  rw [v4_at (H := H), v12_at (H := H), ← EReal.coe_mul, ai]

theorem v17_at (g p : Fin 64) : val_main_v17 (F := Ideal) x0 x1 (ix2 g p) = (den (l g p) (i g p) : EReal) := by
  pointwise [val_main_v17, val_main_v16, val_main_v15]
  simp only [H.h0, H.h1, ← EReal.coe_mul, ← EReal.coe_add, den]

theorem v19_at (g p : Fin 64) : val_main_v19 (F := Ideal) x0 x1 x2 (ix2 g p) = ((ar (l g p) (i g p) (t g) - 1 : ℝ) : EReal) := by
  pointwise [val_main_v19, val_main_v18, val_main_v9, val_main_cst]
  simp only [v4_at (H := H), v7_at (H := H), ← EReal.coe_mul, ← EReal.coe_one, ← EReal.coe_sub, ar]

theorem v22_at (g p : Fin 64) : val_main_v22 (F := Ideal) x0 x1 x2 (ix2 g p)
    = (((ar (l g p) (i g p) (t g) - 1) * l g p + ai (l g p) (i g p) (t g) * i g p : ℝ) : EReal) := by
  pointwise [val_main_v22, val_main_v21, val_main_v20]
  simp only [v19_at (H := H), v14_at (H := H), H.h0, H.h1, ← EReal.coe_mul, ← EReal.coe_add]

theorem v29_at (g p : Fin 64) : val_main_v29 (F := Ideal) x0 x1 x2 (ix2 g p)
    = ((ai (l g p) (i g p) (t g) * l g p - (ar (l g p) (i g p) (t g) - 1) * i g p : ℝ) : EReal) := by
  pointwise [val_main_v29, val_main_v28, val_main_v27]
  simp only [v19_at (H := H), v14_at (H := H), H.h0, H.h1, ← EReal.coe_mul, ← EReal.coe_sub]

theorem v23_at (g p : Fin 64) : val_main_v23 (F := Ideal) x0 x1 x2 (ix2 g p) = (cr (l g p) (i g p) (t g) : EReal) := by
  pointwise [val_main_v23]
  rw [v22_at (H := H), v17_at (H := H), div_coe' (H.hd g p), cr]

theorem v30_at (g p : Fin 64) : val_main_v30 (F := Ideal) x0 x1 x2 (ix2 g p) = (ci (l g p) (i g p) (t g) : EReal) := by
  pointwise [val_main_v30]
  rw [v29_at (H := H), v17_at (H := H), div_coe' (H.hd g p), ci]

theorem v84_at (g p : Fin 64) : val_main_v84 (F := Ideal) x3 x4 x5 x6 (ix2 g p) = (A br bi gr gi g p : EReal) := by
  pointwise [val_main_v84, val_main_v83, val_main_v82, val_main_v81, val_main_v80, val_main_v67, val_main_v66, val_main_v65, val_main_v64, val_main_v63, val_main_v53,
    val_main_cst_5, val_main_cst_6, val_main_cst_9, val_main_cst_10]
  simp only [Fin.sum_univ_one, H.h3, H.h4, H.h5, H.h6, ← EReal.coe_mul, sum_coe, ← EReal.coe_add]
  refine congrArg (fun e : ℝ => (e : EReal)) ?_
  rw [A, ← Finset.sum_add_distrib]
  exact Finset.sum_congr rfl fun c _ => add_comm _ _

theorem v76_at (g p : Fin 64) : val_main_v76 (F := Ideal) x3 x4 x5 x6 (ix2 g p) = (B br bi gr gi g p : EReal) := by
  pointwise [val_main_v76, val_main_v75, val_main_v74, val_main_v73, val_main_v72, val_main_v68, val_main_v60, val_main_v59, val_main_v58, val_main_v57, val_main_v54,
    val_main_cst_3, val_main_cst_4, val_main_cst_7, val_main_cst_8]
  simp only [Fin.sum_univ_one, H.h3, H.h4, H.h5, H.h6, ← EReal.coe_neg, ← EReal.coe_mul, sum_coe, ← EReal.coe_add]
  refine congrArg (fun e : ℝ => (e : EReal)) ?_
  rw [B, ← Finset.sum_add_distrib]
  exact Finset.sum_congr rfl fun c _ => by ring

theorem v50_at (g p : Fin 64) : val_main_v50 (F := Ideal) x7 (ix2 g p) = (X d g p : EReal) := by
  pointwise [val_main_v50, val_main_v49, val_main_v48, val_main_cst_2]
  simp only [H.h7, sum_coe]
  refine congrArg (fun e : ℝ => (e : EReal)) ?_
  rw [X]; rfl

theorem v52_at (g p : Fin 64) : val_main_v52 (F := Ideal) x7 (ix2 g p) = (Y d g p : EReal) := by
  pointwise [val_main_v52, val_main_v51, val_main_v48, val_main_cst_2]
  simp only [H.h7, sum_coe]
  refine congrArg (fun e : ℝ => (e : EReal)) ?_
  rw [Y]; rfl

/-- The gradient of the squared absolute value, as the chain rule writes it. -/
theorem v99_at (g p : Fin 64) : val_main_v99 (F := Ideal) x0 x1 x2 x3 x4 x5 x6 (ix2 g p)
    = (dden (l g p) (i g p) (t g) (A br bi gr gi g p) (B br bi gr gi g p) : EReal) := by
  pointwise [val_main_v99, val_main_v98, val_main_v97, val_main_v96, val_main_v87, val_main_v86, val_main_v85, val_main_v33, val_main_v32, val_main_v31, val_main_v26,
    val_main_v25, val_main_v24, val_main_cst_0, val_main_cst_1]
  have h := H.hd g p
  simp only [v84_at (H := H), v76_at (H := H), v22_at (H := H), v29_at (H := H), v17_at (H := H), ← EReal.coe_one, ← EReal.coe_mul, div_coe' (mul_ne_zero h h), ← EReal.coe_neg, ← EReal.coe_add]
  refine congrArg (fun e : ℝ => (e : EReal)) ?_
  rw [dden, cr, ci]
  field_simp
  ring

theorem v88_at (g p : Fin 64) : val_main_v88 (F := Ideal) x0 x1 x3 x4 x5 x6 (ix2 g p) = ((B br bi gr gi g p / den (l g p) (i g p) : ℝ) : EReal) := by
  pointwise [val_main_v88]
  rw [v76_at (H := H), v17_at (H := H), div_coe' (H.hd g p)]

theorem v100_at (g p : Fin 64) : val_main_v100 (F := Ideal) x0 x1 x3 x4 x5 x6 (ix2 g p) = ((A br bi gr gi g p / den (l g p) (i g p) : ℝ) : EReal) := by
  pointwise [val_main_v100]
  rw [v84_at (H := H), v17_at (H := H), div_coe' (H.hd g p)]

theorem v104_at (g p : Fin 64) : val_main_v104 (F := Ideal) x0 x1 x3 x4 x5 x6 x7 (ix2 g p)
    = (dai (l g p) (i g p) (A br bi gr gi g p) (B br bi gr gi g p) (Y d g p) : EReal) := by
  pointwise [val_main_v104, val_main_v103, val_main_v95, val_main_v94]
  simp only [v52_at (H := H), v88_at (H := H), v100_at (H := H), H.h0, H.h1, ← EReal.coe_mul, ← EReal.coe_add]
  refine congrArg (fun e : ℝ => (e : EReal)) ?_
  rw [dai]; ring

theorem v108_at (g p : Fin 64) : val_main_v108 (F := Ideal) x0 x1 x3 x4 x5 x6 x7 (ix2 g p)
    = (dar (l g p) (i g p) (A br bi gr gi g p) (B br bi gr gi g p) (X d g p) : EReal) := by
  pointwise [val_main_v108, val_main_v107, val_main_v92, val_main_v91, val_main_v89]
  simp only [v50_at (H := H), v88_at (H := H), v100_at (H := H), H.h0, H.h1, ← EReal.coe_mul, ← EReal.coe_neg, ← EReal.coe_add]
  refine congrArg (fun e : ℝ => (e : EReal)) ?_
  rw [dar]; ring

theorem v119_at (g p : Fin 64) : val_main_v119 (F := Ideal) x0 x1 x2 x3 x4 x5 x6 x7 (ix2 g p)
    = ((dai (l g p) (i g p) (A br bi gr gi g p) (B br bi gr gi g p) (Y d g p) * ar (l g p) (i g p) (t g) : ℝ) : EReal) := by
  pointwise [val_main_v119, val_main_v117]
  simp only [v4_at (H := H), v104_at (H := H), v13_at (H := H), ← EReal.coe_mul]
  refine congrArg (fun e : ℝ => (e : EReal)) ?_
  rw [ar]; ring

theorem v130_at (g p : Fin 64) : val_main_v130 (F := Ideal) x0 x1 x2 x3 x4 x5 x6 x7 (ix2 g p)
    = ((-(dar (l g p) (i g p) (A br bi gr gi g p) (B br bi gr gi g p) (X d g p) * ai (l g p) (i g p) (t g)) : ℝ) : EReal) := by
  pointwise [val_main_v130, val_main_v129, val_main_v126]
  simp only [v4_at (H := H), v108_at (H := H), v8_at (H := H), ← EReal.coe_mul, ← EReal.coe_neg]
  refine congrArg (fun e : ℝ => (e : EReal)) ?_
  rw [ai]; ring

theorem v138_at (g p : Fin 64) : val_main_v138 (F := Ideal) x0 x1 x2 x3 x4 x5 x6 x7 (ix2 g p)
    = ((dmag (l g p) (i g p) (t g) (A br bi gr gi g p) (B br bi gr gi g p) (X d g p) (Y d g p) * mag (l g p) (t g) : ℝ) : EReal) := by
  pointwise [val_main_v138, val_main_v128, val_main_v127, val_main_v118]
  simp only [v4_at (H := H), v104_at (H := H), v108_at (H := H), v7_at (H := H), v12_at (H := H), ← EReal.coe_mul, ← EReal.coe_add]
  refine congrArg (fun e : ℝ => (e : EReal)) ?_
  rw [dmag]; ring

/-- The gradient of the poles' real parts. -/
theorem v145_at (g p : Fin 64) : val_main_v145 (F := Ideal) x0 x1 x2 x3 x4 x5 x6 x7 (ix2 g p)
    = (dl (l g p) (i g p) (t g) (A br bi gr gi g p) (B br bi gr gi g p) (X d g p) (Y d g p) : EReal) := by
  pointwise [val_main_v145, val_main_v144, val_main_v143, val_main_v116, val_main_v115, val_main_v114, val_main_v113, val_main_v106, val_main_v105, val_main_v93, val_main_v1, val_main_v0]
  simp only [v138_at (H := H), v99_at (H := H), v88_at (H := H), v100_at (H := H), v14_at (H := H), v19_at (H := H), H.h0, H.h2, Ideal.exp_coe, ← EReal.coe_mul, ← EReal.coe_add]
  refine congrArg (fun e : ℝ => (e : EReal)) ?_
  rw [dl]; ring

/-- The gradient of the poles' imaginary parts. -/
theorem v137_at (g p : Fin 64) : val_main_v137 (F := Ideal) x0 x1 x2 x3 x4 x5 x6 x7 (ix2 g p)
    = (di (l g p) (i g p) (t g) (A br bi gr gi g p) (B br bi gr gi g p) (X d g p) (Y d g p) : EReal) := by
  pointwise [val_main_v137, val_main_v136, val_main_v135, val_main_v125, val_main_v124, val_main_v123, val_main_v112, val_main_v111, val_main_v110, val_main_v109, val_main_v102,
    val_main_v101, val_main_v90, val_main_v89, val_main_v1, val_main_v0]
  simp only [v119_at (H := H), v130_at (H := H), v99_at (H := H), v88_at (H := H), v100_at (H := H), v14_at (H := H), v19_at (H := H), H.h1, H.h2, Ideal.exp_coe,
    ← EReal.coe_mul, ← EReal.coe_neg, ← EReal.coe_add]
  refine congrArg (fun e : ℝ => (e : EReal)) ?_
  rw [di, dang]; ring

/-- The gradient of the step sizes. -/
theorem v147_at (g : Fin 64) : val_main_v147 (F := Ideal) x0 x1 x2 x3 x4 x5 x6 x7 (ix1 g)
    = ((∑ p, dt (l g p) (i g p) (t g) (A br bi gr gi g p) (B br bi gr gi g p) (X d g p) (Y d g p) : ℝ) : EReal) := by
  pointwise [val_main_v147, val_main_v146, val_main_v142, val_main_v141, val_main_v140, val_main_v139, val_main_v134, val_main_v133, val_main_v132, val_main_v131, val_main_v122,
    val_main_v121, val_main_v120, val_main_v0, val_main_cst_11, val_main_cst_12, val_main_cst_13, val_main_cst_14]
  simp only [Fin.sum_univ_one, v119_at (H := H), v130_at (H := H), v138_at (H := H), H.h0, H.h1, H.h2, Ideal.exp_coe, ← EReal.coe_mul, sum_coe, ← EReal.coe_add]
  refine congrArg (fun e : ℝ => (e : EReal)) ?_
  rw [← Finset.sum_add_distrib, ← Finset.sum_add_distrib, Finset.sum_mul]
  exact Finset.sum_congr rfl fun p _ => by rw [dt, dang]; ring

/-- The gradient of the input matrices' real part. -/
theorem v79_at (g p : Fin 64) (c : Fin 16) : val_main_v79 (F := Ideal) x0 x1 x2 x5 x6 (ix3 g p c)
    = ((cr (l g p) (i g p) (t g) * gr g p c + ci (l g p) (i g p) (t g) * gi g p c : ℝ) : EReal) := by
  pointwise [val_main_v79, val_main_v78, val_main_v77, val_main_v67, val_main_v56, val_main_v55, val_main_v54, val_main_v44, val_main_v34]
  simp only [v23_at (H := H), v30_at (H := H), H.h5, H.h6, ← EReal.coe_mul, ← EReal.coe_add]
  rw [add_comm]

/-- The gradient of the input matrices' imaginary part. -/
theorem v71_at (g p : Fin 64) (c : Fin 16) : val_main_v71 (F := Ideal) x0 x1 x2 x5 x6 (ix3 g p c)
    = ((cr (l g p) (i g p) (t g) * gi g p c - ci (l g p) (i g p) (t g) * gr g p c : ℝ) : EReal) := by
  pointwise [val_main_v71, val_main_v70, val_main_v69, val_main_v68, val_main_v62, val_main_v61, val_main_v53, val_main_v41, val_main_v37]
  simp only [v23_at (H := H), v30_at (H := H), H.h5, H.h6, ← EReal.coe_mul, ← EReal.coe_neg, ← EReal.coe_add]
  refine congrArg (fun e : ℝ => (e : EReal)) ?_
  ring

end Cert.PrepRefIdeal.Row

end
-- ==== Proof.PrepValue.lean ====
/- What one block of the discretization's backward call leaves, as real numbers. -/
module

public import proofs.«01_k».proof.Proof.Gen.PrepIdeal.Frame
public import proofs.«01_k».proof.Proof.PrepRef

@[expose] public section

set_option maxRecDepth 16384

noncomputable section

namespace Cert.PrepIdeal.Block

open PrepIdeal PrepIdeal.Gen Ereal Prep Idealize.ShloMosaic TcCoe Idealize.SL.Sem
open PrepRefIdeal.Row (colr coli)

variable (x0 x1 x2 : FVec Ideal S1x1x512 .f32) (x3 x4 : FVec Ideal S1x128x1024 .f32) (x5 : FVec Ideal S1x8x1024 .f32)
variable (l i t : Fin 512 → ℝ) (br bi gr gi : Fin 128 → Fin 512 → ℝ) (dx dy : Fin 8 → Fin 512 → ℝ)

theorem re_emb (q : Fin 128) (j : Fin 512) : (ix3 0 q (⟨j.val, by have := j.isLt; omega⟩ : Fin 1024) : S1x128x1024.Idx) = r0_1.emb (ix3 0 q j : S1x128x512.Idx) := by
  funext a
  refine Fin.ext ?_
  match a with
  | ⟨0, _⟩ => rfl
  | ⟨1, _⟩ => exact (Nat.zero_add _).symm.trans (congrArg (0 + ·) (Nat.one_mul _).symm)
  | ⟨2, _⟩ => exact (Nat.zero_add _).symm.trans (congrArg (0 + ·) (Nat.one_mul _).symm)

theorem im_emb (q : Fin 128) (j : Fin 512) : (ix3 0 q (⟨512 + j.val, by have := j.isLt; omega⟩ : Fin 1024) : S1x128x1024.Idx) = r0_2.emb (ix3 0 q j : S1x128x512.Idx) := by
  funext a
  refine Fin.ext ?_
  match a with
  | ⟨0, _⟩ => rfl
  | ⟨1, _⟩ => exact (Nat.zero_add _).symm.trans (congrArg (0 + ·) (Nat.one_mul _).symm)
  | ⟨2, _⟩ => exact congrArg (512 + ·) (Nat.one_mul _).symm

theorem re_not_mem (q : Fin 128) (j : Fin 512) : (ix3 0 q (⟨j.val, by have := j.isLt; omega⟩ : Fin 1024) : S1x128x1024.Idx) ∉ r0_2.set := by
  rw [Rect.mem_set_unit]
  intro hm
  have h2 : 512 ≤ j.val := (hm 2).1
  have := j.isLt
  omega

theorem half_re (P Q : Vec Ideal S1x128x512 .f32) (q : Fin 128) (j : Fin 512) :
    View.canon ([⟨r0_2, P⟩, ⟨r0_1, Q⟩] : List (View.Piece (Elt Ideal) S1x128x1024 .f32)) (ix3 0 q (⟨j.val, by have := j.isLt; omega⟩ : Fin 1024)) = Q (ix3 0 q j) := by
  refine (View.canon_cons_of_not_mem ⟨r0_2, P⟩ _ (re_not_mem q j)).trans ?_
  rw [re_emb]
  exact View.canon_cons_emb r0_1 Q _ _

theorem half_im (P Q : Vec Ideal S1x128x512 .f32) (q : Fin 128) (j : Fin 512) :
    View.canon ([⟨r0_2, P⟩, ⟨r0_1, Q⟩] : List (View.Piece (Elt Ideal) S1x128x1024 .f32)) (ix3 0 q (⟨512 + j.val, by have := j.isLt; omega⟩ : Fin 1024)) = P (ix3 0 q j) := by
  rw [im_emb]
  exact View.canon_cons_emb r0_2 P _ _

/-- The blocks as real numbers. -/
structure Real' : Prop where
  h0 : ∀ j, x0 (ix3 0 0 j) = (l j : EReal)
  h1 : ∀ j, x1 (ix3 0 0 j) = (i j : EReal)
  h2 : ∀ j, x2 (ix3 0 0 j) = (t j : EReal)
  h3r : ∀ q j, x3 (ix3 0 q (⟨j.val, by have := j.isLt; omega⟩ : Fin 1024)) = (br q j : EReal)
  h3i : ∀ q j, x3 (ix3 0 q (⟨512 + j.val, by have := j.isLt; omega⟩ : Fin 1024)) = (bi q j : EReal)
  h4r : ∀ q j, x4 (ix3 0 q (⟨j.val, by have := j.isLt; omega⟩ : Fin 1024)) = (gr q j : EReal)
  h4i : ∀ q j, x4 (ix3 0 q (⟨512 + j.val, by have := j.isLt; omega⟩ : Fin 1024)) = (gi q j : EReal)
  h5r : ∀ r j, x5 (ix3 0 r (⟨j.val, by have := j.isLt; omega⟩ : Fin 1024)) = (dx r j : EReal)
  h5i : ∀ r j, x5 (ix3 0 r (⟨512 + j.val, by have := j.isLt; omega⟩ : Fin 1024)) = (dy r j : EReal)
  hd : ∀ j, den (l j) (i j) ≠ 0

/-- The gradient of the coefficient, its real part. -/
def A (j : Fin 512) : ℝ := ∑ q, (gr q j * br q j + gi q j * bi q j)
/-- The gradient of the coefficient, its imaginary part. -/
def B (j : Fin 512) : ℝ := ∑ q, (gi q j * br q j - gr q j * bi q j)

variable (H : Real' x0 x1 x2 x3 x4 x5 l i t br bi gr gi dx dy)
include H

theorem v1_at (j : Fin 512) : k0_pay35 (F := Ideal) x0 x1 x2 x3 x4 x5 (ix2 0 j) = ((l j : ℝ) : EReal) := by
  pointwise [k0_pay35, k0_pay2]
  exact H.h0 j

theorem v3_at (j : Fin 512) : k0_pay36 (F := Ideal) x0 x1 x2 x3 x4 x5 (ix2 0 j) = ((i j : ℝ) : EReal) := by
  pointwise [k0_pay36, k0_pay3]
  exact H.h1 j

theorem v6_at (j : Fin 512) : k0_pay37 (F := Ideal) x0 x1 x2 x3 x4 x5 (ix2 0 j) = ((Real.exp (t j) : ℝ) : EReal) := by
  pointwise [k0_pay37, k0_pay4]
  simp only [H.h2, Ideal.exp_coe]

theorem v8_at (j : Fin 512) : k0_pay38 (F := Ideal) x0 x1 x2 x3 x4 x5 (ix2 0 j) = ((mag (l j) (t j) : ℝ) : EReal) := by
  pointwise [k0_pay38, k0_pay5, k0_pay2, k0_pay4]
  simp only [H.h0, H.h2, Ideal.exp_coe, ← EReal.coe_mul, mag]

theorem v9_at (j : Fin 512) : k0_pay39 (F := Ideal) x0 x1 x2 x3 x4 x5 (ix2 0 j) = ((i j * Real.exp (t j) : ℝ) : EReal) := by
  pointwise [k0_pay39, k0_pay6, k0_pay3, k0_pay4]
  simp only [H.h1, H.h2, Ideal.exp_coe, ← EReal.coe_mul]

theorem v11_at (j : Fin 512) : k0_pay40 (F := Ideal) x0 x1 x2 x3 x4 x5 (ix2 0 j) = ((ar (l j) (i j) (t j) : ℝ) : EReal) := by
  pointwise [k0_pay40, k0_pay7, k0_pay6, k0_pay5, k0_pay2, k0_pay3, k0_pay4]
  simp only [H.h0, H.h1, H.h2, Ideal.exp_coe, Ideal.cos_coe, ← EReal.coe_mul, ar, mag]

theorem v13_at (j : Fin 512) : k0_pay41 (F := Ideal) x0 x1 x2 x3 x4 x5 (ix2 0 j) = ((ai (l j) (i j) (t j) : ℝ) : EReal) := by
  pointwise [k0_pay41, k0_pay8, k0_pay6, k0_pay5, k0_pay2, k0_pay3, k0_pay4]
  simp only [H.h0, H.h1, H.h2, Ideal.exp_coe, Ideal.sin_coe, ← EReal.coe_mul, ai, mag]

theorem v16_at (j : Fin 512) : k0_pay42 (F := Ideal) x0 x1 x2 x3 x4 x5 (ix2 0 j) = ((den (l j) (i j) : ℝ) : EReal) := by
  pointwise [k0_pay42, k0_pay9, k0_pay2, k0_pay3]
  simp only [H.h0, H.h1, ← EReal.coe_mul, ← EReal.coe_add, den]

theorem v18_at (j : Fin 512) : k0_pay43 (F := Ideal) x0 x1 x2 x3 x4 x5 (ix2 0 j) = ((ar (l j) (i j) (t j) - 1 : ℝ) : EReal) := by
  have h : k0_pay43 (F := Ideal) x0 x1 x2 x3 x4 x5 (ix2 0 j) = (k0_pay40 (F := Ideal) x0 x1 x2 x3 x4 x5 (ix2 0 j) : EReal) - 1 := by
    pointwise [k0_pay43, k0_pay10, k0_pay40]
  rw [h, v11_at (H := H), ← EReal.coe_one, ← EReal.coe_sub]

theorem v22_at (j : Fin 512) : k0_pay44 (F := Ideal) x0 x1 x2 x3 x4 x5 (ix2 0 j) = (cr (l j) (i j) (t j) : EReal) := by
  have h : k0_pay44 (F := Ideal) x0 x1 x2 x3 x4 x5 (ix2 0 j) = Ideal.div ((k0_pay43 (F := Ideal) x0 x1 x2 x3 x4 x5 (ix2 0 j) : EReal) * k0_pay35 (F := Ideal) x0 x1 x2 x3 x4 x5 (ix2 0 j)
      + (k0_pay41 (F := Ideal) x0 x1 x2 x3 x4 x5 (ix2 0 j) : EReal) * k0_pay36 (F := Ideal) x0 x1 x2 x3 x4 x5 (ix2 0 j)) (k0_pay42 (F := Ideal) x0 x1 x2 x3 x4 x5 (ix2 0 j)) := by
    pointwise [k0_pay44, k0_pay11, k0_pay43, k0_pay35, k0_pay41, k0_pay36, k0_pay42]
  rw [h, v18_at (H := H), v1_at (H := H), v13_at (H := H), v3_at (H := H), v16_at (H := H), ← EReal.coe_mul, ← EReal.coe_mul, ← EReal.coe_add, div_coe' (H.hd j), cr]

theorem v26_at (j : Fin 512) : k0_pay45 (F := Ideal) x0 x1 x2 x3 x4 x5 (ix2 0 j) = (ci (l j) (i j) (t j) : EReal) := by
  have h : k0_pay45 (F := Ideal) x0 x1 x2 x3 x4 x5 (ix2 0 j) = Ideal.div ((k0_pay41 (F := Ideal) x0 x1 x2 x3 x4 x5 (ix2 0 j) : EReal) * k0_pay35 (F := Ideal) x0 x1 x2 x3 x4 x5 (ix2 0 j)
      - (k0_pay43 (F := Ideal) x0 x1 x2 x3 x4 x5 (ix2 0 j) : EReal) * k0_pay36 (F := Ideal) x0 x1 x2 x3 x4 x5 (ix2 0 j)) (k0_pay42 (F := Ideal) x0 x1 x2 x3 x4 x5 (ix2 0 j)) := by
    pointwise [k0_pay45, k0_pay12, k0_pay43, k0_pay35, k0_pay41, k0_pay36, k0_pay42]
  rw [h, v18_at (H := H), v1_at (H := H), v13_at (H := H), v3_at (H := H), v16_at (H := H), ← EReal.coe_mul, ← EReal.coe_mul, ← EReal.coe_sub, div_coe' (H.hd j), ci]

theorem v28_at (q : Fin 128) (j : Fin 512) : k0_pay46 (F := Ideal) x0 x1 x2 x3 x4 x5 (ix2 q j) = ((br q j : ℝ) : EReal) := by
  pointwise [k0_pay46, k0_pay13]
  exact H.h3r q j

theorem v30_at (q : Fin 128) (j : Fin 512) : k0_pay47 (F := Ideal) x0 x1 x2 x3 x4 x5 (ix2 q j) = ((bi q j : ℝ) : EReal) := by
  pointwise [k0_pay47, k0_pay14]
  exact H.h3i q j

theorem v32_at (q : Fin 128) (j : Fin 512) : k0_pay48 (F := Ideal) x0 x1 x2 x3 x4 x5 (ix2 q j) = ((gr q j : ℝ) : EReal) := by
  pointwise [k0_pay48, k0_pay15]
  exact H.h4r q j

theorem v34_at (q : Fin 128) (j : Fin 512) : k0_pay49 (F := Ideal) x0 x1 x2 x3 x4 x5 (ix2 q j) = ((gi q j : ℝ) : EReal) := by
  pointwise [k0_pay49, k0_pay16]
  exact H.h4i q j

theorem v64_at (j : Fin 512) : k0_pay50 (F := Ideal) x0 x1 x2 x3 x4 x5 (ix2 0 j) = ((∑ r, dx r j : ℝ) : EReal) := by
  pointwise [k0_pay50, k0_pay22]
  simp only [H.h5r, sum_coe]

theorem v68_at (j : Fin 512) : k0_pay51 (F := Ideal) x0 x1 x2 x3 x4 x5 (ix2 0 j) = ((∑ r, dy r j : ℝ) : EReal) := by
  pointwise [k0_pay51, k0_pay23]
  simp only [H.h5i, sum_coe]

theorem v55_at (j : Fin 512) : k0_pay20 (F := Ideal) (k0_pay46 (F := Ideal) x0 x1 x2 x3 x4 x5) (k0_pay47 (F := Ideal) x0 x1 x2 x3 x4 x5) (k0_pay48 (F := Ideal) x0 x1 x2 x3 x4 x5) (k0_pay49 (F := Ideal) x0 x1 x2 x3 x4 x5) (ix2 0 j) = (A br bi gr gi j : EReal) := by
  pointwise [k0_pay20]
  simp only [v28_at (H := H), v30_at (H := H), v32_at (H := H), v34_at (H := H), ← EReal.coe_mul, ← EReal.coe_add, sum_coe, A]

theorem v60_at (j : Fin 512) : k0_pay21 (F := Ideal) (k0_pay46 (F := Ideal) x0 x1 x2 x3 x4 x5) (k0_pay47 (F := Ideal) x0 x1 x2 x3 x4 x5) (k0_pay48 (F := Ideal) x0 x1 x2 x3 x4 x5) (k0_pay49 (F := Ideal) x0 x1 x2 x3 x4 x5) (ix2 0 j) = (B br bi gr gi j : EReal) := by
  pointwise [k0_pay21]
  simp only [v28_at (H := H), v30_at (H := H), v32_at (H := H), v34_at (H := H), ← EReal.coe_mul, ← EReal.coe_sub, sum_coe, B]

theorem v69_at (j : Fin 512) : k0_pay52 (F := Ideal) x0 x1 x2 x3 x4 x5 (ix2 0 j) = ((A br bi gr gi j / den (l j) (i j) : ℝ) : EReal) := by
  refine Eq.trans (b := Ideal.div (k0_pay20 (F := Ideal) (k0_pay46 (F := Ideal) x0 x1 x2 x3 x4 x5) (k0_pay47 (F := Ideal) x0 x1 x2 x3 x4 x5) (k0_pay48 (F := Ideal) x0 x1 x2 x3 x4 x5) (k0_pay49 (F := Ideal) x0 x1 x2 x3 x4 x5) (ix2 0 j)) (k0_pay42 (F := Ideal) x0 x1 x2 x3 x4 x5 (ix2 0 j))) rfl ?_
  rw [v55_at (H := H), v16_at (H := H), div_coe' (H.hd j)]

theorem v70_at (j : Fin 512) : k0_pay53 (F := Ideal) x0 x1 x2 x3 x4 x5 (ix2 0 j) = ((B br bi gr gi j / den (l j) (i j) : ℝ) : EReal) := by
  refine Eq.trans (b := Ideal.div (k0_pay21 (F := Ideal) (k0_pay46 (F := Ideal) x0 x1 x2 x3 x4 x5) (k0_pay47 (F := Ideal) x0 x1 x2 x3 x4 x5) (k0_pay48 (F := Ideal) x0 x1 x2 x3 x4 x5) (k0_pay49 (F := Ideal) x0 x1 x2 x3 x4 x5) (ix2 0 j)) (k0_pay42 (F := Ideal) x0 x1 x2 x3 x4 x5 (ix2 0 j))) rfl ?_
  rw [v60_at (H := H), v16_at (H := H), div_coe' (H.hd j)]

theorem v76_at (j : Fin 512) : k0_pay54 (F := Ideal) x0 x1 x2 x3 x4 x5 (ix2 0 j) = (dden (l j) (i j) (t j) (A br bi gr gi j) (B br bi gr gi j) : EReal) := by
  refine Eq.trans (b := Ideal.div (Ideal.ofBits .f32 0x00000000#32 - ((k0_pay20 (F := Ideal) (k0_pay46 (F := Ideal) x0 x1 x2 x3 x4 x5) (k0_pay47 (F := Ideal) x0 x1 x2 x3 x4 x5) (k0_pay48 (F := Ideal) x0 x1 x2 x3 x4 x5) (k0_pay49 (F := Ideal) x0 x1 x2 x3 x4 x5) (ix2 0 j) : EReal) * k0_pay44 (F := Ideal) x0 x1 x2 x3 x4 x5 (ix2 0 j)
    + (k0_pay21 (F := Ideal) (k0_pay46 (F := Ideal) x0 x1 x2 x3 x4 x5) (k0_pay47 (F := Ideal) x0 x1 x2 x3 x4 x5) (k0_pay48 (F := Ideal) x0 x1 x2 x3 x4 x5) (k0_pay49 (F := Ideal) x0 x1 x2 x3 x4 x5) (ix2 0 j) : EReal) * k0_pay45 (F := Ideal) x0 x1 x2 x3 x4 x5 (ix2 0 j))) (k0_pay42 (F := Ideal) x0 x1 x2 x3 x4 x5 (ix2 0 j))) rfl ?_
  rw [v55_at (H := H), v60_at (H := H), v22_at (H := H), v26_at (H := H), v16_at (H := H), Ideal.ofBits_zero_f32, ← EReal.coe_zero, ← EReal.coe_mul, ← EReal.coe_mul, ← EReal.coe_add,
    ← EReal.coe_sub, div_coe' (H.hd j), dden]

theorem v77_at (j : Fin 512) : k0_pay55 (F := Ideal) x0 x1 x2 x3 x4 x5 (ix2 0 j) = ((A br bi gr gi j / den (l j) (i j) * l j : ℝ) : EReal) := by
  refine Eq.trans (b := (k0_pay52 (F := Ideal) x0 x1 x2 x3 x4 x5 (ix2 0 j) : EReal) * k0_pay35 (F := Ideal) x0 x1 x2 x3 x4 x5 (ix2 0 j)) rfl ?_
  rw [v69_at (H := H), v1_at (H := H), ← EReal.coe_mul]

theorem v80_at (j : Fin 512) : k0_pay28 (F := Ideal) (k0_pay36 (F := Ideal) x0 x1 x2 x3 x4 x5) (k0_pay50 (F := Ideal) x0 x1 x2 x3 x4 x5) (k0_pay53 (F := Ideal) x0 x1 x2 x3 x4 x5) (k0_pay55 (F := Ideal) x0 x1 x2 x3 x4 x5) (ix2 0 j) = (dar (l j) (i j) (A br bi gr gi j) (B br bi gr gi j) (∑ r, dx r j) : EReal) := by
  pointwise [k0_pay28]
  simp only [v3_at (H := H), v64_at (H := H), v70_at (H := H), v77_at (H := H), ← EReal.coe_mul, ← EReal.coe_add, ← EReal.coe_sub, dar]

theorem v84_at (j : Fin 512) : k0_pay29 (F := Ideal) (k0_pay35 (F := Ideal) x0 x1 x2 x3 x4 x5) (k0_pay36 (F := Ideal) x0 x1 x2 x3 x4 x5) (k0_pay51 (F := Ideal) x0 x1 x2 x3 x4 x5) (k0_pay52 (F := Ideal) x0 x1 x2 x3 x4 x5) (k0_pay53 (F := Ideal) x0 x1 x2 x3 x4 x5) (ix2 0 j) = (dai (l j) (i j) (A br bi gr gi j) (B br bi gr gi j) (∑ r, dy r j) : EReal) := by
  pointwise [k0_pay29]
  simp only [v1_at (H := H), v3_at (H := H), v68_at (H := H), v69_at (H := H), v70_at (H := H), ← EReal.coe_mul, ← EReal.coe_add, dai]

theorem v103_at (j : Fin 512) : k0_pay30 (F := Ideal) (k0_pay35 (F := Ideal) x0 x1 x2 x3 x4 x5) (k0_pay36 (F := Ideal) x0 x1 x2 x3 x4 x5) (k0_pay39 (F := Ideal) x0 x1 x2 x3 x4 x5) (k0_pay50 (F := Ideal) x0 x1 x2 x3 x4 x5) (k0_pay51 (F := Ideal) x0 x1 x2 x3 x4 x5) (k0_pay52 (F := Ideal) x0 x1 x2 x3 x4 x5) (k0_pay53 (F := Ideal) x0 x1 x2 x3 x4 x5) (k0_pay55 (F := Ideal) x0 x1 x2 x3 x4 x5) (ix2 0 j) = (dmag (l j) (i j) (t j) (A br bi gr gi j) (B br bi gr gi j) (∑ r, dx r j) (∑ r, dy r j) : EReal) := by
  pointwise [k0_pay30]
  simp only [v80_at (H := H), v84_at (H := H), v9_at (H := H), Ideal.cos_coe, Ideal.sin_coe, ← EReal.coe_mul, ← EReal.coe_add, dmag]

theorem v106_at (j : Fin 512) : k0_pay31 (F := Ideal) (k0_pay35 (F := Ideal) x0 x1 x2 x3 x4 x5) (k0_pay36 (F := Ideal) x0 x1 x2 x3 x4 x5) (k0_pay40 (F := Ideal) x0 x1 x2 x3 x4 x5) (k0_pay41 (F := Ideal) x0 x1 x2 x3 x4 x5) (k0_pay50 (F := Ideal) x0 x1 x2 x3 x4 x5) (k0_pay51 (F := Ideal) x0 x1 x2 x3 x4 x5) (k0_pay52 (F := Ideal) x0 x1 x2 x3 x4 x5) (k0_pay53 (F := Ideal) x0 x1 x2 x3 x4 x5) (k0_pay55 (F := Ideal) x0 x1 x2 x3 x4 x5) (ix2 0 j) = (dang (l j) (i j) (t j) (A br bi gr gi j) (B br bi gr gi j) (∑ r, dx r j) (∑ r, dy r j) : EReal) := by
  pointwise [k0_pay31]
  simp only [v80_at (H := H), v84_at (H := H), v11_at (H := H), v13_at (H := H), ← EReal.coe_mul, ← EReal.coe_sub, dang]

/-- The block of the poles' real parts' gradient. -/
theorem out7_at (j : Fin 512) : out0_7 (F := Ideal) x0 x1 x2 x3 x4 x5 (ix3 0 0 j) = (dl (l j) (i j) (t j) (A br bi gr gi j) (B br bi gr gi j) (∑ r, dx r j) (∑ r, dy r j) : EReal) := by
  unfold out0_7
  rw [View.canon_cons_unit_lit' _ _ _ (by decide)]
  pointwise [k0_pay32]
  simp only [v103_at (H := H), v1_at (H := H), v6_at (H := H), v8_at (H := H), v13_at (H := H), v18_at (H := H), v69_at (H := H), v70_at (H := H), v76_at (H := H), lit_two, ← EReal.coe_mul, ← EReal.coe_add, dl]

/-- The block of the poles' imaginary parts' gradient. -/
theorem out8_at (j : Fin 512) : out0_8 (F := Ideal) x0 x1 x2 x3 x4 x5 (ix3 0 0 j) = (di (l j) (i j) (t j) (A br bi gr gi j) (B br bi gr gi j) (∑ r, dx r j) (∑ r, dy r j) : EReal) := by
  unfold out0_8
  rw [View.canon_cons_unit_lit' _ _ _ (by decide)]
  pointwise [k0_pay33]
  simp only [v106_at (H := H), v3_at (H := H), v6_at (H := H), v13_at (H := H), v18_at (H := H), v69_at (H := H), v70_at (H := H), v76_at (H := H), lit_two, ← EReal.coe_mul, ← EReal.coe_add, ← EReal.coe_sub, di]

/-- The block of the step sizes' gradient, before the sum over the states. -/
theorem out9_at (j : Fin 512) : out0_9 (F := Ideal) x0 x1 x2 x3 x4 x5 (ix3 0 0 j) = (dt (l j) (i j) (t j) (A br bi gr gi j) (B br bi gr gi j) (∑ r, dx r j) (∑ r, dy r j) : EReal) := by
  unfold out0_9
  rw [View.canon_cons_unit_lit' _ _ _ (by decide)]
  pointwise [k0_pay1, k0_pay34]
  simp only [v103_at (H := H), v106_at (H := H), v1_at (H := H), v3_at (H := H), v6_at (H := H), v8_at (H := H), ← EReal.coe_mul, ← EReal.coe_add, dt]

/-- The block of the inputs' gradient at its real half. -/
theorem out6_re (q : Fin 128) (j : Fin 512) : out0_6 (F := Ideal) x0 x1 x2 x3 x4 x5 (ix3 0 q (⟨j.val, by have := j.isLt; omega⟩ : Fin 1024)) = ((cr (l j) (i j) (t j) * gr q j + ci (l j) (i j) (t j) * gi q j : ℝ) : EReal) := by
  have e : out0_6 (F := Ideal) x0 x1 x2 x3 x4 x5 (ix3 0 q (⟨j.val, by have := j.isLt; omega⟩ : Fin 1024))
      = (k0_pay44 (F := Ideal) x0 x1 x2 x3 x4 x5 (ix2 0 j) : EReal) * k0_pay48 (F := Ideal) x0 x1 x2 x3 x4 x5 (ix2 q j) + (k0_pay45 (F := Ideal) x0 x1 x2 x3 x4 x5 (ix2 0 j) : EReal) * k0_pay49 (F := Ideal) x0 x1 x2 x3 x4 x5 (ix2 q j) := by
    unfold out0_6
    refine (half_re _ _ q j).trans ?_
    generalize k0_pay45 (F := Ideal) x0 x1 x2 x3 x4 x5 = P
    generalize k0_pay49 (F := Ideal) x0 x1 x2 x3 x4 x5 = Q
    unfold k0_pay44 k0_pay48 k0_pay17
    generalize k0_pay11 (F := Ideal) _ _ _ = R
    generalize k0_pay15 (F := Ideal) _ = T
    pointwise [k0_pay18]
  rw [e, v22_at (H := H), v26_at (H := H), v32_at (H := H), v34_at (H := H), ← EReal.coe_mul, ← EReal.coe_mul, ← EReal.coe_add]

/-- The block of the inputs' gradient at its imaginary half. -/
theorem out6_im (q : Fin 128) (j : Fin 512) : out0_6 (F := Ideal) x0 x1 x2 x3 x4 x5 (ix3 0 q (⟨512 + j.val, by have := j.isLt; omega⟩ : Fin 1024)) = ((cr (l j) (i j) (t j) * gi q j - ci (l j) (i j) (t j) * gr q j : ℝ) : EReal) := by
  have e : out0_6 (F := Ideal) x0 x1 x2 x3 x4 x5 (ix3 0 q (⟨512 + j.val, by have := j.isLt; omega⟩ : Fin 1024))
      = (k0_pay44 (F := Ideal) x0 x1 x2 x3 x4 x5 (ix2 0 j) : EReal) * k0_pay49 (F := Ideal) x0 x1 x2 x3 x4 x5 (ix2 q j) - (k0_pay45 (F := Ideal) x0 x1 x2 x3 x4 x5 (ix2 0 j) : EReal) * k0_pay48 (F := Ideal) x0 x1 x2 x3 x4 x5 (ix2 q j) := by
    unfold out0_6
    refine (half_im _ _ q j).trans ?_
    generalize k0_pay45 (F := Ideal) x0 x1 x2 x3 x4 x5 = P
    generalize k0_pay49 (F := Ideal) x0 x1 x2 x3 x4 x5 = Q
    generalize k0_pay44 (F := Ideal) x0 x1 x2 x3 x4 x5 = R
    generalize k0_pay48 (F := Ideal) x0 x1 x2 x3 x4 x5 = T
    pointwise [k0_pay19]
  rw [e, v22_at (H := H), v26_at (H := H), v32_at (H := H), v34_at (H := H), ← EReal.coe_mul, ← EReal.coe_mul, ← EReal.coe_sub]

end Cert.PrepIdeal.Block

end
-- ==== Proof.PrepHost.lean ====
/- What the discretization's backward call finds and what is made of its results, entry by entry. -/
module

public import proofs.«01_k».proof.Proof.Gen.PrepIdeal.Frame
public import proofs.«01_k».proof.Proof.PrepValue
public import Idealize.ShloMosaic.Lib.StableHlo.ReadAt

@[expose] public section

set_option maxRecDepth 16384

noncomputable section

namespace Cert.PrepIdeal.Host

open PrepIdeal PrepIdeal.Gen Ereal Prep
open Idealize.ShloMosaic TcCoe Tactic Idealize.SL.Sem

/-- The group whose state column `j` of block `k` holds. -/
def grp (k : Fin 8) (j : Fin 512) : Fin 64 := ⟨k.val * 8 + j.val / 64, by have := k.isLt; have := j.isLt; omega⟩
/-- The state that column `j` holds. -/
def st (j : Fin 512) : Fin 64 := ⟨j.val % 64, by omega⟩
/-- The input that lane `q` holds. -/
def ln (q : Fin 128) : Fin 16 := ⟨q.val % 16, by omega⟩

/-- An input matrix as the call has it: of a column's lanes only those of its own group are not zero. -/
def spread (b : Fin 64 → Fin 64 → Fin 16 → ℝ) (k : Fin 8) (q : Fin 128) (j : Fin 512) : ℝ :=
  if q.val / 16 = j.val / 64 then b (grp k j) (st j) (ln q) else 0

/-- A comparison of two counters as a number. -/
theorem eye (a b : ℕ) (ha : a < 8) (hb : b < 8) :
    (FloatOps.uitofp FTy.f32 (IntOp.cmpi CmpIPredicate.eq (IntOp.addi (BitVec.ofNat 32 a) 0#32) (BitVec.ofNat 32 b)) : Ideal .f32) = ((if a = b then 1 else 0 : ℝ) : EReal) := by
  have h : ∀ a b : Fin 8, IntOp.cmpi CmpIPredicate.eq (IntOp.addi (BitVec.ofNat 32 a.val) 0#32) (BitVec.ofNat 32 b.val) = if a.val = b.val then 1#1 else 0#1 := by decide
  rw [h ⟨a, ha⟩ ⟨b, hb⟩]
  by_cases e : a = b
  · simp only [e, if_true]
    exact (by norm_num : (((1#1 : BitVec 1).toNat : ℝ) : EReal) = ((1 : ℝ) : EReal))
  · simp only [e, if_false]
    exact (by norm_num : (((0#1 : BitVec 1).toNat : ℝ) : EReal) = ((0 : ℝ) : EReal))

theorem spread_at (b : Fin 64 → Fin 64 → Fin 16 → ℝ) (x : FVec Ideal S64x64x16 .f32) (hb : ∀ g p a, x (ix3 g p a) = (b g p a : EReal)) (k : Fin 8) (q : Fin 128) (j : Fin 512) :
    (x (ix3 (⟨k.val * 8 + q.val / 16, by have := k.isLt; have := q.isLt; omega⟩ : Fin 64) (st j) (ln q)) : EReal)
      * (FloatOps.uitofp FTy.f32 (IntOp.cmpi CmpIPredicate.eq (IntOp.addi (BitVec.ofNat 32 (q.val / 16)) 0#32) (BitVec.ofNat 32 (j.val / 64))) : Ideal .f32) = (spread b k q j : EReal) := by
  have := q.isLt
  have := j.isLt
  rw [eye _ _ (by omega) (by omega), hb, ← EReal.coe_mul, spread]
  by_cases e : q.val / 16 = j.val / 64
  · simp only [e, if_true, mul_one, grp]
  · simp only [e, if_false, mul_zero]

variable (m : (ℓ : Loc nD τ sig) → Buf (Elt Ideal) ℓ) (c : Dev nD)

theorem early0 (k : Fin 8) (j : Fin 512) : V m c main_v0 (ix3 k 0 j) = m (c.tc.loc main_arg0) (ix2 (grp k j) (st j)) := by
  unfold V V0 hostOps0; simp only [List.flatten_cons, List.flatten_nil, List.append_nil]
  after_reads_at
  rfl

theorem early1 (k : Fin 8) (j : Fin 512) : V m c main_v1 (ix3 k 0 j) = m (c.tc.loc main_arg1) (ix2 (grp k j) (st j)) := by
  unfold V V0 hostOps0; simp only [List.flatten_cons, List.flatten_nil, List.append_nil]; after_reads_at
  rfl

theorem early4 (k : Fin 8) (j : Fin 512) : V m c main_v4 (ix3 k 0 j) = m (c.tc.loc main_arg2) (ix1 (grp k j)) := by
  unfold V V0 hostOps0; simp only [List.flatten_cons, List.flatten_nil, List.append_nil]; after_reads_at
  rfl

/-- The contents after the first `n` of the operations before the call. -/
def mid (n : ℕ) : Valuation τ sig (Elt Ideal) := StableHlo.after (List.take n hostOps0) (fun b => m (c, b))

theorem cat28 : V m c main_v28 = concatenate S8x128x1024 2 [⟨S8x128x512, mid m c 30 (Proc.devRef .tc main_v19)⟩, ⟨S8x128x512, mid m c 30 (Proc.devRef .tc main_v27)⟩] concatenates_S8x128x512_S8x128x512_S8x128x1024_d2 := by
  have e : V m c main_v28 = StableHlo.after (List.drop 30 hostOps0) (mid m c 30) (Proc.devRef .tc main_v28) := by
    unfold mid
    rw [← StableHlo.after_append, List.take_append_drop]
    unfold V V0
    simp only [List.flatten_cons, List.flatten_nil, List.append_nil]
  rw [e]
  generalize mid m c 30 = W
  unfold hostOps0; simp only [List.drop_succ_cons, List.drop_zero]
  after_reads_simp
  rfl

theorem cat69 : V m c main_v69 = concatenate S8x128x1024 2 [⟨S8x128x512, mid m c 72 (Proc.devRef .tc main_v60)⟩, ⟨S8x128x512, mid m c 72 (Proc.devRef .tc main_v68)⟩] concatenates_S8x128x512_S8x128x512_S8x128x1024_d2 := by
  have e : V m c main_v69 = StableHlo.after (List.drop 72 hostOps0) (mid m c 72) (Proc.devRef .tc main_v69) := by
    unfold mid
    rw [← StableHlo.after_append, List.take_append_drop]
    unfold V V0
    simp only [List.flatten_cons, List.flatten_nil, List.append_nil]
  rw [e]
  generalize mid m c 72 = W
  unfold hostOps0; simp only [List.drop_succ_cons, List.drop_zero]
  after_reads_simp
  rfl

theorem early28r (b : Fin 64 → Fin 64 → Fin 16 → ℝ) (hb : ∀ g p x, m (c.tc.loc main_arg3) (ix3 g p x) = (b g p x : EReal)) (k : Fin 8) (q : Fin 128) (j : Fin 512) :
    V m c main_v28 (ix3 k q (⟨j.val, by have := j.isLt; omega⟩ : Fin 1024)) = (spread b k q j : EReal) := by
  rw [cat28 m c]
  refine Eq.trans (b := mid m c 30 (Proc.devRef .tc main_v19) (ix3 k q j)) (by generalize mid m c 30 = W; pointwise) ?_
  unfold mid hostOps0; simp only [List.take_succ_cons, List.take_zero]
  after_reads_at
  exact spread_at b _ hb k q j

theorem early28i (b : Fin 64 → Fin 64 → Fin 16 → ℝ) (hb : ∀ g p x, m (c.tc.loc main_arg4) (ix3 g p x) = (b g p x : EReal)) (k : Fin 8) (q : Fin 128) (j : Fin 512) :
    V m c main_v28 (ix3 k q (⟨512 + j.val, by have := j.isLt; omega⟩ : Fin 1024)) = (spread b k q j : EReal) := by
  rw [cat28 m c]
  refine Eq.trans (b := mid m c 30 (Proc.devRef .tc main_v27) (ix3 k q j)) (by generalize mid m c 30 = W; pointwise) ?_
  unfold mid hostOps0; simp only [List.take_succ_cons, List.take_zero]
  after_reads_at
  exact spread_at b _ hb k q j

theorem early69r (b : Fin 64 → Fin 64 → Fin 16 → ℝ) (hb : ∀ g p x, m (c.tc.loc main_arg5) (ix3 g p x) = (b g p x : EReal)) (k : Fin 8) (q : Fin 128) (j : Fin 512) :
    V m c main_v69 (ix3 k q (⟨j.val, by have := j.isLt; omega⟩ : Fin 1024)) = (spread b k q j : EReal) := by
  rw [cat69 m c]
  refine Eq.trans (b := mid m c 72 (Proc.devRef .tc main_v60) (ix3 k q j)) (by generalize mid m c 72 = W; pointwise) ?_
  unfold mid hostOps0; simp only [List.take_succ_cons, List.take_zero]
  after_reads_at
  exact spread_at b _ hb k q j

theorem early69i (b : Fin 64 → Fin 64 → Fin 16 → ℝ) (hb : ∀ g p x, m (c.tc.loc main_arg6) (ix3 g p x) = (b g p x : EReal)) (k : Fin 8) (q : Fin 128) (j : Fin 512) :
    V m c main_v69 (ix3 k q (⟨512 + j.val, by have := j.isLt; omega⟩ : Fin 1024)) = (spread b k q j : EReal) := by
  rw [cat69 m c]
  refine Eq.trans (b := mid m c 72 (Proc.devRef .tc main_v68) (ix3 k q j)) (by generalize mid m c 72 = W; pointwise) ?_
  unfold mid hostOps0; simp only [List.take_succ_cons, List.take_zero]
  after_reads_at
  exact spread_at b _ hb k q j

open PrepRefIdeal.Row (blk col)

variable (W : Valuation τ sig (Elt Ideal))

theorem last89 (g p : Fin 64) : StableHlo.after hostOps1 W (Proc.devRef .tc main_v89) (ix2 g p) = W (Proc.devRef .tc main_v88_1) (ix3 (blk g) 0 (col g p)) := by
  unfold hostOps1; after_reads_at
  rfl

theorem last90 (g p : Fin 64) : StableHlo.after hostOps1 W (Proc.devRef .tc main_v90) (ix2 g p) = W (Proc.devRef .tc main_v88_2) (ix3 (blk g) 0 (col g p)) := by
  unfold hostOps1; after_reads_at
  rfl

theorem last92 (z : Fin 64 → Fin 64 → ℝ) (hz : ∀ g p, W (Proc.devRef .tc main_v88_3) (ix3 (blk g) 0 (col g p)) = (z g p : EReal)) (g : Fin 64) : StableHlo.after hostOps1 W (Proc.devRef .tc main_v92) (ix1 g) = ((∑ p, z g p : ℝ) : EReal) := by
  unfold hostOps1; after_reads_at
  have e : ∀ f : Fin 64 → EReal, (∀ p, f p = (z g p : EReal)) → ∑ p, f p = ((∑ p, z g p : ℝ) : EReal) := fun f hf => by
    simp only [hf, sum_coe]
  exact e _ (hz g)

/-- The lane that holds input `x` of group `g`. -/
def lane (g : Fin 64) (x : Fin 16) : Fin 128 := ⟨g.val % 8 * 16 + x.val, by have := x.isLt; omega⟩

/-- Of eight groups' columns the one of a lane's own group is kept. -/
theorem own (g p : Fin 64) (z : Fin 512 → ℝ) (f : Fin 8 → EReal) (hf : ∀ a : Fin 8, f a = (z ⟨a.val * 64 + p.val, by have := a.isLt; have := p.isLt; omega⟩ : EReal)) :
    ∑ a : Fin 8, f a * (FloatOps.uitofp FTy.f32 (IntOp.cmpi CmpIPredicate.eq (IntOp.addi (BitVec.ofNat 32 (g.val % 8)) 0#32) (BitVec.ofNat 32 a.val)) : Ideal .f32) = (z (col g p) : EReal) := by
  have e : ∀ a : Fin 8, f a * (FloatOps.uitofp FTy.f32 (IntOp.cmpi CmpIPredicate.eq (IntOp.addi (BitVec.ofNat 32 (g.val % 8)) 0#32) (BitVec.ofNat 32 a.val)) : Ideal .f32)
      = ((if a = (⟨g.val % 8, by omega⟩ : Fin 8) then z ⟨a.val * 64 + p.val, by have := a.isLt; have := p.isLt; omega⟩ else 0 : ℝ) : EReal) := fun a => by
    rw [hf a, eye _ _ (by omega) a.isLt, ← EReal.coe_mul]
    by_cases h : a = (⟨g.val % 8, by omega⟩ : Fin 8)
    · subst h; simp
    · have h' : ¬ g.val % 8 = a.val := fun e => h (Fin.ext e.symm)
      simp only [h, h', if_false, mul_zero]
  refine (Finset.sum_congr rfl fun a _ => e a).trans ?_
  rw [sum_coe, Finset.sum_ite_eq' Finset.univ]
  simp only [Finset.mem_univ, if_true]
  rfl

theorem last106 (Z : Fin 8 → Fin 128 → Fin 512 → ℝ) (hZ : ∀ k q j, W (Proc.devRef .tc main_v88_0) (ix3 k q (⟨j.val, by have := j.isLt; omega⟩ : Fin 1024)) = (Z k q j : EReal)) (g p : Fin 64) (x : Fin 16) :
    StableHlo.after hostOps1 W (Proc.devRef .tc main_v106) (ix3 g p x) = (Z (blk g) (lane g x) (col g p) : EReal) := by
  unfold hostOps1; after_reads_at
  exact own g p (Z (blk g) (lane g x)) _ fun a => hZ (blk g) (lane g x) ⟨a.val * 64 + p.val, by have := a.isLt; have := p.isLt; omega⟩

theorem last120 (Z : Fin 8 → Fin 128 → Fin 512 → ℝ) (hZ : ∀ k q j, W (Proc.devRef .tc main_v88_0) (ix3 k q (⟨512 + j.val, by have := j.isLt; omega⟩ : Fin 1024)) = (Z k q j : EReal)) (g p : Fin 64) (x : Fin 16) :
    StableHlo.after hostOps1 W (Proc.devRef .tc main_v120) (ix3 g p x) = (Z (blk g) (lane g x) (col g p) : EReal) := by
  unfold hostOps1; after_reads_at
  exact own g p (Z (blk g) (lane g x)) _ fun a => hZ (blk g) (lane g x) ⟨a.val * 64 + p.val, by have := a.isLt; have := p.isLt; omega⟩

end Cert.PrepIdeal.Host

end
-- ==== Proof.PrepFinal.lean ====
/- What the discretization's backward call leaves in its four arrays, as real numbers. -/
module

public import proofs.«01_k».proof.Proof.PrepHost

@[expose] public section

set_option maxRecDepth 16384

noncomputable section

namespace Cert.PrepIdeal.Final

open PrepIdeal PrepIdeal.Gen Ereal Prep PrepIdeal.Host Idealize.ShloMosaic TcCoe Idealize.SL.Sem
open PrepRefIdeal.Row (blk col colr coli)
open Idealize.ShloMosaic.Pipeline (Dat)

variable (m : (ℓ : Loc nD τ sig) → Buf (Elt Ideal) ℓ) (c : Dev nD)
variable (l i : Fin 64 → Fin 64 → ℝ) (t : Fin 64 → ℝ) (br bi gr gi : Fin 64 → Fin 64 → Fin 16 → ℝ) (d : Fin 8 → Fin 8 → Fin 1024 → ℝ)

/-- The launched arguments as real numbers. -/
abbrev Args : Prop := PrepRefIdeal.Row.Real' (m (c.tc.loc main_arg0)) (m (c.tc.loc main_arg1)) (m (c.tc.loc main_arg2)) (m (c.tc.loc main_arg3))
  (m (c.tc.loc main_arg4)) (m (c.tc.loc main_arg5)) (m (c.tc.loc main_arg6)) (m (c.tc.loc main_arg7)) l i t br bi gr gi d

theorem idx0 : ∀ p : Fin cfg0.N, win0_0.index p = ![p.val, 0, 0] ∧ win0_1.index p = ![p.val, 0, 0] ∧ win0_2.index p = ![p.val, 0, 0] ∧ win0_3.index p = ![p.val, 0, 0] ∧ win0_4.index p = ![p.val, 0, 0]
    ∧ win0_5.index p = ![p.val, 0, 0] ∧ win0_6.index p = ![p.val, 0, 0] ∧ win0_7.index p = ![p.val, 0, 0] ∧ win0_8.index p = ![p.val, 0, 0] ∧ win0_9.index p = ![p.val, 0, 0] :=
  (by decide +kernel : ∀ p : Fin grid0.N, _)

/-- The block of the groups that a step handles. -/
def kk (p : Fin cfg0.N) : Fin 8 := ⟨p.val, lt_of_lt_of_eq p.isLt N_0⟩

theorem b0 (p : Fin cfg0.N) (j : Fin 512) : (iblk m c 0 p : FVec Ideal S1x1x512 .f32) (ix3 0 0 j) = V m c main_v0 (ix3 (kk p) 0 j) := by
  blk_ext [iblk, idx0 p, kk]
theorem b1 (p : Fin cfg0.N) (j : Fin 512) : (iblk m c 1 p : FVec Ideal S1x1x512 .f32) (ix3 0 0 j) = V m c main_v1 (ix3 (kk p) 0 j) := by
  blk_ext [iblk, idx0 p, kk]
theorem b2 (p : Fin cfg0.N) (j : Fin 512) : (iblk m c 2 p : FVec Ideal S1x1x512 .f32) (ix3 0 0 j) = V m c main_v4 (ix3 (kk p) 0 j) := by
  blk_ext [iblk, idx0 p, kk]
theorem b3 (p : Fin cfg0.N) (q : Fin 128) (j : Fin 1024) : (iblk m c 3 p : FVec Ideal S1x128x1024 .f32) (ix3 0 q j) = V m c main_v28 (ix3 (kk p) q j) := by
  blk_ext [iblk, idx0 p, kk]
theorem b4 (p : Fin cfg0.N) (q : Fin 128) (j : Fin 1024) : (iblk m c 4 p : FVec Ideal S1x128x1024 .f32) (ix3 0 q j) = V m c main_v69 (ix3 (kk p) q j) := by
  blk_ext [iblk, idx0 p, kk]
theorem b5 (p : Fin cfg0.N) (r : Fin 8) (j : Fin 1024) : (iblk m c 5 p : FVec Ideal S1x8x1024 .f32) (ix3 0 r j) = m (c.tc.loc main_arg7) (ix3 (kk p) r j) := by
  rw [← V_main_arg7 m c]
  blk_ext [iblk, idx0 p, kk]

/-- Summing what is spread over the lanes is summing over a group's inputs. -/
theorem sum_spread (j : Fin 512) (f : Fin 128 → ℝ) (g : Fin 16 → ℝ) (h1 : ∀ q, q.val / 16 = j.val / 64 → f q = g (ln q)) (h0 : ∀ q, q.val / 16 ≠ j.val / 64 → f q = 0) :
    ∑ q, f q = ∑ x, g x := by
  have hj := j.isLt
  have e : ∑ q, f q = ∑ a : Fin 8, ∑ x : Fin 16, f ⟨a.val * 16 + x.val, by have := a.isLt; have := x.isLt; omega⟩ :=
    (Fin.sum_mul_add_congr fun a x hl => rfl).symm
  rw [e, Finset.sum_eq_single (⟨j.val / 64, by omega⟩ : Fin 8)]
  · refine Finset.sum_congr rfl fun x _ => ?_
    have hx := x.isLt
    rw [h1 _ (by show (j.val / 64 * 16 + x.val) / 16 = j.val / 64; omega)]
    exact congrArg g (Fin.ext (by show (j.val / 64 * 16 + x.val) % 16 = x.val; omega))
  · intro a _ ha
    refine Finset.sum_eq_zero fun x _ => h0 _ ?_
    have hx := x.isLt
    have ha' : a.val ≠ j.val / 64 := fun e => ha (Fin.ext e)
    show (a.val * 16 + x.val) / 16 ≠ j.val / 64
    omega
  · intro h; exact absurd (Finset.mem_univ _) h

theorem A_eq' (k : Fin 8) (j : Fin 512) : Block.A (spread br k) (spread bi k) (spread gr k) (spread gi k) j = PrepRefIdeal.Row.A br bi gr gi (grp k j) (st j) := by
  unfold Block.A PrepRefIdeal.Row.A
  refine sum_spread j _ (fun x => gr (grp k j) (st j) x * br (grp k j) (st j) x + gi (grp k j) (st j) x * bi (grp k j) (st j) x) (fun q h => ?_) (fun q h => ?_)
  · simp only [spread, h, if_true]
  · simp only [spread, h, if_false, mul_zero, add_zero]

theorem B_eq' (k : Fin 8) (j : Fin 512) : Block.B (spread br k) (spread bi k) (spread gr k) (spread gi k) j = PrepRefIdeal.Row.B br bi gr gi (grp k j) (st j) := by
  unfold Block.B PrepRefIdeal.Row.B
  refine sum_spread j _ (fun x => gi (grp k j) (st j) x * br (grp k j) (st j) x - gr (grp k j) (st j) x * bi (grp k j) (st j) x) (fun q h => ?_) (fun q h => ?_)
  · simp only [spread, h, if_true]
  · simp only [spread, h, if_false, mul_zero, sub_zero]

/-- The gradient of the poles' real parts, by block and column. -/
def f7 (k : Fin 8) (j : Fin 512) : ℝ := dl (l (grp k j) (st j)) (i (grp k j) (st j)) (t (grp k j)) (PrepRefIdeal.Row.A br bi gr gi (grp k j) (st j)) (PrepRefIdeal.Row.B br bi gr gi (grp k j) (st j)) (∑ r, d k r (colr j)) (∑ r, d k r (coli j))
/-- The gradient of the poles' imaginary parts. -/
def f8 (k : Fin 8) (j : Fin 512) : ℝ := di (l (grp k j) (st j)) (i (grp k j) (st j)) (t (grp k j)) (PrepRefIdeal.Row.A br bi gr gi (grp k j) (st j)) (PrepRefIdeal.Row.B br bi gr gi (grp k j) (st j)) (∑ r, d k r (colr j)) (∑ r, d k r (coli j))
/-- The gradient of the step sizes, by state. -/
def f9 (k : Fin 8) (j : Fin 512) : ℝ := dt (l (grp k j) (st j)) (i (grp k j) (st j)) (t (grp k j)) (PrepRefIdeal.Row.A br bi gr gi (grp k j) (st j)) (PrepRefIdeal.Row.B br bi gr gi (grp k j) (st j)) (∑ r, d k r (colr j)) (∑ r, d k r (coli j))
/-- The gradient of the input matrices' real parts, spread as they are. -/
def fr (k : Fin 8) (q : Fin 128) (j : Fin 512) : ℝ := cr (l (grp k j) (st j)) (i (grp k j) (st j)) (t (grp k j)) * spread gr k q j + ci (l (grp k j) (st j)) (i (grp k j) (st j)) (t (grp k j)) * spread gi k q j
/-- The gradient of the input matrices' imaginary parts. -/
def fi (k : Fin 8) (q : Fin 128) (j : Fin 512) : ℝ := cr (l (grp k j) (st j)) (i (grp k j) (st j)) (t (grp k j)) * spread gi k q j - ci (l (grp k j) (st j)) (i (grp k j) (st j)) (t (grp k j)) * spread gr k q j

theorem row (y : S1x1x512.Idx) : ∃ j : Fin 512, y = ix3 0 0 j :=
  ⟨y 2, by
    funext a
    match a with
    | ⟨0, h⟩ => exact Subsingleton.elim (α := Fin 1) _ _
    | ⟨1, h⟩ => exact Subsingleton.elim (α := Fin 1) _ _
    | ⟨2, _⟩ => rfl⟩

theorem lanes (y : S1x128x1024.Idx) : ∃ (q : Fin 128) (j : Fin 1024), y = ix3 0 q j :=
  ⟨y 1, y 2, by
    funext a
    match a with
    | ⟨0, h⟩ => exact Subsingleton.elim (α := Fin 1) _ _
    | ⟨1, _⟩ => rfl
    | ⟨2, _⟩ => rfl⟩

/-- An array of rows from its entries. -/
def rows (f : Fin 8 → Fin 512 → ℝ) : FVec Ideal S8x1x512 .f32 := fun y => ((f (y 0) (y 2) : ℝ) : EReal)

/-- A row of two halves from their entries. -/
def half (f g : Fin 512 → ℝ) (u : Fin 1024) : ℝ := if h : u.val < 512 then f ⟨u.val, h⟩ else g ⟨u.val - 512, by have := u.isLt; omega⟩

theorem half_re (f g : Fin 512 → ℝ) (j : Fin 512) : half f g (colr j) = f j := dif_pos (show (colr j).val < 512 from j.isLt)

theorem half_im (f g : Fin 512 → ℝ) (j : Fin 512) : half f g (coli j) = g j :=
  (dif_neg (show ¬ (coli j).val < 512 by show ¬ 512 + j.val < 512; omega)).trans (congrArg g (Fin.ext (by show 512 + j.val - 512 = j.val; omega)))

/-- An array of two halves from their entries. -/
def halves (f g : Fin 8 → Fin 128 → Fin 512 → ℝ) : FVec Ideal S8x128x1024 .f32 := fun y => ((half (f (y 0) (y 1)) (g (y 0) (y 1)) (y 2) : ℝ) : EReal)

theorem halves_re (f g : Fin 8 → Fin 128 → Fin 512 → ℝ) (k : Fin 8) (q : Fin 128) (j : Fin 512) : halves f g (ix3 k q (colr j)) = (f k q j : EReal) :=
  congrArg ((↑) : ℝ → EReal) (half_re (f k q) (g k q) j)

theorem halves_im (f g : Fin 8 → Fin 128 → Fin 512 → ℝ) (k : Fin 8) (q : Fin 128) (j : Fin 512) : halves f g (ix3 k q (coli j)) = (g k q j : EReal) :=
  congrArg ((↑) : ℝ → EReal) (half_im (f k q) (g k q) j)

variable (H : Args m c l i t br bi gr gi d)
include H

/-- The blocks of a step as real numbers. -/
theorem blocks (p : Fin cfg0.N) : Block.Real' (iblk m c 0 p) (iblk m c 1 p) (iblk m c 2 p) (iblk m c 3 p) (iblk m c 4 p) (iblk m c 5 p)
    (fun j => l (grp (kk p) j) (st j)) (fun j => i (grp (kk p) j) (st j)) (fun j => t (grp (kk p) j)) (spread br (kk p)) (spread bi (kk p)) (spread gr (kk p)) (spread gi (kk p))
    (fun r j => d (kk p) r (colr j)) (fun r j => d (kk p) r (coli j)) where
  h0 j := (b0 m c p j).trans ((early0 m c _ j).trans (H.h0 _ _))
  h1 j := (b1 m c p j).trans ((early1 m c _ j).trans (H.h1 _ _))
  h2 j := (b2 m c p j).trans ((early4 m c _ j).trans (H.h2 _))
  h3r q j := (b3 m c p q _).trans (early28r m c br H.h3 _ q j)
  h3i q j := (b3 m c p q _).trans (early28i m c bi H.h4 _ q j)
  h4r q j := (b4 m c p q _).trans (early69r m c gr H.h5 _ q j)
  h4i q j := (b4 m c p q _).trans (early69i m c gi H.h6 _ q j)
  h5r r j := (b5 m c p r _).trans (H.h7 _ _ _)
  h5i r j := (b5 m c p r _).trans (H.h7 _ _ _)
  hd j := H.hd _ _

theorem final7 : (dats m 0 c).arrAt 7 cfg0.N = rows (f7 l i t br bi gr gi d) := by
  funext y
  refine congrFun ((dats m 0 c).arrAt_eq_of_covers 7 _ (by decide +kernel) fun p _ y => ?_) y
  blk_simp
  rw [after0_7]
  obtain ⟨j, rfl⟩ := row y
  refine Eq.trans (b := rows (f7 l i t br bi gr gi d) (ix3 (kk p) 0 j)) ?_ ?_
  · refine (Block.out7_at _ _ _ _ _ _ _ _ _ _ _ _ _ _ _ (blocks m c l i t br bi gr gi d H p) j).trans ?_
    rw [A_eq', B_eq']
    rfl
  · generalize rows (f7 l i t br bi gr gi d) = G
    blk_ext [idx0 p, kk]

theorem final8 : (dats m 0 c).arrAt 8 cfg0.N = rows (f8 l i t br bi gr gi d) := by
  funext y
  refine congrFun ((dats m 0 c).arrAt_eq_of_covers 8 _ (by decide +kernel) fun p _ y => ?_) y
  blk_simp
  rw [after0_8]
  obtain ⟨j, rfl⟩ := row y
  refine Eq.trans (b := rows (f8 l i t br bi gr gi d) (ix3 (kk p) 0 j)) ?_ ?_
  · refine (Block.out8_at _ _ _ _ _ _ _ _ _ _ _ _ _ _ _ (blocks m c l i t br bi gr gi d H p) j).trans ?_
    rw [A_eq', B_eq']
    rfl
  · generalize rows (f8 l i t br bi gr gi d) = G
    blk_ext [idx0 p, kk]

theorem final9 : (dats m 0 c).arrAt 9 cfg0.N = rows (f9 l i t br bi gr gi d) := by
  funext y
  refine congrFun ((dats m 0 c).arrAt_eq_of_covers 9 _ (by decide +kernel) fun p _ y => ?_) y
  blk_simp
  rw [after0_9]
  obtain ⟨j, rfl⟩ := row y
  refine Eq.trans (b := rows (f9 l i t br bi gr gi d) (ix3 (kk p) 0 j)) ?_ ?_
  · refine (Block.out9_at _ _ _ _ _ _ _ _ _ _ _ _ _ _ _ (blocks m c l i t br bi gr gi d H p) j).trans ?_
    rw [A_eq', B_eq']
    rfl
  · generalize rows (f9 l i t br bi gr gi d) = G
    blk_ext [idx0 p, kk]

theorem final6 : (dats m 0 c).arrAt 6 cfg0.N = halves (fr l i t gr gi) (fi l i t gr gi) := by
  funext y
  refine congrFun ((dats m 0 c).arrAt_eq_of_covers 6 _ (by decide +kernel) fun p _ y => ?_) y
  blk_simp
  rw [after0_6]
  obtain ⟨q, u, rfl⟩ := lanes y
  refine Eq.trans (b := halves (fr l i t gr gi) (fi l i t gr gi) (ix3 (kk p) q u)) ?_ ?_
  · by_cases h : u.val < 512
    · obtain ⟨j, rfl⟩ : ∃ j : Fin 512, u = colr j := ⟨⟨u.val, h⟩, rfl⟩
      rw [halves_re]
      exact Block.out6_re _ _ _ _ _ _ _ _ _ _ _ _ _ _ _ (blocks m c l i t br bi gr gi d H p) q j
    · obtain ⟨j, rfl⟩ : ∃ j : Fin 512, u = coli j :=
        ⟨⟨u.val - 512, by have := u.isLt; omega⟩, Fin.ext (by show u.val = 512 + (u.val - 512); omega)⟩
      rw [halves_im]
      exact Block.out6_im _ _ _ _ _ _ _ _ _ _ _ _ _ _ _ (blocks m c l i t br bi gr gi d H p) q j
  · generalize halves (fr l i t gr gi) (fi l i t gr gi) = G
    blk_ext [idx0 p, kk]

end Cert.PrepIdeal.Final

end
-- ==== Proof.PrepRun.lean ====
/- The whole run of the discretization's backward call: what its five results end holding. -/
module

public import proofs.«01_k».proof.Proof.PrepFinal
public import proofs.«01_k».proof.Proof.Gen.Pre_prep_finite

@[expose] public section

set_option maxRecDepth 16384

noncomputable section

namespace Cert.PrepIdeal.Run

open PrepIdeal PrepIdeal.Gen Ereal Prep PrepIdeal.Host PrepIdeal.Final Idealize.ShloMosaic TcCoe Idealize.SL.Sem
open PrepRefIdeal.Row (blk col colr coli)
open PrepRefIdeal.Read (val_main_v71 val_main_v79 val_main_v137 val_main_v145 val_main_v147)

theorem grp_col (g p : Fin 64) : grp (blk g) (col g p) = g := Fin.ext (by
  have := p.isLt; show g.val / 8 * 8 + (g.val % 8 * 64 + p.val) / 64 = g.val; omega)
theorem st_col (g p : Fin 64) : st (col g p) = p := Fin.ext (by
  have := p.isLt; show (g.val % 8 * 64 + p.val) % 64 = p.val; omega)
theorem ln_lane (g : Fin 64) (x : Fin 16) : ln (lane g x) = x := Fin.ext (by
  have := x.isLt; show (g.val % 8 * 16 + x.val) % 16 = x.val; omega)

/-- At its own lanes a spread matrix is the matrix. -/
theorem spread_own (b : Fin 64 → Fin 64 → Fin 16 → ℝ) (g p : Fin 64) (x : Fin 16) : spread b (blk g) (lane g x) (col g p) = b g p x := by
  unfold spread
  rw [if_pos (by have := x.isLt; have := p.isLt; show (g.val % 8 * 16 + x.val) / 16 = (g.val % 8 * 64 + p.val) / 64; omega), grp_col, st_col, ln_lane]

variable (m : (ℓ : Loc nD τ sig) → Buf (Elt Ideal) ℓ) (ρ : Dev nD → PrngReg)

/-- The contents right after the call. -/
def mem1 (c : Dev nD) : Valuation τ sig (Elt Ideal) := Pipeline.withArrays (cfgs 0).spec c (V0 m c) fun w => (dats m 0 c).arrAt w (cfgs 0).N

theorem mem1_arr (c : Dev nD) (w : Fin (cfgs 0).W) : mem1 m c (Proc.devRef .tc (Pipeline.arrRef (cfgs 0).spec w)) = (dats m 0 c).arrAt w (cfgs 0).N :=
  Pipeline.withArrays_arr _ launch0.win.arr_inj c _ _ w

theorem real_args (x0 x1 : FVec Ideal S64x64 .f32) (x2 : FVec Ideal S64 .f32) (x3 x4 x5 x6 : FVec Ideal S64x64x16 .f32) (x7 : FVec Ideal S8x8x1024 .f32)
    (h : @Pre_prep_finite.fn Pre_prep_finite.Gen.facts Ideal _ x0 x1 x2 x3 x4 x5 x6 x7 = fun _ => 1#1) :
    ∃ (l i : Fin 64 → Fin 64 → ℝ) (t : Fin 64 → ℝ) (br bi gr gi : Fin 64 → Fin 64 → Fin 16 → ℝ) (d : Fin 8 → Fin 8 → Fin 1024 → ℝ),
      PrepRefIdeal.Row.Real' x0 x1 x2 x3 x4 x5 x6 x7 l i t br bi gr gi d := by
  have h0 := congrFun h ValueIdx.ix0
  simp only [Pre_prep_finite.fn, Pre_prep_finite.fn_part1, Pre_prep_finite.fn_part2, andi, IntOp.andi_eq_one] at h0
  obtain ⟨⟨⟨⟨⟨⟨⟨⟨a0, a1⟩, a2⟩, a3⟩, a4⟩, a5⟩, a6⟩, a7⟩, a8⟩ := h0
  obtain ⟨X0, rfl⟩ := Ereal.real_of_all x0 _ (fun i => by pointwise) _ _ _ _ a0
  obtain ⟨X1, rfl⟩ := Ereal.real_of_all x1 _ (fun i => by pointwise) _ _ _ _ a1
  obtain ⟨X2, rfl⟩ := Ereal.real_of_all x2 _ (fun i => by pointwise) _ _ _ _ a2
  obtain ⟨X3, rfl⟩ := Ereal.real_of_all x3 _ (fun i => by pointwise) _ _ _ _ a3
  obtain ⟨X4, rfl⟩ := Ereal.real_of_all x4 _ (fun i => by pointwise) _ _ _ _ a4
  obtain ⟨X5, rfl⟩ := Ereal.real_of_all x5 _ (fun i => by pointwise) _ _ _ _ a5
  obtain ⟨X6, rfl⟩ := Ereal.real_of_all x6 _ (fun i => by pointwise) _ _ _ _ a6
  obtain ⟨X7, rfl⟩ := Ereal.real_of_all x7 _ (fun i => by pointwise) _ _ _ _ a7
  refine ⟨fun g p => X0 (ix2 g p), fun g p => X1 (ix2 g p), fun g => X2 (ix1 g), fun g p x => X3 (ix3 g p x), fun g p x => X4 (ix3 g p x),
    fun g p x => X5 (ix3 g p x), fun g p x => X6 (ix3 g p x), fun k r j => X7 (ix3 k r j), fun _ _ => rfl, fun _ _ => rfl, fun _ => rfl, fun _ _ _ => rfl, fun _ _ _ => rfl,
    fun _ _ _ => rfl, fun _ _ _ => rfl, fun _ _ _ => rfl, fun g p => ?_⟩
  have e := Host.reduce_andi_all _ _ _ _ _ a8 (ix2 g p)
  pointwise at e
  have e' : (0 : EReal) < ((X0 (ix2 g p) * X0 (ix2 g p) + X1 (ix2 g p) * X1 (ix2 g p) : ℝ) : EReal) := by
    rw [EReal.coe_add, EReal.coe_mul, EReal.coe_mul]
    by_contra hn
    rw [decide_eq_false hn] at e
    exact absurd e (by decide)
  exact ne_of_gt (EReal.coe_pos.mp e')

theorem entries2 (f g : FVec Ideal S64x64 .f32) (h : ∀ a b, f (ix2 a b) = g (ix2 a b)) : f = g := by
  funext y
  have e : y = ix2 (y 0) (y 1) := by
    funext a
    match a with
    | ⟨0, h⟩ => rfl
    | ⟨1, h⟩ => rfl
  rw [e]; exact h _ _

theorem entries1 (f g : FVec Ideal S64 .f32) (h : ∀ a, f (ix1 a) = g (ix1 a)) : f = g := by
  funext y
  have e : y = ix1 (y 0) := by
    funext a
    match a with
    | ⟨0, h⟩ => rfl
  rw [e]; exact h _

theorem entries3 (f g : FVec Ideal S64x64x16 .f32) (h : ∀ a b x, f (ix3 a b x) = g (ix3 a b x)) : f = g := by
  funext y
  have e : y = ix3 (y 0) (y 1) (y 2) := by
    funext a
    match a with
    | ⟨0, h⟩ => rfl
    | ⟨1, h⟩ => rfl
    | ⟨2, h⟩ => rfl
  rw [e]; exact h _ _ _

variable (c : Dev nD) (l i : Fin 64 → Fin 64 → ℝ) (t : Fin 64 → ℝ) (br bi gr gi : Fin 64 → Fin 64 → Fin 16 → ℝ) (d : Fin 8 → Fin 8 → Fin 1024 → ℝ)

theorem f7_own (g p : Fin 64) : f7 l i t br bi gr gi d (blk g) (col g p)
    = dl (l g p) (i g p) (t g) (PrepRefIdeal.Row.A br bi gr gi g p) (PrepRefIdeal.Row.B br bi gr gi g p) (PrepRefIdeal.Row.X d g p) (PrepRefIdeal.Row.Y d g p) := by
  unfold f7; rw [grp_col, st_col]; rfl
theorem f8_own (g p : Fin 64) : f8 l i t br bi gr gi d (blk g) (col g p)
    = di (l g p) (i g p) (t g) (PrepRefIdeal.Row.A br bi gr gi g p) (PrepRefIdeal.Row.B br bi gr gi g p) (PrepRefIdeal.Row.X d g p) (PrepRefIdeal.Row.Y d g p) := by
  unfold f8; rw [grp_col, st_col]; rfl
theorem f9_own (g p : Fin 64) : f9 l i t br bi gr gi d (blk g) (col g p)
    = dt (l g p) (i g p) (t g) (PrepRefIdeal.Row.A br bi gr gi g p) (PrepRefIdeal.Row.B br bi gr gi g p) (PrepRefIdeal.Row.X d g p) (PrepRefIdeal.Row.Y d g p) := by
  unfold f9; rw [grp_col, st_col]; rfl
theorem fr_own (g p : Fin 64) (x : Fin 16) : fr l i t gr gi (blk g) (lane g x) (col g p) = cr (l g p) (i g p) (t g) * gr g p x + ci (l g p) (i g p) (t g) * gi g p x := by
  unfold fr; rw [grp_col, st_col, spread_own, spread_own]
theorem fi_own (g p : Fin 64) (x : Fin 16) : fi l i t gr gi (blk g) (lane g x) (col g p) = cr (l g p) (i g p) (t g) * gi g p x - ci (l g p) (i g p) (t g) * gr g p x := by
  unfold fi; rw [grp_col, st_col, spread_own, spread_own]

section
variable (H : Args m c l i t br bi gr gi d)
include H

theorem at89 : StableHlo.after hostOps1 (mem1 m c) (Proc.devRef .tc main_v89) = val_main_v145 (F := Ideal) (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) := by
  refine entries2 _ _ fun g p => (last89 (mem1 m c) g p).trans (Eq.trans ?_ (PrepRefIdeal.Row.v145_at _ _ _ _ _ _ _ _ _ _ _ _ _ _ _ _ H g p).symm)
  refine (congrFun ((mem1_arr m c 7).trans (final7 m c l i t br bi gr gi d H)) _).trans ?_
  exact congrArg ((↑) : ℝ → EReal) (f7_own l i t br bi gr gi d g p)

theorem at90 : StableHlo.after hostOps1 (mem1 m c) (Proc.devRef .tc main_v90) = val_main_v137 (F := Ideal) (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) := by
  refine entries2 _ _ fun g p => (last90 (mem1 m c) g p).trans (Eq.trans ?_ (PrepRefIdeal.Row.v137_at _ _ _ _ _ _ _ _ _ _ _ _ _ _ _ _ H g p).symm)
  refine (congrFun ((mem1_arr m c 8).trans (final8 m c l i t br bi gr gi d H)) _).trans ?_
  exact congrArg ((↑) : ℝ → EReal) (f8_own l i t br bi gr gi d g p)

theorem at92 : StableHlo.after hostOps1 (mem1 m c) (Proc.devRef .tc main_v92) = val_main_v147 (F := Ideal) (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) := by
  refine entries1 _ _ fun g => (last92 (mem1 m c) (fun g p => dt (l g p) (i g p) (t g) (PrepRefIdeal.Row.A br bi gr gi g p) (PrepRefIdeal.Row.B br bi gr gi g p)
    (PrepRefIdeal.Row.X d g p) (PrepRefIdeal.Row.Y d g p)) (fun g p => ?_) g).trans (PrepRefIdeal.Row.v147_at _ _ _ _ _ _ _ _ _ _ _ _ _ _ _ _ H g).symm
  refine (congrFun ((mem1_arr m c 9).trans (final9 m c l i t br bi gr gi d H)) _).trans ?_
  exact congrArg ((↑) : ℝ → EReal) (f9_own l i t br bi gr gi d g p)

theorem at106 : StableHlo.after hostOps1 (mem1 m c) (Proc.devRef .tc main_v106) = val_main_v79 (F := Ideal) (m (c.tc.loc main_arg0)) (m (c.tc.loc main_arg1)) (m (c.tc.loc main_arg2)) (m (c.tc.loc main_arg5))
    (m (c.tc.loc main_arg6)) := by
  refine entries3 _ _ fun g p x => (last106 (mem1 m c) (fr l i t gr gi) (fun k q j => ?_) g p x).trans (Eq.trans ?_ (PrepRefIdeal.Row.v79_at _ _ _ _ _ _ _ _ _ _ _ _ _ _ _ _ H g p x).symm)
  · exact (congrFun ((mem1_arr m c 6).trans (final6 m c l i t br bi gr gi d H)) _).trans (halves_re _ _ k q j)
  · exact congrArg ((↑) : ℝ → EReal) (fr_own l i t gr gi g p x)

theorem at120 : StableHlo.after hostOps1 (mem1 m c) (Proc.devRef .tc main_v120) = val_main_v71 (F := Ideal) (m (c.tc.loc main_arg0)) (m (c.tc.loc main_arg1)) (m (c.tc.loc main_arg2)) (m (c.tc.loc main_arg5))
    (m (c.tc.loc main_arg6)) := by
  refine entries3 _ _ fun g p x => (last120 (mem1 m c) (fi l i t gr gi) (fun k q j => ?_) g p x).trans (Eq.trans ?_ (PrepRefIdeal.Row.v71_at _ _ _ _ _ _ _ _ _ _ _ _ _ _ _ _ H g p x).symm)
  · exact (congrFun ((mem1_arr m c 6).trans (final6 m c l i t br bi gr gi d H)) _).trans (halves_im _ _ k q j)
  · exact congrArg ((↑) : ℝ → EReal) (fi_own l i t gr gi g p x)

end

/-- What a result ends holding is what the lines after the call leave. -/
theorem read (r : PUnit × MemSt nD τ sig (Elt Ideal)) (h : Pipeline.FramePost cfgs (dats m) 0 (Pipeline.afterTail₀ cfgs (dats m) 0 (V0 m) [hostOps1]) r) (c : Dev nD) (b : Ref sig .tc)
    (hb : b ∈ Pipeline.restRefs sig (cfgs 0).spec) : r.2.mem (c.tc.loc b) = StableHlo.after hostOps1 (mem1 m c) (Proc.devRef .tc b) := by
  refine ((h c).2 b hb).trans ?_
  unfold Pipeline.afterTail₀
  simp only [List.flatten_cons, List.flatten_nil, List.append_nil]
  rfl

/-- The run: the results at the reference's terms, the arguments unchanged. -/
theorem results (hreal : ∀ c : Dev nD, ∃ (l i : Fin 64 → Fin 64 → ℝ) (t : Fin 64 → ℝ) (br bi gr gi : Fin 64 → Fin 64 → Fin 16 → ℝ) (d : Fin 8 → Fin 8 → Fin 1024 → ℝ), Args m c l i t br bi gr gi d) :
    θ_run defs (onTc (τ := τ) (main (F := Ideal))) ⟨m, fun _ => 0, ρ⟩ fun r => ∀ c : Dev nD,
    r.2.mem (c.tc.loc main_v89) = val_main_v145 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7))
    ∧ r.2.mem (c.tc.loc main_v90) = val_main_v137 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7))
    ∧ r.2.mem (c.tc.loc main_v92) = val_main_v147 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7))
    ∧ r.2.mem (c.tc.loc main_v106) = val_main_v79 (F := Ideal) (m (c.tc.loc main_arg0)) (m (c.tc.loc main_arg1)) (m (c.tc.loc main_arg2)) (m (c.tc.loc main_arg5)) (m (c.tc.loc main_arg6))
    ∧ r.2.mem (c.tc.loc main_v120) = val_main_v71 (F := Ideal) (m (c.tc.loc main_arg0)) (m (c.tc.loc main_arg1)) (m (c.tc.loc main_arg2)) (m (c.tc.loc main_arg5)) (m (c.tc.loc main_arg6))
    ∧ r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) ∧ r.2.mem (c.tc.loc main_arg5) = m (c.tc.loc main_arg5)
    ∧ r.2.mem (c.tc.loc main_arg6) = m (c.tc.loc main_arg6) ∧ r.2.mem (c.tc.loc main_arg7) = m (c.tc.loc main_arg7) := by
  refine (θ_run defs _ _).mono (fun r h c => ?_) (θ_run_and (unchanged m ρ) (run_main m ρ))
  obtain ⟨l, i, t, br, bi, gr, gi, d, H⟩ := hreal c
  obtain ⟨ha, hp⟩ := h
  have rd := read m r hp c
  exact ⟨(rd main_v89 (Pipeline.mem_restRefs_of _ (by decide) (by decide))).trans (at89 m c l i t br bi gr gi d H),
    (rd main_v90 (Pipeline.mem_restRefs_of _ (by decide) (by decide))).trans (at90 m c l i t br bi gr gi d H),
    (rd main_v92 (Pipeline.mem_restRefs_of _ (by decide) (by decide))).trans (at92 m c l i t br bi gr gi d H),
    (rd main_v106 (Pipeline.mem_restRefs_of _ (by decide) (by decide))).trans (at106 m c l i t br bi gr gi d H),
    (rd main_v120 (Pipeline.mem_restRefs_of _ (by decide) (by decide))).trans (at120 m c l i t br bi gr gi d H), ha c⟩

end Cert.PrepIdeal.Run

end
-- ==== Proof.PrepClaim.lean ====
/- The value of the discretization's backward call: its results are the reference's, at the arguments the two agree on. -/
module

public import proofs.«01_k».proof.Defs
public import proofs.«01_k».proof.Proof.Gen.PrepIdeal.Frame
public import proofs.«01_k».proof.Proof.Gen.PrepRefIdeal.Run
public import proofs.«01_k».proof.Proof.Gen.PrepRefIdeal.Read
public import proofs.«01_k».proof.Proof.PrepRun
public import Idealize.ShloMosaic.Lib.Claim

@[expose] public section

set_option maxRecDepth 16384

noncomputable section

namespace Cert.Proof

open Idealize.ShloMosaic Idealize.SL.Sem

/-- The discretization's gradient reference's frame. -/
theorem prep_ref : Cert.quiescent_PrepRefIdeal (hPrepRefIdeal := PrepRefIdeal.Gen.facts) := by
  intro m g _
  exact (θ_run PrepRefIdeal.defs _ _).mono (fun r h => ⟨fun c => (h c).2.2.2.2.2, sem_eq_zero_of_no_sems (by decide) r.2⟩) (PrepRefIdeal.Value.run m g)

/-- The value: the call's five results are the reference's. -/
theorem prep_value : Cert.algebraic_PrepIdeal_PrepRefIdeal_pre_prep_finite (hPrepIdeal := PrepIdeal.Gen.facts) (hPrepRefIdeal := PrepRefIdeal.Gen.facts)
    (hPre_prep_finite := Pre_prep_finite.Gen.facts) := by
  intro m g m' g' hpre hagree
  refine ⟨_, _, _, _, _, PrepIdeal.Run.results m g (fun c => PrepIdeal.Run.real_args _ _ _ _ _ _ _ _ (hpre c)), (θ_run PrepRefIdeal.defs _ _).mono (fun r h c => ?_) (PrepRefIdeal.Value.run m' g')⟩
  obtain ⟨hv145, hv137, hv147, hv79, hv71, ha⟩ := h c
  replace hv145 := hv145.trans (PrepRefIdeal.Read.val_main_v145_eq m' c)
  replace hv137 := hv137.trans (PrepRefIdeal.Read.val_main_v137_eq m' c)
  replace hv147 := hv147.trans (PrepRefIdeal.Read.val_main_v147_eq m' c)
  replace hv79 := hv79.trans (PrepRefIdeal.Read.val_main_v79_eq _ _ _ _ _)
  replace hv71 := hv71.trans (PrepRefIdeal.Read.val_main_v71_eq _ _ _ _ _)
  obtain ⟨e0, e1, e2, e3, e4, e5, e6, e7⟩ := hagree c
  rw [e0, e1, e2, e3, e4, e5, e6, e7] at hv145
  rw [e0, e1, e2, e3, e4, e5, e6, e7] at hv137
  rw [e0, e1, e2, e3, e4, e5, e6, e7] at hv147
  rw [e0, e1, e2, e5, e6] at hv79
  rw [e0, e1, e2, e5, e6] at hv71
  exact ⟨hv145, hv137, hv147, hv79, hv71, ha⟩

end Cert.Proof

end
-- ==== Proof.FfnMath.lean ====
/- The gated feed-forward step with its causal convolution over three rows, and its gradients, as real numbers. -/
module

public import proofs.«01_k».proof.Proof.Norm

@[expose] public section

set_option maxRecDepth 16384

noncomputable section

namespace Cert.Ffn.Math

open Norm

/-- A column read two rows back: the convolution's rows before the first are zero. -/
def lb (u : Fin 16384 → ℝ) (n : ℕ) : ℝ := if h : 2 ≤ n ∧ n < 16386 then u ⟨n - 2, by omega⟩ else 0
/-- A column read past its last row is zero. -/
def ah (d : Fin 16384 → ℝ) (n : ℕ) : ℝ := if h : n < 16384 then d ⟨n, h⟩ else 0
/-- The convolution of a column: three taps and a constant. -/
def cv (u : Fin 16384 → ℝ) (w : Fin 3 → ℝ) (b : ℝ) (r : Fin 16384) : ℝ :=
  w 0 * lb u r.val + w 1 * lb u (r.val + 1) + w 2 * lb u (r.val + 2) + b
/-- The convolution's transpose: the taps look ahead. -/
def du (d : Fin 16384 → ℝ) (w : Fin 3 → ℝ) (r : Fin 16384) : ℝ :=
  w 2 * ah d r.val + w 1 * ah d (r.val + 1) + w 0 * ah d (r.val + 2)
/-- The logistic function. -/
def sg (x : ℝ) : ℝ := (1 + Real.exp (-x))⁻¹

theorem ah_of (d : Fin 16384 → ℝ) (r : Fin 16384) : ah d r.val = d r := by rw [ah, dif_pos r.isLt]
theorem lb_two (u : Fin 16384 → ℝ) (r : Fin 16384) : lb u (r.val + 2) = u r := by
  rw [lb, dif_pos ⟨by omega, by omega⟩]; exact congrArg u (Fin.ext (by simp))
theorem lb_ah (u : Fin 16384 → ℝ) (n : ℕ) : lb u (n + 2) = ah u n := by
  unfold lb ah
  by_cases h : n < 16384
  · rw [dif_pos h, dif_pos ⟨by omega, by omega⟩]; exact congrArg u (Fin.ext (by simp))
  · rw [dif_neg h, dif_neg (by omega)]
theorem lb_lt (u : Fin 16384 → ℝ) (n : ℕ) (h : n < 2) : lb u n = 0 := by rw [lb, dif_neg (by omega)]
theorem ah_ge (u : Fin 16384 → ℝ) (n : ℕ) (h : 16384 ≤ n) : ah u n = 0 := by rw [ah, dif_neg (by omega)]

theorem range_one (N : ℕ) (f l : ℕ → ℝ) (h0 : l 0 = 0) (h1 : f (N + 1) = 0) :
    ∑ n ∈ Finset.range (N + 1), f n * l n = ∑ n ∈ Finset.range (N + 1), f (n + 1) * l (n + 1) := by
  rw [Finset.sum_range_succ', Finset.sum_range_succ, h0, h1, mul_zero, zero_mul]
theorem range_two (N : ℕ) (f l : ℕ → ℝ) (h0 : l 0 = 0) (h1 : l 1 = 0) (h2 : f (N + 2) = 0) (h3 : f (N + 3) = 0) :
    ∑ n ∈ Finset.range (N + 2), f n * l n = ∑ n ∈ Finset.range (N + 2), f (n + 2) * l (n + 2) :=
  (range_one (N + 1) f l h0 h2).trans (range_one (N + 1) (fun n => f (n + 1)) (fun n => l (n + 1)) h1 h3)

/-- A tap's gradient, counted from the output's rows or from the input's rows. -/
theorem shift_two (d u : Fin 16384 → ℝ) : ∑ r : Fin 16384, d r * lb u r.val = ∑ r : Fin 16384, ah d (r.val + 2) * u r := by
  have e1 : ∑ r : Fin 16384, d r * lb u r.val = ∑ n ∈ Finset.range 16384, ah d n * lb u n := by
    rw [Finset.sum_range]; exact Finset.sum_congr rfl fun r _ => by rw [ah_of]
  have e2 : ∑ r : Fin 16384, ah d (r.val + 2) * u r = ∑ n ∈ Finset.range 16384, ah d (n + 2) * ah u n := by
    rw [Finset.sum_range]; exact Finset.sum_congr rfl fun r _ => by rw [ah_of]
  rw [e1, e2]
  refine (range_two 16382 _ _ (lb_lt u 0 (by omega)) (lb_lt u 1 (by omega)) (ah_ge d _ (by omega)) (ah_ge d _ (by omega))).trans ?_
  exact Finset.sum_congr rfl fun n _ => by rw [lb_ah]
theorem shift_one (d u : Fin 16384 → ℝ) : ∑ r : Fin 16384, d r * lb u (r.val + 1) = ∑ r : Fin 16384, ah d (r.val + 1) * u r := by
  have e1 : ∑ r : Fin 16384, d r * lb u (r.val + 1) = ∑ n ∈ Finset.range 16384, ah d n * lb u (n + 1) := by
    rw [Finset.sum_range]; exact Finset.sum_congr rfl fun r _ => by rw [ah_of]
  have e2 : ∑ r : Fin 16384, ah d (r.val + 1) * u r = ∑ n ∈ Finset.range 16384, ah d (n + 1) * ah u n := by
    rw [Finset.sum_range]; exact Finset.sum_congr rfl fun r _ => by rw [ah_of]
  rw [e1, e2]
  refine (range_one 16383 (ah d) (fun n => lb u (n + 1)) (lb_lt u 1 (by omega)) (ah_ge d _ (by omega))).trans ?_
  exact Finset.sum_congr rfl fun n _ => congrArg (fun e => ah d (n + 1) * e) (lb_ah u n)

/-- The column of a value among the 5632. -/
def vj (j : Fin 2816) : Fin 5632 := ⟨j.val, by omega⟩
/-- The column of a gate among the 5632. -/
def gj (j : Fin 2816) : Fin 5632 := ⟨2816 + j.val, by omega⟩

/-- A sum over the 5632 columns is the values' sum plus the gates'. -/
theorem sum_halves (f : Fin 5632 → ℝ) : ∑ j, f j = ∑ j, f (vj j) + ∑ j, f (gj j) :=
  Fin.sum_univ_add (M := ℝ) (a := 2816) (b := 2816) f

variable (x d : Fin 16384 → Fin 1024 → ℝ) (g : Fin 1024 → ℝ) (wu : Fin 1024 → Fin 5632 → ℝ) (cw : Fin 3 → Fin 5632 → ℝ)
  (cb : Fin 5632 → ℝ) (wd : Fin 2816 → Fin 1024 → ℝ)

/-- The normed and scaled row. -/
def hn (r : Fin 16384) (k : Fin 1024) : ℝ := x r k * rr (x r) * g k
/-- The column `j` of the up projection. -/
def up (j : Fin 5632) (r : Fin 16384) : ℝ := ∑ k, hn x g r k * wu k j
/-- The column `j` after the convolution. -/
def cc (j : Fin 5632) (r : Fin 16384) : ℝ := cv (up x g wu j) (fun a => cw a j) (cb j) r
/-- The gated value. -/
def act (r : Fin 16384) (j : Fin 2816) : ℝ :=
  cc x g wu cw cb (gj j) r * sg (cc x g wu cw cb (gj j) r) * cc x g wu cw cb (vj j) r
/-- The step's output row. -/
def out (r : Fin 16384) (k : Fin 1024) : ℝ := x r k + ∑ j, act x g wu cw cb r j * wd j k
/-- The gradient of the gated value. -/
def da (r : Fin 16384) (j : Fin 2816) : ℝ := ∑ k, d r k * wd j k
/-- The gradient of a value's column after the convolution. -/
def dv (j : Fin 2816) (r : Fin 16384) : ℝ := da d wd r j * (cc x g wu cw cb (gj j) r * sg (cc x g wu cw cb (gj j) r))
/-- The gradient of a gate's column after the convolution. -/
def dg (j : Fin 2816) (r : Fin 16384) : ℝ :=
  da d wd r j * cc x g wu cw cb (vj j) r
    * (sg (cc x g wu cw cb (gj j) r) * (1 + cc x g wu cw cb (gj j) r * (1 - sg (cc x g wu cw cb (gj j) r))))
/-- The gradient of column `j` after the convolution. -/
def dc (j : Fin 5632) : Fin 16384 → ℝ :=
  if h : j.val < 2816 then dv x d g wu cw cb wd ⟨j.val, h⟩ else dg x d g wu cw cb wd ⟨j.val - 2816, by omega⟩
theorem dc_vj (j : Fin 2816) : dc x d g wu cw cb wd (vj j) = dv x d g wu cw cb wd j := by
  rw [dc, dif_pos (show (vj j).val < 2816 from j.isLt)]; rfl
theorem dc_gj (j : Fin 2816) : dc x d g wu cw cb wd (gj j) = dg x d g wu cw cb wd j := by
  rw [dc, dif_neg (show ¬(gj j).val < 2816 by simp [gj])]; exact congrArg _ (Fin.ext (by simp [gj]))
/-- The gradient of column `j` of the up projection. -/
def dup (j : Fin 5632) (r : Fin 16384) : ℝ := du (dc x d g wu cw cb wd j) (fun a => cw a j) r
/-- The gradient of the normed and scaled row. -/
def dh (r : Fin 16384) (k : Fin 1024) : ℝ := ∑ j, dup x d g wu cw cb wd j r * wu k j
/-- The gradient of the norm's input, through the norm. -/
def dx (r : Fin 16384) (k : Fin 1024) : ℝ := back (x r) (fun k => dh x d g wu cw cb wd r k * g k) k
/-- The gradient of the norm's scale. -/
def dgs (k : Fin 1024) : ℝ := ∑ r, dh x d g wu cw cb wd r k * (x r k * rr (x r))
/-- The gradient of tap `a`. -/
def dw (a : Fin 3) (j : Fin 5632) : ℝ := ∑ r : Fin 16384, dc x d g wu cw cb wd j r * lb (up x g wu j) (r.val + a.val)
/-- The gradient of the constant. -/
def db (j : Fin 5632) : ℝ := ∑ r, dc x d g wu cw cb wd j r

/-- The product with the up projection's transpose in two halves. -/
theorem dh_halves (r : Fin 16384) (k : Fin 1024) : dh x d g wu cw cb wd r k
    = ∑ j, dup x d g wu cw cb wd (vj j) r * wu k (vj j) + ∑ j, dup x d g wu cw cb wd (gj j) r * wu k (gj j) := by
  rw [dh, sum_halves]

end Cert.Ffn.Math

end
-- ==== Proof.FfnFwd.lean ====
/- What the feed-forward step's forward call leaves in its arrays, for any entry contents. -/
module

public import proofs.«01_k».proof.Proof.Gen.FfnIdeal.Frame
public import proofs.«01_k».proof.Proof.FfnMath
public import Idealize.ShloMosaic.Lib.Pipeline.ValueKit

@[expose] public section

set_option maxRecDepth 16384

noncomputable section

namespace Cert.FfnIdeal.Fwd

open FfnIdeal FfnIdeal.Gen Ereal Norm Ffn.Math Idealize.ShloMosaic TcCoe Idealize.SL.Sem
open Idealize.ShloMosaic.Pipeline (Dat)

/-- The row of the arrays that row `r` of block `p` is. -/
def row (p : ℕ) (h : p < 64) (r : Fin 256) : Fin 16384 := ⟨p * 256 + r.val, by have := r.isLt; omega⟩

section
variable (A : FVec Ideal S272x2816 .f32) (w : FVec Ideal S3x2816 .f32) (b : FVec Ideal S1x2816 .f32)
variable (U : Fin 2816 → Fin 16384 → ℝ) (cw : Fin 3 → Fin 2816 → ℝ) (cb : Fin 2816 → ℝ) (p : ℕ) (hp : p < 64)
variable (hA : ∀ q j, A (ix2 q j) = ((lb (U j) (p * 256 + q.val - 14) : ℝ) : EReal))
  (hw : ∀ a j, w (ix2 a j) = (cw a j : EReal)) (hb : ∀ j, b (ix2 0 j) = (cb j : EReal))
include hA hw hb
theorem pay11_at (r : Fin 256) (j : Fin 2816) :
    k0_pay11 (F := Ideal) A w b (ix2 r j) = ((cv (U j) (fun a => cw a j) (cb j) (row p hp r) : ℝ) : EReal) := by
  pointwise [k0_pay11]
  simp only [hA, hw, hb, ← EReal.coe_mul, ← EReal.coe_add]
  have e1 : p * 256 + (16 + r.val) - 14 = (row p hp r).val + 2 := by simp only [row]; omega
  have e2 : p * 256 + (16 + r.val + 272 - 1) % 272 - 14 = (row p hp r).val + 1 := by have := r.isLt; simp only [row]; omega
  have e3 : p * 256 + (16 + r.val + 272 - 2) % 272 - 14 = (row p hp r).val := by have := r.isLt; simp only [row]; omega
  rw [e1, e2, e3, cv]
  exact congrArg (fun e : ℝ => (e : EReal)) (by ring)
end

theorem sgt_zero : ∀ p : Fin 64, Scalar.cmpi .sgt (BitVec.ofNat 32 p.val) 0#32 = if p.val = 0 then 0#1 else 1#1 := by decide

section
variable (v : FVec Ideal S16x1024 .f32) (u : FVec Ideal S256x1024 .f32) (gg : FVec Ideal S1x1024 .f32)
variable (xv : Fin 16 → Fin 1024 → ℝ) (xu : Fin 256 → Fin 1024 → ℝ) (g : Fin 1024 → ℝ) (p : ℕ) (hp : p < 64)
variable (hv : ∀ q k, v (ix2 q k) = (xv q k : EReal)) (hu : ∀ q k, u (ix2 q k) = (xu q k : EReal)) (hg : ∀ k, gg (ix2 0 k) = (g k : EReal))
include hp hv hg in
theorem pay3_at (q : Fin 16) (k : Fin 1024) : k0_pay3 (F := Ideal) (BitVec.ofNat 32 p) gg v (ix2 q k)
    = ((if p = 0 then 0 else xv q k * rr (xv q) * g k : ℝ) : EReal) := by
  have h := rr_at (fun k => v (ix2 q k)) (xv q) (hv q)
  pointwise [k0_pay3, k0_pay2]
  simp only [h]
  simp only [hv, hg, ← EReal.coe_mul]
  rw [sgt_zero ⟨p, hp⟩]
  by_cases h0 : p = 0
  · simp [h0, Scalar.select]
  · simp [h0, Scalar.select]
include hu hg in
theorem pay4_at (q : Fin 256) (k : Fin 1024) : k0_pay4 (F := Ideal) gg u (ix2 q k) = ((xu q k * rr (xu q) * g k : ℝ) : EReal) := by
  have h := rr_at (fun k => u (ix2 q k)) (xu q) (hu q)
  pointwise [k0_pay4, k0_pay2]
  simp only [h]
  simp only [hu, hg, ← EReal.coe_mul]
end

variable (V : (c : Dev nD) → (b : Ref sig .tc) → Buf (Elt Ideal) ((c : Thread nD τ).loc b)) (c : Dev nD)

theorem idx0 : ∀ p : Fin cfg0.N, win0_0.index p = ![p.val, 0] ∧ win0_1.index p = ![16 * p.val - 1, 0] ∧ win0_2.index p = ![0, 0] ∧ win0_3.index p = ![0, 0]
    ∧ win0_4.index p = ![0, 1] ∧ win0_5.index p = ![0, 0] ∧ win0_6.index p = ![0, 1] ∧ win0_7.index p = ![0, 0] ∧ win0_8.index p = ![0, 1]
    ∧ win0_9.index p = ![0, 0] ∧ win0_10.index p = ![p.val, 0] ∧ win0_11.index p = ![p.val, 0] ∧ win0_12.index p = ![p.val, 0]
    ∧ win0_13.index p = ![p.val, 0] ∧ win0_14.index p = ![p.val, 0] ∧ win0_15.index p = ![p.val, 0] :=
  (by decide +kernel : ∀ p : Fin grid0.N, _)

theorem lt0 (p : Fin cfg0.N) : p.val < 64 := lt_of_lt_of_eq p.isLt N_0

theorem coord0 : ∀ p : Fin cfg0.N, (grid0.coords p 0).val = p.val := (by decide +kernel : ∀ p : Fin grid0.N, _)

/-- The scratch, whole. -/
abbrev all272 : LoadRect S272x1024 := (Rect.unit ![0, 0] ![272, 1024] inb_S272x1024_S272x1024_0_0).toLoadRect

/-- The scratch read back after its two stores: sixteen rows and then the block's rows. -/
theorem two_rows {sig : RefSig} {κ : Kind} {sp : Space} (v : View sig κ sp S272x1024 .bf16) (P : S256x1024.Idx → Ideal .bf16) (Q : S16x1024.Idx → Ideal .bf16)
    (e : Fin 272 → Fin 1024 → ℝ) (hP : ∀ (r : Fin 256) k, P (ix2 r k) = ((e ⟨16 + r.val, by omega⟩ k : ℝ) : EReal))
    (hQ : ∀ (r : Fin 16) k, Q (ix2 r k) = ((e ⟨r.val, by omega⟩ k : ℝ) : EReal)) (q : Fin 272) (k : Fin 1024) :
    v.readCov (Val := Elt Ideal) [⟨Rect.unit ![16, 0] ![256, 1024] inb_S272x1024_S256x1024_16_0, P⟩, ⟨Rect.unit ![0, 0] ![16, 1024] inb_S272x1024_S16x1024_0_0, Q⟩]
      all272 (ix2 q k) = ((e q k : ℝ) : EReal) := by
  rw [View.readCov_eq_canon']
  show View.canon _ (all272.idx (ix2 q k)) = _
  have hi : all272.idx (ix2 q k) = (ix2 q k : S272x1024.Idx) := by
    funext a; apply Fin.ext; fin_cases a
    · show 0 + 1 * q.val = q.val; omega
    · show 0 + 1 * k.val = k.val; omega
  rw [hi]
  let G : S272x1024.Idx → Elt Ideal .bf16 := fun y => (((e (y 0) (y 1) : ℝ) : EReal) : Ideal .bf16)
  refine View.canon_apply_of_pieces G _ (fun p hp x => ?_) _ ?_
  · rcases List.mem_cons.1 hp with rfl | hp
    · have hx : x = ix2 (x 0 : Fin 256) (x 1 : Fin 1024) := by funext a; fin_cases a <;> rfl
      rw [hx]
      refine (hP _ _).trans ?_
      refine congrArg (fun e : ℝ => (e : EReal)) (congrArg₂ e (Fin.ext ?_) (Fin.ext ?_))
      · show 16 + (x 0).val = 16 + 1 * (x 0).val; omega
      · show (x 1).val = 0 + 1 * (x 1).val; omega
    · obtain rfl := List.mem_singleton.1 hp
      have hx : x = ix2 (x 0 : Fin 16) (x 1 : Fin 1024) := by funext a; fin_cases a <;> rfl
      rw [hx]
      refine (hQ _ _).trans ?_
      refine congrArg (fun e : ℝ => (e : EReal)) (congrArg₂ e (Fin.ext ?_) (Fin.ext ?_))
      · show (x 0).val = 0 + 1 * (x 0).val; omega
      · show (x 1).val = 0 + 1 * (x 1).val; omega
  · by_cases h : q.val < 16
    · refine ⟨_, List.mem_cons_of_mem _ (List.mem_singleton.2 rfl), ?_⟩
      show (ix2 q k : S272x1024.Idx) ∈ (Rect.unit (s := S272x1024) ![0, 0] ![16, 1024] inb_S272x1024_S16x1024_0_0).set
      refine Rect.mem_set_unit.2 fun a => ?_
      fin_cases a
      · show 0 ≤ q.val ∧ q.val < 0 + 16; omega
      · show 0 ≤ k.val ∧ k.val < 0 + 1024; omega
    · refine ⟨_, List.mem_cons_self, ?_⟩
      show (ix2 q k : S272x1024.Idx) ∈ (Rect.unit (s := S272x1024) ![16, 0] ![256, 1024] inb_S272x1024_S256x1024_16_0).set
      refine Rect.mem_set_unit.2 fun a => ?_
      fin_cases a
      · show 16 ≤ q.val ∧ q.val < 16 + 256; omega
      · show 0 ≤ k.val ∧ k.val < 0 + 1024; omega

/-- An array of real numbers, by rows and columns. -/
def arr {m n : ℕ} (f : Fin m → Fin n → ℝ) : (⟨2, ![m, n]⟩ : Shape).Idx → EReal := fun y => ((f (y 0) (y 1) : ℝ) : EReal)
theorem arr_at {m n : ℕ} (f : Fin m → Fin n → ℝ) (r : Fin m) (k : Fin n) : arr f (ix2 r k) = ((f r k : ℝ) : EReal) := rfl

variable (x : Fin 16384 → Fin 1024 → ℝ) (g : Fin 1024 → ℝ) (wu : Fin 1024 → Fin 5632 → ℝ) (cw : Fin 3 → Fin 5632 → ℝ)
  (cb : Fin 5632 → ℝ) (wd : Fin 2816 → Fin 1024 → ℝ)

/-- Row `q` of the normed rows the call holds at block `p`: sixteen rows before the block's own, zero before the array's first. -/
def ext (p : ℕ) (hp : p < 64) (q : Fin 272) (k : Fin 1024) : ℝ :=
  if h : p * 256 + q.val < 16 then 0 else hn x g ⟨p * 256 + q.val - 16, by have := q.isLt; omega⟩ k
theorem ext_sum (p : ℕ) (hp : p < 64) (q : Fin 272) (j : Fin 5632) :
    ∑ k, ext x g p hp q k * wu k j = lb (up x g wu j) (p * 256 + q.val - 14) := by
  by_cases h : p * 256 + q.val < 16
  · rw [lb_lt _ _ (by omega)]
    exact Finset.sum_eq_zero fun k _ => by rw [ext, dif_pos h, zero_mul]
  · have hq := q.isLt
    rw [lb, dif_pos ⟨by omega, by omega⟩, up]
    exact Finset.sum_congr rfl fun k _ => by
      rw [ext, dif_neg h]
      exact congrArg (fun r => hn x g r k * wu k j) (Fin.ext (show p * 256 + q.val - 16 = p * 256 + q.val - 14 - 2 by omega))

/-- What the call finds in its arrays. -/
structure In : Prop where
  a0 : ∀ r k, V c main_arg0 (ix2 r k) = (x r k : EReal)
  a2 : ∀ k, V c main_v0 (ix2 0 k) = (g k : EReal)
  a3 : ∀ k j, V c main_v2 (ix2 k j) = (wu k j : EReal)
  a5 : ∀ a j, V c main_arg3 (ix2 a j) = (cw a j : EReal)
  a7 : ∀ j, V c main_v1 (ix2 0 j) = (cb j : EReal)
  a9 : ∀ j k, V c main_v3 (ix2 j k) = (wd j k : EReal)

variable (H : In V c x g wu cw cb wd)
include H
theorem b0 (p : Fin cfg0.N) (r : Fin 256) (k : Fin 1024) : (iblk0 V c 0 p : FVec Ideal S256x1024 .f32) (ix2 r k) = (x (row p.val (lt0 p) r) k : EReal) := by
  rw [← H.a0]; blk_ext [iblk0, idx0 p, row]
theorem b1 (p : Fin cfg0.N) (r : Fin 16) (k : Fin 1024) : (iblk0 V c 1 p : FVec Ideal S16x1024 .f32) (ix2 r k)
    = (x ⟨(16 * p.val - 1) * 16 + r.val, by have := lt0 p; omega⟩ k : EReal) := by
  rw [← H.a0]; blk_ext [iblk0, idx0 p, row]
theorem b2 (p : Fin cfg0.N) (k : Fin 1024) : (iblk0 V c 2 p : FVec Ideal S1x1024 .f32) (ix2 0 k) = (g k : EReal) := by
  rw [← H.a2]; blk_ext [iblk0, idx0 p, row]
theorem b3 (p : Fin cfg0.N) (k : Fin 1024) (j : Fin 2816) : (iblk0 V c 3 p : FVec Ideal S1024x2816 .bf16) (ix2 k j) = (wu k (vj j) : EReal) := by
  rw [← H.a3]; blk_ext [iblk0, idx0 p, row, vj]
theorem b4 (p : Fin cfg0.N) (k : Fin 1024) (j : Fin 2816) : (iblk0 V c 4 p : FVec Ideal S1024x2816 .bf16) (ix2 k j) = (wu k (gj j) : EReal) := by
  rw [← H.a3]; blk_ext [iblk0, idx0 p, row, gj]
theorem b5 (p : Fin cfg0.N) (a : Fin 3) (j : Fin 2816) : (iblk0 V c 5 p : FVec Ideal S3x2816 .f32) (ix2 a j) = (cw a (vj j) : EReal) := by
  rw [← H.a5]; blk_ext [iblk0, idx0 p, row, vj]
theorem b6 (p : Fin cfg0.N) (a : Fin 3) (j : Fin 2816) : (iblk0 V c 6 p : FVec Ideal S3x2816 .f32) (ix2 a j) = (cw a (gj j) : EReal) := by
  rw [← H.a5]; blk_ext [iblk0, idx0 p, row, gj]
theorem b7 (p : Fin cfg0.N) (j : Fin 2816) : (iblk0 V c 7 p : FVec Ideal S1x2816 .f32) (ix2 0 j) = (cb (vj j) : EReal) := by
  rw [← H.a7]; blk_ext [iblk0, idx0 p, row, vj]
theorem b8 (p : Fin cfg0.N) (j : Fin 2816) : (iblk0 V c 8 p : FVec Ideal S1x2816 .f32) (ix2 0 j) = (cb (gj j) : EReal) := by
  rw [← H.a7]; blk_ext [iblk0, idx0 p, row, gj]
theorem b9 (p : Fin cfg0.N) (j : Fin 2816) (k : Fin 1024) : (iblk0 V c 9 p : FVec Ideal S2816x1024 .bf16) (ix2 j k) = (wd j k : EReal) := by
  rw [← H.a9]; blk_ext [iblk0, idx0 p, row]

/-- The scratch's rows at block `p`. -/
def held (V : (c : Dev nD) → (b : Ref sig .tc) → Buf (Elt Ideal) ((c : Thread nD τ).loc b)) (c : Dev nD) (p : Fin cfg0.N) : FVec Ideal S272x1024 .bf16 :=
  (View.whole cc0_scratch0).readCov (Val := Elt Ideal)
    [⟨Rect.unit ![16, 0] ![256, 1024] inb_S272x1024_S256x1024_16_0, k0_pay4 (F := Ideal) (iblk0 V c 2 p) (iblk0 V c 0 p)⟩,
      ⟨Rect.unit ![0, 0] ![16, 1024] inb_S272x1024_S16x1024_0_0, k0_pay3 (F := Ideal) (BitVec.ofNat 32 (grid0.coords p 0).val) (iblk0 V c 2 p) (iblk0 V c 1 p)⟩]
    all272

theorem held_at (p : Fin cfg0.N) (q : Fin 272) (k : Fin 1024) : held V c p (ix2 q k) = ((ext x g p.val (lt0 p) q k : ℝ) : EReal) := by
  refine two_rows _ _ _ (ext x g p.val (lt0 p)) (fun r k => ?_) (fun r k => ?_) q k
  · refine (pay4_at _ _ _ g (b0 V c x g wu cw cb wd H p) (b2 V c x g wu cw cb wd H p) r k).trans ?_
    rw [ext, dif_neg (show ¬(p.val * 256 + (16 + r.val) < 16) by omega), hn]
    exact congrArg (fun q => ((x q k * rr (x q) * g k : ℝ) : EReal)) (Fin.ext (show p.val * 256 + r.val = p.val * 256 + (16 + r.val) - 16 by omega))
  · rw [coord0]
    refine (pay3_at _ _ _ g p.val (lt0 p) (b1 V c x g wu cw cb wd H p) (b2 V c x g wu cw cb wd H p) r k).trans ?_
    by_cases h : p.val = 0
    · rw [if_pos h, ext, dif_pos (show p.val * 256 + r.val < 16 by have := r.isLt; omega)]
    · rw [if_neg h, ext, dif_neg (show ¬(p.val * 256 + r.val < 16) by omega), hn]
      exact congrArg (fun q => ((x q k * rr (x q) * g k : ℝ) : EReal)) (Fin.ext (show (16 * p.val - 1) * 16 + r.val = p.val * 256 + r.val - 16 by omega))

theorem upv_at (p : Fin cfg0.N) (q : Fin 272) (j : Fin 2816) : k0_pay6 (F := Ideal) (held V c p) (iblk0 V c 3 p) (ix2 q j)
    = ((lb (up x g wu (vj j)) (p.val * 256 + q.val - 14) : ℝ) : EReal) := by
  pointwise [k0_pay6]
  simp only [held_at V c x g wu cw cb wd H p, b3 V c x g wu cw cb wd H p, ← EReal.coe_mul, sum_coe, ext_sum]
theorem upg_at (p : Fin cfg0.N) (q : Fin 272) (j : Fin 2816) : k0_pay9 (F := Ideal) (held V c p) (iblk0 V c 4 p) (ix2 q j)
    = ((lb (up x g wu (gj j)) (p.val * 256 + q.val - 14) : ℝ) : EReal) := by
  pointwise [k0_pay9]
  simp only [held_at V c x g wu cw cb wd H p, b4 V c x g wu cw cb wd H p, ← EReal.coe_mul, sum_coe, ext_sum]
theorem cv_at (p : Fin cfg0.N) (r : Fin 256) (j : Fin 2816) : k0_pay8 (F := Ideal) (held V c p) (iblk0 V c 3 p) (iblk0 V c 5 p) (iblk0 V c 7 p) (ix2 r j)
    = ((cc x g wu cw cb (vj j) (row p.val (lt0 p) r) : ℝ) : EReal) :=
  pay11_at (k0_pay6 (F := Ideal) (held V c p) (iblk0 V c 3 p)) _ _ (fun j => up x g wu (vj j)) (fun a j => cw a (vj j)) (fun j => cb (vj j)) p.val (lt0 p)
    (upv_at V c x g wu cw cb wd H p) (b5 V c x g wu cw cb wd H p) (b7 V c x g wu cw cb wd H p) r j
theorem cg_at (p : Fin cfg0.N) (r : Fin 256) (j : Fin 2816) : k0_pay11 (F := Ideal) (k0_pay9 (F := Ideal) (held V c p) (iblk0 V c 4 p)) (iblk0 V c 6 p) (iblk0 V c 8 p) (ix2 r j)
    = ((cc x g wu cw cb (gj j) (row p.val (lt0 p) r) : ℝ) : EReal) :=
  pay11_at (k0_pay9 (F := Ideal) (held V c p) (iblk0 V c 4 p)) _ _ (fun j => up x g wu (gj j)) (fun a j => cw a (gj j)) (fun j => cb (gj j)) p.val (lt0 p)
    (upg_at V c x g wu cw cb wd H p) (b6 V c x g wu cw cb wd H p) (b8 V c x g wu cw cb wd H p) r j
theorem act_at (p : Fin cfg0.N) (r : Fin 256) (j : Fin 2816) : k0_pay14 (F := Ideal) (k0_pay8 (F := Ideal) (held V c p) (iblk0 V c 3 p) (iblk0 V c 5 p) (iblk0 V c 7 p))
    (k0_pay9 (F := Ideal) (held V c p) (iblk0 V c 4 p)) (iblk0 V c 6 p) (iblk0 V c 8 p) (ix2 r j) = ((act x g wu cw cb (row p.val (lt0 p) r) j : ℝ) : EReal) := by
  pointwise [k0_pay14]
  simp only [cv_at V c x g wu cw cb wd H p, cg_at V c x g wu cw cb wd H p, Ideal.logistic_coe, ← EReal.coe_mul, act, sg]

/-- The up projection's columns of the values. -/
theorem final12 : (dat0 V c).arrAt 12 cfg0.N = (arr (fun r (j : Fin 2816) => up x g wu (vj j) r) : S16384x2816.Idx → EReal) := by
  refine (dat0 V c).arrAt_eq_of_covers 12 _ (by decide +kernel) fun p _ y => ?_
  blk_simp
  rw [after0_12]
  unfold outsAt0
  frame_out
  obtain ⟨r, k, rfl⟩ := two y
  refine Eq.trans (b := arr (fun r (j : Fin 2816) => up x g wu (vj j) r) (ix2 (row p.val (lt0 p) r) k)) ?_ ?_
  · rw [arr_at, ← lb_two (up x g wu (vj k))]
    change k0_pay7 (F := Ideal) (held V c p) (iblk0 V c 3 p) (ix2 r k) = _
    pointwise [k0_pay7]
    rw [upv_at V c x g wu cw cb wd H p]
    exact congrArg (fun n : ℕ => ((lb (up x g wu (vj k)) n : ℝ) : EReal)) (show p.val * 256 + (16 + r.val) - 14 = p.val * 256 + r.val + 2 by omega)
  · generalize arr (fun r (j : Fin 2816) => up x g wu (vj j) r) = A
    blk_ext [idx0 p, row]
/-- The up projection's columns of the gates. -/
theorem final13 : (dat0 V c).arrAt 13 cfg0.N = (arr (fun r (j : Fin 2816) => up x g wu (gj j) r) : S16384x2816.Idx → EReal) := by
  refine (dat0 V c).arrAt_eq_of_covers 13 _ (by decide +kernel) fun p _ y => ?_
  blk_simp
  rw [after0_13]
  unfold outsAt0
  frame_out
  obtain ⟨r, k, rfl⟩ := two y
  refine Eq.trans (b := arr (fun r (j : Fin 2816) => up x g wu (gj j) r) (ix2 (row p.val (lt0 p) r) k)) ?_ ?_
  · rw [arr_at, ← lb_two (up x g wu (gj k))]
    change k0_pay10 (F := Ideal) (held V c p) (iblk0 V c 4 p) (ix2 r k) = _
    pointwise [k0_pay10]
    rw [upg_at V c x g wu cw cb wd H p]
    exact congrArg (fun n : ℕ => ((lb (up x g wu (gj k)) n : ℝ) : EReal)) (show p.val * 256 + (16 + r.val) - 14 = p.val * 256 + r.val + 2 by omega)
  · generalize arr (fun r (j : Fin 2816) => up x g wu (gj j) r) = A
    blk_ext [idx0 p, row]
/-- The values' columns after the convolution. -/
theorem final14 : (dat0 V c).arrAt 14 cfg0.N = (arr (fun r (j : Fin 2816) => cc x g wu cw cb (vj j) r) : S16384x2816.Idx → EReal) := by
  refine (dat0 V c).arrAt_eq_of_covers 14 _ (by decide +kernel) fun p _ y => ?_
  blk_simp
  rw [after0_14]
  unfold outsAt0
  frame_out
  obtain ⟨r, k, rfl⟩ := two y
  refine Eq.trans (b := arr (fun r (j : Fin 2816) => cc x g wu cw cb (vj j) r) (ix2 (row p.val (lt0 p) r) k)) ?_ ?_
  · rw [arr_at, ← cv_at V c x g wu cw cb wd H p r k]
    rfl
  · generalize arr (fun r (j : Fin 2816) => cc x g wu cw cb (vj j) r) = A
    blk_ext [idx0 p, row]
/-- The gates' columns after the convolution. -/
theorem final15 : (dat0 V c).arrAt 15 cfg0.N = (arr (fun r (j : Fin 2816) => cc x g wu cw cb (gj j) r) : S16384x2816.Idx → EReal) := by
  refine (dat0 V c).arrAt_eq_of_covers 15 _ (by decide +kernel) fun p _ y => ?_
  blk_simp
  rw [after0_15]
  unfold outsAt0
  frame_out
  obtain ⟨r, k, rfl⟩ := two y
  refine Eq.trans (b := arr (fun r (j : Fin 2816) => cc x g wu cw cb (gj j) r) (ix2 (row p.val (lt0 p) r) k)) ?_ ?_
  · rw [arr_at, ← cg_at V c x g wu cw cb wd H p r k]
    rfl
  · generalize arr (fun r (j : Fin 2816) => cc x g wu cw cb (gj j) r) = A
    blk_ext [idx0 p, row]
/-- The step's output. -/
theorem final10 : (dat0 V c).arrAt 10 cfg0.N = (arr (out x g wu cw cb wd) : S16384x1024.Idx → EReal) := by
  refine (dat0 V c).arrAt_eq_of_covers 10 _ (by decide +kernel) fun p _ y => ?_
  blk_simp
  rw [after0_10]
  unfold outsAt0
  frame_out
  obtain ⟨r, k, rfl⟩ := two y
  refine Eq.trans (b := arr (out x g wu cw cb wd) (ix2 (row p.val (lt0 p) r) k)) ?_ ?_
  · change k0_pay1 (F := Ideal) (iblk0 V c 0 p) (k0_pay16 (F := Ideal) (k0_pay8 (F := Ideal) (held V c p) (iblk0 V c 3 p) (iblk0 V c 5 p) (iblk0 V c 7 p))
      (k0_pay9 (F := Ideal) (held V c p) (iblk0 V c 4 p)) (iblk0 V c 6 p) (iblk0 V c 8 p) (k0_pay5 (F := Ideal) (FloatOps.ofBits FTy.f32 0#32)) (iblk0 V c 9 p)) (ix2 r k) = _
    rw [arr_at]
    pointwise [k0_pay1, k0_pay16, k0_pay5]
    simp only [act_at V c x g wu cw cb wd H p, b0 V c x g wu cw cb wd H p, b9 V c x g wu cw cb wd H p, ← EReal.coe_mul, sum_coe, ← EReal.coe_add, out]
  · generalize arr (out x g wu cw cb wd) = A
    blk_ext [idx0 p, row]

end Cert.FfnIdeal.Fwd

end
-- ==== Proof.FfnBwd.lean ====
/- What the feed-forward step's backward call leaves in its arrays, for any entry contents. -/
module

public import proofs.«01_k».proof.Proof.FfnFwd

@[expose] public section

set_option maxRecDepth 16384

noncomputable section

namespace Cert.FfnIdeal.Bwd

open FfnIdeal FfnIdeal.Gen Ereal Norm Ffn.Math Idealize.ShloMosaic TcCoe Idealize.SL.Sem
open FfnIdeal.Fwd (row arr arr_at)
open Idealize.ShloMosaic.Pipeline (Dat)

/-- The row of the arrays that row `q` of block `p` with its sixteen rows ahead is; past the end the last sixteen again. -/
def xrow (p : ℕ) (h : p < 64) (q : Fin 272) : Fin 16384 :=
  if hq : q.val < 256 then ⟨p * 256 + q.val, by omega⟩ else ⟨min (16 * (p + 1)) 1023 * 16 + (q.val - 256), by have := q.isLt; omega⟩

theorem ah_mul (p : ℕ) (h : p < 64) (q : Fin 272) (D F : Fin 16384 → ℝ) :
    ah D (p * 256 + q.val) * F (xrow p h q) = ah (fun r => D r * F r) (p * 256 + q.val) := by
  have hq := q.isLt
  by_cases hn : p * 256 + q.val < 16384
  · have e : xrow p h q = ⟨p * 256 + q.val, hn⟩ := by
      unfold xrow
      by_cases hh : q.val < 256
      · rw [dif_pos hh]
      · rw [dif_neg hh]
        exact Fin.ext (show min (16 * (p + 1)) 1023 * 16 + (q.val - 256) = p * 256 + q.val by omega)
    rw [e, ah, ah, dif_pos hn, dif_pos hn]
  · rw [ah, ah, dif_neg hn, dif_neg hn, zero_mul]

theorem slt_last : ∀ p : Fin 64, Scalar.cmpi .slt (BitVec.ofNat 32 p.val) 63#32 = if p.val = 63 then 0#1 else 1#1 := by decide
theorem coord1 : ∀ p : Fin cfg1.N, (grid1.coords p 0).val = p.val := (by decide +kernel : ∀ p : Fin grid1.N, _)

section
variable (v20 : FVec Ideal S256x1024 .f32) (v22 : FVec Ideal S16x1024 .f32) (v27 : FVec Ideal S1024x2816 .bf16)
variable (d : Fin 16384 → Fin 1024 → ℝ) (wd : Fin 2816 → Fin 1024 → ℝ) (p : ℕ) (hp : p < 64) (i : grid1.Coords) (hi : (i 0).val = p)
variable (h20 : ∀ (r : Fin 256) k, v20 (ix2 r k) = (d (row p hp r) k : EReal))
  (h22 : ∀ (r : Fin 16) k, v22 (ix2 r k) = (d ⟨min (16 * (p + 1)) 1023 * 16 + r.val, by have := r.isLt; omega⟩ k : EReal))
  (h27 : ∀ k j, v27 (ix2 k j) = (wd j k : EReal))
include hi h20 h22 h27
theorem pay9_at (q : Fin 272) (j : Fin 2816) : k1_pay9 (F := Ideal) i v20 v22 v27 (ix2 q j) = ((ah (fun r => da d wd r j) (p * 256 + q.val) : ℝ) : EReal) := by
  pointwise [k1_pay9]
  rw [hi, slt_last ⟨p, hp⟩]
  have hq := q.isLt
  rw [show ((ah (fun r => da d wd r j) (p * 256 + q.val) : ℝ) : EReal)
    = ((∑ k, (if p * 256 + q.val < 16384 then d (xrow p hp q) k else 0) * wd j k : ℝ) : EReal) from ?_, ← sum_coe]
  · refine Finset.sum_congr rfl fun k _ => ?_
    rw [h27, EReal.coe_mul]
    refine congrArg (fun e : EReal => e * (wd j k : EReal)) ?_
    unfold xrow
    by_cases hh : q.val < 256
    · rw [dif_pos hh, dif_pos hh]
      exact (h20 ⟨q.val, hh⟩ k).trans (congrArg (fun e : ℝ => (e : EReal)) (if_pos (show p * 256 + q.val < 16384 by omega)).symm)
    · rw [dif_neg hh, dif_neg hh]
      by_cases h6 : p = 63
      · have hs : (if (⟨p, hp⟩ : Fin 64).val = 63 then 0#1 else 1#1) = 0#1 := if_pos h6
        refine (congrArg (fun b : BitVec 1 => (Scalar.select b (v22 (ix2 (⟨q.val - 256, by omega⟩ : Fin 16) k)) ((0 : EReal) : Ideal .f32) : EReal)) hs).trans ?_
        exact (congrArg (fun e : ℝ => (e : EReal)) (if_neg (show ¬(p * 256 + q.val < 16384) by omega))).symm
      · have hs : (if (⟨p, hp⟩ : Fin 64).val = 63 then 0#1 else 1#1) = 1#1 := if_neg h6
        refine (congrArg (fun b : BitVec 1 => (Scalar.select b (v22 (ix2 (⟨q.val - 256, by omega⟩ : Fin 16) k)) ((0 : EReal) : Ideal .f32) : EReal)) hs).trans ?_
        exact (h22 ⟨q.val - 256, by omega⟩ k).trans (congrArg (fun e : ℝ => (e : EReal)) (if_pos (show p * 256 + q.val < 16384 by omega)).symm)
  · refine congrArg (fun e : ℝ => (e : EReal)) ?_
    have e := ah_mul p hp q (fun _ => 1) (fun r => da d wd r j)
    simp only [one_mul] at e
    rw [← e, ah]
    by_cases hn : p * 256 + q.val < 16384
    · rw [dif_pos hn, one_mul, da]
      exact Finset.sum_congr rfl fun k _ => by rw [if_pos hn]
    · rw [dif_neg hn, zero_mul]
      exact (Finset.sum_eq_zero fun k _ => by rw [if_neg hn, zero_mul]).symm
end

section
variable (v36 : FVec Ideal S256x2816 .bf16) (v38 : FVec Ideal S16x2816 .bf16)
variable (C : Fin 2816 → Fin 16384 → ℝ) (p : ℕ) (hp : p < 64)
variable (h36 : ∀ (r : Fin 256) j, v36 (ix2 r j) = (C j (row p hp r) : EReal))
  (h38 : ∀ (r : Fin 16) j, v38 (ix2 r j) = (C j ⟨min (16 * (p + 1)) 1023 * 16 + r.val, by have := r.isLt; omega⟩ : EReal))
include h36 h38
theorem pay11_at (q : Fin 272) (j : Fin 2816) : k1_pay11 (F := Ideal) v36 v38 (ix2 q j) = ((C j (xrow p hp q) : ℝ) : EReal) := by
  pointwise [k1_pay11]
  unfold xrow
  by_cases hh : q.val < 256
  · rw [dif_pos hh, dif_pos hh]; exact h36 ⟨q.val, hh⟩ j
  · rw [dif_neg hh, dif_neg hh]; exact h38 ⟨q.val - 256, by omega⟩ j
end

section
variable (v29 : FVec Ideal S272x2816 .f32) (v31 v36 : FVec Ideal S256x2816 .bf16) (v32 v38 : FVec Ideal S16x2816 .bf16)
variable (E C W : Fin 2816 → Fin 16384 → ℝ) (p : ℕ) (hp : p < 64)
variable (h29 : ∀ q j, v29 (ix2 q j) = ((ah (E j) (p * 256 + q.val) : ℝ) : EReal))
  (h36 : ∀ (r : Fin 256) j, v36 (ix2 r j) = (C j (row p hp r) : EReal))
  (h38 : ∀ (r : Fin 16) j, v38 (ix2 r j) = (C j ⟨min (16 * (p + 1)) 1023 * 16 + r.val, by have := r.isLt; omega⟩ : EReal))
  (h31 : ∀ (r : Fin 256) j, v31 (ix2 r j) = (W j (row p hp r) : EReal))
  (h32 : ∀ (r : Fin 16) j, v32 (ix2 r j) = (W j ⟨min (16 * (p + 1)) 1023 * 16 + r.val, by have := r.isLt; omega⟩ : EReal))

include h29 h36 h38 in
theorem pay13_at (q : Fin 272) (j : Fin 2816) : k1_pay13 (F := Ideal) v29 v36 v38 (ix2 q j)
    = ((ah (fun r => E j r * (C j r * sg (C j r))) (p * 256 + q.val) : ℝ) : EReal) := by
  pointwise [k1_pay13, k1_pay12]
  simp only [pay11_at v36 v38 C p hp h36 h38, h29, Ideal.logistic_coe, ← EReal.coe_mul]
  exact congrArg (fun e : ℝ => (e : EReal)) (ah_mul p hp q (E j) (fun r => C j r * sg (C j r)))

include h29 h36 h38 h31 h32 in
theorem pay14_at (q : Fin 272) (j : Fin 2816) : k1_pay14 (F := Ideal) v29 v31 v32 v36 v38 (ix2 q j)
    = ((ah (fun r => E j r * W j r * (sg (C j r) * (1 + C j r * (1 - sg (C j r))))) (p * 256 + q.val) : ℝ) : EReal) := by
  have h35 := pay11_at v31 v32 W p hp h31 h32 q j
  pointwise [k1_pay11] at h35
  pointwise [k1_pay14, k1_pay12]
  simp only [pay11_at v36 v38 C p hp h36 h38, h29, h35, Ideal.logistic_coe, ← EReal.coe_one, ← EReal.coe_sub, ← EReal.coe_add, ← EReal.coe_mul]
  refine congrArg (fun e : ℝ => (e : EReal)) ?_
  rw [ah_mul p hp q (E j) (W j)]
  exact ah_mul p hp q _ (fun r => sg (C j r) * (1 + C j r * (1 - sg (C j r))))
end

section
variable (A : FVec Ideal S272x2816 .f32) (D U : Fin 2816 → Fin 16384 → ℝ) (p : ℕ) (hp : p < 64) (w : FVec Ideal S3x2816 .f32) (cw : Fin 3 → Fin 2816 → ℝ)
variable (hA : ∀ q j, A (ix2 q j) = ((ah (D j) (p * 256 + q.val) : ℝ) : EReal)) (hw : ∀ a j, w (ix2 a j) = (cw a j : EReal))
include hA
theorem pay22_at (r : Fin 256) (j : Fin 2816) : k1_pay22 (F := Ideal) A (ix2 (⟨r.val, by omega⟩ : Fin 272) j) = ((ah (D j) ((row p hp r).val + 1) : ℝ) : EReal) := by
  pointwise [k1_pay22]
  rw [hA]
  exact congrArg (fun n : ℕ => ((ah (D j) n : ℝ) : EReal)) (show p * 256 + (r.val + 272 - 271) % 272 = p * 256 + r.val + 1 by have := r.isLt; omega)
theorem pay23_at (r : Fin 256) (j : Fin 2816) : k1_pay23 (F := Ideal) A (ix2 (⟨r.val, by omega⟩ : Fin 272) j) = ((ah (D j) ((row p hp r).val + 2) : ℝ) : EReal) := by
  pointwise [k1_pay23]
  rw [hA]
  exact congrArg (fun n : ℕ => ((ah (D j) n : ℝ) : EReal)) (show p * 256 + (r.val + 272 - 270) % 272 = p * 256 + r.val + 2 by have := r.isLt; omega)
include hw
theorem pay24_at (r : Fin 256) (j : Fin 2816) : k1_pay24 (F := Ideal) A w (ix2 r j) = ((du (D j) (fun a => cw a j) (row p hp r) : ℝ) : EReal) := by
  pointwise [k1_pay24]
  simp only [pay22_at A D p hp hA, pay23_at A D p hp hA, hA, hw, ← EReal.coe_mul, ← EReal.coe_add]
  rfl
end

/-- What row `r` of the arrays adds to the taps' and the constant's gradients; the last four rows stay zero. -/
def tm (D U : Fin 16384 → ℝ) (i : Fin 8) (r : Fin 16384) : ℝ :=
  if i.val = 0 then ah D (r.val + 2) * U r else if i.val = 1 then ah D (r.val + 1) * U r else if i.val = 2 then D r * U r else if i.val = 3 then D r else 0

section
variable (A : FVec Ideal S272x2816 .f32) (D U : Fin 2816 → Fin 16384 → ℝ) (p : ℕ) (hp : p < 64) (v70 : FVec Ideal S256x2816 .bf16)
variable (hA : ∀ q j, A (ix2 q j) = ((ah (D j) (p * 256 + q.val) : ℝ) : EReal)) (h70 : ∀ r j, v70 (ix2 r j) = (U j (row p hp r) : EReal))
include hA h70
theorem pay20_at (v74 : FVec Ideal S1x8x2816 .f32) (i : Fin 8) (j : Fin 2816) :
    k1_pay20 (F := Ideal) A (k1_pay22 A) (k1_pay23 A) (k1_pay18 v70) k1_pay19 v74 (ix3 0 i j)
      = v74 (ix3 0 i j) + ((∑ r : Fin 256, tm (D j) (U j) i (row p hp r) : ℝ) : EReal) := by
  pointwise [k1_pay20, k1_pay18, k1_pay19]
  simp only [pay22_at A D p hp hA, pay23_at A D p hp hA, hA, h70, ← EReal.coe_mul, sum_coe]
  refine congrArg (fun e : EReal => v74 (ix3 0 i j) + e) ?_
  have e0 : ∀ r : Fin 256, ah (D j) (p * 256 + r.val) = D j (row p hp r) := fun r => ah_of (D j) (row p hp r)
  simp only [e0]
  fin_cases i <;> first | rfl | exact (show (0 : EReal) = ((∑ r : Fin 256, (0 : ℝ) : ℝ) : EReal) by simp)
end

section
variable (v0 v1 : FVec Ideal S256x1024 .f32) (v9 : FVec Ideal S1x1024 .f32) (u1 u2 : FVec Ideal S256x2816 .bf16) (w1 w2 : FVec Ideal S2816x1024 .bf16)
variable (x d : Fin 256 → Fin 1024 → ℝ) (g : Fin 1024 → ℝ) (a b : Fin 256 → Fin 2816 → ℝ) (s t : Fin 2816 → Fin 1024 → ℝ)
variable (h0 : ∀ r k, v0 (ix2 r k) = (x r k : EReal)) (h1 : ∀ r k, v1 (ix2 r k) = (d r k : EReal)) (h9 : ∀ k, v9 (ix2 0 k) = (g k : EReal))
  (hu1 : ∀ r j, u1 (ix2 r j) = (a r j : EReal)) (hu2 : ∀ r j, u2 (ix2 r j) = (b r j : EReal))
  (hw1 : ∀ j k, w1 (ix2 j k) = (s j k : EReal)) (hw2 : ∀ j k, w2 (ix2 j k) = (t j k : EReal))
/-- A row's gradient from the values' and the gates' columns. -/
def dn (a b s : Fin 2816 → ℝ) (t : Fin 2816 → ℝ) : ℝ := ∑ j, a j * s j + ∑ j, b j * t j

include h0 in
theorem pay6_at (r : Fin 256) : k1_pay6 (F := Ideal) v0 (ix2 r 0) = ((rr (x r) : ℝ) : EReal) := by
  pointwise [k1_pay6]
  exact rr_at (fun k => v0 (ix2 r k)) (x r) (h0 r)
include h0 in
theorem pay7_at (r : Fin 256) (k : Fin 1024) : k1_pay7 (F := Ideal) v0 (ix2 r k) = ((x r k * rr (x r) : ℝ) : EReal) := by
  pointwise [k1_pay7]
  simp only [pay6_at v0 x h0, h0, ← EReal.coe_mul]
include hu1 hu2 hw1 hw2 in
theorem pay32_at (r : Fin 256) (k : Fin 1024) : k1_pay32 (F := Ideal) (k1_pay21 u1 w1) u2 w2 (ix2 r k)
    = ((dn (a r) (b r) (fun j => s j k) (fun j => t j k) : ℝ) : EReal) := by
  pointwise [k1_pay32, k1_pay21]
  simp only [hu1, hu2, hw1, hw2, ← EReal.coe_mul, sum_coe, ← EReal.coe_add, dn]
include h0 h1 h9 hu1 hu2 hw1 hw2 in
theorem pay1_at (r : Fin 256) (k : Fin 1024) :
    k1_pay1 (F := Ideal) (k1_pay6 v0) (k1_pay7 v0) (k1_pay33 (k1_pay5 v9) (k1_pay21 u1 w1) u2 w2) (k1_pay34 (k1_pay5 v9) (k1_pay7 v0) (k1_pay21 u1 w1) u2 w2) v1 (ix2 r k)
      = ((d r k + back (x r) (fun k => dn (a r) (b r) (fun j => s j k) (fun j => t j k) * g k) k : ℝ) : EReal) := by
  pointwise [k1_pay1, k1_pay34, k1_pay33, k1_pay5]
  simp only [pay6_at v0 x h0, pay7_at v0 x h0, pay32_at u1 u2 w1 w2 a b s t hu1 hu2 hw1 hw2, h1, h9, lit_1024, ← EReal.coe_mul, sum_coe,
    div_coe' (show (1024 : ℝ) ≠ 0 by norm_num), ← EReal.coe_sub, ← EReal.coe_add, back]
include h0 hu1 hu2 hw1 hw2 in
theorem pay2_at (v218 : FVec Ideal S1x1024 .f32) (k : Fin 1024) :
    k1_pay2 (F := Ideal) (k1_pay7 v0) (k1_pay32 (k1_pay21 u1 w1) u2 w2) v218 (ix2 0 k)
      = v218 (ix2 0 k) + ((∑ r, dn (a r) (b r) (fun j => s j k) (fun j => t j k) * (x r k * rr (x r)) : ℝ) : EReal) := by
  pointwise [k1_pay2]
  simp only [pay7_at v0 x h0, pay32_at u1 u2 w1 w2 a b s t hu1 hu2 hw1 hw2, ← EReal.coe_mul, sum_coe]
end

variable (V : (c : Dev nD) → (b : Ref sig .tc) → Buf (Elt Ideal) ((c : Thread nD τ).loc b)) (c : Dev nD)

theorem idx1 : ∀ p : Fin cfg1.N, win1_0.index p = ![p.val, 0] ∧ win1_1.index p = ![p.val, 0] ∧ win1_2.index p = ![min (16 * (p.val + 1)) 1023, 0]
    ∧ win1_3.index p = ![p.val, 0] ∧ win1_4.index p = ![p.val, 0] ∧ win1_5.index p = ![p.val, 0] ∧ win1_6.index p = ![min (16 * (p.val + 1)) 1023, 0]
    ∧ win1_7.index p = ![p.val, 0] ∧ win1_8.index p = ![min (16 * (p.val + 1)) 1023, 0] ∧ win1_9.index p = ![0, 0] ∧ win1_10.index p = ![0, 0]
    ∧ win1_11.index p = ![0, 1] ∧ win1_12.index p = ![0, 0] ∧ win1_13.index p = ![0, 0] ∧ win1_14.index p = ![1, 0] ∧ win1_15.index p = ![p.val, 0]
    ∧ win1_16.index p = ![p.val, 0] ∧ win1_17.index p = ![p.val, 0] ∧ win1_18.index p = ![p.val, 0] ∧ win1_19.index p = ![0, 0, 0] ∧ win1_20.index p = ![0, 0] :=
  (by decide +kernel : ∀ p : Fin grid1.N, _)
/-- The last block. -/
def tl : Fin cfg1.N := ⟨63, lt_of_lt_of_eq (by norm_num) N_1.symm⟩
theorem lt1 (p : Fin cfg1.N) : p.val < 64 := lt_of_lt_of_eq p.isLt N_1

variable (x d : Fin 16384 → Fin 1024 → ℝ) (g : Fin 1024 → ℝ) (wu : Fin 1024 → Fin 5632 → ℝ) (cw : Fin 3 → Fin 5632 → ℝ)
  (cb : Fin 5632 → ℝ) (wd : Fin 2816 → Fin 1024 → ℝ)

/-- What the call finds in its arrays. -/
structure In : Prop where
  a0 : ∀ r k, V c main_arg0 (ix2 r k) = (x r k : EReal)
  a1 : ∀ r k, V c main_arg6 (ix2 r k) = (d r k : EReal)
  a3 : ∀ r j, V c main_v4_2 (ix2 r j) = (up x g wu (vj j) r : EReal)
  a4 : ∀ r j, V c main_v4_3 (ix2 r j) = (up x g wu (gj j) r : EReal)
  a5 : ∀ r j, V c main_v4_4 (ix2 r j) = (cc x g wu cw cb (vj j) r : EReal)
  a7 : ∀ r j, V c main_v4_5 (ix2 r j) = (cc x g wu cw cb (gj j) r : EReal)
  a9 : ∀ k, V c main_v0 (ix2 0 k) = (g k : EReal)
  a10 : ∀ a j, V c main_arg3 (ix2 a j) = (cw a j : EReal)
  a12 : ∀ k j, V c main_v5 (ix2 k j) = (wd j k : EReal)
  a13 : ∀ j k, V c main_v6 (ix2 j k) = (wu k j : EReal)

variable (H : In V c x d g wu cw cb wd)
include H
theorem b0 (p : Fin cfg1.N) (r : Fin 256) (k : Fin 1024) : (iblk1 V c 0 p : FVec Ideal S256x1024 .f32) (ix2 r k) = (x (row p.val (lt1 p) r) k : EReal) := by
  rw [← H.a0]; blk_ext [iblk1, idx1 p, row]
theorem b1 (p : Fin cfg1.N) (r : Fin 256) (k : Fin 1024) : (iblk1 V c 1 p : FVec Ideal S256x1024 .f32) (ix2 r k) = (d (row p.val (lt1 p) r) k : EReal) := by
  rw [← H.a1]; blk_ext [iblk1, idx1 p, row]
theorem b2 (p : Fin cfg1.N) (r : Fin 16) (k : Fin 1024) : (iblk1 V c 2 p : FVec Ideal S16x1024 .f32) (ix2 r k)
    = (d ⟨min (16 * (p.val + 1)) 1023 * 16 + r.val, by have := r.isLt; omega⟩ k : EReal) := by
  rw [← H.a1]; blk_ext [iblk1, idx1 p, row]
theorem b3 (p : Fin cfg1.N) (r : Fin 256) (j : Fin 2816) : (iblk1 V c 3 p : FVec Ideal S256x2816 .bf16) (ix2 r j) = (up x g wu (vj j) (row p.val (lt1 p) r) : EReal) := by
  rw [← H.a3]; blk_ext [iblk1, idx1 p, row]
theorem b4 (p : Fin cfg1.N) (r : Fin 256) (j : Fin 2816) : (iblk1 V c 4 p : FVec Ideal S256x2816 .bf16) (ix2 r j) = (up x g wu (gj j) (row p.val (lt1 p) r) : EReal) := by
  rw [← H.a4]; blk_ext [iblk1, idx1 p, row]
theorem b5 (p : Fin cfg1.N) (r : Fin 256) (j : Fin 2816) : (iblk1 V c 5 p : FVec Ideal S256x2816 .bf16) (ix2 r j) = (cc x g wu cw cb (vj j) (row p.val (lt1 p) r) : EReal) := by
  rw [← H.a5]; blk_ext [iblk1, idx1 p, row]
theorem b6 (p : Fin cfg1.N) (r : Fin 16) (j : Fin 2816) : (iblk1 V c 6 p : FVec Ideal S16x2816 .bf16) (ix2 r j)
    = (cc x g wu cw cb (vj j) ⟨min (16 * (p.val + 1)) 1023 * 16 + r.val, by have := r.isLt; omega⟩ : EReal) := by
  rw [← H.a5]; blk_ext [iblk1, idx1 p, row]
theorem b7 (p : Fin cfg1.N) (r : Fin 256) (j : Fin 2816) : (iblk1 V c 7 p : FVec Ideal S256x2816 .bf16) (ix2 r j) = (cc x g wu cw cb (gj j) (row p.val (lt1 p) r) : EReal) := by
  rw [← H.a7]; blk_ext [iblk1, idx1 p, row]
theorem b8 (p : Fin cfg1.N) (r : Fin 16) (j : Fin 2816) : (iblk1 V c 8 p : FVec Ideal S16x2816 .bf16) (ix2 r j)
    = (cc x g wu cw cb (gj j) ⟨min (16 * (p.val + 1)) 1023 * 16 + r.val, by have := r.isLt; omega⟩ : EReal) := by
  rw [← H.a7]; blk_ext [iblk1, idx1 p, row]
theorem b9 (p : Fin cfg1.N) (k : Fin 1024) : (iblk1 V c 9 p : FVec Ideal S1x1024 .f32) (ix2 0 k) = (g k : EReal) := by
  rw [← H.a9]; blk_ext [iblk1, idx1 p, row]
theorem b10 (p : Fin cfg1.N) (a : Fin 3) (j : Fin 2816) : (iblk1 V c 10 p : FVec Ideal S3x2816 .f32) (ix2 a j) = (cw a (vj j) : EReal) := by
  rw [← H.a10]; blk_ext [iblk1, idx1 p, row, vj]
theorem b11 (p : Fin cfg1.N) (a : Fin 3) (j : Fin 2816) : (iblk1 V c 11 p : FVec Ideal S3x2816 .f32) (ix2 a j) = (cw a (gj j) : EReal) := by
  rw [← H.a10]; blk_ext [iblk1, idx1 p, row, gj]
theorem b12 (p : Fin cfg1.N) (k : Fin 1024) (j : Fin 2816) : (iblk1 V c 12 p : FVec Ideal S1024x2816 .bf16) (ix2 k j) = (wd j k : EReal) := by
  rw [← H.a12]; blk_ext [iblk1, idx1 p, row]
theorem b13 (p : Fin cfg1.N) (j : Fin 2816) (k : Fin 1024) : (iblk1 V c 13 p : FVec Ideal S2816x1024 .bf16) (ix2 j k) = (wu k (vj j) : EReal) := by
  rw [← H.a13]; blk_ext [iblk1, idx1 p, row, vj]
theorem b14 (p : Fin cfg1.N) (j : Fin 2816) (k : Fin 1024) : (iblk1 V c 14 p : FVec Ideal S2816x1024 .bf16) (ix2 j k) = (wu k (gj j) : EReal) := by
  rw [← H.a13]; blk_ext [iblk1, idx1 p, row, gj]
omit H

/-- The gated value's gradient at block `p` and the sixteen rows ahead. -/
def e9 (p : Fin cfg1.N) : FVec Ideal S272x2816 .f32 := k1_pay9 (F := Ideal) (grid1.coords p) (iblk1 V c 1 p) (iblk1 V c 2 p) (iblk1 V c 12 p)
/-- The values' gradient after the convolution there. -/
def eV (p : Fin cfg1.N) : FVec Ideal S272x2816 .f32 := k1_pay13 (F := Ideal) (e9 V c p) (iblk1 V c 7 p) (iblk1 V c 8 p)
/-- The gates' gradient after the convolution there. -/
def eG (p : Fin cfg1.N) : FVec Ideal S272x2816 .f32 :=
  k1_pay14 (F := Ideal) (e9 V c p) (k1_pay10 (iblk1 V c 5 p)) (iblk1 V c 6 p) (iblk1 V c 7 p) (iblk1 V c 8 p)

include H
theorem e9_at (p : Fin cfg1.N) (q : Fin 272) (j : Fin 2816) : e9 V c p (ix2 q j) = ((ah (fun r => da d wd r j) (p.val * 256 + q.val) : ℝ) : EReal) :=
  pay9_at _ _ _ d wd p.val (lt1 p) _ (coord1 p) (b1 V c x d g wu cw cb wd H p) (b2 V c x d g wu cw cb wd H p) (b12 V c x d g wu cw cb wd H p) q j
theorem eV_at (p : Fin cfg1.N) (q : Fin 272) (j : Fin 2816) : eV V c p (ix2 q j) = ((ah (dc x d g wu cw cb wd (vj j)) (p.val * 256 + q.val) : ℝ) : EReal) := by
  rw [dc_vj]
  exact pay13_at _ _ _ (fun j r => da d wd r j) (fun j => cc x g wu cw cb (gj j)) p.val (lt1 p) (e9_at V c x d g wu cw cb wd H p)
    (b7 V c x d g wu cw cb wd H p) (b8 V c x d g wu cw cb wd H p) q j
theorem eG_at (p : Fin cfg1.N) (q : Fin 272) (j : Fin 2816) : eG V c p (ix2 q j) = ((ah (dc x d g wu cw cb wd (gj j)) (p.val * 256 + q.val) : ℝ) : EReal) := by
  rw [dc_gj]
  exact pay14_at _ _ _ _ _ (fun j r => da d wd r j) (fun j => cc x g wu cw cb (gj j)) (fun j => cc x g wu cw cb (vj j)) p.val (lt1 p) (e9_at V c x d g wu cw cb wd H p)
    (b7 V c x d g wu cw cb wd H p) (b8 V c x d g wu cw cb wd H p) (fun r j => by pointwise [k1_pay10]; exact b5 V c x d g wu cw cb wd H p r j) (b6 V c x d g wu cw cb wd H p) q j
theorem uV_at (p : Fin cfg1.N) (r : Fin 256) (j : Fin 2816) :
    k1_pay17 (F := Ideal) (e9 V c p) (iblk1 V c 7 p) (iblk1 V c 8 p) (iblk1 V c 10 p) (ix2 r j) = ((dup x d g wu cw cb wd (vj j) (row p.val (lt1 p) r) : ℝ) : EReal) :=
  pay24_at (eV V c p) (fun j => dc x d g wu cw cb wd (vj j)) p.val (lt1 p) (iblk1 V c 10 p) (fun a j => cw a (vj j)) (eV_at V c x d g wu cw cb wd H p) (b10 V c x d g wu cw cb wd H p) r j
theorem uG_at (p : Fin cfg1.N) (r : Fin 256) (j : Fin 2816) :
    k1_pay24 (F := Ideal) (eG V c p) (iblk1 V c 11 p) (ix2 r j) = ((dup x d g wu cw cb wd (gj j) (row p.val (lt1 p) r) : ℝ) : EReal) :=
  pay24_at (eG V c p) (fun j => dc x d g wu cw cb wd (gj j)) p.val (lt1 p) (iblk1 V c 11 p) (fun a j => cw a (gj j)) (eG_at V c x d g wu cw cb wd H p) (b11 V c x d g wu cw cb wd H p) r j

theorem dn_dh (q : Fin 16384) (k : Fin 1024) : dn (fun j => dup x d g wu cw cb wd (vj j) q) (fun j => dup x d g wu cw cb wd (gj j) q)
    (fun j => wu k (vj j)) (fun j => wu k (gj j)) = dh x d g wu cw cb wd q k := (dh_halves x d g wu cw cb wd q k).symm

/-- The stream's gradient. -/
theorem final15 : (dat1 V c).arrAt 15 cfg1.N = (arr (fun r k => d r k + dx x d g wu cw cb wd r k) : S16384x1024.Idx → EReal) := by
  refine (dat1 V c).arrAt_eq_of_covers 15 _ (by decide +kernel) fun p _ y => ?_
  blk_simp
  rw [after1_15]
  have key : (outsAt1 V c p.val p.isLt).1 = k1_pay1 (F := Ideal) (k1_pay6 (iblk1 V c 0 p)) (k1_pay7 (iblk1 V c 0 p))
      (k1_pay33 (k1_pay5 (iblk1 V c 9 p)) (k1_pay21 (k1_pay17 (e9 V c p) (iblk1 V c 7 p) (iblk1 V c 8 p) (iblk1 V c 10 p)) (iblk1 V c 13 p))
        (k1_pay24 (eG V c p) (iblk1 V c 11 p)) (iblk1 V c 14 p))
      (k1_pay34 (k1_pay5 (iblk1 V c 9 p)) (k1_pay7 (iblk1 V c 0 p)) (k1_pay21 (k1_pay17 (e9 V c p) (iblk1 V c 7 p) (iblk1 V c 8 p) (iblk1 V c 10 p)) (iblk1 V c 13 p))
        (k1_pay24 (eG V c p) (iblk1 V c 11 p)) (iblk1 V c 14 p))
      (iblk1 V c 1 p) := by
    rcases Nat.eq_zero_or_pos (p.val % 64) with h | h
    · rw [outsAt1_A V c p h]; frame_out; rfl
    · rw [outsAt1_B V c p h.ne']; frame_out; rfl
  rw [key]
  obtain ⟨r, k, rfl⟩ := two y
  refine Eq.trans (b := arr (fun r k => d r k + dx x d g wu cw cb wd r k) (ix2 (row p.val (lt1 p) r) k)) ?_ ?_
  · refine (pay1_at _ _ _ _ _ _ _ _ _ g _ _ _ _ (b0 V c x d g wu cw cb wd H p) (b1 V c x d g wu cw cb wd H p) (b9 V c x d g wu cw cb wd H p)
      (uV_at V c x d g wu cw cb wd H p) (uG_at V c x d g wu cw cb wd H p) (b13 V c x d g wu cw cb wd H p) (b14 V c x d g wu cw cb wd H p) r k).trans ?_
    simp only [dn_dh V c x d g wu cw cb wd H]
    rfl
  · generalize arr (fun r k => d r k + dx x d g wu cw cb wd r k) = A
    blk_ext [idx1 p, row]
/-- The up projection's gradient, the values' columns. -/
theorem final16 : (dat1 V c).arrAt 16 cfg1.N = (arr (fun r j => dup x d g wu cw cb wd (vj j) r) : S16384x2816.Idx → EReal) := by
  refine (dat1 V c).arrAt_eq_of_covers 16 _ (by decide +kernel) fun p _ y => ?_
  blk_simp
  rw [after1_16]
  have key : (outsAt1 V c p.val p.isLt).2.1 = k1_pay17 (F := Ideal) (e9 V c p) (iblk1 V c 7 p) (iblk1 V c 8 p) (iblk1 V c 10 p) := by
    rcases Nat.eq_zero_or_pos (p.val % 64) with h | h
    · rw [outsAt1_A V c p h]; frame_out; rfl
    · rw [outsAt1_B V c p h.ne']; frame_out; rfl
  rw [key]
  obtain ⟨r, k, rfl⟩ := two y
  refine Eq.trans (b := arr (fun r j => dup x d g wu cw cb wd (vj j) r) (ix2 (row p.val (lt1 p) r) k)) ?_ ?_
  · exact uV_at V c x d g wu cw cb wd H p r k
  · generalize arr (fun r j => dup x d g wu cw cb wd (vj j) r) = A
    blk_ext [idx1 p, row]
/-- The up projection's gradient, the gates' columns. -/
theorem final17 : (dat1 V c).arrAt 17 cfg1.N = (arr (fun r j => dup x d g wu cw cb wd (gj j) r) : S16384x2816.Idx → EReal) := by
  refine (dat1 V c).arrAt_eq_of_covers 17 _ (by decide +kernel) fun p _ y => ?_
  blk_simp
  rw [after1_17]
  have key : (outsAt1 V c p.val p.isLt).2.2.1 = k1_pay24 (F := Ideal) (eG V c p) (iblk1 V c 11 p) := by
    rcases Nat.eq_zero_or_pos (p.val % 64) with h | h
    · rw [outsAt1_A V c p h]; frame_out; rfl
    · rw [outsAt1_B V c p h.ne']; frame_out; rfl
  rw [key]
  obtain ⟨r, k, rfl⟩ := two y
  refine Eq.trans (b := arr (fun r j => dup x d g wu cw cb wd (gj j) r) (ix2 (row p.val (lt1 p) r) k)) ?_ ?_
  · exact uG_at V c x d g wu cw cb wd H p r k
  · generalize arr (fun r j => dup x d g wu cw cb wd (gj j) r) = A
    blk_ext [idx1 p, row]
omit H

/-- Summing over the blocks and a block's rows is summing over the rows. -/
theorem sum_rows (f : Fin 16384 → ℝ) : ∑ p : Fin cfg1.N, ∑ r : Fin 256, f (row p.val (lt1 p) r) = ∑ q, f q :=
  Fin.sum_mul_add_congr fun p r hl => rfl

theorem two_parts (P0 P1 : FVec Ideal S1x8x2816 .f32) (L : List (View.Piece (Elt Ideal) S2x8x2816 .f32)) (G : FVec Ideal S2x8x2816 .f32)
    (h0 : ∀ i j, P0 (ix3 0 i j) = G (ix3 0 i j)) (h1 : ∀ i j, P1 (ix3 0 i j) = G (ix3 1 i j)) (s : Fin 2) (i : Fin 8) (j : Fin 2816) :
    View.canon (⟨Rect.unit ![1, 0, 0] ![1, 8, 2816] inb_S2x8x2816_S1x8x2816_1_0_0, P1⟩ :: ⟨Rect.unit ![0, 0, 0] ![1, 8, 2816] inb_S2x8x2816_S1x8x2816_0_0_0, P0⟩ :: L) (ix3 s i j)
      = G (ix3 s i j) := by
  have hs : s = 0 ∨ s = 1 := by omega
  rcases hs with rfl | rfl
  · rw [View.canon_cons_of_not_mem]
    · have e : (ix3 0 i j : S2x8x2816.Idx) = (Rect.unit (s := S2x8x2816) ![0, 0, 0] ![1, 8, 2816] inb_S2x8x2816_S1x8x2816_0_0_0).emb (ix3 0 i j : S1x8x2816.Idx) := by
        funext a; apply Fin.ext; fin_cases a
        · rfl
        · show i.val = 0 + 1 * i.val; omega
        · show j.val = 0 + 1 * j.val; omega
      rw [← h0]
      refine (congrArg _ e).trans ?_
      exact View.canon_cons_emb _ _ _ _
    · show (ix3 0 i j : S2x8x2816.Idx) ∉ (Rect.unit (s := S2x8x2816) ![1, 0, 0] ![1, 8, 2816] inb_S2x8x2816_S1x8x2816_1_0_0).set
      intro h
      have := (Rect.mem_set_unit.1 h 0).1
      exact absurd (show 1 ≤ 0 from this) (by norm_num)
  · have e : (ix3 1 i j : S2x8x2816.Idx) = (Rect.unit (s := S2x8x2816) ![1, 0, 0] ![1, 8, 2816] inb_S2x8x2816_S1x8x2816_1_0_0).emb (ix3 0 i j : S1x8x2816.Idx) := by
      funext a; apply Fin.ext; fin_cases a
      · rfl
      · show i.val = 0 + 1 * i.val; omega
      · show j.val = 0 + 1 * j.val; omega
    rw [← h1]
    refine (congrArg _ e).trans ?_
    exact View.canon_cons_emb _ _ _ _

/-- Column `j` of half `s`. -/
def sj (s : Fin 2) (j : Fin 2816) : Fin 5632 := ⟨s.val * 2816 + j.val, by omega⟩
theorem sj_zero (j : Fin 2816) : sj 0 j = vj j := Fin.ext (show 0 * 2816 + j.val = j.val by omega)
theorem sj_one (j : Fin 2816) : sj 1 j = gj j := Fin.ext (show 1 * 2816 + j.val = 2816 + j.val by omega)

include H
theorem row_dgs (t : Fin cfg1.N) (v : FVec Ideal S1x1024 .f32) (k : Fin 1024) :
    k1_pay2 (F := Ideal) (k1_pay7 (iblk1 V c 0 t)) (k1_pay32 (k1_pay21 (k1_pay17 (e9 V c t) (iblk1 V c 7 t) (iblk1 V c 8 t) (iblk1 V c 10 t)) (iblk1 V c 13 t))
      (k1_pay24 (eG V c t) (iblk1 V c 11 t)) (iblk1 V c 14 t)) v (ix2 0 k)
    = v (ix2 0 k) + ((∑ r : Fin 256, dh x d g wu cw cb wd (row t.val (lt1 t) r) k * (x (row t.val (lt1 t) r) k * rr (x (row t.val (lt1 t) r))) : ℝ) : EReal) := by
  refine (pay2_at _ _ _ _ _ _ _ _ _ _ (b0 V c x d g wu cw cb wd H t)
      (uV_at V c x d g wu cw cb wd H t) (uG_at V c x d g wu cw cb wd H t) (b13 V c x d g wu cw cb wd H t) (b14 V c x d g wu cw cb wd H t) v k).trans ?_
  simp only [dn_dh V c x d g wu cw cb wd H]
/-- The scale's gradient. -/
theorem final20 (k : Fin 1024) : (dat1 V c).arrAt 20 cfg1.N (ix2 0 k) = ((dgs x d g wu cw cb wd k : ℝ) : EReal) := by
  have e : (dat1 V c).arrAt 20 cfg1.N = (fun y => ((dgs x d g wu cw cb wd (y 1) : ℝ) : EReal) : S1x1024.Idx → EReal) := by
    refine (dat1 V c).arrAt_eq_of_after_last 20 tl (by decide +kernel) _ fun y => ?_
    blk_simp
    obtain ⟨k, rfl⟩ : ∃ (k : Fin 1024), y = ix2 0 k := ⟨y 1, by funext a; match a with | ⟨0, _⟩ => exact Subsingleton.elim (α := Fin 1) _ _ | ⟨1, _⟩ => rfl⟩
    rw [after1_20]
    refine (Pipeline.eq_sum_fin_of_reset_step_apply_last (fun n h (k : Fin 1024) => ((outsAt1 V c n h).2.2.2.2.2 (ix2 0 k) : EReal)) 64 (fun _ => 0)
      (fun p k => ((∑ r : Fin 256, dh x d g wu cw cb wd (row p.val (lt1 p) r) k * (x (row p.val (lt1 p) r) k * rr (x (row p.val (lt1 p) r))) : ℝ) : EReal))
      (fun t h k => ?_) (fun t h k => ?_) (le_of_eq N_1) tl rfl k).trans ?_
    · rw [outsAt1_A V c t h]; frame_out
      exact (row_dgs V c x d g wu cw cb wd H t _ k).trans (congrArg (fun e : EReal => e + _) Ideal.ofBits_zero_f32)
    · rw [outsAt1_B V c t h]; frame_out
      exact row_dgs V c x d g wu cw cb wd H t _ k
    · rw [zero_add, sum_coe, sum_rows fun q => dh x d g wu cw cb wd q k * (x q k * rr (x q))]
      rfl
  exact congrFun e _

theorem part0 (t : Fin cfg1.N) (v : FVec Ideal S1x8x2816 .f32) (i : Fin 8) (j : Fin 2816) :
    k1_pay20 (F := Ideal) (eV V c t) (k1_pay15 (e9 V c t) (iblk1 V c 7 t) (iblk1 V c 8 t)) (k1_pay16 (e9 V c t) (iblk1 V c 7 t) (iblk1 V c 8 t))
      (k1_pay18 (iblk1 V c 3 t)) k1_pay19 v (ix3 0 i j)
    = v (ix3 0 i j) + ((∑ r : Fin 256, tm (dc x d g wu cw cb wd (sj 0 j)) (up x g wu (sj 0 j)) i (row t.val (lt1 t) r) : ℝ) : EReal) := by
  rw [sj_zero]
  exact pay20_at (eV V c t) (fun j => dc x d g wu cw cb wd (vj j)) (fun j => up x g wu (vj j)) t.val (lt1 t) (iblk1 V c 3 t)
    (eV_at V c x d g wu cw cb wd H t) (b3 V c x d g wu cw cb wd H t) v i j
theorem part1 (t : Fin cfg1.N) (v : FVec Ideal S1x8x2816 .f32) (i : Fin 8) (j : Fin 2816) :
    k1_pay31 (F := Ideal) (eG V c t) k1_pay26 (k1_pay27 v) (k1_pay28 (eG V c t) (iblk1 V c 4 t)) (k1_pay29 (eG V c t) (iblk1 V c 4 t)) (k1_pay30 (eG V c t) (iblk1 V c 4 t)) (ix3 0 i j)
    = v (ix3 0 i j) + ((∑ r : Fin 256, tm (dc x d g wu cw cb wd (sj 1 j)) (up x g wu (sj 1 j)) i (row t.val (lt1 t) r) : ℝ) : EReal) := by
  rw [sj_one]
  exact pay20_at (eG V c t) (fun j => dc x d g wu cw cb wd (gj j)) (fun j => up x g wu (gj j)) t.val (lt1 t) (iblk1 V c 4 t)
    (eG_at V c x d g wu cw cb wd H t) (b4 V c x d g wu cw cb wd H t) v i j
omit H

/-- The values' half of the taps' gradients. -/
abbrev half0 : LoadRect S2x8x2816 := (Rect.unit ![0, 0, 0] ![1, 8, 2816] inb_S2x8x2816_S1x8x2816_0_0_0).toLoadRect
/-- The gates' half. -/
abbrev half1 : LoadRect S2x8x2816 := (Rect.unit ![1, 0, 0] ![1, 8, 2816] inb_S2x8x2816_S1x8x2816_1_0_0).toLoadRect
theorem canon_zero (y : S2x8x2816.Idx) :
    (View.canon (Val := Elt Ideal) (s := S2x8x2816) (e := .f32) [⟨Rect.unit ![0, 0, 0] ![2, 8, 2816] inb_S2x8x2816_S2x8x2816_0_0_0, k1_pay3 (F := Ideal)⟩] y : EReal) = 0 := by
  let G : S2x8x2816.Idx → Elt Ideal .f32 := fun _ => ((0 : EReal) : Ideal .f32)
  refine View.canon_apply_of_pieces G _ (fun p hp x => ?_) _ ⟨_, List.mem_cons_self, ?_⟩
  · obtain rfl := List.mem_singleton.1 hp
    exact Ideal.ofBits_zero_f32
  · show y ∈ (Rect.unit (s := S2x8x2816) ![0, 0, 0] ![2, 8, 2816] inb_S2x8x2816_S2x8x2816_0_0_0).set
    refine Rect.mem_set_unit.2 fun a => ?_
    have := (y a).isLt
    fin_cases a
    · exact ⟨Nat.zero_le _, by show (y 0).val < 0 + 2; have := (y 0).isLt; exact lt_of_lt_of_eq this (by rfl)⟩
    · exact ⟨Nat.zero_le _, by show (y 1).val < 0 + 8; have := (y 1).isLt; exact lt_of_lt_of_eq this (by rfl)⟩
    · exact ⟨Nat.zero_le _, by show (y 2).val < 0 + 2816; have := (y 2).isLt; exact lt_of_lt_of_eq this (by rfl)⟩
theorem fresh0 {κ : Kind} {sp : Space} (v : View sig κ sp S2x8x2816 .f32) (i : Fin 8) (j : Fin 2816) :
    v.readCov (Val := Elt Ideal) [⟨Rect.unit ![0, 0, 0] ![2, 8, 2816] inb_S2x8x2816_S2x8x2816_0_0_0, k1_pay3 (F := Ideal)⟩] half0 (ix3 0 i j) = (0 : EReal) := by
  rw [View.readCov_eq_canon']
  exact canon_zero _
theorem fresh1 {κ : Kind} {sp : Space} (v : View sig κ sp S2x8x2816 .f32) (P : FVec Ideal S1x8x2816 .f32) (i : Fin 8) (j : Fin 2816) :
    v.readCov (Val := Elt Ideal) [⟨Rect.unit ![0, 0, 0] ![1, 8, 2816] inb_S2x8x2816_S1x8x2816_0_0_0, P⟩,
      ⟨Rect.unit ![0, 0, 0] ![2, 8, 2816] inb_S2x8x2816_S2x8x2816_0_0_0, k1_pay3 (F := Ideal)⟩] half1 (ix3 0 i j) = (0 : EReal) := by
  rw [View.readCov_eq_canon']
  show View.canon _ (half1.idx (ix3 0 i j)) = _
  rw [View.canon_cons_of_not_mem]
  · exact canon_zero _
  · show half1.idx (ix3 0 i j) ∉ (Rect.unit (s := S2x8x2816) ![0, 0, 0] ![1, 8, 2816] inb_S2x8x2816_S1x8x2816_0_0_0).set
    intro h
    have := (Rect.mem_set_unit.1 h 0).2
    exact absurd (show 1 + 1 * 0 < 0 + 1 from this) (by norm_num)

include H
/-- The taps' and the constant's gradients, by half, row and column. -/
theorem final19 (s : Fin 2) (i : Fin 8) (j : Fin 2816) : (dat1 V c).arrAt 19 cfg1.N (ix3 s i j)
    = ((∑ r, tm (dc x d g wu cw cb wd (sj s j)) (up x g wu (sj s j)) i r : ℝ) : EReal) := by
  have e : (dat1 V c).arrAt 19 cfg1.N = (fun y => ((∑ r, tm (dc x d g wu cw cb wd (sj (y 0) (y 2))) (up x g wu (sj (y 0) (y 2))) (y 1) r : ℝ) : EReal) : S2x8x2816.Idx → EReal) := by
    refine (dat1 V c).arrAt_eq_of_after_last 19 tl (by decide +kernel) _ fun y => ?_
    blk_simp
    rw [after1_19]
    refine (Pipeline.eq_sum_fin_of_reset_step_apply_last (fun n h (y : S2x8x2816.Idx) => ((outsAt1 V c n h).2.2.2.2.1 y : EReal)) 64 (fun _ => 0)
      (fun p y => ((∑ r : Fin 256, tm (dc x d g wu cw cb wd (sj (y 0) (y 2))) (up x g wu (sj (y 0) (y 2))) (y 1) (row p.val (lt1 p) r) : ℝ) : EReal))
      (fun t h y => ?_) (fun t h y => ?_) (le_of_eq N_1) tl rfl y).trans ?_
    · rw [outsAt1_A V c t h]; frame_out
      obtain ⟨s, i, j, rfl⟩ : ∃ (s : Fin 2) (i : Fin 8) (j : Fin 2816), y = ix3 s i j := ⟨y 0, y 1, y 2, by funext a; match a with | ⟨0, _⟩ => rfl | ⟨1, _⟩ => rfl | ⟨2, _⟩ => rfl⟩
      refine two_parts _ _ _ (fun y => (0 : EReal) + ((∑ r : Fin 256, tm (dc x d g wu cw cb wd (sj (y 0) (y 2))) (up x g wu (sj (y 0) (y 2))) (y 1) (row t.val (lt1 t) r) : ℝ) : EReal)) (fun i j => ?_) (fun i j => ?_) s i j
      · refine (part0 V c x d g wu cw cb wd H t _ i j).trans (congrArg (fun e : EReal => e + _) ?_)
        exact fresh0 _ i j
      · refine (part1 V c x d g wu cw cb wd H t _ i j).trans (congrArg (fun e : EReal => e + _) ?_)
        exact fresh1 _ _ i j
    · rw [outsAt1_B V c t h]; frame_out
      obtain ⟨s, i, j, rfl⟩ : ∃ (s : Fin 2) (i : Fin 8) (j : Fin 2816), y = ix3 s i j := ⟨y 0, y 1, y 2, by funext a; match a with | ⟨0, _⟩ => rfl | ⟨1, _⟩ => rfl | ⟨2, _⟩ => rfl⟩
      refine two_parts _ _ _ (fun y => ((outsAt1 V c (t.val - 1) (Nat.lt_of_le_of_lt (Nat.sub_le _ _) t.isLt)).2.2.2.2.1 y : EReal) + ((∑ r : Fin 256, tm (dc x d g wu cw cb wd (sj (y 0) (y 2))) (up x g wu (sj (y 0) (y 2))) (y 1) (row t.val (lt1 t) r) : ℝ) : EReal)) (fun i j => ?_) (fun i j => ?_) s i j
      · refine (part0 V c x d g wu cw cb wd H t _ i j).trans (congrArg (fun e : EReal => e + _) ?_)
        refine View.ld_unit_apply_of _ _ _ _ _ _ fun a => ?_
        fin_cases a
        · rfl
        · show i.val = 0 + i.val; omega
        · show j.val = 0 + j.val; omega
      · refine (part1 V c x d g wu cw cb wd H t _ i j).trans (congrArg (fun e : EReal => e + _) ?_)
        refine View.ld_unit_apply_of _ _ _ _ _ _ fun a => ?_
        fin_cases a
        · rfl
        · show i.val = 0 + i.val; omega
        · show j.val = 0 + j.val; omega
    · rw [zero_add, sum_coe, sum_rows fun q => tm (dc x d g wu cw cb wd (sj (y 0) (y 2))) (up x g wu (sj (y 0) (y 2))) (y 1) q]
  exact congrFun e _
omit H

/-- Rows 0 to 2 are the taps' gradients, and row 3 the constant's. -/
theorem taps (a : Fin 3) (j : Fin 5632) : ∑ r, tm (dc x d g wu cw cb wd j) (up x g wu j) ⟨a.val, by omega⟩ r = dw x d g wu cw cb wd a j := by
  fin_cases a
  · exact (shift_two (dc x d g wu cw cb wd j) (up x g wu j)).symm
  · exact (shift_one (dc x d g wu cw cb wd j) (up x g wu j)).symm
  · exact Finset.sum_congr rfl fun r _ => congrArg (fun e => dc x d g wu cw cb wd j r * e) (lb_two (up x g wu j) r).symm
theorem const (j : Fin 5632) : ∑ r, tm (dc x d g wu cw cb wd j) (up x g wu j) 3 r = db x d g wu cw cb wd j := rfl

end Cert.FfnIdeal.Bwd

end
-- ==== Proof.FfnRef.lean ====
/- What the feed-forward step's reference computes, as real numbers. -/
module

public import proofs.«01_k».proof.Proof.Gen.FfnRefIdeal.Read
public import proofs.«01_k».proof.Proof.FfnMath
public import Idealize.ShloMosaic.Lib.Pipeline.ValueKit

@[expose] public section

set_option maxRecDepth 16384

noncomputable section

namespace Cert.FfnRefIdeal.Row

open FfnRefIdeal FfnRefIdeal.Gen FfnRefIdeal.Read Ereal Norm Ffn.Math Idealize.ShloMosaic

variable (x0 x6 : FVec Ideal S16384x1024 .f32) (x1 : FVec Ideal S1024 .f32) (x2 : FVec Ideal S1024x5632 .f32)
  (x3 : FVec Ideal S3x5632 .f32) (x4 : FVec Ideal S5632 .f32) (x5 : FVec Ideal S2816x1024 .f32)
variable (x d : Fin 16384 → Fin 1024 → ℝ) (g : Fin 1024 → ℝ) (wu : Fin 1024 → Fin 5632 → ℝ) (cw : Fin 3 → Fin 5632 → ℝ)
  (cb : Fin 5632 → ℝ) (wd : Fin 2816 → Fin 1024 → ℝ)

/-- The arguments hold real numbers. -/
structure Args : Prop where
  hx : ∀ r k, x0 (ix2 r k) = (x r k : EReal)
  hg : ∀ k, x1 (ix1 k) = (g k : EReal)
  hw : ∀ k j, x2 (ix2 k j) = (wu k j : EReal)
  hc : ∀ a j, x3 (ix2 a j) = (cw a j : EReal)
  hb : ∀ j, x4 (ix1 j) = (cb j : EReal)
  ho : ∀ j k, x5 (ix2 j k) = (wd j k : EReal)
  hd : ∀ r k, x6 (ix2 r k) = (d r k : EReal)

variable (H : Args x0 x6 x1 x2 x3 x4 x5 x d g wu cw cb wd)
include H

theorem v6_at (r : Fin 16384) : val_main_v6 (F := Ideal) x0 (ix2 r 0) = ((ms (x r) : ℝ) : EReal) := by
  pointwise [val_main_v6, val_main_v5, val_main_cst_1, val_main_v4, val_main_v3, val_main_cst_0, val_main_v2, val_main_v1, val_main_cst, val_main_v0]
  exact ms_at (fun k => x0 (ix2 r k)) (x r) (H.hx r)

theorem v7_at (r : Fin 16384) : val_main_v7 (F := Ideal) x0 (ix2 r 0) = ((rr (x r) : ℝ) : EReal) := by
  pointwise [val_main_v7]
  rw [v6_at (H := H), rsqrt_pos (ms_pos _), rr]

theorem v12_at (r : Fin 16384) (k : Fin 1024) : val_main_v12 (F := Ideal) x0 (ix2 r k) = ((x r k * rr (x r) : ℝ) : EReal) := by
  pointwise [val_main_v12, val_main_v11]
  simp only [v7_at (H := H), H.hx, ← EReal.coe_mul]

theorem v15_at (r : Fin 16384) (k : Fin 1024) : val_main_v15 (F := Ideal) x0 x1 (ix2 r k) = ((hn x g r k : ℝ) : EReal) := by
  pointwise [val_main_v15, val_main_v14, val_main_v13]
  simp only [v12_at (H := H), H.hg, ← EReal.coe_mul, hn]

theorem v16_at (r : Fin 16384) (j : Fin 5632) : val_main_v16 (F := Ideal) x0 x1 x2 (ix2 r j) = ((up x g wu j r : ℝ) : EReal) := by
  pointwise [val_main_v16]
  simp only [v15_at (H := H), H.hw, ← EReal.coe_mul, sum_coe, up]

theorem v18_at (n : Fin 16386) (j : Fin 5632) : val_main_v18 (F := Ideal) x0 x1 x2 (ix2 n j) = ((lb (up x g wu j) n.val : ℝ) : EReal) := by
  pointwise [val_main_v18, val_main_v17, val_main_cst_3]
  by_cases h : n.val < 2
  · rw [dif_pos h, lb_lt _ _ h]; exact EReal.coe_zero.symm
  · rw [dif_neg h, v16_at (H := H), lb, dif_pos ⟨by omega, n.isLt⟩]

theorem v22_at (r : Fin 16384) (j : Fin 5632) : val_main_v22 (F := Ideal) x0 x1 x2 (ix2 r j) = ((lb (up x g wu j) (r.val) : ℝ) : EReal) := by
  pointwise [val_main_v22]
  exact v18_at _ _ _ _ _ _ _ _ _ _ _ _ _ _ H ⟨_, _⟩ j

theorem v28_at (r : Fin 16384) (j : Fin 5632) : val_main_v28 (F := Ideal) x0 x1 x2 (ix2 r j) = ((lb (up x g wu j) (r.val + 1) : ℝ) : EReal) := by
  pointwise [val_main_v28]
  refine (v18_at _ _ _ _ _ _ _ _ _ _ _ _ _ _ H _ j).trans (congrArg (fun n : ℕ => ((lb (up x g wu j) n : ℝ) : EReal)) (Nat.add_comm _ _))

theorem v35_at (r : Fin 16384) (j : Fin 5632) : val_main_v35 (F := Ideal) x0 x1 x2 (ix2 r j) = ((lb (up x g wu j) (r.val + 2) : ℝ) : EReal) := by
  pointwise [val_main_v35]
  refine (v18_at _ _ _ _ _ _ _ _ _ _ _ _ _ _ H _ j).trans (congrArg (fun n : ℕ => ((lb (up x g wu j) n : ℝ) : EReal)) (Nat.add_comm _ _))

theorem v24_at (r : Fin 16384) (j : Fin 5632) : val_main_v24 (F := Ideal) x3 (ix2 r j) = ((cw 0 j : ℝ) : EReal) := by
  pointwise [val_main_v24, val_main_v23, val_main_v21, val_main_v20]
  exact H.hc _ _

theorem v30_at (r : Fin 16384) (j : Fin 5632) : val_main_v30 (F := Ideal) x3 (ix2 r j) = ((cw 1 j : ℝ) : EReal) := by
  pointwise [val_main_v30, val_main_v29, val_main_v27, val_main_v26]
  exact H.hc _ _

theorem v37_at (r : Fin 16384) (j : Fin 5632) : val_main_v37 (F := Ideal) x3 (ix2 r j) = ((cw 2 j : ℝ) : EReal) := by
  pointwise [val_main_v37, val_main_v36, val_main_v34, val_main_v33]
  exact H.hc _ _

theorem v42_at (r : Fin 16384) (j : Fin 5632) : val_main_v42 (F := Ideal) x0 x1 x2 x3 x4 (ix2 r j) = ((cc x g wu cw cb j r : ℝ) : EReal) := by
  pointwise [val_main_v42, val_main_v41, val_main_v40, val_main_v39, val_main_v38, val_main_v32, val_main_v31, val_main_v25]
  simp only [v24_at (H := H), v30_at (H := H), v37_at (H := H), v22_at (H := H), v28_at (H := H), v35_at (H := H), H.hb, ← EReal.coe_mul, ← EReal.coe_add, cc, cv]

theorem v43_at (r : Fin 16384) (j : Fin 2816) : val_main_v43 (F := Ideal) x0 x1 x2 x3 x4 (ix2 r j) = ((cc x g wu cw cb (vj j) r : ℝ) : EReal) := by
  pointwise [val_main_v43]
  exact v42_at _ _ _ _ _ _ _ _ _ _ _ _ _ _ H r (vj j)

theorem v44_at (r : Fin 16384) (j : Fin 2816) : val_main_v44 (F := Ideal) x0 x1 x2 x3 x4 (ix2 r j) = ((cc x g wu cw cb (gj j) r : ℝ) : EReal) := by
  pointwise [val_main_v44]
  exact v42_at _ _ _ _ _ _ _ _ _ _ _ _ _ _ H r (gj j)

theorem v45_2_at (r : Fin 16384) (j : Fin 2816) : val_main_v45_2 (F := Ideal) x0 x1 x2 x3 x4 (ix2 r j) = ((sg (cc x g wu cw cb (gj j) r) : ℝ) : EReal) := by
  pointwise [val_main_v45_2, val_main_call0_v3, val_main_call0_v1, val_main_call0_v0, val_main_call0_v2, val_main_call0_cst, val_main_call0_v4, val_main_call0_cst_0]
  simp only [v44_at (H := H), lit_one]
  rw [← EReal.coe_neg, Ideal.exp_coe, ← EReal.coe_one, ← EReal.coe_add, div_coe' (by positivity), one_div]; rfl

theorem v45_1_at (r : Fin 16384) (j : Fin 2816) : val_main_v45_1 (F := Ideal) x0 x1 x2 x3 x4 (ix2 r j) = ((sg (cc x g wu cw cb (gj j) r) * (1 - sg (cc x g wu cw cb (gj j) r)) : ℝ) : EReal) := by
  pointwise [val_main_v45_1, val_main_call0_v7, val_main_call0_v6, val_main_call0_cst_1]
  simp only [v45_2_at (H := H)]
  rw [← EReal.coe_one, ← EReal.coe_sub, ← EReal.coe_mul]

theorem v45_0_at (r : Fin 16384) (j : Fin 2816) : val_main_v45_0 (F := Ideal) x0 x1 x2 x3 x4 (ix2 r j) = ((cc x g wu cw cb (gj j) r * sg (cc x g wu cw cb (gj j) r) : ℝ) : EReal) := by
  pointwise [val_main_v45_0]
  simp only [v44_at (H := H), v45_2_at (H := H), ← EReal.coe_mul]

theorem v46_at (r : Fin 16384) (j : Fin 2816) : val_main_v46 (F := Ideal) x0 x1 x2 x3 x4 (ix2 r j) = ((act x g wu cw cb r j : ℝ) : EReal) := by
  pointwise [val_main_v46]
  simp only [v45_0_at (H := H), v43_at (H := H), ← EReal.coe_mul, act]

/-- The step's output. -/
theorem v110_at (r : Fin 16384) (k : Fin 1024) : val_main_v110 (F := Ideal) x0 x1 x2 x3 x4 x5 (ix2 r k) = ((out x g wu cw cb wd r k : ℝ) : EReal) := by
  pointwise [val_main_v110, val_main_v47]
  simp only [v46_at (H := H), H.hx, H.ho, ← EReal.coe_mul, sum_coe, ← EReal.coe_add, out]

theorem v48_at (r : Fin 16384) (j : Fin 2816) : val_main_v48 (F := Ideal) x5 x6 (ix2 r j) = ((da d wd r j : ℝ) : EReal) := by
  pointwise [val_main_v48]
  simp only [H.hd, H.ho, ← EReal.coe_mul, sum_coe, da]

theorem v49_at (r : Fin 16384) (j : Fin 2816) : val_main_v49 (F := Ideal) x0 x1 x2 x3 x4 x5 x6 (ix2 r j) = ((dv x d g wu cw cb wd j r : ℝ) : EReal) := by
  pointwise [val_main_v49]
  simp only [v45_0_at (H := H), v48_at (H := H), ← EReal.coe_mul]
  exact congrArg _ (by rw [dv]; ring)

theorem v51_at (r : Fin 16384) (j : Fin 2816) : val_main_v51 (F := Ideal) x0 x1 x2 x3 x4 x5 x6 (ix2 r j) = ((dg x d g wu cw cb wd j r : ℝ) : EReal) := by
  pointwise [val_main_v51, val_main_call1_v2, val_main_call1_v0, val_main_v50, val_main_call1_v1]
  simp only [v43_at (H := H), v44_at (H := H), v45_1_at (H := H), v45_2_at (H := H), v48_at (H := H), ← EReal.coe_mul, ← EReal.coe_add]
  exact congrArg _ (by rw [dg]; ring)

theorem v52_at (r : Fin 16384) (j : Fin 5632) : val_main_v52 (F := Ideal) x0 x1 x2 x3 x4 x5 x6 (ix2 r j) = ((dc x d g wu cw cb wd j r : ℝ) : EReal) := by
  pointwise [val_main_v52]
  by_cases h : j.val < 2816
  · rw [dif_pos h, v49_at (H := H), dc, dif_pos h]
  · rw [dif_neg h, v51_at (H := H), dc, dif_neg h]

/-- The constant's gradient. -/
theorem v55_at (j : Fin 5632) : val_main_v55 (F := Ideal) x0 x1 x2 x3 x4 x5 x6 (ix1 j) = ((db x d g wu cw cb wd j : ℝ) : EReal) := by
  pointwise [val_main_v55, val_main_cst_6, val_main_v54, val_main_v53, val_main_cst_5]
  simp only [Fin.sum_univ_one, v52_at (H := H), sum_coe, db]

theorem v61_at (j : Fin 5632) : val_main_v61 (F := Ideal) x0 x1 x2 x3 x4 x5 x6 (ix1 j) = ((dw x d g wu cw cb wd 2 j : ℝ) : EReal) := by
  pointwise [val_main_v61, val_main_cst_8, val_main_v60, val_main_v59, val_main_cst_7, val_main_v58]
  simp only [Fin.sum_univ_one, v52_at (H := H), v35_at (H := H), ← EReal.coe_mul, sum_coe]
  rfl

theorem v70_at (j : Fin 5632) : val_main_v70 (F := Ideal) x0 x1 x2 x3 x4 x5 x6 (ix1 j) = ((dw x d g wu cw cb wd 1 j : ℝ) : EReal) := by
  pointwise [val_main_v70, val_main_cst_12, val_main_v69, val_main_v68, val_main_cst_11, val_main_v67]
  simp only [Fin.sum_univ_one, v52_at (H := H), v28_at (H := H), ← EReal.coe_mul, sum_coe]
  rfl

theorem v81_at (j : Fin 5632) : val_main_v81 (F := Ideal) x0 x1 x2 x3 x4 x5 x6 (ix1 j) = ((dw x d g wu cw cb wd 0 j : ℝ) : EReal) := by
  pointwise [val_main_v81, val_main_cst_16, val_main_v80, val_main_v79, val_main_cst_15, val_main_v78]
  simp only [Fin.sum_univ_one, v52_at (H := H), v22_at (H := H), ← EReal.coe_mul, sum_coe]
  rfl

/-- The taps' gradient. -/
theorem v86_at (a : Fin 3) (j : Fin 5632) : val_main_v86 (F := Ideal) x0 x1 x2 x3 x4 x5 x6 (ix2 a j) = ((dw x d g wu cw cb wd a j : ℝ) : EReal) := by
  fin_cases a
  · pointwise [val_main_v86, val_main_v85, val_main_cst_18, val_main_v84, val_main_v75, val_main_v74, val_main_cst_14, val_main_v73, val_main_v64, val_main_cst_10, val_main_v63]
    simp [v61_at (H := H), v70_at (H := H), v81_at (H := H)]
  · pointwise [val_main_v86, val_main_v85, val_main_cst_18, val_main_v84, val_main_v75, val_main_v74, val_main_cst_14, val_main_v73, val_main_v64, val_main_cst_10, val_main_v63]
    simp [v61_at (H := H), v70_at (H := H), v81_at (H := H)]
  · pointwise [val_main_v86, val_main_v85, val_main_cst_18, val_main_v84, val_main_v75, val_main_v74, val_main_cst_14, val_main_v73, val_main_v64, val_main_cst_10, val_main_v63]
    simp [v61_at (H := H), v70_at (H := H), v81_at (H := H)]

theorem v57_at (r : Fin 16384) (j : Fin 5632) : val_main_v57 (F := Ideal) x0 x1 x2 x3 x4 x5 x6 (ix2 r j) = ((cw 2 j * dc x d g wu cw cb wd j r : ℝ) : EReal) := by
  pointwise [val_main_v57, val_main_v56, val_main_v36, val_main_v34, val_main_v33]
  simp only [v52_at (H := H), H.hc, ← EReal.coe_mul]

theorem v66_at (r : Fin 16384) (j : Fin 5632) : val_main_v66 (F := Ideal) x0 x1 x2 x3 x4 x5 x6 (ix2 r j) = ((cw 1 j * dc x d g wu cw cb wd j r : ℝ) : EReal) := by
  pointwise [val_main_v66, val_main_v65, val_main_v29, val_main_v27, val_main_v26]
  simp only [v52_at (H := H), H.hc, ← EReal.coe_mul]

theorem v77_at (r : Fin 16384) (j : Fin 5632) : val_main_v77 (F := Ideal) x0 x1 x2 x3 x4 x5 x6 (ix2 r j) = ((cw 0 j * dc x d g wu cw cb wd j r : ℝ) : EReal) := by
  pointwise [val_main_v77, val_main_v76, val_main_v23, val_main_v21, val_main_v20]
  simp only [v52_at (H := H), H.hc, ← EReal.coe_mul]

theorem v88_at (r : Fin 16384) (j : Fin 5632) : val_main_v88 (F := Ideal) x0 x1 x2 x3 x4 x5 x6 (ix2 r j) = ((dup x d g wu cw cb wd j r : ℝ) : EReal) := by
  pointwise [val_main_v88, val_main_v83, val_main_v82, val_main_cst_17, val_main_v72, val_main_v71, val_main_cst_13, val_main_v62, val_main_cst_9]
  simp only [v57_at (H := H), v66_at (H := H), v77_at (H := H)]
  have e1 : (if h : 1 ≤ 2 + r.val ∧ 2 + r.val - 1 < 16384 then ((cw 1 j * dc x d g wu cw cb wd j ⟨2 + r.val - 1, h.2⟩ : ℝ) : EReal) else 0)
      = ((cw 1 j * ah (dc x d g wu cw cb wd j) (r.val + 1) : ℝ) : EReal) := by
    by_cases h : r.val + 1 < 16384
    · rw [dif_pos ⟨by omega, by omega⟩, ah, dif_pos h]
      exact congrArg (fun q => ((cw 1 j * dc x d g wu cw cb wd j q : ℝ) : EReal)) (Fin.ext (show 2 + r.val - 1 = r.val + 1 by omega))
    · rw [dif_neg (by omega), ah, dif_neg h, mul_zero]; exact EReal.coe_zero.symm
  have e2 : (if h : 2 + r.val < 16384 then ((cw 0 j * dc x d g wu cw cb wd j ⟨2 + r.val, h⟩ : ℝ) : EReal) else 0)
      = ((cw 0 j * ah (dc x d g wu cw cb wd j) (r.val + 2) : ℝ) : EReal) := by
    by_cases h : r.val + 2 < 16384
    · rw [dif_pos (by omega), ah, dif_pos h]
      exact congrArg (fun q => ((cw 0 j * dc x d g wu cw cb wd j q : ℝ) : EReal)) (Fin.ext (show 2 + r.val = r.val + 2 by omega))
    · rw [dif_neg (by omega), ah, dif_neg h, mul_zero]; exact EReal.coe_zero.symm
  rw [dup, du, ah_of, EReal.coe_add, EReal.coe_add]
  exact congrArg₂ (fun a b : EReal => a + b) (congrArg (fun a : EReal => _ + a) e1) e2

theorem v89_at (r : Fin 16384) (k : Fin 1024) : val_main_v89 (F := Ideal) x0 x1 x2 x3 x4 x5 x6 (ix2 r k) = ((dh x d g wu cw cb wd r k : ℝ) : EReal) := by
  pointwise [val_main_v89]
  simp only [v88_at (H := H), H.hw, ← EReal.coe_mul, sum_coe, dh]

/-- The scale's gradient. -/
theorem v95_at (k : Fin 1024) : val_main_v95 (F := Ideal) x0 x1 x2 x3 x4 x5 x6 (ix1 k) = ((dgs x d g wu cw cb wd k : ℝ) : EReal) := by
  pointwise [val_main_v95, val_main_cst_20, val_main_v92, val_main_v91, val_main_cst_19, val_main_v90]
  simp only [Fin.sum_univ_one, v12_at (H := H), v89_at (H := H), ← EReal.coe_mul, sum_coe, dgs, mul_comm]

/-- The stream's gradient. -/
theorem v111_at (r : Fin 16384) (k : Fin 1024) : val_main_v111 (F := Ideal) x0 x1 x2 x3 x4 x5 x6 (ix2 r k) = ((d r k + dx x d g wu cw cb wd r k : ℝ) : EReal) := by
  pointwise [val_main_v111, val_main_v109, val_main_v108, val_main_v105, val_main_v104, val_main_cst_23, val_main_v103, val_main_v102, val_main_cst_22, val_main_v101, val_main_v10, val_main_v8, val_main_v9, val_main_cst_2, val_main_v98, val_main_v97, val_main_cst_21, val_main_v96, val_main_v94, val_main_v93, val_main_v13, val_main_v107, val_main_v106, val_main_v100, val_main_v99]
  simp only [Fin.sum_univ_one]
  simp only [v6_at (H := H), v7_at (H := H), v89_at (H := H), H.hx, H.hg, H.hd, lit_1024, lit_neg_half, ← EReal.coe_mul, sum_coe,
    div_coe' (show (1024 : ℝ) ≠ 0 by norm_num), div_coe' (ms_pos _).ne', rr_div, ← EReal.coe_add]
  have h : ∑ k, dh x d g wu cw cb wd r k * g k * (x r k * rr (x r)) = rr (x r) * ∑ k, x r k * (dh x d g wu cw cb wd r k * g k) := by
    rw [Finset.mul_sum]; exact Finset.sum_congr rfl fun k _ => by ring
  refine congrArg (fun e : ℝ => (e : EReal)) ?_
  rw [dx, back, h]; ring

/-- The gradient of the values' columns. -/
theorem v113_at (r : Fin 16384) (j : Fin 2816) : val_main_v113 (F := Ideal) x0 x1 x2 x3 x4 x5 x6 (ix2 r j) = ((dup x d g wu cw cb wd (vj j) r : ℝ) : EReal) := by
  pointwise [val_main_v113, val_main_v112]
  exact v88_at _ _ _ _ _ _ _ _ _ _ _ _ _ _ H r (vj j)

/-- The gradient of the gates' columns. -/
theorem v115_at (r : Fin 16384) (j : Fin 2816) : val_main_v115 (F := Ideal) x0 x1 x2 x3 x4 x5 x6 (ix2 r j) = ((dup x d g wu cw cb wd (gj j) r : ℝ) : EReal) := by
  pointwise [val_main_v115, val_main_v114]
  exact v88_at _ _ _ _ _ _ _ _ _ _ _ _ _ _ H r (gj j)

end Cert.FfnRefIdeal.Row

end
-- ==== Proof.FfnRun.lean ====
/- The whole run of the feed-forward step's two calls: what every array ends holding. -/
module

public import proofs.«01_k».proof.Proof.Gen.FfnIdeal.Frame
public import proofs.«01_k».proof.Proof.FfnBwd
public import proofs.«01_k».proof.Proof.FfnRef
public import proofs.«01_k».proof.Proof.Gen.Pre_ffn_finite
public import Idealize.ShloMosaic.Lib.StableHlo.ReadAt
public import Idealize.ShloMosaic.Lib.ValueLayout

@[expose] public section

set_option maxRecDepth 16384

noncomputable section

namespace Cert.FfnIdeal.Run

open FfnIdeal FfnIdeal.Gen Ffn.Math
open FfnIdeal.Fwd (arr arr_at)
open FfnIdeal.Bwd (sj)
open FfnIdeal.Bwd (tm)
open Idealize.ShloMosaic TcCoe Tactic
open Idealize.SL RA BI
open scoped Idealize.SL.BI
open Idealize.ShloMosaic.Rounds
open Idealize.SL.BI.BIBase Idealize.SL.BI.Laws Idealize.SL.ProofMode Idealize.SL.Sem

section
variable {F : FTy → Type} [FloatOps F]
variable (m : (ℓ : Loc nD τ sig) → Buf (Elt F) ℓ) (ρ : Dev nD → PrngReg)

-- the launch lemma's implicit arguments are found by unifying its conclusion, which takes unfolding plain definitions
-- in a metavariable's type
set_option backward.isDefEq.respectTransparency.types false in
/-- Every array of the machine ends at its contents after the last host line. -/
theorem contents : θ_run defs (onTc (τ := τ) (main (F := F))) ⟨m, fun _ => 0, ρ⟩ fun r =>
    ∀ c : Dev nD, ∀ b ∈ Pipeline.ucRefs τ sig, r.2.mem ((c : Thread nD τ).1, b) = W5 m ρ c b := by
  refine Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (hu₀ := ?_)
    (T₀ := fun c => iprop(StableHlo.held c.tc (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩) (hinit := ?_)
    (QY := fun c s => ∀ b ∈ Pipeline.ucRefs τ sig, s.mem ((c : Thread nD τ).1, b) = W5 m ρ c b) (hfin := ?_) (hQ := fun s h _ => h)
  · iintro Hu; imodintro
    isplitl [Hu]
    · iapply (show (ownU (initOf (Pipeline.cells cfgs cellOf_inj) (Pipeline.launchToks cfgs cellOf_inj)) : sProp (MT nD τ sig Unit (Elt F) ℕ (UR sig nD τ) ℕ))
          ⊢ BI.own (emb₁ (initOf (Pipeline.cells cfgs cellOf_inj) (Pipeline.launchToks cfgs cellOf_inj))) from .rfl)
      iexact Hu
    iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
    iempintro
  · refine Pipeline.initEach L lv fun c => ?_
    rw [show unscopedBufs c (fun b => m (c.tc.loc b)) = StableHlo.held c.tc (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  · intro c s'
    iintro ⟨⟨Hh, -⟩, HSI⟩
    unfold StableHlo.held
    imodintro
    iapply (pointsTo_read_all (Pipeline.ucRefs τ sig) (fun b => ((c : Thread nD τ).1, b)) (W5 m ρ c) s')
    isplitl [Hh] <;> iassumption

end

variable (m : (ℓ : Loc nD τ sig) → Buf (Elt Ideal) ℓ) (ρ : Dev nD → PrngReg) (c : Dev nD)

/-- Before the forward call the scale is as launched, as one row. -/
theorem early0 (k : Fin 1024) : V1 m ρ c main_v0 (ix2 0 k) = m (c.tc.loc main_arg1) (ix1 k) := by
  have e : V1 m ρ c main_v0 = shapeCast S1x1024 (m (c.tc.loc main_arg1)) shapeCasts_S1024_S1x1024 := by
    unfold V1 W1 hostOps0; after_reads_simp; rfl
  rw [e]
  pointwise

/-- So is the convolution's constant. -/
theorem early1 (j : Fin 5632) : V1 m ρ c main_v1 (ix2 0 j) = m (c.tc.loc main_arg4) (ix1 j) := by
  have e : V1 m ρ c main_v1 = shapeCast S1x5632 (m (c.tc.loc main_arg4)) shapeCasts_S5632_S1x5632 := by
    unfold V1 W1 hostOps0; after_reads_simp; rfl
  rw [e]
  exact ValueIdx.shapeCast_a_1a_apply _ shapeCasts_S5632_S1x5632 0 j

/-- And the two projections are as launched. -/
theorem early2 : V1 m ρ c main_v2 = m (c.tc.loc main_arg2) := by
  unfold V1 W1 hostOps0; after_reads_simp; rfl
theorem early3 : V1 m ρ c main_v3 = m (c.tc.loc main_arg5) := by
  unfold V1 W1 hostOps0; after_reads_simp; rfl

/-- The scale is still there before the backward call. -/
theorem late0 (k : Fin 1024) : V3 m ρ c main_v0 (ix2 0 k) = m (c.tc.loc main_arg1) (ix1 k) := by
  rw [show V3 m ρ c main_v0 = W2 m ρ c (Proc.devRef .tc main_v0) from W3_of m ρ c main_v0 (by decide), W2_of m ρ c main_v0 (by decide)]
  exact early0 m ρ c k

/-- Before the backward call the two projections are transposed. -/
theorem late5 (k : Fin 1024) (j : Fin 2816) : V3 m ρ c main_v5 (ix2 k j) = m (c.tc.loc main_arg5) (ix2 j k) := by
  have e : V3 m ρ c main_v5 = transpose S1024x2816 [1, 0] (W2 m ρ c (Proc.devRef .tc main_v3)) transposes_S2816x1024_S1024x2816_1_0 := by
    unfold V3 W3 hostOps1; after_reads_simp
  rw [e, W2_of m ρ c main_v3 (by decide), show W1 m ρ c (Proc.devRef .tc main_v3) = _ from early3 m ρ c]
  pointwise
theorem late6 (j : Fin 5632) (k : Fin 1024) : V3 m ρ c main_v6 (ix2 j k) = m (c.tc.loc main_arg2) (ix2 k j) := by
  have e : V3 m ρ c main_v6 = transpose S5632x1024 [1, 0] (W2 m ρ c (Proc.devRef .tc main_v2)) transposes_S1024x5632_S5632x1024_1_0 := by
    unfold V3 W3 hostOps1; after_reads_simp
  rw [e, W2_of m ρ c main_v2 (by decide), show W1 m ρ c (Proc.devRef .tc main_v2) = _ from early2 m ρ c]
  pointwise

/-- The host regroups the eight rows of sums of the two halves. -/
theorem rows (A : FVec Ideal S2x8x2816 .f32) (i : Fin 8) (j : Fin 5632) :
    shapeCast S8x5632 (transpose S8x2x2816 [1, 0, 2] A transposes_S2x8x2816_S8x2x2816_1_0_2) shapeCasts_S8x2x2816_S8x5632 (ix2 i j)
      = A (ix3 ⟨j.val / 2816, by omega⟩ i ⟨j.val % 2816, by omega⟩) := by
  refine (shapeCast_apply _ _ (ix2 i j) (ix3 i ⟨j.val / 2816, by omega⟩ ⟨j.val % 2816, by omega⟩) ?_).trans
    (transpose_apply _ A _ _ _ fun c => match c with | ⟨0, _⟩ => rfl | ⟨1, _⟩ => rfl | ⟨2, _⟩ => rfl)
  rw [Shape.rowMajor_val_three, Shape.rowMajor_val_two]
  show (i.val * 2 + j.val / 2816) * 2816 + j.val % 2816 = i.val * 5632 + j.val
  omega

theorem sj_div (j : Fin 5632) : sj ⟨j.val / 2816, by omega⟩ ⟨j.val % 2816, by omega⟩ = j :=
  Fin.ext (show j.val / 2816 * 2816 + j.val % 2816 = j.val by omega)

/-- After the backward call the host cuts the taps' rows and the constant's row out, and drops the scale's unit axis. -/
theorem tail10 : W5 m ρ c (Proc.devRef .tc main_v10) = extractStridedSlice S3x5632 ![0, 0] (shapeCast S8x5632 (transpose S8x2x2816 [1, 0, 2] (W4 m ρ c (Proc.devRef .tc main_v7_4)) transposes_S2x8x2816_S8x2x2816_1_0_2) shapeCasts_S8x2x2816_S8x5632) slices_S8x5632_S3x5632_0_0 := by
  unfold W5 hostOps2; after_reads_simp; rfl
theorem tail12 : W5 m ρ c (Proc.devRef .tc main_v12) = shapeCast S5632 (extractStridedSlice S1x5632 ![3, 0] (shapeCast S8x5632 (transpose S8x2x2816 [1, 0, 2] (W4 m ρ c (Proc.devRef .tc main_v7_4)) transposes_S2x8x2816_S8x2x2816_1_0_2) shapeCasts_S8x2x2816_S8x5632) slices_S8x5632_S1x5632_3_0) shapeCasts_S1x5632_S5632 := by
  unfold W5 hostOps2; after_reads_simp; rfl
theorem tail13 : W5 m ρ c (Proc.devRef .tc main_v13) = shapeCast S1024 (W4 m ρ c (Proc.devRef .tc main_v7_5)) shapeCasts_S1x1024_S1024 := by
  unfold W5 hostOps2; after_reads_simp; rfl

open FfnRefIdeal.Row (Args)

/-- The precondition makes the arguments arrays of real numbers. -/
theorem real_args (x0 : FVec Ideal S16384x1024 .f32) (x1 : FVec Ideal S1024 .f32) (x2 : FVec Ideal S1024x5632 .f32) (x3 : FVec Ideal S3x5632 .f32)
    (x4 : FVec Ideal S5632 .f32) (x5 : FVec Ideal S2816x1024 .f32) (x6 : FVec Ideal S16384x1024 .f32)
    (h : @Pre_ffn_finite.fn Pre_ffn_finite.Gen.facts Ideal _ x0 x1 x2 x3 x4 x5 x6 = fun _ => 1#1) :
    ∃ x d g wu cw cb wd, Args x0 x6 x1 x2 x3 x4 x5 x d g wu cw cb wd := by
  have h0 := congrFun h ValueIdx.ix0
  simp only [Pre_ffn_finite.fn, Pre_ffn_finite.fn_part1, andi, IntOp.andi_eq_one] at h0
  obtain ⟨⟨⟨⟨⟨⟨a0, a1⟩, a2⟩, a3⟩, a4⟩, a5⟩, a6⟩ := h0
  obtain ⟨X, rfl⟩ := Ereal.real_of_all x0 _ (fun i => by pointwise) _ _ _ _ a0
  obtain ⟨G, rfl⟩ := Ereal.real_of_all x1 _ (fun i => by pointwise) _ _ _ _ a1
  obtain ⟨W, rfl⟩ := Ereal.real_of_all x2 _ (fun i => by pointwise) _ _ _ _ a2
  obtain ⟨C, rfl⟩ := Ereal.real_of_all x3 _ (fun i => by pointwise) _ _ _ _ a3
  obtain ⟨B, rfl⟩ := Ereal.real_of_all x4 _ (fun i => by pointwise) _ _ _ _ a4
  obtain ⟨O, rfl⟩ := Ereal.real_of_all x5 _ (fun i => by pointwise) _ _ _ _ a5
  obtain ⟨D, rfl⟩ := Ereal.real_of_all x6 _ (fun i => by pointwise) _ _ _ _ a6
  exact ⟨fun r k => X (ix2 r k), fun r k => D (ix2 r k), fun k => G (ix1 k), fun k j => W (ix2 k j), fun a j => C (ix2 a j), fun j => B (ix1 j),
    fun j k => O (ix2 j k), ⟨fun _ _ => rfl, fun _ => rfl, fun _ _ => rfl, fun _ _ => rfl, fun _ => rfl, fun _ _ => rfl, fun _ _ => rfl⟩⟩

section
variable (x d : Fin 16384 → Fin 1024 → ℝ) (g : Fin 1024 → ℝ) (wu : Fin 1024 → Fin 5632 → ℝ) (cw : Fin 3 → Fin 5632 → ℝ)
  (cb : Fin 5632 → ℝ) (wd : Fin 2816 → Fin 1024 → ℝ)
variable (H : Args (m (c.tc.loc main_arg0)) (m (c.tc.loc main_arg6)) (m (c.tc.loc main_arg1)) (m (c.tc.loc main_arg2)) (m (c.tc.loc main_arg3))
  (m (c.tc.loc main_arg4)) (m (c.tc.loc main_arg5)) x d g wu cw cb wd)
include H

/-- What the forward call starts from. -/
theorem fwd_in : FfnIdeal.Fwd.In (V1 m ρ) c x g wu cw cb wd where
  a0 := fun r k => (congrFun (W1_args m ρ c main_arg0 (by decide)) (ix2 r k)).trans (H.hx r k)
  a2 := fun k => (early0 m ρ c k).trans (H.hg k)
  a3 := fun k j => (congrFun (early2 m ρ c) (ix2 k j)).trans (H.hw k j)
  a5 := fun a j => (congrFun (W1_args m ρ c main_arg3 (by decide)) (ix2 a j)).trans (H.hc a j)
  a7 := fun j => (early1 m ρ c j).trans (H.hb j)
  a9 := fun j k => (congrFun (early3 m ρ c) (ix2 j k)).trans (H.ho j k)

/-- What the backward call starts from. -/
theorem bwd_in : FfnIdeal.Bwd.In (V3 m ρ) c x d g wu cw cb wd where
  a0 := fun r k => (congrFun (W3_args m ρ c main_arg0 (by decide)) (ix2 r k)).trans (H.hx r k)
  a1 := fun r k => (congrFun (W3_args m ρ c main_arg6 (by decide)) (ix2 r k)).trans (H.hd r k)
  a3 := fun r j => congrFun ((W3_of m ρ c main_v4_2 (by decide)).trans ((W2_arr m ρ c 12).trans (FfnIdeal.Fwd.final12 (V1 m ρ) c x g wu cw cb wd (fwd_in m ρ c x d g wu cw cb wd H)))) (ix2 r j)
  a4 := fun r j => congrFun ((W3_of m ρ c main_v4_3 (by decide)).trans ((W2_arr m ρ c 13).trans (FfnIdeal.Fwd.final13 (V1 m ρ) c x g wu cw cb wd (fwd_in m ρ c x d g wu cw cb wd H)))) (ix2 r j)
  a5 := fun r j => congrFun ((W3_of m ρ c main_v4_4 (by decide)).trans ((W2_arr m ρ c 14).trans (FfnIdeal.Fwd.final14 (V1 m ρ) c x g wu cw cb wd (fwd_in m ρ c x d g wu cw cb wd H)))) (ix2 r j)
  a7 := fun r j => congrFun ((W3_of m ρ c main_v4_5 (by decide)).trans ((W2_arr m ρ c 15).trans (FfnIdeal.Fwd.final15 (V1 m ρ) c x g wu cw cb wd (fwd_in m ρ c x d g wu cw cb wd H)))) (ix2 r j)
  a9 := fun k => (late0 m ρ c k).trans (H.hg k)
  a10 := fun a j => (congrFun (W3_args m ρ c main_arg3 (by decide)) (ix2 a j)).trans (H.hc a j)
  a12 := fun k j => (late5 m ρ c k j).trans (H.ho j k)
  a13 := fun j k => (late6 m ρ c j k).trans (H.hw k j)

/-- The eight rows of sums, regrouped by the host. -/
theorem sums (i : Fin 8) (j : Fin 5632) : shapeCast S8x5632 (transpose S8x2x2816 [1, 0, 2] (W4 m ρ c (Proc.devRef .tc main_v7_4)) transposes_S2x8x2816_S8x2x2816_1_0_2) shapeCasts_S8x2x2816_S8x5632 (ix2 i j)
    = ((∑ r, tm (dc x d g wu cw cb wd j) (up x g wu j) i r : ℝ) : EReal) := by
  refine (rows _ i j).trans (((congrFun (W4_arr m ρ c 19) (ix3 _ i _)).trans (FfnIdeal.Bwd.final19 (V3 m ρ) c x d g wu cw cb wd (bwd_in m ρ c x d g wu cw cb wd H) _ i _)).trans ?_)
  rw [sj_div]

theorem taps_at (a : Fin 3) (j : Fin 5632) : W5 m ρ c (Proc.devRef .tc main_v10) (ix2 a j) = ((dw x d g wu cw cb wd a j : ℝ) : EReal) := by
  rw [tail10 m ρ c, ← FfnIdeal.Bwd.taps]
  refine Eq.trans ?_ (sums m ρ c x d g wu cw cb wd H ⟨a.val, by omega⟩ j)
  generalize shapeCast S8x5632 _ _ = A
  pointwise
theorem const_at (j : Fin 5632) : W5 m ρ c (Proc.devRef .tc main_v12) (ix1 j) = ((db x d g wu cw cb wd j : ℝ) : EReal) := by
  rw [tail12 m ρ c, show ∀ B : FVec Ideal S1x5632 .f32, shapeCast S5632 B shapeCasts_S1x5632_S5632 (ix1 j) = B (ix2 0 j) from fun B => ValueIdx.shapeCast_1a_a_apply B shapeCasts_S1x5632_S5632 j, ← FfnIdeal.Bwd.const]
  refine Eq.trans ?_ (sums m ρ c x d g wu cw cb wd H 3 j)
  generalize shapeCast S8x5632 _ _ = A
  pointwise
theorem scale_at (k : Fin 1024) : W5 m ρ c (Proc.devRef .tc main_v13) (ix1 k) = ((dgs x d g wu cw cb wd k : ℝ) : EReal) := by
  rw [tail13 m ρ c]
  refine Eq.trans ?_ ((congrFun (W4_arr m ρ c 20) (ix2 0 k)).trans (FfnIdeal.Bwd.final20 (V3 m ρ) c x d g wu cw cb wd (bwd_in m ρ c x d g wu cw cb wd H) k))
  exact ValueIdx.shapeCast_1a_a_apply _ shapeCasts_S1x1024_S1024 k

end

/-- An array is its entries. -/
theorem entries2 {n k : ℕ} {A B : (⟨2, ![n, k]⟩ : Shape).Idx → EReal} (h : ∀ a b, A (ix2 a b) = B (ix2 a b)) : A = B := by
  funext y
  have e : y = ix2 (y 0) (y 1) := by
    funext a
    match a with
    | ⟨0, h⟩ => rfl
    | ⟨1, h⟩ => rfl
  rw [e]; exact h _ _
theorem entries1 {n : ℕ} {A B : (⟨1, ![n]⟩ : Shape).Idx → EReal} (h : ∀ a, A (ix1 a) = B (ix1 a)) : A = B := by
  funext y
  have e : y = ix1 (y 0) := by
    funext a
    match a with
    | ⟨0, h⟩ => rfl
  rw [e]; exact h _

open FfnRefIdeal.Read (val_main_v110 val_main_v111 val_main_v113 val_main_v115 val_main_v86 val_main_v55 val_main_v95)

/-- The kernel's run: the step's output and the six gradients at the reference's terms, and the arguments as launched. -/
theorem results (hreal : ∀ c : Dev nD, ∃ x d g wu cw cb wd, Args (m (c.tc.loc main_arg0)) (m (c.tc.loc main_arg6)) (m (c.tc.loc main_arg1)) (m (c.tc.loc main_arg2))
      (m (c.tc.loc main_arg3)) (m (c.tc.loc main_arg4)) (m (c.tc.loc main_arg5)) x d g wu cw cb wd) :
    θ_run defs (onTc (τ := τ) (main (F := Ideal))) ⟨m, fun _ => 0, ρ⟩ fun r => ∀ c : Dev nD,
    r.2.mem (c.tc.loc main_v4_0) = val_main_v110 (F := Ideal) (m (c.tc.loc main_arg0)) (m (c.tc.loc main_arg1)) (m (c.tc.loc main_arg2)) (m (c.tc.loc main_arg3)) (m (c.tc.loc main_arg4)) (m (c.tc.loc main_arg5))
    ∧ r.2.mem (c.tc.loc main_v7_0) = val_main_v111 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
    ∧ r.2.mem (c.tc.loc main_v7_1) = val_main_v113 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
    ∧ r.2.mem (c.tc.loc main_v7_2) = val_main_v115 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
    ∧ r.2.mem (c.tc.loc main_v10) = val_main_v86 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
    ∧ r.2.mem (c.tc.loc main_v12) = val_main_v55 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
    ∧ r.2.mem (c.tc.loc main_v13) = val_main_v95 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6) := by
  refine (θ_run defs _ _).mono (fun r h c => ?_) (contents m ρ)
  obtain ⟨x, d, g, wu, cw, cb, wd, H⟩ := hreal c
  have F := fwd_in m ρ c x d g wu cw cb wd H
  have B := bwd_in m ρ c x d g wu cw cb wd H
  exact ⟨(h c _ (mem_uc main_v4_0 (by decide))).trans ((W5_of m ρ c main_v4_0 (by decide)).trans ((W4_of m ρ c main_v4_0 (by decide)).trans ((W3_of m ρ c main_v4_0 (by decide)).trans ((W2_arr m ρ c 10).trans
      ((FfnIdeal.Fwd.final10 (V1 m ρ) c x g wu cw cb wd F).trans (entries2 fun r k => (FfnRefIdeal.Row.v110_at _ _ _ _ _ _ _ _ _ _ _ _ _ _ H r k).symm)))))),
    (h c _ (mem_uc main_v7_0 (by decide))).trans ((W5_of m ρ c main_v7_0 (by decide)).trans ((W4_arr m ρ c 15).trans
      ((FfnIdeal.Bwd.final15 (V3 m ρ) c x d g wu cw cb wd B).trans (entries2 fun r k => (FfnRefIdeal.Row.v111_at _ _ _ _ _ _ _ _ _ _ _ _ _ _ H r k).symm)))),
    (h c _ (mem_uc main_v7_1 (by decide))).trans ((W5_of m ρ c main_v7_1 (by decide)).trans ((W4_arr m ρ c 16).trans
      ((FfnIdeal.Bwd.final16 (V3 m ρ) c x d g wu cw cb wd B).trans (entries2 fun r k => (FfnRefIdeal.Row.v113_at _ _ _ _ _ _ _ _ _ _ _ _ _ _ H r k).symm)))),
    (h c _ (mem_uc main_v7_2 (by decide))).trans ((W5_of m ρ c main_v7_2 (by decide)).trans ((W4_arr m ρ c 17).trans
      ((FfnIdeal.Bwd.final17 (V3 m ρ) c x d g wu cw cb wd B).trans (entries2 fun r k => (FfnRefIdeal.Row.v115_at _ _ _ _ _ _ _ _ _ _ _ _ _ _ H r k).symm)))),
    (h c _ (mem_uc main_v10 (by decide))).trans (entries2 fun a j => (taps_at m ρ c x d g wu cw cb wd H a j).trans (FfnRefIdeal.Row.v86_at _ _ _ _ _ _ _ _ _ _ _ _ _ _ H a j).symm),
    (h c _ (mem_uc main_v12 (by decide))).trans (entries1 fun j => (const_at m ρ c x d g wu cw cb wd H j).trans (FfnRefIdeal.Row.v55_at _ _ _ _ _ _ _ _ _ _ _ _ _ _ H j).symm),
    (h c _ (mem_uc main_v13 (by decide))).trans (entries1 fun k => (scale_at m ρ c x d g wu cw cb wd H k).trans (FfnRefIdeal.Row.v95_at _ _ _ _ _ _ _ _ _ _ _ _ _ _ H k).symm),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c)⟩

end Cert.FfnIdeal.Run

end
-- ==== Proof.FfnClaim.lean ====
/- The claims about the feed-forward step. -/
module

public import proofs.«01_k».proof.Defs
public import proofs.«01_k».proof.Proof.Gen.FfnIdeal.Frame
public import proofs.«01_k».proof.Proof.Gen.FfnRefIdeal.Run
public import proofs.«01_k».proof.Proof.Gen.FfnRefIdeal.Read
public import proofs.«01_k».proof.Proof.FfnRun
public import Idealize.ShloMosaic.Lib.Claim

@[expose] public section

set_option maxRecDepth 16384

noncomputable section

namespace Cert.Proof

open Idealize.ShloMosaic Idealize.SL.Sem

open FfnRefIdeal in
/-- The feed-forward reference's run, its results named. -/
theorem ffn_ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v110) = Read.val_main_v110 (F := Ideal) (m (c.tc.loc main_arg0)) (m (c.tc.loc main_arg1)) (m (c.tc.loc main_arg2)) (m (c.tc.loc main_arg3)) (m (c.tc.loc main_arg4)) (m (c.tc.loc main_arg5))
      ∧ r.2.mem (c.tc.loc main_v111) = Read.val_main_v111 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
      ∧ r.2.mem (c.tc.loc main_v113) = Read.val_main_v113 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
      ∧ r.2.mem (c.tc.loc main_v115) = Read.val_main_v115 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
      ∧ r.2.mem (c.tc.loc main_v86) = Read.val_main_v86 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
      ∧ r.2.mem (c.tc.loc main_v55) = Read.val_main_v55 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
      ∧ r.2.mem (c.tc.loc main_v95) = Read.val_main_v95 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) :=
  (θ_run defs _ _).mono (fun r h c => ⟨(h c).1.trans (Read.val_main_v110_eq _), (h c).2.1.trans (Read.val_main_v111_eq _), (h c).2.2.1.trans (Read.val_main_v113_eq _), (h c).2.2.2.1.trans (Read.val_main_v115_eq _), (h c).2.2.2.2.1.trans (Read.val_main_v86_eq _), (h c).2.2.2.2.2.1.trans (Read.val_main_v55_eq _), (h c).2.2.2.2.2.2.1.trans (Read.val_main_v95_eq _), (h c).2.2.2.2.2.2.2⟩) (Value.run m ρ)

/-- The feed-forward reference's frame. -/
theorem ffn_ref : Cert.quiescent_FfnRefIdeal (hFfnRefIdeal := FfnRefIdeal.Gen.facts) := by
  intro m g _
  exact (θ_run FfnRefIdeal.defs _ _).mono (fun r h => ⟨fun c => (h c).2.2.2.2.2.2.2, sem_eq_zero_of_no_sems (by decide) r.2⟩) (ffn_ref_run m g)

/-- The two calls compute the reference's seven results, where the arguments are finite. -/
theorem ffn_value : Cert.algebraic_FfnIdeal_FfnRefIdeal_pre_ffn_finite (hFfnIdeal := FfnIdeal.Gen.facts) (hFfnRefIdeal := FfnRefIdeal.Gen.facts)
    (hPre_ffn_finite := Pre_ffn_finite.Gen.facts) := by
  intro m g m' g' hpre hagree
  refine ⟨_, _, _, _, _, _, _, FfnIdeal.Run.results m g (fun c => FfnIdeal.Run.real_args _ _ _ _ _ _ _ (hpre c)), (θ_run FfnRefIdeal.defs _ _).mono (fun r h c => ?_) (ffn_ref_run m' g')⟩
  obtain ⟨hv110, hv111, hv113, hv115, hv86, hv55, hv95, ha⟩ := h c
  obtain ⟨e0, e1, e2, e3, e4, e5, e6⟩ := hagree c
  rw [e0, e1, e2, e3, e4, e5] at hv110
  rw [e0, e1, e2, e3, e4, e5, e6] at hv111
  rw [e0, e1, e2, e3, e4, e5, e6] at hv113
  rw [e0, e1, e2, e3, e4, e5, e6] at hv115
  rw [e0, e1, e2, e3, e4, e5, e6] at hv86
  rw [e0, e1, e2, e3, e4, e5, e6] at hv55
  rw [e0, e1, e2, e3, e4, e5, e6] at hv95
  exact ⟨hv110, hv111, hv113, hv115, hv86, hv55, hv95, ha⟩

end Cert.Proof

end
-- ==== Proof.FrontMath.lean ====
/- The front projections' mathematics: a norm, a product with weights, a rotary turn of 64 lanes, alone and inside 128. -/
module

public import proofs.«01_k».proof.Proof.Norm

@[expose] public section

set_option maxRecDepth 16384

noncomputable section

namespace Cert.Front

open Ereal Idealize.ShloMosaic

/-- A normed row of `n` entries, times its scale; `L` is the written number of entries. -/
def nrm {n : ℕ} (L : EReal) (v g : Fin n → EReal) (k : Fin n) : EReal :=
  v k * Ideal.rsqrt (Ideal.div (∑ j, v j * v j) L + Ideal.ofBits .f32 897988541#32) * g k

/-- A row times a matrix of weights. -/
def dotw {n p : ℕ} (v : Fin n → EReal) (w : Fin n → Fin p → EReal) (j : Fin p) : EReal := ∑ k, v k * w k j

/-- The rotary turn of 64 lanes by 32 angles. -/
def rope (x : Fin 64 → EReal) (t : Fin 32 → EReal) (d : Fin 64) : EReal :=
  if h : d.val < 32 then x d * Ideal.cos (t ⟨d, h⟩) - x ⟨d + 32, by omega⟩ * Ideal.sin (t ⟨d, h⟩)
  else x ⟨d - 32, by omega⟩ * Ideal.sin (t ⟨d - 32, by omega⟩) + x d * Ideal.cos (t ⟨d - 32, by omega⟩)

/-- The turn as the block does it, on 128 lanes with a lane's partner found by a roll. -/
def rot (b a : Fin 128 → EReal) (l : Fin 128) : EReal :=
  b l * Ideal.cos (a l) + (if l.val < 32 then 0 - b ⟨(l + 128 - 96) % 128, by omega⟩ else b ⟨(l + 128 - 32) % 128, by omega⟩) * Ideal.sin (a l)

theorem sin_zero : Ideal.sin 0 = 0 := by
  have : Ideal.sin ((0 : ℝ) : EReal) = ((Real.sin 0 : ℝ) : EReal) := rfl
  simpa using this

/-- On lanes that are zero past 64, with angles that are zero past 64, the block's turn is the plain one, padded. -/
theorem rot_eq (b a : Fin 128 → EReal) (x : Fin 64 → EReal) (t : Fin 32 → EReal) (hb : ∀ l : Fin 128, b l = if h : l.val < 64 then x ⟨l, h⟩ else 0)
    (ha : ∀ l : Fin 128, a l = if h : l.val < 32 then t ⟨l, h⟩ else if h : l.val < 64 then t ⟨l - 32, by omega⟩ else 0) (l : Fin 128) :
    rot b a l = if h : l.val < 64 then rope x t ⟨l, h⟩ else 0 := by
  have hl := l.isLt
  rw [rot, hb l, ha l]
  by_cases h : l.val < 32
  · have e : (⟨(l + 128 - 96) % 128, by omega⟩ : Fin 128) = ⟨l + 32, by omega⟩ := Fin.ext (by simp only; omega)
    simp only [h, show l.val < 64 by omega, dite_true, if_true, rope, e, hb ⟨l + 32, by omega⟩, show l.val + 32 < 64 by omega, zero_sub, EReal.neg_mul]
    rw [sub_eq_add_neg]
  · have e : (⟨(l + 128 - 32) % 128, by omega⟩ : Fin 128) = ⟨l - 32, by omega⟩ := Fin.ext (by simp only; omega)
    by_cases h' : l.val < 64
    · simp only [h, h', dite_true, dite_false, if_false, rope, e, hb ⟨l - 32, by omega⟩, show l.val - 32 < 64 by omega]
      rw [add_comm]
    · simp only [h, h', dite_false, if_false, zero_mul, sin_zero, mul_zero, add_zero]

end Cert.Front

end
-- ==== Proof.FrontRef.lean ====
/- What the front projections' reference computes, entry by entry. -/
module

public import proofs.«01_k».proof.Proof.Gen.FrontRefIdeal.Read
public import proofs.«01_k».proof.Proof.FrontMath
public import proofs.«01_k».proof.Proof.FlashHost

@[expose] public section

set_option maxRecDepth 16384

noncomputable section

namespace Cert.FrontRefIdeal.Row

open FrontRefIdeal FrontRefIdeal.Read Ereal Front Idealize.ShloMosaic

variable (x0 : FVec Ideal S16384x1024 .f32) (x1 : IVec S16384 32) (x2 : FVec Ideal S1024 .f32) (x3 : FVec Ideal S1024x704 .f32)
  (x4 : FVec Ideal S384 .f32) (x5 : FVec Ideal S256 .f32) (x6 : FVec Ideal S384x1536 .f32) (x7 : FVec Ideal S256x2048 .f32)

/-- The inverse frequencies. -/
def inv (j : Fin 32) : EReal := val_main_v10 (F := Ideal) (ix1 j)

/-- The angles of a row. -/
def t (r : Fin 16384) (j : Fin 32) : EReal := FloatOps.sitofp (F := Ideal) .f32 (x1 (ix1 r)) * inv j

/-- The first product of a row. -/
def A (r : Fin 16384) : Fin 704 → EReal :=
  dotw (nrm (Ideal.ofBits .f32 0x44800000#32) (fun k => x0 (ix2 r k)) fun k => x2 (ix1 k)) (fun k j => x3 (ix2 k j))

theorem v32_at (r : Fin 16384) (j : Fin 704) : val_main_v32 (F := Ideal) x0 x2 x3 (ix2 r j) = A x0 x2 x3 r j := by
  pointwise [val_main_v32, val_main_v31, val_main_v30, val_main_v29, val_main_v28, val_main_v27, val_main_v26, val_main_v25, val_main_v24, val_main_v23,
    val_main_v22, val_main_v21, val_main_v20, val_main_v19]
  simp only [show val_main_cst_4 (F := Ideal) (Shape.Idx.first Gen.h_S_) = 0 from Ideal.ofBits_zero_f32, zero_add]
  rfl

/-- The queries before the turn. -/
def Q (r : Fin 16384) : Fin 1536 → EReal :=
  dotw (nrm (Ideal.ofBits .f32 0x43C00000#32) (fun k => A x0 x2 x3 r ⟨k, by omega⟩) fun k => x4 (ix1 k)) (fun k j => x6 (ix2 k j))

theorem v49_at (r : Fin 16384) (j : Fin 1536) : val_main_v49 (F := Ideal) x0 x2 x3 x4 x6 (ix2 r j) = Q x0 x2 x3 x4 x6 r j := by
  pointwise [val_main_v49, val_main_v48, val_main_v47, val_main_v46, val_main_v45, val_main_v44, val_main_v43, val_main_v42, val_main_v41, val_main_v40,
    val_main_v39, val_main_v38, val_main_v37, val_main_v36, val_main_v33]
  simp only [v32_at]
  simp only [show val_main_cst_7 (F := Ideal) (Shape.Idx.first Gen.h_S_) = 0 from Ideal.ofBits_zero_f32, zero_add]
  rfl

/-- The keys' and values' product. -/
def KV (r : Fin 16384) : Fin 2048 → EReal :=
  dotw (nrm (Ideal.ofBits .f32 0x43800000#32) (fun k => A x0 x2 x3 r ⟨384 + k, by omega⟩) fun k => x5 (ix1 k)) (fun k j => x7 (ix2 k j))

theorem v64_at (r : Fin 16384) (j : Fin 2048) : val_main_v64 (F := Ideal) x0 x2 x3 x5 x7 (ix2 r j) = KV x0 x2 x3 x5 x7 r j := by
  pointwise [val_main_v64, val_main_v63, val_main_v62, val_main_v61, val_main_v60, val_main_v59, val_main_v58, val_main_v57, val_main_v56, val_main_v55,
    val_main_v54, val_main_v53, val_main_v52, val_main_v51, val_main_v34]
  simp only [v32_at]
  simp only [show val_main_cst_10 (F := Ideal) (Shape.Idx.first Gen.h_S_) = 0 from Ideal.ofBits_zero_f32, zero_add]
  rfl

theorem v17_at (r : Fin 16384) (j : Fin 32) : val_main_v17 (F := Ideal) x1 (ix2 r j) = Ideal.cos (t x1 r j) := by
  pointwise [val_main_v17, val_main_v16, val_main_v15, val_main_v14, val_main_v13, val_main_v12, val_main_v11]
  rfl

theorem v18_at (r : Fin 16384) (j : Fin 32) : val_main_v18 (F := Ideal) x1 (ix2 r j) = Ideal.sin (t x1 r j) := by
  pointwise [val_main_v18, val_main_v16, val_main_v15, val_main_v14, val_main_v13, val_main_v12, val_main_v11]
  rfl

/-- The queries' entry of head and lane after the turn. -/
theorem v83_at (r : Fin 16384) (h : Fin 8) (d : Fin 192) : val_main_v83 (F := Ideal) x0 x1 x2 x3 x4 x6 (ix3 r h d)
    = if hd : d.val < 128 then Q x0 x2 x3 x4 x6 r ⟨h * 192 + d, by omega⟩
      else rope (fun d => Q x0 x2 x3 x4 x6 r ⟨h * 192 + (128 + d), by omega⟩) (t x1 r) ⟨d - 128, by omega⟩ := by
  pointwise [val_main_v83, val_main_v82, val_main_v81, val_main_v80, val_main_v79, val_main_v78, val_main_v77, val_main_v76, val_main_v75, val_main_v74,
    val_main_v73, val_main_v72, val_main_v71, val_main_v70, val_main_v69, val_main_v68, val_main_v67, val_main_v66, val_main_v50]
  simp only [v49_at, v17_at, v18_at]
  refine dite_congr rfl (fun _ => rfl) fun hd => ?_
  rw [rope]
  refine dite_congr rfl (fun _ => ?_) fun (h' : ¬ (d.val - 128 < 32)) => ?_
  · simp only [add_comm 32]
  · simp only [show 32 + (d.val - 128 - 32) = d.val - 128 by omega]

/-- The key's turned lanes. -/
theorem v92_at (r : Fin 16384) (d : Fin 64) : val_main_v92 (F := Ideal) x0 x1 x2 x3 (ix2 r d) = rope (fun d => A x0 x2 x3 r ⟨640 + d, by omega⟩) (t x1 r) d := by
  pointwise [val_main_v92, val_main_v91, val_main_v90, val_main_v89, val_main_v88, val_main_v87, val_main_v86, val_main_v85, val_main_v84, val_main_v35]
  simp only [v32_at, v17_at, v18_at]
  rw [rope]
  refine dite_congr rfl (fun _ => ?_) fun _ => ?_
  · simp only [add_comm 32]
  · simp only [show 32 + (d.val - 32) = d.val by omega]

theorem v113_at (r : Fin 16384) (c : Fin 1024) : val_main_v113 (F := Ideal) x0 x2 x3 x5 x7 (ix2 r c)
    = KV x0 x2 x3 x5 x7 r ⟨c.val / 128 * 256 + 128 + c.val % 128, by omega⟩ := by
  pointwise [val_main_v113, val_main_v112, val_main_v111, val_main_v65]
  simp only [v64_at]
  exact congrArg _ (Fin.ext (by simp only; omega))

theorem v110_at (r : Fin 16384) (c : Fin 2048) : val_main_v110 (F := Ideal) x0 x1 x2 x3 x5 x7 (ix2 r c)
    = if hd : c.val % 256 < 128 then KV x0 x2 x3 x5 x7 r c
      else if hc : c.val % 256 < 192 then rope (fun d => A x0 x2 x3 r ⟨640 + d, by omega⟩) (t x1 r) ⟨c.val % 256 - 128, by omega⟩ else 0 := by
  pointwise [val_main_v110, val_main_v109, val_main_v108, val_main_v96, val_main_v95, val_main_v94, val_main_v93, val_main_v65]
  simp only [v64_at, v92_at]
  have z : val_main_call1_v0 (F := Ideal) (Shape.Idx.first Gen.h_S_) = 0 := FlashRefIdeal.Values.sitofp_zero
  have := c.isLt
  have h0 : c.val / 256 < 8 := by omega
  by_cases h1 : c.val % 256 < 128
  · simp only [h0, h1, show c.val % 256 < 192 by omega, and_self, dite_true]
  · by_cases h2 : c.val % 256 < 192
    · simp only [h0, h1, h2, and_self, dite_true, dite_false]
    · simp only [h1, h2, and_false, dite_false]
      exact z

theorem v107_at (r : Fin 16384) (c : Fin 2048) : val_main_v107 (F := Ideal) x0 x1 x2 x3 x4 x6 (ix2 r c)
    = (if hd : c.val % 256 < 128 then Q x0 x2 x3 x4 x6 r ⟨c.val / 256 * 192 + c.val % 256, by omega⟩
      else if hc : c.val % 256 < 192 then rope (fun d => Q x0 x2 x3 x4 x6 r ⟨c.val / 256 * 192 + (128 + d), by omega⟩) (t x1 r) ⟨c.val % 256 - 128, by omega⟩
      else 0) * (((Real.sqrt 192)⁻¹ * (Real.log 2)⁻¹ : ℝ) : EReal) := by
  pointwise [val_main_v107, val_main_v106, val_main_v105, val_main_v104, val_main_v103, val_main_v102, val_main_v101, val_main_v100, val_main_v99, val_main_v98, val_main_v97]
  simp only [v83_at]
  have z : val_main_call0_v0 (F := Ideal) (Shape.Idx.first Gen.h_S_) = 0 := FlashRefIdeal.Values.sitofp_zero
  have e1 : (id (Host.sqrt (val_main_cst_13 (F := Ideal))) : FVec Ideal S_ .f32) ix0 = ((Real.sqrt 192 : ℝ) : EReal) := by
    have e : Ideal.ofBits .f32 0x43400000#32 = ((192 : ℝ) : EReal) := by simp [Ideal.ofBits, Ideal.ieee]; rw [← EReal.coe_mul]; norm_num
    show Ideal.sqrt (Ideal.ofBits .f32 0x43400000#32) = _
    rw [e]
    show (if (192 : ℝ) < 0 then ⊥ else (Real.sqrt 192 : EReal)) = _
    rw [if_neg (by norm_num)]
  have e2 : (id (Host.log (val_main_cst_14 (F := Ideal))) : FVec Ideal S_ .f32) ix0 = ((Real.log 2 : ℝ) : EReal) := FlashIdeal.Host.log_two
  have := c.isLt
  have hz (y : EReal) : Ideal.div (Ideal.div y ((id (Host.sqrt (val_main_cst_13 (F := Ideal))) : FVec Ideal S_ .f32) ix0))
      ((id (Host.log (val_main_cst_14 (F := Ideal))) : FVec Ideal S_ .f32) ix0) = y * (((Real.sqrt 192)⁻¹ * (Real.log 2)⁻¹ : ℝ) : EReal) := by
    refine (congrArg₂ Ideal.div (congrArg (Ideal.div y) e1) e2).trans ?_
    rw [Ideal.div_coe (Real.sqrt_pos.2 (by norm_num)).ne', Ideal.div_coe (Real.log_pos (by norm_num)).ne', mul_assoc, ← EReal.coe_mul, one_div, one_div]
  by_cases h1 : c.val % 256 < 128
  · rw [dif_pos ⟨by omega, by omega⟩, dif_pos h1, dif_pos h1]; exact hz _
  · rw [dif_neg h1]
    by_cases h2 : c.val % 256 < 192
    · rw [dif_pos ⟨by omega, h2⟩, dif_neg h1, dif_pos h2]; exact hz _
    · rw [dif_neg (by omega), dif_neg h2, zero_mul]; exact z

end Cert.FrontRefIdeal.Row

end
-- ==== Proof.FrontHost.lean ====
/- What the front projections' host code passes on. -/
module

public import proofs.«01_k».proof.Proof.Gen.FrontIdeal.Frame
public import proofs.«01_k».proof.Proof.FrontRef
public import Idealize.ShloMosaic.Lib.Pipeline.ValueKit
public import Idealize.ShloMosaic.Lib.StableHlo.ReadAt

@[expose] public section

set_option maxRecDepth 16384

noncomputable section

namespace Cert.FrontIdeal.Host

open Idealize.ShloMosaic TcCoe Tactic
open Idealize.SL Idealize.SL.Sem Idealize.ShloMosaic.StableHlo
open FrontIdeal FrontIdeal.Gen Ereal Front

variable (m : (ℓ : Loc nD τ sig) → Buf (Elt Ideal) ℓ) (c : Dev nD)

/-- The arguments. -/
abbrev X0 : FVec Ideal S16384x1024 .f32 := m (c.tc.loc main_arg0)
abbrev X1 : IVec S16384 32 := m (c.tc.loc main_arg1)
abbrev X2 : FVec Ideal S1024 .f32 := m (c.tc.loc main_arg2)
abbrev X3 : FVec Ideal S1024x704 .f32 := m (c.tc.loc main_arg3)
abbrev X4 : FVec Ideal S384 .f32 := m (c.tc.loc main_arg4)
abbrev X5 : FVec Ideal S256 .f32 := m (c.tc.loc main_arg5)
abbrev X6 : FVec Ideal S384x1536 .f32 := m (c.tc.loc main_arg6)
abbrev X7 : FVec Ideal S256x2048 .f32 := m (c.tc.loc main_arg7)

theorem v1_at (k : Fin 1024) (j : Fin 768) : V m c main_v1 (ix2 k j) = if h : j.val < 704 then X3 m c (ix2 k ⟨j, h⟩) else 0 := by
  unfold V hostOps0 hostOps0_1 hostOps0_2 hostOps0_3 hostOps0_4; simp only [List.flatten_cons, List.flatten_nil]; after_reads_at
  exact dite_congr rfl (fun _ => rfl) fun _ => FlashRefIdeal.Values.sitofp_zero
theorem v5_at (k : Fin 384) (j : Fin 2048) : V m c main_v5 (ix2 k j) = if h : j.val % 256 < 192 then X6 m c (ix2 k ⟨j.val / 256 * 192 + j.val % 256, by omega⟩) else 0 := by
  unfold V hostOps0 hostOps0_1 hostOps0_2 hostOps0_3 hostOps0_4; simp only [List.flatten_cons, List.flatten_nil]; after_reads_at
  have := j.isLt
  exact dite_congr (propext ⟨And.right, fun h => ⟨by omega, h⟩⟩) (fun _ => rfl) fun _ => FlashRefIdeal.Values.sitofp_zero
theorem v25_at (k : Fin 256) (j : Fin 2048) : V m c main_v25 (ix2 k j) = (m (c.tc.loc main_arg7) (ix2 k j) : EReal) := by
  unfold V hostOps0 hostOps0_1 hostOps0_2 hostOps0_3 hostOps0_4; simp only [List.flatten_cons, List.flatten_nil]; after_reads_at
/-- The row of frequencies: the inverse frequencies twice and zeros. -/
def freq : FVec Ideal S1x128 .f32 :=
  shapeCast S1x128 (concatenate S128 0 [⟨S32, FrontRefIdeal.Read.val_main_v10 (F := Ideal)⟩, ⟨S32, FrontRefIdeal.Read.val_main_v10 (F := Ideal)⟩,
    ⟨S64, broadcastInDim S64 ![] bcast_S_S64 (constant (F := Ideal) S_ .f32 0x00000000#32)⟩] concatenates_S32_S32_S64_S128_d0) shapeCasts_S128_S1x128

theorem v19_eq : V m c main_v19 = freq := by
  unfold V hostOps0 hostOps0_1 hostOps0_2 hostOps0_3 hostOps0_4; simp only [List.flatten_cons, List.flatten_nil]; after_reads_simp; rfl

theorem v19_at (j : Fin 128) : V m c main_v19 (ix2 0 j) = if h : j.val < 32 then FrontRefIdeal.Row.inv ⟨j, h⟩ else if h : j.val < 64 then FrontRefIdeal.Row.inv ⟨j - 32, by omega⟩ else 0 := by
  rw [v19_eq]
  show freq (ix2 0 j) = _
  pointwise [freq]
  refine dite_congr rfl (fun _ => rfl) fun _ => dite_congr (propext ⟨fun h => by omega, fun h => by omega⟩) (fun _ => rfl) fun _ => rfl
theorem v21_at (r : Fin 16384) : V m c main_v21 (ix2 r 0) = FloatOps.sitofp (F := Ideal) .f32 (m (c.tc.loc main_arg1) (ix1 r)) := by
  unfold V hostOps0 hostOps0_1 hostOps0_2 hostOps0_3 hostOps0_4; simp only [List.flatten_cons, List.flatten_nil]; after_reads_at
theorem v22_at (j : Fin 1024) : V m c main_v22 (ix2 0 j) = (m (c.tc.loc main_arg2) (ix1 j) : EReal) := by
  unfold V hostOps0 hostOps0_1 hostOps0_2 hostOps0_3 hostOps0_4; simp only [List.flatten_cons, List.flatten_nil]; after_reads_at
theorem v23_at (j : Fin 384) : V m c main_v23 (ix2 0 j) = (m (c.tc.loc main_arg4) (ix1 j) : EReal) := by
  unfold V hostOps0 hostOps0_1 hostOps0_2 hostOps0_3 hostOps0_4; simp only [List.flatten_cons, List.flatten_nil]; after_reads_at
theorem v24_at (j : Fin 256) : V m c main_v24 (ix2 0 j) = (m (c.tc.loc main_arg5) (ix1 j) : EReal) := by
  unfold V hostOps0 hostOps0_1 hostOps0_2 hostOps0_3 hostOps0_4; simp only [List.flatten_cons, List.flatten_nil]; after_reads_at

end Cert.FrontIdeal.Host

end
-- ==== Proof.FrontBlock.lean ====
/- What the front projections' body computes of one block. -/
module

public import proofs.«01_k».proof.Proof.Gen.FrontIdeal.Skeleton
public import proofs.«01_k».proof.Proof.FrontMath

@[expose] public section

set_option maxRecDepth 16384

noncomputable section

namespace Cert.FrontIdeal.Block

open FrontIdeal FrontIdeal.Gen Ereal Front Idealize.ShloMosaic

theorem sel_at (l : Fin 128) (a b : EReal) : Scalar.select (IntOp.cmpi .slt (BitVec.ofNat 32 l.val) 32#32) a b = if l.val < 32 then a else b := by
  fin_cases l <;> rfl

/-- Column `c` of the queries with the turned halves turned. -/
def turn (q : Fin 2048 → EReal) (a : Fin 128 → EReal) (c : Fin 2048) : EReal :=
  if h : c.val % 256 < 128 then q c else rot (fun l => q ⟨c.val / 256 * 256 + 128 + l, by omega⟩) a ⟨c.val % 256 - 128, by omega⟩

theorem turn_low (q : Fin 2048 → EReal) (a : Fin 128 → EReal) (o : ℕ) (ho : o % 256 = 0) (hl : o + 128 ≤ 2048) (l : Fin 128) :
    q ⟨o + l, by omega⟩ = turn q a ⟨o + l, by omega⟩ := by
  rw [turn, dif_pos (by simp only; omega)]

theorem turn_high (q : Fin 2048 → EReal) (a : Fin 128 → EReal) (o : ℕ) (ho : o % 256 = 128) (hl : o + 128 ≤ 2048) (l : Fin 128) :
    rot (fun l => q ⟨o + l, by omega⟩) a l = turn q a ⟨o + l, by omega⟩ := by
  rw [turn, dif_neg (by simp only; omega)]
  congr 1
  · funext l; congr 2; simp only; omega
  · apply Fin.ext; simp only; omega

section
variable (v0 : FVec Ideal S512x1024 .f32) (v3 : FVec Ideal S1x1024 .f32) (v5 : FVec Ideal S1024x768 .bf16) (r : Fin 512)

/-- The first product of a row. -/
def A (j : Fin 768) : EReal := dotw (nrm (Ideal.ofBits .f32 0x44800000#32) (fun k => v0 (ix2 r k)) fun k => v3 (ix2 0 k)) (fun k j => v5 (ix2 k j)) j

theorem pay12_at (j : Fin 768) : k0_pay12 (F := Ideal) v0 v3 v5 (ix2 r j) = A v0 v3 v5 r j := by
  pointwise [k0_pay12]
  rfl
end

/-- Sixteen pieces of one array, read at a column. -/
theorem piece (v : Fin 16 → FVec Ideal S512x128 .f32) (xs : List ((s : Shape) × (s.Idx → EReal))) (hx : xs = List.ofFn fun n => ⟨S512x128, v n⟩)
    (h : Shape.Concatenates (xs.map (·.1)) S512x2048 1) (r : Fin 512) (f : Fin 2048 → EReal)
    (H : ∀ (i : Fin 16) (l : Fin 128), v i (ix2 r l) = f ⟨i * 128 + l, by omega⟩) (c : Fin 2048) : concatenate S512x2048 1 xs h (ix2 r c) = f c := by
  subst hx
  refine (concatenate_ofFn_apply 1 v h rfl 128 rfl (ix2 r c) ⟨c.val / 128, by omega⟩ rfl (ix2 r ⟨c.val % 128, by omega⟩) rfl
    fun b hb => by match b with | ⟨0, _⟩ => rfl | ⟨1, _⟩ => exact absurd rfl hb).trans ?_
  exact (H _ _).trans (congrArg f (Fin.ext (by simp only; omega)))

theorem hcat : Shape.Concatenates [S512x128, S512x128, S512x128, S512x128, S512x128, S512x128, S512x128, S512x128, S512x128, S512x128, S512x128, S512x128, S512x128, S512x128, S512x128, S512x128] S512x2048 1 :=
  concatenates_S512x128_S512x128_S512x128_S512x128_S512x128_S512x128_S512x128_S512x128_S512x128_S512x128_S512x128_S512x128_S512x128_S512x128_S512x128_S512x128_S512x2048_d1

/-- Sixteen pieces side by side, each read as its columns of one function. -/
theorem cat (v0 v1 v2 v3 v4 v5 v6 v7 v8 v9 v10 v11 v12 v13 v14 v15 : FVec Ideal S512x128 .f32) (r : Fin 512) (f : Fin 2048 → EReal)
    (h0 : ∀ l : Fin 128, v0 (ix2 r l) = f ⟨0 + l, by omega⟩) (h1 : ∀ l : Fin 128, v1 (ix2 r l) = f ⟨128 + l, by omega⟩) (h2 : ∀ l : Fin 128, v2 (ix2 r l) = f ⟨256 + l, by omega⟩) (h3 : ∀ l : Fin 128, v3 (ix2 r l) = f ⟨384 + l, by omega⟩)
    (h4 : ∀ l : Fin 128, v4 (ix2 r l) = f ⟨512 + l, by omega⟩) (h5 : ∀ l : Fin 128, v5 (ix2 r l) = f ⟨640 + l, by omega⟩) (h6 : ∀ l : Fin 128, v6 (ix2 r l) = f ⟨768 + l, by omega⟩) (h7 : ∀ l : Fin 128, v7 (ix2 r l) = f ⟨896 + l, by omega⟩)
    (h8 : ∀ l : Fin 128, v8 (ix2 r l) = f ⟨1024 + l, by omega⟩) (h9 : ∀ l : Fin 128, v9 (ix2 r l) = f ⟨1152 + l, by omega⟩) (h10 : ∀ l : Fin 128, v10 (ix2 r l) = f ⟨1280 + l, by omega⟩) (h11 : ∀ l : Fin 128, v11 (ix2 r l) = f ⟨1408 + l, by omega⟩)
    (h12 : ∀ l : Fin 128, v12 (ix2 r l) = f ⟨1536 + l, by omega⟩) (h13 : ∀ l : Fin 128, v13 (ix2 r l) = f ⟨1664 + l, by omega⟩) (h14 : ∀ l : Fin 128, v14 (ix2 r l) = f ⟨1792 + l, by omega⟩) (h15 : ∀ l : Fin 128, v15 (ix2 r l) = f ⟨1920 + l, by omega⟩)
    (h : Shape.Concatenates [S512x128, S512x128, S512x128, S512x128, S512x128, S512x128, S512x128, S512x128, S512x128, S512x128, S512x128, S512x128, S512x128, S512x128, S512x128, S512x128] S512x2048 1) (c : Fin 2048) :
    concatenate S512x2048 1 [⟨S512x128, v0⟩, ⟨S512x128, v1⟩, ⟨S512x128, v2⟩, ⟨S512x128, v3⟩, ⟨S512x128, v4⟩, ⟨S512x128, v5⟩, ⟨S512x128, v6⟩, ⟨S512x128, v7⟩, ⟨S512x128, v8⟩, ⟨S512x128, v9⟩, ⟨S512x128, v10⟩, ⟨S512x128, v11⟩, ⟨S512x128, v12⟩, ⟨S512x128, v13⟩, ⟨S512x128, v14⟩, ⟨S512x128, v15⟩] h (ix2 r c) = f c := by
  exact piece ![v0, v1, v2, v3, v4, v5, v6, v7, v8, v9, v10, v11, v12, v13, v14, v15] _ rfl h r f (fun i => match i with
    | 0 => h0 | 1 => h1 | 2 => h2 | 3 => h3 | 4 => h4 | 5 => h5 | 6 => h6 | 7 => h7
    | 8 => h8 | 9 => h9 | 10 => h10 | 11 => h11 | 12 => h12 | 13 => h13 | 14 => h14 | 15 => h15
    | ⟨n + 16, h⟩ => absurd h (by omega)) c

section
variable (v2 : FVec Ideal S512x1 .f32) (v16 : FVec Ideal S1x128 .f32) (r : Fin 512)

/-- The angles of a row. -/
def ang (l : Fin 128) : EReal := v2 (ix2 r 0) * v16 (ix2 0 l)

theorem pay20_at (l : Fin 128) : k0_pay20 (F := Ideal) v2 v16 (ix2 r l) = Ideal.cos (ang v2 v16 r l) := by
  pointwise [k0_pay20, k0_pay19]; rfl

theorem pay21_at (l : Fin 128) : k0_pay21 (F := Ideal) v2 v16 (ix2 r l) = Ideal.sin (ang v2 v16 r l) := by
  pointwise [k0_pay21, k0_pay19]; rfl

variable (v0 : FVec Ideal S512x1024 .f32) (v3 : FVec Ideal S1x1024 .f32) (v5 : FVec Ideal S1024x768 .bf16)

/-- The turned key of a row. -/
theorem pay22_at (l : Fin 128) : k0_pay22 (F := Ideal) v2 v16 (k0_pay15 v0 v3 v5) (ix2 r l) = rot (fun l => A v0 v3 v5 r ⟨640 + l, by omega⟩) (ang v2 v16 r) l := by
  pointwise [k0_pay22, k0_pay15]
  simp only [sel_at, pay20_at, pay21_at, pay12_at, Ideal.ofBits_zero_f32, rot]

/-- The queries before the turn. -/
theorem pay17_at (v8 : FVec Ideal S1x384 .f32) (v12 : FVec Ideal S384x2048 .bf16) (j : Fin 2048) :
    k0_pay17 (F := Ideal) v8 v12 (k0_pay13 v0 v3 v5) (k0_pay16 v0 v3 v5) (ix2 r j)
      = dotw (nrm (Ideal.ofBits .f32 0x43C00000#32) (fun k => A v0 v3 v5 r ⟨k, by omega⟩) fun k => v8 (ix2 0 k)) (fun k j => v12 (ix2 k j)) j := by
  pointwise [k0_pay17, k0_pay13, k0_pay16]
  simp only [pay12_at]
  rfl

/-- The keys' and values' product. -/
theorem pay18_at (v10 : FVec Ideal S1x256 .f32) (v14 : FVec Ideal S256x2048 .bf16) (j : Fin 2048) :
    k0_pay18 (F := Ideal) v10 v14 (k0_pay14 v0 v3 v5) (ix2 r j)
      = dotw (nrm (Ideal.ofBits .f32 0x43800000#32) (fun k => A v0 v3 v5 r ⟨384 + k, by omega⟩) fun k => v10 (ix2 0 k)) (fun k j => v14 (ix2 k j)) j := by
  pointwise [k0_pay18, k0_pay14]
  simp only [pay12_at]
  rfl

/-- The block of queries, its product `k0_pay17 v8 v12 v31 v35` left as it is. -/
def qout (v8 : FVec Ideal S1x384 .f32) (v12 : FVec Ideal S384x2048 .bf16) (v31 : FVec Ideal S512x384 .f32) (v35 : FVec Ideal S512 .f32) : FVec Ideal S512x2048 .bf16 :=
  have v59 := k0_pay17 v8 v12 v31 v35
  have v65 := k0_pay20 v2 v16
  have v66 := k0_pay21 v2 v16
  k0_pay3 v59 (k0_pay23 v8 v12 v31 v35) (k0_pay27 v66 (k0_pay24 v8 v12 v31 v35) (k0_pay25 v2 v8 v12 v16 v31 v35) k0_pay26) (k0_pay30 v59) (k0_pay31 v59 v65 v66)
    (k0_pay34 v59) (k0_pay35 v59 v65 v66) (k0_pay38 v59) (k0_pay43 v66 (k0_pay39 v59) (k0_pay40 v59 v65) k0_pay41 (k0_pay42 v59) (Scalar.ofBits .f32 0x00000000#32))
    (k0_pay46 v59) (k0_pay47 v59 v65 v66) (k0_pay50 v59) (k0_pay51 v59 v65 v66) (k0_pay54 v59)
    (k0_pay1 v66 (k0_pay55 v59) (k0_pay56 v59 v65) k0_pay57 (k0_pay58 v59) 32#32) (k0_pay2 v59 v65 v66)

set_option maxHeartbeats 1000000 in
/-- The queries' columns from the block's pieces. -/
theorem qout_at (v8 : FVec Ideal S1x384 .f32) (v12 : FVec Ideal S384x2048 .bf16) (v31 : FVec Ideal S512x384 .f32) (v35 : FVec Ideal S512 .f32) (c : Fin 2048) :
    qout v2 v16 v8 v12 v31 v35 (ix2 r c)
      = turn (fun j => k0_pay17 v8 v12 v31 v35 (ix2 r j)) (ang v2 v16 r) c * Named.named (F := Ideal) (φ := .f32) κ "prescale" 0x3DD53B95#32 := by
  refine congrArg (· * Named.named (F := Ideal) (φ := .f32) κ "prescale" 0x3DD53B95#32)
    (cat _ _ _ _ _ _ _ _ _ _ _ _ _ _ _ _ r (turn (fun j => k0_pay17 v8 v12 v31 v35 (ix2 r j)) (ang v2 v16 r))
      ?_ ?_ ?_ ?_ ?_ ?_ ?_ ?_ ?_ ?_ ?_ ?_ ?_ ?_ ?_ ?_ hcat c) <;> intro l <;>
  first
  | (refine Eq.trans ?_ (turn_high (fun j => k0_pay17 v8 v12 v31 v35 (ix2 r j)) (ang v2 v16 r) _ (by norm_num) (by norm_num) l)
     pointwise [k0_pay27, k0_pay24, k0_pay25, k0_pay26, k0_pay31, k0_pay35, k0_pay43, k0_pay39, k0_pay40,
       k0_pay41, k0_pay42, k0_pay47, k0_pay51, k0_pay1, k0_pay55, k0_pay56, k0_pay57, k0_pay58, k0_pay2]
     simp only [sel_at, pay20_at, pay21_at, Ideal.ofBits_zero_f32, rot]
     done)
  | (refine Eq.trans ?_ (turn_low (fun j => k0_pay17 v8 v12 v31 v35 (ix2 r j)) (ang v2 v16 r) _ (by norm_num) (by norm_num) l)
     try simp only [zero_add]
     pointwise [k0_pay23, k0_pay30, k0_pay34, k0_pay38, k0_pay46, k0_pay50, k0_pay54])
end

/-- Column `c` of the keys: heads of 256 columns, the first 128 as they are, the others the turned key. -/
def half (p : Fin 2048 → EReal) (z : Fin 128 → EReal) (c : Fin 2048) : EReal :=
  if h : c.val % 256 < 128 then p c else z ⟨c.val % 256 - 128, by omega⟩

theorem half_low (p : Fin 2048 → EReal) (z : Fin 128 → EReal) (o : ℕ) (ho : o % 256 = 0) (hl : o + 128 ≤ 2048) (l : Fin 128) :
    p ⟨o + l, by omega⟩ = half p z ⟨o + l, by omega⟩ := by
  rw [half, dif_pos (by simp only; omega)]

theorem half_high (p : Fin 2048 → EReal) (z : Fin 128 → EReal) (o : ℕ) (ho : o % 256 = 128) (hl : o + 128 ≤ 2048) (l : Fin 128) :
    z l = half p z ⟨o + l, by omega⟩ := by
  rw [half, dif_neg (by simp only; omega)]
  exact congrArg z (Fin.ext (by simp only; omega))

set_option maxHeartbeats 1000000 in
/-- The keys' columns from the block's pieces. -/
theorem pay4_at (v : FVec Ideal S512x2048 .f32) (z : FVec Ideal S512x128 .f32) (r : Fin 512) (c : Fin 2048) :
    k0_pay4 (F := Ideal) v z (k0_pay28 v) (k0_pay32 v) (k0_pay36 v) (k0_pay44 v) (k0_pay48 v) (k0_pay52 v) (ix2 r c)
      = half (fun j => v (ix2 r j)) (fun l => z (ix2 r l)) c := by
  refine cat _ _ _ _ _ _ _ _ _ _ _ _ _ _ _ _ r (half (fun j => v (ix2 r j)) fun l => z (ix2 r l)) ?_ ?_ ?_ ?_ ?_ ?_ ?_ ?_ ?_ ?_ ?_ ?_ ?_ ?_ ?_ ?_ hcat c <;> intro l <;>
  first
  | exact half_high (fun j => v (ix2 r j)) (fun l => z (ix2 r l)) _ (by norm_num) (by norm_num) l
  | (refine Eq.trans ?_ (half_low (fun j => v (ix2 r j)) (fun l => z (ix2 r l)) _ (by norm_num) (by norm_num) l)
     try simp only [zero_add]
     pointwise [k0_pay28, k0_pay32, k0_pay36, k0_pay44, k0_pay48, k0_pay52])

set_option maxHeartbeats 4000000 in
/-- The values' columns from the block's pieces. -/
theorem pay5_at (v : FVec Ideal S512x2048 .f32) (r : Fin 512) (c : Fin 1024) :
    k0_pay5 (F := Ideal) v (k0_pay29 v) (k0_pay33 v) (k0_pay37 v) (k0_pay45 v) (k0_pay49 v) (k0_pay53 v) (ix2 r c)
      = v (ix2 r ⟨c.val / 128 * 256 + 128 + c.val % 128, by omega⟩) := by
  pointwise [k0_pay5, k0_pay29, k0_pay33, k0_pay37, k0_pay45, k0_pay49, k0_pay53]
  have := c.isLt
  split_ifs <;> (refine congrArg v (congrArg (ix2 r) (Fin.ext ?_)); simp only; omega)

end Cert.FrontIdeal.Block

end
-- ==== Proof.FrontFinal.lean ====
/- The front projections' three result arrays are the reference's. -/
module

public import proofs.«01_k».proof.Proof.Gen.FrontIdeal.Points
public import proofs.«01_k».proof.Proof.FrontHost
public import proofs.«01_k».proof.Proof.FrontBlock

@[expose] public section

set_option maxRecDepth 16384

noncomputable section

namespace Cert.FrontIdeal.Final

open FrontIdeal FrontIdeal.Gen FrontIdeal.Block FrontIdeal.Host Ereal Front Idealize.ShloMosaic TcCoe Idealize.SL.Sem
open Idealize.ShloMosaic.Pipeline (Dat)
open FrontRefIdeal.Read (val_main_v107 val_main_v110 val_main_v113)
open FrontRefIdeal.Row (t Q KV v107_at v110_at v113_at)

variable (m : (ℓ : Loc nD τ sig) → Buf (Elt Ideal) ℓ) (c : Dev nD)

theorem idx : ∀ p : Fin cfg0.N, win0_0.index p = ![p.val, 0] ∧ win0_1.index p = ![p.val, 0] ∧ win0_2.index p = ![0, 0] ∧ win0_3.index p = ![0, 0]
    ∧ win0_4.index p = ![0, 0] ∧ win0_5.index p = ![0, 0] ∧ win0_6.index p = ![0, 0] ∧ win0_7.index p = ![0, 0] ∧ win0_8.index p = ![0, 0]
    ∧ win0_9.index p = ![p.val, 0] ∧ win0_10.index p = ![p.val, 0] ∧ win0_11.index p = ![p.val, 0] :=
  (by decide +kernel : ∀ p : Fin grid0.N, _)

/-- The row of the arrays that row `r` of point `p`'s blocks is. -/
def row (p : Fin cfg0.N) (r : Fin 512) : Fin 16384 := ⟨p.val * 512 + r.val, by have := p.isLt; have h : cfg0.N = 32 := N_0; omega⟩

section
variable {x0 : FVec Ideal S16384x1024 .f32} {x1 : IVec S16384 32} {x2 : FVec Ideal S1024 .f32} {x3 : FVec Ideal S1024x704 .f32}
  {x4 : FVec Ideal S384 .f32} {x5 : FVec Ideal S256 .f32} {x6 : FVec Ideal S384x1536 .f32} {x7 : FVec Ideal S256x2048 .f32}
  {v0 : FVec Ideal S512x1024 .f32} {v2 : FVec Ideal S512x1 .f32} {v3 : FVec Ideal S1x1024 .f32} {v5 : FVec Ideal S1024x768 .bf16}
  {v8 : FVec Ideal S1x384 .f32} {v10 : FVec Ideal S1x256 .f32} {v12 : FVec Ideal S384x2048 .bf16} {v14 : FVec Ideal S256x2048 .bf16}
  {v16 : FVec Ideal S1x128 .f32} {R : Fin 16384} {r : Fin 512}
  (h0 : ∀ k, v0 (ix2 r k) = x0 (ix2 R k)) (h2 : v2 (ix2 r 0) = FloatOps.sitofp (F := Ideal) .f32 (x1 (ix1 R))) (h3 : ∀ k, v3 (ix2 0 k) = x2 (ix1 k))
  (h5 : ∀ k (j : Fin 768), v5 (ix2 k j) = if h : j.val < 704 then x3 (ix2 k ⟨j, h⟩) else 0)
  (h8 : ∀ k, v8 (ix2 0 k) = x4 (ix1 k)) (h10 : ∀ k, v10 (ix2 0 k) = x5 (ix1 k))
  (h12 : ∀ k (j : Fin 2048), v12 (ix2 k j) = if h : j.val % 256 < 192 then x6 (ix2 k ⟨j.val / 256 * 192 + j.val % 256, by omega⟩) else 0)
  (h14 : ∀ k j, v14 (ix2 k j) = x7 (ix2 k j))
  (h16 : ∀ j : Fin 128, v16 (ix2 0 j) = if h : j.val < 32 then FrontRefIdeal.Row.inv ⟨j, h⟩ else if h : j.val < 64 then FrontRefIdeal.Row.inv ⟨j - 32, by omega⟩ else 0)

include h0 h3 h5 in
theorem A_eq (j : Fin 768) : Block.A v0 v3 v5 r j = if h : j.val < 704 then FrontRefIdeal.Row.A x0 x2 x3 R ⟨j, h⟩ else 0 := by
  unfold Block.A FrontRefIdeal.Row.A dotw
  simp only [h0, h3, h5]
  by_cases h : j.val < 704
  · simp only [h, dite_true]
  · simp only [h, dite_false, mul_zero, Finset.sum_const_zero]

include h0 h3 h5 h8 h12 in
theorem Q_eq (j : Fin 2048) : k0_pay17 (F := Ideal) v8 v12 (k0_pay13 v0 v3 v5) (k0_pay16 v0 v3 v5) (ix2 r j)
    = if h : j.val % 256 < 192 then Q x0 x2 x3 x4 x6 R ⟨j.val / 256 * 192 + j.val % 256, by omega⟩ else 0 := by
  rw [pay17_at, show (fun k : Fin 384 => Block.A v0 v3 v5 r ⟨k, by omega⟩) = fun k : Fin 384 => FrontRefIdeal.Row.A x0 x2 x3 R ⟨k, by omega⟩ from
    funext fun k => (A_eq h0 h3 h5 _).trans (dif_pos (by have := k.isLt; show k.val < 704; omega))]
  unfold Q dotw
  simp only [h8, h12]
  by_cases h : j.val % 256 < 192
  · simp only [h, dite_true]
  · simp only [h, dite_false, mul_zero, Finset.sum_const_zero]

include h0 h3 h5 h10 h14 in
theorem KV_eq (j : Fin 2048) : k0_pay18 (F := Ideal) v10 v14 (k0_pay14 v0 v3 v5) (ix2 r j) = KV x0 x2 x3 x5 x7 R j := by
  rw [pay18_at, show (fun k : Fin 256 => Block.A v0 v3 v5 r ⟨384 + k, by omega⟩) = fun k : Fin 256 => FrontRefIdeal.Row.A x0 x2 x3 R ⟨384 + k, by omega⟩ from
    funext fun k => (A_eq h0 h3 h5 _).trans (dif_pos (by have := k.isLt; show 384 + k.val < 704; omega))]
  unfold KV dotw
  simp only [h10, h14]

include h2 h16 in
theorem ang_eq (l : Fin 128) : ang v2 v16 r l = if h : l.val < 32 then t x1 R ⟨l, h⟩ else if h : l.val < 64 then t x1 R ⟨l - 32, by omega⟩ else 0 := by
  unfold ang t
  rw [h2, h16]
  split_ifs
  · rfl
  · rfl
  · exact mul_zero _

include h0 h2 h3 h5 h16 in
theorem Z_eq (l : Fin 128) : k0_pay22 (F := Ideal) v2 v16 (k0_pay15 v0 v3 v5) (ix2 r l)
    = if h : l.val < 64 then rope (fun d => FrontRefIdeal.Row.A x0 x2 x3 R ⟨640 + d, by omega⟩) (t x1 R) ⟨l, h⟩ else 0 := by
  rw [pay22_at]
  refine rot_eq _ _ _ _ (fun l => (A_eq h0 h3 h5 _).trans (dite_congr (propext ⟨fun h => ?_, fun h => ?_⟩) (fun _ => rfl) fun _ => rfl)) (ang_eq h2 h16) l
  · change 640 + l.val < 704 at h; omega
  · change 640 + l.val < 704; omega

include h0 h2 h3 h5 h8 h12 h16 in
theorem q_eq (c : Fin 2048) : qout v2 v16 v8 v12 (k0_pay13 v0 v3 v5) (k0_pay16 v0 v3 v5) (ix2 r c) = val_main_v107 (F := Ideal) x0 x1 x2 x3 x4 x6 (ix2 R c) := by
  have e' : Named.named (F := Ideal) (φ := .f32) κ "prescale" 0x3DD53B95#32 = (((Real.sqrt 192)⁻¹ * (Real.log 2)⁻¹ : ℝ) : EReal) :=
    IdealRules.named_const.ideal_named_scalar _ _ _ _ rfl
  rw [qout_at, v107_at, e']
  refine congrArg (· * (((Real.sqrt 192)⁻¹ * (Real.log 2)⁻¹ : ℝ) : EReal)) ?_
  unfold turn
  refine dite_congr rfl (fun h => ?_) fun h => ?_
  · exact (Q_eq h0 h3 h5 h8 h12 c).trans (dif_pos (by omega))
  · refine (rot_eq _ _ (fun d => Q x0 x2 x3 x4 x6 R ⟨c.val / 256 * 192 + (128 + d), by omega⟩) (t x1 R) (fun l => (Q_eq h0 h3 h5 h8 h12 _).trans ?_) (ang_eq h2 h16) _).trans
      (dite_congr (propext ⟨fun h => ?_, fun h => ?_⟩) (fun _ => rfl) fun _ => rfl)
    · have hl := l.isLt
      have e1 : (c.val / 256 * 256 + 128 + l.val) % 256 = 128 + l.val := by omega
      have e2 : (c.val / 256 * 256 + 128 + l.val) / 256 = c.val / 256 := by omega
      simp only [e1, e2]
      exact dite_congr (propext ⟨fun h => by omega, fun h => by omega⟩) (fun _ => rfl) fun _ => rfl
    · change c.val % 256 - 128 < 64 at h; omega
    · change c.val % 256 - 128 < 64; omega

include h0 h2 h3 h5 h10 h14 h16 in
theorem k_eq (c : Fin 2048) : half (fun j => k0_pay18 (F := Ideal) v10 v14 (k0_pay14 v0 v3 v5) (ix2 r j)) (fun l => k0_pay22 (F := Ideal) v2 v16 (k0_pay15 v0 v3 v5) (ix2 r l)) c
    = val_main_v110 (F := Ideal) x0 x1 x2 x3 x5 x7 (ix2 R c) := by
  rw [v110_at]
  unfold half
  refine dite_congr rfl (fun h => KV_eq h0 h3 h5 h10 h14 c) fun h => (Z_eq h0 h2 h3 h5 h16 _).trans (dite_congr (propext ⟨fun h => ?_, fun h => ?_⟩) (fun _ => rfl) fun _ => rfl)
  · change c.val % 256 - 128 < 64 at h; omega
  · change c.val % 256 - 128 < 64; omega
end

section
variable (p : Fin cfg0.N)

theorem b0 (r : Fin 512) (k : Fin 1024) : (iblk m c 0 p : FVec Ideal S512x1024 .f32) (ix2 r k) = X0 m c (ix2 (row p r) k) := by
  blk_ext [iblk, V_main_arg0, idx p, row]
theorem b1 (r : Fin 512) : k0_pay6 (F := Ideal) (iblk m c 1 p) (ix2 r 0) = FloatOps.sitofp (F := Ideal) .f32 (X1 m c (ix1 (row p r))) := by
  refine Eq.trans (b := (iblk m c 1 p : FVec Ideal S512x1 .f32) (ix2 r 0)) (by pointwise [k0_pay6]) ?_
  refine Eq.trans ?_ (v21_at m c (row p r)); blk_ext [iblk, idx p, row]
theorem b2 (k : Fin 1024) : (iblk m c 2 p : FVec Ideal S1x1024 .f32) (ix2 0 k) = X2 m c (ix1 k) := by
  refine Eq.trans ?_ (v22_at m c k); blk_ext [iblk, idx p]
theorem b3 (k : Fin 1024) (j : Fin 768) : (iblk m c 3 p : FVec Ideal S1024x768 .bf16) (ix2 k j) = if h : j.val < 704 then X3 m c (ix2 k ⟨j, h⟩) else 0 := by
  refine Eq.trans ?_ (v1_at m c k j); blk_ext [iblk, idx p]
theorem b4 (k : Fin 384) : k0_pay7 (F := Ideal) (iblk m c 4 p) (ix2 0 k) = X4 m c (ix1 k) := by
  refine Eq.trans (b := (iblk m c 4 p : FVec Ideal S1x384 .f32) (ix2 0 k)) (by pointwise [k0_pay7]) ?_
  refine Eq.trans ?_ (v23_at m c k); blk_ext [iblk, idx p]
theorem b5 (k : Fin 256) : k0_pay8 (F := Ideal) (iblk m c 5 p) (ix2 0 k) = X5 m c (ix1 k) := by
  refine Eq.trans (b := (iblk m c 5 p : FVec Ideal S1x256 .f32) (ix2 0 k)) (by pointwise [k0_pay8]) ?_
  refine Eq.trans ?_ (v24_at m c k); blk_ext [iblk, idx p]
theorem b6 (k : Fin 384) (j : Fin 2048) : k0_pay9 (F := Ideal) (iblk m c 6 p) (ix2 k j)
    = if h : j.val % 256 < 192 then X6 m c (ix2 k ⟨j.val / 256 * 192 + j.val % 256, by omega⟩) else 0 := by
  refine Eq.trans (b := (iblk m c 6 p : FVec Ideal S384x2048 .bf16) (ix2 k j)) (by pointwise [k0_pay9]) ?_
  refine Eq.trans ?_ (v5_at m c k j); blk_ext [iblk, idx p]
theorem b7 (k : Fin 256) (j : Fin 2048) : k0_pay10 (F := Ideal) (iblk m c 7 p) (ix2 k j) = X7 m c (ix2 k j) := by
  refine Eq.trans (b := (iblk m c 7 p : FVec Ideal S256x2048 .bf16) (ix2 k j)) (by pointwise [k0_pay10]) ?_
  refine Eq.trans ?_ (v25_at m c k j); blk_ext [iblk, idx p]
theorem b8 (j : Fin 128) : k0_pay11 (F := Ideal) (iblk m c 8 p) (ix2 0 j)
    = if h : j.val < 32 then FrontRefIdeal.Row.inv ⟨j, h⟩ else if h : j.val < 64 then FrontRefIdeal.Row.inv ⟨j - 32, by omega⟩ else 0 := by
  refine Eq.trans (b := (iblk m c 8 p : FVec Ideal S1x128 .f32) (ix2 0 j)) (by pointwise [k0_pay11]) ?_
  refine Eq.trans ?_ (v19_at m c j); blk_ext [iblk, idx p]
end

/-- The values. -/
theorem final11 (y : S16384x1024.Idx) : (dats m 0 c).arrAt 11 (cfgs 0).N y = val_main_v113 (F := Ideal) (X0 m c) (X2 m c) (X3 m c) (X5 m c) (X7 m c) y := by
  refine congrFun ((dats m 0 c).arrAt_eq_of_covers 11 _ (by decide +kernel) fun p _ y => ?_) y
  blk_simp
  rw [after0_11]
  unfold_out out0_11
  frame_out
  obtain ⟨r, k, rfl⟩ := two y
  refine Eq.trans (b := val_main_v113 (F := Ideal) (X0 m c) (X2 m c) (X3 m c) (X5 m c) (X7 m c) (ix2 (row p r) k)) ?_ ?_
  · refine (pay5_at _ r k).trans ((KV_eq (b0 m c p r) (b2 m c p) (b3 m c p) (b5 m c p) (b7 m c p) _).trans (v113_at _ _ _ _ _ _ _).symm)
  · generalize val_main_v113 (F := Ideal) (X0 m c) (X2 m c) (X3 m c) (X5 m c) (X7 m c) = W
    blk_ext [idx p, row]

/-- The keys. -/
theorem final10 (y : S16384x2048.Idx) : (dats m 0 c).arrAt 10 (cfgs 0).N y = val_main_v110 (F := Ideal) (X0 m c) (X1 m c) (X2 m c) (X3 m c) (X5 m c) (X7 m c) y := by
  refine congrFun ((dats m 0 c).arrAt_eq_of_covers 10 _ (by decide +kernel) fun p _ y => ?_) y
  blk_simp
  rw [after0_10]
  unfold_out out0_10
  frame_out
  obtain ⟨r, k, rfl⟩ := two y
  refine Eq.trans (b := val_main_v110 (F := Ideal) (X0 m c) (X1 m c) (X2 m c) (X3 m c) (X5 m c) (X7 m c) (ix2 (row p r) k)) ?_ ?_
  · exact (pay4_at _ _ r k).trans (k_eq (b0 m c p r) (b1 m c p r) (b2 m c p) (b3 m c p) (b5 m c p) (b7 m c p) (b8 m c p) k)
  · generalize val_main_v110 (F := Ideal) (X0 m c) (X1 m c) (X2 m c) (X3 m c) (X5 m c) (X7 m c) = W
    blk_ext [idx p, row]

/-- The queries. -/
theorem final9 (y : S16384x2048.Idx) : (dats m 0 c).arrAt 9 (cfgs 0).N y = val_main_v107 (F := Ideal) (X0 m c) (X1 m c) (X2 m c) (X3 m c) (X4 m c) (X6 m c) y := by
  refine congrFun ((dats m 0 c).arrAt_eq_of_covers 9 _ (by decide +kernel) fun p _ y => ?_) y
  blk_simp
  rw [after0_9]
  unfold_out out0_9
  frame_out
  obtain ⟨r, k, rfl⟩ := two y
  refine Eq.trans (b := val_main_v107 (F := Ideal) (X0 m c) (X1 m c) (X2 m c) (X3 m c) (X4 m c) (X6 m c) (ix2 (row p r) k)) ?_ ?_
  · exact q_eq (b0 m c p r) (b1 m c p r) (b2 m c p) (b3 m c p) (b4 m c p) (b6 m c p) (b8 m c p) k
  · generalize val_main_v107 (F := Ideal) (X0 m c) (X1 m c) (X2 m c) (X3 m c) (X4 m c) (X6 m c) = W
    blk_ext [idx p, row]

end Cert.FrontIdeal.Final

end
-- ==== Proof.FrontClaim.lean ====
/- The claims about the front projections. -/
module

public import proofs.«01_k».proof.Defs
public import proofs.«01_k».proof.Proof.Gen.FrontIdeal.Frame
public import proofs.«01_k».proof.Proof.Gen.FrontRefIdeal.Run
public import proofs.«01_k».proof.Proof.Gen.FrontRefIdeal.Read
public import proofs.«01_k».proof.Proof.FrontFinal
public import Idealize.ShloMosaic.Lib.Claim

@[expose] public section

set_option maxRecDepth 16384

noncomputable section

namespace Cert.Proof

open Idealize.ShloMosaic Idealize.SL.Sem

/-- The front reference's frame. -/
theorem front_ref : Cert.quiescent_FrontRefIdeal (hFrontRefIdeal := FrontRefIdeal.Gen.facts) := by
  intro m g _
  exact (θ_run FrontRefIdeal.defs _ _).mono (fun r h => ⟨fun c => (h c).2.2.2, sem_eq_zero_of_no_sems (by decide) r.2⟩) (FrontRefIdeal.Value.run m g)

/-- Naming the queries' factor keeps the kernel's meaning. -/
theorem front_preserves : Cert.preserves_Front_FrontIdeal :=
  IdealRules.named_const.statement FrontIdeal.κ "prescale" .f32 0x3DD53B95#32 (((Real.sqrt 192)⁻¹ * (Real.log 2)⁻¹ : ℝ) : EReal) rfl

set_option maxHeartbeats 2000000 in
/-- The front kernel computes the reference's queries, keys and values. -/
theorem front_value : Cert.algebraic_FrontIdeal_FrontRefIdeal (hFrontIdeal := FrontIdeal.Gen.facts) (hFrontRefIdeal := FrontRefIdeal.Gen.facts) := by
  pair_intro
  · run_from FrontIdeal.Gen.run_main m g <;>
      first
      | exact FrontIdeal.Gen.V_main_arg0 m c
      | exact FrontIdeal.Gen.V_main_arg1 m c
      | exact FrontIdeal.Gen.V_main_arg2 m c
      | exact FrontIdeal.Gen.V_main_arg3 m c
      | exact FrontIdeal.Gen.V_main_arg4 m c
      | exact FrontIdeal.Gen.V_main_arg5 m c
      | exact FrontIdeal.Gen.V_main_arg6 m c
      | exact FrontIdeal.Gen.V_main_arg7 m c
  · refine (θ_run FrontRefIdeal.defs _ _).mono (fun r h c => ?_) (FrontRefIdeal.Value.run m' g')
    obtain ⟨h107, h110, h113, h0⟩ := h c
    replace h107 := h107.trans (FrontRefIdeal.Read.val_main_v107_eq m' c)
    replace h110 := h110.trans (FrontRefIdeal.Read.val_main_v110_eq m' c)
    replace h113 := h113.trans (FrontRefIdeal.Read.val_main_v113_eq _ _ _ _ _)
    rw [(hagree c).1, (hagree c).2.1, (hagree c).2.2.1, (hagree c).2.2.2.1, (hagree c).2.2.2.2.1, (hagree c).2.2.2.2.2.2.1] at h107
    rw [(hagree c).1, (hagree c).2.1, (hagree c).2.2.1, (hagree c).2.2.2.1, (hagree c).2.2.2.2.2.1, (hagree c).2.2.2.2.2.2.2] at h110
    rw [(hagree c).1, (hagree c).2.2.1, (hagree c).2.2.2.1, (hagree c).2.2.2.2.2.1, (hagree c).2.2.2.2.2.2.2] at h113
    exact ⟨h107.trans (funext fun y => (FrontIdeal.Final.final9 m c y).symm), h110.trans (funext fun y => (FrontIdeal.Final.final10 m c y).symm),
      h113.trans (funext fun y => (FrontIdeal.Final.final11 m c y).symm), h0⟩

end Cert.Proof

end
-- ==== Proof.lean ====
module

public import proofs.«01_k».proof.Defs
public import proofs.«01_k».proof.Proof.LossClaim
public import proofs.«01_k».proof.Proof.Gen.Loss.Frame
public import proofs.«01_k».proof.Proof.FlashClaim
public import proofs.«01_k».proof.Proof.GateClaim
public import proofs.«01_k».proof.Proof.Gen.Gate.Frame
public import proofs.«01_k».proof.Proof.ProjClaim
public import proofs.«01_k».proof.Proof.Gen.Proj.Frame
public import proofs.«01_k».proof.Proof.AttnClaim
public import proofs.«01_k».proof.Proof.InprojClaim
public import proofs.«01_k».proof.Proof.Gen.Inproj.Frame
public import proofs.«01_k».proof.Proof.PrepClaim
public import proofs.«01_k».proof.Proof.Gen.Prep.Frame
public import proofs.«01_k».proof.Proof.FfnClaim
public import proofs.«01_k».proof.Proof.Gen.Ffn.Frame
public import proofs.«01_k».proof.Proof.FrontClaim
public import proofs.«01_k».proof.Proof.Gen.Front.Frame
public import Idealize.ShloMosaic.Lib.Claim

@[expose] public section

set_option maxRecDepth 16384

noncomputable section

namespace Cert.Proof

open Idealize.ShloMosaic Idealize.SL.Sem

theorem claim : Cert.Claim := ⟨Cert.Loss.Gen.facts, Cert.LossIdeal.Gen.facts, Cert.LossRefIdeal.Gen.facts, Cert.Flash.Gen.facts, Cert.FlashIdeal.Gen.facts, Cert.FlashRefIdeal.Gen.facts, Cert.Gate.Gen.facts, Cert.GateIdeal.Gen.facts, Cert.GateRefIdeal.Gen.facts, Cert.Proj.Gen.facts, Cert.ProjIdeal.Gen.facts, Cert.ProjRefIdeal.Gen.facts, Cert.Attn.Gen.facts, Cert.AttnIdeal.Gen.facts, Cert.AttnRefIdeal.Gen.facts, Cert.Inproj.Gen.facts, Cert.InprojIdeal.Gen.facts, Cert.InprojRefIdeal.Gen.facts, Cert.Prep.Gen.facts, Cert.PrepIdeal.Gen.facts, Cert.PrepRefIdeal.Gen.facts, Cert.Ffn.Gen.facts, Cert.FfnIdeal.Gen.facts, Cert.FfnRefIdeal.Gen.facts, Cert.Front.Gen.facts, Cert.FrontIdeal.Gen.facts, Cert.FrontRefIdeal.Gen.facts,
  Cert.Pre_loss_finite.Gen.facts, Cert.Pre_flash_finite.Gen.facts, Cert.Pre_gate_finite.Gen.facts, Cert.Pre_attn_finite.Gen.facts, Cert.Pre_inproj_finite.Gen.facts, Cert.Pre_prep_finite.Gen.facts, Cert.Pre_ffn_finite.Gen.facts,
  fun m ρ _ => Cert.Loss.Gen.frame m ρ, fun m ρ _ => Cert.LossIdeal.Gen.frame m ρ, fun m ρ _ => Cert.LossIdeal.Gen.frame m ρ, loss_ref, fun m ρ _ => loss_ref m ρ trivial,
  Cert.FlashIdeal.Launch.frame_words, fun m ρ _ => Cert.FlashIdeal.Launch.frame m ρ, fun m ρ _ => Cert.FlashIdeal.Launch.frame m ρ, flash_ref, fun m ρ _ => flash_ref m ρ trivial,
  fun m ρ _ => Cert.Gate.Gen.frame m ρ, fun m ρ _ => Cert.GateIdeal.Gen.frame m ρ, fun m ρ _ => Cert.GateIdeal.Gen.frame m ρ, gate_ref, fun m ρ _ => gate_ref m ρ trivial,
  fun m ρ _ => Cert.Proj.Gen.frame m ρ, fun m ρ _ => Cert.ProjIdeal.Gen.frame m ρ, proj_ref,
  Cert.AttnIdeal.Launch.frame_words, fun m ρ _ => Cert.AttnIdeal.Launch.frame m ρ, fun m ρ _ => Cert.AttnIdeal.Launch.frame m ρ, attn_ref, fun m ρ _ => attn_ref m ρ trivial,
  fun m ρ _ => Cert.Inproj.Gen.frame m ρ, fun m ρ _ => Cert.InprojIdeal.Gen.frame m ρ, fun m ρ _ => Cert.InprojIdeal.Gen.frame m ρ, inproj_ref, fun m ρ _ => inproj_ref m ρ trivial,
  fun m ρ _ => Cert.Prep.Gen.frame m ρ, fun m ρ _ => Cert.PrepIdeal.Gen.frame m ρ, fun m ρ _ => Cert.PrepIdeal.Gen.frame m ρ, prep_ref, fun m ρ _ => prep_ref m ρ trivial,
  fun m ρ _ => Cert.Ffn.Gen.frame m ρ, fun m ρ _ => Cert.FfnIdeal.Gen.frame m ρ, fun m ρ _ => Cert.FfnIdeal.Gen.frame m ρ, ffn_ref, fun m ρ _ => ffn_ref m ρ trivial,
  fun m ρ _ => Cert.Front.Gen.frame m ρ, fun m ρ _ => Cert.FrontIdeal.Gen.frame m ρ, front_ref,
  trivial, loss_value, flash_preserves, flash_value, gate_preserves, gate_value, trivial, proj_value, attn_preserves, attn_value, trivial, inproj_value, trivial, prep_value, trivial, ffn_value, front_preserves, front_value⟩

end Cert.Proof

end
